-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))) = (fun _ => 1#1)

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutIdeal_finite_s5out [hPre_finite_s5out : Cert.Pre_finite_s5out.Facts] (m : (ℓ : Loc Cert.S5OutIdeal.nD Cert.S5OutIdeal.τ Cert.S5OutIdeal.sig) → Buf (Elt Ideal) ℓ) : Prop :=
  ∀ c : Dev Cert.S5OutIdeal.nD,
    (Cert.Pre_finite_s5out.fn (F := Ideal) (m ((c.tc : Thread Cert.S5OutIdeal.nD Cert.S5OutIdeal.τ).loc Cert.S5OutIdeal.main_arg0)) (m ((c.tc : Thread Cert.S5OutIdeal.nD Cert.S5OutIdeal.τ).loc Cert.S5OutIdeal.main_arg1)) (m ((c.tc : Thread Cert.S5OutIdeal.nD Cert.S5OutIdeal.τ).loc Cert.S5OutIdeal.main_arg2)) (m ((c.tc : Thread Cert.S5OutIdeal.nD Cert.S5OutIdeal.τ).loc Cert.S5OutIdeal.main_arg3)) (m ((c.tc : Thread Cert.S5OutIdeal.nD Cert.S5OutIdeal.τ).loc Cert.S5OutIdeal.main_arg4))) = (fun _ => 1#1)

def Pre_S5OutRefIdeal (m : (ℓ : Loc Cert.S5OutRefIdeal.nD Cert.S5OutRefIdeal.τ Cert.S5OutRefIdeal.sig) → Buf (Elt Ideal) ℓ) : Prop :=
  True

def Pre_S5OutRefIdeal_finite_s5out [hPre_finite_s5out : Cert.Pre_finite_s5out.Facts] (m : (ℓ : Loc Cert.S5OutRefIdeal.nD Cert.S5OutRefIdeal.τ Cert.S5OutRefIdeal.sig) → Buf (Elt Ideal) ℓ) : Prop :=
  ∀ c : Dev Cert.S5OutRefIdeal.nD,
    (Cert.Pre_finite_s5out.fn (F := Ideal) (m ((c.tc : Thread Cert.S5OutRefIdeal.nD Cert.S5OutRefIdeal.τ).loc Cert.S5OutRefIdeal.main_arg0)) (m ((c.tc : Thread Cert.S5OutRefIdeal.nD Cert.S5OutRefIdeal.τ).loc Cert.S5OutRefIdeal.main_arg1)) (m ((c.tc : Thread Cert.S5OutRefIdeal.nD Cert.S5OutRefIdeal.τ).loc Cert.S5OutRefIdeal.main_arg2)) (m ((c.tc : Thread Cert.S5OutRefIdeal.nD Cert.S5OutRefIdeal.τ).loc Cert.S5OutRefIdeal.main_arg3)) (m ((c.tc : Thread Cert.S5OutRefIdeal.nD Cert.S5OutRefIdeal.τ).loc Cert.S5OutRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_ffnin [hPre_finite_ffnin : Cert.Pre_finite_ffnin.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_ffnin [hPre_finite_ffnin : Cert.Pre_finite_ffnin.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))) = (fun _ => 1#1)

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInIdeal_finite_attnin [hPre_finite_attnin : Cert.Pre_finite_attnin.Facts] (m : (ℓ : Loc Cert.AttnInIdeal.nD Cert.AttnInIdeal.τ Cert.AttnInIdeal.sig) → Buf (Elt Ideal) ℓ) : Prop :=
  ∀ c : Dev Cert.AttnInIdeal.nD,
    (Cert.Pre_finite_attnin.fn (F := Ideal) (m ((c.tc : Thread Cert.AttnInIdeal.nD Cert.AttnInIdeal.τ).loc Cert.AttnInIdeal.main_arg0)) (m ((c.tc : Thread Cert.AttnInIdeal.nD Cert.AttnInIdeal.τ).loc Cert.AttnInIdeal.main_arg1)) (m ((c.tc : Thread Cert.AttnInIdeal.nD Cert.AttnInIdeal.τ).loc Cert.AttnInIdeal.main_arg2)) (m ((c.tc : Thread Cert.AttnInIdeal.nD Cert.AttnInIdeal.τ).loc Cert.AttnInIdeal.main_arg3)) (m ((c.tc : Thread Cert.AttnInIdeal.nD Cert.AttnInIdeal.τ).loc Cert.AttnInIdeal.main_arg4)) (m ((c.tc : Thread Cert.AttnInIdeal.nD Cert.AttnInIdeal.τ).loc Cert.AttnInIdeal.main_arg5)) (m ((c.tc : Thread Cert.AttnInIdeal.nD Cert.AttnInIdeal.τ).loc Cert.AttnInIdeal.main_arg6))) = (fun _ => 1#1)

def Pre_AttnInRefIdeal (m : (ℓ : Loc Cert.AttnInRefIdeal.nD Cert.AttnInRefIdeal.τ Cert.AttnInRefIdeal.sig) → Buf (Elt Ideal) ℓ) : Prop :=
  True

def Pre_AttnInRefIdeal_finite_attnin [hPre_finite_attnin : Cert.Pre_finite_attnin.Facts] (m : (ℓ : Loc Cert.AttnInRefIdeal.nD Cert.AttnInRefIdeal.τ Cert.AttnInRefIdeal.sig) → Buf (Elt Ideal) ℓ) : Prop :=
  ∀ c : Dev Cert.AttnInRefIdeal.nD,
    (Cert.Pre_finite_attnin.fn (F := Ideal) (m ((c.tc : Thread Cert.AttnInRefIdeal.nD Cert.AttnInRefIdeal.τ).loc Cert.AttnInRefIdeal.main_arg0)) (m ((c.tc : Thread Cert.AttnInRefIdeal.nD Cert.AttnInRefIdeal.τ).loc Cert.AttnInRefIdeal.main_arg1)) (m ((c.tc : Thread Cert.AttnInRefIdeal.nD Cert.AttnInRefIdeal.τ).loc Cert.AttnInRefIdeal.main_arg2)) (m ((c.tc : Thread Cert.AttnInRefIdeal.nD Cert.AttnInRefIdeal.τ).loc Cert.AttnInRefIdeal.main_arg3)) (m ((c.tc : Thread Cert.AttnInRefIdeal.nD Cert.AttnInRefIdeal.τ).loc Cert.AttnInRefIdeal.main_arg4)) (m ((c.tc : Thread Cert.AttnInRefIdeal.nD Cert.AttnInRefIdeal.τ).loc Cert.AttnInRefIdeal.main_arg5)) (m ((c.tc : Thread Cert.AttnInRefIdeal.nD Cert.AttnInRefIdeal.τ).loc Cert.AttnInRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_inproj [hPre_finite_inproj : Cert.Pre_finite_inproj.Facts] (m : (ℓ : Loc Cert.InProjIdeal.nD Cert.InProjIdeal.τ Cert.InProjIdeal.sig) → Buf (Elt Ideal) ℓ) : Prop :=
  ∀ c : Dev Cert.InProjIdeal.nD,
    (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_inproj [hPre_finite_inproj : Cert.Pre_finite_inproj.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_finite_gmlp [hPre_finite_gmlp : Cert.Pre_finite_gmlp.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5)) (m ((c.tc : Thread Cert.GmlpIdeal.nD Cert.GmlpIdeal.τ).loc Cert.GmlpIdeal.main_arg6))) = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite_gmlp [hPre_finite_gmlp : Cert.Pre_finite_gmlp.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5)) (m ((c.tc : Thread Cert.GmlpRefIdeal.nD Cert.GmlpRefIdeal.τ).loc Cert.GmlpRefIdeal.main_arg6))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdIdeal_finite_gmlpf [hPre_finite_gmlpf : Cert.Pre_finite_gmlpf.Facts] (m : (ℓ : Loc Cert.GmlpFwdIdeal.nD Cert.GmlpFwdIdeal.τ Cert.GmlpFwdIdeal.sig) → Buf (Elt Ideal) ℓ) : Prop :=
  ∀ c : Dev Cert.GmlpFwdIdeal.nD,
    (Cert.Pre_finite_gmlpf.fn (F := Ideal) (m ((c.tc : Thread Cert.GmlpFwdIdeal.nD Cert.GmlpFwdIdeal.τ).loc Cert.GmlpFwdIdeal.main_arg0)) (m ((c.tc : Thread Cert.GmlpFwdIdeal.nD Cert.GmlpFwdIdeal.τ).loc Cert.GmlpFwdIdeal.main_arg1)) (m ((c.tc : Thread Cert.GmlpFwdIdeal.nD Cert.GmlpFwdIdeal.τ).loc Cert.GmlpFwdIdeal.main_arg2)) (m ((c.tc : Thread Cert.GmlpFwdIdeal.nD Cert.GmlpFwdIdeal.τ).loc Cert.GmlpFwdIdeal.main_arg3)) (m ((c.tc : Thread Cert.GmlpFwdIdeal.nD Cert.GmlpFwdIdeal.τ).loc Cert.GmlpFwdIdeal.main_arg4))) = (fun _ => 1#1)

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_GmlpFwdRefIdeal_finite_gmlpf [hPre_finite_gmlpf : Cert.Pre_finite_gmlpf.Facts] (m : (ℓ : Loc Cert.GmlpFwdRefIdeal.nD Cert.GmlpFwdRefIdeal.τ Cert.GmlpFwdRefIdeal.sig) → Buf (Elt Ideal) ℓ) : Prop :=
  ∀ c : Dev Cert.GmlpFwdRefIdeal.nD,
    (Cert.Pre_finite_gmlpf.fn (F := Ideal) (m ((c.tc : Thread Cert.GmlpFwdRefIdeal.nD Cert.GmlpFwdRefIdeal.τ).loc Cert.GmlpFwdRefIdeal.main_arg0)) (m ((c.tc : Thread Cert.GmlpFwdRefIdeal.nD Cert.GmlpFwdRefIdeal.τ).loc Cert.GmlpFwdRefIdeal.main_arg1)) (m ((c.tc : Thread Cert.GmlpFwdRefIdeal.nD Cert.GmlpFwdRefIdeal.τ).loc Cert.GmlpFwdRefIdeal.main_arg2)) (m ((c.tc : Thread Cert.GmlpFwdRefIdeal.nD Cert.GmlpFwdRefIdeal.τ).loc Cert.GmlpFwdRefIdeal.main_arg3)) (m ((c.tc : Thread Cert.GmlpFwdRefIdeal.nD Cert.GmlpFwdRefIdeal.τ).loc Cert.GmlpFwdRefIdeal.main_arg4))) = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_MemKvFwd (m : (ℓ : Loc Cert.MemKvFwd.nD Cert.MemKvFwd.τ Cert.MemKvFwd.sig) → Buf (Elt Bits) ℓ) : Prop :=
  True

def Pre_MemKvFwdIdeal (m : (ℓ : Loc Cert.MemKvFwdIdeal.nD Cert.MemKvFwdIdeal.τ Cert.MemKvFwdIdeal.sig) → Buf (Elt Ideal) ℓ) : Prop :=
  True

def Pre_MemKvFwdRefIdeal (m : (ℓ : Loc Cert.MemKvFwdRefIdeal.nD Cert.MemKvFwdRefIdeal.τ Cert.MemKvFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_S5OutFwd (m : (ℓ : Loc Cert.S5OutFwd.nD Cert.S5OutFwd.τ Cert.S5OutFwd.sig) → Buf (Elt Bits) ℓ) : Prop :=
  True

def Pre_S5OutFwdIdeal (m : (ℓ : Loc Cert.S5OutFwdIdeal.nD Cert.S5OutFwdIdeal.τ Cert.S5OutFwdIdeal.sig) → Buf (Elt Ideal) ℓ) : Prop :=
  True

def Pre_S5OutFwdRefIdeal (m : (ℓ : Loc Cert.S5OutFwdRefIdeal.nD Cert.S5OutFwdRefIdeal.τ Cert.S5OutFwdRefIdeal.sig) → Buf (Elt Ideal) ℓ) : Prop :=
  True

def Pre_InProjFwd (m : (ℓ : Loc Cert.InProjFwd.nD Cert.InProjFwd.τ Cert.InProjFwd.sig) → Buf (Elt Bits) ℓ) : Prop :=
  True

def Pre_InProjFwdIdeal (m : (ℓ : Loc Cert.InProjFwdIdeal.nD Cert.InProjFwdIdeal.τ Cert.InProjFwdIdeal.sig) → Buf (Elt Ideal) ℓ) : Prop :=
  True

def Pre_InProjFwdRefIdeal (m : (ℓ : Loc Cert.InProjFwdRefIdeal.nD Cert.InProjFwdRefIdeal.τ Cert.InProjFwdRefIdeal.sig) → Buf (Elt Ideal) ℓ) : Prop :=
  True

def Pre_DwFfn (m : (ℓ : Loc Cert.DwFfn.nD Cert.DwFfn.τ Cert.DwFfn.sig) → Buf (Elt Bits) ℓ) : Prop :=
  True

def Pre_DwFfnIdeal (m : (ℓ : Loc Cert.DwFfnIdeal.nD Cert.DwFfnIdeal.τ Cert.DwFfnIdeal.sig) → Buf (Elt Ideal) ℓ) : Prop :=
  True

def Pre_DwFfnRefIdeal (m : (ℓ : Loc Cert.DwFfnRefIdeal.nD Cert.DwFfnRefIdeal.τ Cert.DwFfnRefIdeal.sig) → Buf (Elt Ideal) ℓ) : Prop :=
  True

def Pre_SumAdamw (m : (ℓ : Loc Cert.SumAdamw.nD Cert.SumAdamw.τ Cert.SumAdamw.sig) → Buf (Elt Bits) ℓ) : Prop :=
  True

def Pre_SumAdamwIdeal (m : (ℓ : Loc Cert.SumAdamwIdeal.nD Cert.SumAdamwIdeal.τ Cert.SumAdamwIdeal.sig) → Buf (Elt Ideal) ℓ) : Prop :=
  True

def Pre_SumAdamwRefIdeal (m : (ℓ : Loc Cert.SumAdamwRefIdeal.nD Cert.SumAdamwRefIdeal.τ Cert.SumAdamwRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3)
      ∧ r.2.mem ((c.tc : Thread Cert.MemKv.nD Cert.MemKv.τ).loc Cert.MemKv.main_arg4) = m ((c.tc : Thread Cert.MemKv.nD Cert.MemKv.τ).loc Cert.MemKv.main_arg4))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
      ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3)
      ∧ r.2.mem ((c.tc : Thread Cert.MemKvRefIdeal.nD Cert.MemKvRefIdeal.τ).loc Cert.MemKvRefIdeal.main_arg4) = m ((c.tc : Thread Cert.MemKvRefIdeal.nD Cert.MemKvRefIdeal.τ).loc Cert.MemKvRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2)
      ∧ r.2.mem ((c.tc : Thread Cert.S5Out.nD Cert.S5Out.τ).loc Cert.S5Out.main_arg3) = m ((c.tc : Thread Cert.S5Out.nD Cert.S5Out.τ).loc Cert.S5Out.main_arg3)
      ∧ r.2.mem ((c.tc : Thread Cert.S5Out.nD Cert.S5Out.τ).loc Cert.S5Out.main_arg4) = m ((c.tc : Thread Cert.S5Out.nD Cert.S5Out.τ).loc Cert.S5Out.main_arg4))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
      ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
      ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4))
      ∧ r.2.sem = fun _ => 0)

def quiescent_S5OutIdeal_pre_finite_s5out [hS5OutIdeal : Cert.S5OutIdeal.Facts] [hPre_finite_s5out : Cert.Pre_finite_s5out.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal_finite_s5out m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
      ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
      ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4))
      ∧ r.2.sem = fun _ => 0)

def quiescent_S5OutRefIdeal [hS5OutRefIdeal : Cert.S5OutRefIdeal.Facts] : Prop :=
  ∀ (m : (ℓ : Loc Cert.S5OutRefIdeal.nD Cert.S5OutRefIdeal.τ Cert.S5OutRefIdeal.sig) → Buf (Elt Ideal) ℓ) (g : Dev Cert.S5OutRefIdeal.nD → PrngReg), Pre_S5OutRefIdeal m →
    θ_run (Cert.S5OutRefIdeal.defs (F := Ideal)) (onTc (τ := Cert.S5OutRefIdeal.τ) (Cert.S5OutRefIdeal.main (F := Ideal))) ⟨m, fun _ => 0, g⟩ (fun r => (∀ c : Dev Cert.S5OutRefIdeal.nD,
      r.2.mem ((c.tc : Thread Cert.S5OutRefIdeal.nD Cert.S5OutRefIdeal.τ).loc Cert.S5OutRefIdeal.main_arg0) = m ((c.tc : Thread Cert.S5OutRefIdeal.nD Cert.S5OutRefIdeal.τ).loc Cert.S5OutRefIdeal.main_arg0)
      ∧ r.2.mem ((c.tc : Thread Cert.S5OutRefIdeal.nD Cert.S5OutRefIdeal.τ).loc Cert.S5OutRefIdeal.main_arg1) = m ((c.tc : Thread Cert.S5OutRefIdeal.nD Cert.S5OutRefIdeal.τ).loc Cert.S5OutRefIdeal.main_arg1)
      ∧ r.2.mem ((c.tc : Thread Cert.S5OutRefIdeal.nD Cert.S5OutRefIdeal.τ).loc Cert.S5OutRefIdeal.main_arg2) = m ((c.tc : Thread Cert.S5OutRefIdeal.nD Cert.S5OutRefIdeal.τ).loc Cert.S5OutRefIdeal.main_arg2)
      ∧ r.2.mem ((c.tc : Thread Cert.S5OutRefIdeal.nD Cert.S5OutRefIdeal.τ).loc Cert.S5OutRefIdeal.main_arg3) = m ((c.tc : Thread Cert.S5OutRefIdeal.nD Cert.S5OutRefIdeal.τ).loc Cert.S5OutRefIdeal.main_arg3)
      ∧ r.2.mem ((c.tc : Thread Cert.S5OutRefIdeal.nD Cert.S5OutRefIdeal.τ).loc Cert.S5OutRefIdeal.main_arg4) = m ((c.tc : Thread Cert.S5OutRefIdeal.nD Cert.S5OutRefIdeal.τ).loc Cert.S5OutRefIdeal.main_arg4))
      ∧ r.2.sem = fun _ => 0)

def quiescent_S5OutRefIdeal_pre_finite_s5out [hS5OutRefIdeal : Cert.S5OutRefIdeal.Facts] [hPre_finite_s5out : Cert.Pre_finite_s5out.Facts] : Prop :=
  ∀ (m : (ℓ : Loc Cert.S5OutRefIdeal.nD Cert.S5OutRefIdeal.τ Cert.S5OutRefIdeal.sig) → Buf (Elt Ideal) ℓ) (g : Dev Cert.S5OutRefIdeal.nD → PrngReg), Pre_S5OutRefIdeal_finite_s5out m →
    θ_run (Cert.S5OutRefIdeal.defs (F := Ideal)) (onTc (τ := Cert.S5OutRefIdeal.τ) (Cert.S5OutRefIdeal.main (F := Ideal))) ⟨m, fun _ => 0, g⟩ (fun r => (∀ c : Dev Cert.S5OutRefIdeal.nD,
      r.2.mem ((c.tc : Thread Cert.S5OutRefIdeal.nD Cert.S5OutRefIdeal.τ).loc Cert.S5OutRefIdeal.main_arg0) = m ((c.tc : Thread Cert.S5OutRefIdeal.nD Cert.S5OutRefIdeal.τ).loc Cert.S5OutRefIdeal.main_arg0)
      ∧ r.2.mem ((c.tc : Thread Cert.S5OutRefIdeal.nD Cert.S5OutRefIdeal.τ).loc Cert.S5OutRefIdeal.main_arg1) = m ((c.tc : Thread Cert.S5OutRefIdeal.nD Cert.S5OutRefIdeal.τ).loc Cert.S5OutRefIdeal.main_arg1)
      ∧ r.2.mem ((c.tc : Thread Cert.S5OutRefIdeal.nD Cert.S5OutRefIdeal.τ).loc Cert.S5OutRefIdeal.main_arg2) = m ((c.tc : Thread Cert.S5OutRefIdeal.nD Cert.S5OutRefIdeal.τ).loc Cert.S5OutRefIdeal.main_arg2)
      ∧ r.2.mem ((c.tc : Thread Cert.S5OutRefIdeal.nD Cert.S5OutRefIdeal.τ).loc Cert.S5OutRefIdeal.main_arg3) = m ((c.tc : Thread Cert.S5OutRefIdeal.nD Cert.S5OutRefIdeal.τ).loc Cert.S5OutRefIdeal.main_arg3)
      ∧ r.2.mem ((c.tc : Thread Cert.S5OutRefIdeal.nD Cert.S5OutRefIdeal.τ).loc Cert.S5OutRefIdeal.main_arg4) = m ((c.tc : Thread Cert.S5OutRefIdeal.nD Cert.S5OutRefIdeal.τ).loc Cert.S5OutRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_finite_ffnin [hFfnInIdeal : Cert.FfnInIdeal.Facts] [hPre_finite_ffnin : Cert.Pre_finite_ffnin.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_ffnin m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_finite_ffnin [hFfnInRefIdeal : Cert.FfnInRefIdeal.Facts] [hPre_finite_ffnin : Cert.Pre_finite_ffnin.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_ffnin m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2)
      ∧ r.2.mem ((c.tc : Thread Cert.AttnIn.nD Cert.AttnIn.τ).loc Cert.AttnIn.main_arg3) = m ((c.tc : Thread Cert.AttnIn.nD Cert.AttnIn.τ).loc Cert.AttnIn.main_arg3)
      ∧ r.2.mem ((c.tc : Thread Cert.AttnIn.nD Cert.AttnIn.τ).loc Cert.AttnIn.main_arg4) = m ((c.tc : Thread Cert.AttnIn.nD Cert.AttnIn.τ).loc Cert.AttnIn.main_arg4)
      ∧ r.2.mem ((c.tc : Thread Cert.AttnIn.nD Cert.AttnIn.τ).loc Cert.AttnIn.main_arg5) = m ((c.tc : Thread Cert.AttnIn.nD Cert.AttnIn.τ).loc Cert.AttnIn.main_arg5)
      ∧ r.2.mem ((c.tc : Thread Cert.AttnIn.nD Cert.AttnIn.τ).loc Cert.AttnIn.main_arg6) = m ((c.tc : Thread Cert.AttnIn.nD Cert.AttnIn.τ).loc Cert.AttnIn.main_arg6))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
      ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
      ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5)
      ∧ r.2.mem ((c.tc : Thread Cert.AttnInIdeal.nD Cert.AttnInIdeal.τ).loc Cert.AttnInIdeal.main_arg6) = m ((c.tc : Thread Cert.AttnInIdeal.nD Cert.AttnInIdeal.τ).loc Cert.AttnInIdeal.main_arg6))
      ∧ r.2.sem = fun _ => 0)

def quiescent_AttnInIdeal_pre_finite_attnin [hAttnInIdeal : Cert.AttnInIdeal.Facts] [hPre_finite_attnin : Cert.Pre_finite_attnin.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal_finite_attnin m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
      ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
      ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5)
      ∧ r.2.mem ((c.tc : Thread Cert.AttnInIdeal.nD Cert.AttnInIdeal.τ).loc Cert.AttnInIdeal.main_arg6) = m ((c.tc : Thread Cert.AttnInIdeal.nD Cert.AttnInIdeal.τ).loc Cert.AttnInIdeal.main_arg6))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2)
      ∧ r.2.mem ((c.tc : Thread Cert.AttnInRefIdeal.nD Cert.AttnInRefIdeal.τ).loc Cert.AttnInRefIdeal.main_arg3) = m ((c.tc : Thread Cert.AttnInRefIdeal.nD Cert.AttnInRefIdeal.τ).loc Cert.AttnInRefIdeal.main_arg3)
      ∧ r.2.mem ((c.tc : Thread Cert.AttnInRefIdeal.nD Cert.AttnInRefIdeal.τ).loc Cert.AttnInRefIdeal.main_arg4) = m ((c.tc : Thread Cert.AttnInRefIdeal.nD Cert.AttnInRefIdeal.τ).loc Cert.AttnInRefIdeal.main_arg4)
      ∧ r.2.mem ((c.tc : Thread Cert.AttnInRefIdeal.nD Cert.AttnInRefIdeal.τ).loc Cert.AttnInRefIdeal.main_arg5) = m ((c.tc : Thread Cert.AttnInRefIdeal.nD Cert.AttnInRefIdeal.τ).loc Cert.AttnInRefIdeal.main_arg5)
      ∧ r.2.mem ((c.tc : Thread Cert.AttnInRefIdeal.nD Cert.AttnInRefIdeal.τ).loc Cert.AttnInRefIdeal.main_arg6) = m ((c.tc : Thread Cert.AttnInRefIdeal.nD Cert.AttnInRefIdeal.τ).loc Cert.AttnInRefIdeal.main_arg6))
      ∧ r.2.sem = fun _ => 0)

def quiescent_AttnInRefIdeal_pre_finite_attnin [hAttnInRefIdeal : Cert.AttnInRefIdeal.Facts] [hPre_finite_attnin : Cert.Pre_finite_attnin.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal_finite_attnin m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2)
      ∧ r.2.mem ((c.tc : Thread Cert.AttnInRefIdeal.nD Cert.AttnInRefIdeal.τ).loc Cert.AttnInRefIdeal.main_arg3) = m ((c.tc : Thread Cert.AttnInRefIdeal.nD Cert.AttnInRefIdeal.τ).loc Cert.AttnInRefIdeal.main_arg3)
      ∧ r.2.mem ((c.tc : Thread Cert.AttnInRefIdeal.nD Cert.AttnInRefIdeal.τ).loc Cert.AttnInRefIdeal.main_arg4) = m ((c.tc : Thread Cert.AttnInRefIdeal.nD Cert.AttnInRefIdeal.τ).loc Cert.AttnInRefIdeal.main_arg4)
      ∧ r.2.mem ((c.tc : Thread Cert.AttnInRefIdeal.nD Cert.AttnInRefIdeal.τ).loc Cert.AttnInRefIdeal.main_arg5) = m ((c.tc : Thread Cert.AttnInRefIdeal.nD Cert.AttnInRefIdeal.τ).loc Cert.AttnInRefIdeal.main_arg5)
      ∧ r.2.mem ((c.tc : Thread Cert.AttnInRefIdeal.nD Cert.AttnInRefIdeal.τ).loc Cert.AttnInRefIdeal.main_arg6) = m ((c.tc : Thread Cert.AttnInRefIdeal.nD Cert.AttnInRefIdeal.τ).loc Cert.AttnInRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjIdeal_pre_finite_inproj [hInProjIdeal : Cert.InProjIdeal.Facts] [hPre_finite_inproj : Cert.Pre_finite_inproj.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_inproj m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_InProjRefIdeal_pre_finite_inproj [hInProjRefIdeal : Cert.InProjRefIdeal.Facts] [hPre_finite_inproj : Cert.Pre_finite_inproj.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_inproj m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_GmlpIdeal_pre_finite_gmlp [hGmlpIdeal : Cert.GmlpIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_finite_gmlp m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6))
      ∧ r.2.sem = fun _ => 0)

def quiescent_GmlpRefIdeal_pre_finite_gmlp [hGmlpRefIdeal : Cert.GmlpRefIdeal.Facts] [hPre_finite_gmlp : Cert.Pre_finite_gmlp.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite_gmlp m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdIdeal_pre_finite_gmlpf [hGmlpFwdIdeal : Cert.GmlpFwdIdeal.Facts] [hPre_finite_gmlpf : Cert.Pre_finite_gmlpf.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal_finite_gmlpf m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_GmlpFwdRefIdeal_pre_finite_gmlpf [hGmlpFwdRefIdeal : Cert.GmlpFwdRefIdeal.Facts] [hPre_finite_gmlpf : Cert.Pre_finite_gmlpf.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal_finite_gmlpf m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4))
      ∧ r.2.sem = fun _ => 0)

def quiescent_MemKvFwd [hMemKvFwd : Cert.MemKvFwd.Facts] : Prop :=
  ∀ (m : (ℓ : Loc Cert.MemKvFwd.nD Cert.MemKvFwd.τ Cert.MemKvFwd.sig) → Buf (Elt Bits) ℓ) (g : Dev Cert.MemKvFwd.nD → PrngReg), Pre_MemKvFwd m →
    θ_run (Cert.MemKvFwd.defs (F := Bits)) (onTc (τ := Cert.MemKvFwd.τ) (Cert.MemKvFwd.main (F := Bits))) ⟨m, fun _ => 0, g⟩ (fun r => (∀ c : Dev Cert.MemKvFwd.nD,
      r.2.mem ((c.tc : Thread Cert.MemKvFwd.nD Cert.MemKvFwd.τ).loc Cert.MemKvFwd.main_arg0) = m ((c.tc : Thread Cert.MemKvFwd.nD Cert.MemKvFwd.τ).loc Cert.MemKvFwd.main_arg0)
      ∧ r.2.mem ((c.tc : Thread Cert.MemKvFwd.nD Cert.MemKvFwd.τ).loc Cert.MemKvFwd.main_arg1) = m ((c.tc : Thread Cert.MemKvFwd.nD Cert.MemKvFwd.τ).loc Cert.MemKvFwd.main_arg1)
      ∧ r.2.mem ((c.tc : Thread Cert.MemKvFwd.nD Cert.MemKvFwd.τ).loc Cert.MemKvFwd.main_arg2) = m ((c.tc : Thread Cert.MemKvFwd.nD Cert.MemKvFwd.τ).loc Cert.MemKvFwd.main_arg2))
      ∧ r.2.sem = fun _ => 0)

def quiescent_MemKvFwdIdeal [hMemKvFwdIdeal : Cert.MemKvFwdIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg), Pre_MemKvFwdIdeal m →
    θ_run (Cert.MemKvFwdIdeal.defs (F := Ideal)) (onTc (τ := Cert.MemKvFwdIdeal.τ) (Cert.MemKvFwdIdeal.main (F := Ideal))) ⟨m, fun _ => 0, g⟩ (fun r => (∀ c : Dev Cert.MemKvFwdIdeal.nD,
      r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
      ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
      ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ r.2.sem = fun _ => 0)

def quiescent_MemKvFwdRefIdeal [hMemKvFwdRefIdeal : Cert.MemKvFwdRefIdeal.Facts] : Prop :=
  ∀ (m : (ℓ : Loc Cert.MemKvFwdRefIdeal.nD Cert.MemKvFwdRefIdeal.τ Cert.MemKvFwdRefIdeal.sig) → Buf (Elt Ideal) ℓ) (g : Dev Cert.MemKvFwdRefIdeal.nD → PrngReg), Pre_MemKvFwdRefIdeal m →
    θ_run (Cert.MemKvFwdRefIdeal.defs (F := Ideal)) (onTc (τ := Cert.MemKvFwdRefIdeal.τ) (Cert.MemKvFwdRefIdeal.main (F := Ideal))) ⟨m, fun _ => 0, g⟩ (fun r => (∀ c : Dev Cert.MemKvFwdRefIdeal.nD,
      r.2.mem ((c.tc : Thread Cert.MemKvFwdRefIdeal.nD Cert.MemKvFwdRefIdeal.τ).loc Cert.MemKvFwdRefIdeal.main_arg0) = m ((c.tc : Thread Cert.MemKvFwdRefIdeal.nD Cert.MemKvFwdRefIdeal.τ).loc Cert.MemKvFwdRefIdeal.main_arg0)
      ∧ r.2.mem ((c.tc : Thread Cert.MemKvFwdRefIdeal.nD Cert.MemKvFwdRefIdeal.τ).loc Cert.MemKvFwdRefIdeal.main_arg1) = m ((c.tc : Thread Cert.MemKvFwdRefIdeal.nD Cert.MemKvFwdRefIdeal.τ).loc Cert.MemKvFwdRefIdeal.main_arg1)
      ∧ r.2.mem ((c.tc : Thread Cert.MemKvFwdRefIdeal.nD Cert.MemKvFwdRefIdeal.τ).loc Cert.MemKvFwdRefIdeal.main_arg2) = m ((c.tc : Thread Cert.MemKvFwdRefIdeal.nD Cert.MemKvFwdRefIdeal.τ).loc Cert.MemKvFwdRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_S5OutFwd [hS5OutFwd : Cert.S5OutFwd.Facts] : Prop :=
  ∀ (m : (ℓ : Loc Cert.S5OutFwd.nD Cert.S5OutFwd.τ Cert.S5OutFwd.sig) → Buf (Elt Bits) ℓ) (g : Dev Cert.S5OutFwd.nD → PrngReg), Pre_S5OutFwd m →
    θ_run (Cert.S5OutFwd.defs (F := Bits)) (onTc (τ := Cert.S5OutFwd.τ) (Cert.S5OutFwd.main (F := Bits))) ⟨m, fun _ => 0, g⟩ (fun r => (∀ c : Dev Cert.S5OutFwd.nD,
      r.2.mem ((c.tc : Thread Cert.S5OutFwd.nD Cert.S5OutFwd.τ).loc Cert.S5OutFwd.main_arg0) = m ((c.tc : Thread Cert.S5OutFwd.nD Cert.S5OutFwd.τ).loc Cert.S5OutFwd.main_arg0)
      ∧ r.2.mem ((c.tc : Thread Cert.S5OutFwd.nD Cert.S5OutFwd.τ).loc Cert.S5OutFwd.main_arg1) = m ((c.tc : Thread Cert.S5OutFwd.nD Cert.S5OutFwd.τ).loc Cert.S5OutFwd.main_arg1)
      ∧ r.2.mem ((c.tc : Thread Cert.S5OutFwd.nD Cert.S5OutFwd.τ).loc Cert.S5OutFwd.main_arg2) = m ((c.tc : Thread Cert.S5OutFwd.nD Cert.S5OutFwd.τ).loc Cert.S5OutFwd.main_arg2)
      ∧ r.2.mem ((c.tc : Thread Cert.S5OutFwd.nD Cert.S5OutFwd.τ).loc Cert.S5OutFwd.main_arg3) = m ((c.tc : Thread Cert.S5OutFwd.nD Cert.S5OutFwd.τ).loc Cert.S5OutFwd.main_arg3))
      ∧ r.2.sem = fun _ => 0)

def quiescent_S5OutFwdIdeal [hS5OutFwdIdeal : Cert.S5OutFwdIdeal.Facts] : Prop :=
  ∀ (m : (ℓ : Loc Cert.S5OutFwdIdeal.nD Cert.S5OutFwdIdeal.τ Cert.S5OutFwdIdeal.sig) → Buf (Elt Ideal) ℓ) (g : Dev Cert.S5OutFwdIdeal.nD → PrngReg), Pre_S5OutFwdIdeal m →
    θ_run (Cert.S5OutFwdIdeal.defs (F := Ideal)) (onTc (τ := Cert.S5OutFwdIdeal.τ) (Cert.S5OutFwdIdeal.main (F := Ideal))) ⟨m, fun _ => 0, g⟩ (fun r => (∀ c : Dev Cert.S5OutFwdIdeal.nD,
      r.2.mem ((c.tc : Thread Cert.S5OutFwdIdeal.nD Cert.S5OutFwdIdeal.τ).loc Cert.S5OutFwdIdeal.main_arg0) = m ((c.tc : Thread Cert.S5OutFwdIdeal.nD Cert.S5OutFwdIdeal.τ).loc Cert.S5OutFwdIdeal.main_arg0)
      ∧ r.2.mem ((c.tc : Thread Cert.S5OutFwdIdeal.nD Cert.S5OutFwdIdeal.τ).loc Cert.S5OutFwdIdeal.main_arg1) = m ((c.tc : Thread Cert.S5OutFwdIdeal.nD Cert.S5OutFwdIdeal.τ).loc Cert.S5OutFwdIdeal.main_arg1)
      ∧ r.2.mem ((c.tc : Thread Cert.S5OutFwdIdeal.nD Cert.S5OutFwdIdeal.τ).loc Cert.S5OutFwdIdeal.main_arg2) = m ((c.tc : Thread Cert.S5OutFwdIdeal.nD Cert.S5OutFwdIdeal.τ).loc Cert.S5OutFwdIdeal.main_arg2)
      ∧ r.2.mem ((c.tc : Thread Cert.S5OutFwdIdeal.nD Cert.S5OutFwdIdeal.τ).loc Cert.S5OutFwdIdeal.main_arg3) = m ((c.tc : Thread Cert.S5OutFwdIdeal.nD Cert.S5OutFwdIdeal.τ).loc Cert.S5OutFwdIdeal.main_arg3))
      ∧ r.2.sem = fun _ => 0)

def quiescent_S5OutFwdRefIdeal [hS5OutFwdRefIdeal : Cert.S5OutFwdRefIdeal.Facts] : Prop :=
  ∀ (m : (ℓ : Loc Cert.S5OutFwdRefIdeal.nD Cert.S5OutFwdRefIdeal.τ Cert.S5OutFwdRefIdeal.sig) → Buf (Elt Ideal) ℓ) (g : Dev Cert.S5OutFwdRefIdeal.nD → PrngReg), Pre_S5OutFwdRefIdeal m →
    θ_run (Cert.S5OutFwdRefIdeal.defs (F := Ideal)) (onTc (τ := Cert.S5OutFwdRefIdeal.τ) (Cert.S5OutFwdRefIdeal.main (F := Ideal))) ⟨m, fun _ => 0, g⟩ (fun r => (∀ c : Dev Cert.S5OutFwdRefIdeal.nD,
      r.2.mem ((c.tc : Thread Cert.S5OutFwdRefIdeal.nD Cert.S5OutFwdRefIdeal.τ).loc Cert.S5OutFwdRefIdeal.main_arg0) = m ((c.tc : Thread Cert.S5OutFwdRefIdeal.nD Cert.S5OutFwdRefIdeal.τ).loc Cert.S5OutFwdRefIdeal.main_arg0)
      ∧ r.2.mem ((c.tc : Thread Cert.S5OutFwdRefIdeal.nD Cert.S5OutFwdRefIdeal.τ).loc Cert.S5OutFwdRefIdeal.main_arg1) = m ((c.tc : Thread Cert.S5OutFwdRefIdeal.nD Cert.S5OutFwdRefIdeal.τ).loc Cert.S5OutFwdRefIdeal.main_arg1)
      ∧ r.2.mem ((c.tc : Thread Cert.S5OutFwdRefIdeal.nD Cert.S5OutFwdRefIdeal.τ).loc Cert.S5OutFwdRefIdeal.main_arg2) = m ((c.tc : Thread Cert.S5OutFwdRefIdeal.nD Cert.S5OutFwdRefIdeal.τ).loc Cert.S5OutFwdRefIdeal.main_arg2)
      ∧ r.2.mem ((c.tc : Thread Cert.S5OutFwdRefIdeal.nD Cert.S5OutFwdRefIdeal.τ).loc Cert.S5OutFwdRefIdeal.main_arg3) = m ((c.tc : Thread Cert.S5OutFwdRefIdeal.nD Cert.S5OutFwdRefIdeal.τ).loc Cert.S5OutFwdRefIdeal.main_arg3))
      ∧ r.2.sem = fun _ => 0)

def quiescent_InProjFwd [hInProjFwd : Cert.InProjFwd.Facts] : Prop :=
  ∀ (m : (ℓ : Loc Cert.InProjFwd.nD Cert.InProjFwd.τ Cert.InProjFwd.sig) → Buf (Elt Bits) ℓ) (g : Dev Cert.InProjFwd.nD → PrngReg), Pre_InProjFwd m →
    θ_run (Cert.InProjFwd.defs (F := Bits)) (onTc (τ := Cert.InProjFwd.τ) (Cert.InProjFwd.main (F := Bits))) ⟨m, fun _ => 0, g⟩ (fun r => (∀ c : Dev Cert.InProjFwd.nD,
      r.2.mem ((c.tc : Thread Cert.InProjFwd.nD Cert.InProjFwd.τ).loc Cert.InProjFwd.main_arg0) = m ((c.tc : Thread Cert.InProjFwd.nD Cert.InProjFwd.τ).loc Cert.InProjFwd.main_arg0)
      ∧ r.2.mem ((c.tc : Thread Cert.InProjFwd.nD Cert.InProjFwd.τ).loc Cert.InProjFwd.main_arg1) = m ((c.tc : Thread Cert.InProjFwd.nD Cert.InProjFwd.τ).loc Cert.InProjFwd.main_arg1)
      ∧ r.2.mem ((c.tc : Thread Cert.InProjFwd.nD Cert.InProjFwd.τ).loc Cert.InProjFwd.main_arg2) = m ((c.tc : Thread Cert.InProjFwd.nD Cert.InProjFwd.τ).loc Cert.InProjFwd.main_arg2))
      ∧ r.2.sem = fun _ => 0)

def quiescent_InProjFwdIdeal [hInProjFwdIdeal : Cert.InProjFwdIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
      ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2))
      ∧ r.2.sem = fun _ => 0)

def quiescent_InProjFwdRefIdeal [hInProjFwdRefIdeal : Cert.InProjFwdRefIdeal.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1)
      ∧ r.2.mem ((c.tc : Thread Cert.InProjFwdRefIdeal.nD Cert.InProjFwdRefIdeal.τ).loc Cert.InProjFwdRefIdeal.main_arg2) = m ((c.tc : Thread Cert.InProjFwdRefIdeal.nD Cert.InProjFwdRefIdeal.τ).loc Cert.InProjFwdRefIdeal.main_arg2))
      ∧ r.2.sem = fun _ => 0)

def quiescent_DwFfn [hDwFfn : Cert.DwFfn.Facts] : Prop :=
  ∀ (m : (ℓ : Loc Cert.DwFfn.nD Cert.DwFfn.τ Cert.DwFfn.sig) → Buf (Elt Bits) ℓ) (g : Dev Cert.DwFfn.nD → PrngReg), Pre_DwFfn m →
    θ_run (Cert.DwFfn.defs (F := Bits)) (onTc (τ := Cert.DwFfn.τ) (Cert.DwFfn.main (F := Bits))) ⟨m, fun _ => 0, g⟩ (fun r => (∀ c : Dev Cert.DwFfn.nD,
      r.2.mem ((c.tc : Thread Cert.DwFfn.nD Cert.DwFfn.τ).loc Cert.DwFfn.main_arg0) = m ((c.tc : Thread Cert.DwFfn.nD Cert.DwFfn.τ).loc Cert.DwFfn.main_arg0)
      ∧ r.2.mem ((c.tc : Thread Cert.DwFfn.nD Cert.DwFfn.τ).loc Cert.DwFfn.main_arg1) = m ((c.tc : Thread Cert.DwFfn.nD Cert.DwFfn.τ).loc Cert.DwFfn.main_arg1))
      ∧ r.2.sem = fun _ => 0)

def quiescent_DwFfnIdeal [hDwFfnIdeal : Cert.DwFfnIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg), Pre_DwFfnIdeal m →
    θ_run (Cert.DwFfnIdeal.defs (F := Ideal)) (onTc (τ := Cert.DwFfnIdeal.τ) (Cert.DwFfnIdeal.main (F := Ideal))) ⟨m, fun _ => 0, g⟩ (fun r => (∀ c : Dev Cert.DwFfnIdeal.nD,
      r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
      ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ r.2.sem = fun _ => 0)

def quiescent_DwFfnRefIdeal [hDwFfnRefIdeal : Cert.DwFfnRefIdeal.Facts] : Prop :=
  ∀ (m : (ℓ : Loc Cert.DwFfnRefIdeal.nD Cert.DwFfnRefIdeal.τ Cert.DwFfnRefIdeal.sig) → Buf (Elt Ideal) ℓ) (g : Dev Cert.DwFfnRefIdeal.nD → PrngReg), Pre_DwFfnRefIdeal m →
    θ_run (Cert.DwFfnRefIdeal.defs (F := Ideal)) (onTc (τ := Cert.DwFfnRefIdeal.τ) (Cert.DwFfnRefIdeal.main (F := Ideal))) ⟨m, fun _ => 0, g⟩ (fun r => (∀ c : Dev Cert.DwFfnRefIdeal.nD,
      r.2.mem ((c.tc : Thread Cert.DwFfnRefIdeal.nD Cert.DwFfnRefIdeal.τ).loc Cert.DwFfnRefIdeal.main_arg0) = m ((c.tc : Thread Cert.DwFfnRefIdeal.nD Cert.DwFfnRefIdeal.τ).loc Cert.DwFfnRefIdeal.main_arg0)
      ∧ r.2.mem ((c.tc : Thread Cert.DwFfnRefIdeal.nD Cert.DwFfnRefIdeal.τ).loc Cert.DwFfnRefIdeal.main_arg1) = m ((c.tc : Thread Cert.DwFfnRefIdeal.nD Cert.DwFfnRefIdeal.τ).loc Cert.DwFfnRefIdeal.main_arg1))
      ∧ r.2.sem = fun _ => 0)

def quiescent_SumAdamw [hSumAdamw : Cert.SumAdamw.Facts] : Prop :=
  ∀ (m : (ℓ : Loc Cert.SumAdamw.nD Cert.SumAdamw.τ Cert.SumAdamw.sig) → Buf (Elt Bits) ℓ) (g : Dev Cert.SumAdamw.nD → PrngReg), Pre_SumAdamw m →
    θ_run (Cert.SumAdamw.defs (F := Bits)) (onTc (τ := Cert.SumAdamw.τ) (Cert.SumAdamw.main (F := Bits))) ⟨m, fun _ => 0, g⟩ (fun r => (∀ c : Dev Cert.SumAdamw.nD,
      r.2.mem ((c.tc : Thread Cert.SumAdamw.nD Cert.SumAdamw.τ).loc Cert.SumAdamw.main_arg0) = m ((c.tc : Thread Cert.SumAdamw.nD Cert.SumAdamw.τ).loc Cert.SumAdamw.main_arg0)
      ∧ r.2.mem ((c.tc : Thread Cert.SumAdamw.nD Cert.SumAdamw.τ).loc Cert.SumAdamw.main_arg1) = m ((c.tc : Thread Cert.SumAdamw.nD Cert.SumAdamw.τ).loc Cert.SumAdamw.main_arg1)
      ∧ r.2.mem ((c.tc : Thread Cert.SumAdamw.nD Cert.SumAdamw.τ).loc Cert.SumAdamw.main_arg2) = m ((c.tc : Thread Cert.SumAdamw.nD Cert.SumAdamw.τ).loc Cert.SumAdamw.main_arg2)
      ∧ r.2.mem ((c.tc : Thread Cert.SumAdamw.nD Cert.SumAdamw.τ).loc Cert.SumAdamw.main_arg3) = m ((c.tc : Thread Cert.SumAdamw.nD Cert.SumAdamw.τ).loc Cert.SumAdamw.main_arg3))
      ∧ r.2.sem = fun _ => 0)

def quiescent_SumAdamwIdeal [hSumAdamwIdeal : Cert.SumAdamwIdeal.Facts] : Prop :=
  ∀ (m : (ℓ : Loc Cert.SumAdamwIdeal.nD Cert.SumAdamwIdeal.τ Cert.SumAdamwIdeal.sig) → Buf (Elt Ideal) ℓ) (g : Dev Cert.SumAdamwIdeal.nD → PrngReg), Pre_SumAdamwIdeal m →
    θ_run (Cert.SumAdamwIdeal.defs (F := Ideal)) (onTc (τ := Cert.SumAdamwIdeal.τ) (Cert.SumAdamwIdeal.main (F := Ideal))) ⟨m, fun _ => 0, g⟩ (fun r => (∀ c : Dev Cert.SumAdamwIdeal.nD,
      r.2.mem ((c.tc : Thread Cert.SumAdamwIdeal.nD Cert.SumAdamwIdeal.τ).loc Cert.SumAdamwIdeal.main_arg0) = m ((c.tc : Thread Cert.SumAdamwIdeal.nD Cert.SumAdamwIdeal.τ).loc Cert.SumAdamwIdeal.main_arg0)
      ∧ r.2.mem ((c.tc : Thread Cert.SumAdamwIdeal.nD Cert.SumAdamwIdeal.τ).loc Cert.SumAdamwIdeal.main_arg1) = m ((c.tc : Thread Cert.SumAdamwIdeal.nD Cert.SumAdamwIdeal.τ).loc Cert.SumAdamwIdeal.main_arg1)
      ∧ r.2.mem ((c.tc : Thread Cert.SumAdamwIdeal.nD Cert.SumAdamwIdeal.τ).loc Cert.SumAdamwIdeal.main_arg2) = m ((c.tc : Thread Cert.SumAdamwIdeal.nD Cert.SumAdamwIdeal.τ).loc Cert.SumAdamwIdeal.main_arg2)
      ∧ r.2.mem ((c.tc : Thread Cert.SumAdamwIdeal.nD Cert.SumAdamwIdeal.τ).loc Cert.SumAdamwIdeal.main_arg3) = m ((c.tc : Thread Cert.SumAdamwIdeal.nD Cert.SumAdamwIdeal.τ).loc Cert.SumAdamwIdeal.main_arg3))
      ∧ r.2.sem = fun _ => 0)

def quiescent_SumAdamwRefIdeal [hSumAdamwRefIdeal : Cert.SumAdamwRefIdeal.Facts] : Prop :=
  ∀ (m : (ℓ : Loc Cert.SumAdamwRefIdeal.nD Cert.SumAdamwRefIdeal.τ Cert.SumAdamwRefIdeal.sig) → Buf (Elt Ideal) ℓ) (g : Dev Cert.SumAdamwRefIdeal.nD → PrngReg), Pre_SumAdamwRefIdeal m →
    θ_run (Cert.SumAdamwRefIdeal.defs (F := Ideal)) (onTc (τ := Cert.SumAdamwRefIdeal.τ) (Cert.SumAdamwRefIdeal.main (F := Ideal))) ⟨m, fun _ => 0, g⟩ (fun r => (∀ c : Dev Cert.SumAdamwRefIdeal.nD,
      r.2.mem ((c.tc : Thread Cert.SumAdamwRefIdeal.nD Cert.SumAdamwRefIdeal.τ).loc Cert.SumAdamwRefIdeal.main_arg0) = m ((c.tc : Thread Cert.SumAdamwRefIdeal.nD Cert.SumAdamwRefIdeal.τ).loc Cert.SumAdamwRefIdeal.main_arg0)
      ∧ r.2.mem ((c.tc : Thread Cert.SumAdamwRefIdeal.nD Cert.SumAdamwRefIdeal.τ).loc Cert.SumAdamwRefIdeal.main_arg1) = m ((c.tc : Thread Cert.SumAdamwRefIdeal.nD Cert.SumAdamwRefIdeal.τ).loc Cert.SumAdamwRefIdeal.main_arg1)
      ∧ r.2.mem ((c.tc : Thread Cert.SumAdamwRefIdeal.nD Cert.SumAdamwRefIdeal.τ).loc Cert.SumAdamwRefIdeal.main_arg2) = m ((c.tc : Thread Cert.SumAdamwRefIdeal.nD Cert.SumAdamwRefIdeal.τ).loc Cert.SumAdamwRefIdeal.main_arg2)
      ∧ r.2.mem ((c.tc : Thread Cert.SumAdamwRefIdeal.nD Cert.SumAdamwRefIdeal.τ).loc Cert.SumAdamwRefIdeal.main_arg3) = m ((c.tc : Thread Cert.SumAdamwRefIdeal.nD Cert.SumAdamwRefIdeal.τ).loc Cert.SumAdamwRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)
      ∧ m' ((c.tc : Thread Cert.MemKvRefIdeal.nD Cert.MemKvRefIdeal.τ).loc Cert.MemKvRefIdeal.main_arg4) = m ((c.tc : Thread Cert.MemKvIdeal.nD Cert.MemKvIdeal.τ).loc Cert.MemKvIdeal.main_arg4)) →
    ∃ (v0 : (c : Dev Cert.MemKvIdeal.nD) → Buf (Elt Ideal) ((c.tc : Thread Cert.MemKvIdeal.nD Cert.MemKvIdeal.τ).loc Cert.MemKvIdeal.main_v5_0)) (v1 : (c : Dev Cert.MemKvIdeal.nD) → Buf (Elt Ideal) ((c.tc : Thread Cert.MemKvIdeal.nD Cert.MemKvIdeal.τ).loc Cert.MemKvIdeal.main_v5_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5_0) = v0 c
          ∧ r.2.mem ((c.tc : Thread Cert.MemKvIdeal.nD Cert.MemKvIdeal.τ).loc Cert.MemKvIdeal.main_v5_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
          ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v27) = v0 c
          ∧ r.2.mem ((c.tc : Thread Cert.MemKvRefIdeal.nD Cert.MemKvRefIdeal.τ).loc Cert.MemKvRefIdeal.main_v28) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3)
          ∧ r.2.mem ((c.tc : Thread Cert.MemKvRefIdeal.nD Cert.MemKvRefIdeal.τ).loc Cert.MemKvRefIdeal.main_arg4) = m' ((c.tc : Thread Cert.MemKvRefIdeal.nD Cert.MemKvRefIdeal.τ).loc Cert.MemKvRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)) (v2 : (c : Dev Cert.MergeIdeal.nD) → Buf (Elt Ideal) ((c.tc : Thread Cert.MergeIdeal.nD Cert.MergeIdeal.τ).loc Cert.MergeIdeal.main_v13_2)) (v3 : (c : Dev Cert.MergeIdeal.nD) → Buf (Elt Ideal) ((c.tc : Thread Cert.MergeIdeal.nD Cert.MergeIdeal.τ).loc Cert.MergeIdeal.main_v13_3)) (v4 : (c : Dev Cert.MergeIdeal.nD) → Buf (Elt Ideal) ((c.tc : Thread Cert.MergeIdeal.nD Cert.MergeIdeal.τ).loc Cert.MergeIdeal.main_v13_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_v13_2) = v2 c
          ∧ r.2.mem ((c.tc : Thread Cert.MergeIdeal.nD Cert.MergeIdeal.τ).loc Cert.MergeIdeal.main_v13_3) = v3 c
          ∧ r.2.mem ((c.tc : Thread Cert.MergeIdeal.nD Cert.MergeIdeal.τ).loc Cert.MergeIdeal.main_v13_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_v36) = v1 c
          ∧ r.2.mem ((c.tc : Thread Cert.MergeRefIdeal.nD Cert.MergeRefIdeal.τ).loc Cert.MergeRefIdeal.main_v37) = v2 c
          ∧ r.2.mem ((c.tc : Thread Cert.MergeRefIdeal.nD Cert.MergeRefIdeal.τ).loc Cert.MergeRefIdeal.main_v38) = v3 c
          ∧ r.2.mem ((c.tc : Thread Cert.MergeRefIdeal.nD Cert.MergeRefIdeal.τ).loc Cert.MergeRefIdeal.main_v39) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v4)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v4) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v11) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_S5Out_S5OutIdeal : Prop :=
  IdealRules.named_const.Statement Cert.S5OutIdeal.κ "c" .f32 0x3D372713#32 ((8943 / 200000 : ℝ) : EReal)
  ∧ IdealRules.named_const.Statement Cert.S5OutIdeal.κ "c3" .f32 0x3E095D4F#32 ((26829 / 200000 : ℝ) : EReal)

def algebraic_S5OutIdeal_S5OutRefIdeal_pre_finite_s5out [hS5OutIdeal : Cert.S5OutIdeal.Facts] [hS5OutRefIdeal : Cert.S5OutRefIdeal.Facts] [hPre_finite_s5out : Cert.Pre_finite_s5out.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutRefIdeal.nD Cert.S5OutRefIdeal.τ Cert.S5OutRefIdeal.sig) → Buf (Elt Ideal) ℓ) (g' : Dev Cert.S5OutRefIdeal.nD → PrngReg), Pre_S5OutIdeal_finite_s5out m →
    (∀ c : Dev Cert.S5OutIdeal.nD,
      m' ((c.tc : Thread Cert.S5OutRefIdeal.nD Cert.S5OutRefIdeal.τ).loc Cert.S5OutRefIdeal.main_arg0) = m ((c.tc : Thread Cert.S5OutIdeal.nD Cert.S5OutIdeal.τ).loc Cert.S5OutIdeal.main_arg0)
      ∧ m' ((c.tc : Thread Cert.S5OutRefIdeal.nD Cert.S5OutRefIdeal.τ).loc Cert.S5OutRefIdeal.main_arg1) = m ((c.tc : Thread Cert.S5OutIdeal.nD Cert.S5OutIdeal.τ).loc Cert.S5OutIdeal.main_arg1)
      ∧ m' ((c.tc : Thread Cert.S5OutRefIdeal.nD Cert.S5OutRefIdeal.τ).loc Cert.S5OutRefIdeal.main_arg2) = m ((c.tc : Thread Cert.S5OutIdeal.nD Cert.S5OutIdeal.τ).loc Cert.S5OutIdeal.main_arg2)
      ∧ m' ((c.tc : Thread Cert.S5OutRefIdeal.nD Cert.S5OutRefIdeal.τ).loc Cert.S5OutRefIdeal.main_arg3) = m ((c.tc : Thread Cert.S5OutIdeal.nD Cert.S5OutIdeal.τ).loc Cert.S5OutIdeal.main_arg3)
      ∧ m' ((c.tc : Thread Cert.S5OutRefIdeal.nD Cert.S5OutRefIdeal.τ).loc Cert.S5OutRefIdeal.main_arg4) = m ((c.tc : Thread Cert.S5OutIdeal.nD Cert.S5OutIdeal.τ).loc Cert.S5OutIdeal.main_arg4)) →
    ∃ (v0 : (c : Dev Cert.S5OutIdeal.nD) → Buf (Elt Ideal) ((c.tc : Thread Cert.S5OutIdeal.nD Cert.S5OutIdeal.τ).loc Cert.S5OutIdeal.main_v24_0)) (v1 : (c : Dev Cert.S5OutIdeal.nD) → Buf (Elt Ideal) ((c.tc : Thread Cert.S5OutIdeal.nD Cert.S5OutIdeal.τ).loc Cert.S5OutIdeal.main_v24_1)) (v2 : (c : Dev Cert.S5OutIdeal.nD) → Buf (Elt Ideal) ((c.tc : Thread Cert.S5OutIdeal.nD Cert.S5OutIdeal.τ).loc Cert.S5OutIdeal.main_v24_2)) (v3 : (c : Dev Cert.S5OutIdeal.nD) → Buf (Elt Ideal) ((c.tc : Thread Cert.S5OutIdeal.nD Cert.S5OutIdeal.τ).loc Cert.S5OutIdeal.main_v24_3)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v24_0) = v0 c
          ∧ r.2.mem ((c.tc : Thread Cert.S5OutIdeal.nD Cert.S5OutIdeal.τ).loc Cert.S5OutIdeal.main_v24_1) = v1 c
          ∧ r.2.mem ((c.tc : Thread Cert.S5OutIdeal.nD Cert.S5OutIdeal.τ).loc Cert.S5OutIdeal.main_v24_2) = v2 c
          ∧ r.2.mem ((c.tc : Thread Cert.S5OutIdeal.nD Cert.S5OutIdeal.τ).loc Cert.S5OutIdeal.main_v24_3) = v3 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
          ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
          ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4))
      ∧ θ_run (Cert.S5OutRefIdeal.defs (F := Ideal)) (onTc (τ := Cert.S5OutRefIdeal.τ) (Cert.S5OutRefIdeal.main (F := Ideal))) ⟨m', fun _ => 0, g'⟩ (fun r => ∀ c : Dev Cert.S5OutRefIdeal.nD,
          r.2.mem ((c.tc : Thread Cert.S5OutRefIdeal.nD Cert.S5OutRefIdeal.τ).loc Cert.S5OutRefIdeal.main_v59) = v0 c
          ∧ r.2.mem ((c.tc : Thread Cert.S5OutRefIdeal.nD Cert.S5OutRefIdeal.τ).loc Cert.S5OutRefIdeal.main_v64) = v1 c
          ∧ r.2.mem ((c.tc : Thread Cert.S5OutRefIdeal.nD Cert.S5OutRefIdeal.τ).loc Cert.S5OutRefIdeal.main_v65) = v2 c
          ∧ r.2.mem ((c.tc : Thread Cert.S5OutRefIdeal.nD Cert.S5OutRefIdeal.τ).loc Cert.S5OutRefIdeal.main_v66) = v3 c
          ∧ r.2.mem ((c.tc : Thread Cert.S5OutRefIdeal.nD Cert.S5OutRefIdeal.τ).loc Cert.S5OutRefIdeal.main_arg0) = m' ((c.tc : Thread Cert.S5OutRefIdeal.nD Cert.S5OutRefIdeal.τ).loc Cert.S5OutRefIdeal.main_arg0)
          ∧ r.2.mem ((c.tc : Thread Cert.S5OutRefIdeal.nD Cert.S5OutRefIdeal.τ).loc Cert.S5OutRefIdeal.main_arg1) = m' ((c.tc : Thread Cert.S5OutRefIdeal.nD Cert.S5OutRefIdeal.τ).loc Cert.S5OutRefIdeal.main_arg1)
          ∧ r.2.mem ((c.tc : Thread Cert.S5OutRefIdeal.nD Cert.S5OutRefIdeal.τ).loc Cert.S5OutRefIdeal.main_arg2) = m' ((c.tc : Thread Cert.S5OutRefIdeal.nD Cert.S5OutRefIdeal.τ).loc Cert.S5OutRefIdeal.main_arg2)
          ∧ r.2.mem ((c.tc : Thread Cert.S5OutRefIdeal.nD Cert.S5OutRefIdeal.τ).loc Cert.S5OutRefIdeal.main_arg3) = m' ((c.tc : Thread Cert.S5OutRefIdeal.nD Cert.S5OutRefIdeal.τ).loc Cert.S5OutRefIdeal.main_arg3)
          ∧ r.2.mem ((c.tc : Thread Cert.S5OutRefIdeal.nD Cert.S5OutRefIdeal.τ).loc Cert.S5OutRefIdeal.main_arg4) = m' ((c.tc : Thread Cert.S5OutRefIdeal.nD Cert.S5OutRefIdeal.τ).loc Cert.S5OutRefIdeal.main_arg4))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v34) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v56) = v2 c
          ∧ r.2.mem ((c.tc : Thread Cert.LossRefIdeal.nD Cert.LossRefIdeal.τ).loc Cert.LossRefIdeal.main_v57) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_FfnIn_FfnInIdeal : Prop :=
  True

def algebraic_FfnInIdeal_FfnInRefIdeal_pre_finite_ffnin [hFfnInIdeal : Cert.FfnInIdeal.Facts] [hFfnInRefIdeal : Cert.FfnInRefIdeal.Facts] [hPre_finite_ffnin : Cert.Pre_finite_ffnin.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_ffnin m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v24_0)) (v1 : (c : Dev Cert.FfnInIdeal.nD) → Buf (Elt Ideal) ((c.tc : Thread Cert.FfnInIdeal.nD Cert.FfnInIdeal.τ).loc Cert.FfnInIdeal.main_v24_2)) (v2 : (c : Dev Cert.FfnInIdeal.nD) → Buf (Elt Ideal) ((c.tc : Thread Cert.FfnInIdeal.nD Cert.FfnInIdeal.τ).loc Cert.FfnInIdeal.main_v24_1)) (v3 : (c : Dev Cert.FfnInIdeal.nD) → Buf (Elt Ideal) ((c.tc : Thread Cert.FfnInIdeal.nD Cert.FfnInIdeal.τ).loc Cert.FfnInIdeal.main_v24_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v24_0) = v0 c
          ∧ r.2.mem ((c.tc : Thread Cert.FfnInIdeal.nD Cert.FfnInIdeal.τ).loc Cert.FfnInIdeal.main_v24_2) = v1 c
          ∧ r.2.mem ((c.tc : Thread Cert.FfnInIdeal.nD Cert.FfnInIdeal.τ).loc Cert.FfnInIdeal.main_v24_1) = v2 c
          ∧ r.2.mem ((c.tc : Thread Cert.FfnInIdeal.nD Cert.FfnInIdeal.τ).loc Cert.FfnInIdeal.main_v24_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v58) = v0 c
          ∧ r.2.mem ((c.tc : Thread Cert.FfnInRefIdeal.nD Cert.FfnInRefIdeal.τ).loc Cert.FfnInRefIdeal.main_v80) = v1 c
          ∧ r.2.mem ((c.tc : Thread Cert.FfnInRefIdeal.nD Cert.FfnInRefIdeal.τ).loc Cert.FfnInRefIdeal.main_v81) = v2 c
          ∧ r.2.mem ((c.tc : Thread Cert.FfnInRefIdeal.nD Cert.FfnInRefIdeal.τ).loc Cert.FfnInRefIdeal.main_v82) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_AttnIn_AttnInIdeal : Prop :=
  True

def algebraic_AttnInIdeal_AttnInRefIdeal_pre_finite_attnin [hAttnInIdeal : Cert.AttnInIdeal.Facts] [hAttnInRefIdeal : Cert.AttnInRefIdeal.Facts] [hPre_finite_attnin : Cert.Pre_finite_attnin.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal_finite_attnin m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)
      ∧ m' ((c.tc : Thread Cert.AttnInRefIdeal.nD Cert.AttnInRefIdeal.τ).loc Cert.AttnInRefIdeal.main_arg2) = m ((c.tc : Thread Cert.AttnInIdeal.nD Cert.AttnInIdeal.τ).loc Cert.AttnInIdeal.main_arg2)
      ∧ m' ((c.tc : Thread Cert.AttnInRefIdeal.nD Cert.AttnInRefIdeal.τ).loc Cert.AttnInRefIdeal.main_arg3) = m ((c.tc : Thread Cert.AttnInIdeal.nD Cert.AttnInIdeal.τ).loc Cert.AttnInIdeal.main_arg3)
      ∧ m' ((c.tc : Thread Cert.AttnInRefIdeal.nD Cert.AttnInRefIdeal.τ).loc Cert.AttnInRefIdeal.main_arg4) = m ((c.tc : Thread Cert.AttnInIdeal.nD Cert.AttnInIdeal.τ).loc Cert.AttnInIdeal.main_arg4)
      ∧ m' ((c.tc : Thread Cert.AttnInRefIdeal.nD Cert.AttnInRefIdeal.τ).loc Cert.AttnInRefIdeal.main_arg5) = m ((c.tc : Thread Cert.AttnInIdeal.nD Cert.AttnInIdeal.τ).loc Cert.AttnInIdeal.main_arg5)
      ∧ m' ((c.tc : Thread Cert.AttnInRefIdeal.nD Cert.AttnInRefIdeal.τ).loc Cert.AttnInRefIdeal.main_arg6) = m ((c.tc : Thread Cert.AttnInIdeal.nD Cert.AttnInIdeal.τ).loc Cert.AttnInIdeal.main_arg6)) →
    ∃ (v0 : (c : Dev Cert.AttnInIdeal.nD) → Buf (Elt Ideal) ((c.tc : Thread Cert.AttnInIdeal.nD Cert.AttnInIdeal.τ).loc Cert.AttnInIdeal.main_v23_0)) (v1 : (c : Dev Cert.AttnInIdeal.nD) → Buf (Elt Ideal) ((c.tc : Thread Cert.AttnInIdeal.nD Cert.AttnInIdeal.τ).loc Cert.AttnInIdeal.main_v23_2)) (v2 : (c : Dev Cert.AttnInIdeal.nD) → Buf (Elt Ideal) ((c.tc : Thread Cert.AttnInIdeal.nD Cert.AttnInIdeal.τ).loc Cert.AttnInIdeal.main_v23_1)) (v3 : (c : Dev Cert.AttnInIdeal.nD) → Buf (Elt Ideal) ((c.tc : Thread Cert.AttnInIdeal.nD Cert.AttnInIdeal.τ).loc Cert.AttnInIdeal.main_v23_3)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v23_0) = v0 c
          ∧ r.2.mem ((c.tc : Thread Cert.AttnInIdeal.nD Cert.AttnInIdeal.τ).loc Cert.AttnInIdeal.main_v23_2) = v1 c
          ∧ r.2.mem ((c.tc : Thread Cert.AttnInIdeal.nD Cert.AttnInIdeal.τ).loc Cert.AttnInIdeal.main_v23_1) = v2 c
          ∧ r.2.mem ((c.tc : Thread Cert.AttnInIdeal.nD Cert.AttnInIdeal.τ).loc Cert.AttnInIdeal.main_v23_3) = v3 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
          ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
          ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
          ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5)
          ∧ r.2.mem ((c.tc : Thread Cert.AttnInIdeal.nD Cert.AttnInIdeal.τ).loc Cert.AttnInIdeal.main_arg6) = m ((c.tc : Thread Cert.AttnInIdeal.nD Cert.AttnInIdeal.τ).loc Cert.AttnInIdeal.main_arg6))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v58) = v0 c
          ∧ r.2.mem ((c.tc : Thread Cert.AttnInRefIdeal.nD Cert.AttnInRefIdeal.τ).loc Cert.AttnInRefIdeal.main_v80) = v1 c
          ∧ r.2.mem ((c.tc : Thread Cert.AttnInRefIdeal.nD Cert.AttnInRefIdeal.τ).loc Cert.AttnInRefIdeal.main_v81) = v2 c
          ∧ r.2.mem ((c.tc : Thread Cert.AttnInRefIdeal.nD Cert.AttnInRefIdeal.τ).loc Cert.AttnInRefIdeal.main_v82) = v3 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1)
          ∧ r.2.mem ((c.tc : Thread Cert.AttnInRefIdeal.nD Cert.AttnInRefIdeal.τ).loc Cert.AttnInRefIdeal.main_arg2) = m' ((c.tc : Thread Cert.AttnInRefIdeal.nD Cert.AttnInRefIdeal.τ).loc Cert.AttnInRefIdeal.main_arg2)
          ∧ r.2.mem ((c.tc : Thread Cert.AttnInRefIdeal.nD Cert.AttnInRefIdeal.τ).loc Cert.AttnInRefIdeal.main_arg3) = m' ((c.tc : Thread Cert.AttnInRefIdeal.nD Cert.AttnInRefIdeal.τ).loc Cert.AttnInRefIdeal.main_arg3)
          ∧ r.2.mem ((c.tc : Thread Cert.AttnInRefIdeal.nD Cert.AttnInRefIdeal.τ).loc Cert.AttnInRefIdeal.main_arg4) = m' ((c.tc : Thread Cert.AttnInRefIdeal.nD Cert.AttnInRefIdeal.τ).loc Cert.AttnInRefIdeal.main_arg4)
          ∧ r.2.mem ((c.tc : Thread Cert.AttnInRefIdeal.nD Cert.AttnInRefIdeal.τ).loc Cert.AttnInRefIdeal.main_arg5) = m' ((c.tc : Thread Cert.AttnInRefIdeal.nD Cert.AttnInRefIdeal.τ).loc Cert.AttnInRefIdeal.main_arg5)
          ∧ r.2.mem ((c.tc : Thread Cert.AttnInRefIdeal.nD Cert.AttnInRefIdeal.τ).loc Cert.AttnInRefIdeal.main_arg6) = m' ((c.tc : Thread Cert.AttnInRefIdeal.nD Cert.AttnInRefIdeal.τ).loc Cert.AttnInRefIdeal.main_arg6))

def preserves_InProj_InProjIdeal : Prop :=
  True

def algebraic_InProjIdeal_InProjRefIdeal_pre_finite_inproj [hInProjIdeal : Cert.InProjIdeal.Facts] [hInProjRefIdeal : Cert.InProjRefIdeal.Facts] [hPre_finite_inproj : Cert.Pre_finite_inproj.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_inproj m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v45) = v0 c
          ∧ r.2.mem ((c.tc : Thread Cert.InProjRefIdeal.nD Cert.InProjRefIdeal.τ).loc Cert.InProjRefIdeal.main_v46) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v6_0)) (v1 : (c : Dev Cert.AttnIdeal.nD) → Buf (Elt Ideal) ((c.tc : Thread Cert.AttnIdeal.nD Cert.AttnIdeal.τ).loc Cert.AttnIdeal.main_v6_1)) (v2 : (c : Dev Cert.AttnIdeal.nD) → Buf (Elt Ideal) ((c.tc : Thread Cert.AttnIdeal.nD Cert.AttnIdeal.τ).loc Cert.AttnIdeal.main_v6_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v6_0) = v0 c
          ∧ r.2.mem ((c.tc : Thread Cert.AttnIdeal.nD Cert.AttnIdeal.τ).loc Cert.AttnIdeal.main_v6_1) = v1 c
          ∧ r.2.mem ((c.tc : Thread Cert.AttnIdeal.nD Cert.AttnIdeal.τ).loc Cert.AttnIdeal.main_v6_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v64) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Gmlp_GmlpIdeal : Prop :=
  IdealRules.named_const.Statement Cert.GmlpIdeal.κ "c" .f32 0x3D372713#32 ((8943 / 200000 : ℝ) : EReal)
  ∧ IdealRules.named_const.Statement Cert.GmlpIdeal.κ "c3" .f32 0x3E095D4F#32 ((26829 / 200000 : ℝ) : EReal)

def algebraic_GmlpIdeal_GmlpRefIdeal_pre_finite_gmlp [hGmlpIdeal : Cert.GmlpIdeal.Facts] [hGmlpRefIdeal : Cert.GmlpRefIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_finite_gmlp m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)) →
    ∃ (v0 : (c : Dev Cert.GmlpIdeal.nD) → Buf (Elt Ideal) ((c.tc : Thread Cert.GmlpIdeal.nD Cert.GmlpIdeal.τ).loc Cert.GmlpIdeal.main_v24_0)) (v1 : (c : Dev Cert.GmlpIdeal.nD) → Buf (Elt Ideal) ((c.tc : Thread Cert.GmlpIdeal.nD Cert.GmlpIdeal.τ).loc Cert.GmlpIdeal.main_v24_3)) (v2 : (c : Dev Cert.GmlpIdeal.nD) → Buf (Elt Ideal) ((c.tc : Thread Cert.GmlpIdeal.nD Cert.GmlpIdeal.τ).loc Cert.GmlpIdeal.main_v24_4)) (v3 : (c : Dev Cert.GmlpIdeal.nD) → Buf (Elt Ideal) ((c.tc : Thread Cert.GmlpIdeal.nD Cert.GmlpIdeal.τ).loc Cert.GmlpIdeal.main_v26)) (v4 : (c : Dev Cert.GmlpIdeal.nD) → Buf (Elt Ideal) ((c.tc : Thread Cert.GmlpIdeal.nD Cert.GmlpIdeal.τ).loc Cert.GmlpIdeal.main_v29)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v24_0) = v0 c
          ∧ r.2.mem ((c.tc : Thread Cert.GmlpIdeal.nD Cert.GmlpIdeal.τ).loc Cert.GmlpIdeal.main_v24_3) = v1 c
          ∧ r.2.mem ((c.tc : Thread Cert.GmlpIdeal.nD Cert.GmlpIdeal.τ).loc Cert.GmlpIdeal.main_v24_4) = v2 c
          ∧ r.2.mem ((c.tc : Thread Cert.GmlpIdeal.nD Cert.GmlpIdeal.τ).loc Cert.GmlpIdeal.main_v26) = v3 c
          ∧ r.2.mem ((c.tc : Thread Cert.GmlpIdeal.nD Cert.GmlpIdeal.τ).loc Cert.GmlpIdeal.main_v29) = v4 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v132) = v0 c
          ∧ r.2.mem ((c.tc : Thread Cert.GmlpRefIdeal.nD Cert.GmlpRefIdeal.τ).loc Cert.GmlpRefIdeal.main_v133) = v1 c
          ∧ r.2.mem ((c.tc : Thread Cert.GmlpRefIdeal.nD Cert.GmlpRefIdeal.τ).loc Cert.GmlpRefIdeal.main_v134) = v2 c
          ∧ r.2.mem ((c.tc : Thread Cert.GmlpRefIdeal.nD Cert.GmlpRefIdeal.τ).loc Cert.GmlpRefIdeal.main_v85) = v3 c
          ∧ r.2.mem ((c.tc : Thread Cert.GmlpRefIdeal.nD Cert.GmlpRefIdeal.τ).loc Cert.GmlpRefIdeal.main_v80) = v4 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v3)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v3) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v20) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_GmlpFwd_GmlpFwdIdeal : Prop :=
  IdealRules.named_const.Statement Cert.GmlpFwdIdeal.κ "c" .f32 0x3D372713#32 ((8943 / 200000 : ℝ) : EReal)
  ∧ IdealRules.named_const.Statement Cert.GmlpFwdIdeal.κ "c3" .f32 0x3E095D4F#32 ((26829 / 200000 : ℝ) : EReal)

def algebraic_GmlpFwdIdeal_GmlpFwdRefIdeal_pre_finite_gmlpf [hGmlpFwdIdeal : Cert.GmlpFwdIdeal.Facts] [hGmlpFwdRefIdeal : Cert.GmlpFwdRefIdeal.Facts] [hPre_finite_gmlpf : Cert.Pre_finite_gmlpf.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal_finite_gmlpf m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v15_0)) (v1 : (c : Dev Cert.GmlpFwdIdeal.nD) → Buf (Elt Ideal) ((c.tc : Thread Cert.GmlpFwdIdeal.nD Cert.GmlpFwdIdeal.τ).loc Cert.GmlpFwdIdeal.main_v15_1)) (v2 : (c : Dev Cert.GmlpFwdIdeal.nD) → Buf (Elt Ideal) ((c.tc : Thread Cert.GmlpFwdIdeal.nD Cert.GmlpFwdIdeal.τ).loc Cert.GmlpFwdIdeal.main_v15_2)) (v3 : (c : Dev Cert.GmlpFwdIdeal.nD) → Buf (Elt Ideal) ((c.tc : Thread Cert.GmlpFwdIdeal.nD Cert.GmlpFwdIdeal.τ).loc Cert.GmlpFwdIdeal.main_v15_3)) (v4 : (c : Dev Cert.GmlpFwdIdeal.nD) → Buf (Elt Ideal) ((c.tc : Thread Cert.GmlpFwdIdeal.nD Cert.GmlpFwdIdeal.τ).loc Cert.GmlpFwdIdeal.main_v15_4)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v15_0) = v0 c
          ∧ r.2.mem ((c.tc : Thread Cert.GmlpFwdIdeal.nD Cert.GmlpFwdIdeal.τ).loc Cert.GmlpFwdIdeal.main_v15_1) = v1 c
          ∧ r.2.mem ((c.tc : Thread Cert.GmlpFwdIdeal.nD Cert.GmlpFwdIdeal.τ).loc Cert.GmlpFwdIdeal.main_v15_2) = v2 c
          ∧ r.2.mem ((c.tc : Thread Cert.GmlpFwdIdeal.nD Cert.GmlpFwdIdeal.τ).loc Cert.GmlpFwdIdeal.main_v15_3) = v3 c
          ∧ r.2.mem ((c.tc : Thread Cert.GmlpFwdIdeal.nD Cert.GmlpFwdIdeal.τ).loc Cert.GmlpFwdIdeal.main_v15_4) = v4 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v109) = v0 c
          ∧ r.2.mem ((c.tc : Thread Cert.GmlpFwdRefIdeal.nD Cert.GmlpFwdRefIdeal.τ).loc Cert.GmlpFwdRefIdeal.main_v110) = v1 c
          ∧ r.2.mem ((c.tc : Thread Cert.GmlpFwdRefIdeal.nD Cert.GmlpFwdRefIdeal.τ).loc Cert.GmlpFwdRefIdeal.main_v113) = v2 c
          ∧ r.2.mem ((c.tc : Thread Cert.GmlpFwdRefIdeal.nD Cert.GmlpFwdRefIdeal.τ).loc Cert.GmlpFwdRefIdeal.main_v114) = v3 c
          ∧ r.2.mem ((c.tc : Thread Cert.GmlpFwdRefIdeal.nD Cert.GmlpFwdRefIdeal.τ).loc Cert.GmlpFwdRefIdeal.main_v115) = v4 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v8_0)) (v1 : (c : Dev Cert.MergeFwdIdeal.nD) → Buf (Elt Ideal) ((c.tc : Thread Cert.MergeFwdIdeal.nD Cert.MergeFwdIdeal.τ).loc Cert.MergeFwdIdeal.main_v8_1)) (v2 : (c : Dev Cert.MergeFwdIdeal.nD) → Buf (Elt Ideal) ((c.tc : Thread Cert.MergeFwdIdeal.nD Cert.MergeFwdIdeal.τ).loc Cert.MergeFwdIdeal.main_v8_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v8_0) = v0 c
          ∧ r.2.mem ((c.tc : Thread Cert.MergeFwdIdeal.nD Cert.MergeFwdIdeal.τ).loc Cert.MergeFwdIdeal.main_v8_1) = v1 c
          ∧ r.2.mem ((c.tc : Thread Cert.MergeFwdIdeal.nD Cert.MergeFwdIdeal.τ).loc Cert.MergeFwdIdeal.main_v8_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v19) = v0 c
          ∧ r.2.mem ((c.tc : Thread Cert.MergeFwdRefIdeal.nD Cert.MergeFwdRefIdeal.τ).loc Cert.MergeFwdRefIdeal.main_v20) = v1 c
          ∧ r.2.mem ((c.tc : Thread Cert.MergeFwdRefIdeal.nD Cert.MergeFwdRefIdeal.τ).loc Cert.MergeFwdRefIdeal.main_v21) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v9_0)) (v1 : (c : Dev Cert.MixOutIdeal.nD) → Buf (Elt Ideal) ((c.tc : Thread Cert.MixOutIdeal.nD Cert.MixOutIdeal.τ).loc Cert.MixOutIdeal.main_v9_1)) (v2 : (c : Dev Cert.MixOutIdeal.nD) → Buf (Elt Ideal) ((c.tc : Thread Cert.MixOutIdeal.nD Cert.MixOutIdeal.τ).loc Cert.MixOutIdeal.main_v9_2)) (v3 : (c : Dev Cert.MixOutIdeal.nD) → Buf (Elt Ideal) ((c.tc : Thread Cert.MixOutIdeal.nD Cert.MixOutIdeal.τ).loc Cert.MixOutIdeal.main_v9_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v9_0) = v0 c
          ∧ r.2.mem ((c.tc : Thread Cert.MixOutIdeal.nD Cert.MixOutIdeal.τ).loc Cert.MixOutIdeal.main_v9_1) = v1 c
          ∧ r.2.mem ((c.tc : Thread Cert.MixOutIdeal.nD Cert.MixOutIdeal.τ).loc Cert.MixOutIdeal.main_v9_2) = v2 c
          ∧ r.2.mem ((c.tc : Thread Cert.MixOutIdeal.nD Cert.MixOutIdeal.τ).loc Cert.MixOutIdeal.main_v9_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v31) = v0 c
          ∧ r.2.mem ((c.tc : Thread Cert.MixOutRefIdeal.nD Cert.MixOutRefIdeal.τ).loc Cert.MixOutRefIdeal.main_v16) = v1 c
          ∧ r.2.mem ((c.tc : Thread Cert.MixOutRefIdeal.nD Cert.MixOutRefIdeal.τ).loc Cert.MixOutRefIdeal.main_v32) = v2 c
          ∧ r.2.mem ((c.tc : Thread Cert.MixOutRefIdeal.nD Cert.MixOutRefIdeal.τ).loc Cert.MixOutRefIdeal.main_v35) = v3 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v7_0)) (v1 : (c : Dev Cert.AttnOutIdeal.nD) → Buf (Elt Ideal) ((c.tc : Thread Cert.AttnOutIdeal.nD Cert.AttnOutIdeal.τ).loc Cert.AttnOutIdeal.main_v7_1)) (v2 : (c : Dev Cert.AttnOutIdeal.nD) → Buf (Elt Ideal) ((c.tc : Thread Cert.AttnOutIdeal.nD Cert.AttnOutIdeal.τ).loc Cert.AttnOutIdeal.main_v7_2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v7_0) = v0 c
          ∧ r.2.mem ((c.tc : Thread Cert.AttnOutIdeal.nD Cert.AttnOutIdeal.τ).loc Cert.AttnOutIdeal.main_v7_1) = v1 c
          ∧ r.2.mem ((c.tc : Thread Cert.AttnOutIdeal.nD Cert.AttnOutIdeal.τ).loc Cert.AttnOutIdeal.main_v7_2) = v2 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v17) = v0 c
          ∧ r.2.mem ((c.tc : Thread Cert.AttnOutRefIdeal.nD Cert.AttnOutRefIdeal.τ).loc Cert.AttnOutRefIdeal.main_v16) = v1 c
          ∧ r.2.mem ((c.tc : Thread Cert.AttnOutRefIdeal.nD Cert.AttnOutRefIdeal.τ).loc Cert.AttnOutRefIdeal.main_v32) = v2 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4))

def preserves_MemKvFwd_MemKvFwdIdeal : Prop :=
  True

def algebraic_MemKvFwdIdeal_MemKvFwdRefIdeal [hMemKvFwdIdeal : Cert.MemKvFwdIdeal.Facts] [hMemKvFwdRefIdeal : Cert.MemKvFwdRefIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg)
    (m' : (ℓ : Loc Cert.MemKvFwdRefIdeal.nD Cert.MemKvFwdRefIdeal.τ Cert.MemKvFwdRefIdeal.sig) → Buf (Elt Ideal) ℓ) (g' : Dev Cert.MemKvFwdRefIdeal.nD → PrngReg), Pre_MemKvFwdIdeal m →
    (∀ c : Dev Cert.MemKvFwdIdeal.nD,
      m' ((c.tc : Thread Cert.MemKvFwdRefIdeal.nD Cert.MemKvFwdRefIdeal.τ).loc Cert.MemKvFwdRefIdeal.main_arg0) = m ((c.tc : Thread Cert.MemKvFwdIdeal.nD Cert.MemKvFwdIdeal.τ).loc Cert.MemKvFwdIdeal.main_arg0)
      ∧ m' ((c.tc : Thread Cert.MemKvFwdRefIdeal.nD Cert.MemKvFwdRefIdeal.τ).loc Cert.MemKvFwdRefIdeal.main_arg1) = m ((c.tc : Thread Cert.MemKvFwdIdeal.nD Cert.MemKvFwdIdeal.τ).loc Cert.MemKvFwdIdeal.main_arg1)
      ∧ m' ((c.tc : Thread Cert.MemKvFwdRefIdeal.nD Cert.MemKvFwdRefIdeal.τ).loc Cert.MemKvFwdRefIdeal.main_arg2) = m ((c.tc : Thread Cert.MemKvFwdIdeal.nD Cert.MemKvFwdIdeal.τ).loc Cert.MemKvFwdIdeal.main_arg2)) →
    ∃ (v0 : (c : Dev Cert.MemKvFwdIdeal.nD) → Buf (Elt Ideal) ((c.tc : Thread Cert.MemKvFwdIdeal.nD Cert.MemKvFwdIdeal.τ).loc Cert.MemKvFwdIdeal.main_v5_0)) (v1 : (c : Dev Cert.MemKvFwdIdeal.nD) → Buf (Elt Ideal) ((c.tc : Thread Cert.MemKvFwdIdeal.nD Cert.MemKvFwdIdeal.τ).loc Cert.MemKvFwdIdeal.main_v5_1)) (v2 : (c : Dev Cert.MemKvFwdIdeal.nD) → Buf (Elt Ideal) ((c.tc : Thread Cert.MemKvFwdIdeal.nD Cert.MemKvFwdIdeal.τ).loc Cert.MemKvFwdIdeal.main_v5_2)),
      θ_run (Cert.MemKvFwdIdeal.defs (F := Ideal)) (onTc (τ := Cert.MemKvFwdIdeal.τ) (Cert.MemKvFwdIdeal.main (F := Ideal))) ⟨m, fun _ => 0, g⟩ (fun r => ∀ c : Dev Cert.MemKvFwdIdeal.nD,
          r.2.mem ((c.tc : Thread Cert.MemKvFwdIdeal.nD Cert.MemKvFwdIdeal.τ).loc Cert.MemKvFwdIdeal.main_v5_0) = v0 c
          ∧ r.2.mem ((c.tc : Thread Cert.MemKvFwdIdeal.nD Cert.MemKvFwdIdeal.τ).loc Cert.MemKvFwdIdeal.main_v5_1) = v1 c
          ∧ r.2.mem ((c.tc : Thread Cert.MemKvFwdIdeal.nD Cert.MemKvFwdIdeal.τ).loc Cert.MemKvFwdIdeal.main_v5_2) = v2 c
          ∧ r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
          ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
          ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ θ_run (Cert.MemKvFwdRefIdeal.defs (F := Ideal)) (onTc (τ := Cert.MemKvFwdRefIdeal.τ) (Cert.MemKvFwdRefIdeal.main (F := Ideal))) ⟨m', fun _ => 0, g'⟩ (fun r => ∀ c : Dev Cert.MemKvFwdRefIdeal.nD,
          r.2.mem ((c.tc : Thread Cert.MemKvFwdRefIdeal.nD Cert.MemKvFwdRefIdeal.τ).loc Cert.MemKvFwdRefIdeal.main_v19) = v0 c
          ∧ r.2.mem ((c.tc : Thread Cert.MemKvFwdRefIdeal.nD Cert.MemKvFwdRefIdeal.τ).loc Cert.MemKvFwdRefIdeal.main_v20) = v1 c
          ∧ r.2.mem ((c.tc : Thread Cert.MemKvFwdRefIdeal.nD Cert.MemKvFwdRefIdeal.τ).loc Cert.MemKvFwdRefIdeal.main_v21) = v2 c
          ∧ r.2.mem ((c.tc : Thread Cert.MemKvFwdRefIdeal.nD Cert.MemKvFwdRefIdeal.τ).loc Cert.MemKvFwdRefIdeal.main_arg0) = m' ((c.tc : Thread Cert.MemKvFwdRefIdeal.nD Cert.MemKvFwdRefIdeal.τ).loc Cert.MemKvFwdRefIdeal.main_arg0)
          ∧ r.2.mem ((c.tc : Thread Cert.MemKvFwdRefIdeal.nD Cert.MemKvFwdRefIdeal.τ).loc Cert.MemKvFwdRefIdeal.main_arg1) = m' ((c.tc : Thread Cert.MemKvFwdRefIdeal.nD Cert.MemKvFwdRefIdeal.τ).loc Cert.MemKvFwdRefIdeal.main_arg1)
          ∧ r.2.mem ((c.tc : Thread Cert.MemKvFwdRefIdeal.nD Cert.MemKvFwdRefIdeal.τ).loc Cert.MemKvFwdRefIdeal.main_arg2) = m' ((c.tc : Thread Cert.MemKvFwdRefIdeal.nD Cert.MemKvFwdRefIdeal.τ).loc Cert.MemKvFwdRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_v7) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_S5OutFwd_S5OutFwdIdeal : Prop :=
  IdealRules.named_const.Statement Cert.S5OutFwdIdeal.κ "c" .f32 0x3D372713#32 ((8943 / 200000 : ℝ) : EReal)

def algebraic_S5OutFwdIdeal_S5OutFwdRefIdeal [hS5OutFwdIdeal : Cert.S5OutFwdIdeal.Facts] [hS5OutFwdRefIdeal : Cert.S5OutFwdRefIdeal.Facts] : Prop :=
  ∀ (m : (ℓ : Loc Cert.S5OutFwdIdeal.nD Cert.S5OutFwdIdeal.τ Cert.S5OutFwdIdeal.sig) → Buf (Elt Ideal) ℓ) (g : Dev Cert.S5OutFwdIdeal.nD → PrngReg)
    (m' : (ℓ : Loc Cert.S5OutFwdRefIdeal.nD Cert.S5OutFwdRefIdeal.τ Cert.S5OutFwdRefIdeal.sig) → Buf (Elt Ideal) ℓ) (g' : Dev Cert.S5OutFwdRefIdeal.nD → PrngReg), Pre_S5OutFwdIdeal m →
    (∀ c : Dev Cert.S5OutFwdIdeal.nD,
      m' ((c.tc : Thread Cert.S5OutFwdRefIdeal.nD Cert.S5OutFwdRefIdeal.τ).loc Cert.S5OutFwdRefIdeal.main_arg0) = m ((c.tc : Thread Cert.S5OutFwdIdeal.nD Cert.S5OutFwdIdeal.τ).loc Cert.S5OutFwdIdeal.main_arg0)
      ∧ m' ((c.tc : Thread Cert.S5OutFwdRefIdeal.nD Cert.S5OutFwdRefIdeal.τ).loc Cert.S5OutFwdRefIdeal.main_arg1) = m ((c.tc : Thread Cert.S5OutFwdIdeal.nD Cert.S5OutFwdIdeal.τ).loc Cert.S5OutFwdIdeal.main_arg1)
      ∧ m' ((c.tc : Thread Cert.S5OutFwdRefIdeal.nD Cert.S5OutFwdRefIdeal.τ).loc Cert.S5OutFwdRefIdeal.main_arg2) = m ((c.tc : Thread Cert.S5OutFwdIdeal.nD Cert.S5OutFwdIdeal.τ).loc Cert.S5OutFwdIdeal.main_arg2)
      ∧ m' ((c.tc : Thread Cert.S5OutFwdRefIdeal.nD Cert.S5OutFwdRefIdeal.τ).loc Cert.S5OutFwdRefIdeal.main_arg3) = m ((c.tc : Thread Cert.S5OutFwdIdeal.nD Cert.S5OutFwdIdeal.τ).loc Cert.S5OutFwdIdeal.main_arg3)) →
    ∃ (v0 : (c : Dev Cert.S5OutFwdIdeal.nD) → Buf (Elt Ideal) ((c.tc : Thread Cert.S5OutFwdIdeal.nD Cert.S5OutFwdIdeal.τ).loc Cert.S5OutFwdIdeal.main_v4_0)) (v1 : (c : Dev Cert.S5OutFwdIdeal.nD) → Buf (Elt Ideal) ((c.tc : Thread Cert.S5OutFwdIdeal.nD Cert.S5OutFwdIdeal.τ).loc Cert.S5OutFwdIdeal.main_v4_1)) (v2 : (c : Dev Cert.S5OutFwdIdeal.nD) → Buf (Elt Ideal) ((c.tc : Thread Cert.S5OutFwdIdeal.nD Cert.S5OutFwdIdeal.τ).loc Cert.S5OutFwdIdeal.main_v4_2)),
      θ_run (Cert.S5OutFwdIdeal.defs (F := Ideal)) (onTc (τ := Cert.S5OutFwdIdeal.τ) (Cert.S5OutFwdIdeal.main (F := Ideal))) ⟨m, fun _ => 0, g⟩ (fun r => ∀ c : Dev Cert.S5OutFwdIdeal.nD,
          r.2.mem ((c.tc : Thread Cert.S5OutFwdIdeal.nD Cert.S5OutFwdIdeal.τ).loc Cert.S5OutFwdIdeal.main_v4_0) = v0 c
          ∧ r.2.mem ((c.tc : Thread Cert.S5OutFwdIdeal.nD Cert.S5OutFwdIdeal.τ).loc Cert.S5OutFwdIdeal.main_v4_1) = v1 c
          ∧ r.2.mem ((c.tc : Thread Cert.S5OutFwdIdeal.nD Cert.S5OutFwdIdeal.τ).loc Cert.S5OutFwdIdeal.main_v4_2) = v2 c
          ∧ r.2.mem ((c.tc : Thread Cert.S5OutFwdIdeal.nD Cert.S5OutFwdIdeal.τ).loc Cert.S5OutFwdIdeal.main_arg0) = m ((c.tc : Thread Cert.S5OutFwdIdeal.nD Cert.S5OutFwdIdeal.τ).loc Cert.S5OutFwdIdeal.main_arg0)
          ∧ r.2.mem ((c.tc : Thread Cert.S5OutFwdIdeal.nD Cert.S5OutFwdIdeal.τ).loc Cert.S5OutFwdIdeal.main_arg1) = m ((c.tc : Thread Cert.S5OutFwdIdeal.nD Cert.S5OutFwdIdeal.τ).loc Cert.S5OutFwdIdeal.main_arg1)
          ∧ r.2.mem ((c.tc : Thread Cert.S5OutFwdIdeal.nD Cert.S5OutFwdIdeal.τ).loc Cert.S5OutFwdIdeal.main_arg2) = m ((c.tc : Thread Cert.S5OutFwdIdeal.nD Cert.S5OutFwdIdeal.τ).loc Cert.S5OutFwdIdeal.main_arg2)
          ∧ r.2.mem ((c.tc : Thread Cert.S5OutFwdIdeal.nD Cert.S5OutFwdIdeal.τ).loc Cert.S5OutFwdIdeal.main_arg3) = m ((c.tc : Thread Cert.S5OutFwdIdeal.nD Cert.S5OutFwdIdeal.τ).loc Cert.S5OutFwdIdeal.main_arg3))
      ∧ θ_run (Cert.S5OutFwdRefIdeal.defs (F := Ideal)) (onTc (τ := Cert.S5OutFwdRefIdeal.τ) (Cert.S5OutFwdRefIdeal.main (F := Ideal))) ⟨m', fun _ => 0, g'⟩ (fun r => ∀ c : Dev Cert.S5OutFwdRefIdeal.nD,
          r.2.mem ((c.tc : Thread Cert.S5OutFwdRefIdeal.nD Cert.S5OutFwdRefIdeal.τ).loc Cert.S5OutFwdRefIdeal.main_v5) = v0 c
          ∧ r.2.mem ((c.tc : Thread Cert.S5OutFwdRefIdeal.nD Cert.S5OutFwdRefIdeal.τ).loc Cert.S5OutFwdRefIdeal.main_v21) = v1 c
          ∧ r.2.mem ((c.tc : Thread Cert.S5OutFwdRefIdeal.nD Cert.S5OutFwdRefIdeal.τ).loc Cert.S5OutFwdRefIdeal.main_v29) = v2 c
          ∧ r.2.mem ((c.tc : Thread Cert.S5OutFwdRefIdeal.nD Cert.S5OutFwdRefIdeal.τ).loc Cert.S5OutFwdRefIdeal.main_arg0) = m' ((c.tc : Thread Cert.S5OutFwdRefIdeal.nD Cert.S5OutFwdRefIdeal.τ).loc Cert.S5OutFwdRefIdeal.main_arg0)
          ∧ r.2.mem ((c.tc : Thread Cert.S5OutFwdRefIdeal.nD Cert.S5OutFwdRefIdeal.τ).loc Cert.S5OutFwdRefIdeal.main_arg1) = m' ((c.tc : Thread Cert.S5OutFwdRefIdeal.nD Cert.S5OutFwdRefIdeal.τ).loc Cert.S5OutFwdRefIdeal.main_arg1)
          ∧ r.2.mem ((c.tc : Thread Cert.S5OutFwdRefIdeal.nD Cert.S5OutFwdRefIdeal.τ).loc Cert.S5OutFwdRefIdeal.main_arg2) = m' ((c.tc : Thread Cert.S5OutFwdRefIdeal.nD Cert.S5OutFwdRefIdeal.τ).loc Cert.S5OutFwdRefIdeal.main_arg2)
          ∧ r.2.mem ((c.tc : Thread Cert.S5OutFwdRefIdeal.nD Cert.S5OutFwdRefIdeal.τ).loc Cert.S5OutFwdRefIdeal.main_arg3) = m' ((c.tc : Thread Cert.S5OutFwdRefIdeal.nD Cert.S5OutFwdRefIdeal.τ).loc Cert.S5OutFwdRefIdeal.main_arg3))

def preserves_InProjFwd_InProjFwdIdeal : Prop :=
  True

def algebraic_InProjFwdIdeal_InProjFwdRefIdeal [hInProjFwdIdeal : Cert.InProjFwdIdeal.Facts] [hInProjFwdRefIdeal : Cert.InProjFwdRefIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg)
    (m' : (ℓ : Loc Cert.InProjFwdRefIdeal.nD Cert.InProjFwdRefIdeal.τ Cert.InProjFwdRefIdeal.sig) → Buf (Elt Ideal) ℓ) (g' : Dev Cert.InProjFwdRefIdeal.nD → PrngReg), Pre_InProjFwdIdeal m →
    (∀ c : Dev Cert.InProjFwdIdeal.nD,
      m' ((c.tc : Thread Cert.InProjFwdRefIdeal.nD Cert.InProjFwdRefIdeal.τ).loc Cert.InProjFwdRefIdeal.main_arg0) = m ((c.tc : Thread Cert.InProjFwdIdeal.nD Cert.InProjFwdIdeal.τ).loc Cert.InProjFwdIdeal.main_arg0)
      ∧ m' ((c.tc : Thread Cert.InProjFwdRefIdeal.nD Cert.InProjFwdRefIdeal.τ).loc Cert.InProjFwdRefIdeal.main_arg1) = m ((c.tc : Thread Cert.InProjFwdIdeal.nD Cert.InProjFwdIdeal.τ).loc Cert.InProjFwdIdeal.main_arg1)
      ∧ m' ((c.tc : Thread Cert.InProjFwdRefIdeal.nD Cert.InProjFwdRefIdeal.τ).loc Cert.InProjFwdRefIdeal.main_arg2) = m ((c.tc : Thread Cert.InProjFwdIdeal.nD Cert.InProjFwdIdeal.τ).loc Cert.InProjFwdIdeal.main_arg2)) →
    ∃ (v0 : (c : Dev Cert.InProjFwdIdeal.nD) → Buf (Elt Ideal) ((c.tc : Thread Cert.InProjFwdIdeal.nD Cert.InProjFwdIdeal.τ).loc Cert.InProjFwdIdeal.main_v5_0)) (v1 : (c : Dev Cert.InProjFwdIdeal.nD) → Buf (Elt Ideal) ((c.tc : Thread Cert.InProjFwdIdeal.nD Cert.InProjFwdIdeal.τ).loc Cert.InProjFwdIdeal.main_v5_1)) (v2 : (c : Dev Cert.InProjFwdIdeal.nD) → Buf (Elt Ideal) ((c.tc : Thread Cert.InProjFwdIdeal.nD Cert.InProjFwdIdeal.τ).loc Cert.InProjFwdIdeal.main_v5_2)) (v3 : (c : Dev Cert.InProjFwdIdeal.nD) → Buf (Elt Ideal) ((c.tc : Thread Cert.InProjFwdIdeal.nD Cert.InProjFwdIdeal.τ).loc Cert.InProjFwdIdeal.main_v5_3)) (v4 : (c : Dev Cert.InProjFwdIdeal.nD) → Buf (Elt Ideal) ((c.tc : Thread Cert.InProjFwdIdeal.nD Cert.InProjFwdIdeal.τ).loc Cert.InProjFwdIdeal.main_v5_4)),
      θ_run (Cert.InProjFwdIdeal.defs (F := Ideal)) (onTc (τ := Cert.InProjFwdIdeal.τ) (Cert.InProjFwdIdeal.main (F := Ideal))) ⟨m, fun _ => 0, g⟩ (fun r => ∀ c : Dev Cert.InProjFwdIdeal.nD,
          r.2.mem ((c.tc : Thread Cert.InProjFwdIdeal.nD Cert.InProjFwdIdeal.τ).loc Cert.InProjFwdIdeal.main_v5_0) = v0 c
          ∧ r.2.mem ((c.tc : Thread Cert.InProjFwdIdeal.nD Cert.InProjFwdIdeal.τ).loc Cert.InProjFwdIdeal.main_v5_1) = v1 c
          ∧ r.2.mem ((c.tc : Thread Cert.InProjFwdIdeal.nD Cert.InProjFwdIdeal.τ).loc Cert.InProjFwdIdeal.main_v5_2) = v2 c
          ∧ r.2.mem ((c.tc : Thread Cert.InProjFwdIdeal.nD Cert.InProjFwdIdeal.τ).loc Cert.InProjFwdIdeal.main_v5_3) = v3 c
          ∧ r.2.mem ((c.tc : Thread Cert.InProjFwdIdeal.nD Cert.InProjFwdIdeal.τ).loc Cert.InProjFwdIdeal.main_v5_4) = v4 c
          ∧ r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
          ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
          ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2))
      ∧ θ_run (Cert.InProjFwdRefIdeal.defs (F := Ideal)) (onTc (τ := Cert.InProjFwdRefIdeal.τ) (Cert.InProjFwdRefIdeal.main (F := Ideal))) ⟨m', fun _ => 0, g'⟩ (fun r => ∀ c : Dev Cert.InProjFwdRefIdeal.nD,
          r.2.mem ((c.tc : Thread Cert.InProjFwdRefIdeal.nD Cert.InProjFwdRefIdeal.τ).loc Cert.InProjFwdRefIdeal.main_v20) = v0 c
          ∧ r.2.mem ((c.tc : Thread Cert.InProjFwdRefIdeal.nD Cert.InProjFwdRefIdeal.τ).loc Cert.InProjFwdRefIdeal.main_v17) = v1 c
          ∧ r.2.mem ((c.tc : Thread Cert.InProjFwdRefIdeal.nD Cert.InProjFwdRefIdeal.τ).loc Cert.InProjFwdRefIdeal.main_v21) = v2 c
          ∧ r.2.mem ((c.tc : Thread Cert.InProjFwdRefIdeal.nD Cert.InProjFwdRefIdeal.τ).loc Cert.InProjFwdRefIdeal.main_v22) = v3 c
          ∧ r.2.mem ((c.tc : Thread Cert.InProjFwdRefIdeal.nD Cert.InProjFwdRefIdeal.τ).loc Cert.InProjFwdRefIdeal.main_v23) = v4 c
          ∧ r.2.mem ((c.tc : Thread Cert.InProjFwdRefIdeal.nD Cert.InProjFwdRefIdeal.τ).loc Cert.InProjFwdRefIdeal.main_arg0) = m' ((c.tc : Thread Cert.InProjFwdRefIdeal.nD Cert.InProjFwdRefIdeal.τ).loc Cert.InProjFwdRefIdeal.main_arg0)
          ∧ r.2.mem ((c.tc : Thread Cert.InProjFwdRefIdeal.nD Cert.InProjFwdRefIdeal.τ).loc Cert.InProjFwdRefIdeal.main_arg1) = m' ((c.tc : Thread Cert.InProjFwdRefIdeal.nD Cert.InProjFwdRefIdeal.τ).loc Cert.InProjFwdRefIdeal.main_arg1)
          ∧ r.2.mem ((c.tc : Thread Cert.InProjFwdRefIdeal.nD Cert.InProjFwdRefIdeal.τ).loc Cert.InProjFwdRefIdeal.main_arg2) = m' ((c.tc : Thread Cert.InProjFwdRefIdeal.nD Cert.InProjFwdRefIdeal.τ).loc Cert.InProjFwdRefIdeal.main_arg2))

def preserves_DwFfn_DwFfnIdeal : Prop :=
  True

def algebraic_DwFfnIdeal_DwFfnRefIdeal [hDwFfnIdeal : Cert.DwFfnIdeal.Facts] [hDwFfnRefIdeal : Cert.DwFfnRefIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg)
    (m' : (ℓ : Loc Cert.DwFfnRefIdeal.nD Cert.DwFfnRefIdeal.τ Cert.DwFfnRefIdeal.sig) → Buf (Elt Ideal) ℓ) (g' : Dev Cert.DwFfnRefIdeal.nD → PrngReg), Pre_DwFfnIdeal m →
    (∀ c : Dev Cert.DwFfnIdeal.nD,
      m' ((c.tc : Thread Cert.DwFfnRefIdeal.nD Cert.DwFfnRefIdeal.τ).loc Cert.DwFfnRefIdeal.main_arg0) = m ((c.tc : Thread Cert.DwFfnIdeal.nD Cert.DwFfnIdeal.τ).loc Cert.DwFfnIdeal.main_arg0)
      ∧ m' ((c.tc : Thread Cert.DwFfnRefIdeal.nD Cert.DwFfnRefIdeal.τ).loc Cert.DwFfnRefIdeal.main_arg1) = m ((c.tc : Thread Cert.DwFfnIdeal.nD Cert.DwFfnIdeal.τ).loc Cert.DwFfnIdeal.main_arg1)) →
    ∃ (v0 : (c : Dev Cert.DwFfnIdeal.nD) → Buf (Elt Ideal) ((c.tc : Thread Cert.DwFfnIdeal.nD Cert.DwFfnIdeal.τ).loc Cert.DwFfnIdeal.main_v2)),
      θ_run (Cert.DwFfnIdeal.defs (F := Ideal)) (onTc (τ := Cert.DwFfnIdeal.τ) (Cert.DwFfnIdeal.main (F := Ideal))) ⟨m, fun _ => 0, g⟩ (fun r => ∀ c : Dev Cert.DwFfnIdeal.nD,
          r.2.mem ((c.tc : Thread Cert.DwFfnIdeal.nD Cert.DwFfnIdeal.τ).loc Cert.DwFfnIdeal.main_v2) = v0 c
          ∧ r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
          ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ θ_run (Cert.DwFfnRefIdeal.defs (F := Ideal)) (onTc (τ := Cert.DwFfnRefIdeal.τ) (Cert.DwFfnRefIdeal.main (F := Ideal))) ⟨m', fun _ => 0, g'⟩ (fun r => ∀ c : Dev Cert.DwFfnRefIdeal.nD,
          r.2.mem ((c.tc : Thread Cert.DwFfnRefIdeal.nD Cert.DwFfnRefIdeal.τ).loc Cert.DwFfnRefIdeal.main_v8) = v0 c
          ∧ r.2.mem ((c.tc : Thread Cert.DwFfnRefIdeal.nD Cert.DwFfnRefIdeal.τ).loc Cert.DwFfnRefIdeal.main_arg0) = m' ((c.tc : Thread Cert.DwFfnRefIdeal.nD Cert.DwFfnRefIdeal.τ).loc Cert.DwFfnRefIdeal.main_arg0)
          ∧ r.2.mem ((c.tc : Thread Cert.DwFfnRefIdeal.nD Cert.DwFfnRefIdeal.τ).loc Cert.DwFfnRefIdeal.main_arg1) = m' ((c.tc : Thread Cert.DwFfnRefIdeal.nD Cert.DwFfnRefIdeal.τ).loc Cert.DwFfnRefIdeal.main_arg1))

def preserves_SumAdamw_SumAdamwIdeal : Prop :=
  True

def algebraic_SumAdamwIdeal_SumAdamwRefIdeal [hSumAdamwIdeal : Cert.SumAdamwIdeal.Facts] [hSumAdamwRefIdeal : Cert.SumAdamwRefIdeal.Facts] : Prop :=
  ∀ (m : (ℓ : Loc Cert.SumAdamwIdeal.nD Cert.SumAdamwIdeal.τ Cert.SumAdamwIdeal.sig) → Buf (Elt Ideal) ℓ) (g : Dev Cert.SumAdamwIdeal.nD → PrngReg)
    (m' : (ℓ : Loc Cert.SumAdamwRefIdeal.nD Cert.SumAdamwRefIdeal.τ Cert.SumAdamwRefIdeal.sig) → Buf (Elt Ideal) ℓ) (g' : Dev Cert.SumAdamwRefIdeal.nD → PrngReg), Pre_SumAdamwIdeal m →
    (∀ c : Dev Cert.SumAdamwIdeal.nD,
      m' ((c.tc : Thread Cert.SumAdamwRefIdeal.nD Cert.SumAdamwRefIdeal.τ).loc Cert.SumAdamwRefIdeal.main_arg0) = m ((c.tc : Thread Cert.SumAdamwIdeal.nD Cert.SumAdamwIdeal.τ).loc Cert.SumAdamwIdeal.main_arg0)
      ∧ m' ((c.tc : Thread Cert.SumAdamwRefIdeal.nD Cert.SumAdamwRefIdeal.τ).loc Cert.SumAdamwRefIdeal.main_arg1) = m ((c.tc : Thread Cert.SumAdamwIdeal.nD Cert.SumAdamwIdeal.τ).loc Cert.SumAdamwIdeal.main_arg1)
      ∧ m' ((c.tc : Thread Cert.SumAdamwRefIdeal.nD Cert.SumAdamwRefIdeal.τ).loc Cert.SumAdamwRefIdeal.main_arg2) = m ((c.tc : Thread Cert.SumAdamwIdeal.nD Cert.SumAdamwIdeal.τ).loc Cert.SumAdamwIdeal.main_arg2)
      ∧ m' ((c.tc : Thread Cert.SumAdamwRefIdeal.nD Cert.SumAdamwRefIdeal.τ).loc Cert.SumAdamwRefIdeal.main_arg3) = m ((c.tc : Thread Cert.SumAdamwIdeal.nD Cert.SumAdamwIdeal.τ).loc Cert.SumAdamwIdeal.main_arg3)) →
    ∃ (v0 : (c : Dev Cert.SumAdamwIdeal.nD) → Buf (Elt Ideal) ((c.tc : Thread Cert.SumAdamwIdeal.nD Cert.SumAdamwIdeal.τ).loc Cert.SumAdamwIdeal.main_v1_0)) (v1 : (c : Dev Cert.SumAdamwIdeal.nD) → Buf (Elt Ideal) ((c.tc : Thread Cert.SumAdamwIdeal.nD Cert.SumAdamwIdeal.τ).loc Cert.SumAdamwIdeal.main_v1_1)) (v2 : (c : Dev Cert.SumAdamwIdeal.nD) → Buf (Elt Ideal) ((c.tc : Thread Cert.SumAdamwIdeal.nD Cert.SumAdamwIdeal.τ).loc Cert.SumAdamwIdeal.main_v1_2)) (v3 : (c : Dev Cert.SumAdamwIdeal.nD) → Buf (Elt Ideal) ((c.tc : Thread Cert.SumAdamwIdeal.nD Cert.SumAdamwIdeal.τ).loc Cert.SumAdamwIdeal.main_v1_3)),
      θ_run (Cert.SumAdamwIdeal.defs (F := Ideal)) (onTc (τ := Cert.SumAdamwIdeal.τ) (Cert.SumAdamwIdeal.main (F := Ideal))) ⟨m, fun _ => 0, g⟩ (fun r => ∀ c : Dev Cert.SumAdamwIdeal.nD,
          r.2.mem ((c.tc : Thread Cert.SumAdamwIdeal.nD Cert.SumAdamwIdeal.τ).loc Cert.SumAdamwIdeal.main_v1_0) = v0 c
          ∧ r.2.mem ((c.tc : Thread Cert.SumAdamwIdeal.nD Cert.SumAdamwIdeal.τ).loc Cert.SumAdamwIdeal.main_v1_1) = v1 c
          ∧ r.2.mem ((c.tc : Thread Cert.SumAdamwIdeal.nD Cert.SumAdamwIdeal.τ).loc Cert.SumAdamwIdeal.main_v1_2) = v2 c
          ∧ r.2.mem ((c.tc : Thread Cert.SumAdamwIdeal.nD Cert.SumAdamwIdeal.τ).loc Cert.SumAdamwIdeal.main_v1_3) = v3 c
          ∧ r.2.mem ((c.tc : Thread Cert.SumAdamwIdeal.nD Cert.SumAdamwIdeal.τ).loc Cert.SumAdamwIdeal.main_arg0) = m ((c.tc : Thread Cert.SumAdamwIdeal.nD Cert.SumAdamwIdeal.τ).loc Cert.SumAdamwIdeal.main_arg0)
          ∧ r.2.mem ((c.tc : Thread Cert.SumAdamwIdeal.nD Cert.SumAdamwIdeal.τ).loc Cert.SumAdamwIdeal.main_arg1) = m ((c.tc : Thread Cert.SumAdamwIdeal.nD Cert.SumAdamwIdeal.τ).loc Cert.SumAdamwIdeal.main_arg1)
          ∧ r.2.mem ((c.tc : Thread Cert.SumAdamwIdeal.nD Cert.SumAdamwIdeal.τ).loc Cert.SumAdamwIdeal.main_arg2) = m ((c.tc : Thread Cert.SumAdamwIdeal.nD Cert.SumAdamwIdeal.τ).loc Cert.SumAdamwIdeal.main_arg2)
          ∧ r.2.mem ((c.tc : Thread Cert.SumAdamwIdeal.nD Cert.SumAdamwIdeal.τ).loc Cert.SumAdamwIdeal.main_arg3) = m ((c.tc : Thread Cert.SumAdamwIdeal.nD Cert.SumAdamwIdeal.τ).loc Cert.SumAdamwIdeal.main_arg3))
      ∧ θ_run (Cert.SumAdamwRefIdeal.defs (F := Ideal)) (onTc (τ := Cert.SumAdamwRefIdeal.τ) (Cert.SumAdamwRefIdeal.main (F := Ideal))) ⟨m', fun _ => 0, g'⟩ (fun r => ∀ c : Dev Cert.SumAdamwRefIdeal.nD,
          r.2.mem ((c.tc : Thread Cert.SumAdamwRefIdeal.nD Cert.SumAdamwRefIdeal.τ).loc Cert.SumAdamwRefIdeal.main_v0) = v0 c
          ∧ r.2.mem ((c.tc : Thread Cert.SumAdamwRefIdeal.nD Cert.SumAdamwRefIdeal.τ).loc Cert.SumAdamwRefIdeal.main_v24) = v1 c
          ∧ r.2.mem ((c.tc : Thread Cert.SumAdamwRefIdeal.nD Cert.SumAdamwRefIdeal.τ).loc Cert.SumAdamwRefIdeal.main_v5) = v2 c
          ∧ r.2.mem ((c.tc : Thread Cert.SumAdamwRefIdeal.nD Cert.SumAdamwRefIdeal.τ).loc Cert.SumAdamwRefIdeal.main_v11) = v3 c
          ∧ r.2.mem ((c.tc : Thread Cert.SumAdamwRefIdeal.nD Cert.SumAdamwRefIdeal.τ).loc Cert.SumAdamwRefIdeal.main_arg0) = m' ((c.tc : Thread Cert.SumAdamwRefIdeal.nD Cert.SumAdamwRefIdeal.τ).loc Cert.SumAdamwRefIdeal.main_arg0)
          ∧ r.2.mem ((c.tc : Thread Cert.SumAdamwRefIdeal.nD Cert.SumAdamwRefIdeal.τ).loc Cert.SumAdamwRefIdeal.main_arg1) = m' ((c.tc : Thread Cert.SumAdamwRefIdeal.nD Cert.SumAdamwRefIdeal.τ).loc Cert.SumAdamwRefIdeal.main_arg1)
          ∧ r.2.mem ((c.tc : Thread Cert.SumAdamwRefIdeal.nD Cert.SumAdamwRefIdeal.τ).loc Cert.SumAdamwRefIdeal.main_arg2) = m' ((c.tc : Thread Cert.SumAdamwRefIdeal.nD Cert.SumAdamwRefIdeal.τ).loc Cert.SumAdamwRefIdeal.main_arg2)
          ∧ r.2.mem ((c.tc : Thread Cert.SumAdamwRefIdeal.nD Cert.SumAdamwRefIdeal.τ).loc Cert.SumAdamwRefIdeal.main_arg3) = m' ((c.tc : Thread Cert.SumAdamwRefIdeal.nD Cert.SumAdamwRefIdeal.τ).loc Cert.SumAdamwRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)) →
    ∃ (v0 : (c : Dev Cert.SmallIdeal.nD) → Buf (Elt Ideal) ((c.tc : Thread Cert.SmallIdeal.nD Cert.SmallIdeal.τ).loc Cert.SmallIdeal.main_v5_0)) (v1 : (c : Dev Cert.SmallIdeal.nD) → Buf (Elt Ideal) ((c.tc : Thread Cert.SmallIdeal.nD Cert.SmallIdeal.τ).loc Cert.SmallIdeal.main_v5_1)) (v2 : (c : Dev Cert.SmallIdeal.nD) → Buf (Elt Ideal) ((c.tc : Thread Cert.SmallIdeal.nD Cert.SmallIdeal.τ).loc Cert.SmallIdeal.main_v5_2)) (v3 : (c : Dev Cert.SmallIdeal.nD) → Buf (Elt Ideal) ((c.tc : Thread Cert.SmallIdeal.nD Cert.SmallIdeal.τ).loc Cert.SmallIdeal.main_v5_3)) (v4 : (c : Dev Cert.SmallIdeal.nD) → Buf (Elt Ideal) ((c.tc : Thread Cert.SmallIdeal.nD Cert.SmallIdeal.τ).loc Cert.SmallIdeal.main_v5_4)) (v5 : (c : Dev Cert.SmallIdeal.nD) → Buf (Elt Ideal) ((c.tc : Thread Cert.SmallIdeal.nD Cert.SmallIdeal.τ).loc Cert.SmallIdeal.main_v5_5)) (v6 : (c : Dev Cert.SmallIdeal.nD) → Buf (Elt Ideal) ((c.tc : Thread Cert.SmallIdeal.nD Cert.SmallIdeal.τ).loc Cert.SmallIdeal.main_v5_6)) (v7 : (c : Dev Cert.SmallIdeal.nD) → Buf (Elt Ideal) ((c.tc : Thread Cert.SmallIdeal.nD Cert.SmallIdeal.τ).loc Cert.SmallIdeal.main_v5_7)) (v8 : (c : Dev Cert.SmallIdeal.nD) → Buf (Elt Ideal) ((c.tc : Thread Cert.SmallIdeal.nD Cert.SmallIdeal.τ).loc Cert.SmallIdeal.main_v5_8)) (v9 : (c : Dev Cert.SmallIdeal.nD) → Buf (Elt Ideal) ((c.tc : Thread Cert.SmallIdeal.nD Cert.SmallIdeal.τ).loc Cert.SmallIdeal.main_v5_9)) (v10 : (c : Dev Cert.SmallIdeal.nD) → Buf (Elt Ideal) ((c.tc : Thread Cert.SmallIdeal.nD Cert.SmallIdeal.τ).loc Cert.SmallIdeal.main_v5_10)) (v11 : (c : Dev Cert.SmallIdeal.nD) → Buf (Elt Ideal) ((c.tc : Thread Cert.SmallIdeal.nD Cert.SmallIdeal.τ).loc Cert.SmallIdeal.main_v5_11)) (v12 : (c : Dev Cert.SmallIdeal.nD) → Buf (Elt Ideal) ((c.tc : Thread Cert.SmallIdeal.nD Cert.SmallIdeal.τ).loc Cert.SmallIdeal.main_v5_12)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v5_0) = v0 c
          ∧ r.2.mem ((c.tc : Thread Cert.SmallIdeal.nD Cert.SmallIdeal.τ).loc Cert.SmallIdeal.main_v5_1) = v1 c
          ∧ r.2.mem ((c.tc : Thread Cert.SmallIdeal.nD Cert.SmallIdeal.τ).loc Cert.SmallIdeal.main_v5_2) = v2 c
          ∧ r.2.mem ((c.tc : Thread Cert.SmallIdeal.nD Cert.SmallIdeal.τ).loc Cert.SmallIdeal.main_v5_3) = v3 c
          ∧ r.2.mem ((c.tc : Thread Cert.SmallIdeal.nD Cert.SmallIdeal.τ).loc Cert.SmallIdeal.main_v5_4) = v4 c
          ∧ r.2.mem ((c.tc : Thread Cert.SmallIdeal.nD Cert.SmallIdeal.τ).loc Cert.SmallIdeal.main_v5_5) = v5 c
          ∧ r.2.mem ((c.tc : Thread Cert.SmallIdeal.nD Cert.SmallIdeal.τ).loc Cert.SmallIdeal.main_v5_6) = v6 c
          ∧ r.2.mem ((c.tc : Thread Cert.SmallIdeal.nD Cert.SmallIdeal.τ).loc Cert.SmallIdeal.main_v5_7) = v7 c
          ∧ r.2.mem ((c.tc : Thread Cert.SmallIdeal.nD Cert.SmallIdeal.τ).loc Cert.SmallIdeal.main_v5_8) = v8 c
          ∧ r.2.mem ((c.tc : Thread Cert.SmallIdeal.nD Cert.SmallIdeal.τ).loc Cert.SmallIdeal.main_v5_9) = v9 c
          ∧ r.2.mem ((c.tc : Thread Cert.SmallIdeal.nD Cert.SmallIdeal.τ).loc Cert.SmallIdeal.main_v5_10) = v10 c
          ∧ r.2.mem ((c.tc : Thread Cert.SmallIdeal.nD Cert.SmallIdeal.τ).loc Cert.SmallIdeal.main_v5_11) = v11 c
          ∧ r.2.mem ((c.tc : Thread Cert.SmallIdeal.nD Cert.SmallIdeal.τ).loc Cert.SmallIdeal.main_v5_12) = v12 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v24) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v11) = v3 c
          ∧ r.2.mem ((c.tc : Thread Cert.SmallRefIdeal.nD Cert.SmallRefIdeal.τ).loc Cert.SmallRefIdeal.main_v25) = v4 c
          ∧ r.2.mem ((c.tc : Thread Cert.SmallRefIdeal.nD Cert.SmallRefIdeal.τ).loc Cert.SmallRefIdeal.main_v49) = v5 c
          ∧ r.2.mem ((c.tc : Thread Cert.SmallRefIdeal.nD Cert.SmallRefIdeal.τ).loc Cert.SmallRefIdeal.main_v30) = v6 c
          ∧ r.2.mem ((c.tc : Thread Cert.SmallRefIdeal.nD Cert.SmallRefIdeal.τ).loc Cert.SmallRefIdeal.main_v36) = v7 c
          ∧ r.2.mem ((c.tc : Thread Cert.SmallRefIdeal.nD Cert.SmallRefIdeal.τ).loc Cert.SmallRefIdeal.main_v51) = v8 c
          ∧ r.2.mem ((c.tc : Thread Cert.SmallRefIdeal.nD Cert.SmallRefIdeal.τ).loc Cert.SmallRefIdeal.main_v75) = v9 c
          ∧ r.2.mem ((c.tc : Thread Cert.SmallRefIdeal.nD Cert.SmallRefIdeal.τ).loc Cert.SmallRefIdeal.main_v56) = v10 c
          ∧ r.2.mem ((c.tc : Thread Cert.SmallRefIdeal.nD Cert.SmallRefIdeal.τ).loc Cert.SmallRefIdeal.main_v62) = v11 c
          ∧ r.2.mem ((c.tc : Thread Cert.SmallRefIdeal.nD Cert.SmallRefIdeal.τ).loc Cert.SmallRefIdeal.main_v76) = v12 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18))

def Claim : Prop :=
  ∃ (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hAct : Cert.Act.Facts) (hActIdeal : Cert.ActIdeal.Facts) (hActRefIdeal : Cert.ActRefIdeal.Facts) (hS5Out : Cert.S5Out.Facts) (hS5OutIdeal : Cert.S5OutIdeal.Facts) (hS5OutRefIdeal : Cert.S5OutRefIdeal.Facts) (hLoss : Cert.Loss.Facts) (hLossIdeal : Cert.LossIdeal.Facts) (hLossRefIdeal : Cert.LossRefIdeal.Facts) (hFfnIn : Cert.FfnIn.Facts) (hFfnInIdeal : Cert.FfnInIdeal.Facts) (hFfnInRefIdeal : Cert.FfnInRefIdeal.Facts) (hAttnIn : Cert.AttnIn.Facts) (hAttnInIdeal : Cert.AttnInIdeal.Facts) (hAttnInRefIdeal : Cert.AttnInRefIdeal.Facts) (hInProj : Cert.InProj.Facts) (hInProjIdeal : Cert.InProjIdeal.Facts) (hInProjRefIdeal : Cert.InProjRefIdeal.Facts) (hAttn : Cert.Attn.Facts) (hAttnIdeal : Cert.AttnIdeal.Facts) (hAttnRefIdeal : Cert.AttnRefIdeal.Facts) (hGmlp : Cert.Gmlp.Facts) (hGmlpIdeal : Cert.GmlpIdeal.Facts) (hGmlpRefIdeal : Cert.GmlpRefIdeal.Facts) (hAttnFwd : Cert.AttnFwd.Facts) (hAttnFwdIdeal : Cert.AttnFwdIdeal.Facts) (hAttnFwdRefIdeal : Cert.AttnFwdRefIdeal.Facts) (hGmlpFwd : Cert.GmlpFwd.Facts) (hGmlpFwdIdeal : Cert.GmlpFwdIdeal.Facts) (hGmlpFwdRefIdeal : Cert.GmlpFwdRefIdeal.Facts) (hMergeFwd : Cert.MergeFwd.Facts) (hMergeFwdIdeal : Cert.MergeFwdIdeal.Facts) (hMergeFwdRefIdeal : Cert.MergeFwdRefIdeal.Facts) (hMixOut : Cert.MixOut.Facts) (hMixOutIdeal : Cert.MixOutIdeal.Facts) (hMixOutRefIdeal : Cert.MixOutRefIdeal.Facts) (hAttnOut : Cert.AttnOut.Facts) (hAttnOutIdeal : Cert.AttnOutIdeal.Facts) (hAttnOutRefIdeal : Cert.AttnOutRefIdeal.Facts) (hMemKvFwd : Cert.MemKvFwd.Facts) (hMemKvFwdIdeal : Cert.MemKvFwdIdeal.Facts) (hMemKvFwdRefIdeal : Cert.MemKvFwdRefIdeal.Facts) (hFfnUp : Cert.FfnUp.Facts) (hFfnUpIdeal : Cert.FfnUpIdeal.Facts) (hFfnUpRefIdeal : Cert.FfnUpRefIdeal.Facts) (hS5OutFwd : Cert.S5OutFwd.Facts) (hS5OutFwdIdeal : Cert.S5OutFwdIdeal.Facts) (hS5OutFwdRefIdeal : Cert.S5OutFwdRefIdeal.Facts) (hInProjFwd : Cert.InProjFwd.Facts) (hInProjFwdIdeal : Cert.InProjFwdIdeal.Facts) (hInProjFwdRefIdeal : Cert.InProjFwdRefIdeal.Facts) (hDwFfn : Cert.DwFfn.Facts) (hDwFfnIdeal : Cert.DwFfnIdeal.Facts) (hDwFfnRefIdeal : Cert.DwFfnRefIdeal.Facts) (hSumAdamw : Cert.SumAdamw.Facts) (hSumAdamwIdeal : Cert.SumAdamwIdeal.Facts) (hSumAdamwRefIdeal : Cert.SumAdamwRefIdeal.Facts) (hSmall : Cert.Small.Facts) (hSmallIdeal : Cert.SmallIdeal.Facts) (hSmallRefIdeal : Cert.SmallRefIdeal.Facts) (hPre_finite_act : Cert.Pre_finite_act.Facts) (hPre_finite_s5out : Cert.Pre_finite_s5out.Facts) (hPre_finite_loss : Cert.Pre_finite_loss.Facts) (hPre_finite_ffnin : Cert.Pre_finite_ffnin.Facts) (hPre_finite_attnin : Cert.Pre_finite_attnin.Facts) (hPre_finite_inproj : Cert.Pre_finite_inproj.Facts) (hPre_finite_attn : Cert.Pre_finite_attn.Facts) (hPre_finite_gmlp : Cert.Pre_finite_gmlp.Facts) (hPre_finite_gmlpf : Cert.Pre_finite_gmlpf.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_S5Out (hS5Out := hS5Out)
    ∧ quiescent_S5OutIdeal (hS5OutIdeal := hS5OutIdeal)
    ∧ quiescent_S5OutIdeal_pre_finite_s5out (hS5OutIdeal := hS5OutIdeal) (hPre_finite_s5out := hPre_finite_s5out)
    ∧ quiescent_S5OutRefIdeal (hS5OutRefIdeal := hS5OutRefIdeal)
    ∧ quiescent_S5OutRefIdeal_pre_finite_s5out (hS5OutRefIdeal := hS5OutRefIdeal) (hPre_finite_s5out := hPre_finite_s5out)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_FfnIn (hFfnIn := hFfnIn)
    ∧ quiescent_FfnInIdeal (hFfnInIdeal := hFfnInIdeal)
    ∧ quiescent_FfnInIdeal_pre_finite_ffnin (hFfnInIdeal := hFfnInIdeal) (hPre_finite_ffnin := hPre_finite_ffnin)
    ∧ quiescent_FfnInRefIdeal (hFfnInRefIdeal := hFfnInRefIdeal)
    ∧ quiescent_FfnInRefIdeal_pre_finite_ffnin (hFfnInRefIdeal := hFfnInRefIdeal) (hPre_finite_ffnin := hPre_finite_ffnin)
    ∧ quiescent_AttnIn (hAttnIn := hAttnIn)
    ∧ quiescent_AttnInIdeal (hAttnInIdeal := hAttnInIdeal)
    ∧ quiescent_AttnInIdeal_pre_finite_attnin (hAttnInIdeal := hAttnInIdeal) (hPre_finite_attnin := hPre_finite_attnin)
    ∧ quiescent_AttnInRefIdeal (hAttnInRefIdeal := hAttnInRefIdeal)
    ∧ quiescent_AttnInRefIdeal_pre_finite_attnin (hAttnInRefIdeal := hAttnInRefIdeal) (hPre_finite_attnin := hPre_finite_attnin)
    ∧ quiescent_InProj (hInProj := hInProj)
    ∧ quiescent_InProjIdeal (hInProjIdeal := hInProjIdeal)
    ∧ quiescent_InProjIdeal_pre_finite_inproj (hInProjIdeal := hInProjIdeal) (hPre_finite_inproj := hPre_finite_inproj)
    ∧ quiescent_InProjRefIdeal (hInProjRefIdeal := hInProjRefIdeal)
    ∧ quiescent_InProjRefIdeal_pre_finite_inproj (hInProjRefIdeal := hInProjRefIdeal) (hPre_finite_inproj := hPre_finite_inproj)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Gmlp (hGmlp := hGmlp)
    ∧ quiescent_GmlpIdeal (hGmlpIdeal := hGmlpIdeal)
    ∧ quiescent_GmlpIdeal_pre_finite_gmlp (hGmlpIdeal := hGmlpIdeal) (hPre_finite_gmlp := hPre_finite_gmlp)
    ∧ quiescent_GmlpRefIdeal (hGmlpRefIdeal := hGmlpRefIdeal)
    ∧ quiescent_GmlpRefIdeal_pre_finite_gmlp (hGmlpRefIdeal := hGmlpRefIdeal) (hPre_finite_gmlp := hPre_finite_gmlp)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_GmlpFwd (hGmlpFwd := hGmlpFwd)
    ∧ quiescent_GmlpFwdIdeal (hGmlpFwdIdeal := hGmlpFwdIdeal)
    ∧ quiescent_GmlpFwdIdeal_pre_finite_gmlpf (hGmlpFwdIdeal := hGmlpFwdIdeal) (hPre_finite_gmlpf := hPre_finite_gmlpf)
    ∧ quiescent_GmlpFwdRefIdeal (hGmlpFwdRefIdeal := hGmlpFwdRefIdeal)
    ∧ quiescent_GmlpFwdRefIdeal_pre_finite_gmlpf (hGmlpFwdRefIdeal := hGmlpFwdRefIdeal) (hPre_finite_gmlpf := hPre_finite_gmlpf)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_MemKvFwd (hMemKvFwd := hMemKvFwd)
    ∧ quiescent_MemKvFwdIdeal (hMemKvFwdIdeal := hMemKvFwdIdeal)
    ∧ quiescent_MemKvFwdRefIdeal (hMemKvFwdRefIdeal := hMemKvFwdRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_S5OutFwd (hS5OutFwd := hS5OutFwd)
    ∧ quiescent_S5OutFwdIdeal (hS5OutFwdIdeal := hS5OutFwdIdeal)
    ∧ quiescent_S5OutFwdRefIdeal (hS5OutFwdRefIdeal := hS5OutFwdRefIdeal)
    ∧ quiescent_InProjFwd (hInProjFwd := hInProjFwd)
    ∧ quiescent_InProjFwdIdeal (hInProjFwdIdeal := hInProjFwdIdeal)
    ∧ quiescent_InProjFwdRefIdeal (hInProjFwdRefIdeal := hInProjFwdRefIdeal)
    ∧ quiescent_DwFfn (hDwFfn := hDwFfn)
    ∧ quiescent_DwFfnIdeal (hDwFfnIdeal := hDwFfnIdeal)
    ∧ quiescent_DwFfnRefIdeal (hDwFfnRefIdeal := hDwFfnRefIdeal)
    ∧ quiescent_SumAdamw (hSumAdamw := hSumAdamw)
    ∧ quiescent_SumAdamwIdeal (hSumAdamwIdeal := hSumAdamwIdeal)
    ∧ quiescent_SumAdamwRefIdeal (hSumAdamwRefIdeal := hSumAdamwRefIdeal)
    ∧ quiescent_Small (hSmall := hSmall)
    ∧ quiescent_SmallIdeal (hSmallIdeal := hSmallIdeal)
    ∧ quiescent_SmallRefIdeal (hSmallRefIdeal := hSmallRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_Act_ActIdeal
    ∧ algebraic_ActIdeal_ActRefIdeal_pre_finite_act (hActIdeal := hActIdeal) (hActRefIdeal := hActRefIdeal) (hPre_finite_act := hPre_finite_act)
    ∧ preserves_S5Out_S5OutIdeal
    ∧ algebraic_S5OutIdeal_S5OutRefIdeal_pre_finite_s5out (hS5OutIdeal := hS5OutIdeal) (hS5OutRefIdeal := hS5OutRefIdeal) (hPre_finite_s5out := hPre_finite_s5out)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_FfnIn_FfnInIdeal
    ∧ algebraic_FfnInIdeal_FfnInRefIdeal_pre_finite_ffnin (hFfnInIdeal := hFfnInIdeal) (hFfnInRefIdeal := hFfnInRefIdeal) (hPre_finite_ffnin := hPre_finite_ffnin)
    ∧ preserves_AttnIn_AttnInIdeal
    ∧ algebraic_AttnInIdeal_AttnInRefIdeal_pre_finite_attnin (hAttnInIdeal := hAttnInIdeal) (hAttnInRefIdeal := hAttnInRefIdeal) (hPre_finite_attnin := hPre_finite_attnin)
    ∧ preserves_InProj_InProjIdeal
    ∧ algebraic_InProjIdeal_InProjRefIdeal_pre_finite_inproj (hInProjIdeal := hInProjIdeal) (hInProjRefIdeal := hInProjRefIdeal) (hPre_finite_inproj := hPre_finite_inproj)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Gmlp_GmlpIdeal
    ∧ algebraic_GmlpIdeal_GmlpRefIdeal_pre_finite_gmlp (hGmlpIdeal := hGmlpIdeal) (hGmlpRefIdeal := hGmlpRefIdeal) (hPre_finite_gmlp := hPre_finite_gmlp)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_GmlpFwd_GmlpFwdIdeal
    ∧ algebraic_GmlpFwdIdeal_GmlpFwdRefIdeal_pre_finite_gmlpf (hGmlpFwdIdeal := hGmlpFwdIdeal) (hGmlpFwdRefIdeal := hGmlpFwdRefIdeal) (hPre_finite_gmlpf := hPre_finite_gmlpf)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MixOut_MixOutIdeal
    ∧ algebraic_MixOutIdeal_MixOutRefIdeal (hMixOutIdeal := hMixOutIdeal) (hMixOutRefIdeal := hMixOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_MemKvFwd_MemKvFwdIdeal
    ∧ algebraic_MemKvFwdIdeal_MemKvFwdRefIdeal (hMemKvFwdIdeal := hMemKvFwdIdeal) (hMemKvFwdRefIdeal := hMemKvFwdRefIdeal)
    ∧ preserves_FfnUp_FfnUpIdeal
    ∧ algebraic_FfnUpIdeal_FfnUpRefIdeal (hFfnUpIdeal := hFfnUpIdeal) (hFfnUpRefIdeal := hFfnUpRefIdeal)
    ∧ preserves_S5OutFwd_S5OutFwdIdeal
    ∧ algebraic_S5OutFwdIdeal_S5OutFwdRefIdeal (hS5OutFwdIdeal := hS5OutFwdIdeal) (hS5OutFwdRefIdeal := hS5OutFwdRefIdeal)
    ∧ preserves_InProjFwd_InProjFwdIdeal
    ∧ algebraic_InProjFwdIdeal_InProjFwdRefIdeal (hInProjFwdIdeal := hInProjFwdIdeal) (hInProjFwdRefIdeal := hInProjFwdRefIdeal)
    ∧ preserves_DwFfn_DwFfnIdeal
    ∧ algebraic_DwFfnIdeal_DwFfnRefIdeal (hDwFfnIdeal := hDwFfnIdeal) (hDwFfnRefIdeal := hDwFfnRefIdeal)
    ∧ preserves_SumAdamw_SumAdamwIdeal
    ∧ algebraic_SumAdamwIdeal_SumAdamwRefIdeal (hSumAdamwIdeal := hSumAdamwIdeal) (hSumAdamwRefIdeal := hSumAdamwRefIdeal)
    ∧ preserves_Small_SmallIdeal
    ∧ algebraic_SmallIdeal_SmallRefIdeal (hSmallIdeal := hSmallIdeal) (hSmallRefIdeal := hSmallRefIdeal)
-- ==== Pre_finite_act.lean ====
abbrev S8192x1024 : Shape := ⟨2, ![8192, 1024]⟩
abbrev S1x2816x1024 : Shape := ⟨3, ![1, 2816, 1024]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x1024 .f32) (main_arg1 : FVec F S1x2816x1024 .f32) (main_arg2 : FVec F S8192x5632 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x2816x1024 .f32 := Host.absf main_arg1
  let main_cst_0 : FVec F S_ .f32 := constant S_ .f32 0x7F800000#32
  let main_v5 : FVec F S1x2816x1024 .f32 := broadcastInDim S1x2816x1024 ![] bcast_S_S1x2816x1024 main_cst_0
  let main_v6 : IVec S1x2816x1024 1 := cmpf .olt main_v4 main_v5
  let main_c_1 : IVec S_ 1 := constantI S_ 1 1#1
  let main_v7 : IVec S_ 1 := (fun x v => Host.reduce IntOp.andi x v reducesTo_S1x2816x1024_S_d0_1_2 h_S_) main_v6 main_c_1
  let main_v8 : IVec S_ 1 := andi main_v3 main_v7
  let main_v9 : FVec F S8192x5632 .f32 := Host.absf main_arg2
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  let main_c_3 : IVec S_ 1 := constantI S_ 1 1#1
  let main_v12 : IVec S_ 1 := (fun x v => Host.reduce IntOp.andi x v reducesTo_S8192x5632_S_d0_1 h_S_) main_v11 main_c_3
  let main_v13 : IVec S_ 1 := andi main_v8 main_v12
  main_v13
-- ==== Pre_finite_attn.lean ====
abbrev S8192x1024 : Shape := ⟨2, ![8192, 1024]⟩
abbrev S512x1024 : Shape := ⟨2, ![512, 1024]⟩
abbrev S1x1024x1024 : Shape := ⟨3, ![1, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg4 : FVec F S1x1024x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  main_v23

def fn {F : FTy → Type} [FloatOps F] (main_arg0 : FVec F S8192x1024 .f32) (main_arg1 : FVec F S512x1024 .f32) (main_arg2 : FVec F S512x1024 .f32) (main_arg3 : FVec F S8192x1024 .f32) (main_arg4 : FVec F S1x1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_finite_attnin.lean ====
abbrev S8192x1024 : Shape := ⟨2, ![8192, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_arg6 : FVec F S8192x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S1x1024x1024 .f32) (main_arg2 : FVec F S8192x1024 .f32) (main_arg3 : FVec F S8192x1024 .f32) (main_arg4 : FVec F S1x1024 .f32) (main_arg5 : FVec F S1x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_v13 main_v16
-- ==== Pre_finite_ffnin.lean ====
abbrev S8192x5632 : Shape := ⟨2, ![8192, 5632]⟩
abbrev S1x1024x5632 : Shape := ⟨3, ![1, 1024, 5632]⟩
abbrev S8192x1024 : Shape := ⟨2, ![8192, 1024]⟩
abbrev S1x1024 : Shape := ⟨2, ![1, 1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_arg6 : FVec F S8192x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x5632 .f32) (main_arg1 : FVec F S1x1024x5632 .f32) (main_arg2 : FVec F S8192x1024 .f32) (main_arg3 : FVec F S8192x1024 .f32) (main_arg4 : FVec F S1x1024 .f32) (main_arg5 : FVec F S1x1024 .f32) (main_arg6 : FVec F S8192x1024 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S1x1024x5632 .f32 := Host.absf main_arg1
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_v13 main_v16
-- ==== Pre_finite_gmlp.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1x8x128 .f32) (main_arg5 : FVec F S1x1024x1024 .f32) (main_arg6 : FVec F S8192x1024 .f32) (main_v13 : IVec S_ 1) (main_v16 : IVec S1x8x128x128 1) : IVec S_ 1 :=
  let main_c_5 : IVec S_ 1 := constantI S_ 1 1#1
  let main_v17 : IVec S_ 1 := (fun x v => Host.reduce IntOp.andi x v reducesTo_S1x8x128x128_S_d0_1_2_3 h_S_) main_v16 main_c_5
  let main_v18 : IVec S_ 1 := andi main_v13 main_v17
  let main_v19 : FVec F S1x8x128 .f32 := Host.absf main_arg4
  let main_cst_6 : FVec F S_ .f32 := constant S_ .f32 0x7F800000#32
  let main_v20 : FVec F S1x8x128 .f32 := broadcastInDim S1x8x128 ![] bcast_S_S1x8x128 main_cst_6
  let main_v21 : IVec S1x8x128 1 := cmpf .olt main_v19 main_v20
  let main_c_7 : IVec S_ 1 := constantI S_ 1 1#1
  let main_v22 : IVec S_ 1 := (fun x v => Host.reduce IntOp.andi x v reducesTo_S1x8x128_S_d0_1_2 h_S_) main_v21 main_c_7
  let main_v23 : IVec S_ 1 := andi main_v18 main_v22
  let main_v24 : FVec F S1x1024x1024 .f32 := Host.absf main_arg5
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x2048 .f32) (main_arg1 : FVec F S1x1024 .f32) (main_arg2 : FVec F S1x1024 .f32) (main_arg3 : FVec F S1x8x128x128 .f32) (main_arg4 : FVec F S1x8x128 .f32) (main_arg5 : FVec F S1x1024x1024 .f32) (main_arg6 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x8x128x128 .f32 := Host.absf main_arg3
  let main_cst_4 : FVec F S_ .f32 := constant S_ .f32 0x7F800000#32
  let main_v15 : FVec F S1x8x128x128 .f32 := broadcastInDim S1x8x128x128 ![] bcast_S_S1x8x128x128 main_cst_4
  let main_v16 : IVec S1x8x128x128 1 := cmpf .olt main_v14 main_v15
  fn_part1 (F := F) main_arg4 main_arg5 main_arg6 main_v13 main_v16
-- ==== Pre_finite_gmlpf.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S1x1024 .f32) (main_arg2 : FVec F S1x1024 .f32) (main_arg3 : FVec F S1x8x128x128 .f32) (main_arg4 : FVec F S1x8x128 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inproj.lean ====
abbrev S8192x2048 : Shape := ⟨2, ![8192, 2048]⟩
abbrev S8192x512 : Shape := ⟨2, ![8192, 512]⟩
abbrev S8192x1024 : Shape := ⟨2, ![8192, 1024]⟩
abbrev S1x1024x4608 : Shape := ⟨3, ![1, 1024, 4608]⟩
abbrev S1x1024 : Shape := ⟨2, ![1, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024x4608 : S_.BroadcastsInDim S1x1024x4608 (![] : Fin 0 → Fin S1x1024x4608.rank)
  reducesTo_S1x1024x4608_S_d0_1_2 : S1x1024x4608.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1x1024x4608 .f32) (main_arg5 : FVec F S8192x1024 .f32) (main_arg6 : FVec F S1x1024 .f32) (main_arg7 : FVec F S8192x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024x4608 .f32 := Host.absf main_arg4
  let main_cst_6 : FVec F S_ .f32 := constant S_ .f32 0x7F800000#32
  let main_v20 : FVec F S1x1024x4608 .f32 := broadcastInDim S1x1024x4608 ![] bcast_S_S1x1024x4608 main_cst_6
  let main_v21 : IVec S1x1024x4608 1 := cmpf .olt main_v19 main_v20
  let main_c_7 : IVec S_ 1 := constantI S_ 1 1#1
  let main_v22 : IVec S_ 1 := (fun x v => Host.reduce IntOp.andi x v reducesTo_S1x1024x4608_S_d0_1_2 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S8192x2048 .f32) (main_arg1 : FVec F S8192x512 .f32) (main_arg2 : FVec F S8192x1024 .f32) (main_arg3 : FVec F S8192x1024 .f32) (main_arg4 : FVec F S1x1024x4608 .f32) (main_arg5 : FVec F S8192x1024 .f32) (main_arg6 : FVec F S1x1024 .f32) (main_arg7 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_v13 main_v16
-- ==== Pre_finite_loss.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x2816 .f32) (main_arg1 : FVec F S1x2816x1024 .f32) (main_arg2 : FVec F S8192x1024 .f32) (main_arg3 : FVec F S8192x1024 .f32) (main_arg4 : FVec F S1x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S1x2816x1024 .f32 := Host.absf main_arg1
  let main_cst_0 : FVec F S_ .f32 := constant S_ .f32 0x7F800000#32
  let main_v5 : FVec F S1x2816x1024 .f32 := broadcastInDim S1x2816x1024 ![] bcast_S_S1x2816x1024 main_cst_0
  let main_v6 : IVec S1x2816x1024 1 := cmpf .olt main_v4 main_v5
  let main_c_1 : IVec S_ 1 := constantI S_ 1 1#1
  let main_v7 : IVec S_ 1 := (fun x v => Host.reduce IntOp.andi x v reducesTo_S1x2816x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_finite_s5out.lean ====
abbrev S8192x512 : Shape := ⟨2, ![8192, 512]⟩
abbrev S1x32x16 : Shape := ⟨3, ![1, 32, 16]⟩
abbrev S1x512x512 : Shape := ⟨3, ![1, 512, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x32x16 : S_.BroadcastsInDim S1x32x16 (![] : Fin 0 → Fin S1x32x16.rank)
  reducesTo_S1x32x16_S_d0_1_2 : S1x32x16.ReducesTo [0, 1, 2] S_
  bcast_S_S1x512x512 : S_.BroadcastsInDim S1x512x512 (![] : Fin 0 → Fin S1x512x512.rank)
  reducesTo_S1x512x512_S_d0_1_2 : S1x512x512.ReducesTo [0, 1, 2] S_

variable [Facts]

def fn_part1 {F : FTy → Type} [FloatOps F] (main_arg4 : FVec F S1x512x512 .f32) (main_v13 : IVec S_ 1) (main_v16 : IVec S1x32x16 1) : IVec S_ 1 :=
  let main_c_5 : IVec S_ 1 := constantI S_ 1 1#1
  let main_v17 : IVec S_ 1 := (fun x v => Host.reduce IntOp.andi x v reducesTo_S1x32x16_S_d0_1_2 h_S_) main_v16 main_c_5
  let main_v18 : IVec S_ 1 := andi main_v13 main_v17
  let main_v19 : FVec F S1x512x512 .f32 := Host.absf main_arg4
  let main_cst_6 : FVec F S_ .f32 := constant S_ .f32 0x7F800000#32
  let main_v20 : FVec F S1x512x512 .f32 := broadcastInDim S1x512x512 ![] bcast_S_S1x512x512 main_cst_6
  let main_v21 : IVec S1x512x512 1 := cmpf .olt main_v19 main_v20
  let main_c_7 : IVec S_ 1 := constantI S_ 1 1#1
  let main_v22 : IVec S_ 1 := (fun x v => Host.reduce IntOp.andi x v reducesTo_S1x512x512_S_d0_1_2 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S8192x512 .f32) (main_arg3 : FVec F S1x32x16 .f32) (main_arg4 : FVec F S1x512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S1x32x16 .f32 := Host.absf main_arg3
  let main_cst_4 : FVec F S_ .f32 := constant S_ .f32 0x7F800000#32
  let main_v15 : FVec F S1x32x16 .f32 := broadcastInDim S1x32x16 ![] bcast_S_S1x32x16 main_cst_4
  let main_v16 : IVec S1x32x16 1 := cmpf .olt main_v14 main_v15
  fn_part1 (F := F) main_arg4 main_v13 main_v16
-- ==== MemKv.lean ====
abbrev S2x256x1024 : Shape := ⟨3, ![2, 256, 1024]⟩
abbrev S1x1024 : Shape := ⟨2, ![1, 1024]⟩
abbrev S1x1024x2048 : Shape := ⟨3, ![1, 1024, 2048]⟩
abbrev S512x1024 : Shape := ⟨2, ![512, 1024]⟩
abbrev S1024x2048 : Shape := ⟨2, ![1024, 2048]⟩
abbrev S1024 : Shape := ⟨1, ![1024]⟩
abbrev S512x2048 : Shape := ⟨2, ![512, 2048]⟩
abbrev S256x1024 : Shape := ⟨2, ![256, 1024]⟩
abbrev S256x2048 : Shape := ⟨2, ![256, 2048]⟩
abbrev S1024x1024 : Shape := ⟨2, ![1024, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S1024x2048, .f32⟩
  | .hbm, ⟨7, _⟩ => ⟨S1024x2048, .bf16⟩
  | .hbm, ⟨8, _⟩ => ⟨S1024, .f32⟩
  | .hbm, ⟨9, _⟩ => ⟨S1x1024, .f32⟩
  | .hbm, ⟨10, _⟩ => ⟨S512x2048, .bf16⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x2048, .bf16⟩
  | .local _ .vmem, ⟨8, _⟩ => ⟨S256x2048, .bf16⟩
  | .local _ .vmem, ⟨9, _⟩ => ⟨S256x2048, .bf16⟩
  | .local _ .vmem, ⟨10, _⟩ => ⟨S1x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemKvRefIdeal.lean ====
abbrev S2x256x1024 : Shape := ⟨3, ![2, 256, 1024]⟩
abbrev S1x1024 : Shape := ⟨2, ![1, 1024]⟩
abbrev S1x1024x2048 : Shape := ⟨3, ![1, 1024, 2048]⟩
abbrev S512x1024 : Shape := ⟨2, ![512, 1024]⟩
abbrev S_ : Shape := ⟨0, ![]⟩
abbrev S512x2048 : Shape := ⟨2, ![512, 2048]⟩
abbrev S1024 : Shape := ⟨1, ![1024]⟩
abbrev S512 : Shape := ⟨1, ![512]⟩
abbrev S512x1 : Shape := ⟨2, ![512, 1]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S512x1024, .f32⟩
  | .hbm, ⟨4, _⟩ => ⟨S512x1024, .f32⟩
  | .hbm, ⟨5, _⟩ => ⟨S_, .f32⟩
  | .hbm, ⟨6, _⟩ => ⟨S512x2048, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x1024, .f32⟩
  | .hbm, ⟨21, _⟩ => ⟨S512x1024, .f32⟩
  | .hbm, ⟨22, _⟩ => ⟨S1x1024, .f32⟩
  | .hbm, ⟨23, _⟩ => ⟨S512x1024, .f32⟩
  | .hbm, ⟨24, _⟩ => ⟨S512x1024, .f32⟩
  | .hbm, ⟨25, _⟩ => ⟨S1024x2048, .f32⟩
  | .hbm, ⟨26, _⟩ => ⟨S512x2048, .f32⟩
  | .hbm, ⟨27, _⟩ => ⟨S512x2048, .f32⟩
  | .hbm, ⟨28, _⟩ => ⟨S512x1024, .f32⟩
  | .hbm, ⟨29, _⟩ => ⟨S512x1024, .f32⟩
  | .hbm, ⟨30, _⟩ => ⟨S512x2048, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S_, .f32⟩
  | .hbm, ⟨37, _⟩ => ⟨S1024, .f32⟩
  | .hbm, ⟨38, _⟩ => ⟨S512x2048, .bf16⟩
  | .hbm, ⟨39, _⟩ => ⟨S1x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Merge.lean ====
abbrev S8192x1024 : Shape := ⟨2, ![8192, 1024]⟩
abbrev S1x1024x1024 : Shape := ⟨3, ![1, 1024, 1024]⟩
abbrev S8192x512 : Shape := ⟨2, ![8192, 512]⟩
abbrev S1x512x1024 : Shape := ⟨3, ![1, 512, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 26
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x512, .f32⟩
  | .hbm, ⟨6, _⟩ => ⟨S1x1024x1024, .f32⟩
  | .hbm, ⟨7, _⟩ => ⟨S1x512x1024, .f32⟩
  | .hbm, ⟨8, _⟩ => ⟨S1024x1024, .f32⟩
  | .hbm, ⟨9, _⟩ => ⟨S1024x1024, .bf16⟩
  | .hbm, ⟨10, _⟩ => ⟨S512x1024, .f32⟩
  | .hbm, ⟨11, _⟩ => ⟨S512x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S1024x1024, .f32⟩
  | .hbm, ⟨16, _⟩ => ⟨S8192x1024, .f32⟩
  | .hbm, ⟨17, _⟩ => ⟨S8192x1024, .bf16⟩
  | .hbm, ⟨18, _⟩ => ⟨S512x1024, .f32⟩
  | .hbm, ⟨19, _⟩ => ⟨S8192x1024, .f32⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x512, .bf16⟩
  | .local _ .vmem, ⟨21, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S8192x1024 : Shape := ⟨2, ![8192, 1024]⟩
abbrev S1x1024x1024 : Shape := ⟨3, ![1, 1024, 1024]⟩
abbrev S8192x512 : Shape := ⟨2, ![8192, 512]⟩
abbrev S1x512x1024 : Shape := ⟨3, ![1, 512, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x512, .f32⟩
  | .hbm, ⟨6, _⟩ => ⟨S1x1024x1024, .f32⟩
  | .hbm, ⟨7, _⟩ => ⟨S1x512x1024, .f32⟩
  | .hbm, ⟨8, _⟩ => ⟨S512x1024, .f32⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1024x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x512, .f32⟩
  | .hbm, ⟨49, _⟩ => ⟨S8192x1024, .bf16⟩
  | .hbm, ⟨50, _⟩ => ⟨S8192x1024, .bf16⟩
  | .hbm, ⟨51, _⟩ => ⟨S8192x1024, .bf16⟩
  | .hbm, ⟨52, _⟩ => ⟨S8192x1024, .bf16⟩
  | .hbm, ⟨53, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Act.lean ====
abbrev S8192x1024 : Shape := ⟨2, ![8192, 1024]⟩
abbrev S1x2816x1024 : Shape := ⟨3, ![1, 2816, 1024]⟩
abbrev S8192x5632 : Shape := ⟨2, ![8192, 5632]⟩
abbrev S2816x1024 : Shape := ⟨2, ![2816, 1024]⟩
abbrev S512x1024 : Shape := ⟨2, ![512, 1024]⟩
abbrev S512x5632 : Shape := ⟨2, ![512, 5632]⟩
abbrev S256x1024 : Shape := ⟨2, ![256, 1024]⟩
abbrev S512x256 : Shape := ⟨2, ![512, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .f32⟩
  | .hbm, ⟨2, _⟩ => ⟨S8192x5632, .f32⟩
  | .hbm, ⟨3, _⟩ => ⟨S2816x1024, .f32⟩
  | .hbm, ⟨4, _⟩ => ⟨S2816x1024, .bf16⟩
  | .hbm, ⟨5, _⟩ => ⟨S8192x1024, .bf16⟩
  | .hbm, ⟨6, _⟩ => ⟨S8192x5632, .bf16⟩
  | .hbm, ⟨7, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActRefIdeal.lean ====
abbrev S8192x1024 : Shape := ⟨2, ![8192, 1024]⟩
abbrev S1x2816x1024 : Shape := ⟨3, ![1, 2816, 1024]⟩
abbrev S8192x5632 : Shape := ⟨2, ![8192, 5632]⟩
abbrev S8192x2816 : Shape := ⟨2, ![8192, 2816]⟩
abbrev S_ : Shape := ⟨0, ![]⟩
abbrev S2816x1024 : Shape := ⟨2, ![2816, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S2816x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x5632, .f32⟩
  | .hbm, ⟨29, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]
-- ==== S5Out.lean ====
abbrev S8192x512 : Shape := ⟨2, ![8192, 512]⟩
abbrev S1x32x16 : Shape := ⟨3, ![1, 32, 16]⟩
abbrev S1x512x512 : Shape := ⟨3, ![1, 512, 512]⟩
abbrev S512x512 : Shape := ⟨2, ![512, 512]⟩
abbrev S32x16 : Shape := ⟨2, ![32, 16]⟩
abbrev S1x512 : Shape := ⟨2, ![1, 512]⟩
abbrev S_ : Shape := ⟨0, ![]⟩
abbrev S1024x512 : Shape := ⟨2, ![1024, 512]⟩
abbrev S512 : Shape := ⟨1, ![512]⟩

abbrev nBuf : Space → Nat
  | .hbm => 38
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1x32x16, .f32⟩
  | .hbm, ⟨4, _⟩ => ⟨S1x512x512, .f32⟩
  | .hbm, ⟨5, _⟩ => ⟨S512x512, .f32⟩
  | .hbm, ⟨6, _⟩ => ⟨S512x512, .bf16⟩
  | .hbm, ⟨7, _⟩ => ⟨S32x16, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S512x512, .f32⟩
  | .hbm, ⟨32, _⟩ => ⟨S8192x512, .f32⟩
  | .hbm, ⟨33, _⟩ => ⟨S8192x512, .bf16⟩
  | .hbm, ⟨34, _⟩ => ⟨S8192x512, .f32⟩
  | .hbm, ⟨35, _⟩ => ⟨S8192x512, .bf16⟩
  | .hbm, ⟨36, _⟩ => ⟨S8192x512, .bf16⟩
  | .hbm, ⟨37, _⟩ => ⟨S1x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x512, .bf16⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== S5OutIdeal.lean ====
variable {F : FTy → Type} [FloatOps F] [Named F]
def κ : String → Option EReal := fun
  | "c" => some ((8943 / 200000 : ℝ) : EReal)
  | "c3" => some ((26829 / 200000 : ℝ) : EReal)
  | _ => none
-- ==== S5OutRefIdeal.lean ====
abbrev S8192x512 : Shape := ⟨2, ![8192, 512]⟩
abbrev S1x32x16 : Shape := ⟨3, ![1, 32, 16]⟩
abbrev S1x512x512 : Shape := ⟨3, ![1, 512, 512]⟩
abbrev S_ : Shape := ⟨0, ![]⟩
abbrev S32x16 : Shape := ⟨2, ![32, 16]⟩
abbrev S512 : Shape := ⟨1, ![512]⟩
abbrev S1x512 : Shape := ⟨2, ![1, 512]⟩
abbrev S512x512 : Shape := ⟨2, ![512, 512]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1x32x16, .f32⟩
  | .hbm, ⟨4, _⟩ => ⟨S1x512x512, .f32⟩
  | .hbm, ⟨5, _⟩ => ⟨S_, .f32⟩
  | .hbm, ⟨6, _⟩ => ⟨S8192x512, .f32⟩
  | .hbm, ⟨7, _⟩ => ⟨S32x16, .f32⟩
  | .hbm, ⟨8, _⟩ => ⟨S512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S512x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S_, .f32⟩
  | .hbm, ⟨81, _⟩ => ⟨S512, .f32⟩
  | .hbm, ⟨82, _⟩ => ⟨S1x512, .f32⟩
  | .hbm, ⟨83, _⟩ => ⟨S_, .f32⟩
  | .hbm, ⟨84, _⟩ => ⟨S512, .f32⟩
  | .hbm, ⟨85, _⟩ => ⟨S8192x512, .bf16⟩
  | .hbm, ⟨86, _⟩ => ⟨S8192x512, .bf16⟩
  | .hbm, ⟨87, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Loss.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S1x2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S2816x1024, .f32⟩
  | .hbm, ⟨6, _⟩ => ⟨S2816x1024, .bf16⟩
  | .hbm, ⟨7, _⟩ => ⟨S8192x2816, .bf16⟩
  | .hbm, ⟨8, _⟩ => ⟨S1024, .f32⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x128, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1x2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S2816x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S1x128, .f32⟩
  | .hbm, ⟨79, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== FfnIn.lean ====
abbrev S8192x5632 : Shape := ⟨2, ![8192, 5632]⟩
abbrev S1x1024x5632 : Shape := ⟨3, ![1, 1024, 5632]⟩
abbrev S8192x1024 : Shape := ⟨2, ![8192, 1024]⟩
abbrev S1x1024 : Shape := ⟨2, ![1, 1024]⟩
abbrev S1024x5632 : Shape := ⟨2, ![1024, 5632]⟩
abbrev S5632x1024 : Shape := ⟨2, ![5632, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 38
  | .vmem => 17
  | .smem => 0
  | _ => 0

abbrev bufTy : (tb : Table) → Fin (tcTables nBuf tb) → BufTy
  | .hbm, ⟨0, _⟩ => ⟨S8192x5632, .f32⟩
  | .hbm, ⟨1, _⟩ => ⟨S1x1024x5632, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1024x5632, .f32⟩
  | .hbm, ⟨8, _⟩ => ⟨S5632x1024, .f32⟩
  | .hbm, ⟨9, _⟩ => ⟨S5632x1024, .bf16⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x5632, .bf16⟩
  | .hbm, ⟨29, _⟩ => ⟨S1024, .f32⟩
  | .hbm, ⟨30, _⟩ => ⟨S8192x1024, .bf16⟩
  | .hbm, ⟨31, _⟩ => ⟨S1024, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .bf16⟩
  | .hbm, ⟨36, _⟩ => ⟨S1x1024, .f32⟩
  | .hbm, ⟨37, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnInRefIdeal.lean ====
abbrev S8192x5632 : Shape := ⟨2, ![8192, 5632]⟩
abbrev S1x1024x5632 : Shape := ⟨3, ![1, 1024, 5632]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩

abbrev nBuf : Space → Nat
  | .hbm => 108
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1x1024x5632, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S1024x5632, .f32⟩
  | .hbm, ⟨51, _⟩ => ⟨S8192x5632, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S1x1024, .f32⟩
  | .hbm, ⟨106, _⟩ => ⟨S8192x1024, .bf16⟩
  | .hbm, ⟨107, _⟩ => ⟨S1x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩

abbrev nD : Nat := 1
abbrev τ : Topo := Topo.v7x

variable {F : FTy → Type} [FloatOps F]
-- ==== AttnIn.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1 : Shape := ⟨2, ![1024, 1]⟩

abbrev nBuf : Space → Nat
  | .hbm => 37
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1024x1024, .f32⟩
  | .hbm, ⟨8, _⟩ => ⟨S1024x1024, .bf16⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1024, .f32⟩
  | .hbm, ⟨29, _⟩ => ⟨S8192x1024, .bf16⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .bf16⟩
  | .hbm, ⟨35, _⟩ => ⟨S1x1024, .f32⟩
  | .hbm, ⟨36, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== AttnInRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S1024x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S1x1024, .f32⟩
  | .hbm, ⟨106, _⟩ => ⟨S8192x1024, .bf16⟩
  | .hbm, ⟨107, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩

abbrev nD : Nat := 1
abbrev τ : Topo := Topo.v7x

variable {F : FTy → Type} [FloatOps F]
-- ==== InProj.lean ====
abbrev S8192x2048 : Shape := ⟨2, ![8192, 2048]⟩
abbrev S8192x512 : Shape := ⟨2, ![8192, 512]⟩
abbrev S8192x1024 : Shape := ⟨2, ![8192, 1024]⟩
abbrev S1x1024x4608 : Shape := ⟨3, ![1, 1024, 4608]⟩
abbrev S1x1024 : Shape := ⟨2, ![1, 1024]⟩
abbrev S1024x4608 : Shape := ⟨2, ![1024, 4608]⟩
abbrev S4608x1024 : Shape := ⟨2, ![4608, 1024]⟩
abbrev S1024 : Shape := ⟨1, ![1024]⟩
abbrev S512x2048 : Shape := ⟨2, ![512, 2048]⟩
abbrev S512x512 : Shape := ⟨2, ![512, 512]⟩
abbrev S512x1024 : Shape := ⟨2, ![512, 1024]⟩
abbrev S2048x1024 : Shape := ⟨2, ![2048, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 19
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S1x1024x4608, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1024x4608, .f32⟩
  | .hbm, ⟨9, _⟩ => ⟨S4608x1024, .f32⟩
  | .hbm, ⟨10, _⟩ => ⟨S4608x1024, .bf16⟩
  | .hbm, ⟨11, _⟩ => ⟨S8192x2048, .bf16⟩
  | .hbm, ⟨12, _⟩ => ⟨S8192x512, .bf16⟩
  | .hbm, ⟨13, _⟩ => ⟨S8192x1024, .bf16⟩
  | .hbm, ⟨14, _⟩ => ⟨S8192x1024, .bf16⟩
  | .hbm, ⟨15, _⟩ => ⟨S1024, .f32⟩
  | .hbm, ⟨16, _⟩ => ⟨S1x1024, .f32⟩
  | .hbm, ⟨17, _⟩ => ⟨S8192x1024, .f32⟩
  | .hbm, ⟨18, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4608x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4608x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InProjRefIdeal.lean ====
abbrev S8192x2048 : Shape := ⟨2, ![8192, 2048]⟩
abbrev S8192x512 : Shape := ⟨2, ![8192, 512]⟩
abbrev S8192x1024 : Shape := ⟨2, ![8192, 1024]⟩
abbrev S1x1024x4608 : Shape := ⟨3, ![1, 1024, 4608]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4608 : Shape := ⟨2, ![1024, 4608]⟩
abbrev S8192x4608 : Shape := ⟨2, ![8192, 4608]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S1x1024x4608, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1024x4608, .f32⟩
  | .hbm, ⟨30, _⟩ => ⟨S8192x4608, .f32⟩
  | .hbm, ⟨31, _⟩ => ⟨S8192x2048, .f32⟩
  | .hbm, ⟨32, _⟩ => ⟨S8192x512, .f32⟩
  | .hbm, ⟨33, _⟩ => ⟨S8192x1024, .f32⟩
  | .hbm, ⟨34, _⟩ => ⟨S8192x1024, .f32⟩
  | .hbm, ⟨35, _⟩ => ⟨S8192x4608, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Attn.lean ====
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩
abbrev S256x1024 : Shape := ⟨2, ![256, 1024]⟩
abbrev S256x256 : Shape := ⟨2, ![256, 256]⟩
abbrev S256 : Shape := ⟨1, ![256]⟩
abbrev S1x256 : Shape := ⟨2, ![1, 256]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S1x1024x1024, .f32⟩
  | .hbm, ⟨5, _⟩ => ⟨S1024x1024, .f32⟩
  | .hbm, ⟨6, _⟩ => ⟨S8192x1024, .bf16⟩
  | .hbm, ⟨7, _⟩ => ⟨S512x1024, .bf16⟩
  | .hbm, ⟨8, _⟩ => ⟨S512x1024, .bf16⟩
  | .hbm, ⟨9, _⟩ => ⟨S8192x1024, .bf16⟩
  | .hbm, ⟨10, _⟩ => ⟨S1024x1024, .bf16⟩
  | .hbm, ⟨11, _⟩ => ⟨S8192x1024, .bf16⟩
  | .hbm, ⟨12, _⟩ => ⟨S512x1024, .f32⟩
  | .hbm, ⟨13, _⟩ => ⟨S512x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnRefIdeal.lean ====
abbrev S8192x1024 : Shape := ⟨2, ![8192, 1024]⟩
abbrev S512x1024 : Shape := ⟨2, ![512, 1024]⟩
abbrev S1x1024x1024 : Shape := ⟨3, ![1, 1024, 1024]⟩
abbrev S2x4096x4x256 : Shape := ⟨4, ![2, 4096, 4, 256]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩
abbrev S2x4096x1024 : Shape := ⟨3, ![2, 4096, 1024]⟩
abbrev S1024x1024 : Shape := ⟨2, ![1024, 1024]⟩
abbrev S2x4x256x256 : Shape := ⟨4, ![2, 4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S512x1024, .f32⟩
  | .hbm, ⟨3, _⟩ => ⟨S8192x1024, .f32⟩
  | .hbm, ⟨4, _⟩ => ⟨S1x1024x1024, .f32⟩
  | .hbm, ⟨5, _⟩ => ⟨S2x4096x4x256, .f32⟩
  | .hbm, ⟨6, _⟩ => ⟨S2x256x4x256, .f32⟩
  | .hbm, ⟨7, _⟩ => ⟨S2x256x4x256, .f32⟩
  | .hbm, ⟨8, _⟩ => ⟨S2x4x4096x256, .f32⟩
  | .hbm, ⟨9, _⟩ => ⟨S_, .f32⟩
  | .hbm, ⟨10, _⟩ => ⟨S2x4x4096x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S2x4x4096x1, .f32⟩
  | .hbm, ⟨15, _⟩ => ⟨S2x4x4096x256, .f32⟩
  | .hbm, ⟨16, _⟩ => ⟨S2x4x4096x256, .i1⟩
  | .hbm, ⟨17, _⟩ => ⟨S2x4x4096x256, .f32⟩
  | .hbm, ⟨18, _⟩ => ⟨S_, .f32⟩
  | .hbm, ⟨19, _⟩ => ⟨S2x4x4096, .f32⟩
  | .hbm, ⟨20, _⟩ => ⟨S_, .f32⟩
  | .hbm, ⟨21, _⟩ => ⟨S2x4x4096, .f32⟩
  | .hbm, ⟨22, _⟩ => ⟨S2x4x4096, .f32⟩
  | .hbm, ⟨23, _⟩ => ⟨S_, .f32⟩
  | .hbm, ⟨24, _⟩ => ⟨S2x4x4096, .f32⟩
  | .hbm, ⟨25, _⟩ => ⟨S2x4x4096, .i1⟩
  | .hbm, ⟨26, _⟩ => ⟨S_, .f32⟩
  | .hbm, ⟨27, _⟩ => ⟨S2x4x4096, .f32⟩
  | .hbm, ⟨28, _⟩ => ⟨S2x4x4096, .i1⟩
  | .hbm, ⟨29, _⟩ => ⟨S_, .f32⟩
  | .hbm, ⟨30, _⟩ => ⟨S2x4x4096, .f32⟩
  | .hbm, ⟨31, _⟩ => ⟨S_, .f32⟩
  | .hbm, ⟨32, _⟩ => ⟨S2x4x4096, .f32⟩
  | .hbm, ⟨33, _⟩ => ⟨S_, .f32⟩
  | .hbm, ⟨34, _⟩ => ⟨S2x4x4096, .f32⟩
  | .hbm, ⟨35, _⟩ => ⟨S2x4x4096, .f32⟩
  | .hbm, ⟨36, _⟩ => ⟨S2x4x4096, .f32⟩
  | .hbm, ⟨37, _⟩ => ⟨S2x4x4096x1, .f32⟩
  | .hbm, ⟨38, _⟩ => ⟨S2x4x4096x256, .f32⟩
  | .hbm, ⟨39, _⟩ => ⟨S2x4x4096x256, .f32⟩
  | .hbm, ⟨40, _⟩ => ⟨S2x4x4096x256, .f32⟩
  | .hbm, ⟨41, _⟩ => ⟨S_, .f32⟩
  | .hbm, ⟨42, _⟩ => ⟨S2x4x4096, .f32⟩
  | .hbm, ⟨43, _⟩ => ⟨S2x4x4096x1, .f32⟩
  | .hbm, ⟨44, _⟩ => ⟨S2x4x4096x256, .f32⟩
  | .hbm, ⟨45, _⟩ => ⟨S2x4x4096x256, .f32⟩
  | .hbm, ⟨46, _⟩ => ⟨S2x4x4096x1, .f32⟩
  | .hbm, ⟨47, _⟩ => ⟨S_, .f32⟩
  | .hbm, ⟨48, _⟩ => ⟨S2x4x4096x1, .f32⟩
  | .hbm, ⟨49, _⟩ => ⟨S2x4x4096x1, .f32⟩
  | .hbm, ⟨50, _⟩ => ⟨S2x4x256x4096, .f32⟩
  | .hbm, ⟨51, _⟩ => ⟨S2x4096x4x256, .f32⟩
  | .hbm, ⟨52, _⟩ => ⟨S2x4096x1024, .f32⟩
  | .hbm, ⟨53, _⟩ => ⟨S1024x1024, .f32⟩
  | .hbm, ⟨54, _⟩ => ⟨S2x4096x1024, .f32⟩
  | .hbm, ⟨55, _⟩ => ⟨S2x4096x1024, .f32⟩
  | .hbm, ⟨56, _⟩ => ⟨S2x4096x1024, .f32⟩
  | .hbm, ⟨57, _⟩ => ⟨S2x4096x4x256, .f32⟩
  | .hbm, ⟨58, _⟩ => ⟨S2x4x256x4096, .f32⟩
  | .hbm, ⟨59, _⟩ => ⟨S2x4x4096x256, .f32⟩
  | .hbm, ⟨60, _⟩ => ⟨S2x4x256x256, .f32⟩
  | .hbm, ⟨61, _⟩ => ⟨S2x256x4x256, .f32⟩
  | .hbm, ⟨62, _⟩ => ⟨S2x4x4096x256, .f32⟩
  | .hbm, ⟨63, _⟩ => ⟨S2x4x4096x256, .f32⟩
  | .hbm, ⟨64, _⟩ => ⟨S2x4x4096x256, .f32⟩
  | .hbm, ⟨65, _⟩ => ⟨S_, .f32⟩
  | .hbm, ⟨66, _⟩ => ⟨S2x4x4096, .f32⟩
  | .hbm, ⟨67, _⟩ => ⟨S2x4x4096x1, .f32⟩
  | .hbm, ⟨68, _⟩ => ⟨S2x4x4096x1, .f32⟩
  | .hbm, ⟨69, _⟩ => ⟨S2x4x4096x256, .f32⟩
  | .hbm, ⟨70, _⟩ => ⟨S2x4x4096x256, .f32⟩
  | .hbm, ⟨71, _⟩ => ⟨S_, .f32⟩
  | .hbm, ⟨72, _⟩ => ⟨S2x4x4096, .f32⟩
  | .hbm, ⟨73, _⟩ => ⟨S2x4x4096x256, .f32⟩
  | .hbm, ⟨74, _⟩ => ⟨S2x4x4096x256, .f32⟩
  | .hbm, ⟨75, _⟩ => ⟨S2x4x4096x256, .f32⟩
  | .hbm, ⟨76, _⟩ => ⟨S_, .f32⟩
  | .hbm, ⟨77, _⟩ => ⟨S2x4x4096x256, .f32⟩
  | .hbm, ⟨78, _⟩ => ⟨S2x4x4096x256, .f32⟩
  | .hbm, ⟨79, _⟩ => ⟨S2x4x256x256, .f32⟩
  | .hbm, ⟨80, _⟩ => ⟨S2x256x4x256, .f32⟩
  | .hbm, ⟨81, _⟩ => ⟨S2x4x4096x256, .f32⟩
  | .hbm, ⟨82, _⟩ => ⟨S2x4096x4x256, .f32⟩
  | .hbm, ⟨83, _⟩ => ⟨S512x1024, .f32⟩
  | .hbm, ⟨84, _⟩ => ⟨S512x1024, .f32⟩
  | .hbm, ⟨85, _⟩ => ⟨S8192x1024, .f32⟩
  | .hbm, ⟨86, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Gmlp.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S8192x1024 : Shape := ⟨2, ![8192, 1024]⟩
abbrev S1024x1024 : Shape := ⟨2, ![1024, 1024]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024 : Shape := ⟨1, ![1024]⟩
abbrev S8192x128 : Shape := ⟨2, ![8192, 128]⟩
abbrev S128x2048 : Shape := ⟨2, ![128, 2048]⟩
abbrev S128 : Shape := ⟨1, ![128]⟩
abbrev S128x1 : Shape := ⟨2, ![128, 1]⟩

abbrev nBuf : Space → Nat
  | .hbm => 63
  | .vmem => 38
  | .smem => 0
  | _ => 0

abbrev bufTy : (tb : Table) → Fin (tcTables nBuf tb) → BufTy
  | .hbm, ⟨0, _⟩ => ⟨S8192x2048, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x1024x1024, .f32⟩
  | .hbm, ⟨6, _⟩ => ⟨S8192x1024, .f32⟩
  | .hbm, ⟨7, _⟩ => ⟨S8192x2048, .bf16⟩
  | .hbm, ⟨8, _⟩ => ⟨S8192x1024, .bf16⟩
  | .hbm, ⟨9, _⟩ => ⟨S1024x1024, .f32⟩
  | .hbm, ⟨10, _⟩ => ⟨S1024x1024, .bf16⟩
  | .hbm, ⟨11, _⟩ => ⟨S_, .i1⟩
  | .hbm, ⟨12, _⟩ => ⟨S128x128, .i1⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .i1⟩
  | .hbm, ⟨20, _⟩ => ⟨S128x128, .i1⟩
  | .hbm, ⟨21, _⟩ => ⟨S128x128, .i1⟩
  | .hbm, ⟨22, _⟩ => ⟨S1x128x128, .i1⟩
  | .hbm, ⟨23, _⟩ => ⟨S8x128x128, .f32⟩
  | .hbm, ⟨24, _⟩ => ⟨S_, .f32⟩
  | .hbm, ⟨25, _⟩ => ⟨S_, .f32⟩
  | .hbm, ⟨26, _⟩ => ⟨S8x128x128, .i1⟩
  | .hbm, ⟨27, _⟩ => ⟨S8x128x128, .f32⟩
  | .hbm, ⟨28, _⟩ => ⟨S8x128x128, .f32⟩
  | .hbm, ⟨29, _⟩ => ⟨S8x128x128, .bf16⟩
  | .hbm, ⟨30, _⟩ => ⟨S8x128x128, .bf16⟩
  | .hbm, ⟨31, _⟩ => ⟨S8x128, .f32⟩
  | .hbm, ⟨32, _⟩ => ⟨S128x8, .f32⟩
  | .hbm, ⟨33, _⟩ => ⟨S128x8x128, .f32⟩
  | .hbm, ⟨34, _⟩ => ⟨S128x1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S8192x1024, .bf16⟩
  | .hbm, ⟨40, _⟩ => ⟨S8192x1024, .bf16⟩
  | .hbm, ⟨41, _⟩ => ⟨S8192x1024, .bf16⟩
  | .hbm, ⟨42, _⟩ => ⟨S8192x2048, .bf16⟩
  | .hbm, ⟨43, _⟩ => ⟨S8192x128, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S8192x2048, .bf16⟩
  | .hbm, ⟨49, _⟩ => ⟨S8x128x128, .f32⟩
  | .hbm, ⟨50, _⟩ => ⟨S128x1024, .f32⟩
  | .hbm, ⟨51, _⟩ => ⟨S1x1024, .f32⟩
  | .hbm, ⟨52, _⟩ => ⟨S1x1024, .f32⟩
  | .hbm, ⟨53, _⟩ => ⟨S1x128x128, .i1⟩
  | .hbm, ⟨54, _⟩ => ⟨S_, .f32⟩
  | .hbm, ⟨55, _⟩ => ⟨S_, .f32⟩
  | .hbm, ⟨56, _⟩ => ⟨S8x128x128, .i1⟩
  | .hbm, ⟨57, _⟩ => ⟨S8x128x128, .f32⟩
  | .hbm, ⟨58, _⟩ => ⟨S8x128x128, .f32⟩
  | .hbm, ⟨59, _⟩ => ⟨S128x8x128, .f32⟩
  | .hbm, ⟨60, _⟩ => ⟨S_, .f32⟩
  | .hbm, ⟨61, _⟩ => ⟨S128x8, .f32⟩
  | .hbm, ⟨62, _⟩ => ⟨S8x128, .f32⟩
  | .local _ .vmem, ⟨0, _⟩ => ⟨S128x2048, .bf16⟩
  | .local _ .vmem, ⟨1, _⟩ => ⟨S128x2048, .bf16⟩
  | .local _ .vmem, ⟨2, _⟩ => ⟨S1x1024, .f32⟩
  | .local _ .vmem, ⟨3, _⟩ => ⟨S1x1024, .f32⟩
  | .local _ .vmem, ⟨4, _⟩ => ⟨S8x128x128, .bf16⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x2048, .bf16⟩
  | .local _ .vmem, ⟨13, _⟩ => ⟨S128x2048, .bf16⟩
  | .local _ .vmem, ⟨14, _⟩ => ⟨S128x128, .f32⟩
  | .local _ .vmem, ⟨15, _⟩ => ⟨S128x128, .f32⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x2048, .bf16⟩
  | .local _ .vmem, ⟨21, _⟩ => ⟨S128x2048, .bf16⟩
  | .local _ .vmem, ⟨22, _⟩ => ⟨S128x128, .f32⟩
  | .local _ .vmem, ⟨23, _⟩ => ⟨S128x128, .f32⟩
  | .local _ .vmem, ⟨24, _⟩ => ⟨S128x1024, .bf16⟩
  | .local _ .vmem, ⟨25, _⟩ => ⟨S128x1024, .bf16⟩
  | .local _ .vmem, ⟨26, _⟩ => ⟨S1024x1024, .bf16⟩
  | .local _ .vmem, ⟨27, _⟩ => ⟨S1x1024, .f32⟩
  | .local _ .vmem, ⟨28, _⟩ => ⟨S1x1024, .f32⟩
  | .local _ .vmem, ⟨29, _⟩ => ⟨S8x128x128, .bf16⟩
  | .local _ .vmem, ⟨30, _⟩ => ⟨S8x128x128, .bf16⟩
  | .local _ .vmem, ⟨31, _⟩ => ⟨S128x1024, .f32⟩
  | .local _ .vmem, ⟨32, _⟩ => ⟨S128x2048, .bf16⟩
  | .local _ .vmem, ⟨33, _⟩ => ⟨S128x2048, .bf16⟩
  | .local _ .vmem, ⟨34, _⟩ => ⟨S8x128x128, .f32⟩
  | .local _ .vmem, ⟨35, _⟩ => ⟨S128x1024, .f32⟩
  | .local _ .vmem, ⟨36, _⟩ => ⟨S1x1024, .f32⟩
  | .local _ .vmem, ⟨37, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev main_v19_2 : Ref sig .tc := ⟨.hbm, 41, rfl⟩
abbrev main_v19_3 : Ref sig .tc := ⟨.hbm, 42, rfl⟩
abbrev main_v19_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_v24_2 : Ref sig .tc := ⟨.hbm, 50, rfl⟩
abbrev main_v24_3 : Ref sig .tc := ⟨.hbm, 51, rfl⟩
abbrev main_v24_4 : Ref sig .tc := ⟨.hbm, 52, rfl⟩
abbrev main_v25 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v26 : Ref sig .tc := ⟨.hbm, 58, rfl⟩
abbrev main_v27 : Ref sig .tc := ⟨.hbm, 59, rfl⟩
abbrev main_cst_1 : Ref sig .tc := ⟨.hbm, 60, rfl⟩
abbrev main_v28 : Ref sig .tc := ⟨.hbm, 61, rfl⟩
abbrev main_v29 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg13_0 : Ref sig .tc := ⟨.vmem, 35, rfl⟩
abbrev cc1_stg14_0 : Ref sig .tc := ⟨.vmem, 36, rfl⟩
abbrev cc1_stg15_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem11_1 : DmaSem sig := 33
abbrev cc1_sem12_0 : DmaSem sig := 34
abbrev cc1_sem13_0 : DmaSem sig := 35
abbrev cc1_sem14_0 : DmaSem sig := 36
abbrev cc1_sem15_0 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x128x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S128x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S8x128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== GmlpIdeal.lean ====
variable {F : FTy → Type} [FloatOps F] [Named F]
def κ : String → Option EReal := fun
  | "c" => some ((8943 / 200000 : ℝ) : EReal)
  | "c3" => some ((26829 / 200000 : ℝ) : EReal)
  | _ => none
-- ==== GmlpRefIdeal.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S2x4096x2048 : Shape := ⟨3, ![2, 4096, 2048]⟩
abbrev S_ : Shape := ⟨0, ![]⟩
abbrev S2x4096x1024 : Shape := ⟨3, ![2, 4096, 1024]⟩
abbrev S2x4096 : Shape := ⟨2, ![2, 4096]⟩
abbrev S2x4096x1 : Shape := ⟨3, ![2, 4096, 1]⟩
abbrev S1x1x1024 : Shape := ⟨3, ![1, 1, 1024]⟩
abbrev S2x32x128x8x128 : Shape := ⟨5, ![2, 32, 128, 8, 128]⟩
abbrev S128x128 : Shape := ⟨2, ![128, 128]⟩
abbrev S1x128x128 : Shape := ⟨3, ![1, 128, 128]⟩
abbrev S8x2x32x128x128 : Shape := ⟨5, ![8, 2, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1024x1024 : Shape := ⟨2, ![1024, 1024]⟩

abbrev nBuf : Space → Nat
  | .hbm => 187
  | .vmem => 0
  | .smem => 0
  | _ => 0

abbrev hbmTy0_0 (i : Nat) : BufTy := match i % 128 with
  | 0 => ⟨S8192x2048, .f32⟩
  | 1 => ⟨S1x1024, .f32⟩
  | 2 => ⟨S1x1024, .f32⟩
  | 3 => ⟨S1x8x128x128, .f32⟩
  | 4 => ⟨S1x8x128, .f32⟩
  | 5 => ⟨S1x1024x1024, .f32⟩
  | 6 => ⟨S8192x1024, .f32⟩
  | 7 => ⟨S1024, .f32⟩
  | 8 => ⟨S1024, .f32⟩
  | 9 => ⟨S8x128x128, .f32⟩
  | 10 => ⟨S8x128, .f32⟩
  | 11 => ⟨S2x4096x2048, .f32⟩
  | 12 => ⟨S_, .f32⟩
  | 13 => ⟨S_, .f32⟩
  | 14 => ⟨S_, .f32⟩
  | 15 => ⟨S2x4096x2048, .f32⟩
  | 16 => ⟨S2x4096x2048, .f32⟩
  | 17 => ⟨S2x4096x2048, .f32⟩
  | 18 => ⟨S_, .f32⟩
  | 19 => ⟨S2x4096x2048, .f32⟩
  | 20 => ⟨S2x4096x2048, .f32⟩
  | 21 => ⟨S2x4096x2048, .f32⟩
  | 22 => ⟨S2x4096x2048, .f32⟩
  | 23 => ⟨S2x4096x2048, .f32⟩
  | 24 => ⟨S_, .f32⟩
  | 25 => ⟨S2x4096x2048, .f32⟩
  | 26 => ⟨S2x4096x2048, .f32⟩
  | 27 => ⟨S2x4096x2048, .f32⟩
  | 28 => ⟨S_, .f32⟩
  | 29 => ⟨S2x4096x2048, .f32⟩
  | 30 => ⟨S2x4096x2048, .f32⟩
  | 31 => ⟨S_, .f32⟩
  | 32 => ⟨S2x4096x2048, .f32⟩
  | 33 => ⟨S2x4096x2048, .f32⟩
  | 34 => ⟨S2x4096x2048, .f32⟩
  | 35 => ⟨S_, .f32⟩
  | 36 => ⟨S2x4096x2048, .f32⟩
  | 37 => ⟨S2x4096x2048, .f32⟩
  | 38 => ⟨S_, .f32⟩
  | 39 => ⟨S2x4096x2048, .f32⟩
  | 40 => ⟨S2x4096x2048, .f32⟩
  | 41 => ⟨S2x4096x2048, .f32⟩
  | 42 => ⟨S2x4096x1024, .f32⟩
  | 43 => ⟨S2x4096x1024, .f32⟩
  | 44 => ⟨S_, .f32⟩
  | 45 => ⟨S2x4096, .f32⟩
  | 46 => ⟨S2x4096x1, .f32⟩
  | 47 => ⟨S_, .f32⟩
  | 48 => ⟨S2x4096x1, .f32⟩
  | 49 => ⟨S2x4096x1, .f32⟩
  | 50 => ⟨S2x4096x1024, .f32⟩
  | 51 => ⟨S2x4096x1024, .f32⟩
  | 52 => ⟨S2x4096x1024, .f32⟩
  | 53 => ⟨S_, .f32⟩
  | 54 => ⟨S2x4096, .f32⟩
  | 55 => ⟨S2x4096x1, .f32⟩
  | 56 => ⟨S_, .f32⟩
  | 57 => ⟨S2x4096x1, .f32⟩
  | 58 => ⟨S2x4096x1, .f32⟩
  | 59 => ⟨S_, .f32⟩
  | 60 => ⟨S2x4096x1, .f32⟩
  | 61 => ⟨S2x4096x1, .f32⟩
  | 62 => ⟨S2x4096x1, .f32⟩
  | 63 => ⟨S2x4096x1, .f32⟩
  | 64 => ⟨S_, .f32⟩
  | 65 => ⟨S2x4096x1, .f32⟩
  | 66 => ⟨S2x4096x1, .f32⟩
  | 67 => ⟨S2x4096x1024, .f32⟩
  | 68 => ⟨S2x4096x1024, .f32⟩
  | 69 => ⟨S1x1x1024, .f32⟩
  | 70 => ⟨S2x4096x1024, .f32⟩
  | 71 => ⟨S2x4096x1024, .f32⟩
  | 72 => ⟨S1x1x1024, .f32⟩
  | 73 => ⟨S2x4096x1024, .f32⟩
  | 74 => ⟨S2x4096x1024, .f32⟩
  | 75 => ⟨S2x32x128x8x128, .f32⟩
  | 76 => ⟨S_, .i1⟩
  | 77 => ⟨S128x128, .i1⟩
  | 78 => ⟨S128x128, .i32⟩
  | 79 => ⟨S_, .i32⟩
  | 80 => ⟨S128x128, .i32⟩
  | 81 => ⟨S128x128, .i32⟩
  | 82 => ⟨S128x128, .i32⟩
  | 83 => ⟨S128x128, .i1⟩
  | 84 => ⟨S_, .i1⟩
  | 85 => ⟨S128x128, .i1⟩
  | 86 => ⟨S128x128, .i1⟩
  | 87 => ⟨S1x128x128, .i1⟩
  | 88 => ⟨S_, .f32⟩
  | 89 => ⟨S8x128x128, .i1⟩
  | 90 => ⟨S8x128x128, .f32⟩
  | 91 => ⟨S8x128x128, .f32⟩
  | 92 => ⟨S_, .f32⟩
  | 93 => ⟨S8x128x128, .f32⟩
  | 94 => ⟨S8x2x32x128x128, .f32⟩
  | 95 => ⟨S2x32x128x8x128, .f32⟩
  | 96 => ⟨S128x8, .f32⟩
  | 97 => ⟨S128x8x1, .f32⟩
  | 98 => ⟨S1x1x128x8x1, .f32⟩
  | 99 => ⟨S2x32x128x8x128, .f32⟩
  | 100 => ⟨S2x32x128x8x128, .f32⟩
  | 101 => ⟨S2x4096x1024, .f32⟩
  | 102 => ⟨S2x4096x1024, .f32⟩
  | 103 => ⟨S1024x1024, .f32⟩
  | 104 => ⟨S2x4096x1024, .f32⟩
  | 105 => ⟨S2x4096x1024, .f32⟩
  | 106 => ⟨S2x4096x1024, .f32⟩
  | 107 => ⟨S2x4096x1024, .f32⟩
  | 108 => ⟨S2x4096x1024, .f32⟩
  | 109 => ⟨S2x32x128x8x128, .f32⟩
  | 110 => ⟨S_, .f32⟩
  | 111 => ⟨S128x8, .f32⟩
  | 112 => ⟨S1x1x128x8x1, .f32⟩
  | 113 => ⟨S_, .f32⟩
  | 114 => ⟨S128x8, .f32⟩
  | 115 => ⟨S128x8x1, .f32⟩
  | 116 => ⟨S_, .f32⟩
  | 117 => ⟨S128x8, .f32⟩
  | 118 => ⟨S8x128, .f32⟩
  | 119 => ⟨S8x2x32x128x128, .f32⟩
  | 120 => ⟨S8x128x128, .f32⟩
  | 121 => ⟨S8x2x32x128x128, .f32⟩
  | 122 => ⟨S2x32x128x8x128, .f32⟩
  | 123 => ⟨S_, .f32⟩
  | 124 => ⟨S8x128x128, .f32⟩
  | 125 => ⟨S8x128x128, .f32⟩
  | 126 => ⟨S2x4096x1024, .f32⟩
  | 127 => ⟨S_, .f32⟩
  | _ => ⟨S8192x2048, .f32⟩

abbrev hbmTy0_1 (i : Nat) : BufTy := match i % 128 with
  | 0 => ⟨S1024, .f32⟩
  | 1 => ⟨S1x1x1024, .f32⟩
  | 2 => ⟨S_, .f32⟩
  | 3 => ⟨S1024, .f32⟩
  | 4 => ⟨S2x4096x1024, .f32⟩
  | 5 => ⟨S_, .f32⟩
  | 6 => ⟨S1024, .f32⟩
  | 7 => ⟨S1x1x1024, .f32⟩
  | 8 => ⟨S2x4096x1024, .f32⟩
  | 9 => ⟨S2x4096x1024, .f32⟩
  | 10 => ⟨S_, .f32⟩
  | 11 => ⟨S1024, .f32⟩
  | 12 => ⟨S2x4096x1024, .f32⟩
  | 13 => ⟨S_, .f32⟩
  | 14 => ⟨S2x4096, .f32⟩
  | 15 => ⟨S2x4096x1, .f32⟩
  | 16 => ⟨S2x4096x1024, .f32⟩
  | 17 => ⟨S2x4096x1024, .f32⟩
  | 18 => ⟨S2x4096x1, .f32⟩
  | 19 => ⟨S_, .f32⟩
  | 20 => ⟨S2x4096x1, .f32⟩
  | 21 => ⟨S2x4096x1, .f32⟩
  | 22 => ⟨S_, .f32⟩
  | 23 => ⟨S2x4096, .f32⟩
  | 24 => ⟨S2x4096x1024, .f32⟩
  | 25 => ⟨S2x4096x1024, .f32⟩
  | 26 => ⟨S2x4096x1024, .f32⟩
  | 27 => ⟨S2x4096x1024, .f32⟩
  | 28 => ⟨S2x4096x1024, .f32⟩
  | 29 => ⟨S2x4096x1024, .f32⟩
  | 30 => ⟨S_, .f32⟩
  | 31 => ⟨S2x4096, .f32⟩
  | 32 => ⟨S2x4096x1, .f32⟩
  | 33 => ⟨S_, .f32⟩
  | 34 => ⟨S2x4096x1, .f32⟩
  | 35 => ⟨S2x4096x1, .f32⟩
  | 36 => ⟨S_, .f32⟩
  | 37 => ⟨S2x4096, .f32⟩
  | 38 => ⟨S2x4096x1024, .f32⟩
  | 39 => ⟨S2x4096x1024, .f32⟩
  | 40 => ⟨S2x4096x2048, .f32⟩
  | 41 => ⟨S2x4096x2048, .f32⟩
  | 42 => ⟨S2x4096x2048, .f32⟩
  | 43 => ⟨S_, .f32⟩
  | 44 => ⟨S2x4096x2048, .f32⟩
  | 45 => ⟨S2x4096x2048, .f32⟩
  | 46 => ⟨S2x4096x2048, .f32⟩
  | 47 => ⟨S_, .f32⟩
  | 48 => ⟨S2x4096x2048, .f32⟩
  | 49 => ⟨S2x4096x2048, .f32⟩
  | 50 => ⟨S2x4096x2048, .f32⟩
  | 51 => ⟨S2x4096x2048, .f32⟩
  | 52 => ⟨S2x4096x2048, .f32⟩
  | 53 => ⟨S2x4096x2048, .f32⟩
  | 54 => ⟨S2x4096x2048, .f32⟩
  | 55 => ⟨S8192x2048, .f32⟩
  | 56 => ⟨S8192x2048, .bf16⟩
  | 57 => ⟨S1x1024, .f32⟩
  | 58 => ⟨S1x1024, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_v55 : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_c_0 : Ref sig .tc := ⟨.hbm, 84, rfl⟩
abbrev main_call0_v5 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58_1 : Ref sig .tc := ⟨.hbm, 89, rfl⟩
abbrev main_call1_v1 : Ref sig .tc := ⟨.hbm, 90, rfl⟩
abbrev main_v58_0 : Ref sig .tc := ⟨.hbm, 91, rfl⟩
abbrev main_call1_cst : Ref sig .tc := ⟨.hbm, 92, rfl⟩
abbrev main_v58_2 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call2_cst : Ref sig .tc := ⟨.hbm, 123, rfl⟩
abbrev main_call2_v0 : Ref sig .tc := ⟨.hbm, 124, rfl⟩
abbrev main_v85 : Ref sig .tc := ⟨.hbm, 125, rfl⟩
abbrev main_v86 : Ref sig .tc := ⟨.hbm, 126, rfl⟩
abbrev main_cst_17 : Ref sig .tc := ⟨.hbm, 127, rfl⟩
abbrev main_v87 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_cst_19 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_22 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_24 : Ref sig .tc := ⟨.hbm, 158, rfl⟩
abbrev main_v111 : Ref sig .tc := ⟨.hbm, 159, rfl⟩
abbrev main_v112 : Ref sig .tc := ⟨.hbm, 160, rfl⟩
abbrev main_cst_25 : Ref sig .tc := ⟨.hbm, 161, rfl⟩
abbrev main_v113 : Ref sig .tc := ⟨.hbm, 162, rfl⟩
abbrev main_v114 : Ref sig .tc := ⟨.hbm, 163, rfl⟩
abbrev main_cst_26 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_27 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_28 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩

abbrev nD : Nat := 1
abbrev τ : Topo := Topo.v7x

variable {F : FTy → Type} [FloatOps F]
-- ==== AttnFwd.lean ====
abbrev S8192x1024 : Shape := ⟨2, ![8192, 1024]⟩
abbrev S512x1024 : Shape := ⟨2, ![512, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S512x1024, .f32⟩
  | .hbm, ⟨3, _⟩ => ⟨S8192x1024, .bf16⟩
  | .hbm, ⟨4, _⟩ => ⟨S512x1024, .bf16⟩
  | .hbm, ⟨5, _⟩ => ⟨S512x1024, .bf16⟩
  | .hbm, ⟨6, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S8192x1024 : Shape := ⟨2, ![8192, 1024]⟩
abbrev S512x1024 : Shape := ⟨2, ![512, 1024]⟩
abbrev S2x4096x4x256 : Shape := ⟨4, ![2, 4096, 4, 256]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S512x1024, .f32⟩
  | .hbm, ⟨3, _⟩ => ⟨S2x4096x4x256, .f32⟩
  | .hbm, ⟨4, _⟩ => ⟨S2x256x4x256, .f32⟩
  | .hbm, ⟨5, _⟩ => ⟨S2x256x4x256, .f32⟩
  | .hbm, ⟨6, _⟩ => ⟨S2x4x4096x256, .f32⟩
  | .hbm, ⟨7, _⟩ => ⟨S_, .f32⟩
  | .hbm, ⟨8, _⟩ => ⟨S2x4x4096x256, .f32⟩
  | .hbm, ⟨9, _⟩ => ⟨S2x4x4096x256, .f32⟩
  | .hbm, ⟨10, _⟩ => ⟨S_, .f32⟩
  | .hbm, ⟨11, _⟩ => ⟨S2x4x4096, .f32⟩
  | .hbm, ⟨12, _⟩ => ⟨S_, .f32⟩
  | .hbm, ⟨13, _⟩ => ⟨S2x4x4096, .f32⟩
  | .hbm, ⟨14, _⟩ => ⟨S2x4x4096, .f32⟩
  | .hbm, ⟨15, _⟩ => ⟨S2x4x4096x1, .f32⟩
  | .hbm, ⟨16, _⟩ => ⟨S2x4x4096x256, .f32⟩
  | .hbm, ⟨17, _⟩ => ⟨S2x4x4096x256, .f32⟩
  | .hbm, ⟨18, _⟩ => ⟨S2x4x4096x256, .f32⟩
  | .hbm, ⟨19, _⟩ => ⟨S_, .f32⟩
  | .hbm, ⟨20, _⟩ => ⟨S2x4x4096, .f32⟩
  | .hbm, ⟨21, _⟩ => ⟨S2x4x4096x1, .f32⟩
  | .hbm, ⟨22, _⟩ => ⟨S2x4x4096x256, .f32⟩
  | .hbm, ⟨23, _⟩ => ⟨S2x4x4096x256, .f32⟩
  | .hbm, ⟨24, _⟩ => ⟨S2x4x256x4096, .f32⟩
  | .hbm, ⟨25, _⟩ => ⟨S2x4096x4x256, .f32⟩
  | .hbm, ⟨26, _⟩ => ⟨S8192x1024, .f32⟩
  | .hbm, ⟨27, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== GmlpFwd.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024 : Shape := ⟨1, ![1024]⟩
abbrev S8192x1024 : Shape := ⟨2, ![8192, 1024]⟩
abbrev S8192x128 : Shape := ⟨2, ![8192, 128]⟩
abbrev S128x2048 : Shape := ⟨2, ![128, 2048]⟩
abbrev S128 : Shape := ⟨1, ![128]⟩
abbrev S128x1 : Shape := ⟨2, ![128, 1]⟩

abbrev nBuf : Space → Nat
  | .hbm => 38
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S8x128x128, .f32⟩
  | .hbm, ⟨18, _⟩ => ⟨S_, .f32⟩
  | .hbm, ⟨19, _⟩ => ⟨S_, .f32⟩
  | .hbm, ⟨20, _⟩ => ⟨S8x128x128, .i1⟩
  | .hbm, ⟨21, _⟩ => ⟨S8x128x128, .f32⟩
  | .hbm, ⟨22, _⟩ => ⟨S8x128x128, .f32⟩
  | .hbm, ⟨23, _⟩ => ⟨S8x128x128, .bf16⟩
  | .hbm, ⟨24, _⟩ => ⟨S8x128, .f32⟩
  | .hbm, ⟨25, _⟩ => ⟨S128x8, .f32⟩
  | .hbm, ⟨26, _⟩ => ⟨S128x8x128, .f32⟩
  | .hbm, ⟨27, _⟩ => ⟨S128x1024, .f32⟩
  | .hbm, ⟨28, _⟩ => ⟨S8192x2048, .bf16⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S8192x1024, .bf16⟩
  | .hbm, ⟨34, _⟩ => ⟨S8192x1024, .bf16⟩
  | .hbm, ⟨35, _⟩ => ⟨S8192x1024, .bf16⟩
  | .hbm, ⟨36, _⟩ => ⟨S8192x2048, .bf16⟩
  | .hbm, ⟨37, _⟩ => ⟨S8192x128, .f32⟩
  | .local _ .vmem, ⟨0, _⟩ => ⟨S128x2048, .bf16⟩
  | .local _ .vmem, ⟨1, _⟩ => ⟨S128x2048, .bf16⟩
  | .local _ .vmem, ⟨2, _⟩ => ⟨S1x1024, .f32⟩
  | .local _ .vmem, ⟨3, _⟩ => ⟨S1x1024, .f32⟩
  | .local _ .vmem, ⟨4, _⟩ => ⟨S8x128x128, .bf16⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x2048, .bf16⟩
  | .local _ .vmem, ⟨13, _⟩ => ⟨S128x2048, .bf16⟩
  | .local _ .vmem, ⟨14, _⟩ => ⟨S128x128, .f32⟩
  | .local _ .vmem, ⟨15, _⟩ => ⟨S128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v15_3 : Ref sig .tc := ⟨.hbm, 36, rfl⟩
abbrev main_v15_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GmlpFwdIdeal.lean ====
variable {F : FTy → Type} [FloatOps F] [Named F]
def κ : String → Option EReal := fun
  | "c" => some ((8943 / 200000 : ℝ) : EReal)
  | "c3" => some ((26829 / 200000 : ℝ) : EReal)
  | _ => none
-- ==== GmlpFwdRefIdeal.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S2x4096x2048 : Shape := ⟨3, ![2, 4096, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S2x4096x1024 : Shape := ⟨3, ![2, 4096, 1024]⟩
abbrev S2x4096 : Shape := ⟨2, ![2, 4096]⟩
abbrev S2x4096x1 : Shape := ⟨3, ![2, 4096, 1]⟩
abbrev S1x1x1024 : Shape := ⟨3, ![1, 1, 1024]⟩
abbrev S2x32x128x8x128 : Shape := ⟨5, ![2, 32, 128, 8, 128]⟩
abbrev S128x128 : Shape := ⟨2, ![128, 128]⟩
abbrev S1x128x128 : Shape := ⟨3, ![1, 128, 128]⟩
abbrev S8x2x32x128x128 : Shape := ⟨5, ![8, 2, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S8192x1024 : Shape := ⟨2, ![8192, 1024]⟩
abbrev S8192 : Shape := ⟨1, ![8192]⟩
abbrev S8192x1 : Shape := ⟨2, ![8192, 1]⟩
abbrev S8192x128 : Shape := ⟨2, ![8192, 128]⟩

abbrev nBuf : Space → Nat
  | .hbm => 159
  | .vmem => 0
  | .smem => 0
  | _ => 0

abbrev hbmTy0_0 (i : Nat) : BufTy := match i % 128 with
  | 0 => ⟨S8192x2048, .f32⟩
  | 1 => ⟨S1x1024, .f32⟩
  | 2 => ⟨S1x1024, .f32⟩
  | 3 => ⟨S1x8x128x128, .f32⟩
  | 4 => ⟨S1x8x128, .f32⟩
  | 5 => ⟨S2x4096x2048, .f32⟩
  | 6 => ⟨S1024, .f32⟩
  | 7 => ⟨S1024, .f32⟩
  | 8 => ⟨S8x128x128, .f32⟩
  | 9 => ⟨S8x128, .f32⟩
  | 10 => ⟨S_, .f32⟩
  | 11 => ⟨S_, .f32⟩
  | 12 => ⟨S_, .f32⟩
  | 13 => ⟨S2x4096x2048, .f32⟩
  | 14 => ⟨S2x4096x2048, .f32⟩
  | 15 => ⟨S2x4096x2048, .f32⟩
  | 16 => ⟨S2x4096x2048, .f32⟩
  | 17 => ⟨S2x4096x2048, .f32⟩
  | 18 => ⟨S_, .f32⟩
  | 19 => ⟨S2x4096x2048, .f32⟩
  | 20 => ⟨S2x4096x2048, .f32⟩
  | 21 => ⟨S2x4096x2048, .f32⟩
  | 22 => ⟨S_, .f32⟩
  | 23 => ⟨S2x4096x2048, .f32⟩
  | 24 => ⟨S2x4096x2048, .f32⟩
  | 25 => ⟨S_, .f32⟩
  | 26 => ⟨S2x4096x2048, .f32⟩
  | 27 => ⟨S2x4096x2048, .f32⟩
  | 28 => ⟨S2x4096x2048, .f32⟩
  | 29 => ⟨S2x4096x1024, .f32⟩
  | 30 => ⟨S2x4096x1024, .f32⟩
  | 31 => ⟨S_, .f32⟩
  | 32 => ⟨S2x4096, .f32⟩
  | 33 => ⟨S2x4096x1, .f32⟩
  | 34 => ⟨S_, .f32⟩
  | 35 => ⟨S2x4096x1, .f32⟩
  | 36 => ⟨S2x4096x1, .f32⟩
  | 37 => ⟨S2x4096x1024, .f32⟩
  | 38 => ⟨S2x4096x1024, .f32⟩
  | 39 => ⟨S2x4096x1024, .f32⟩
  | 40 => ⟨S_, .f32⟩
  | 41 => ⟨S2x4096, .f32⟩
  | 42 => ⟨S2x4096x1, .f32⟩
  | 43 => ⟨S_, .f32⟩
  | 44 => ⟨S2x4096x1, .f32⟩
  | 45 => ⟨S2x4096x1, .f32⟩
  | 46 => ⟨S_, .f32⟩
  | 47 => ⟨S2x4096x1, .f32⟩
  | 48 => ⟨S2x4096x1, .f32⟩
  | 49 => ⟨S2x4096x1, .f32⟩
  | 50 => ⟨S2x4096x1024, .f32⟩
  | 51 => ⟨S2x4096x1024, .f32⟩
  | 52 => ⟨S1x1x1024, .f32⟩
  | 53 => ⟨S2x4096x1024, .f32⟩
  | 54 => ⟨S2x4096x1024, .f32⟩
  | 55 => ⟨S1x1x1024, .f32⟩
  | 56 => ⟨S2x4096x1024, .f32⟩
  | 57 => ⟨S2x4096x1024, .f32⟩
  | 58 => ⟨S2x32x128x8x128, .f32⟩
  | 59 => ⟨S_, .i1⟩
  | 60 => ⟨S128x128, .i1⟩
  | 61 => ⟨S128x128, .i32⟩
  | 62 => ⟨S_, .i32⟩
  | 63 => ⟨S128x128, .i32⟩
  | 64 => ⟨S128x128, .i32⟩
  | 65 => ⟨S128x128, .i32⟩
  | 66 => ⟨S128x128, .i1⟩
  | 67 => ⟨S_, .i1⟩
  | 68 => ⟨S128x128, .i1⟩
  | 69 => ⟨S128x128, .i1⟩
  | 70 => ⟨S1x128x128, .i1⟩
  | 71 => ⟨S_, .f32⟩
  | 72 => ⟨S8x128x128, .i1⟩
  | 73 => ⟨S8x128x128, .f32⟩
  | 74 => ⟨S8x128x128, .f32⟩
  | 75 => ⟨S8x2x32x128x128, .f32⟩
  | 76 => ⟨S2x32x128x8x128, .f32⟩
  | 77 => ⟨S128x8, .f32⟩
  | 78 => ⟨S128x8x1, .f32⟩
  | 79 => ⟨S1x1x128x8x1, .f32⟩
  | 80 => ⟨S2x32x128x8x128, .f32⟩
  | 81 => ⟨S2x32x128x8x128, .f32⟩
  | 82 => ⟨S2x4096x1024, .f32⟩
  | 83 => ⟨S2x4096x1024, .f32⟩
  | 84 => ⟨S_, .f32⟩
  | 85 => ⟨S_, .f32⟩
  | 86 => ⟨S_, .f32⟩
  | 87 => ⟨S8192x2048, .f32⟩
  | 88 => ⟨S8192x2048, .f32⟩
  | 89 => ⟨S8192x2048, .f32⟩
  | 90 => ⟨S_, .f32⟩
  | 91 => ⟨S8192x2048, .f32⟩
  | 92 => ⟨S8192x2048, .f32⟩
  | 93 => ⟨S8192x2048, .f32⟩
  | 94 => ⟨S8192x2048, .f32⟩
  | 95 => ⟨S8192x2048, .f32⟩
  | 96 => ⟨S_, .f32⟩
  | 97 => ⟨S8192x2048, .f32⟩
  | 98 => ⟨S8192x2048, .f32⟩
  | 99 => ⟨S8192x2048, .f32⟩
  | 100 => ⟨S_, .f32⟩
  | 101 => ⟨S8192x2048, .f32⟩
  | 102 => ⟨S8192x2048, .f32⟩
  | 103 => ⟨S_, .f32⟩
  | 104 => ⟨S8192x2048, .f32⟩
  | 105 => ⟨S8192x2048, .f32⟩
  | 106 => ⟨S8192x2048, .f32⟩
  | 107 => ⟨S_, .f32⟩
  | 108 => ⟨S8192x2048, .f32⟩
  | 109 => ⟨S8192x2048, .f32⟩
  | 110 => ⟨S_, .f32⟩
  | 111 => ⟨S8192x2048, .f32⟩
  | 112 => ⟨S8192x2048, .f32⟩
  | 113 => ⟨S8192x2048, .f32⟩
  | 114 => ⟨S_, .f32⟩
  | 115 => ⟨S8192x2048, .f32⟩
  | 116 => ⟨S8192x2048, .f32⟩
  | 117 => ⟨S8192x2048, .f32⟩
  | 118 => ⟨S_, .f32⟩
  | 119 => ⟨S8192x2048, .f32⟩
  | 120 => ⟨S8192x2048, .f32⟩
  | 121 => ⟨S8192x2048, .f32⟩
  | 122 => ⟨S_, .f32⟩
  | 123 => ⟨S8192x2048, .f32⟩
  | 124 => ⟨S8192x2048, .f32⟩
  | 125 => ⟨S8192x2048, .f32⟩
  | 126 => ⟨S8192x2048, .f32⟩
  | 127 => ⟨S8192x2048, .f32⟩
  | _ => ⟨S8192x2048, .f32⟩

abbrev hbmTy0_1 (i : Nat) : BufTy := match i % 128 with
  | 0 => ⟨S8192x2048, .f32⟩
  | 1 => ⟨S8192x2048, .f32⟩
  | 2 => ⟨S8192x1024, .f32⟩
  | 3 => ⟨S8192x1024, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .bf16⟩
  | 25 => ⟨S8192x1024, .bf16⟩
  | 26 => ⟨S8192x1024, .f32⟩
  | 27 => ⟨S8192x1024, .f32⟩
  | 28 => ⟨S8192x1024, .bf16⟩
  | 29 => ⟨S8192x2048, .bf16⟩
  | 30 => ⟨S8192x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_call1_v0 : Ref sig .tc := ⟨.hbm, 72, rfl⟩
abbrev main_call1_v1 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_cst_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_18 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_20 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_v95 : Ref sig .tc := ⟨.hbm, 134, rfl⟩
abbrev main_cst_22 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_23 : Ref sig .tc := ⟨.hbm, 141, rfl⟩
abbrev main_v101 : Ref sig .tc := ⟨.hbm, 142, rfl⟩
abbrev main_v102 : Ref sig .tc := ⟨.hbm, 143, rfl⟩
abbrev main_cst_24 : Ref sig .tc := ⟨.hbm, 144, rfl⟩
abbrev main_v103 : Ref sig .tc := ⟨.hbm, 145, rfl⟩
abbrev main_v104 : Ref sig .tc := ⟨.hbm, 146, rfl⟩
abbrev main_cst_25 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩

abbrev nD : Nat := 1
abbrev τ : Topo := Topo.v7x

variable {F : FTy → Type} [FloatOps F]
-- ==== MergeFwd.lean ====
abbrev S8192x1024 : Shape := ⟨2, ![8192, 1024]⟩
abbrev S8192x512 : Shape := ⟨2, ![8192, 512]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S1x1024x1024, .f32⟩
  | .hbm, ⟨5, _⟩ => ⟨S1x512x1024, .f32⟩
  | .hbm, ⟨6, _⟩ => ⟨S8192x1024, .bf16⟩
  | .hbm, ⟨7, _⟩ => ⟨S8192x512, .bf16⟩
  | .hbm, ⟨8, _⟩ => ⟨S8192x1024, .bf16⟩
  | .hbm, ⟨9, _⟩ => ⟨S8192x1024, .bf16⟩
  | .hbm, ⟨10, _⟩ => ⟨S1024x1024, .f32⟩
  | .hbm, ⟨11, _⟩ => ⟨S1024x1024, .bf16⟩
  | .hbm, ⟨12, _⟩ => ⟨S512x1024, .f32⟩
  | .hbm, ⟨13, _⟩ => ⟨S512x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFwdRefIdeal.lean ====
abbrev S8192x1024 : Shape := ⟨2, ![8192, 1024]⟩
abbrev S8192x512 : Shape := ⟨2, ![8192, 512]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S1x1024x1024, .f32⟩
  | .hbm, ⟨5, _⟩ => ⟨S1x512x1024, .f32⟩
  | .hbm, ⟨6, _⟩ => ⟨S1024x1024, .f32⟩
  | .hbm, ⟨7, _⟩ => ⟨S8192x1024, .f32⟩
  | .hbm, ⟨8, _⟩ => ⟨S512x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1024, .bf16⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== MixOut.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 19
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S8192x1024, .bf16⟩
  | .hbm, ⟨7, _⟩ => ⟨S1024x1024, .f32⟩
  | .hbm, ⟨8, _⟩ => ⟨S1024x1024, .bf16⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S8192x1024, .bf16⟩
  | .hbm, ⟨16, _⟩ => ⟨S8192x1024, .f32⟩
  | .hbm, ⟨17, _⟩ => ⟨S8192x1024, .bf16⟩
  | .hbm, ⟨18, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixOutRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1024x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | .hbm, ⟨44, _⟩ => ⟨S8192x1024, .bf16⟩
  | .hbm, ⟨45, _⟩ => ⟨S1024x1024, .f32⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== AttnOut.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S1024x1024, .f32⟩
  | .hbm, ⟨7, _⟩ => ⟨S1024x1024, .bf16⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnOutRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== MemKvFwd.lean ====
abbrev S2x256x1024 : Shape := ⟨3, ![2, 256, 1024]⟩
abbrev S1x1024 : Shape := ⟨2, ![1, 1024]⟩
abbrev S1x1024x2048 : Shape := ⟨3, ![1, 1024, 2048]⟩
abbrev S512x1024 : Shape := ⟨2, ![512, 1024]⟩
abbrev S1024x2048 : Shape := ⟨2, ![1024, 2048]⟩
abbrev S1024 : Shape := ⟨1, ![1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S512x1024, .f32⟩
  | .hbm, ⟨4, _⟩ => ⟨S1024x2048, .f32⟩
  | .hbm, ⟨5, _⟩ => ⟨S1024x2048, .bf16⟩
  | .hbm, ⟨6, _⟩ => ⟨S1024, .f32⟩
  | .hbm, ⟨7, _⟩ => ⟨S1x1024, .f32⟩
  | .hbm, ⟨8, _⟩ => ⟨S512x1024, .bf16⟩
  | .hbm, ⟨9, _⟩ => ⟨S512x1024, .bf16⟩
  | .hbm, ⟨10, _⟩ => ⟨S512x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvFwdRefIdeal.lean ====
abbrev S2x256x1024 : Shape := ⟨3, ![2, 256, 1024]⟩
abbrev S1x1024 : Shape := ⟨2, ![1, 1024]⟩
abbrev S1x1024x2048 : Shape := ⟨3, ![1, 1024, 2048]⟩
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S512x1024, .f32⟩
  | .hbm, ⟨4, _⟩ => ⟨S1024, .f32⟩
  | .hbm, ⟨5, _⟩ => ⟨S512x1024, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S1x1024, .f32⟩
  | .hbm, ⟨19, _⟩ => ⟨S512x1024, .f32⟩
  | .hbm, ⟨20, _⟩ => ⟨S512x1024, .f32⟩
  | .hbm, ⟨21, _⟩ => ⟨S1024x2048, .f32⟩
  | .hbm, ⟨22, _⟩ => ⟨S512x2048, .f32⟩
  | .hbm, ⟨23, _⟩ => ⟨S512x1024, .f32⟩
  | .hbm, ⟨24, _⟩ => ⟨S512x1024, .f32⟩
  | .hbm, ⟨25, _⟩ => ⟨S512x1024, .bf16⟩
  | .hbm, ⟨26, _⟩ => ⟨S512x1024, .bf16⟩
  | .hbm, ⟨27, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== FfnUp.lean ====
abbrev S8192x1024 : Shape := ⟨2, ![8192, 1024]⟩
abbrev S1x1024x5632 : Shape := ⟨3, ![1, 1024, 5632]⟩
abbrev S1024x5632 : Shape := ⟨2, ![1024, 5632]⟩
abbrev S5632x1024 : Shape := ⟨2, ![5632, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024x5632, .f32⟩
  | .hbm, ⟨2, _⟩ => ⟨S1024x5632, .f32⟩
  | .hbm, ⟨3, _⟩ => ⟨S5632x1024, .f32⟩
  | .hbm, ⟨4, _⟩ => ⟨S5632x1024, .bf16⟩
  | .hbm, ⟨5, _⟩ => ⟨S8192x1024, .bf16⟩
  | .hbm, ⟨6, _⟩ => ⟨S8192x5632, .bf16⟩
  | .hbm, ⟨7, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S5632x1024, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnUpRefIdeal.lean ====
abbrev S8192x1024 : Shape := ⟨2, ![8192, 1024]⟩
abbrev S1x1024x5632 : Shape := ⟨3, ![1, 1024, 5632]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x5632, .f32⟩
  | .hbm, ⟨2, _⟩ => ⟨S1024x5632, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x5632, .bf16⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== S5OutFwd.lean ====
abbrev S8192x512 : Shape := ⟨2, ![8192, 512]⟩
abbrev S1x32x16 : Shape := ⟨3, ![1, 32, 16]⟩
abbrev S1x512x512 : Shape := ⟨3, ![1, 512, 512]⟩
abbrev S512x512 : Shape := ⟨2, ![512, 512]⟩
abbrev S32x16 : Shape := ⟨2, ![32, 16]⟩
abbrev S1x512 : Shape := ⟨2, ![1, 512]⟩
abbrev S1024x512 : Shape := ⟨2, ![1024, 512]⟩

abbrev nBuf : Space → Nat
  | .hbm => 11
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x32x16, .f32⟩
  | .hbm, ⟨3, _⟩ => ⟨S1x512x512, .f32⟩
  | .hbm, ⟨4, _⟩ => ⟨S512x512, .f32⟩
  | .hbm, ⟨5, _⟩ => ⟨S512x512, .bf16⟩
  | .hbm, ⟨6, _⟩ => ⟨S32x16, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S512x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== S5OutFwdIdeal.lean ====
variable {F : FTy → Type} [FloatOps F] [Named F]
def κ : String → Option EReal := fun
  | "c" => some ((8943 / 200000 : ℝ) : EReal)
  | "c3" => some ((26829 / 200000 : ℝ) : EReal)
  | _ => none
-- ==== S5OutFwdRefIdeal.lean ====
abbrev S8192x512 : Shape := ⟨2, ![8192, 512]⟩
abbrev S1x32x16 : Shape := ⟨3, ![1, 32, 16]⟩
abbrev S1x512x512 : Shape := ⟨3, ![1, 512, 512]⟩
abbrev S32x16 : Shape := ⟨2, ![32, 16]⟩
abbrev S512 : Shape := ⟨1, ![512]⟩
abbrev S1x512 : Shape := ⟨2, ![1, 512]⟩
abbrev S_ : Shape := ⟨0, ![]⟩
abbrev S512x512 : Shape := ⟨2, ![512, 512]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x32x16, .f32⟩
  | .hbm, ⟨3, _⟩ => ⟨S1x512x512, .f32⟩
  | .hbm, ⟨4, _⟩ => ⟨S32x16, .f32⟩
  | .hbm, ⟨5, _⟩ => ⟨S512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S512x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== InProjFwd.lean ====
abbrev S8192x1024 : Shape := ⟨2, ![8192, 1024]⟩
abbrev S1x1024 : Shape := ⟨2, ![1, 1024]⟩
abbrev S1x1024x4608 : Shape := ⟨3, ![1, 1024, 4608]⟩
abbrev S1024x4608 : Shape := ⟨2, ![1024, 4608]⟩
abbrev S4608x1024 : Shape := ⟨2, ![4608, 1024]⟩
abbrev S1024 : Shape := ⟨1, ![1024]⟩
abbrev S8192x2048 : Shape := ⟨2, ![8192, 2048]⟩
abbrev S8192x512 : Shape := ⟨2, ![8192, 512]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4608, .f32⟩
  | .hbm, ⟨3, _⟩ => ⟨S1024x4608, .f32⟩
  | .hbm, ⟨4, _⟩ => ⟨S4608x1024, .f32⟩
  | .hbm, ⟨5, _⟩ => ⟨S4608x1024, .bf16⟩
  | .hbm, ⟨6, _⟩ => ⟨S1024, .f32⟩
  | .hbm, ⟨7, _⟩ => ⟨S1x1024, .f32⟩
  | .hbm, ⟨8, _⟩ => ⟨S8192x2048, .bf16⟩
  | .hbm, ⟨9, _⟩ => ⟨S8192x512, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4608x1024, .bf16⟩
  | .local _ .vmem, ⟨4, _⟩ => ⟨S512x2048, .bf16⟩
  | .local _ .vmem, ⟨5, _⟩ => ⟨S512x2048, .bf16⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjFwdRefIdeal.lean ====
abbrev S8192x1024 : Shape := ⟨2, ![8192, 1024]⟩
abbrev S1x1024 : Shape := ⟨2, ![1, 1024]⟩
abbrev S1x1024x4608 : Shape := ⟨3, ![1, 1024, 4608]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4608 : Shape := ⟨2, ![1024, 4608]⟩
abbrev S8192x4608 : Shape := ⟨2, ![8192, 4608]⟩
abbrev S8192x2048 : Shape := ⟨2, ![8192, 2048]⟩
abbrev S8192x512 : Shape := ⟨2, ![8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4608, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x4608, .f32⟩
  | .hbm, ⟨21, _⟩ => ⟨S8192x4608, .f32⟩
  | .hbm, ⟨22, _⟩ => ⟨S8192x2048, .f32⟩
  | .hbm, ⟨23, _⟩ => ⟨S8192x512, .f32⟩
  | .hbm, ⟨24, _⟩ => ⟨S8192x1024, .f32⟩
  | .hbm, ⟨25, _⟩ => ⟨S8192x1024, .f32⟩
  | .hbm, ⟨26, _⟩ => ⟨S8192x2048, .bf16⟩
  | .hbm, ⟨27, _⟩ => ⟨S8192x1024, .bf16⟩
  | .hbm, ⟨28, _⟩ => ⟨S8192x1024, .bf16⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== DwFfn.lean ====
abbrev S8192x5632 : Shape := ⟨2, ![8192, 5632]⟩
abbrev S8192x1024 : Shape := ⟨2, ![8192, 1024]⟩
abbrev S5632x1024 : Shape := ⟨2, ![5632, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x5632, .bf16⟩
  | .hbm, ⟨3, _⟩ => ⟨S8192x1024, .bf16⟩
  | .hbm, ⟨4, _⟩ => ⟨S5632x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnRefIdeal.lean ====
abbrev S8192x5632 : Shape := ⟨2, ![8192, 5632]⟩
abbrev S8192x1024 : Shape := ⟨2, ![8192, 1024]⟩
abbrev S_ : Shape := ⟨0, ![]⟩
abbrev S1x1024x5632 : Shape := ⟨3, ![1, 1024, 5632]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S_, .f32⟩
  | .hbm, ⟨3, _⟩ => ⟨S1x1024x5632, .f32⟩
  | .hbm, ⟨4, _⟩ => ⟨S1024x5632, .f32⟩
  | .hbm, ⟨5, _⟩ => ⟨S8192x5632, .f32⟩
  | .hbm, ⟨6, _⟩ => ⟨S5632x1024, .f32⟩
  | .hbm, ⟨7, _⟩ => ⟨S1024x5632, .f32⟩
  | .hbm, ⟨8, _⟩ => ⟨S1x1024x5632, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SumAdamw.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .bf16⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SumAdamwRefIdeal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Small.lean ====
abbrev S8x1x1024 : Shape := ⟨3, ![8, 1, 1024]⟩
abbrev S8x1x128 : Shape := ⟨3, ![8, 1, 128]⟩
abbrev S8x8x128x128 : Shape := ⟨4, ![8, 8, 128, 128]⟩
abbrev S1x1024 : Shape := ⟨2, ![1, 1024]⟩
abbrev S1x8x128x128 : Shape := ⟨4, ![1, 8, 128, 128]⟩
abbrev S1x8x1x1x1x128 : Shape := ⟨6, ![1, 8, 1, 1, 1, 128]⟩
abbrev S1x8x1x1x8x128 : Shape := ⟨6, ![1, 8, 1, 1, 8, 128]⟩
abbrev S8x7x1024 : Shape := ⟨3, ![8, 7, 1024]⟩
abbrev S8x2x1024 : Shape := ⟨3, ![8, 2, 1024]⟩
abbrev S1x128 : Shape := ⟨2, ![1, 128]⟩
abbrev S1x1x1024 : Shape := ⟨3, ![1, 1, 1024]⟩
abbrev S8x128x128 : Shape := ⟨3, ![8, 128, 128]⟩

abbrev nBuf : Space → Nat
  | .hbm => 37
  | .vmem => 25
  | .smem => 0
  | _ => 0

abbrev bufTy : (tb : Table) → Fin (tcTables nBuf tb) → BufTy
  | .hbm, ⟨0, _⟩ => ⟨S8x1x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x128, .f32⟩
  | .hbm, ⟨7, _⟩ => ⟨S8x1x1024, .f32⟩
  | .hbm, ⟨8, _⟩ => ⟨S8x1x1024, .f32⟩
  | .hbm, ⟨9, _⟩ => ⟨S8x8x128x128, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x8x128x128, .f32⟩
  | .hbm, ⟨17, _⟩ => ⟨S1x8x128x128, .f32⟩
  | .hbm, ⟨18, _⟩ => ⟨S1x8x128x128, .f32⟩
  | .hbm, ⟨19, _⟩ => ⟨S1x8x1x1x1x128, .f32⟩
  | .hbm, ⟨20, _⟩ => ⟨S1x8x1x1x8x128, .f32⟩
  | .hbm, ⟨21, _⟩ => ⟨S8x1x1024, .f32⟩
  | .hbm, ⟨22, _⟩ => ⟨S8x7x1024, .f32⟩
  | .hbm, ⟨23, _⟩ => ⟨S8x2x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x8x128x128, .f32⟩
  | .hbm, ⟨33, _⟩ => ⟨S1x8x128x128, .f32⟩
  | .hbm, ⟨34, _⟩ => ⟨S1x8x128x128, .f32⟩
  | .hbm, ⟨35, _⟩ => ⟨S1x8x128x128, .f32⟩
  | .hbm, ⟨36, _⟩ => ⟨S1x128, .f32⟩
  | .local _ .vmem, ⟨0, _⟩ => ⟨S8x7x1024, .f32⟩
  | .local _ .vmem, ⟨1, _⟩ => ⟨S8x2x1024, .f32⟩
  | .local _ .vmem, ⟨2, _⟩ => ⟨S8x8x128x128, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x8x128x128, .f32⟩
  | .local _ .vmem, ⟨10, _⟩ => ⟨S1x8x128x128, .f32⟩
  | .local _ .vmem, ⟨11, _⟩ => ⟨S1x8x128x128, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x8x128x128, .f32⟩
  | .local _ .vmem, ⟨21, _⟩ => ⟨S1x8x128x128, .f32⟩
  | .local _ .vmem, ⟨22, _⟩ => ⟨S1x8x128x128, .f32⟩
  | .local _ .vmem, ⟨23, _⟩ => ⟨S1x8x128x128, .f32⟩
  | .local _ .vmem, ⟨24, _⟩ => ⟨S1x128, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5_0 : Ref sig .tc := ⟨.hbm, 24, rfl⟩
abbrev main_v5_1 : Ref sig .tc := ⟨.hbm, 25, rfl⟩
abbrev main_v5_2 : Ref sig .tc := ⟨.hbm, 26, rfl⟩
abbrev main_v5_3 : Ref sig .tc := ⟨.hbm, 27, rfl⟩
abbrev main_v5_4 : Ref sig .tc := ⟨.hbm, 28, rfl⟩
abbrev main_v5_5 : Ref sig .tc := ⟨.hbm, 29, rfl⟩
abbrev main_v5_6 : Ref sig .tc := ⟨.hbm, 30, rfl⟩
abbrev main_v5_7 : Ref sig .tc := ⟨.hbm, 31, rfl⟩
abbrev main_v5_8 : Ref sig .tc := ⟨.hbm, 32, rfl⟩
abbrev main_v5_9 : Ref sig .tc := ⟨.hbm, 33, rfl⟩
abbrev main_v5_10 : Ref sig .tc := ⟨.hbm, 34, rfl⟩
abbrev main_v5_11 : Ref sig .tc := ⟨.hbm, 35, rfl⟩
abbrev main_v5_12 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := .none

abbrev stage0_0 : Fin 1 → Memref sig .tc .vmem S8x7x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x8x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x8x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x8x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
-- ==== SmallRefIdeal.lean ====
abbrev S8x1x1024 : Shape := ⟨3, ![8, 1, 1024]⟩
abbrev S8x1x128 : Shape := ⟨3, ![8, 1, 128]⟩
abbrev S8x8x128x128 : Shape := ⟨4, ![8, 8, 128, 128]⟩
abbrev S1x1024 : Shape := ⟨2, ![1, 1024]⟩
abbrev S1x8x128x128 : Shape := ⟨4, ![1, 8, 128, 128]⟩
abbrev S_ : Shape := ⟨0, ![]⟩
abbrev S8x128x128 : Shape := ⟨3, ![8, 128, 128]⟩
abbrev S1x128 : Shape := ⟨2, ![1, 128]⟩

abbrev nBuf : Space → Nat
  | .hbm => 127
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x128, .f32⟩
  | .hbm, ⟨7, _⟩ => ⟨S8x1x1024, .f32⟩
  | .hbm, ⟨8, _⟩ => ⟨S8x1x1024, .f32⟩
  | .hbm, ⟨9, _⟩ => ⟨S8x8x128x128, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x8x128x128, .f32⟩
  | .hbm, ⟨17, _⟩ => ⟨S1x8x128x128, .f32⟩
  | .hbm, ⟨18, _⟩ => ⟨S1x8x128x128, .f32⟩
  | .hbm, ⟨19, _⟩ => ⟨S_, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S_, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S8x128x128, .f32⟩
  | .hbm, ⟨91, _⟩ => ⟨S1x8x128x128, .f32⟩
  | .hbm, ⟨92, _⟩ => ⟨S_, .f32⟩
  | .hbm, ⟨93, _⟩ => ⟨S1x8x128x128, .f32⟩
  | .hbm, ⟨94, _⟩ => ⟨S1x8x128x128, .f32⟩
  | .hbm, ⟨95, _⟩ => ⟨S_, .f32⟩
  | .hbm, ⟨96, _⟩ => ⟨S1x8x128x128, .f32⟩
  | .hbm, ⟨97, _⟩ => ⟨S1x8x128x128, .f32⟩
  | .hbm, ⟨98, _⟩ => ⟨S1x8x128x128, .f32⟩
  | .hbm, ⟨99, _⟩ => ⟨S_, .f32⟩
  | .hbm, ⟨100, _⟩ => ⟨S1x8x128x128, .f32⟩
  | .hbm, ⟨101, _⟩ => ⟨S1x8x128x128, .f32⟩
  | .hbm, ⟨102, _⟩ => ⟨S1x8x128x128, .f32⟩
  | .hbm, ⟨103, _⟩ => ⟨S_, .f32⟩
  | .hbm, ⟨104, _⟩ => ⟨S1x8x128x128, .f32⟩
  | .hbm, ⟨105, _⟩ => ⟨S1x8x128x128, .f32⟩
  | .hbm, ⟨106, _⟩ => ⟨S1x8x128x128, .f32⟩
  | .hbm, ⟨107, _⟩ => ⟨S_, .f32⟩
  | .hbm, ⟨108, _⟩ => ⟨S1x8x128x128, .f32⟩
  | .hbm, ⟨109, _⟩ => ⟨S1x8x128x128, .f32⟩
  | .hbm, ⟨110, _⟩ => ⟨S_, .f32⟩
  | .hbm, ⟨111, _⟩ => ⟨S1x8x128x128, .f32⟩
  | .hbm, ⟨112, _⟩ => ⟨S1x8x128x128, .f32⟩
  | .hbm, ⟨113, _⟩ => ⟨S1x8x128x128, .f32⟩
  | .hbm, ⟨114, _⟩ => ⟨S_, .f32⟩
  | .hbm, ⟨115, _⟩ => ⟨S1x8x128x128, .f32⟩
  | .hbm, ⟨116, _⟩ => ⟨S1x8x128x128, .f32⟩
  | .hbm, ⟨117, _⟩ => ⟨S1x8x128x128, .f32⟩
  | .hbm, ⟨118, _⟩ => ⟨S_, .f32⟩
  | .hbm, ⟨119, _⟩ => ⟨S1x8x128x128, .f32⟩
  | .hbm, ⟨120, _⟩ => ⟨S1x8x128x128, .f32⟩
  | .hbm, ⟨121, _⟩ => ⟨S1x8x128x128, .f32⟩
  | .hbm, ⟨122, _⟩ => ⟨S_, .f32⟩
  | .hbm, ⟨123, _⟩ => ⟨S1x8x128x128, .f32⟩
  | .hbm, ⟨124, _⟩ => ⟨S1x8x128x128, .f32⟩
  | .hbm, ⟨125, _⟩ => ⟨S_, .f32⟩
  | .hbm, ⟨126, _⟩ => ⟨S1x128, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_cst_1 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst_2 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_3 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_4 : Ref sig .tc := ⟨.hbm, 36, rfl⟩
abbrev main_v12 : Ref sig .tc := ⟨.hbm, 37, rfl⟩
abbrev main_v13 : Ref sig .tc := ⟨.hbm, 38, rfl⟩
abbrev main_cst_5 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_6 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_7 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_8 : Ref sig .tc := ⟨.hbm, 51, rfl⟩
abbrev main_v23 : Ref sig .tc := ⟨.hbm, 52, rfl⟩
abbrev main_v24 : Ref sig .tc := ⟨.hbm, 53, rfl⟩
abbrev main_cst_9 : Ref sig .tc := ⟨.hbm, 54, rfl⟩
abbrev main_v25 : Ref sig .tc := ⟨.hbm, 55, rfl⟩
abbrev main_cst_10 : Ref sig .tc := ⟨.hbm, 56, rfl⟩
abbrev main_v26 : Ref sig .tc := ⟨.hbm, 57, rfl⟩
abbrev main_v27 : Ref sig .tc := ⟨.hbm, 58, rfl⟩
abbrev main_cst_11 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_12 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_13 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_14 : Ref sig .tc := ⟨.hbm, 71, rfl⟩
abbrev main_v37 : Ref sig .tc := ⟨.hbm, 72, rfl⟩
abbrev main_v38 : Ref sig .tc := ⟨.hbm, 73, rfl⟩
abbrev main_cst_15 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_16 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_17 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_18 : Ref sig .tc := ⟨.hbm, 86, rfl⟩
abbrev main_v48 : Ref sig .tc := ⟨.hbm, 87, rfl⟩
abbrev main_v49 : Ref sig .tc := ⟨.hbm, 88, rfl⟩
abbrev main_cst_19 : Ref sig .tc := ⟨.hbm, 89, rfl⟩
abbrev main_v50 : Ref sig .tc := ⟨.hbm, 90, rfl⟩
abbrev main_v51 : Ref sig .tc := ⟨.hbm, 91, rfl⟩
abbrev main_cst_20 : Ref sig .tc := ⟨.hbm, 92, rfl⟩
abbrev main_v52 : Ref sig .tc := ⟨.hbm, 93, rfl⟩
abbrev main_v53 : Ref sig .tc := ⟨.hbm, 94, rfl⟩
abbrev main_cst_21 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_22 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_23 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_24 : Ref sig .tc := ⟨.hbm, 107, rfl⟩
abbrev main_v63 : Ref sig .tc := ⟨.hbm, 108, rfl⟩
abbrev main_v64 : Ref sig .tc := ⟨.hbm, 109, rfl⟩
abbrev main_cst_25 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_26 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_27 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_28 : Ref sig .tc := ⟨.hbm, 122, rfl⟩
abbrev main_v74 : Ref sig .tc := ⟨.hbm, 123, rfl⟩
abbrev main_v75 : Ref sig .tc := ⟨.hbm, 124, rfl⟩
abbrev main_cst_29 : Ref sig .tc := ⟨.hbm, 125, rfl⟩
abbrev main_v76 : Ref sig .tc := ⟨.hbm, 126, rfl⟩

abbrev nD : Nat := 1
abbrev τ : Topo := Topo.v7x

variable {F : FTy → Type} [FloatOps F]
-- ==== Proof.MemKv.lean ====
/- The memory key/value projection's backward call: what each grid point stores, what the two result arrays hold after
   the run, and their equality with the reference's two results. -/
module

public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKvRefIdeal.Value

open Cert.MemKvRefIdeal Cert.MemKvRefIdeal.Gen

/-- The gradient of the keys and values, side by side. -/
def dkv (dk dv : FVec Ideal S512x1024 .f32) : FVec Ideal S512x2048 .f32 :=
  concatenate S512x2048 1 [⟨S512x1024, dk⟩, ⟨S512x1024, dv⟩] concatenates_S512x1024_S512x1024_S512x2048_d1

/-- The normalised memory (before the gain). -/
def normed (mem : FVec Ideal S512x1024 .f32) : FVec Ideal S512x1024 .f32 :=
  mulf mem (broadcastInDim S512x1024 ![0, 1] bcast_S512x1_S512x1024_0_1 (Host.rsqrt (addf (Host.divf (broadcastInDim S512x1 ![0] bcast_S512_S512x1_0 (Host.reduceAdd (mulf mem mem) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))

/-- The gradient of the gain. -/
def dgain (mem : FVec Ideal S2x256x1024 .f32) (w : FVec Ideal S1x1024x2048 .f32) (dk dv : FVec Ideal S512x1024 .f32) :
    FVec Ideal S1x1024 .f32 :=
  shapeCast _ (Host.reduceAdd (shapeCast _ (Host.reduceAdd (mulf (normed (shapeCast _ mem shapeCasts_S2x256x1024_S512x1024))
    (Host.dotGeneral (φ₁ := .f32) (φ₂ := .f32) dot_S512x2048_S1024x2048_S512x1024_1_1_0_0_n_n none (dkv dk dv) (shapeCast _ w shapeCasts_S1x1024x2048_S1024x2048)))
    (constant S_ .f32 0x00000000#32) reducesTo_S512x1024_S1024_d0 h_S_) shapeCasts_S1024_S1x1024)
    (constant S_ .f32 0x00000000#32) reducesTo_S1x1024_S1024_d0 h_S_) shapeCasts_S1024_S1x1024

/-- Its left half. -/
theorem dkv_left (dk dv : FVec Ideal S512x1024 .f32) (i : S512x2048.Idx) (j : S512x1024.Idx) (h0 : (i 0 : ℕ) = j 0)
    (h1 : (i 1 : ℕ) = j 1) : dkv dk dv i = dk j := by
  have hj : (j 1 : ℕ) < 1024 := (j 1).isLt
  pointwise [dkv]
  rw [dif_pos (by omega)]
  exact congrArg dk (by idx_ext <;> assumption)

/-- Its right half. -/
theorem dkv_right (dk dv : FVec Ideal S512x1024 .f32) (i : S512x2048.Idx) (j : S512x1024.Idx) (h0 : (i 0 : ℕ) = j 0)
    (h1 : (i 1 : ℕ) = 1024 + j 1) : dkv dk dv i = dv j := by
  pointwise [dkv]
  rw [dif_neg (by omega)]
  exact congrArg dv (by idx_ext <;> simp_all)

end Cert.MemKvRefIdeal.Value

namespace Cert.MemKvIdeal.Value

open Cert.MemKvIdeal Cert.MemKvIdeal.Gen
open Cert.MemKvRefIdeal.Value (dkv normed dgain dkv_left dkv_right)

variable (m : (ℓ : Loc nD τ sig) → Buf (Elt Ideal) ℓ)

/-- Every window's block at every grid point. -/
theorem idx : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![t.val, 0] ∧ win0_6.index t = ![0, 0] :=
  (by decide +kernel : ∀ t : Fin grid0.N, _)

/-- The key/value array: every grid point writes its own rows, keys left and values right. -/
theorem final5 (c : Dev nD) : (dats m 0 c).arrAt 5 (cfgs 0).N
    = truncf (F := Ideal) .bf16 (dkv (m ((c : Thread nD τ).loc main_arg3)) (m ((c : Thread nD τ).loc main_arg4))) Cert.MemKvRefIdeal.Gen.bitsLt_bf16_f32 := by
  refine (dats m 0 c).arrAt_eq_of_covers 5 _ (by decide +kernel) fun t hf y => ?_
  blk_simp; rw [after0_5]
  by_cases h : t.val % 2 = 0
  · rw [outsAt0_A m c t h]; frame_out
    canon_tiles x h
    · open_payloads; pointwise
      refine Eq.trans ?_ (dkv_right _ _ _ (((cfg0.win 1).blk t).view.emb x) ?_ ?_).symm
      · blk_simp [iblk]; exact congrFun (V_main_arg4 m c) _
      all_goals (blk_simp [idx t] <;> try omega)
    · open_payloads; pointwise
      refine Eq.trans ?_ (dkv_left _ _ _ (((cfg0.win 0).blk t).view.emb x) ?_ ?_).symm
      · blk_simp [iblk]; exact congrFun (V_main_arg3 m c) _
      all_goals (blk_simp [idx t] <;> try omega)
  · rw [outsAt0_B m c t h]; frame_out
    canon_tiles x h
    · open_payloads; pointwise
      refine Eq.trans ?_ (dkv_right _ _ _ (((cfg0.win 1).blk t).view.emb x) ?_ ?_).symm
      · blk_simp [iblk]; exact congrFun (V_main_arg4 m c) _
      all_goals (blk_simp [idx t] <;> try omega)
    · open_payloads; pointwise
      refine Eq.trans ?_ (dkv_left _ _ _ (((cfg0.win 0).blk t).view.emb x) ?_ ?_).symm
      · blk_simp [iblk]; exact congrFun (V_main_arg3 m c) _
      all_goals (blk_simp [idx t] <;> try omega)

/-- The zero fill. -/
theorem fill (j : S1x1024.Idx) : k0_pay2 (F := Ideal) j = 0 := by pointwise! [k0_pay2]

/-- One point adds its part. -/
theorem adds (v30 : FVec Ideal S1x1024 .f32) (v31 : Vec Ideal S1x1024 .f32) (j : S1x1024.Idx) :
    k0_pay1 v30 v31 j = v31 j + v30 j := by pointwise [k0_pay1]

/-- The gain's gradient: the two points' parts added up. -/
theorem final6 (c : Dev nD) : (dats m 0 c).arrAt 6 (cfgs 0).N
    = dgain (m ((c : Thread nD τ).loc main_arg0)) (m ((c : Thread nD τ).loc main_arg2)) (m ((c : Thread nD τ).loc main_arg3)) (m ((c : Thread nD τ).loc main_arg4)) := by
  refine (dats m 0 c).arrAt_eq_of_after_last 6 t0_1 (by decide +kernel) _ fun j => ?_
  blk_simp
  rw [after0_6, Pipeline.eq_sum_fin_of_reset_step_apply_last (fun n h => (outsAt0 m c n h).2) 2 (fun _ => 0) _
    (fun t h j => by rw [outsAt0_A m c t h]; frame_out; rw [adds, fill])
    (fun t h j => by rw [outsAt0_B m c t h]; frame_out; rw [adds])
    (le_of_eq N_0) t0_1 rfl j, zero_add]
  pointwise [k0_pay5, k0_pay3, k0_pay4, dgain, dkv, normed]
  simp only [Fin.sum_univ_one]
  refine Fin.sum_mul_add_congr fun s k hl => ?_
  blk_point [iblk, V, idx s]

end Cert.MemKvIdeal.Value

end
-- ==== Proof.MemKvClaim.lean ====
/- The claims about the memory key/value projection's backward call. -/
module

public import proofs.«01_k».proof.Defs
public import proofs.«01_k».proof.Proof.MemKv
public import proofs.«01_k».proof.Proof.Gen.MemKv.Frame

@[expose] public section

set_option maxRecDepth 16384

noncomputable section

namespace Cert.Proof

open Idealize.ShloMosaic Idealize.SL.Sem

theorem memkv_frame : Cert.quiescent_MemKv := fun m ρ _ => Cert.MemKv.Gen.frame m ρ

theorem memkv_frame_ideal : Cert.quiescent_MemKvIdeal := fun m ρ _ => Cert.MemKvIdeal.Gen.frame m ρ

theorem memkv_frame_ref : Cert.quiescent_MemKvRefIdeal := fun m ρ _ =>
  (θ_run Cert.MemKvRefIdeal.defs _ _).mono (fun r h => ⟨fun c => (h c).2.2, sem_eq_zero_of_no_sems (by decide) r.2⟩)
    (Cert.MemKvRefIdeal.Value.run m ρ)

/-- The reference's run, its two results named. -/
theorem memkv_ref_run (m : (ℓ : Loc Cert.MemKvRefIdeal.nD Cert.MemKvRefIdeal.τ Cert.MemKvRefIdeal.sig) → Buf (Elt Ideal) ℓ)
    (ρ : Dev Cert.MemKvRefIdeal.nD → PrngReg) :
    θ_run (Cert.MemKvRefIdeal.defs (F := Ideal)) (onTc (τ := Cert.MemKvRefIdeal.τ) (Cert.MemKvRefIdeal.main (F := Ideal))) ⟨m, fun _ => 0, ρ⟩
      fun r => ∀ c : Dev Cert.MemKvRefIdeal.nD, r.2.mem (c.tc.loc Cert.MemKvRefIdeal.main_v27)
          = truncf (F := Ideal) .bf16 (Cert.MemKvRefIdeal.Value.dkv (m (c.tc.loc Cert.MemKvRefIdeal.main_arg3))
            (m (c.tc.loc Cert.MemKvRefIdeal.main_arg4))) Cert.MemKvRefIdeal.Gen.bitsLt_bf16_f32
        ∧ r.2.mem (c.tc.loc Cert.MemKvRefIdeal.main_v28)
          = Cert.MemKvRefIdeal.Value.dgain (m (c.tc.loc Cert.MemKvRefIdeal.main_arg0)) (m (c.tc.loc Cert.MemKvRefIdeal.main_arg2))
            (m (c.tc.loc Cert.MemKvRefIdeal.main_arg3)) (m (c.tc.loc Cert.MemKvRefIdeal.main_arg4))
        ∧ r.2.mem (c.tc.loc Cert.MemKvRefIdeal.main_arg0) = m (c.tc.loc Cert.MemKvRefIdeal.main_arg0)
        ∧ r.2.mem (c.tc.loc Cert.MemKvRefIdeal.main_arg1) = m (c.tc.loc Cert.MemKvRefIdeal.main_arg1)
        ∧ r.2.mem (c.tc.loc Cert.MemKvRefIdeal.main_arg2) = m (c.tc.loc Cert.MemKvRefIdeal.main_arg2)
        ∧ r.2.mem (c.tc.loc Cert.MemKvRefIdeal.main_arg3) = m (c.tc.loc Cert.MemKvRefIdeal.main_arg3)
        ∧ r.2.mem (c.tc.loc Cert.MemKvRefIdeal.main_arg4) = m (c.tc.loc Cert.MemKvRefIdeal.main_arg4) :=
  Cert.MemKvRefIdeal.Value.run m ρ

theorem memkv_value : Cert.algebraic_MemKvIdeal_MemKvRefIdeal := by
  pair_intro
  · run_from Cert.MemKvIdeal.Gen.run_main m g
  · run_from memkv_ref_run m' g'
    · exact (Cert.MemKvIdeal.Value.final5 m c).symm
    · exact (Cert.MemKvIdeal.Value.final6 m c).symm

end Cert.Proof

end
-- ==== Proof.Reals.lean ====
/- What the claims share about single numbers: the constants the programs name by their words, the two spellings of the
   logistic function, and how an array whose absolute values are all below infinity is an array of reals. -/
module

public import Idealize.ShloMosaic.Lib.Pipeline.ValueKit
public import Idealize.ShloMosaic.Lib.Pointwise
public import Idealize.ShloMosaic.Lib.ReduceAll
public import Idealize.ShloMosaic.Lib.Claim

@[expose] public section

set_option maxRecDepth 16384

noncomputable section

open Idealize.ShloMosaic Idealize.ShloMosaic.TcCoe Idealize.SL.Sem

namespace Cert.Reals

theorem bits_one : Ideal.ofBits .f32 0x3F800000#32 = (1 : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_inf : Ideal.ofBits .f32 0x7F800000#32 = (⊤ : EReal) := by
  simp [Ideal.ofBits, Ideal.ieee]

/-- Half of one plus the hyperbolic tangent of the half argument is the logistic function, at the infinities too. -/
theorem half_tanh (x : EReal) :
    ((1 / 2 : ℝ) : EReal) * (1 + Ideal.tanh (((1 / 2 : ℝ) : EReal) * x)) = Ideal.logistic x := by
  induction x using EReal.rec with
  | bot =>
    rw [EReal.coe_mul_bot_of_pos (by norm_num), Ideal.tanh_bot, Ideal.logistic_bot, ← sub_eq_add_neg, EReal.sub_self_le_zero.antisymm ?_, mul_zero]
    · exact le_of_eq (EReal.sub_self (by decide) (by decide)).symm
  | top =>
    rw [EReal.coe_mul_top_of_pos (by norm_num), Ideal.tanh_top, Ideal.logistic_top, one_add_one_eq_two]
    have : (2 : EReal) = ((2 : ℝ) : EReal) := rfl
    rw [this, ← EReal.coe_mul]
    norm_num
  | coe r =>
    rw [← EReal.coe_mul, Ideal.tanh_coe, Ideal.logistic_coe, ← EReal.coe_one, ← EReal.coe_add, ← EReal.coe_mul]
    congr 1
    rw [Real.tanh_eq_sinh_div_cosh, Real.sinh_eq, Real.cosh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have p1 := Real.exp_pos (1 / 2 * r)
    have p2 := Real.exp_pos (-(1 / 2 * r))
    rw [h1]
    generalize Real.exp (1 / 2 * r) = a at *
    generalize Real.exp (-(1 / 2 * r)) = b at *
    have : a = 1 / b := by field_simp; linarith
    subst this
    field_simp
    ring

/-- The same, in the constants' words. -/
theorem sig_bits (x : EReal) : Ideal.ofBits .f32 0x3F000000#32 * (1 + Ideal.tanh (Ideal.ofBits .f32 0x3F000000#32 * x))
    = Ideal.logistic x := by rw [bits_half, half_tanh]

/-- A number that is real. -/
def Num (x : EReal) : Prop := ∃ r : ℝ, x = r

namespace Num

theorem coe (r : ℝ) : Num (r : EReal) := ⟨r, rfl⟩
theorem zero : Num 0 := ⟨0, rfl⟩
theorem one : Num 1 := ⟨1, rfl⟩

variable {x y : EReal}

theorem add : Num x → Num y → Num (x + y) := by
  rintro ⟨a, rfl⟩ ⟨b, rfl⟩; exact ⟨a + b, (EReal.coe_add a b).symm⟩

theorem sub : Num x → Num y → Num (x - y) := by
  rintro ⟨a, rfl⟩ ⟨b, rfl⟩; exact ⟨a - b, (EReal.coe_sub a b).symm⟩

theorem mul : Num x → Num y → Num (x * y) := by
  rintro ⟨a, rfl⟩ ⟨b, rfl⟩; exact ⟨a * b, (EReal.coe_mul a b).symm⟩

theorem neg : Num x → Num (-x) := by
  rintro ⟨a, rfl⟩; exact ⟨-a, (EReal.coe_neg a).symm⟩

theorem sum {ι : Type*} (s : Finset ι) (f : ι → EReal) (h : ∀ i, Num (f i)) : Num (∑ i ∈ s, f i) := by
  classical
  induction s using Finset.induction with
  | empty => exact zero
  | insert i s hi ih => rw [Finset.sum_insert hi]; exact add (h i) ih

theorem logistic (x : EReal) : Num (Ideal.logistic x) := by
  induction x using EReal.rec with
  | bot => rw [Ideal.logistic_bot]; exact zero
  | top => rw [Ideal.logistic_top]; exact one
  | coe r => rw [Ideal.logistic_coe]; exact coe _

theorem tanh (x : EReal) : Num (Ideal.tanh x) := by
  induction x using EReal.rec with
  | bot => exact ⟨-1, rfl⟩
  | top => exact ⟨1, rfl⟩
  | coe r => exact coe _

theorem exp : Num x → Num (Ideal.exp x) := by
  rintro ⟨a, rfl⟩; exact coe _

end Num

/-- A sum of reals is the real sum. -/
theorem coe_sum {ι : Type*} (s : Finset ι) (f : ι → ℝ) : ∑ i ∈ s, ((f i : ℝ) : EReal) = ((∑ i ∈ s, f i : ℝ) : EReal) := by
  classical
  induction s using Finset.induction with
  | empty => rfl
  | insert i s hi ih => rw [Finset.sum_insert hi, Finset.sum_insert hi, ih, EReal.coe_add]

/-- A quotient of reals by a nonzero real. -/
theorem coe_div (a : ℝ) {b : ℝ} (hb : b ≠ 0) : Ideal.div (a : EReal) (b : EReal) = ((a / b : ℝ) : EReal) := by
  rw [Ideal.div_coe hb, ← EReal.coe_mul]; congr 1; ring

/-- The reciprocal root of a positive real. -/
theorem coe_rsqrt {a : ℝ} (ha : 0 < a) : Ideal.rsqrt (a : EReal) = (((Real.sqrt a)⁻¹ : ℝ) : EReal) := by
  rw [Ideal.rsqrt_coe, if_neg (not_lt.mpr ha.le), if_neg ha.ne']

/-- The gradient of `g ↦ g σ(g)`, in the two forms. -/
theorem silu_grad {d g u : EReal} (hd : Num d) (hg : Num g) (hu : Num u) :
    d * u * (Ideal.logistic g * (1 + g * (1 - Ideal.logistic g)))
      = d * u * Ideal.logistic g + g * (d * u) * (Ideal.logistic g * (1 - Ideal.logistic g)) := by
  obtain ⟨s, hs⟩ := Num.logistic g
  obtain ⟨d, rfl⟩ := hd; obtain ⟨g, rfl⟩ := hg; obtain ⟨u, rfl⟩ := hu
  rw [hs, ← EReal.coe_one]
  simp only [← EReal.coe_mul, ← EReal.coe_add, ← EReal.coe_sub]
  congr 1; ring

/-- A number whose absolute value is below infinity is real. -/
theorem coe_of_abs_lt (x : EReal) (h : max x (-x) < ⊤) : Num x := by
  induction x using EReal.rec with
  | bot => simp at h
  | top => simp at h
  | coe r => exact ⟨r, rfl⟩

/-- An array is one of reals. -/
def IsReal {s : Shape} (x : FVec Ideal s .f32) : Prop := ∀ i, Num (x i)

/-- The host's test `(abs x < inf).all()` makes `x` an array of reals. -/
theorem isReal_of_all {s z t : Shape} {axes : List (Fin s.rank)} [Subsingleton t.Idx] (x : FVec Ideal s .f32) (d : Fin z.rank → Fin s.rank)
    (hb : z.BroadcastsInDim s d) (init : t.Idx → BitVec 1) (h : s.ReducesTo axes t) (hu : 0 < t.numel) (j : t.Idx)
    (e : Host.reduce IntOp.andi (cmpf .olt (Host.absf x) (broadcastInDim s d hb (constant z .f32 0x7F800000#32))) init h hu j = 1#1) :
    IsReal x := fun i => by
  have := Host.reduce_andi_all _ _ h hu j e i
  have this : BitVec.ofBool (decide (max (x i) (-x i) < Ideal.ofBits .f32 0x7F800000#32)) = 1#1 := this
  rw [bits_inf] at this
  refine coe_of_abs_lt _ ?_
  by_contra hc
  rw [decide_eq_false hc] at this
  exact absurd this (by decide)

end Cert.Reals

end
-- ==== Proof.Merge.lean ====
/- The gated merge's backward call: what each grid point stores, what the five result arrays hold after the run, and their
   equality with the reference's five results. -/
module

public import proofs.«01_k».proof.Proof.Reals
public import proofs.«01_k».proof.Proof.Gen.MergeIdeal.Value
public import proofs.«01_k».proof.Proof.Gen.MergeRefIdeal.Run

@[expose] public section

set_option maxRecDepth 16384

noncomputable section

open Idealize.ShloMosaic Idealize.ShloMosaic.TcCoe Idealize.SL.Sem
open Idealize.ShloMosaic.Pipeline (Dat)

namespace Cert.MergeRefIdeal.Value

open Cert.MergeRefIdeal Cert.MergeRefIdeal.Gen

/-- The constant one. -/
def ones : FVec Ideal S8192x1024 .f32 := broadcastInDim S8192x1024 ![] bcast_S_S8192x1024 (constant S_ .f32 0x3F800000#32)

/-- The logistic function of an array. -/
def gate (z : FVec Ideal S8192x1024 .f32) : FVec Ideal S8192x1024 .f32 := Host.divf ones (addf ones (Host.exp (Host.negf z)))

/-- The cotangent pulled back through the merge's projection. -/
def dmerged (d : FVec Ideal S8192x1024 .f32) (w : FVec Ideal S1x1024x1024 .f32) : FVec Ideal S8192x1024 .f32 :=
  Host.dotGeneral (φ₁ := .f32) (φ₂ := .f32) dot_S8192x1024_S1024x1024_S8192x1024_1_1_0_0_n_n none d (shapeCast _ w shapeCasts_S1x1024x1024_S1024x1024)

/-- The gradient of a branch. -/
def dbranch (d : FVec Ideal S8192x1024 .f32) (w : FVec Ideal S1x1024x1024 .f32) (z : FVec Ideal S8192x1024 .f32) :
    FVec Ideal S8192x1024 .f32 := mulf (gate z) (dmerged d w)

/-- The gradient of a gate whose branch is `p`. -/
def dgate (d : FVec Ideal S8192x1024 .f32) (w : FVec Ideal S1x1024x1024 .f32) (z p : FVec Ideal S8192x1024 .f32) :
    FVec Ideal S8192x1024 .f32 := mulf (mulf (dmerged d w) p) (mulf (gate z) (subf ones (gate z)))

/-- The projection of a branch of 1024 columns. -/
def proj (y : FVec Ideal S8192x1024 .f32) (w : FVec Ideal S1x1024x1024 .f32) : FVec Ideal S8192x1024 .f32 :=
  Host.dotGeneral (φ₁ := .f32) (φ₂ := .f32) dot_S8192x1024_S1024x1024_S8192x1024_1_0_0_1_n_n none y (shapeCast _ w shapeCasts_S1x1024x1024_S1024x1024)

/-- The projection of a branch of 512 columns. -/
def projHalf (y : FVec Ideal S8192x512 .f32) (w : FVec Ideal S1x512x1024 .f32) : FVec Ideal S8192x1024 .f32 :=
  Host.dotGeneral (φ₁ := .f32) (φ₂ := .f32) dot_S8192x512_S512x1024_S8192x1024_1_0_0_1_n_n none y (shapeCast _ w shapeCasts_S1x512x1024_S512x1024)

/-- The gradient of the second branch's input. -/
def dinput (d : FVec Ideal S8192x1024 .f32) (w : FVec Ideal S1x1024x1024 .f32) (z : FVec Ideal S8192x1024 .f32)
    (v : FVec Ideal S1x512x1024 .f32) : FVec Ideal S8192x512 .f32 :=
  Host.dotGeneral (φ₁ := .f32) (φ₂ := .f32) dot_S8192x1024_S512x1024_S8192x512_1_1_0_0_n_n none (dbranch d w z) (shapeCast _ v shapeCasts_S1x512x1024_S512x1024)

theorem gate_apply (z : FVec Ideal S8192x1024 .f32) (i : S8192x1024.Idx) : gate z i = Ideal.logistic (z i) := by
  have h : ones i = (1 : EReal) := by rw [← Cert.Reals.bits_one]; pointwise [ones]
  show Ideal.div (ones i) (ones i + Ideal.exp (-(z i))) = _
  rw [h]; rfl

theorem ones_apply (i : S8192x1024.Idx) : ones i = (1 : EReal) := by rw [← Cert.Reals.bits_one]; pointwise [ones]

end Cert.MergeRefIdeal.Value

namespace Cert.MergeIdeal.Value

open Cert.MergeIdeal Cert.MergeIdeal.Gen
open Cert.MergeRefIdeal.Value (gate dmerged dbranch dgate proj projHalf dinput gate_apply ones_apply)

variable (m : (ℓ : Loc nD τ sig) → Buf (Elt Ideal) ℓ)

/-- Every window's block at every grid point. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![t.val, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

/-- The body's first gate. -/
theorem gate5 (v : Vec Ideal S1024x1024 .bf16) (j : S1024x1024.Idx) : k0_pay5 v j = Ideal.logistic (v j) := by
  rw [← Cert.Reals.half_tanh, ← Cert.Reals.bits_half, ← Cert.Reals.bits_one]
  pointwise [k0_pay5]

/-- The body's second gate. -/
theorem gate6 (v : Vec Ideal S1024x1024 .bf16) (j : S1024x1024.Idx) : k0_pay6 v j = Ideal.logistic (v j) := by
  rw [← Cert.Reals.half_tanh, ← Cert.Reals.bits_half, ← Cert.Reals.bits_one]
  pointwise [k0_pay6]

/-- The gradient of the first branch. -/
theorem final7 (c : Dev nD) : (dats m 0 c).arrAt 7 (cfgs 0).N
    = truncf (F := Ideal) .bf16 (dbranch (m ((c : Thread nD τ).loc main_arg0)) (m ((c : Thread nD τ).loc main_arg1)) (m ((c : Thread nD τ).loc main_arg2))) Cert.MergeRefIdeal.Gen.bitsLt_bf16_f32 := by
  refine (dats m 0 c).arrAt_eq_of_covers 7 _ (by decide +kernel) fun t hf y => ?_
  blk_simp; rw [after0_7]; frame_out
  pointwise [k0_pay8, gate5, k0_pay4, dbranch, dmerged, gate_apply]
  blk_point [iblk, V, idx t]

/-- The gradient of the second branch. -/
theorem final8 (c : Dev nD) : (dats m 0 c).arrAt 8 (cfgs 0).N
    = truncf (F := Ideal) .bf16 (dbranch (m ((c : Thread nD τ).loc main_arg0)) (m ((c : Thread nD τ).loc main_arg1)) (m ((c : Thread nD τ).loc main_arg3))) Cert.MergeRefIdeal.Gen.bitsLt_bf16_f32 := by
  refine (dats m 0 c).arrAt_eq_of_covers 8 _ (by decide +kernel) fun t hf y => ?_
  blk_simp; rw [after0_8]; frame_out
  pointwise [k0_pay7, gate6, k0_pay4, dbranch, dmerged, gate_apply]
  blk_point [iblk, V, idx t]

/-- The first branch, as the call receives it. -/
theorem entry4 (c : Dev nD) : V m c main_v9 = truncf (F := Ideal) .bf16 (proj (m ((c : Thread nD τ).loc main_arg4)) (m ((c : Thread nD τ).loc main_arg6))) Cert.MergeRefIdeal.Gen.bitsLt_bf16_f32 := by
  entry_read; try rfl

/-- The second branch, as the call receives it. -/
theorem entry5 (c : Dev nD) : V m c main_v12 = truncf (F := Ideal) .bf16 (projHalf (m ((c : Thread nD τ).loc main_arg5)) (m ((c : Thread nD τ).loc main_arg7))) Cert.MergeRefIdeal.Gen.bitsLt_bf16_f32 := by
  entry_read; try rfl

/-- The gradient of the first gate. -/
theorem final9 (c : Dev nD) : (dats m 0 c).arrAt 9 (cfgs 0).N
    = truncf (F := Ideal) .bf16 (dgate (m ((c : Thread nD τ).loc main_arg0)) (m ((c : Thread nD τ).loc main_arg1)) (m ((c : Thread nD τ).loc main_arg2)) (proj (m ((c : Thread nD τ).loc main_arg4)) (m ((c : Thread nD τ).loc main_arg6)))) Cert.MergeRefIdeal.Gen.bitsLt_bf16_f32 := by
  refine (dats m 0 c).arrAt_eq_of_covers 9 _ (by decide +kernel) fun t hf y => ?_
  blk_simp; rw [after0_9]; frame_out
  pointwise [k0_pay1, k0_pay9, gate5, k0_pay4, dgate, ones_apply, Cert.Reals.bits_one, proj, dmerged, gate_apply]
  blk_simp [iblk]; rw [entry4]; pointwise [proj]
  blk_point [iblk, V, idx t]

/-- The gradient of the second gate. -/
theorem final10 (c : Dev nD) : (dats m 0 c).arrAt 10 (cfgs 0).N
    = truncf (F := Ideal) .bf16 (dgate (m ((c : Thread nD τ).loc main_arg0)) (m ((c : Thread nD τ).loc main_arg1)) (m ((c : Thread nD τ).loc main_arg3)) (projHalf (m ((c : Thread nD τ).loc main_arg5)) (m ((c : Thread nD τ).loc main_arg7)))) Cert.MergeRefIdeal.Gen.bitsLt_bf16_f32 := by
  refine (dats m 0 c).arrAt_eq_of_covers 10 _ (by decide +kernel) fun t hf y => ?_
  blk_simp; rw [after0_10]; frame_out
  pointwise [k0_pay2, gate6, k0_pay4, dgate, ones_apply, Cert.Reals.bits_one, projHalf, dmerged, gate_apply]
  blk_simp [iblk]; rw [entry5]; pointwise [projHalf]
  blk_point [iblk, V, idx t]

/-- The gradient of the second branch's input. -/
theorem final11 (c : Dev nD) : (dats m 0 c).arrAt 11 (cfgs 0).N
    = truncf (F := Ideal) .bf16 (dinput (m ((c : Thread nD τ).loc main_arg0)) (m ((c : Thread nD τ).loc main_arg1)) (m ((c : Thread nD τ).loc main_arg3)) (m ((c : Thread nD τ).loc main_arg7))) Cert.MergeRefIdeal.Gen.bitsLt_bf16_f32 := by
  refine (dats m 0 c).arrAt_eq_of_covers 11 _ (by decide +kernel) fun t hf y => ?_
  blk_simp; rw [after0_11]; frame_out
  pointwise [k0_pay3, k0_pay7, gate6, k0_pay4, dinput, dbranch, dmerged, gate_apply]
  blk_point [iblk, V, idx t]

end Cert.MergeIdeal.Value

end
-- ==== Proof.MergeClaim.lean ====
/- The claims about the gated merge's backward call. -/
module

public import proofs.«01_k».proof.Defs
public import proofs.«01_k».proof.Proof.Merge
public import proofs.«01_k».proof.Proof.Gen.Merge.Frame

@[expose] public section

set_option maxRecDepth 16384

noncomputable section

namespace Cert.Proof

open Idealize.ShloMosaic Idealize.SL.Sem
open Cert.MergeRefIdeal (nD τ sig defs main main_arg0 main_arg1 main_arg2 main_arg3 main_arg4 main_arg5 main_arg6 main_arg7
  main_v35 main_v36 main_v37 main_v38 main_v39)
open Cert.MergeRefIdeal.Value (dbranch dgate dinput proj projHalf)
open Cert.MergeRefIdeal.Gen (bitsLt_bf16_f32)

theorem merge_frame : Cert.quiescent_Merge := fun m ρ _ => Cert.Merge.Gen.frame m ρ

theorem merge_frame_ideal : Cert.quiescent_MergeIdeal := fun m ρ _ => Cert.MergeIdeal.Gen.frame m ρ

theorem merge_frame_ref : Cert.quiescent_MergeRefIdeal := fun m ρ _ =>
  (θ_run Cert.MergeRefIdeal.defs _ _).mono (fun r h => ⟨fun c => (h c).2.2.2.2.2, sem_eq_zero_of_no_sems (by decide) r.2⟩)
    (Cert.MergeRefIdeal.Value.run m ρ)

/-- The reference's run, its five results named. -/
theorem merge_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v35) = truncf (F := Ideal) .bf16 (dbranch (m (c.tc.loc main_arg0)) (m (c.tc.loc main_arg1)) (m (c.tc.loc main_arg2))) bitsLt_bf16_f32
        ∧ r.2.mem (c.tc.loc main_v36) = truncf (F := Ideal) .bf16 (dbranch (m (c.tc.loc main_arg0)) (m (c.tc.loc main_arg1)) (m (c.tc.loc main_arg3))) bitsLt_bf16_f32
        ∧ r.2.mem (c.tc.loc main_v37) = truncf (F := Ideal) .bf16 (dgate (m (c.tc.loc main_arg0)) (m (c.tc.loc main_arg1)) (m (c.tc.loc main_arg2)) (proj (m (c.tc.loc main_arg4)) (m (c.tc.loc main_arg6)))) bitsLt_bf16_f32
        ∧ r.2.mem (c.tc.loc main_v38) = truncf (F := Ideal) .bf16 (dgate (m (c.tc.loc main_arg0)) (m (c.tc.loc main_arg1)) (m (c.tc.loc main_arg3)) (projHalf (m (c.tc.loc main_arg5)) (m (c.tc.loc main_arg7)))) bitsLt_bf16_f32
        ∧ r.2.mem (c.tc.loc main_v39) = truncf (F := Ideal) .bf16 (dinput (m (c.tc.loc main_arg0)) (m (c.tc.loc main_arg1)) (m (c.tc.loc main_arg3)) (m (c.tc.loc main_arg7))) bitsLt_bf16_f32
        ∧ r.2.mem (c.tc.loc main_arg0) = (m (c.tc.loc main_arg0)) ∧ r.2.mem (c.tc.loc main_arg1) = (m (c.tc.loc main_arg1)) ∧ r.2.mem (c.tc.loc main_arg2) = (m (c.tc.loc main_arg2))
        ∧ r.2.mem (c.tc.loc main_arg3) = (m (c.tc.loc main_arg3)) ∧ r.2.mem (c.tc.loc main_arg4) = (m (c.tc.loc main_arg4)) ∧ r.2.mem (c.tc.loc main_arg5) = (m (c.tc.loc main_arg5))
        ∧ r.2.mem (c.tc.loc main_arg6) = (m (c.tc.loc main_arg6)) ∧ r.2.mem (c.tc.loc main_arg7) = (m (c.tc.loc main_arg7)) :=
  Cert.MergeRefIdeal.Value.run m ρ

set_option maxHeartbeats 1000000 in
theorem merge_value : Cert.algebraic_MergeIdeal_MergeRefIdeal := by
  pair_intro
  · run_from Cert.MergeIdeal.Gen.run_main m g
  · run_from merge_ref_run m' g'
    · exact (Cert.MergeIdeal.Value.final7 m c).symm
    · exact (Cert.MergeIdeal.Value.final8 m c).symm
    · exact (Cert.MergeIdeal.Value.final9 m c).symm
    · exact (Cert.MergeIdeal.Value.final10 m c).symm
    · exact (Cert.MergeIdeal.Value.final11 m c).symm

end Cert.Proof

end
-- ==== Proof.Act.lean ====
/- The gated feed-forward's activation gradient: what each grid point stores, what the result array holds after the run,
   and its equality with the reference's result on real arguments. -/
module

public import proofs.«01_k».proof.Proof.Reals
public import proofs.«01_k».proof.Proof.Gen.ActIdeal.Value
public import proofs.«01_k».proof.Proof.Gen.ActRefIdeal.Run

@[expose] public section

set_option maxRecDepth 16384

noncomputable section

open Idealize.ShloMosaic Idealize.ShloMosaic.TcCoe Idealize.SL.Sem
open Idealize.ShloMosaic.Pipeline (Dat)

namespace Cert.ActRefIdeal.Value

open Cert.ActRefIdeal Cert.ActRefIdeal.Gen

/-- The constant one. -/
def ones : FVec Ideal S8192x2816 .f32 := broadcastInDim S8192x2816 ![] bcast_S_S8192x2816 (constant S_ .f32 0x3F800000#32)

/-- The gate's half of the hidden row. -/
def lo (gu : FVec Ideal S8192x5632 .f32) : FVec Ideal S8192x2816 .f32 := extractStridedSlice S8192x2816 ![0, 0] gu slices_S8192x5632_S8192x2816_0_0

/-- The other half. -/
def hi (gu : FVec Ideal S8192x5632 .f32) : FVec Ideal S8192x2816 .f32 := extractStridedSlice S8192x2816 ![0, 2816] gu slices_S8192x5632_S8192x2816_0_2816

/-- The logistic function of the gate. -/
def sig (gu : FVec Ideal S8192x5632 .f32) : FVec Ideal S8192x2816 .f32 := Host.divf ones (addf ones (Host.exp (Host.negf (lo gu))))

/-- The cotangent of the activation. -/
def dact (d : FVec Ideal S8192x1024 .f32) (w : FVec Ideal S1x2816x1024 .f32) : FVec Ideal S8192x2816 .f32 :=
  Host.dotGeneral (φ₁ := .f32) (φ₂ := .f32) dot_S8192x1024_S2816x1024_S8192x2816_1_1_0_0_n_n none d (shapeCast _ w shapeCasts_S1x2816x1024_S2816x1024)

/-- The gradient of the gate's half. -/
def dlo (d : FVec Ideal S8192x1024 .f32) (w : FVec Ideal S1x2816x1024 .f32) (gu : FVec Ideal S8192x5632 .f32) : FVec Ideal S8192x2816 .f32 :=
  addf (mulf (mulf (dact d w) (hi gu)) (sig gu)) (mulf (mulf (lo gu) (mulf (dact d w) (hi gu))) (mulf (sig gu) (subf ones (sig gu))))

/-- The gradient of the other half. -/
def dhi (d : FVec Ideal S8192x1024 .f32) (w : FVec Ideal S1x2816x1024 .f32) (gu : FVec Ideal S8192x5632 .f32) : FVec Ideal S8192x2816 .f32 :=
  mulf (mulf (lo gu) (sig gu)) (dact d w)

/-- The gradient of the hidden row: the two halves side by side. -/
def dgu (d : FVec Ideal S8192x1024 .f32) (w : FVec Ideal S1x2816x1024 .f32) (gu : FVec Ideal S8192x5632 .f32) : FVec Ideal S8192x5632 .f32 :=
  concatenate S8192x5632 1 [⟨S8192x2816, dlo d w gu⟩, ⟨S8192x2816, dhi d w gu⟩] concatenates_S8192x2816_S8192x2816_S8192x5632_d1

variable (d : FVec Ideal S8192x1024 .f32) (w : FVec Ideal S1x2816x1024 .f32) (gu : FVec Ideal S8192x5632 .f32)

theorem ones_apply (i : S8192x2816.Idx) : ones i = (1 : EReal) := by rw [← Cert.Reals.bits_one]; pointwise [ones]

theorem sig_apply (i : S8192x2816.Idx) : sig gu i = Ideal.logistic (lo gu i) := by
  show Ideal.div (ones i) (ones i + Ideal.exp (-(lo gu i))) = _
  rw [ones_apply]; rfl

open Cert.Reals in
/-- The gate's half of the result on reals, as a product. -/
theorem dlo_apply (hd : IsReal d) (hw : IsReal w) (hg : IsReal gu) (i : S8192x2816.Idx) :
    dlo d w gu i = dact d w i * hi gu i * (Ideal.logistic (lo gu i) * (1 + lo gu i * (1 - Ideal.logistic (lo gu i)))) := by
  have h1 : Num (dact d w i) := by pointwise [dact]; exact Num.sum _ _ fun k => (hd _).mul (hw _)
  have h2 : Num (hi gu i) := by pointwise [hi]; exact hg _
  have h3 : Num (lo gu i) := by pointwise [lo]; exact hg _
  rw [silu_grad h1 h3 h2, ← sig_apply, ← ones_apply i]
  rfl

open Cert.Reals in
/-- The left half of the result: the gradient of the gate's half. -/
theorem dgu_left (hd : IsReal d) (hw : IsReal w) (hg : IsReal gu) (i : S8192x5632.Idx) (h : (i 1 : ℕ) < 2816) :
    dgu d w gu i = (∑ k, d (ix2 (i 0) k) * w (ix3 0 ⟨i 1, h⟩ k)) * gu (ix2 (i 0) ⟨2816 + i 1, by omega⟩)
      * (Ideal.logistic (gu i) * (1 + gu i * (1 - Ideal.logistic (gu i)))) := by
  have e : dgu d w gu i = dlo d w gu (ix2 (i 0) ⟨i 1, h⟩) := by
    pointwise [dgu]; rw [dif_pos (by omega)]
  have e' : lo gu (ix2 (i 0) ⟨i 1, h⟩) = gu i := by
    pointwise [lo]
  rw [e, dlo_apply d w gu hd hw hg, e']
  pointwise [dact, hi]

/-- The right half of the result. -/
theorem dgu_right (i : S8192x5632.Idx) (h : 2816 ≤ (i 1 : ℕ)) (h' : (i 1 : ℕ) - 2816 < 2816) :
    dgu d w gu i = (∑ k, d (ix2 (i 0) k) * w (ix3 0 ⟨i 1 - 2816, h'⟩ k))
      * (gu (ix2 (i 0) ⟨i 1 - 2816, by omega⟩) * Ideal.logistic (gu (ix2 (i 0) ⟨i 1 - 2816, by omega⟩))) := by
  have e : dgu d w gu i = dhi d w gu (ix2 (i 0) ⟨i 1 - 2816, h'⟩) := by
    pointwise [dgu]; rw [dif_neg (by omega)]
  rw [e, mul_comm]
  pointwise [dhi, sig_apply, dact, lo]

end Cert.ActRefIdeal.Value

namespace Cert.ActIdeal.Value

open Cert.ActIdeal Cert.ActIdeal.Gen
open Cert.ActRefIdeal.Value (dgu dgu_left dgu_right)

variable (m : (ℓ : Loc nD τ sig) → Buf (Elt Ideal) ℓ)

/-- Every window's block at every grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

set_option maxHeartbeats 8000000 in
open Cert.Reals in
/-- The hidden row's gradient: each grid point writes its rows, in tiles of 256 columns. -/
theorem final3 (c : Dev nD) (hd : IsReal (s := S8192x1024) (m ((c : Thread nD τ).loc main_arg0)))
    (hw : IsReal (s := S1x2816x1024) (m ((c : Thread nD τ).loc main_arg1)))
    (hg : IsReal (s := S8192x5632) (m ((c : Thread nD τ).loc main_arg2))) : (dats m 0 c).arrAt 3 (cfgs 0).N
    = truncf (F := Ideal) .bf16 (dgu (m ((c : Thread nD τ).loc main_arg0)) (m ((c : Thread nD τ).loc main_arg1)) (m ((c : Thread nD τ).loc main_arg2))) Cert.ActRefIdeal.Gen.bitsLt_bf16_f32 := by
  refine (dats m 0 c).arrAt_eq_of_covers 3 _ (by decide +kernel) fun t hf y => ?_
  blk_simp; rw [after0_3]; frame_out
  canon_tiles x h
  all_goals
    open_payloads; pointwise [Cert.Reals.sig_bits]
    first
    | (rw [dgu_left _ _ _ hd hw hg _ (by blk_simp [idx t] <;> omega)]; blk_point [iblk, V, idx t]; done)
    | (rw [dgu_right _ _ _ _ (by blk_simp [idx t] <;> omega) (by blk_simp [idx t] <;> omega)]; blk_point [iblk, V, idx t])

end Cert.ActIdeal.Value

end
-- ==== Proof.ActClaim.lean ====
/- The claims about the gated feed-forward's activation gradient. -/
module

public import proofs.«01_k».proof.Defs
public import proofs.«01_k».proof.Proof.Act
public import proofs.«01_k».proof.Proof.Gen.Act.Frame
public import proofs.«01_k».proof.Proof.Gen.Pre_finite_act

@[expose] public section

set_option maxRecDepth 16384

noncomputable section

namespace Cert.Proof

open Idealize.ShloMosaic Idealize.SL.Sem
open Cert.Reals
open Cert.ActRefIdeal (nD τ sig defs main main_arg0 main_arg1 main_arg2 main_v11)
open Cert.ActRefIdeal.Value (dgu)

theorem act_frame : Cert.quiescent_Act := fun m ρ _ => Cert.Act.Gen.frame m ρ

theorem act_frame_ideal : Cert.quiescent_ActIdeal := fun m ρ _ => Cert.ActIdeal.Gen.frame m ρ

theorem act_frame_ideal_pre : Cert.quiescent_ActIdeal_pre_finite_act := fun m ρ _ => Cert.ActIdeal.Gen.frame m ρ

theorem act_frame_ref : Cert.quiescent_ActRefIdeal := fun m ρ _ =>
  (θ_run Cert.ActRefIdeal.defs _ _).mono (fun r h => ⟨fun c => (h c).2, sem_eq_zero_of_no_sems (by decide) r.2⟩)
    (Cert.ActRefIdeal.Value.run m ρ)

theorem act_frame_ref_pre : Cert.quiescent_ActRefIdeal_pre_finite_act := fun m ρ _ => act_frame_ref m ρ trivial

/-- The reference's run, its result named. -/
theorem act_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v11) = truncf (F := Ideal) .bf16 (dgu (m (c.tc.loc main_arg0)) (m (c.tc.loc main_arg1)) (m (c.tc.loc main_arg2))) Cert.ActRefIdeal.Gen.bitsLt_bf16_f32
        ∧ r.2.mem (c.tc.loc main_arg0) = m (c.tc.loc main_arg0) ∧ r.2.mem (c.tc.loc main_arg1) = m (c.tc.loc main_arg1)
        ∧ r.2.mem (c.tc.loc main_arg2) = m (c.tc.loc main_arg2) :=
  Cert.ActRefIdeal.Value.run m ρ

open Cert.Pre_finite_act in
/-- What the precondition says: three arrays of reals. -/
theorem act_pre (a0 : FVec Ideal S8192x1024 .f32) (a1 : FVec Ideal S1x2816x1024 .f32) (a2 : FVec Ideal S8192x5632 .f32)
    (h : Cert.Pre_finite_act.fn (F := Ideal) a0 a1 a2 = fun _ => 1#1) : IsReal a0 ∧ IsReal a1 ∧ IsReal a2 := by
  have h := congrFun h (fun k => k.elim0)
  obtain ⟨h, h2⟩ := IntOp.andi_eq_one.mp h
  obtain ⟨h0, h1⟩ := IntOp.andi_eq_one.mp h
  exact ⟨isReal_of_all _ _ _ _ _ _ _ h0, isReal_of_all _ _ _ _ _ _ _ h1, isReal_of_all _ _ _ _ _ _ _ h2⟩

theorem act_value : Cert.algebraic_ActIdeal_ActRefIdeal_pre_finite_act := by
  pair_intro
  · run_from Cert.ActIdeal.Gen.run_main m g
  · run_from act_ref_run m' g'
    obtain ⟨h0, h1, h2⟩ := act_pre _ _ _ (hpre c)
    exact (Cert.ActIdeal.Value.final3 m c h0 h1 h2).symm

end Cert.Proof

end
-- ==== Proof.Gelu.lean ====
/- The smooth gate both the recurrence's output and the gated product use: its value, and its derivative in the two forms
   the programs compute. -/
module

public import proofs.«01_k».proof.Proof.Reals

@[expose] public section

set_option maxRecDepth 16384

noncomputable section

open Idealize.ShloMosaic Idealize.ShloMosaic.TcCoe Idealize.SL.Sem

namespace Cert.Reals

/-- The cubic term's factor, as the reference divides it. -/
def cubic : EReal := Ideal.div (Ideal.ofBits .f32 0x472EAB00#32) (Ideal.ofBits .f32 0x49742400#32)

theorem cubic_eq : cubic = ((8943 / 200000 : ℝ) : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [cubic, h1, h2, coe_div _ (by norm_num)]; norm_num

theorem bits_three : Ideal.ofBits .f32 0x40400000#32 = ((3 : ℝ) : EReal) := by
  simp [Ideal.ofBits, Ideal.ieee, -EReal.coe_mul]; norm_num

theorem scale_num : Num (Ideal.ofBits .f32 0x3F4C422A#32) :=
  ⟨_, by simp [Ideal.ofBits, Ideal.ieee, -EReal.coe_mul]; rfl⟩

/-- The hyperbolic tangent inside. -/
def gth (x : EReal) : EReal := Ideal.tanh (Ideal.ofBits .f32 0x3F4C422A#32 * (x + cubic * (x * x * x)))

/-- The factor beside the argument. -/
def gcdf (x : EReal) : EReal := Ideal.ofBits .f32 0x3F000000#32 * (1 + gth x)

/-- The gate. -/
def gelu (x : EReal) : EReal := x * gcdf x

/-- Its derivative, as the calls compute it. -/
def dgelu (x : EReal) : EReal := gcdf x + Ideal.ofBits .f32 0x3F000000#32 * x * (1 - gth x * gth x)
  * (Ideal.ofBits .f32 0x3F4C422A#32 * (1 + ((26829 / 200000 : ℝ) : EReal) * (x * x)))

/-- What the derivative passes on inside the hyperbolic tangent. -/
def gin (d x : EReal) : EReal := Ideal.ofBits .f32 0x3F4C422A#32 * (Ideal.ofBits .f32 0x3F000000#32 * (x * d) * ((1 + gth x) * (1 - gth x)))

theorem gcdf_num (x : EReal) : Num (gcdf x) := by
  rw [gcdf, bits_half]; exact (Num.coe _).mul (Num.one.add (Num.tanh _))

theorem gelu_num {x : EReal} (hx : Num x) : Num (gelu x) := hx.mul (gcdf_num x)

theorem dgelu_num {x : EReal} (hx : Num x) : Num (dgelu x) := by
  rw [dgelu, bits_half]
  exact (gcdf_num x).add ((((Num.coe _).mul hx).mul (Num.one.sub ((Num.tanh _).mul (Num.tanh _)))).mul (scale_num.mul (Num.one.add ((Num.coe _).mul (hx.mul hx)))))

/-- The two forms of the derivative, times the cotangent. -/
theorem gelu_grad {d x : EReal} (hd : Num d) (hx : Num x) :
    d * gcdf x + gin d x + cubic * gin d x * (Ideal.ofBits .f32 0x40400000#32 * (x * x)) = d * dgelu x := by
  obtain ⟨s, hs⟩ := scale_num
  obtain ⟨t, ht⟩ : Num (gth x) := Num.tanh _
  obtain ⟨d, rfl⟩ := hd; obtain ⟨x, rfl⟩ := hx
  simp only [dgelu, gcdf, gin, ht, hs, bits_half, bits_three, cubic_eq, ← EReal.coe_one, ← EReal.coe_mul, ← EReal.coe_add, ← EReal.coe_sub]
  congr 1; ring

end Cert.Reals

end
-- ==== Proof.S5Out.lean ====
/- The recurrence's output gate, backward: what each grid point stores, what the four result arrays hold after the run, and
   their equality with the reference's results on real arguments. -/
module

public import proofs.«01_k».proof.Proof.Gelu
public import proofs.«01_k».proof.Proof.Gen.S5OutIdeal.Value
public import proofs.«01_k».proof.Proof.Gen.S5OutRefIdeal.Run

@[expose] public section

set_option maxRecDepth 16384

noncomputable section

open Idealize.ShloMosaic Idealize.ShloMosaic.TcCoe Idealize.SL.Sem
open Idealize.ShloMosaic.Pipeline (Dat)
open Cert.Reals

namespace Cert.S5OutRefIdeal.Value

open Cert.S5OutRefIdeal Cert.S5OutRefIdeal.Gen

/-- One number beside every element. -/
def fill (b : BitVec 32) : FVec Ideal S8192x512 .f32 := broadcastInDim S8192x512 ![] bcast_S_S8192x512 (constant S_ .f32 b)

/-- The cubic term's factor beside every element. -/
def cubics : FVec Ideal S8192x512 .f32 :=
  broadcastInDim S8192x512 ![] bcast_S_S8192x512 (Host.divf (constant S_ .f32 0x472EAB00#32) (constant S_ .f32 0x49742400#32))

/-- The skip's factor beside every row. -/
def skip (d : FVec Ideal S1x32x16 .f32) : FVec Ideal S8192x512 .f32 :=
  broadcastInDim S8192x512 ![0, 1] bcast_S1x512_S8192x512_0_1 (broadcastInDim S1x512 ![1] bcast_S512_S1x512_1
    (shapeCast _ (shapeCast _ d shapeCasts_S1x32x16_S32x16) shapeCasts_S32x16_S512))

/-- What the gate reads. -/
def pre (y u : FVec Ideal S8192x512 .f32) (d : FVec Ideal S1x32x16 .f32) : FVec Ideal S8192x512 .f32 := addf y (mulf (skip d) u)

/-- The hyperbolic tangent inside the gate. -/
def th (x : FVec Ideal S8192x512 .f32) : FVec Ideal S8192x512 .f32 :=
  Host.tanh (mulf (fill 0x3F4C422A#32) (addf x (mulf cubics (mulf (mulf x x) x))))

/-- The gate's factor. -/
def cdf (x : FVec Ideal S8192x512 .f32) : FVec Ideal S8192x512 .f32 := mulf (fill 0x3F000000#32) (addf (fill 0x3F800000#32) (th x))

/-- The gate. -/
def act (x : FVec Ideal S8192x512 .f32) : FVec Ideal S8192x512 .f32 := mulf x (cdf x)

/-- The second gate's argument. -/
def arg (x : FVec Ideal S8192x512 .f32) (w : FVec Ideal S1x512x512 .f32) : FVec Ideal S8192x512 .f32 :=
  Host.dotGeneral (φ₁ := .f32) (φ₂ := .f32) dot_S8192x512_S512x512_S8192x512_1_0_0_1_n_n none (act x) (shapeCast _ w shapeCasts_S1x512x512_S512x512)

/-- Its logistic function. -/
def sig (x : FVec Ideal S8192x512 .f32) (w : FVec Ideal S1x512x512 .f32) : FVec Ideal S8192x512 .f32 :=
  Host.divf (fill 0x3F800000#32) (addf (fill 0x3F800000#32) (Host.exp (Host.negf (addf (arg x w) (fill 0x00000000#32)))))

/-- The gradient of the second gate's argument. -/
def dgate (x dy : FVec Ideal S8192x512 .f32) (w : FVec Ideal S1x512x512 .f32) : FVec Ideal S8192x512 .f32 :=
  mulf (mulf (act x) dy) (mulf (sig x w) (subf (fill 0x3F800000#32) (sig x w)))

/-- The gradient of the first gate's result. -/
def dact (x dy : FVec Ideal S8192x512 .f32) (w : FVec Ideal S1x512x512 .f32) : FVec Ideal S8192x512 .f32 :=
  addf (addf (fill 0x00000000#32) (mulf dy (sig x w)))
    (Host.dotGeneral (φ₁ := .f32) (φ₂ := .f32) dot_S8192x512_S512x512_S8192x512_1_1_0_0_n_n none (dgate x dy w) (shapeCast _ w shapeCasts_S1x512x512_S512x512))

/-- What the first gate's derivative passes on inside the hyperbolic tangent. -/
def inner (d x : FVec Ideal S8192x512 .f32) : FVec Ideal S8192x512 .f32 :=
  mulf (fill 0x3F4C422A#32) (mulf (mulf (fill 0x3F000000#32) (mulf x d)) (mulf (addf (fill 0x3F800000#32) (th x)) (subf (fill 0x3F800000#32) (th x))))

/-- The gradient of the gate's argument. -/
def back (d x : FVec Ideal S8192x512 .f32) : FVec Ideal S8192x512 .f32 :=
  addf (addf (mulf d (cdf x)) (inner d x)) (mulf (mulf cubics (inner d x)) (mulf (fill 0x40400000#32) (mulf x x)))

/-- The gradient of what the gate reads. -/
def dpre (x dy : FVec Ideal S8192x512 .f32) (w : FVec Ideal S1x512x512 .f32) : FVec Ideal S8192x512 .f32 := back (dact x dy w) x

/-- The sums of the columns, as a row. -/
def sums (a : FVec Ideal S8192x512 .f32) : FVec Ideal S1x512 .f32 :=
  shapeCast _ (Host.reduceAdd (shapeCast _ (Host.reduceAdd a (constant S_ .f32 0x00000000#32) reducesTo_S8192x512_S512_d0 h_S_) shapeCasts_S512_S1x512)
    (constant S_ .f32 0x00000000#32) reducesTo_S1x512_S512_d0 h_S_) shapeCasts_S512_S1x512

variable (x dy d a y u : FVec Ideal S8192x512 .f32) (w : FVec Ideal S1x512x512 .f32) (s : FVec Ideal S1x32x16 .f32)

theorem fill_apply (b : BitVec 32) (i : S8192x512.Idx) : fill b i = Ideal.ofBits .f32 b := rfl

theorem cubics_apply (i : S8192x512.Idx) : cubics i = cubic := rfl

theorem th_apply (i : S8192x512.Idx) : th x i = gth (x i) := rfl

theorem cdf_apply (i : S8192x512.Idx) : cdf x i = gcdf (x i) := by
  show Ideal.ofBits .f32 0x3F000000#32 * (Ideal.ofBits .f32 0x3F800000#32 + gth (x i)) = _
  rw [bits_one]; rfl

theorem act_apply (i : S8192x512.Idx) : act x i = gelu (x i) := by
  show x i * cdf x i = _
  rw [cdf_apply]; rfl

theorem arg_apply (i : S8192x512.Idx) : arg x w i = ∑ k : Fin 512, gelu (x (ix2 (i 0) k)) * w (ix3 0 k (i 1)) := by
  pointwise [arg, act_apply]

theorem sig_apply (i : S8192x512.Idx) : sig x w i = Ideal.logistic (arg x w i) := by
  show Ideal.div (Ideal.ofBits .f32 0x3F800000#32) (Ideal.ofBits .f32 0x3F800000#32 + Ideal.exp (-(arg x w i + Ideal.ofBits .f32 0x00000000#32))) = _
  rw [Ideal.ofBits_zero, add_zero, bits_one]; rfl

theorem dgate_apply (i : S8192x512.Idx) : dgate x dy w i
    = dy i * gelu (x i) * (Ideal.logistic (arg x w i) * (1 - Ideal.logistic (arg x w i))) := by
  show act x i * dy i * (sig x w i * (Ideal.ofBits .f32 0x3F800000#32 - sig x w i)) = _
  rw [bits_one, sig_apply, act_apply, mul_comm (gelu _)]

theorem dact_apply (i : S8192x512.Idx) : dact x dy w i
    = dy i * Ideal.logistic (arg x w i) + ∑ k : Fin 512, dgate x dy w (ix2 (i 0) k) * w (ix3 0 (i 1) k) := by
  pointwise [dact, sig_apply, fill]

variable (hx : IsReal x) (hy : IsReal dy) (hw : IsReal w) (hd : IsReal d)

include hx hd in
theorem back_apply (i : S8192x512.Idx) : back d x i = d i * dgelu (x i) := by
  rw [← gelu_grad (hd i) (hx i)]
  show d i * cdf x i + _ + _ = _
  rw [cdf_apply, gin, ← bits_one]; rfl

include hx hy hw in
theorem dgate_real : IsReal (dgate x dy w) := fun i => by
  rw [dgate_apply]
  exact ((hy i).mul (gelu_num (hx i))).mul ((Num.logistic _).mul (Num.one.sub (Num.logistic _)))

include hx hy hw in
theorem dact_real : IsReal (dact x dy w) := fun i => by
  rw [dact_apply]
  exact ((hy i).mul (Num.logistic _)).add (Num.sum _ _ fun k => (dgate_real x dy w hx hy hw _).mul (hw _))

include hx hy hw in
theorem dpre_apply (i : S8192x512.Idx) : dpre x dy w i = dact x dy w i * dgelu (x i) :=
  back_apply x _ hx (dact_real x dy w hx hy hw) i

theorem sums_apply (j : S1x512.Idx) : sums a j = ∑ k : Fin 8192, a (ix2 k (j 1)) := by
  pointwise [sums]
  simp only [Fin.sum_univ_one]

theorem pre_real (h1 : IsReal y) (h2 : IsReal u) (h3 : IsReal s) : IsReal (pre y u s) := fun i =>
  (h1 i).add (Num.mul (h3 _) (h2 i))

end Cert.S5OutRefIdeal.Value

namespace Cert.S5OutIdeal.Value

open Cert.S5OutIdeal Cert.S5OutIdeal.Gen
open Cert.S5OutRefIdeal.Value

theorem named_c : Named.named (F := Ideal) (φ := .f32) κ "c" 0x3D372713#32 = cubic :=
  (IdealRules.named_const.ideal_named_scalar _ _ _ _ rfl).trans cubic_eq.symm

theorem named_c3 : Named.named (F := Ideal) (φ := .f32) κ "c3" 0x3E095D4F#32 = ((26829 / 200000 : ℝ) : EReal) :=
  IdealRules.named_const.ideal_named_scalar _ _ _ _ rfl

variable (m : (ℓ : Loc nD τ sig) → Buf (Elt Ideal) ℓ) (c : Dev nD)

/-- Every window's block at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] :=
  (by decide +kernel : ∀ t : Fin grid0.N, _)

theorem pre_entry : V m c main_v6 = pre (m ((c : Thread nD τ).loc main_arg1)) (m ((c : Thread nD τ).loc main_arg2)) (m ((c : Thread nD τ).loc main_arg3)) := by
  entry_read
  refine funext fun i => ?_
  pointwise [pre, skip]

theorem arg_entry : V m c main_v22 = arg (pre (m ((c : Thread nD τ).loc main_arg1)) (m ((c : Thread nD τ).loc main_arg2)) (m ((c : Thread nD τ).loc main_arg3))) (m ((c : Thread nD τ).loc main_arg4)) := by
  rw [← pre_entry m c]
  entry_read; try rfl

variable (v : Vec Ideal S1024x512 .f32) (y : S1024x512.Idx)

theorem pay10_apply : k0_pay10 v y = gth (v y) := by
  pointwise [k0_pay10, k0_pay9, k0_pay8, gth, named_c]

theorem pay11_apply : k0_pay11 v y = gcdf (v y) := by
  pointwise [k0_pay11, pay10_apply, gcdf]

theorem pay12_apply : k0_pay12 v y = gelu (v y) := by
  pointwise [k0_pay12, k0_pay8, pay11_apply, gelu]

theorem pay13_apply : k0_pay13 v y = dgelu (v y) := by
  pointwise [k0_pay13, k0_pay9, k0_pay8, pay10_apply, pay11_apply, dgelu, named_c3]

theorem pay1_apply : k0_pay1 (k0_pay14 v) y = Ideal.logistic (v y) := by
  rw [← sig_bits]; pointwise [k0_pay1, k0_pay14]

variable (b : Vec Ideal S1024x512 .bf16) (p : Vec Ideal S1024x512 .f32) (w : Vec Ideal S512x512 .bf16)

theorem pay2_apply : k0_pay2 (k0_pay7 b) (k0_pay12 p) (k0_pay14 v) y
    = b y * gelu (p y) * (Ideal.logistic (v y) * (1 - Ideal.logistic (v y))) := by
  pointwise [k0_pay2, k0_pay7, pay12_apply, pay1_apply]

/-- The product with the weight, the other way. -/
def prod (a : FVec Ideal S1024x512 .bf16) (w : Vec Ideal S512x512 .bf16) (y : S1024x512.Idx) : EReal :=
  ∑ k : Fin 512, a (ix2 (y 0) k) * w (ix2 (y 1) k)

theorem pay4_apply : k0_pay4 (k0_pay7 b) (k0_pay12 p) (k0_pay13 p) (k0_pay14 v) w y
    = (b y * Ideal.logistic (v y) + prod (k0_pay2 (k0_pay7 b) (k0_pay12 p) (k0_pay14 v)) w y) * dgelu (p y) := by
  pointwise [k0_pay4, k0_pay7, pay13_apply, pay1_apply, prod]

/-- What one point adds to the skip's gradient. -/
def part (d : FVec Ideal S1024x512 .f32) (u : Vec Ideal S1024x512 .f32) (j : S1x512.Idx) : EReal := ∑ k : Fin 1024, d (ix2 k (j 1)) * u (ix2 k (j 1))

theorem pay5_apply (f g h k : FVec Ideal S1024x512 .f32) (u : Vec Ideal S1024x512 .f32) (o : Vec Ideal S1x512 .f32) (j : S1x512.Idx) :
    k0_pay5 f g h k w o u j = o j + part (k0_pay4 f g h k w) u j := by
  pointwise [k0_pay5, part]

theorem fill6 (j : S1x512.Idx) : k0_pay6 (F := Ideal) j = 0 := by pointwise [k0_pay6]

/-- The second gate's gradient at a point. -/
def gateAt (t : Fin cfg0.N) : FVec Ideal S1024x512 .bf16 := k0_pay2 (k0_pay7 (iblk m c 0 t)) (k0_pay12 (iblk m c 1 t)) (k0_pay14 (iblk m c 2 t))

/-- The gradient of what the first gate reads, at a point. -/
def preAt (t : Fin cfg0.N) : FVec Ideal S1024x512 .f32 :=
  k0_pay4 (k0_pay7 (iblk m c 0 t)) (k0_pay12 (iblk m c 1 t)) (k0_pay13 (iblk m c 1 t)) (k0_pay14 (iblk m c 2 t)) (iblk m c 4 t)

variable (t : Fin cfg0.N) (i : S8192x512.Idx) (e0 : (i 0 : ℕ) = 1024 * t + y 0) (e1 : (i 1 : ℕ) = y 1)

include e0 e1

theorem dy_at : iblk m c 0 t y = (m ((c : Thread nD τ).loc main_arg0)) i := by
  blk_point [iblk, V, idx t]

theorem pre_at : iblk m c 1 t y = pre (m ((c : Thread nD τ).loc main_arg1)) (m ((c : Thread nD τ).loc main_arg2)) (m ((c : Thread nD τ).loc main_arg3)) i := by
  blk_simp [iblk]; rw [pre_entry]; blk_point [iblk, V, idx t]

theorem arg_at : iblk m c 2 t y = arg (pre (m ((c : Thread nD τ).loc main_arg1)) (m ((c : Thread nD τ).loc main_arg2)) (m ((c : Thread nD τ).loc main_arg3))) (m ((c : Thread nD τ).loc main_arg4)) i := by
  blk_simp [iblk]; rw [arg_entry]; blk_point [iblk, V, idx t]

theorem u_at : iblk m c 3 t y = (m ((c : Thread nD τ).loc main_arg2)) i := by
  blk_point [iblk, V, idx t]

theorem dgate_at : gateAt m c t y = dgate (pre (m ((c : Thread nD τ).loc main_arg1)) (m ((c : Thread nD τ).loc main_arg2)) (m ((c : Thread nD τ).loc main_arg3))) (m ((c : Thread nD τ).loc main_arg0)) (m ((c : Thread nD τ).loc main_arg4)) i := by
  rw [gateAt, pay2_apply, dgate_apply]
  exact congrArg₂ (· * ·) (congrArg₂ (· * ·) (dy_at m c y t i e0 e1) (congrArg gelu (pre_at m c y t i e0 e1)))
    (congrArg (fun z => Ideal.logistic z * (1 - Ideal.logistic z)) (arg_at m c y t i e0 e1))

theorem act_at : k0_pay12 (iblk m c 1 t) y = act (pre (m ((c : Thread nD τ).loc main_arg1)) (m ((c : Thread nD τ).loc main_arg2)) (m ((c : Thread nD τ).loc main_arg3))) i := by
  rw [pay12_apply, act_apply]; exact congrArg gelu (pre_at m c y t i e0 e1)

variable (h0 : IsReal (s := S8192x512) (m ((c : Thread nD τ).loc main_arg0))) (h1 : IsReal (s := S8192x512) (m ((c : Thread nD τ).loc main_arg1))) (h2 : IsReal (s := S8192x512) (m ((c : Thread nD τ).loc main_arg2)))
  (h3 : IsReal (s := S1x32x16) (m ((c : Thread nD τ).loc main_arg3))) (h4 : IsReal (s := S1x512x512) (m ((c : Thread nD τ).loc main_arg4)))

include h0 h1 h2 h3 h4 in
theorem dpre_at : preAt m c t y = dpre (pre (m ((c : Thread nD τ).loc main_arg1)) (m ((c : Thread nD τ).loc main_arg2)) (m ((c : Thread nD τ).loc main_arg3))) (m ((c : Thread nD τ).loc main_arg0)) (m ((c : Thread nD τ).loc main_arg4)) i := by
  rw [preAt, pay4_apply, dpre_apply _ _ _ (pre_real _ _ _ h1 h2 h3) h0 h4, dact_apply]
  refine congrArg₂ (· * ·) (congrArg₂ (· + ·) (congrArg₂ (· * ·) (dy_at m c y t i e0 e1) (congrArg Ideal.logistic (arg_at m c y t i e0 e1))) ?_)
    (congrArg dgelu (pre_at m c y t i e0 e1))
  refine Finset.sum_congr rfl fun k _ => congrArg₂ (· * ·) (dgate_at m c (ix2 (y 0) k) t (ix2 (i 0) k) e0 rfl) ?_
  blk_point [iblk, V, idx t]

omit e0 e1

include h0 h1 h2 h3 h4 in
theorem final5 : (dats m 0 c).arrAt 5 (cfgs 0).N = dpre (pre (m ((c : Thread nD τ).loc main_arg1)) (m ((c : Thread nD τ).loc main_arg2)) (m ((c : Thread nD τ).loc main_arg3))) (m ((c : Thread nD τ).loc main_arg0)) (m ((c : Thread nD τ).loc main_arg4)) := by
  refine (dats m 0 c).arrAt_eq_of_covers 5 _ (by decide +kernel) fun t hf y => ?_
  blk_simp; rw [after0_5]
  by_cases h : t.val % 8 = 0
  · rw [outsAt0_A m c t h]; frame_out
    exact dpre_at m c _ t _ (by blk_simp [idx t] <;> omega) (by blk_simp [idx t] <;> omega) h0 h1 h2 h3 h4
  · rw [outsAt0_B m c t h]; frame_out
    exact dpre_at m c _ t _ (by blk_simp [idx t] <;> omega) (by blk_simp [idx t] <;> omega) h0 h1 h2 h3 h4

theorem final6 : (dats m 0 c).arrAt 6 (cfgs 0).N = truncf (F := Ideal) .bf16 (dgate (pre (m ((c : Thread nD τ).loc main_arg1)) (m ((c : Thread nD τ).loc main_arg2)) (m ((c : Thread nD τ).loc main_arg3))) (m ((c : Thread nD τ).loc main_arg0)) (m ((c : Thread nD τ).loc main_arg4))) Cert.S5OutRefIdeal.Gen.bitsLt_bf16_f32 := by
  refine (dats m 0 c).arrAt_eq_of_covers 6 _ (by decide +kernel) fun t hf y => ?_
  blk_simp; rw [after0_6]
  by_cases h : t.val % 8 = 0
  · rw [outsAt0_A m c t h]; frame_out
    exact dgate_at m c _ t _ (by blk_simp [idx t] <;> omega) (by blk_simp [idx t] <;> omega)
  · rw [outsAt0_B m c t h]; frame_out
    exact dgate_at m c _ t _ (by blk_simp [idx t] <;> omega) (by blk_simp [idx t] <;> omega)

theorem final7 : (dats m 0 c).arrAt 7 (cfgs 0).N = truncf (F := Ideal) .bf16 (act (pre (m ((c : Thread nD τ).loc main_arg1)) (m ((c : Thread nD τ).loc main_arg2)) (m ((c : Thread nD τ).loc main_arg3)))) Cert.S5OutRefIdeal.Gen.bitsLt_bf16_f32 := by
  refine (dats m 0 c).arrAt_eq_of_covers 7 _ (by decide +kernel) fun t hf y => ?_
  blk_simp; rw [after0_7]
  by_cases h : t.val % 8 = 0
  · rw [outsAt0_A m c t h]; frame_out
    exact act_at m c _ t _ (by blk_simp [idx t] <;> omega) (by blk_simp [idx t] <;> omega)
  · rw [outsAt0_B m c t h]; frame_out
    exact act_at m c _ t _ (by blk_simp [idx t] <;> omega) (by blk_simp [idx t] <;> omega)

include h0 h1 h2 h3 h4 in
/-- The skip's gradient: the points' parts added up. -/
theorem final8 : (dats m 0 c).arrAt 8 (cfgs 0).N = sums (mulf (dpre (pre (m ((c : Thread nD τ).loc main_arg1)) (m ((c : Thread nD τ).loc main_arg2)) (m ((c : Thread nD τ).loc main_arg3))) (m ((c : Thread nD τ).loc main_arg0)) (m ((c : Thread nD τ).loc main_arg4))) (m ((c : Thread nD τ).loc main_arg2))) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun t j => part (preAt m c t) (iblk m c 3 t) j)
    (fun t h j => by rw [outsAt0_A m c t h]; frame_out; rw [pay5_apply, fill6]; rfl)
    (fun t h j => by rw [outsAt0_B m c t h]; frame_out; rw [pay5_apply]; rfl)
    (le_of_eq N_0) t0_7 rfl j, zero_add]
  pointwise [part, sums_apply]
  refine Fin.sum_mul_add_congr fun s k hl => ?_
  have e0 : s.val * 1024 + k.val = 1024 * s.val + k.val := by omega
  exact congrArg₂ (· * ·) (dpre_at m c _ s _ e0 rfl h0 h1 h2 h3 h4) (u_at m c _ s _ e0 rfl)

end Cert.S5OutIdeal.Value

end
-- ==== Proof.Norm.lean ====
/- The gradient of a root-mean-square normalisation along one row: the form the calls compute and the one the derivative
   of the forward lines has, equal on real rows. -/
module

public import proofs.«01_k».proof.Proof.Reals

@[expose] public section

set_option maxRecDepth 16384

noncomputable section

open Idealize.ShloMosaic Idealize.ShloMosaic.TcCoe Idealize.SL.Sem

namespace Cert.Reals

/-- The width of a row. -/
theorem bits_width : Ideal.ofBits .f32 0x44800000#32 = ((1024 : ℝ) : EReal) := by
  simp [Ideal.ofBits, Ideal.ieee, -EReal.coe_mul]; norm_num

theorem bits_neg_half : Ideal.ofBits .f32 0xBF000000#32 = ((-1 / 2 : ℝ) : EReal) := by
  simp [Ideal.ofBits, Ideal.ieee, -EReal.coe_mul]; norm_num

/-- The number under the root is a positive real's. -/
def eps : ℝ := 8796093 / 8796093022208

theorem bits_eps : Ideal.ofBits .f32 0x358637BD#32 = (eps : EReal) := by
  simp [Ideal.ofBits, Ideal.ieee, eps, -EReal.coe_mul]; norm_num

theorem eps_pos : 0 < eps := by norm_num [eps]

variable {n : ℕ}

/-- Mean square plus the small constant. -/
def msq (x : Fin n → EReal) : EReal :=
  Ideal.div (∑ k, x k * x k) (Ideal.ofBits .f32 0x44800000#32) + Ideal.ofBits .f32 0x358637BD#32

/-- The reciprocal root mean square. -/
def rs (x : Fin n → EReal) : EReal := Ideal.rsqrt (msq x)

/-- On a real row: a positive real and its reciprocal root. -/
theorem msq_real {x : Fin n → EReal} (hx : ∀ k, Num (x k)) : ∃ v : ℝ, 0 < v ∧ msq x = v ∧ rs x = (((Real.sqrt v)⁻¹ : ℝ) : EReal) := by
  choose a ha using hx
  obtain rfl : x = fun k => (a k : EReal) := funext ha
  have hv : 0 < (∑ k, a k * a k) / 1024 + eps :=
    add_pos_of_nonneg_of_pos (div_nonneg (Finset.sum_nonneg fun k _ => mul_self_nonneg _) (by norm_num)) eps_pos
  have h : msq (fun k => (a k : EReal)) = (((∑ k, a k * a k) / 1024 + eps : ℝ) : EReal) := by
    unfold msq
    simp only [← EReal.coe_mul]
    rw [coe_sum, bits_width, coe_div _ (by norm_num), bits_eps, ← EReal.coe_add]
  exact ⟨_, hv, h, by rw [rs, h, coe_rsqrt hv]⟩

theorem rs_num {x : Fin n → EReal} (hx : ∀ k, Num (x k)) : Num (rs x) := by
  obtain ⟨v, -, -, h⟩ := msq_real hx; exact ⟨_, h⟩

/-- The factor the derivative of the forward lines multiplies the row with, twice. -/
def rmsq (x t : Fin n → EReal) : EReal :=
  Ideal.div ((∑ k, x k * t k) * (Ideal.ofBits .f32 0xBF000000#32 * Ideal.div (rs x) (msq x))) (Ideal.ofBits .f32 0x44800000#32)

theorem rmsq_num {x t : Fin n → EReal} (hx : ∀ k, Num (x k)) (ht : ∀ k, Num (t k)) : Num (rmsq x t) := by
  obtain ⟨v, hv, h1, h2⟩ := msq_real hx
  obtain ⟨s, hs⟩ := Num.sum Finset.univ (fun k => x k * t k) fun k => (hx k).mul (ht k)
  rw [rmsq, hs, h1, h2, coe_div _ hv.ne', bits_neg_half, ← EReal.coe_mul, ← EReal.coe_mul, bits_width, coe_div _ (by norm_num)]
  exact Num.coe _

/-- The gradient as the calls compute it. -/
def rmsd (x t : Fin n → EReal) (j : Fin n) : EReal :=
  rs x * (t j - x j * rs x * Ideal.div (∑ k, t k * (x k * rs x)) (Ideal.ofBits .f32 0x44800000#32))

theorem rmsd_congr {x x' t t' : Fin n → EReal} {j j' : Fin n} (hx : ∀ k, x k = x' k) (ht : ∀ k, t k = t' k) (hj : j = j') :
    rmsd x t j = rmsd x' t' j' := by
  rw [funext hx, funext ht, hj]

/-- The two forms of the gradient. -/
theorem rmsd_eq {x t : Fin n → EReal} (hx : ∀ k, Num (x k)) (ht : ∀ k, Num (t k)) (j : Fin n) :
    rmsd x t j = t j * rs x + x j * rmsq x t + rmsq x t * x j := by
  obtain ⟨v, hv, h1, h2⟩ := msq_real hx
  choose a ha using hx
  choose b hb using ht
  unfold rmsd rmsq
  rw [h1, h2]
  obtain rfl : x = fun k => (a k : EReal) := funext ha
  obtain rfl : t = fun k => (b k : EReal) := funext hb
  have hs : 0 < Real.sqrt v := Real.sqrt_pos.mpr hv
  have e : ∑ k, b k * (a k * (Real.sqrt v)⁻¹) = (Real.sqrt v)⁻¹ * ∑ k, a k * b k := by
    rw [Finset.mul_sum]; exact Finset.sum_congr rfl fun k _ => by ring
  have e2 : Real.sqrt v * Real.sqrt v = v := Real.mul_self_sqrt hv.le
  rw [bits_width, bits_neg_half, coe_div _ hv.ne']
  simp only [← EReal.coe_mul, coe_sum, e]
  rw [coe_div _ (by norm_num), coe_div _ (by norm_num)]
  simp only [← EReal.coe_mul, ← EReal.coe_add, ← EReal.coe_sub]
  congr 1
  generalize (∑ k, a k * b k) = S
  generalize Real.sqrt v = s at *
  subst e2
  field_simp
  ring

theorem rmsd_num {x t : Fin n → EReal} (hx : ∀ k, Num (x k)) (ht : ∀ k, Num (t k)) (j : Fin n) : Num (rmsd x t j) := by
  rw [rmsd_eq hx ht]
  exact (((ht j).mul (rs_num hx)).add ((hx j).mul (rmsq_num hx ht))).add ((rmsq_num hx ht).mul (hx j))

end Cert.Reals

end
-- ==== Proof.Rows.lean ====
/- Root-mean-square normalisation of an array of rows, as the references write it: the normalised rows, the gain beside
   every row, the gradient, and what each holds at one index. -/
module

public import proofs.«01_k».proof.Proof.Norm
public import proofs.«01_k».proof.Proof.Gen.FfnInRefIdeal.Run

@[expose] public section

set_option maxRecDepth 16384

noncomputable section

open Idealize.ShloMosaic Idealize.ShloMosaic.TcCoe Idealize.SL.Sem

namespace Cert.Rows

open Cert.FfnInRefIdeal Cert.FfnInRefIdeal.Gen
open Cert.Reals

/-- The mean square of each row plus the small constant. -/
def meansq (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- Its reciprocal root beside every element of the row. -/
def rootcol (x : FVec Ideal S8192x1024 .f32) : FVec Ideal S8192x1024 .f32 :=
  broadcastInDim S8192x1024 ![0, 1] bcast_S8192x1_S8192x1024_0_1 (Host.rsqrt (meansq x))

/-- The normalised rows. -/
def normed (x : FVec Ideal S8192x1024 .f32) : FVec Ideal S8192x1024 .f32 := mulf x (rootcol x)

/-- The gain beside every row. -/
def gain (g : FVec Ideal S1x1024 .f32) : FVec Ideal S8192x1024 .f32 :=
  broadcastInDim S8192x1024 ![0, 1] bcast_S1x1024_S8192x1024_0_1 (broadcastInDim S1x1024 ![1] bcast_S1024_S1x1024_1 (shapeCast _ g shapeCasts_S1x1024_S1024))

/-- The sums of the columns, as a row. -/
def colsum (a : FVec Ideal S8192x1024 .f32) : FVec Ideal S1x1024 .f32 :=
  shapeCast _ (Host.reduceAdd (shapeCast _ (Host.reduceAdd a (constant S_ .f32 0x00000000#32) reducesTo_S8192x1024_S1024_d0 h_S_) shapeCasts_S1024_S1x1024)
    (constant S_ .f32 0x00000000#32) reducesTo_S1x1024_S1024_d0 h_S_) shapeCasts_S1024_S1x1024

/-- What the derivative of the root multiplies every element of the row with. -/
def factor (x t : FVec Ideal S8192x1024 .f32) : FVec Ideal S8192x1024 .f32 :=
  broadcastInDim S8192x1024 ![0] bcast_S8192_S8192x1024_0 (Host.reduceAdd (Host.divf
    (mulf (shapeCast _ (Host.reduceAdd (mulf x t) (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (meansq x)) (meansq x))))
    (broadcastInDim S8192x1 ![] bcast_S_S8192x1 (constant S_ .f32 0x44800000#32))) (constant S_ .f32 0x00000000#32) reducesTo_S8192x1_S8192_d1 h_S_)

/-- The gradient of the normalisation. -/
def grad (x t : FVec Ideal S8192x1024 .f32) : FVec Ideal S8192x1024 .f32 :=
  addf (addf (mulf t (rootcol x)) (mulf x (factor x t))) (mulf (factor x t) x)

/-- The same on top of another gradient. -/
def gradOnto (up x t : FVec Ideal S8192x1024 .f32) : FVec Ideal S8192x1024 .f32 :=
  addf (addf (addf up (mulf t (rootcol x))) (mulf x (factor x t))) (mulf (factor x t) x)

/-- One row. -/
def line (x : FVec Ideal S8192x1024 .f32) (i : Fin 8192) : Fin 1024 → EReal := fun k => x (ix2 i k)

variable (up x t a : FVec Ideal S8192x1024 .f32) (g : FVec Ideal S1x1024 .f32)

theorem rootcol_apply (i : S8192x1024.Idx) : rootcol x i = rs (line x (i 0)) := by
  pointwise [rootcol, meansq, rs, msq, line]

theorem gain_apply (i : S8192x1024.Idx) : gain g i = g (ix2 0 (i 1)) := by
  pointwise [gain]

theorem normed_apply (i : S8192x1024.Idx) : normed x i = line x (i 0) (i 1) * rs (line x (i 0)) := by
  rw [← rootcol_apply]; pointwise [normed, line]

theorem factor_apply (i : S8192x1024.Idx) : factor x t i = rmsq (line x (i 0)) (line t (i 0)) := by
  pointwise [factor, meansq, rmsq, rs, msq, line]
  simp only [Fin.sum_univ_one]

theorem colsum_apply (j : S1x1024.Idx) : colsum a j = ∑ k : Fin 8192, a (ix2 k (j 1)) := by
  pointwise [colsum]
  simp only [Fin.sum_univ_one]

theorem gradOnto_apply (hx : IsReal x) (ht : IsReal t) (i : S8192x1024.Idx) :
    gradOnto up x t i = up i + rmsd (line x (i 0)) (line t (i 0)) (i 1) := by
  refine Eq.trans ?_ (congrArg (up i + ·) (rmsd_eq (x := line x (i 0)) (t := line t (i 0)) (fun _ => hx _) (fun _ => ht _) (i 1)).symm)
  rw [← factor_apply, ← rootcol_apply, ← add_assoc, ← add_assoc]
  pointwise [gradOnto, line]

theorem grad_apply (hx : IsReal x) (ht : IsReal t) (i : S8192x1024.Idx) :
    grad x t i = rmsd (line x (i 0)) (line t (i 0)) (i 1) := by
  refine Eq.trans ?_ (rmsd_eq (x := line x (i 0)) (t := line t (i 0)) (fun _ => hx _) (fun _ => ht _) (i 1)).symm
  rw [← factor_apply, ← rootcol_apply]
  pointwise [grad, line]

theorem normed_real (hx : IsReal x) : IsReal (normed x) := fun i => by
  rw [normed_apply]; exact (hx _).mul (rs_num fun _ => hx _)

theorem gain_real (hg : IsReal g) : IsReal (gain g) := fun i => by rw [gain_apply]; exact hg _

theorem gradOnto_real (hu : IsReal up) (hx : IsReal x) (ht : IsReal t) : IsReal (gradOnto up x t) := fun i => by
  rw [gradOnto_apply up x t hx ht]; exact (hu i).add (rmsd_num (fun _ => hx _) (fun _ => ht _) _)

theorem mulf_real {s : Shape} {a b : FVec Ideal s .f32} (ha : IsReal a) (hb : IsReal b) : IsReal (mulf a b) := fun i => (ha i).mul (hb i)

theorem addf_real {s : Shape} {a b : FVec Ideal s .f32} (ha : IsReal a) (hb : IsReal b) : IsReal (addf a b) := fun i => (ha i).add (hb i)

end Cert.Rows

end
-- ==== Proof.S5OutClaim.lean ====
/- The claims about the recurrence's output gate, backward. -/
module

public import proofs.«01_k».proof.Defs
public import proofs.«01_k».proof.Proof.S5Out
public import proofs.«01_k».proof.Proof.Gen.S5Out.Frame
public import proofs.«01_k».proof.Proof.Gen.Pre_finite_s5out
public import proofs.«01_k».proof.Proof.Rows

@[expose] public section

set_option maxRecDepth 16384

noncomputable section

namespace Cert.Proof

open Idealize.ShloMosaic Idealize.SL.Sem
open Cert.Reals Cert.Rows
open Cert.S5OutRefIdeal (nD τ sig defs main main_arg0 main_arg1 main_arg2 main_arg3 main_arg4 main_v59 main_v64 main_v65 main_v66)
open Cert.S5OutRefIdeal.Value (pre dpre dgate act sums)

theorem s5out_frame : Cert.quiescent_S5Out := fun m ρ _ => Cert.S5Out.Gen.frame m ρ

theorem s5out_frame_ideal : Cert.quiescent_S5OutIdeal := fun m ρ _ => Cert.S5OutIdeal.Gen.frame m ρ

theorem s5out_frame_ideal_pre : Cert.quiescent_S5OutIdeal_pre_finite_s5out := fun m ρ _ => Cert.S5OutIdeal.Gen.frame m ρ

theorem s5out_frame_ref : Cert.quiescent_S5OutRefIdeal := fun m ρ _ =>
  (θ_run Cert.S5OutRefIdeal.defs _ _).mono (fun r h => ⟨fun c => (h c).2.2.2.2, sem_eq_zero_of_no_sems (by decide) r.2⟩)
    (Cert.S5OutRefIdeal.Value.run m ρ)

theorem s5out_frame_ref_pre : Cert.quiescent_S5OutRefIdeal_pre_finite_s5out := fun m ρ _ => s5out_frame_ref m ρ trivial

theorem s5out_preserves : Cert.preserves_S5Out_S5OutIdeal := ⟨IdealRules.named_const.statement Cert.S5OutIdeal.κ "c" .f32 0x3D372713#32 ((8943 / 200000 : ℝ) : EReal) rfl,
  IdealRules.named_const.statement Cert.S5OutIdeal.κ "c3" .f32 0x3E095D4F#32 ((26829 / 200000 : ℝ) : EReal) rfl⟩

set_option maxHeartbeats 4000000 in
/-- The reference's run, its results named. -/
theorem s5out_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v59) = dpre (pre (m (c.tc.loc main_arg1)) (m (c.tc.loc main_arg2)) (m (c.tc.loc main_arg3))) (m (c.tc.loc main_arg0)) (m (c.tc.loc main_arg4))
        ∧ r.2.mem (c.tc.loc main_v64) = truncf (F := Ideal) .bf16 (dgate (pre (m (c.tc.loc main_arg1)) (m (c.tc.loc main_arg2)) (m (c.tc.loc main_arg3))) (m (c.tc.loc main_arg0)) (m (c.tc.loc main_arg4))) Cert.S5OutRefIdeal.Gen.bitsLt_bf16_f32
        ∧ r.2.mem (c.tc.loc main_v65) = truncf (F := Ideal) .bf16 (act (pre (m (c.tc.loc main_arg1)) (m (c.tc.loc main_arg2)) (m (c.tc.loc main_arg3)))) Cert.S5OutRefIdeal.Gen.bitsLt_bf16_f32
        ∧ r.2.mem (c.tc.loc main_v66) = sums (mulf (dpre (pre (m (c.tc.loc main_arg1)) (m (c.tc.loc main_arg2)) (m (c.tc.loc main_arg3))) (m (c.tc.loc main_arg0)) (m (c.tc.loc main_arg4))) (m (c.tc.loc main_arg2)))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4) :=
  Cert.S5OutRefIdeal.Value.run m ρ

open Cert.Pre_finite_s5out in
/-- What the precondition says: the arguments are arrays of reals. -/
theorem s5out_pre (a0 : FVec Ideal S8192x512 .f32) (a1 : FVec Ideal S8192x512 .f32) (a2 : FVec Ideal S8192x512 .f32) (a3 : FVec Ideal S1x32x16 .f32) (a4 : FVec Ideal S1x512x512 .f32)
    (h : Cert.Pre_finite_s5out.fn (F := Ideal) a0 a1 a2 a3 a4 = fun _ => 1#1) :
    IsReal a0 ∧ IsReal a1 ∧ IsReal a2 ∧ IsReal a3 ∧ IsReal a4 := by
  have h := congrFun h (fun k => k.elim0)
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨isReal_of_all _ _ _ _ _ _ _ h0, isReal_of_all _ _ _ _ _ _ _ h1, isReal_of_all _ _ _ _ _ _ _ h2, isReal_of_all _ _ _ _ _ _ _ h3, isReal_of_all _ _ _ _ _ _ _ h4⟩

set_option maxHeartbeats 1000000 in
theorem s5out_value : Cert.algebraic_S5OutIdeal_S5OutRefIdeal_pre_finite_s5out := by
  pair_intro
  · run_from Cert.S5OutIdeal.Gen.run_main m g
  · run_from s5out_ref_run m' g'
    all_goals obtain ⟨h0, h1, h2, h3, h4⟩ := s5out_pre _ _ _ _ _ (hpre c)
    · exact (Cert.S5OutIdeal.Value.final5 m c h0 h1 h2 h3 h4).symm
    · exact (Cert.S5OutIdeal.Value.final6 m c).symm
    · exact (Cert.S5OutIdeal.Value.final7 m c).symm
    · exact (Cert.S5OutIdeal.Value.final8 m c h0 h1 h2 h3 h4).symm

end Cert.Proof

end
-- ==== Proof.Loss.lean ====
/- The loss, the feed-forward's last projection and its norm, backward: what each grid point stores, what the four result
   arrays hold after the run, and their equality with the reference's results on real arguments. -/
module

public import proofs.«01_k».proof.Proof.Rows
public import proofs.«01_k».proof.Proof.Gen.LossIdeal.Value
public import proofs.«01_k».proof.Proof.Gen.LossRefIdeal.Run

@[expose] public section

set_option maxRecDepth 16384

noncomputable section

open Idealize.ShloMosaic Idealize.ShloMosaic.TcCoe Idealize.SL.Sem
open Idealize.ShloMosaic.Pipeline (Dat)
open Cert.Reals Cert.Rows

namespace Cert.Reals

theorem bits_two : Ideal.ofBits .f32 0x40000000#32 = ((2 : ℝ) : EReal) := by
  simp [Ideal.ofBits, Ideal.ieee, -EReal.coe_mul]; norm_num

theorem bits_inv : Ideal.ofBits .f32 0x3A800000#32 = ((1 / 1024 : ℝ) : EReal) := by
  simp [Ideal.ofBits, Ideal.ieee, -EReal.coe_mul]; norm_num

theorem bits_half_inv : Ideal.ofBits .f32 0x3A000000#32 = ((1 / 2048 : ℝ) : EReal) := by
  simp [Ideal.ofBits, Ideal.ieee, -EReal.coe_mul]; norm_num

/-- A real factor goes into a sum of reals. -/
theorem mul_sum {ι : Type*} (s : Finset ι) (r : ℝ) (f : ι → EReal) (h : ∀ i, Num (f i)) : (r : EReal) * ∑ i ∈ s, f i = ∑ i ∈ s, (r : EReal) * f i := by
  choose a ha using h
  obtain rfl : f = fun i => (a i : EReal) := funext ha
  simp only [← EReal.coe_mul, coe_sum, Finset.mul_sum]

/-- The derivative of half the mean square, in the two orders of its constants. -/
theorem half_mean (x : EReal) : Ideal.div (Ideal.ofBits .f32 0x3F000000#32 * 1) (Ideal.ofBits .f32 0x44800000#32) * (Ideal.ofBits .f32 0x40000000#32 * x)
    = x * Ideal.ofBits .f32 0x3A800000#32 := by
  rw [mul_one, bits_half, bits_width, coe_div _ (by norm_num), bits_two, bits_inv, ← mul_assoc, ← EReal.coe_mul, mul_comm]
  norm_num

/-- Half the sum of the rows' means is the sum of the scaled row sums. -/
theorem half_sum_means {n : ℕ} (f : Fin n → EReal) (h : ∀ i, Num (f i)) :
    Ideal.ofBits .f32 0x3F000000#32 * ∑ i, Ideal.div (f i) (Ideal.ofBits .f32 0x44800000#32) = ∑ i, Ideal.ofBits .f32 0x3A000000#32 * f i := by
  choose a ha using h
  obtain rfl : f = fun i => (a i : EReal) := funext ha
  simp only [bits_width, coe_div _ (show (1024 : ℝ) ≠ 0 by norm_num), bits_half, bits_half_inv, ← EReal.coe_mul, coe_sum, Finset.mul_sum]
  congr 1; exact Finset.sum_congr rfl fun i _ => by ring

end Cert.Reals

namespace Cert.LossRefIdeal.Value

open Cert.LossRefIdeal Cert.LossRefIdeal.Gen

/-- The last projection's rows. -/
def outp (a : FVec Ideal S8192x2816 .f32) (w : FVec Ideal S1x2816x1024 .f32) : FVec Ideal S8192x1024 .f32 :=
  Host.dotGeneral (φ₁ := .f32) (φ₂ := .f32) dot_S8192x2816_S2816x1024_S8192x1024_1_0_0_1_n_n none a (shapeCast _ w shapeCasts_S1x2816x1024_S2816x1024)

/-- The layer's result less the target. -/
def delta (a : FVec Ideal S8192x2816 .f32) (w : FVec Ideal S1x2816x1024 .f32) (x t : FVec Ideal S8192x1024 .f32) (g : FVec Ideal S1x1024 .f32) :
    FVec Ideal S8192x1024 .f32 := subf (addf x (mulf (normed (outp a w)) (gain g))) t

/-- The gradient of the layer's result. -/
def drows (a : FVec Ideal S8192x2816 .f32) (w : FVec Ideal S1x2816x1024 .f32) (x t : FVec Ideal S8192x1024 .f32) (g : FVec Ideal S1x1024 .f32) :
    FVec Ideal S8192x1024 .f32 :=
  mulf (broadcastInDim S8192x1024 ![0] bcast_S8192_S8192x1024_0 (Host.divf
      (broadcastInDim S8192 ![] bcast_S_S8192 (mulf (constant S_ .f32 0x3F000000#32) (constant S_ .f32 0x3F800000#32)))
      (broadcastInDim S8192 ![] bcast_S_S8192 (constant S_ .f32 0x44800000#32))))
    (mulf (broadcastInDim S8192x1024 ![] bcast_S_S8192x1024 (constant S_ .f32 0x40000000#32)) (delta a w x t g))

/-- The gradient of the last projection's rows. -/
def dout (a : FVec Ideal S8192x2816 .f32) (w : FVec Ideal S1x2816x1024 .f32) (x t : FVec Ideal S8192x1024 .f32) (g : FVec Ideal S1x1024 .f32) :
    FVec Ideal S8192x1024 .f32 := grad (outp a w) (mulf (drows a w x t g) (gain g))

/-- The loss, over a row of a register's width. -/
def total (a : FVec Ideal S8192x2816 .f32) (w : FVec Ideal S1x2816x1024 .f32) (x t : FVec Ideal S8192x1024 .f32) (g : FVec Ideal S1x1024 .f32) :
    FVec Ideal S1x128 .f32 :=
  broadcastInDim S1x128 ![] bcast_S_S1x128 (mulf (constant S_ .f32 0x3F000000#32) (Host.reduceAdd
    (Host.divf (Host.reduceAdd (mulf (delta a w x t g) (delta a w x t g)) (constant S_ .f32 0x00000000#32) reducesTo_S8192x1024_S8192_d1 h_S_)
      (broadcastInDim S8192 ![] bcast_S_S8192 (constant S_ .f32 0x44800000#32)))
    (constant S_ .f32 0x00000000#32) reducesTo_S8192_S_d0 h_S_))

variable (a : FVec Ideal S8192x2816 .f32) (w : FVec Ideal S1x2816x1024 .f32) (x t : FVec Ideal S8192x1024 .f32) (g : FVec Ideal S1x1024 .f32)

theorem outp_apply (i : S8192x1024.Idx) : outp a w i = ∑ k : Fin 2816, a (ix2 (i 0) k) * w (ix3 0 k (i 1)) := by
  pointwise [outp]

theorem outp_real (ha : IsReal a) (hw : IsReal w) : IsReal (outp a w) := fun i => by
  rw [outp_apply]; exact Num.sum _ _ fun k => (ha _).mul (hw _)

theorem delta_apply (i : S8192x1024.Idx) : delta a w x t g i
    = x i + line (outp a w) (i 0) (i 1) * rs (line (outp a w) (i 0)) * g (ix2 0 (i 1)) - t i := by
  show x i + normed (outp a w) i * gain g i - t i = _
  rw [normed_apply, gain_apply]

theorem drows_apply (i : S8192x1024.Idx) : drows a w x t g i = delta a w x t g i * Ideal.ofBits .f32 0x3A800000#32 := by
  rw [← half_mean]; pointwise [drows]

theorem total_apply (j : S1x128.Idx) : total a w x t g j = Ideal.ofBits .f32 0x3F000000#32
    * ∑ k : Fin 8192, Ideal.div (∑ l : Fin 1024, delta a w x t g (ix2 k l) * delta a w x t g (ix2 k l)) (Ideal.ofBits .f32 0x44800000#32) := by
  pointwise [total]

variable (ha : IsReal a) (hw : IsReal w) (hx : IsReal x) (ht : IsReal t) (hg : IsReal g)

include ha hw hx ht hg in
theorem delta_real : IsReal (delta a w x t g) := fun i =>
  (addf_real hx (mulf_real (normed_real _ (outp_real a w ha hw)) (gain_real _ hg)) i).sub (ht i)

include ha hw hx ht hg in
theorem drows_real : IsReal (drows a w x t g) := fun i => by
  rw [drows_apply, bits_inv]; exact (delta_real a w x t g ha hw hx ht hg i).mul (Num.coe _)

include ha hw hx ht hg in
theorem dout_apply (i : S8192x1024.Idx) : dout a w x t g i
    = rmsd (line (outp a w) (i 0)) (line (mulf (drows a w x t g) (gain g)) (i 0)) (i 1) :=
  grad_apply _ _ (outp_real a w ha hw) (mulf_real (drows_real a w x t g ha hw hx ht hg) (gain_real _ hg)) i

end Cert.LossRefIdeal.Value

namespace Cert.LossIdeal.Value

open Cert.LossIdeal Cert.LossIdeal.Gen
open Cert.LossRefIdeal.Value

variable (m : (ℓ : Loc nD τ sig) → Buf (Elt Ideal) ℓ) (c : Dev nD)

/-- Every window's block at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- A product of blocks. -/
def prod (a : Vec Ideal S512x2816 .bf16) (w : Vec Ideal S2816x1024 .bf16) (y : S512x1024.Idx) : EReal :=
  ∑ k : Fin 2816, a (ix2 (y 0) k) * w (ix2 k (y 1))

theorem pay3_apply (a : Vec Ideal S512x2816 .bf16) (w : Vec Ideal S2816x1024 .bf16) (y : S512x1024.Idx) : k0_pay3 a w y = prod a w y := by
  pointwise [k0_pay3, prod]

theorem pay4_apply (a : Vec Ideal S512x2816 .bf16) (w : Vec Ideal S2816x1024 .bf16) (x : Vec Ideal S512x1024 .f32) (g : Vec Ideal S1x1024 .f32)
    (t : Vec Ideal S512x1024 .f32) (y : S512x1024.Idx) : k0_pay4 a w x g t y
      = x y + k0_pay3 a w (ix2 (y 0) (y 1)) * rs (fun k : Fin 1024 => k0_pay3 a w (ix2 (y 0) k)) * g (ix2 0 (y 1)) - t y := by
  pointwise [k0_pay4, rs, msq]

theorem pay6_apply (d : FVec Ideal S512x1024 .f32) (y : S512x1024.Idx) : k0_pay6 d y = d y * Ideal.ofBits .f32 0x3A800000#32 := by
  pointwise [k0_pay6]

theorem pay9_apply (o d : FVec Ideal S512x1024 .f32) (g : Vec Ideal S1x1024 .f32) (y : S512x1024.Idx) : k0_pay9 o d g y
    = rmsd (fun k : Fin 1024 => o (ix2 (y 0) k)) (fun k => k0_pay6 d (ix2 (y 0) k) * g (ix2 0 k)) (y 1) := by
  pointwise [k0_pay9, k0_pay8, k0_pay7, rmsd, rs, msq]

/-- What one point adds to the loss. -/
def lossPart (d : FVec Ideal S512x1024 .f32) : EReal :=
  Ideal.ofBits .f32 0x3A000000#32 * ∑ k : Fin 512, ∑ l : Fin 1024, d (ix2 k l) * d (ix2 k l)

theorem pay5_apply (a : Vec Ideal S512x2816 .bf16) (w : Vec Ideal S2816x1024 .bf16) (x : Vec Ideal S512x1024 .f32) (g : Vec Ideal S1x1024 .f32)
    (t : Vec Ideal S512x1024 .f32) (b : Vec Ideal S1x128 .f32) (j : S1x128.Idx) :
    k0_pay5 a w x g t b j = b j + lossPart (k0_pay4 a w x g t) := by
  pointwise [k0_pay5, lossPart]

/-- What one point adds to the gain's gradient. -/
def gainPart (o d : FVec Ideal S512x1024 .f32) (j : S1x1024.Idx) : EReal :=
  ∑ k : Fin 512, o (ix2 k (j 1)) * rs (fun l : Fin 1024 => o (ix2 k l)) * k0_pay6 d (ix2 k (j 1))

theorem pay10_apply (o d : FVec Ideal S512x1024 .f32) (b : Vec Ideal S1x1024 .f32) (j : S1x1024.Idx) :
    k0_pay10 o d b j = b j + gainPart o d j := by
  pointwise [k0_pay10, k0_pay8, k0_pay7, gainPart, rs, msq]
  exact congrArg (_ + ·) (Finset.sum_congr rfl fun k _ => mul_comm _ _)

theorem fill1 (j : S1x128.Idx) : k0_pay1 (F := Ideal) j = 0 := by pointwise [k0_pay1]

theorem fill2 (j : S1x1024.Idx) : k0_pay2 (F := Ideal) j = 0 := by pointwise [k0_pay2]

/-- The projection's rows at a point. -/
def rowsOut (t : Fin cfg0.N) : FVec Ideal S512x1024 .f32 := k0_pay3 (iblk m c 0 t) (iblk m c 1 t)

/-- The difference at a point. -/
def diff (t : Fin cfg0.N) : FVec Ideal S512x1024 .f32 :=
  k0_pay4 (iblk m c 0 t) (iblk m c 1 t) (iblk m c 2 t) (iblk m c 4 t) (iblk m c 3 t)

theorem rowsOut_at (t : Fin cfg0.N) (y : S512x1024.Idx) (i : S8192x1024.Idx) (e0 : (i 0 : ℕ) = 512 * t + y 0) (e1 : (i 1 : ℕ) = y 1) :
    rowsOut m c t y = outp (m ((c : Thread nD τ).loc main_arg0)) (m ((c : Thread nD τ).loc main_arg1)) i := by
  rw [rowsOut, pay3_apply, outp_apply]
  pointwise [prod]; blk_point [iblk, V, idx t]

theorem gain_at (t : Fin cfg0.N) (k k' : Fin 1024) (e : (k : ℕ) = k') : iblk m c 4 t (ix2 0 k) = (m ((c : Thread nD τ).loc main_arg4)) (ix2 0 k') := by
  obtain rfl : k = k' := Fin.ext e
  blk_point [iblk, V, idx t]

theorem diff_at (t : Fin cfg0.N) (y : S512x1024.Idx) (i : S8192x1024.Idx) (e0 : (i 0 : ℕ) = 512 * t + y 0) (e1 : (i 1 : ℕ) = y 1) :
    diff m c t y = delta (m ((c : Thread nD τ).loc main_arg0)) (m ((c : Thread nD τ).loc main_arg1)) (m ((c : Thread nD τ).loc main_arg2)) (m ((c : Thread nD τ).loc main_arg3)) (m ((c : Thread nD τ).loc main_arg4)) i := by
  rw [diff, pay4_apply, delta_apply]
  refine congrArg₂ (· - ·) (congrArg₂ (· + ·) (by blk_point [iblk, V, idx t]) (congrArg₂ (· * ·) (congrArg₂ (· * ·)
    (rowsOut_at m c t (ix2 (y 0) (y 1)) (ix2 (i 0) (i 1)) e0 e1) (congrArg rs (funext fun k => rowsOut_at m c t (ix2 (y 0) k) (ix2 (i 0) k) e0 rfl)))
    (gain_at m c t (y 1) (i 1) e1.symm))) (by blk_point [iblk, V, idx t])

theorem drows_at (t : Fin cfg0.N) (y : S512x1024.Idx) (i : S8192x1024.Idx) (e0 : (i 0 : ℕ) = 512 * t + y 0) (e1 : (i 1 : ℕ) = y 1) :
    k0_pay6 (diff m c t) y = drows (m ((c : Thread nD τ).loc main_arg0)) (m ((c : Thread nD τ).loc main_arg1)) (m ((c : Thread nD τ).loc main_arg2)) (m ((c : Thread nD τ).loc main_arg3)) (m ((c : Thread nD τ).loc main_arg4)) i := by
  rw [pay6_apply, drows_apply]; exact congrArg (· * _) (diff_at m c t y i e0 e1)

variable (h0 : IsReal (s := S8192x2816) (m ((c : Thread nD τ).loc main_arg0))) (h1 : IsReal (s := S1x2816x1024) (m ((c : Thread nD τ).loc main_arg1)))
  (h2 : IsReal (s := S8192x1024) (m ((c : Thread nD τ).loc main_arg2))) (h3 : IsReal (s := S8192x1024) (m ((c : Thread nD τ).loc main_arg3))) (h4 : IsReal (s := S1x1024) (m ((c : Thread nD τ).loc main_arg4)))

include h0 h1 h2 h3 h4 in
theorem dout_at (t : Fin cfg0.N) (y : S512x1024.Idx) (i : S8192x1024.Idx) (e0 : (i 0 : ℕ) = 512 * t + y 0) (e1 : (i 1 : ℕ) = y 1) :
    k0_pay9 (rowsOut m c t) (diff m c t) (iblk m c 4 t) y = dout (m ((c : Thread nD τ).loc main_arg0)) (m ((c : Thread nD τ).loc main_arg1)) (m ((c : Thread nD τ).loc main_arg2)) (m ((c : Thread nD τ).loc main_arg3)) (m ((c : Thread nD τ).loc main_arg4)) i := by
  rw [pay9_apply, dout_apply _ _ _ _ _ h0 h1 h2 h3 h4]
  refine rmsd_congr (fun k => rowsOut_at m c t (ix2 (y 0) k) (ix2 (i 0) k) e0 rfl) (fun k => ?_) (Fin.ext e1.symm)
  exact congrArg₂ (· * ·) (drows_at m c t (ix2 (y 0) k) (ix2 (i 0) k) e0 rfl) ((gain_at m c t k k rfl).trans (gain_apply _ (ix2 (i 0) k)).symm)

theorem final5 : (dats m 0 c).arrAt 5 (cfgs 0).N = drows (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 16 = 0
  · rw [outsAt0_A m c t h]; frame_out
    exact drows_at m c t _ _ (by blk_simp [idx t] <;> omega) (by blk_simp [idx t] <;> omega)
  · rw [outsAt0_B m c t h]; frame_out
    exact drows_at m c t _ _ (by blk_simp [idx t] <;> omega) (by blk_simp [idx t] <;> omega)

include h0 h1 h2 h3 h4 in
theorem final6 : (dats m 0 c).arrAt 6 (cfgs 0).N = truncf (F := Ideal) .bf16 (dout (m ((c : Thread nD τ).loc main_arg0)) (m ((c : Thread nD τ).loc main_arg1)) (m ((c : Thread nD τ).loc main_arg2)) (m ((c : Thread nD τ).loc main_arg3)) (m ((c : Thread nD τ).loc main_arg4))) Cert.LossRefIdeal.Gen.bitsLt_bf16_f32 := by
  refine (dats m 0 c).arrAt_eq_of_covers 6 _ (by decide +kernel) fun t hf y => ?_
  blk_simp; rw [after0_6]
  by_cases h : t.val % 16 = 0
  · rw [outsAt0_A m c t h]; frame_out
    exact dout_at m c h0 h1 h2 h3 h4 t _ _ (by blk_simp [idx t] <;> omega) (by blk_simp [idx t] <;> omega)
  · rw [outsAt0_B m c t h]; frame_out
    exact dout_at m c h0 h1 h2 h3 h4 t _ _ (by blk_simp [idx t] <;> omega) (by blk_simp [idx t] <;> omega)

include h0 h1 h2 h3 h4 in
/-- The loss: the points' parts added up. -/
theorem final7 : (dats m 0 c).arrAt 7 (cfgs 0).N = total (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun t j => lossPart (diff m c t))
    (fun t h j => by rw [outsAt0_A m c t h]; frame_out; rw [pay5_apply, fill1]; rfl)
    (fun t h j => by rw [outsAt0_B m c t h]; frame_out; rw [pay5_apply]; rfl)
    (le_of_eq N_0) t0_15 rfl j, zero_add]
  have hd := delta_real _ _ _ _ _ h0 h1 h2 h3 h4
  have hr : ∀ k : Fin 8192, Num (∑ l : Fin 1024, delta (m ((c : Thread nD τ).loc main_arg0)) (m ((c : Thread nD τ).loc main_arg1)) (m ((c : Thread nD τ).loc main_arg2)) (m ((c : Thread nD τ).loc main_arg3)) (m ((c : Thread nD τ).loc main_arg4)) (ix2 k l) * delta (m ((c : Thread nD τ).loc main_arg0)) (m ((c : Thread nD τ).loc main_arg1)) (m ((c : Thread nD τ).loc main_arg2)) (m ((c : Thread nD τ).loc main_arg3)) (m ((c : Thread nD τ).loc main_arg4)) (ix2 k l)) := fun k => Num.sum _ _ fun l => (hd _).mul (hd _)
  refine Eq.trans ?_ (((total_apply _ _ _ _ _ _).trans (half_sum_means _ hr)).symm)
  have e : ∀ s : Fin 16, lossPart (diff m c s) = ∑ k : Fin 512, Ideal.ofBits .f32 0x3A000000#32
      * ∑ l : Fin 1024, delta (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * s + k, by omega⟩ l) * delta (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * s + k, by omega⟩ l) := fun s => by
    rw [lossPart, bits_half_inv, ← mul_sum _ _ _ fun k => hr _]
    exact congrArg (_ * ·) (Finset.sum_congr rfl fun k _ => Finset.sum_congr rfl fun l _ =>
      congrArg₂ (· * ·) (diff_at m c s (ix2 k l) (ix2 ⟨512 * s + k, by omega⟩ l) rfl rfl) (diff_at m c s (ix2 k l) (ix2 ⟨512 * s + k, by omega⟩ l) rfl rfl))
  refine (Finset.sum_congr rfl fun s _ => e s).trans ?_
  refine Fin.sum_mul_add_congr fun s k hl => ?_
  have e0 : s.val * 512 + k.val = 512 * s.val + k.val := by omega
  simp only [e0]

/-- The gain's gradient: the points' parts added up. -/
theorem final8 : (dats m 0 c).arrAt 8 (cfgs 0).N = colsum (mulf (normed (outp (m ((c : Thread nD τ).loc main_arg0)) (m ((c : Thread nD τ).loc main_arg1)))) (drows (m ((c : Thread nD τ).loc main_arg0)) (m ((c : Thread nD τ).loc main_arg1)) (m ((c : Thread nD τ).loc main_arg2)) (m ((c : Thread nD τ).loc main_arg3)) (m ((c : Thread nD τ).loc main_arg4)))) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0)
    (fun t j => gainPart (rowsOut m c t) (diff m c t) j)
    (fun t h j => by rw [outsAt0_A m c t h]; frame_out; rw [pay10_apply, fill2]; rfl)
    (fun t h j => by rw [outsAt0_B m c t h]; frame_out; rw [pay10_apply]; rfl)
    (le_of_eq N_0) t0_15 rfl j, zero_add]
  pointwise [gainPart, colsum_apply, normed_apply]
  refine Fin.sum_mul_add_congr fun s k hl => ?_
  have e0 : s.val * 512 + k.val = 512 * s.val + k.val := by omega
  exact congrArg₂ (· * ·) (congrArg₂ (· * ·) (rowsOut_at m c s _ _ e0 rfl) (congrArg rs (funext fun l => rowsOut_at m c s _ _ e0 rfl)))
    (drows_at m c s _ _ e0 rfl)

end Cert.LossIdeal.Value

end
-- ==== Proof.LossClaim.lean ====
/- The claims about the loss and the last projection's norm, backward. -/
module

public import proofs.«01_k».proof.Defs
public import proofs.«01_k».proof.Proof.Loss
public import proofs.«01_k».proof.Proof.Gen.Loss.Frame
public import proofs.«01_k».proof.Proof.Gen.Pre_finite_loss

@[expose] public section

set_option maxRecDepth 16384

noncomputable section

namespace Cert.Proof

open Idealize.ShloMosaic Idealize.SL.Sem
open Cert.Reals Cert.Rows
open Cert.LossRefIdeal (nD τ sig defs main main_arg0 main_arg1 main_arg2 main_arg3 main_arg4 main_v34 main_v55 main_v56 main_v57)
open Cert.LossRefIdeal.Value (drows dout total outp)

theorem loss_frame : Cert.quiescent_Loss := fun m ρ _ => Cert.Loss.Gen.frame m ρ

theorem loss_frame_ideal : Cert.quiescent_LossIdeal := fun m ρ _ => Cert.LossIdeal.Gen.frame m ρ

theorem loss_frame_ideal_pre : Cert.quiescent_LossIdeal_pre_finite_loss := fun m ρ _ => Cert.LossIdeal.Gen.frame m ρ

theorem loss_frame_ref : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run m ρ)

theorem loss_frame_ref_pre : Cert.quiescent_LossRefIdeal_pre_finite_loss := fun m ρ _ => loss_frame_ref m ρ trivial

set_option maxHeartbeats 4000000 in
/-- The reference's run, its results named. -/
theorem loss_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v34) = drows (m (c.tc.loc main_arg0)) (m (c.tc.loc main_arg1)) (m (c.tc.loc main_arg2)) (m (c.tc.loc main_arg3)) (m (c.tc.loc main_arg4))
        ∧ r.2.mem (c.tc.loc main_v55) = truncf (F := Ideal) .bf16 (dout (m (c.tc.loc main_arg0)) (m (c.tc.loc main_arg1)) (m (c.tc.loc main_arg2)) (m (c.tc.loc main_arg3)) (m (c.tc.loc main_arg4))) Cert.LossRefIdeal.Gen.bitsLt_bf16_f32
        ∧ r.2.mem (c.tc.loc main_v56) = total (m (c.tc.loc main_arg0)) (m (c.tc.loc main_arg1)) (m (c.tc.loc main_arg2)) (m (c.tc.loc main_arg3)) (m (c.tc.loc main_arg4))
        ∧ r.2.mem (c.tc.loc main_v57) = colsum (mulf (normed (outp (m (c.tc.loc main_arg0)) (m (c.tc.loc main_arg1)))) (drows (m (c.tc.loc main_arg0)) (m (c.tc.loc main_arg1)) (m (c.tc.loc main_arg2)) (m (c.tc.loc main_arg3)) (m (c.tc.loc main_arg4))))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4) :=
  Cert.LossRefIdeal.Value.run m ρ

open Cert.Pre_finite_loss in
/-- What the precondition says: the arguments are arrays of reals. -/
theorem loss_pre (a0 : FVec Ideal S8192x2816 .f32) (a1 : FVec Ideal S1x2816x1024 .f32) (a2 : FVec Ideal S8192x1024 .f32) (a3 : FVec Ideal S8192x1024 .f32) (a4 : FVec Ideal S1x1024 .f32)
    (h : Cert.Pre_finite_loss.fn (F := Ideal) a0 a1 a2 a3 a4 = fun _ => 1#1) :
    IsReal a0 ∧ IsReal a1 ∧ IsReal a2 ∧ IsReal a3 ∧ IsReal a4 := by
  have h := congrFun h (fun k => k.elim0)
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨isReal_of_all _ _ _ _ _ _ _ h0, isReal_of_all _ _ _ _ _ _ _ h1, isReal_of_all _ _ _ _ _ _ _ h2, isReal_of_all _ _ _ _ _ _ _ h3, isReal_of_all _ _ _ _ _ _ _ h4⟩

set_option maxHeartbeats 1000000 in
theorem loss_value : Cert.algebraic_LossIdeal_LossRefIdeal_pre_finite_loss := by
  pair_intro
  · run_from Cert.LossIdeal.Gen.run_main m g
  · run_from loss_ref_run m' g'
    all_goals obtain ⟨h0, h1, h2, h3, h4⟩ := loss_pre _ _ _ _ _ (hpre c)
    · exact (Cert.LossIdeal.Value.final5 m c).symm
    · exact (Cert.LossIdeal.Value.final6 m c h0 h1 h2 h3 h4).symm
    · exact (Cert.LossIdeal.Value.final7 m c h0 h1 h2 h3 h4).symm
    · exact (Cert.LossIdeal.Value.final8 m c).symm

end Cert.Proof

end
-- ==== Proof.FfnIn.lean ====
/- The feed-forward's first projection and its two norms, backward: what each grid point stores, what the four result
   arrays hold after the run, and their equality with the reference's results on real arguments. -/
module

public import proofs.«01_k».proof.Proof.Rows
public import proofs.«01_k».proof.Proof.Gen.FfnInIdeal.Value

@[expose] public section

set_option maxRecDepth 16384

noncomputable section

open Idealize.ShloMosaic Idealize.ShloMosaic.TcCoe Idealize.SL.Sem
open Idealize.ShloMosaic.Pipeline (Dat)
open Cert.Reals Cert.Rows

namespace Cert.FfnInRefIdeal.Value

open Cert.FfnInRefIdeal Cert.FfnInRefIdeal.Gen

/-- The rows the sublayer starts from: the residual plus the norm of the layer before. -/
def start (x o : FVec Ideal S8192x1024 .f32) (g : FVec Ideal S1x1024 .f32) : FVec Ideal S8192x1024 .f32 :=
  addf x (mulf (normed o) (gain g))

/-- The cotangent of the projection's input. -/
def back (d : FVec Ideal S8192x5632 .f32) (w : FVec Ideal S1x1024x5632 .f32) : FVec Ideal S8192x1024 .f32 :=
  Host.dotGeneral (φ₁ := .f32) (φ₂ := .f32) dot_S8192x5632_S1024x5632_S8192x1024_1_1_0_0_n_n none d (shapeCast _ w shapeCasts_S1x1024x5632_S1024x5632)

/-- The gradient of the rows. -/
def drows (d : FVec Ideal S8192x5632 .f32) (w : FVec Ideal S1x1024x5632 .f32) (x o : FVec Ideal S8192x1024 .f32)
    (g g' : FVec Ideal S1x1024 .f32) (up : FVec Ideal S8192x1024 .f32) : FVec Ideal S8192x1024 .f32 :=
  gradOnto up (start x o g) (mulf (back d w) (gain g'))

/-- The same, passed on to the norm before. -/
def drows' (d : FVec Ideal S8192x5632 .f32) (w : FVec Ideal S1x1024x5632 .f32) (x o : FVec Ideal S8192x1024 .f32)
    (g g' : FVec Ideal S1x1024 .f32) (up : FVec Ideal S8192x1024 .f32) : FVec Ideal S8192x1024 .f32 :=
  shapeCast _ (drows d w x o g g' up) shapeCasts_S8192x1024_S8192x1024

/-- The gradient of the layer before. -/
def dlayer (d : FVec Ideal S8192x5632 .f32) (w : FVec Ideal S1x1024x5632 .f32) (x o : FVec Ideal S8192x1024 .f32)
    (g g' : FVec Ideal S1x1024 .f32) (up : FVec Ideal S8192x1024 .f32) : FVec Ideal S8192x1024 .f32 :=
  grad o (mulf (drows' d w x o g g' up) (gain g))

variable (d : FVec Ideal S8192x5632 .f32) (w : FVec Ideal S1x1024x5632 .f32) (x o : FVec Ideal S8192x1024 .f32)
    (g g' : FVec Ideal S1x1024 .f32) (up : FVec Ideal S8192x1024 .f32)

theorem back_real (hd : IsReal d) (hw : IsReal w) : IsReal (back d w) := fun i => by
  pointwise [back]; exact Num.sum _ _ fun k => (hd _).mul (hw _)

theorem start_real (hx : IsReal x) (ho : IsReal o) (hg : IsReal g) : IsReal (start x o g) :=
  addf_real hx (mulf_real (normed_real o ho) (gain_real g hg))

theorem drows_apply (hd : IsReal d) (hw : IsReal w) (hx : IsReal x) (ho : IsReal o) (hg : IsReal g) (hg' : IsReal g') (i : S8192x1024.Idx) :
    drows d w x o g g' up i = up i + rmsd (line (start x o g) (i 0)) (line (mulf (back d w) (gain g')) (i 0)) (i 1) :=
  gradOnto_apply _ _ _ (start_real x o g hx ho hg) (mulf_real (back_real d w hd hw) (gain_real g' hg')) i

theorem drows'_apply (i : S8192x1024.Idx) : drows' d w x o g g' up i = drows d w x o g g' up i := by
  pointwise [drows']

theorem drows_real (hd : IsReal d) (hw : IsReal w) (hx : IsReal x) (ho : IsReal o) (hg : IsReal g) (hg' : IsReal g') (hu : IsReal up) :
    IsReal (drows d w x o g g' up) :=
  gradOnto_real _ _ _ hu (start_real x o g hx ho hg) (mulf_real (back_real d w hd hw) (gain_real g' hg'))

theorem dlayer_apply (hd : IsReal d) (hw : IsReal w) (hx : IsReal x) (ho : IsReal o) (hg : IsReal g) (hg' : IsReal g') (hu : IsReal up)
    (i : S8192x1024.Idx) :
    dlayer d w x o g g' up i = rmsd (line o (i 0)) (line (mulf (drows' d w x o g g' up) (gain g)) (i 0)) (i 1) :=
  grad_apply _ _ ho (mulf_real (fun i => by rw [drows'_apply]; exact drows_real d w x o g g' up hd hw hx ho hg hg' hu i) (gain_real g hg)) i

end Cert.FfnInRefIdeal.Value

namespace Cert.FfnInIdeal.Value

open Cert.FfnInIdeal Cert.FfnInIdeal.Gen
open Cert.FfnInRefIdeal.Value

variable (m : (ℓ : Loc nD τ sig) → Buf (Elt Ideal) ℓ)

/-- Every window's block at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- The rows the call starts from are computed before it, on the host. -/
theorem entry17 (c : Dev nD) : V m c main_v17 = start (m ((c : Thread nD τ).loc main_arg2)) (m ((c : Thread nD τ).loc main_arg3)) (m ((c : Thread nD τ).loc main_arg4)) := by
  entry_read; try rfl

/-! What the payloads hold at one index. -/

/-- One block of rows times the weight. -/
def prod (a : Vec Ideal S512x5632 .bf16) (b : Vec Ideal S5632x1024 .bf16) (y : S512x1024.Idx) : EReal :=
  ∑ l : Fin 5632, a (ix2 (y 0) l) * b (ix2 l (y 1))

theorem pay7_apply (v0 : Vec Ideal S512x5632 .bf16) (v2 : Vec Ideal S5632x1024 .bf16) (v5 : Vec Ideal S512x1024 .f32)
    (v7 : Vec Ideal S1x1024 .f32) (v34 : Vec Ideal S512x1024 .f32) (y : S512x1024.Idx) :
    k0_pay7 v0 v2 v5 v7 v34 y = v34 y + rmsd (fun k : Fin 1024 => v5 (ix2 (y 0) k))
      (fun k => prod v0 v2 (ix2 (y 0) k) * v7 (ix2 0 k)) (y 1) := by
  pointwise [k0_pay7, k0_pay6, k0_pay5, k0_pay4, k0_pay3, k0_pay2, prod, rmsd, rs, msq]

theorem pay6_apply (v0 : Vec Ideal S512x5632 .bf16) (v2 : Vec Ideal S5632x1024 .bf16) (v5 : Vec Ideal S512x1024 .f32) (j : S1x1024.Idx) :
    k0_pay6 v0 v2 v5 j = ∑ k : Fin 512, v5 (ix2 k (j 1)) * rs (fun l : Fin 1024 => v5 (ix2 k l)) * prod v0 v2 (ix2 k (j 1)) := by
  pointwise [k0_pay7, k0_pay6, k0_pay5, k0_pay4, k0_pay3, k0_pay2, prod, rmsd, rs, msq]
  exact Finset.sum_congr rfl fun k _ => mul_comm _ _

theorem pay15_apply (v35 : FVec Ideal S512x1024 .f32) (v44 : Vec Ideal S512x1024 .bf16) (v47 : Vec Ideal S1x1024 .f32) (y : S512x1024.Idx) :
    k0_pay15 v35 v44 v47 y = rmsd (fun k : Fin 1024 => v44 (ix2 (y 0) k)) (fun k => v35 (ix2 (y 0) k) * v47 (ix2 0 k)) (y 1) := by
  pointwise [k0_pay15, k0_pay13, k0_pay12, k0_pay11, rmsd, rs, msq]

theorem pay14_apply (v35 : FVec Ideal S512x1024 .f32) (v44 : Vec Ideal S512x1024 .bf16) (j : S1x1024.Idx) :
    k0_pay14 v35 v44 j = ∑ k : Fin 512, v44 (ix2 k (j 1)) * rs (fun l : Fin 1024 => v44 (ix2 k l)) * v35 (ix2 k (j 1)) := by
  pointwise [k0_pay14, k0_pay13, k0_pay12, k0_pay11, rs, msq]
  exact Finset.sum_congr rfl fun k _ => mul_comm _ _

/-- The zero fills. -/
theorem fill8 (j : S1x1024.Idx) : k0_pay8 (F := Ideal) j = 0 := by pointwise! [k0_pay8]
theorem fill9 (j : S1x1024.Idx) : k0_pay9 (F := Ideal) j = 0 := by pointwise! [k0_pay9]

/-- One point adds its part. -/
theorem adds1 (a : FVec Ideal S1x1024 .f32) (b : Vec Ideal S1x1024 .f32) (j : S1x1024.Idx) : k0_pay1 a b j = b j + a j := by
  pointwise [k0_pay1]
theorem adds10 (a : FVec Ideal S1x1024 .f32) (b : Vec Ideal S1x1024 .f32) (j : S1x1024.Idx) : k0_pay10 a b j = b j + a j := by
  pointwise [k0_pay10]

/-! The blocks of a point, as rows of the arrays. -/

variable (c : Dev nD)

theorem rows_at (t : Fin cfg0.N) (y : S512x1024.Idx) (i : S8192x1024.Idx) (e0 : (i 0 : ℕ) = 512 * t + y 0) (e1 : (i 1 : ℕ) = y 1) :
    iblk m c 2 t y = start (m ((c : Thread nD τ).loc main_arg2)) (m ((c : Thread nD τ).loc main_arg3)) (m ((c : Thread nD τ).loc main_arg4)) i := by
  blk_simp [iblk]; rw [entry17]; blk_point [iblk, V, idx t]

theorem layer_at (t : Fin cfg0.N) (y : S512x1024.Idx) (i : S8192x1024.Idx) (e0 : (i 0 : ℕ) = 512 * t + y 0) (e1 : (i 1 : ℕ) = y 1) :
    iblk m c 5 t y = m ((c : Thread nD τ).loc main_arg3) i := by
  blk_point [iblk, V, idx t]

theorem back_at (t : Fin cfg0.N) (y : S512x1024.Idx) (i : S8192x1024.Idx) (e0 : (i 0 : ℕ) = 512 * t + y 0) (e1 : (i 1 : ℕ) = y 1) :
    prod (iblk m c 0 t) (iblk m c 1 t) y = back (m ((c : Thread nD τ).loc main_arg0)) (m ((c : Thread nD τ).loc main_arg1)) i := by
  pointwise [prod, back]; blk_point [iblk, V, idx t]

variable (h0 : IsReal (s := S8192x5632) (m ((c : Thread nD τ).loc main_arg0)))
  (h1 : IsReal (s := S1x1024x5632) (m ((c : Thread nD τ).loc main_arg1)))
  (h2 : IsReal (s := S8192x1024) (m ((c : Thread nD τ).loc main_arg2)))
  (h3 : IsReal (s := S8192x1024) (m ((c : Thread nD τ).loc main_arg3)))
  (h4 : IsReal (s := S1x1024) (m ((c : Thread nD τ).loc main_arg4)))
  (h5 : IsReal (s := S1x1024) (m ((c : Thread nD τ).loc main_arg5)))

include h0 h1 h2 h3 h4 h5 in
/-- The rows' gradient a point computes. -/
theorem drows_at (t : Fin cfg0.N) (y : S512x1024.Idx) (i : S8192x1024.Idx) (e0 : (i 0 : ℕ) = 512 * t + y 0) (e1 : (i 1 : ℕ) = y 1) :
    k0_pay7 (iblk m c 0 t) (iblk m c 1 t) (iblk m c 2 t) (iblk m c 3 t) (iblk m c 4 t) y = drows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  rw [pay7_apply, drows_apply _ _ _ _ _ _ _ h0 h1 h2 h3 h4 h5]
  refine congrArg₂ (· + ·) (by blk_point [iblk, V, idx t]) ?_
  refine rmsd_congr (fun k => ?_) (fun k => ?_) (Fin.ext e1.symm)
  · exact rows_at m c t _ _ e0 rfl
  refine congrArg₂ (· * ·) (back_at m c t _ _ e0 rfl) ?_
  pointwise [gain]; blk_point [iblk, V, idx t]

include h0 h1 h2 h3 h4 h5 in
theorem final7 : (dats m 0 c).arrAt 7 (cfgs 0).N = drows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp; rw [after0_7]
  by_cases h : t.val % 16 = 0
  · rw [outsAt0_A m c t h]; frame_out
    exact drows_at m c h0 h1 h2 h3 h4 h5 t _ _ (by blk_simp [idx t] <;> omega) (by blk_simp [idx t] <;> omega)
  · rw [outsAt0_B m c t h]; frame_out
    exact drows_at m c h0 h1 h2 h3 h4 h5 t _ _ (by blk_simp [idx t] <;> omega) (by blk_simp [idx t] <;> omega)

include h0 h1 h2 h3 h4 h5 in
/-- The gradient of the layer before. -/
theorem dlayer_at (t : Fin cfg0.N) (y : S512x1024.Idx) (i : S8192x1024.Idx) (e0 : (i 0 : ℕ) = 512 * t + y 0) (e1 : (i 1 : ℕ) = y 1)
    (h6 : IsReal (s := S8192x1024) (m ((c : Thread nD τ).loc main_arg6))) :
    k0_pay15 (k0_pay7 (iblk m c 0 t) (iblk m c 1 t) (iblk m c 2 t) (iblk m c 3 t) (iblk m c 4 t)) (iblk m c 5 t) (iblk m c 6 t) y
      = dlayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  rw [pay15_apply, dlayer_apply _ _ _ _ _ _ _ h0 h1 h2 h3 h4 h5 h6]
  refine rmsd_congr (fun k => ?_) (fun k => ?_) (Fin.ext e1.symm)
  · exact layer_at m c t _ _ e0 rfl
  refine congrArg₂ (· * ·) ((drows_at m c h0 h1 h2 h3 h4 h5 t (ix2 (y 0) k) (ix2 (i 0) k) e0 rfl).trans (drows'_apply _ _ _ _ _ _ _ _).symm) ?_
  pointwise [gain]; blk_point [iblk, V, idx t]

include h0 h1 h2 h3 h4 h5 in
theorem final8 (h6 : IsReal (s := S8192x1024) (m ((c : Thread nD τ).loc main_arg6))) :
    (dats m 0 c).arrAt 8 (cfgs 0).N = truncf (F := Ideal) .bf16 (dlayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) Cert.FfnInRefIdeal.Gen.bitsLt_bf16_f32 := by
  refine (dats m 0 c).arrAt_eq_of_covers 8 _ (by decide +kernel) fun t hf y => ?_
  blk_simp; rw [after0_8]
  by_cases h : t.val % 16 = 0
  · rw [outsAt0_A m c t h]; frame_out
    exact dlayer_at m c h0 h1 h2 h3 h4 h5 t _ _ (by blk_simp [idx t] <;> omega) (by blk_simp [idx t] <;> omega) h6
  · rw [outsAt0_B m c t h]; frame_out
    exact dlayer_at m c h0 h1 h2 h3 h4 h5 t _ _ (by blk_simp [idx t] <;> omega) (by blk_simp [idx t] <;> omega) h6

/-- The gain's gradient: the points' parts added up. -/
theorem final9 : (dats m 0 c).arrAt 9 (cfgs 0).N = colsum (mulf (normed (start (m ((c : Thread nD τ).loc main_arg2)) (m ((c : Thread nD τ).loc main_arg3)) (m ((c : Thread nD τ).loc main_arg4)))) (back (m ((c : Thread nD τ).loc main_arg0)) (m ((c : Thread nD τ).loc main_arg1)))) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0) _
    (fun t h j => by rw [outsAt0_A m c t h]; frame_out; rw [adds10, fill8])
    (fun t h j => by rw [outsAt0_B m c t h]; frame_out; rw [adds10])
    (le_of_eq N_0) t0_15 rfl j, zero_add]
  pointwise [pay6_apply, colsum_apply, normed_apply]
  refine Fin.sum_mul_add_congr fun s k hl => ?_
  have e0 : s.val * 512 + k.val = 512 * s.val + k.val := by omega
  exact congrArg₂ (· * ·) (congrArg₂ (· * ·) (rows_at m c s _ _ e0 rfl) (congrArg rs (funext fun l => rows_at m c s _ _ e0 rfl)))
    (back_at m c s _ _ e0 rfl)

include h0 h1 h2 h3 h4 h5 in
/-- The gain's gradient of the layer before. -/
theorem final10 : (dats m 0 c).arrAt 10 (cfgs 0).N = colsum (mulf (normed (m ((c : Thread nD τ).loc main_arg3))) (drows' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))) := by
  refine (dats m 0 c).arrAt_eq_of_after_last 10 t0_15 (by decide +kernel) _ fun j => ?_
  blk_simp
  rw [after0_10, Pipeline.eq_sum_fin_of_reset_step_apply_last (fun n h => (outsAt0 m c n h).2.2.2) 16 (fun _ => 0) _
    (fun t h j => by rw [outsAt0_A m c t h]; frame_out; rw [adds1, fill9])
    (fun t h j => by rw [outsAt0_B m c t h]; frame_out; rw [adds1])
    (le_of_eq N_0) t0_15 rfl j, zero_add]
  pointwise [pay14_apply, colsum_apply, normed_apply]
  refine Fin.sum_mul_add_congr fun s k hl => ?_
  have e0 : s.val * 512 + k.val = 512 * s.val + k.val := by omega
  exact congrArg₂ (· * ·) (congrArg₂ (· * ·) (layer_at m c s _ _ e0 rfl) (congrArg rs (funext fun l => layer_at m c s _ _ e0 rfl)))
    ((drows_at m c h0 h1 h2 h3 h4 h5 s _ _ e0 rfl).trans (drows'_apply _ _ _ _ _ _ _ _).symm)

end Cert.FfnInIdeal.Value

end
-- ==== Proof.FfnInClaim.lean ====
/- The claims about the feed-forward's first projection and its norms, backward. -/
module

public import proofs.«01_k».proof.Defs
public import proofs.«01_k».proof.Proof.FfnIn
public import proofs.«01_k».proof.Proof.Gen.FfnIn.Frame
public import proofs.«01_k».proof.Proof.Gen.Pre_finite_ffnin

@[expose] public section

set_option maxRecDepth 16384

noncomputable section

namespace Cert.Proof

open Idealize.ShloMosaic Idealize.SL.Sem
open Cert.Reals Cert.Rows
open Cert.FfnInRefIdeal (nD τ sig defs main main_arg0 main_arg1 main_arg2 main_arg3 main_arg4 main_arg5 main_arg6 main_v58 main_v80 main_v81 main_v82)
open Cert.FfnInRefIdeal.Value (drows drows' dlayer start back)

theorem ffnin_frame : Cert.quiescent_FfnIn := fun m ρ _ => Cert.FfnIn.Gen.frame m ρ

theorem ffnin_frame_ideal : Cert.quiescent_FfnInIdeal := fun m ρ _ => Cert.FfnInIdeal.Gen.frame m ρ

theorem ffnin_frame_ideal_pre : Cert.quiescent_FfnInIdeal_pre_finite_ffnin := fun m ρ _ => Cert.FfnInIdeal.Gen.frame m ρ

theorem ffnin_frame_ref : Cert.quiescent_FfnInRefIdeal := fun m ρ _ =>
  (θ_run Cert.FfnInRefIdeal.defs _ _).mono (fun r h => ⟨fun c => (h c).2.2.2.2, sem_eq_zero_of_no_sems (by decide) r.2⟩)
    (Cert.FfnInRefIdeal.Value.run m ρ)

theorem ffnin_frame_ref_pre : Cert.quiescent_FfnInRefIdeal_pre_finite_ffnin := fun m ρ _ => ffnin_frame_ref m ρ trivial

set_option maxHeartbeats 4000000 in
/-- The reference's run, its results named. -/
theorem ffnin_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v58) = drows (m (c.tc.loc main_arg0)) (m (c.tc.loc main_arg1)) (m (c.tc.loc main_arg2)) (m (c.tc.loc main_arg3)) (m (c.tc.loc main_arg4)) (m (c.tc.loc main_arg5)) (m (c.tc.loc main_arg6))
        ∧ r.2.mem (c.tc.loc main_v80) = colsum (mulf (normed (start (m (c.tc.loc main_arg2)) (m (c.tc.loc main_arg3)) (m (c.tc.loc main_arg4)))) (back (m (c.tc.loc main_arg0)) (m (c.tc.loc main_arg1))))
        ∧ r.2.mem (c.tc.loc main_v81) = truncf (F := Ideal) .bf16 (dlayer (m (c.tc.loc main_arg0)) (m (c.tc.loc main_arg1)) (m (c.tc.loc main_arg2)) (m (c.tc.loc main_arg3)) (m (c.tc.loc main_arg4)) (m (c.tc.loc main_arg5)) (m (c.tc.loc main_arg6))) Cert.FfnInRefIdeal.Gen.bitsLt_bf16_f32
        ∧ r.2.mem (c.tc.loc main_v82) = colsum (mulf (normed (m (c.tc.loc main_arg3))) (drows' (m (c.tc.loc main_arg0)) (m (c.tc.loc main_arg1)) (m (c.tc.loc main_arg2)) (m (c.tc.loc main_arg3)) (m (c.tc.loc main_arg4)) (m (c.tc.loc main_arg5)) (m (c.tc.loc main_arg6))))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6) :=
  Cert.FfnInRefIdeal.Value.run m ρ

open Cert.Pre_finite_ffnin in
/-- What the precondition says: the arguments are arrays of reals. -/
theorem ffnin_pre (a0 : FVec Ideal S8192x5632 .f32) (a1 : FVec Ideal S1x1024x5632 .f32) (a2 : FVec Ideal S8192x1024 .f32) (a3 : FVec Ideal S8192x1024 .f32) (a4 : FVec Ideal S1x1024 .f32) (a5 : FVec Ideal S1x1024 .f32) (a6 : FVec Ideal S8192x1024 .f32)
    (h : Cert.Pre_finite_ffnin.fn (F := Ideal) a0 a1 a2 a3 a4 a5 a6 = fun _ => 1#1) :
    IsReal a0 ∧ IsReal a1 ∧ IsReal a2 ∧ IsReal a3 ∧ IsReal a4 ∧ IsReal a5 ∧ IsReal a6 := by
  have h := congrFun h (fun k => k.elim0)
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨isReal_of_all _ _ _ _ _ _ _ h0, isReal_of_all _ _ _ _ _ _ _ h1, isReal_of_all _ _ _ _ _ _ _ h2, isReal_of_all _ _ _ _ _ _ _ h3, isReal_of_all _ _ _ _ _ _ _ h4, isReal_of_all _ _ _ _ _ _ _ h5, isReal_of_all _ _ _ _ _ _ _ h6⟩

set_option maxHeartbeats 1000000 in
theorem ffnin_value : Cert.algebraic_FfnInIdeal_FfnInRefIdeal_pre_finite_ffnin := by
  pair_intro
  · run_from Cert.FfnInIdeal.Gen.run_main m g
  · run_from ffnin_ref_run m' g'
    all_goals obtain ⟨h0, h1, h2, h3, h4, h5, h6⟩ := ffnin_pre _ _ _ _ _ _ _ (hpre c)
    · exact (Cert.FfnInIdeal.Value.final7 m c h0 h1 h2 h3 h4 h5).symm
    · exact (Cert.FfnInIdeal.Value.final9 m c).symm
    · exact (Cert.FfnInIdeal.Value.final8 m c h0 h1 h2 h3 h4 h5 h6).symm
    · exact (Cert.FfnInIdeal.Value.final10 m c h0 h1 h2 h3 h4 h5).symm

end Cert.Proof

end
-- ==== Proof.AttnIn.lean ====
/- The attention's query projection and its two norms, backward: what each grid point stores, what the four result
   arrays hold after the run, and their equality with the reference's results on real arguments. -/
module

public import proofs.«01_k».proof.Proof.Rows
public import proofs.«01_k».proof.Proof.Gen.AttnInIdeal.Value
public import proofs.«01_k».proof.Proof.Gen.AttnInRefIdeal.Run

@[expose] public section

set_option maxRecDepth 16384

noncomputable section

open Idealize.ShloMosaic Idealize.ShloMosaic.TcCoe Idealize.SL.Sem
open Idealize.ShloMosaic.Pipeline (Dat)
open Cert.Reals Cert.Rows

namespace Cert.AttnInRefIdeal.Value

open Cert.AttnInRefIdeal Cert.AttnInRefIdeal.Gen

/-- The rows the sublayer starts from: the residual plus the norm of the layer before. -/
def start (x o : FVec Ideal S8192x1024 .f32) (g : FVec Ideal S1x1024 .f32) : FVec Ideal S8192x1024 .f32 :=
  addf x (mulf (normed o) (gain g))

/-- The cotangent of the projection's input. -/
def back (d : FVec Ideal S8192x1024 .f32) (w : FVec Ideal S1x1024x1024 .f32) : FVec Ideal S8192x1024 .f32 :=
  Host.dotGeneral (φ₁ := .f32) (φ₂ := .f32) dot_S8192x1024_S1024x1024_S8192x1024_1_1_0_0_n_n none d (shapeCast _ w shapeCasts_S1x1024x1024_S1024x1024)

/-- The gradient of the rows. -/
def drows (d : FVec Ideal S8192x1024 .f32) (w : FVec Ideal S1x1024x1024 .f32) (x o : FVec Ideal S8192x1024 .f32)
    (g g' : FVec Ideal S1x1024 .f32) (up : FVec Ideal S8192x1024 .f32) : FVec Ideal S8192x1024 .f32 :=
  gradOnto up (start x o g) (mulf (back d w) (gain g'))

/-- The same, passed on to the norm before. -/
def drows' (d : FVec Ideal S8192x1024 .f32) (w : FVec Ideal S1x1024x1024 .f32) (x o : FVec Ideal S8192x1024 .f32)
    (g g' : FVec Ideal S1x1024 .f32) (up : FVec Ideal S8192x1024 .f32) : FVec Ideal S8192x1024 .f32 :=
  shapeCast _ (drows d w x o g g' up) shapeCasts_S8192x1024_S8192x1024

/-- The gradient of the layer before. -/
def dlayer (d : FVec Ideal S8192x1024 .f32) (w : FVec Ideal S1x1024x1024 .f32) (x o : FVec Ideal S8192x1024 .f32)
    (g g' : FVec Ideal S1x1024 .f32) (up : FVec Ideal S8192x1024 .f32) : FVec Ideal S8192x1024 .f32 :=
  grad o (mulf (drows' d w x o g g' up) (gain g))

variable (d : FVec Ideal S8192x1024 .f32) (w : FVec Ideal S1x1024x1024 .f32) (x o : FVec Ideal S8192x1024 .f32)
    (g g' : FVec Ideal S1x1024 .f32) (up : FVec Ideal S8192x1024 .f32)

theorem back_real (hd : IsReal d) (hw : IsReal w) : IsReal (back d w) := fun i => by
  pointwise [back]; exact Num.sum _ _ fun k => (hd _).mul (hw _)

theorem start_real (hx : IsReal x) (ho : IsReal o) (hg : IsReal g) : IsReal (start x o g) :=
  addf_real hx (mulf_real (normed_real o ho) (gain_real g hg))

theorem drows_apply (hd : IsReal d) (hw : IsReal w) (hx : IsReal x) (ho : IsReal o) (hg : IsReal g) (hg' : IsReal g') (i : S8192x1024.Idx) :
    drows d w x o g g' up i = up i + rmsd (line (start x o g) (i 0)) (line (mulf (back d w) (gain g')) (i 0)) (i 1) :=
  gradOnto_apply _ _ _ (start_real x o g hx ho hg) (mulf_real (back_real d w hd hw) (gain_real g' hg')) i

theorem drows'_apply (i : S8192x1024.Idx) : drows' d w x o g g' up i = drows d w x o g g' up i := by
  pointwise [drows']

theorem drows_real (hd : IsReal d) (hw : IsReal w) (hx : IsReal x) (ho : IsReal o) (hg : IsReal g) (hg' : IsReal g') (hu : IsReal up) :
    IsReal (drows d w x o g g' up) :=
  gradOnto_real _ _ _ hu (start_real x o g hx ho hg) (mulf_real (back_real d w hd hw) (gain_real g' hg'))

theorem dlayer_apply (hd : IsReal d) (hw : IsReal w) (hx : IsReal x) (ho : IsReal o) (hg : IsReal g) (hg' : IsReal g') (hu : IsReal up)
    (i : S8192x1024.Idx) :
    dlayer d w x o g g' up i = rmsd (line o (i 0)) (line (mulf (drows' d w x o g g' up) (gain g)) (i 0)) (i 1) :=
  grad_apply _ _ ho (mulf_real (fun i => by rw [drows'_apply]; exact drows_real d w x o g g' up hd hw hx ho hg hg' hu i) (gain_real g hg)) i

end Cert.AttnInRefIdeal.Value

namespace Cert.AttnInIdeal.Value

open Cert.AttnInIdeal Cert.AttnInIdeal.Gen
open Cert.AttnInRefIdeal.Value

variable (m : (ℓ : Loc nD τ sig) → Buf (Elt Ideal) ℓ)

/-- Every window's block at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- The rows the call starts from are computed before it, on the host. -/
theorem entry16 (c : Dev nD) : V m c main_v16 = start (m ((c : Thread nD τ).loc main_arg2)) (m ((c : Thread nD τ).loc main_arg3)) (m ((c : Thread nD τ).loc main_arg4)) := by
  entry_read; try rfl

/-! What the payloads hold at one index. -/

/-- One block of rows times the weight. -/
def prod (a : Vec Ideal S1024x1024 .bf16) (b : Vec Ideal S1024x1024 .bf16) (y : S1024x1024.Idx) : EReal :=
  ∑ l : Fin 1024, a (ix2 (y 0) l) * b (ix2 (y 1) l)

theorem pay7_apply (v0 : Vec Ideal S1024x1024 .bf16) (v2 : Vec Ideal S1024x1024 .bf16) (v5 : Vec Ideal S1024x1024 .f32)
    (v7 : Vec Ideal S1x1024 .f32) (v34 : Vec Ideal S1024x1024 .f32) (y : S1024x1024.Idx) :
    k0_pay7 v0 v2 v5 v7 v34 y = v34 y + rmsd (fun k : Fin 1024 => v5 (ix2 (y 0) k))
      (fun k => prod v0 v2 (ix2 (y 0) k) * v7 (ix2 0 k)) (y 1) := by
  pointwise [k0_pay7, k0_pay6, k0_pay5, k0_pay4, k0_pay3, k0_pay2, prod, rmsd, rs, msq]

theorem pay6_apply (v0 : Vec Ideal S1024x1024 .bf16) (v2 : Vec Ideal S1024x1024 .bf16) (v5 : Vec Ideal S1024x1024 .f32) (j : S1x1024.Idx) :
    k0_pay6 v0 v2 v5 j = ∑ k : Fin 1024, v5 (ix2 k (j 1)) * rs (fun l : Fin 1024 => v5 (ix2 k l)) * prod v0 v2 (ix2 k (j 1)) := by
  pointwise [k0_pay7, k0_pay6, k0_pay5, k0_pay4, k0_pay3, k0_pay2, prod, rmsd, rs, msq]
  exact Finset.sum_congr rfl fun k _ => mul_comm _ _

theorem pay15_apply (v35 : FVec Ideal S1024x1024 .f32) (v44 : Vec Ideal S1024x1024 .bf16) (v47 : Vec Ideal S1x1024 .f32) (y : S1024x1024.Idx) :
    k0_pay15 v35 v44 v47 y = rmsd (fun k : Fin 1024 => v44 (ix2 (y 0) k)) (fun k => v35 (ix2 (y 0) k) * v47 (ix2 0 k)) (y 1) := by
  pointwise [k0_pay15, k0_pay13, k0_pay12, k0_pay11, rmsd, rs, msq]

theorem pay14_apply (v35 : FVec Ideal S1024x1024 .f32) (v44 : Vec Ideal S1024x1024 .bf16) (j : S1x1024.Idx) :
    k0_pay14 v35 v44 j = ∑ k : Fin 1024, v44 (ix2 k (j 1)) * rs (fun l : Fin 1024 => v44 (ix2 k l)) * v35 (ix2 k (j 1)) := by
  pointwise [k0_pay14, k0_pay13, k0_pay12, k0_pay11, rs, msq]
  exact Finset.sum_congr rfl fun k _ => mul_comm _ _

/-- The zero fills. -/
theorem fill8 (j : S1x1024.Idx) : k0_pay8 (F := Ideal) j = 0 := by pointwise! [k0_pay8]
theorem fill9 (j : S1x1024.Idx) : k0_pay9 (F := Ideal) j = 0 := by pointwise! [k0_pay9]

/-- One point adds its part. -/
theorem adds1 (a : FVec Ideal S1x1024 .f32) (b : Vec Ideal S1x1024 .f32) (j : S1x1024.Idx) : k0_pay1 a b j = b j + a j := by
  pointwise [k0_pay1]
theorem adds10 (a : FVec Ideal S1x1024 .f32) (b : Vec Ideal S1x1024 .f32) (j : S1x1024.Idx) : k0_pay10 a b j = b j + a j := by
  pointwise [k0_pay10]

/-! The blocks of a point, as rows of the arrays. -/

variable (c : Dev nD)

theorem rows_at (t : Fin cfg0.N) (y : S1024x1024.Idx) (i : S8192x1024.Idx) (e0 : (i 0 : ℕ) = 1024 * t + y 0) (e1 : (i 1 : ℕ) = y 1) :
    iblk m c 2 t y = start (m ((c : Thread nD τ).loc main_arg2)) (m ((c : Thread nD τ).loc main_arg3)) (m ((c : Thread nD τ).loc main_arg4)) i := by
  blk_simp [iblk]; rw [entry16]; blk_point [iblk, V, idx t]

theorem layer_at (t : Fin cfg0.N) (y : S1024x1024.Idx) (i : S8192x1024.Idx) (e0 : (i 0 : ℕ) = 1024 * t + y 0) (e1 : (i 1 : ℕ) = y 1) :
    iblk m c 5 t y = m ((c : Thread nD τ).loc main_arg3) i := by
  blk_point [iblk, V, idx t]

theorem back_at (t : Fin cfg0.N) (y : S1024x1024.Idx) (i : S8192x1024.Idx) (e0 : (i 0 : ℕ) = 1024 * t + y 0) (e1 : (i 1 : ℕ) = y 1) :
    prod (iblk m c 0 t) (iblk m c 1 t) y = back (m ((c : Thread nD τ).loc main_arg0)) (m ((c : Thread nD τ).loc main_arg1)) i := by
  pointwise [prod, back]; blk_point [iblk, V, idx t]

variable (h0 : IsReal (s := S8192x1024) (m ((c : Thread nD τ).loc main_arg0)))
  (h1 : IsReal (s := S1x1024x1024) (m ((c : Thread nD τ).loc main_arg1)))
  (h2 : IsReal (s := S8192x1024) (m ((c : Thread nD τ).loc main_arg2)))
  (h3 : IsReal (s := S8192x1024) (m ((c : Thread nD τ).loc main_arg3)))
  (h4 : IsReal (s := S1x1024) (m ((c : Thread nD τ).loc main_arg4)))
  (h5 : IsReal (s := S1x1024) (m ((c : Thread nD τ).loc main_arg5)))

include h0 h1 h2 h3 h4 h5 in
/-- The rows' gradient a point computes. -/
theorem drows_at (t : Fin cfg0.N) (y : S1024x1024.Idx) (i : S8192x1024.Idx) (e0 : (i 0 : ℕ) = 1024 * t + y 0) (e1 : (i 1 : ℕ) = y 1) :
    k0_pay7 (iblk m c 0 t) (iblk m c 1 t) (iblk m c 2 t) (iblk m c 3 t) (iblk m c 4 t) y = drows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  rw [pay7_apply, drows_apply _ _ _ _ _ _ _ h0 h1 h2 h3 h4 h5]
  refine congrArg₂ (· + ·) (by blk_point [iblk, V, idx t]) ?_
  refine rmsd_congr (fun k => ?_) (fun k => ?_) (Fin.ext e1.symm)
  · exact rows_at m c t _ _ e0 rfl
  refine congrArg₂ (· * ·) (back_at m c t _ _ e0 rfl) ?_
  pointwise [gain]; blk_point [iblk, V, idx t]

include h0 h1 h2 h3 h4 h5 in
theorem final7 : (dats m 0 c).arrAt 7 (cfgs 0).N = drows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp; rw [after0_7]
  by_cases h : t.val % 8 = 0
  · rw [outsAt0_A m c t h]; frame_out
    exact drows_at m c h0 h1 h2 h3 h4 h5 t _ _ (by blk_simp [idx t] <;> omega) (by blk_simp [idx t] <;> omega)
  · rw [outsAt0_B m c t h]; frame_out
    exact drows_at m c h0 h1 h2 h3 h4 h5 t _ _ (by blk_simp [idx t] <;> omega) (by blk_simp [idx t] <;> omega)

include h0 h1 h2 h3 h4 h5 in
/-- The gradient of the layer before. -/
theorem dlayer_at (t : Fin cfg0.N) (y : S1024x1024.Idx) (i : S8192x1024.Idx) (e0 : (i 0 : ℕ) = 1024 * t + y 0) (e1 : (i 1 : ℕ) = y 1)
    (h6 : IsReal (s := S8192x1024) (m ((c : Thread nD τ).loc main_arg6))) :
    k0_pay15 (k0_pay7 (iblk m c 0 t) (iblk m c 1 t) (iblk m c 2 t) (iblk m c 3 t) (iblk m c 4 t)) (iblk m c 5 t) (iblk m c 6 t) y
      = dlayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  rw [pay15_apply, dlayer_apply _ _ _ _ _ _ _ h0 h1 h2 h3 h4 h5 h6]
  refine rmsd_congr (fun k => ?_) (fun k => ?_) (Fin.ext e1.symm)
  · exact layer_at m c t _ _ e0 rfl
  refine congrArg₂ (· * ·) ((drows_at m c h0 h1 h2 h3 h4 h5 t (ix2 (y 0) k) (ix2 (i 0) k) e0 rfl).trans (drows'_apply _ _ _ _ _ _ _ _).symm) ?_
  pointwise [gain]; blk_point [iblk, V, idx t]

include h0 h1 h2 h3 h4 h5 in
theorem final8 (h6 : IsReal (s := S8192x1024) (m ((c : Thread nD τ).loc main_arg6))) :
    (dats m 0 c).arrAt 8 (cfgs 0).N = truncf (F := Ideal) .bf16 (dlayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) Cert.AttnInRefIdeal.Gen.bitsLt_bf16_f32 := by
  refine (dats m 0 c).arrAt_eq_of_covers 8 _ (by decide +kernel) fun t hf y => ?_
  blk_simp; rw [after0_8]
  by_cases h : t.val % 8 = 0
  · rw [outsAt0_A m c t h]; frame_out
    exact dlayer_at m c h0 h1 h2 h3 h4 h5 t _ _ (by blk_simp [idx t] <;> omega) (by blk_simp [idx t] <;> omega) h6
  · rw [outsAt0_B m c t h]; frame_out
    exact dlayer_at m c h0 h1 h2 h3 h4 h5 t _ _ (by blk_simp [idx t] <;> omega) (by blk_simp [idx t] <;> omega) h6

/-- The gain's gradient: the points' parts added up. -/
theorem final9 : (dats m 0 c).arrAt 9 (cfgs 0).N = colsum (mulf (normed (start (m ((c : Thread nD τ).loc main_arg2)) (m ((c : Thread nD τ).loc main_arg3)) (m ((c : Thread nD τ).loc main_arg4)))) (back (m ((c : Thread nD τ).loc main_arg0)) (m ((c : Thread nD τ).loc main_arg1)))) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0) _
    (fun t h j => by rw [outsAt0_A m c t h]; frame_out; rw [adds10, fill8])
    (fun t h j => by rw [outsAt0_B m c t h]; frame_out; rw [adds10])
    (le_of_eq N_0) t0_7 rfl j, zero_add]
  pointwise [pay6_apply, colsum_apply, normed_apply]
  refine Fin.sum_mul_add_congr fun s k hl => ?_
  have e0 : s.val * 1024 + k.val = 1024 * s.val + k.val := by omega
  exact congrArg₂ (· * ·) (congrArg₂ (· * ·) (rows_at m c s _ _ e0 rfl) (congrArg rs (funext fun l => rows_at m c s _ _ e0 rfl)))
    (back_at m c s _ _ e0 rfl)

include h0 h1 h2 h3 h4 h5 in
/-- The gain's gradient of the layer before. -/
theorem final10 : (dats m 0 c).arrAt 10 (cfgs 0).N = colsum (mulf (normed (m ((c : Thread nD τ).loc main_arg3))) (drows' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))) := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => 0) _
    (fun t h j => by rw [outsAt0_A m c t h]; frame_out; rw [adds1, fill9])
    (fun t h j => by rw [outsAt0_B m c t h]; frame_out; rw [adds1])
    (le_of_eq N_0) t0_7 rfl j, zero_add]
  pointwise [pay14_apply, colsum_apply, normed_apply]
  refine Fin.sum_mul_add_congr fun s k hl => ?_
  have e0 : s.val * 1024 + k.val = 1024 * s.val + k.val := by omega
  exact congrArg₂ (· * ·) (congrArg₂ (· * ·) (layer_at m c s _ _ e0 rfl) (congrArg rs (funext fun l => layer_at m c s _ _ e0 rfl)))
    ((drows_at m c h0 h1 h2 h3 h4 h5 s _ _ e0 rfl).trans (drows'_apply _ _ _ _ _ _ _ _).symm)

end Cert.AttnInIdeal.Value

end
-- ==== Proof.AttnInClaim.lean ====
/- The claims about the attention's query projection and its norms, backward. -/
module

public import proofs.«01_k».proof.Defs
public import proofs.«01_k».proof.Proof.AttnIn
public import proofs.«01_k».proof.Proof.Gen.AttnIn.Frame
public import proofs.«01_k».proof.Proof.Gen.Pre_finite_attnin

@[expose] public section

set_option maxRecDepth 16384

noncomputable section

namespace Cert.Proof

open Idealize.ShloMosaic Idealize.SL.Sem
open Cert.Reals Cert.Rows
open Cert.AttnInRefIdeal (nD τ sig defs main main_arg0 main_arg1 main_arg2 main_arg3 main_arg4 main_arg5 main_arg6 main_v58 main_v80 main_v81 main_v82)
open Cert.AttnInRefIdeal.Value (drows drows' dlayer start back)

theorem attnin_frame : Cert.quiescent_AttnIn := fun m ρ _ => Cert.AttnIn.Gen.frame m ρ

theorem attnin_frame_ideal : Cert.quiescent_AttnInIdeal := fun m ρ _ => Cert.AttnInIdeal.Gen.frame m ρ

theorem attnin_frame_ideal_pre : Cert.quiescent_AttnInIdeal_pre_finite_attnin := fun m ρ _ => Cert.AttnInIdeal.Gen.frame m ρ

theorem attnin_frame_ref : Cert.quiescent_AttnInRefIdeal := fun m ρ _ =>
  (θ_run Cert.AttnInRefIdeal.defs _ _).mono (fun r h => ⟨fun c => (h c).2.2.2.2, sem_eq_zero_of_no_sems (by decide) r.2⟩)
    (Cert.AttnInRefIdeal.Value.run m ρ)

theorem attnin_frame_ref_pre : Cert.quiescent_AttnInRefIdeal_pre_finite_attnin := fun m ρ _ => attnin_frame_ref m ρ trivial

set_option maxHeartbeats 4000000 in
/-- The reference's run, its results named. -/
theorem attnin_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v58) = drows (m (c.tc.loc main_arg0)) (m (c.tc.loc main_arg1)) (m (c.tc.loc main_arg2)) (m (c.tc.loc main_arg3)) (m (c.tc.loc main_arg4)) (m (c.tc.loc main_arg5)) (m (c.tc.loc main_arg6))
        ∧ r.2.mem (c.tc.loc main_v80) = colsum (mulf (normed (start (m (c.tc.loc main_arg2)) (m (c.tc.loc main_arg3)) (m (c.tc.loc main_arg4)))) (back (m (c.tc.loc main_arg0)) (m (c.tc.loc main_arg1))))
        ∧ r.2.mem (c.tc.loc main_v81) = truncf (F := Ideal) .bf16 (dlayer (m (c.tc.loc main_arg0)) (m (c.tc.loc main_arg1)) (m (c.tc.loc main_arg2)) (m (c.tc.loc main_arg3)) (m (c.tc.loc main_arg4)) (m (c.tc.loc main_arg5)) (m (c.tc.loc main_arg6))) Cert.AttnInRefIdeal.Gen.bitsLt_bf16_f32
        ∧ r.2.mem (c.tc.loc main_v82) = colsum (mulf (normed (m (c.tc.loc main_arg3))) (drows' (m (c.tc.loc main_arg0)) (m (c.tc.loc main_arg1)) (m (c.tc.loc main_arg2)) (m (c.tc.loc main_arg3)) (m (c.tc.loc main_arg4)) (m (c.tc.loc main_arg5)) (m (c.tc.loc main_arg6))))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6) :=
  Cert.AttnInRefIdeal.Value.run m ρ

open Cert.Pre_finite_attnin in
/-- What the precondition says: the arguments are arrays of reals. -/
theorem attnin_pre (a0 : FVec Ideal S8192x1024 .f32) (a1 : FVec Ideal S1x1024x1024 .f32) (a2 : FVec Ideal S8192x1024 .f32) (a3 : FVec Ideal S8192x1024 .f32) (a4 : FVec Ideal S1x1024 .f32) (a5 : FVec Ideal S1x1024 .f32) (a6 : FVec Ideal S8192x1024 .f32)
    (h : Cert.Pre_finite_attnin.fn (F := Ideal) a0 a1 a2 a3 a4 a5 a6 = fun _ => 1#1) :
    IsReal a0 ∧ IsReal a1 ∧ IsReal a2 ∧ IsReal a3 ∧ IsReal a4 ∧ IsReal a5 ∧ IsReal a6 := by
  have h := congrFun h (fun k => k.elim0)
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨isReal_of_all _ _ _ _ _ _ _ h0, isReal_of_all _ _ _ _ _ _ _ h1, isReal_of_all _ _ _ _ _ _ _ h2, isReal_of_all _ _ _ _ _ _ _ h3, isReal_of_all _ _ _ _ _ _ _ h4, isReal_of_all _ _ _ _ _ _ _ h5, isReal_of_all _ _ _ _ _ _ _ h6⟩

set_option maxHeartbeats 1000000 in
theorem attnin_value : Cert.algebraic_AttnInIdeal_AttnInRefIdeal_pre_finite_attnin := by
  pair_intro
  · run_from Cert.AttnInIdeal.Gen.run_main m g
  · run_from attnin_ref_run m' g'
    all_goals obtain ⟨h0, h1, h2, h3, h4, h5, h6⟩ := attnin_pre _ _ _ _ _ _ _ (hpre c)
    · exact (Cert.AttnInIdeal.Value.final7 m c h0 h1 h2 h3 h4 h5).symm
    · exact (Cert.AttnInIdeal.Value.final9 m c).symm
    · exact (Cert.AttnInIdeal.Value.final8 m c h0 h1 h2 h3 h4 h5 h6).symm
    · exact (Cert.AttnInIdeal.Value.final10 m c h0 h1 h2 h3 h4 h5).symm

end Cert.Proof

end
-- ==== Proof.InProj.lean ====
/- The input projection and its norm, backward: what each grid point stores, what the two result arrays hold after the
   run, and their equality with the reference's results on real arguments. -/
module

public import proofs.«01_k».proof.Proof.Rows
public import proofs.«01_k».proof.Proof.Gen.InProjIdeal.Value
public import proofs.«01_k».proof.Proof.Gen.InProjRefIdeal.Run

@[expose] public section

set_option maxRecDepth 16384

noncomputable section

open Idealize.ShloMosaic Idealize.ShloMosaic.TcCoe Idealize.SL.Sem
open Idealize.ShloMosaic.Pipeline (Dat)
open Cert.Reals Cert.Rows

namespace Cert.InProjRefIdeal.Value

open Cert.InProjRefIdeal Cert.InProjRefIdeal.Gen

/-- A sum over the projection's columns, piece by piece. -/
theorem sum_pieces (f : Fin 4608 → EReal) : ∑ k, f k = (∑ k : Fin 2048, f ⟨k, by omega⟩) + (∑ k : Fin 512, f ⟨2048 + k, by omega⟩)
    + (∑ k : Fin 1024, f ⟨2560 + k, by omega⟩) + ∑ k : Fin 1024, f ⟨3584 + k, by omega⟩ := by
  refine (Fin.sum_univ_add (a := 3584) (b := 1024) f).trans (congrArg₂ (· + ·) ?_ rfl)
  refine (Fin.sum_univ_add (a := 2560) (b := 1024) _).trans (congrArg₂ (· + ·) ?_ rfl)
  exact Fin.sum_univ_add (a := 2048) (b := 512) _

/-- The four cotangents side by side. -/
def side (d0 : FVec Ideal S8192x2048 .f32) (d1 : FVec Ideal S8192x512 .f32) (d2 d3 : FVec Ideal S8192x1024 .f32) : FVec Ideal S8192x4608 .f32 :=
  concatenate S8192x4608 1 [⟨S8192x2048, d0⟩, ⟨S8192x512, d1⟩, ⟨S8192x1024, d2⟩, ⟨S8192x1024, d3⟩]
    concatenates_S8192x2048_S8192x512_S8192x1024_S8192x1024_S8192x4608_d1

/-- The cotangent of the projection's input. -/
def back (d0 : FVec Ideal S8192x2048 .f32) (d1 : FVec Ideal S8192x512 .f32) (d2 d3 : FVec Ideal S8192x1024 .f32)
    (w : FVec Ideal S1x1024x4608 .f32) : FVec Ideal S8192x1024 .f32 :=
  Host.dotGeneral (φ₁ := .f32) (φ₂ := .f32) dot_S8192x4608_S1024x4608_S8192x1024_1_1_0_0_n_n none (side d0 d1 d2 d3) (shapeCast _ w shapeCasts_S1x1024x4608_S1024x4608)

/-- The gradient of the rows. -/
def drows (d0 : FVec Ideal S8192x2048 .f32) (d1 : FVec Ideal S8192x512 .f32) (d2 d3 : FVec Ideal S8192x1024 .f32)
    (w : FVec Ideal S1x1024x4608 .f32) (x : FVec Ideal S8192x1024 .f32) (g : FVec Ideal S1x1024 .f32) (up : FVec Ideal S8192x1024 .f32) : FVec Ideal S8192x1024 .f32 :=
  gradOnto up x (mulf (back d0 d1 d2 d3 w) (gain g))

variable (d0 : FVec Ideal S8192x2048 .f32) (d1 : FVec Ideal S8192x512 .f32) (d2 d3 : FVec Ideal S8192x1024 .f32)
    (w : FVec Ideal S1x1024x4608 .f32) (x : FVec Ideal S8192x1024 .f32) (g : FVec Ideal S1x1024 .f32) (up : FVec Ideal S8192x1024 .f32)

theorem side_0 (i : Fin 8192) (k : Fin 2048) (h : (k : ℕ) < 4608) : side d0 d1 d2 d3 (ix2 i ⟨k, h⟩) = d0 (ix2 i k) := by
  pointwise [side]

theorem side_1 (i : Fin 8192) (k : Fin 512) (h : 2048 + (k : ℕ) < 4608) : side d0 d1 d2 d3 (ix2 i ⟨2048 + k, h⟩) = d1 (ix2 i k) := by
  pointwise [side]

theorem side_2 (i : Fin 8192) (k : Fin 1024) (h : 2560 + (k : ℕ) < 4608) : side d0 d1 d2 d3 (ix2 i ⟨2560 + k, h⟩) = d2 (ix2 i k) := by
  pointwise [side]; rw [dif_neg (by omega), dif_neg (by omega), dif_pos (by omega)]; exact congrArg d2 (by idx_ext <;> simp <;> omega)

theorem side_3 (i : Fin 8192) (k : Fin 1024) (h : 3584 + (k : ℕ) < 4608) : side d0 d1 d2 d3 (ix2 i ⟨3584 + k, h⟩) = d3 (ix2 i k) := by
  pointwise [side]; rw [dif_neg (by omega), dif_neg (by omega), dif_neg (by omega)]; exact congrArg d3 (by idx_ext <;> simp <;> omega)

/-- Piece by piece. -/
theorem back_apply (i : S8192x1024.Idx) : back d0 d1 d2 d3 w i
    = (∑ k : Fin 2048, d0 (ix2 (i 0) k) * w (ix3 0 (i 1) ⟨k, by omega⟩)) + (∑ k : Fin 512, d1 (ix2 (i 0) k) * w (ix3 0 (i 1) ⟨2048 + k, by omega⟩))
      + (∑ k : Fin 1024, d2 (ix2 (i 0) k) * w (ix3 0 (i 1) ⟨2560 + k, by omega⟩)) + ∑ k : Fin 1024, d3 (ix2 (i 0) k) * w (ix3 0 (i 1) ⟨3584 + k, by omega⟩) := by
  have e : back d0 d1 d2 d3 w i = ∑ k : Fin 4608, side d0 d1 d2 d3 (ix2 (i 0) k) * w (ix3 0 (i 1) k) := by pointwise [back]
  rw [e, sum_pieces]
  exact congrArg₂ (· + ·) (congrArg₂ (· + ·) (congrArg₂ (· + ·)
    (Finset.sum_congr rfl fun k _ => congrArg (· * _) (side_0 _ _ _ _ _ k _)) (Finset.sum_congr rfl fun k _ => congrArg (· * _) (side_1 _ _ _ _ _ k _)))
    (Finset.sum_congr rfl fun k _ => congrArg (· * _) (side_2 _ _ _ _ _ k _))) (Finset.sum_congr rfl fun k _ => congrArg (· * _) (side_3 _ _ _ _ _ k _))

theorem back_real (h0 : IsReal d0) (h1 : IsReal d1) (h2 : IsReal d2) (h3 : IsReal d3) (hw : IsReal w) : IsReal (back d0 d1 d2 d3 w) := fun i => by
  rw [back_apply]
  exact (((Num.sum _ _ fun k => (h0 _).mul (hw _)).add (Num.sum _ _ fun k => (h1 _).mul (hw _))).add
    (Num.sum _ _ fun k => (h2 _).mul (hw _))).add (Num.sum _ _ fun k => (h3 _).mul (hw _))

theorem drows_apply (h0 : IsReal d0) (h1 : IsReal d1) (h2 : IsReal d2) (h3 : IsReal d3) (hw : IsReal w) (hx : IsReal x) (hg : IsReal g) (i : S8192x1024.Idx) :
    drows d0 d1 d2 d3 w x g up i = up i + rmsd (line x (i 0)) (line (mulf (back d0 d1 d2 d3 w) (gain g)) (i 0)) (i 1) :=
  gradOnto_apply _ _ _ hx (mulf_real (back_real _ _ _ _ _ h0 h1 h2 h3 hw) (gain_real g hg)) i

end Cert.InProjRefIdeal.Value

namespace Cert.InProjIdeal.Value

open Cert.InProjIdeal Cert.InProjIdeal.Gen
open Cert.InProjRefIdeal.Value

variable (m : (ℓ : Loc nD τ sig) → Buf (Elt Ideal) ℓ)

/-- Every window's block at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

/-! What the payloads hold at one index. -/

/-- Four blocks of rows, each times its piece of the weight. -/
def prod (a0 : Vec Ideal S512x2048 .bf16) (b0 : Vec Ideal S2048x1024 .bf16) (a1 : Vec Ideal S512x512 .bf16) (b1 : Vec Ideal S512x1024 .bf16)
    (a2 : Vec Ideal S512x1024 .bf16) (b2 : Vec Ideal S1024x1024 .bf16) (a3 : Vec Ideal S512x1024 .bf16) (b3 : Vec Ideal S1024x1024 .bf16) (y : S512x1024.Idx) : EReal :=
  (∑ l : Fin 2048, a0 (ix2 (y 0) l) * b0 (ix2 l (y 1))) + (∑ l : Fin 512, a1 (ix2 (y 0) l) * b1 (ix2 l (y 1)))
    + (∑ l : Fin 1024, a2 (ix2 (y 0) l) * b2 (ix2 l (y 1))) + ∑ l : Fin 1024, a3 (ix2 (y 0) l) * b3 (ix2 l (y 1))

theorem pay6_apply (a0 : Vec Ideal S512x2048 .bf16) (b0 : Vec Ideal S2048x1024 .bf16) (a1 : Vec Ideal S512x512 .bf16) (b1 : Vec Ideal S512x1024 .bf16)
    (a2 : Vec Ideal S512x1024 .bf16) (b2 : Vec Ideal S1024x1024 .bf16) (a3 : Vec Ideal S512x1024 .bf16) (b3 : Vec Ideal S1024x1024 .bf16) (y : S512x1024.Idx) :
    k0_pay6 a0 b0 a1 b1 a2 b2 a3 b3 y = prod a0 b0 a1 b1 a2 b2 a3 b3 y := by
  pointwise [k0_pay6, prod]

theorem pay3_apply (p : FVec Ideal S512x1024 .f32) (x : Vec Ideal S512x1024 .f32) (g : Vec Ideal S1x1024 .f32) (up : Vec Ideal S512x1024 .f32) (y : S512x1024.Idx) :
    k0_pay3 p x (k0_pay7 g) (k0_pay8 x) k0_pay9 up y
      = up y + rmsd (fun k : Fin 1024 => x (ix2 (y 0) k)) (fun k => p (ix2 (y 0) k) * g (ix2 0 k)) (y 1) := by
  pointwise [k0_pay3, k0_pay2, k0_pay1, k0_pay7, k0_pay8, k0_pay9, rmsd, rs, msq]

/-- What one point adds to the gain's gradient. -/
def part (p : FVec Ideal S512x1024 .f32) (x : Vec Ideal S512x1024 .f32) (j : S1x1024.Idx) : EReal :=
  ∑ k : Fin 512, x (ix2 k (j 1)) * rs (fun l : Fin 1024 => x (ix2 k l)) * p (ix2 k (j 1))

theorem pay5_apply (p : FVec Ideal S512x1024 .f32) (x : Vec Ideal S512x1024 .f32) (b : Vec Ideal S1x1024 .f32) (j : S1x1024.Idx) :
    k0_pay5 p x (k0_pay8 x) k0_pay9 b j = b j + part p x j := by
  pointwise [k0_pay5, k0_pay2, k0_pay1, k0_pay8, k0_pay9, part, rs, msq]
  exact congrArg (_ + ·) (Finset.sum_congr rfl fun k _ => mul_comm _ _)

theorem fill4 (j : S1x1024.Idx) : k0_pay4 (F := Ideal) j = 0 := by pointwise! [k0_pay4]

variable (c : Dev nD)

/-- The cotangent of the projection's input at a point's rows. -/
def hid (t : Fin cfg0.N) : FVec Ideal S512x1024 .f32 :=
  k0_pay6 (iblk m c 0 t) (View.ld (iblk m c 4 t) (Rect.unit ![0, 0] ![2048, 1024] inb_S4608x1024_S2048x1024_0_0))
    (iblk m c 1 t) (View.ld (iblk m c 4 t) (Rect.unit ![2048, 0] ![512, 1024] inb_S4608x1024_S512x1024_2048_0))
    (iblk m c 2 t) (View.ld (iblk m c 4 t) (Rect.unit ![2560, 0] ![1024, 1024] inb_S4608x1024_S1024x1024_2560_0))
    (iblk m c 3 t) (View.ld (iblk m c 4 t) (Rect.unit ![3584, 0] ![1024, 1024] inb_S4608x1024_S1024x1024_3584_0))

theorem rows_at (t : Fin cfg0.N) (y : S512x1024.Idx) (i : S8192x1024.Idx) (e0 : (i 0 : ℕ) = 512 * t + y 0) (e1 : (i 1 : ℕ) = y 1) :
    iblk m c 5 t y = m ((c : Thread nD τ).loc main_arg5) i := by
  blk_point [iblk, V, idx t]

theorem hid_at (t : Fin cfg0.N) (y : S512x1024.Idx) (i : S8192x1024.Idx) (e0 : (i 0 : ℕ) = 512 * t + y 0) (e1 : (i 1 : ℕ) = y 1) :
    hid m c t y = back (m ((c : Thread nD τ).loc main_arg0)) (m ((c : Thread nD τ).loc main_arg1)) (m ((c : Thread nD τ).loc main_arg2)) (m ((c : Thread nD τ).loc main_arg3)) (m ((c : Thread nD τ).loc main_arg4)) i := by
  rw [hid, pay6_apply, back_apply]
  pointwise [prod]; blk_point [iblk, V, idx t]

variable (h0 : IsReal (s := S8192x2048) (m ((c : Thread nD τ).loc main_arg0)))
  (h1 : IsReal (s := S8192x512) (m ((c : Thread nD τ).loc main_arg1)))
  (h2 : IsReal (s := S8192x1024) (m ((c : Thread nD τ).loc main_arg2)))
  (h3 : IsReal (s := S8192x1024) (m ((c : Thread nD τ).loc main_arg3)))
  (h4 : IsReal (s := S1x1024x4608) (m ((c : Thread nD τ).loc main_arg4)))
  (h5 : IsReal (s := S8192x1024) (m ((c : Thread nD τ).loc main_arg5)))
  (h6 : IsReal (s := S1x1024) (m ((c : Thread nD τ).loc main_arg6)))

include h0 h1 h2 h3 h4 h5 h6 in
/-- The rows' gradient a point computes. -/
theorem drows_at (t : Fin cfg0.N) (y : S512x1024.Idx) (i : S8192x1024.Idx) (e0 : (i 0 : ℕ) = 512 * t + y 0) (e1 : (i 1 : ℕ) = y 1) :
    k0_pay3 (hid m c t) (iblk m c 5 t) (k0_pay7 (iblk m c 6 t)) (k0_pay8 (iblk m c 5 t)) k0_pay9 (iblk m c 7 t) y = drows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  rw [pay3_apply, drows_apply _ _ _ _ _ _ _ _ h0 h1 h2 h3 h4 h5 h6]
  refine congrArg₂ (· + ·) (by blk_point [iblk, V, idx t]) (rmsd_congr (fun k => ?_) (fun k => ?_) (Fin.ext e1.symm))
  · exact rows_at m c t (ix2 (y 0) k) (ix2 (i 0) k) e0 rfl
  refine congrArg₂ (· * ·) (hid_at m c t (ix2 (y 0) k) (ix2 (i 0) k) e0 rfl) ?_
  pointwise [gain]; blk_point [iblk, V, idx t]

include h0 h1 h2 h3 h4 h5 h6 in
theorem final8 : (dats m 0 c).arrAt 8 (cfgs 0).N = drows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp; rw [after0_8]
  by_cases h : t.val % 16 = 0
  · rw [outsAt0_A m c t h]; frame_out
    exact drows_at m c h0 h1 h2 h3 h4 h5 h6 t _ _ (by blk_simp [idx t] <;> omega) (by blk_simp [idx t] <;> omega)
  · rw [outsAt0_B m c t h]; frame_out
    exact drows_at m c h0 h1 h2 h3 h4 h5 h6 t _ _ (by blk_simp [idx t] <;> omega) (by blk_simp [idx t] <;> omega)

/-- The gain's gradient: the points' parts added up. -/
theorem final9 : (dats m 0 c).arrAt 9 (cfgs 0).N = colsum (mulf (normed (m ((c : Thread nD τ).loc main_arg5))) (back (m ((c : Thread nD τ).loc main_arg0)) (m ((c : Thread nD τ).loc main_arg1)) (m ((c : Thread nD τ).loc main_arg2)) (m ((c : Thread nD τ).loc main_arg3)) (m ((c : Thread nD τ).loc main_arg4)))) := by
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0)
    (fun t j => part (hid m c t) (iblk m c 5 t) j)
    (fun t h j => by rw [outsAt0_A m c t h]; frame_out; rw [pay5_apply, fill4]; rfl)
    (fun t h j => by rw [outsAt0_B m c t h]; frame_out; rw [pay5_apply]; rfl)
    (le_of_eq N_0) t0_15 rfl j, zero_add]
  pointwise [part, colsum_apply, normed_apply]
  refine Fin.sum_mul_add_congr fun s k hl => ?_
  have e0 : s.val * 512 + k.val = 512 * s.val + k.val := by omega
  exact congrArg₂ (· * ·) (congrArg₂ (· * ·) (rows_at m c s _ _ e0 rfl) (congrArg rs (funext fun l => rows_at m c s _ _ e0 rfl)))
    (hid_at m c s _ _ e0 rfl)

end Cert.InProjIdeal.Value

end
-- ==== Proof.InProjClaim.lean ====
/- The claims about the input projection and its norm, backward. -/
module

public import proofs.«01_k».proof.Defs
public import proofs.«01_k».proof.Proof.InProj
public import proofs.«01_k».proof.Proof.Gen.InProj.Frame
public import proofs.«01_k».proof.Proof.Gen.Pre_finite_inproj

@[expose] public section

set_option maxRecDepth 16384

noncomputable section

namespace Cert.Proof

open Idealize.ShloMosaic Idealize.SL.Sem
open Cert.Reals Cert.Rows
open Cert.InProjRefIdeal (nD τ sig defs main main_arg0 main_arg1 main_arg2 main_arg3 main_arg4 main_arg5 main_arg6 main_arg7 main_v45 main_v46)
open Cert.InProjRefIdeal.Value (drows back)

theorem inproj_frame : Cert.quiescent_InProj := fun m ρ _ => Cert.InProj.Gen.frame m ρ

theorem inproj_frame_ideal : Cert.quiescent_InProjIdeal := fun m ρ _ => Cert.InProjIdeal.Gen.frame m ρ

theorem inproj_frame_ideal_pre : Cert.quiescent_InProjIdeal_pre_finite_inproj := fun m ρ _ => Cert.InProjIdeal.Gen.frame m ρ

theorem inproj_frame_ref : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run m ρ)

theorem inproj_frame_ref_pre : Cert.quiescent_InProjRefIdeal_pre_finite_inproj := fun m ρ _ => inproj_frame_ref m ρ trivial

set_option maxHeartbeats 4000000 in
/-- The reference's run, its results named. -/
theorem inproj_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v45) = drows (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))
        ∧ r.2.mem (c.tc.loc main_v46) = colsum (mulf (normed (m (c.tc.loc main_arg5))) (back (m (c.tc.loc main_arg0)) (m (c.tc.loc main_arg1)) (m (c.tc.loc main_arg2)) (m (c.tc.loc main_arg3)) (m (c.tc.loc main_arg4))))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6)
        ∧ r.2.mem (c.tc.loc main_arg7) = m (c.tc.loc main_arg7) :=
  Cert.InProjRefIdeal.Value.run m ρ

open Cert.Pre_finite_inproj in
/-- What the precondition says: the arguments are arrays of reals. -/
theorem inproj_pre (a0 : FVec Ideal S8192x2048 .f32) (a1 : FVec Ideal S8192x512 .f32) (a2 : FVec Ideal S8192x1024 .f32) (a3 : FVec Ideal S8192x1024 .f32) (a4 : FVec Ideal S1x1024x4608 .f32) (a5 : FVec Ideal S8192x1024 .f32) (a6 : FVec Ideal S1x1024 .f32) (a7 : FVec Ideal S8192x1024 .f32)
    (h : Cert.Pre_finite_inproj.fn (F := Ideal) a0 a1 a2 a3 a4 a5 a6 a7 = fun _ => 1#1) :
    IsReal a0 ∧ IsReal a1 ∧ IsReal a2 ∧ IsReal a3 ∧ IsReal a4 ∧ IsReal a5 ∧ IsReal a6 ∧ IsReal a7 := by
  have h := congrFun h (fun k => k.elim0)
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨isReal_of_all _ _ _ _ _ _ _ h0, isReal_of_all _ _ _ _ _ _ _ h1, isReal_of_all _ _ _ _ _ _ _ h2, isReal_of_all _ _ _ _ _ _ _ h3, isReal_of_all _ _ _ _ _ _ _ h4, isReal_of_all _ _ _ _ _ _ _ h5, isReal_of_all _ _ _ _ _ _ _ h6, isReal_of_all _ _ _ _ _ _ _ h7⟩

set_option maxHeartbeats 1000000 in
theorem inproj_value : Cert.algebraic_InProjIdeal_InProjRefIdeal_pre_finite_inproj := by
  pair_intro
  · run_from Cert.InProjIdeal.Gen.run_main m g
  · run_from inproj_ref_run m' g'
    all_goals obtain ⟨h0, h1, h2, h3, h4, h5, h6, h7⟩ := inproj_pre _ _ _ _ _ _ _ _ (hpre c)
    · exact (Cert.InProjIdeal.Value.final8 m c h0 h1 h2 h3 h4 h5 h6).symm
    · exact (Cert.InProjIdeal.Value.final9 m c).symm

end Cert.Proof

end
-- ==== Proof.AttnMath.lean ====
/- One row of the attention over the memory: its weights and the gradient through them, and what the backward call computes. -/
module

public import proofs.«01_k».proof.AttnIdeal
public import proofs.«01_k».proof.Proof.Rows

@[expose] public section

set_option maxRecDepth 16384

noncomputable section

open Idealize.ShloMosaic Idealize.ShloMosaic.TcCoe Idealize.SL.Sem
open Cert.Reals

namespace Cert.AttnMath

open Cert.AttnIdeal

/-- The scale of the scores, one sixteenth. -/
abbrev scale : EReal := Ideal.ofBits .f32 0x3D800000#32

/-- Where the running maximum starts. -/
abbrev low : EReal := Ideal.ofBits .f32 0xFF800000#32

theorem scale_eq : scale = ((1 / 16 : ℝ) : EReal) := by
  simp [Ideal.ofBits, Ideal.ieee, -EReal.coe_mul]; norm_num

theorem low_eq : low = (⊥ : EReal) := by
  simp [Ideal.ofBits, Ideal.ieee]

/-- The greatest score. -/
def top (x : Fin 256 → EReal) : EReal := Finset.univ.fold max low x

/-- The exponentials of the scores less the greatest, -/
def ex (x : Fin 256 → EReal) (m : Fin 256) : EReal := Ideal.exp (x m - top x)

/-- … their sum, -/
def den (x : Fin 256 → EReal) : EReal := ∑ m, ex x m

/-- … the weights, -/
def wt (x : Fin 256 → EReal) (m : Fin 256) : EReal := Ideal.div (ex x m) (den x)

/-- … and the cotangent of the scores. -/
def dsc (x g : Fin 256 → EReal) (m : Fin 256) : EReal := wt x m * (g m - ∑ n, wt x n * g n) * scale

variable {x g : Fin 256 → EReal}

theorem low_top : max low (top x) = top x := by
  rw [low_eq]; exact max_eq_right bot_le

theorem top_num (hx : ∀ m, Num (x m)) : Num (top x) := by
  have e : top x = Finset.univ.sup x := by unfold top; rw [low_eq]; rfl
  obtain ⟨i, -, hi⟩ := Finset.exists_mem_eq_sup Finset.univ ⟨0, Finset.mem_univ 0⟩ x
  rw [e, hi]; exact hx i

theorem ex_pos (hx : ∀ m, Num (x m)) (m : Fin 256) : ∃ a : ℝ, 0 < a ∧ ex x m = a := by
  obtain ⟨a, ha⟩ := (hx m).sub (top_num hx)
  exact ⟨Real.exp a, Real.exp_pos a, by unfold ex; rw [ha]; rfl⟩

/-- The gradient through the weights, as the derivative of the quotient gives it. -/
theorem dsc_eq (hx : ∀ m, Num (x m)) (hg : ∀ m, Num (g m)) (m : Fin 256) :
    (Ideal.div (g m) (den x) + -∑ n, g n * Ideal.div 1 (den x * den x) * ex x n) * ex x m * scale = dsc x g m := by
  choose a ha he using ex_pos hx
  choose b hb using hg
  have hs : 0 < ∑ n, a n := Finset.sum_pos (fun n _ => ha n) ⟨0, Finset.mem_univ 0⟩
  have hd : den x = ((∑ n, a n : ℝ) : EReal) := by unfold den; simp only [he]; exact coe_sum _ _
  unfold dsc wt
  simp only [hd, he, hb, scale_eq]
  simp only [← EReal.coe_mul, ← EReal.coe_one, coe_div _ hs.ne', coe_div _ (mul_pos hs hs).ne', coe_sum, ← EReal.coe_neg, ← EReal.coe_sub, ← EReal.coe_add]
  refine congrArg _ ?_
  have h1 (S : ℝ) : ∑ n, b n * (1 / (S * S)) * a n = (1 / (S * S)) * ∑ n, b n * a n := by
    rw [Finset.mul_sum]; exact Finset.sum_congr rfl fun n _ => by ring
  have h2 (S : ℝ) : ∑ n, a n / S * b n = (1 / S) * ∑ n, b n * a n := by
    rw [Finset.mul_sum]; exact Finset.sum_congr rfl fun n _ => by ring
  rw [h1, h2]
  have h3 := hs.ne'
  field_simp
  ring

/-- The memory row an example's row sees, -/
def mrow (r : Fin 8192) (m : Fin 256) : Fin 512 := ⟨r.val / 4096 * 256 + m.val, by omega⟩

/-- … the row of an example, -/
def xrow (M : Fin 512) (s : Fin 4096) : Fin 8192 := ⟨M.val / 256 * 4096 + s.val, by omega⟩

/-- … the column of a head, -/
def hcol (j : Fin 1024) (e : Fin 256) : Fin 1024 := ⟨j.val / 256 * 256 + e.val, by omega⟩

/-- … and the place of a memory row in its example. -/
def mplace (M : Fin 512) : Fin 256 := ⟨M.val % 256, by omega⟩

variable (q : FVec Ideal S8192x1024 .f32) (k v : FVec Ideal S512x1024 .f32) (d : FVec Ideal S8192x1024 .f32) (w : FVec Ideal S1x1024x1024 .f32)

/-- The scores of a row, in the head column `j` lies in, -/
def score (r : Fin 8192) (j : Fin 1024) (m : Fin 256) : EReal := (∑ e : Fin 256, k (ix2 (mrow r m) (hcol j e)) * q (ix2 r (hcol j e))) * scale

/-- … the cotangent of the attended rows, -/
def datt (r : Fin 8192) (j : Fin 1024) : EReal := ∑ i : Fin 1024, d (ix2 r i) * w (ix3 0 j i)

/-- … the cotangent of the weights, -/
def dwt (r : Fin 8192) (j : Fin 1024) (m : Fin 256) : EReal := ∑ e : Fin 256, v (ix2 (mrow r m) (hcol j e)) * datt d w r (hcol j e)

/-- … the cotangent of the scores, -/
def dscore (r : Fin 8192) (j : Fin 1024) (m : Fin 256) : EReal := dsc (score q k r j) (dwt v d w r j) m

/-- … the gradient of the queries, -/
def dq : FVec Ideal S8192x1024 .bf16 := fun i => ∑ m : Fin 256, dscore q k v d w (i 0) (i 1) m * k (ix2 (mrow (i 0) m) (i 1))

/-- … of the keys, -/
def dk : FVec Ideal S512x1024 .f32 := fun i => ∑ s : Fin 4096, dscore q k v d w (xrow (i 0) s) (i 1) (mplace (i 0)) * q (ix2 (xrow (i 0) s) (i 1))

/-- … and of the values. -/
def dv : FVec Ideal S512x1024 .f32 := fun i => ∑ s : Fin 4096, wt (score q k (xrow (i 0) s) (i 1)) (mplace (i 0)) * datt d w (xrow (i 0) s) (i 1)

variable {q k v d w}

theorem score_num (hq : IsReal q) (hk : IsReal k) (r : Fin 8192) (j : Fin 1024) (m : Fin 256) : Num (score q k r j m) := by
  unfold score; rw [scale_eq]
  exact (Num.sum _ _ fun e => (hk _).mul (hq _)).mul (Num.coe _)

theorem dwt_num (hv : IsReal v) (hd : IsReal d) (hw : IsReal w) (r : Fin 8192) (j : Fin 1024) (m : Fin 256) : Num (dwt v d w r j m) :=
  Num.sum _ _ fun e => (hv _).mul (Num.sum _ _ fun i => (hd _).mul (hw _))

end Cert.AttnMath

end
-- ==== Proof.Attn.lean ====
/- The attention's backward call: what one grid point computes for each head. -/
module

public import proofs.«01_k».proof.Proof.AttnMath
public import proofs.«01_k».proof.Proof.Gen.AttnIdeal.Value

@[expose] public section

set_option maxRecDepth 16384

noncomputable section

open Idealize.ShloMosaic Idealize.ShloMosaic.TcCoe Idealize.SL.Sem
open Idealize.ShloMosaic.Pipeline (Dat)
open Cert.Reals Cert.AttnMath

namespace Cert.AttnIdeal.Gen

open Cert.AttnIdeal

/-- The scores of one row of a head's block of queries against a head's block of keys, -/
def scoreB (q k : Vec Ideal S256x256 .bf16) (r m : Fin 256) : EReal := (∑ e : Fin 256, (k (ix2 m e) : EReal) * q (ix2 r e)) * scale

/-- … the cotangent of its weights, -/
def dwtB (v a : Vec Ideal S256x256 .bf16) (r m : Fin 256) : EReal := ∑ e : Fin 256, (v (ix2 m e) : EReal) * a (ix2 r e)

/-- … its weights, -/
def wtB (q k : Vec Ideal S256x256 .bf16) (y : S256x256.Idx) : EReal := wt (scoreB q k (y 1)) (y 0)

/-- … and the cotangent of its scores. -/
def dsB (q k v a : Vec Ideal S256x256 .bf16) (y : S256x256.Idx) : EReal := dsc (scoreB q k (y 1)) (dwtB v a (y 1)) (y 0)

/-- A head's columns of a block of rows. -/
def part (h : Fin 4) (A : FVec Ideal S256x1024 .bf16) : FVec Ideal S256x256 .bf16 := fun y => A (ix2 (y 0) ⟨256 * h.val + (y 1).val, by have : (y 1).val < 256 := (y 1).isLt; omega⟩)

variable (q k v a : Vec Ideal S256x256 .bf16) (A : FVec Ideal S256x1024 .bf16) (p : Vec Ideal S256x256 .f32) (y : S256x256.Idx)

theorem part_0 (d : Vec Ideal S256x1024 .bf16) (w : Vec Ideal S1024x1024 .bf16) : k0_pay9 (F := Ideal) d w = part 0 (k0_pay5 d w) := by
  funext y; pointwise [k0_pay9, part]
theorem part_1 : k0_pay20 (F := Ideal) A = part 1 A := by
  funext y; pointwise [k0_pay20, part]
theorem part_2 : k0_pay28 (F := Ideal) A = part 2 A := by
  funext y; pointwise [k0_pay28, part]
theorem part_3 : k0_pay36 (F := Ideal) A = part 3 A := by
  funext y; pointwise [k0_pay36, part]

theorem same_17 : k0_pay17 (F := Ideal) q = q := by
  funext y; pointwise [k0_pay17]
theorem same_18 : k0_pay18 (F := Ideal) k = k := by
  funext y; pointwise [k0_pay18]

/-! The weights and the cotangents of the scores, head by head. -/

theorem wt_0 : k0_pay12 (F := Ideal) (k0_pay10 q k) (k0_pay11 q k) y = wtB q k y := by
  pointwise [k0_pay12, k0_pay10, k0_pay11, k0_pay6, k0_pay7, wtB, wt, den, ex, top, scoreB]
theorem wt_1 : k0_pay21 (F := Ideal) (k0_pay17 q) (k0_pay18 k) (constant S256x256 .f32 0x00000000#32) y = wtB q k y := by
  pointwise [k0_pay21, k0_pay17, k0_pay18, wtB, wt, den, ex, top, scoreB]
theorem wt_2 : k0_pay29 (F := Ideal) q k y = wtB q k y := by
  pointwise [k0_pay29, k0_pay26, k0_pay27, wtB, wt, den, ex, top, scoreB]
theorem wt_3 : k0_pay37 (F := Ideal) q k y = wtB q k y := by
  pointwise [k0_pay37, k0_pay34, k0_pay35, wtB, wt, den, ex, top, scoreB]

theorem ds_0 : k0_pay13 (F := Ideal) (k0_pay8 v) a (k0_pay10 q k) (k0_pay11 q k) y = dsB q k v a y := by
  pointwise [k0_pay13, k0_pay8, wt_0, wtB, dsB, dsc, dwtB]
theorem ds_1 : k0_pay22 (F := Ideal) (k0_pay17 q) (k0_pay18 k) (k0_pay19 v) a (constant S256x256 .f32 0x00000000#32) y = dsB q k v a y := by
  pointwise [k0_pay22, k0_pay19, wt_1, wtB, dsB, dsc, dwtB]
theorem ds_1' : k0_pay22 (F := Ideal) q k (k0_pay19 v) a (constant S256x256 .f32 0x00000000#32) y = dsB q k v a y := by
  have h := ds_1 q k v a y
  rwa [same_17, same_18] at h
theorem ds_2 : k0_pay30 (F := Ideal) A q k v y = dsB q k v (part 2 A) y := by
  rw [← part_2]
  pointwise [k0_pay30, wt_2, wtB, dsB, dsc, dwtB]
theorem ds_3 : k0_pay38 (F := Ideal) A q k v y = dsB q k v (part 3 A) y := by
  rw [← part_3]
  pointwise [k0_pay38, wt_3, wtB, dsB, dsc, dwtB]

/-! What a head adds to each result: the queries' block, and one point's share of the keys' and the values'. -/

/-- The queries' gradient, -/
def dqB (q k v a : Vec Ideal S256x256 .bf16) (y : S256x256.Idx) : EReal := ∑ n : Fin 256, dsB q k v a (ix2 n (y 0)) * k (ix2 n (y 1))

/-- … the keys', -/
def dkB (q k v a : Vec Ideal S256x256 .bf16) (y : S256x256.Idx) : EReal := ∑ r : Fin 256, dsB q k v a (ix2 (y 0) r) * q (ix2 r (y 1))

/-- … and the values'. -/
def dvB (q k a : Vec Ideal S256x256 .bf16) (y : S256x256.Idx) : EReal := ∑ r : Fin 256, wtB q k (ix2 (y 0) r) * a (ix2 r (y 1))

theorem dq_0 : k0_pay14 (F := Ideal) (k0_pay7 k) (k0_pay8 v) a (k0_pay10 q k) (k0_pay11 q k) y = dqB q k v a y := by
  pointwise [k0_pay14, k0_pay7, ds_0, dqB]
theorem dq_1 : k0_pay23 (F := Ideal) (k0_pay17 q) (k0_pay18 k) (k0_pay19 v) a (constant S256x256 .f32 0x00000000#32) y = dqB q k v a y := by
  rw [same_17, same_18]
  pointwise [k0_pay23, ds_1', dqB]
theorem dq_2 : k0_pay31 (F := Ideal) A q k v y = dqB q k v (part 2 A) y := by
  pointwise [k0_pay31, k0_pay27, ds_2, dqB]
theorem dq_3 : k0_pay39 (F := Ideal) A q k v y = dqB q k v (part 3 A) y := by
  pointwise [k0_pay39, k0_pay35, ds_3, dqB]

theorem dk_0 : k0_pay15 (F := Ideal) (k0_pay6 q) (k0_pay8 v) a (k0_pay10 q k) (k0_pay11 q k) p y = (p y : EReal) + dkB q k v a y := by
  pointwise [k0_pay15, k0_pay6, ds_0, dkB]
theorem dk_1 : k0_pay24 (F := Ideal) (k0_pay17 q) (k0_pay18 k) (k0_pay19 v) a (constant S256x256 .f32 0x00000000#32) p y = (p y : EReal) + dkB q k v a y := by
  rw [same_17, same_18]
  pointwise [k0_pay24, ds_1', dkB]
theorem dk_2 : k0_pay32 (F := Ideal) A q k v p y = (p y : EReal) + dkB q k v (part 2 A) y := by
  pointwise [k0_pay32, k0_pay26, ds_2, dkB]
theorem dk_3 : k0_pay1 (F := Ideal) (k0_pay34 q) (k0_pay38 A q k v) p y = (p y : EReal) + dkB q k v (part 3 A) y := by
  pointwise [k0_pay1, k0_pay34, ds_3, dkB]

theorem dv_0 : k0_pay16 (F := Ideal) a (k0_pay10 q k) (k0_pay11 q k) p y = (p y : EReal) + dvB q k a y := by
  pointwise [k0_pay16, wt_0, dvB]
theorem dv_1 : k0_pay25 (F := Ideal) (k0_pay17 q) (k0_pay18 k) a (constant S256x256 .f32 0x00000000#32) p y = (p y : EReal) + dvB q k a y := by
  pointwise [k0_pay25, wt_1, dvB]
theorem dv_2 : k0_pay33 (F := Ideal) a (k0_pay29 q k) p y = (p y : EReal) + dvB q k a y := by
  pointwise [k0_pay33, wt_2, dvB]
theorem dv_3 : k0_pay2 (F := Ideal) a (k0_pay37 q k) p y = (p y : EReal) + dvB q k a y := by
  pointwise [k0_pay2, wt_3, dvB]

theorem zeroK (i : S256x1024.Idx) : (k0_pay3 (F := Ideal) i : EReal) = 0 := by
  pointwise [k0_pay3]

theorem zeroV (i : S256x1024.Idx) : (k0_pay4 (F := Ideal) i : EReal) = 0 := by
  pointwise [k0_pay4]

theorem datt_apply (d : Vec Ideal S256x1024 .bf16) (w : Vec Ideal S1024x1024 .bf16) (i : S256x1024.Idx) :
    k0_pay5 (F := Ideal) d w i = ∑ n : Fin 1024, (d (ix2 (i 0) n) : EReal) * w (ix2 (i 1) n) := by
  pointwise [k0_pay5]

/-- A head's columns of a block, read. -/
theorem ld_part {e : EltTy} (o : ℕ) (inb : ∀ i : Fin 2, (![0, o] : Fin 2 → ℕ) i + (![256, 256] : Fin 2 → ℕ) i ≤ S256x1024.size i) (Y : Vec Ideal S256x1024 e)
    (x : S256x256.Idx) (j : S256x1024.Idx) (h0 : (j 0).val = (x 0).val) (h1 : (j 1).val = o + (x 1).val) :
    View.ld Y (Rect.unit ![0, o] ![256, 256] inb) x = Y j := by
  refine congrArg Y (funext fun a => Fin.ext ?_)
  match a with
  | ⟨0, _⟩ => show 0 + 1 * (x 0).val = (j 0).val; omega
  | ⟨1, _⟩ => show o + 1 * (x 1).val = (j 1).val; omega

end Cert.AttnIdeal.Gen

end
-- ==== Proof.AttnGrad.lean ====
/- The attention's backward call: what its result arrays hold. -/
module

public import proofs.«01_k».proof.Proof.Attn
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Reals Cert.AttnMath

namespace Cert.AttnIdeal.Gen

open Cert.AttnIdeal

variable (m : (ℓ : Loc nD τ sig) → Buf (Elt Ideal) ℓ) (ρ : Dev nD → PrngReg) (c : Dev nD)

/-- The arguments: queries, keys, values, cotangent and output weights. -/
abbrev kQ : FVec Ideal S8192x1024 .f32 := m ((c : Thread nD τ).loc main_arg0)
abbrev kK : FVec Ideal S512x1024 .f32 := m ((c : Thread nD τ).loc main_arg1)
abbrev kV : FVec Ideal S512x1024 .f32 := m ((c : Thread nD τ).loc main_arg2)
abbrev kD : FVec Ideal S8192x1024 .f32 := m ((c : Thread nD τ).loc main_arg3)
abbrev kW : FVec Ideal S1x1024x1024 .f32 := m ((c : Thread nD τ).loc main_arg4)

/-- Every window's block at every grid point. -/
theorem idx : ∀ t : Fin cfg0.N, win0_0.index t = ![t.val, 0] ∧ win0_1.index t = ![t.val / 16, 0] ∧ win0_2.index t = ![t.val / 16, 0]
    ∧ win0_3.index t = ![t.val, 0] ∧ win0_4.index t = ![0, 0] ∧ win0_5.index t = ![t.val, 0] ∧ win0_6.index t = ![t.val / 16, 0]
    ∧ win0_7.index t = ![t.val / 16, 0] := (by decide +kernel : ∀ t : Fin grid0.N, _)

theorem points (t : Fin cfg0.N) : t.val < 32 := lt_of_lt_of_eq t.isLt (by decide +kernel : cfg0.N = 32)

/-- The row of the whole array a block's row is, -/
def row (t : Fin cfg0.N) (r : Fin 256) : Fin 8192 := ⟨256 * t.val + r.val, by have := points t; omega⟩

/-- … the memory row, -/
def mem (t : Fin cfg0.N) (n : Fin 256) : Fin 512 := ⟨t.val / 16 * 256 + n.val, by have := points t; omega⟩

/-- … and the column of a head. -/
def col (h : Fin 4) (e : Fin 256) : Fin 1024 := ⟨256 * h.val + e.val, by omega⟩

theorem mrow_row (t : Fin cfg0.N) (r n : Fin 256) : mrow (row t r) n = mem t n := Fin.ext (by unfold mrow row mem; simp only; omega)

theorem hcol_col (h : Fin 4) (e f : Fin 256) : hcol (col h e) f = col h f := Fin.ext (by unfold hcol col; simp only; omega)

theorem q_at (t : Fin cfg0.N) (r : Fin 256) (j : Fin 1024) : ((iblk m c 0 t : Vec Ideal S256x1024 .bf16) (ix2 r j) : EReal) = kQ m c (ix2 (row t r) j) := by
  unfold row; blk_point [iblk, V, idx t] <;> omega

theorem k_at (t : Fin cfg0.N) (n : Fin 256) (j : Fin 1024) : ((iblk m c 1 t : Vec Ideal S256x1024 .bf16) (ix2 n j) : EReal) = kK m c (ix2 (mem t n) j) := by
  unfold mem; blk_point [iblk, V, idx t] <;> omega

theorem v_at (t : Fin cfg0.N) (n : Fin 256) (j : Fin 1024) : ((iblk m c 2 t : Vec Ideal S256x1024 .bf16) (ix2 n j) : EReal) = kV m c (ix2 (mem t n) j) := by
  unfold mem; blk_point [iblk, V, idx t] <;> omega

theorem d_at (t : Fin cfg0.N) (r : Fin 256) (j : Fin 1024) : ((iblk m c 3 t : Vec Ideal S256x1024 .bf16) (ix2 r j) : EReal) = kD m c (ix2 (row t r) j) := by
  unfold row; blk_point [iblk, V, idx t] <;> omega

/-- The weights' layout, read at one place, -/
theorem flat_weight (A : FVec Ideal S1x1024x1024 .f32) (j k : Fin 1024) :
    (truncf (F := Ideal) .bf16 (shapeCast S1024x1024 A shapeCasts_S1x1024x1024_S1024x1024) bitsLt_bf16_f32 (ix2 j k) : EReal) = A (ix3 0 j k) := by
  pointwise []

theorem entry4 : V m c main_v5 = truncf (F := Ideal) .bf16 (shapeCast S1024x1024 (kW m c) shapeCasts_S1x1024x1024_S1024x1024) bitsLt_bf16_f32 := by
  entry_read; try rfl

theorem w_at (t : Fin cfg0.N) (j k : Fin 1024) : ((iblk m c 4 t : Vec Ideal S1024x1024 .bf16) (ix2 j k) : EReal) = kW m c (ix3 0 j k) := by
  blk_simp [iblk]; rw [entry4]
  have e : (win0_4.blk t).view.emb (ix2 j k) = ix2 j k := by
    refine (eq_ix2 _).trans ?_
    congr 1 <;> exact Fin.ext (by blk_simp [idx t])
  exact (congrArg _ e).trans (flat_weight _ j k)

/-- The cotangent of the attended rows, as a point computes it. -/
theorem datt_at (t : Fin cfg0.N) (r : Fin 256) (j : Fin 1024) :
    (k0_pay5 (F := Ideal) (iblk m c 3 t) (iblk m c 4 t) (ix2 r j) : EReal) = datt (kD m c) (kW m c) (row t r) j :=
  (datt_apply _ _ _).trans (Finset.sum_congr rfl fun k _ => congrArg₂ (fun a b : EReal => a * b) (d_at m c t r k) (w_at m c t j k))

/-- What the blocks of one head hold at a point. -/
structure Head (t : Fin cfg0.N) (h : Fin 4) (q k v a : Vec Ideal S256x256 .bf16) : Prop where
  q : ∀ r e : Fin 256, (q (ix2 r e) : EReal) = kQ m c (ix2 (row t r) (col h e))
  k : ∀ n e : Fin 256, (k (ix2 n e) : EReal) = kK m c (ix2 (mem t n) (col h e))
  v : ∀ n e : Fin 256, (v (ix2 n e) : EReal) = kV m c (ix2 (mem t n) (col h e))
  a : ∀ r e : Fin 256, (a (ix2 r e) : EReal) = datt (kD m c) (kW m c) (row t r) (col h e)

theorem head_0 (t : Fin cfg0.N) : Head m c t 0 (View.ld (iblk m c 0 t) (Rect.unit ![0, 0] ![256, 256] inb_S256x1024_S256x256_0_0)) (View.ld (iblk m c 1 t) (Rect.unit ![0, 0] ![256, 256] inb_S256x1024_S256x256_0_0)) (View.ld (iblk m c 2 t) (Rect.unit ![0, 0] ![256, 256] inb_S256x1024_S256x256_0_0)) (part 0 (k0_pay5 (F := Ideal) (iblk m c 3 t) (iblk m c 4 t))) where
  q r e := (ld_part 0 _ _ _ (ix2 r (col 0 e)) rfl rfl).trans (q_at m c t r _)
  k n e := (ld_part 0 _ _ _ (ix2 n (col 0 e)) rfl rfl).trans (k_at m c t n _)
  v n e := (ld_part 0 _ _ _ (ix2 n (col 0 e)) rfl rfl).trans (v_at m c t n _)
  a r e := datt_at m c t r _

theorem head_1 (t : Fin cfg0.N) : Head m c t 1 (View.ld (iblk m c 0 t) (Rect.unit ![0, 256] ![256, 256] inb_S256x1024_S256x256_0_256)) (View.ld (iblk m c 1 t) (Rect.unit ![0, 256] ![256, 256] inb_S256x1024_S256x256_0_256)) (View.ld (iblk m c 2 t) (Rect.unit ![0, 256] ![256, 256] inb_S256x1024_S256x256_0_256)) (part 1 (k0_pay5 (F := Ideal) (iblk m c 3 t) (iblk m c 4 t))) where
  q r e := (ld_part 256 _ _ _ (ix2 r (col 1 e)) rfl rfl).trans (q_at m c t r _)
  k n e := (ld_part 256 _ _ _ (ix2 n (col 1 e)) rfl rfl).trans (k_at m c t n _)
  v n e := (ld_part 256 _ _ _ (ix2 n (col 1 e)) rfl rfl).trans (v_at m c t n _)
  a r e := datt_at m c t r _

theorem head_2 (t : Fin cfg0.N) : Head m c t 2 (View.ld (iblk m c 0 t) (Rect.unit ![0, 512] ![256, 256] inb_S256x1024_S256x256_0_512)) (View.ld (iblk m c 1 t) (Rect.unit ![0, 512] ![256, 256] inb_S256x1024_S256x256_0_512)) (View.ld (iblk m c 2 t) (Rect.unit ![0, 512] ![256, 256] inb_S256x1024_S256x256_0_512)) (part 2 (k0_pay5 (F := Ideal) (iblk m c 3 t) (iblk m c 4 t))) where
  q r e := (ld_part 512 _ _ _ (ix2 r (col 2 e)) rfl rfl).trans (q_at m c t r _)
  k n e := (ld_part 512 _ _ _ (ix2 n (col 2 e)) rfl rfl).trans (k_at m c t n _)
  v n e := (ld_part 512 _ _ _ (ix2 n (col 2 e)) rfl rfl).trans (v_at m c t n _)
  a r e := datt_at m c t r _

theorem head_3 (t : Fin cfg0.N) : Head m c t 3 (View.ld (iblk m c 0 t) (Rect.unit ![0, 768] ![256, 256] inb_S256x1024_S256x256_0_768)) (View.ld (iblk m c 1 t) (Rect.unit ![0, 768] ![256, 256] inb_S256x1024_S256x256_0_768)) (View.ld (iblk m c 2 t) (Rect.unit ![0, 768] ![256, 256] inb_S256x1024_S256x256_0_768)) (part 3 (k0_pay5 (F := Ideal) (iblk m c 3 t) (iblk m c 4 t))) where
  q r e := (ld_part 768 _ _ _ (ix2 r (col 3 e)) rfl rfl).trans (q_at m c t r _)
  k n e := (ld_part 768 _ _ _ (ix2 n (col 3 e)) rfl rfl).trans (k_at m c t n _)
  v n e := (ld_part 768 _ _ _ (ix2 n (col 3 e)) rfl rfl).trans (v_at m c t n _)
  a r e := datt_at m c t r _

/-- One point's share of the keys' gradient, -/
def shareK (t : Fin cfg0.N) (y : S256x1024.Idx) : EReal :=
  ∑ r : Fin 256, dscore (kQ m c) (kK m c) (kV m c) (kD m c) (kW m c) (row t r) (y 1) (y 0) * kQ m c (ix2 (row t r) (y 1))

/-- … and of the values'. -/
def shareV (t : Fin cfg0.N) (y : S256x1024.Idx) : EReal :=
  ∑ r : Fin 256, wt (score (kQ m c) (kK m c) (row t r) (y 1)) (y 0) * datt (kD m c) (kW m c) (row t r) (y 1)

namespace Head

variable {m c} {t : Fin cfg0.N} {h : Fin 4} {q k v a : Vec Ideal S256x256 .bf16} (H : Head m c t h q k v a)
include H

theorem score_at (r e : Fin 256) : scoreB q k r = score (kQ m c) (kK m c) (row t r) (col h e) := by
  funext n
  refine congrArg (fun s : EReal => s * scale) (Finset.sum_congr rfl fun f _ => congrArg₂ (fun a b : EReal => a * b) ?_ ?_)
  · rw [hcol_col, mrow_row]; exact H.k n f
  · rw [hcol_col]; exact H.q r f

theorem dwt_at (r e : Fin 256) : dwtB v a r = dwt (kV m c) (kD m c) (kW m c) (row t r) (col h e) := by
  funext n
  refine Finset.sum_congr rfl fun f _ => congrArg₂ (fun a b : EReal => a * b) ?_ ?_
  · rw [hcol_col, mrow_row]; exact H.v n f
  · rw [hcol_col]; exact H.a r f

theorem ds_at (n r e : Fin 256) : dsB q k v a (ix2 n r) = dscore (kQ m c) (kK m c) (kV m c) (kD m c) (kW m c) (row t r) (col h e) n :=
  congrArg₂ (fun x g => dsc x g n) (H.score_at r e) (H.dwt_at r e)

theorem wt_at (n r e : Fin 256) : wtB q k (ix2 n r) = wt (score (kQ m c) (kK m c) (row t r) (col h e)) n :=
  congrArg (fun x => wt x n) (H.score_at r e)

theorem dq_at (x : S256x256.Idx) (R : Fin 8192) (j : Fin 1024) (h0 : R.val = 256 * t.val + (x 0).val) (h1 : j.val = 256 * h.val + (x 1).val) :
    dqB q k v a x = dq (kQ m c) (kK m c) (kV m c) (kD m c) (kW m c) (ix2 R j) := by
  obtain ⟨r, e, rfl⟩ : ∃ (r e : Fin 256), x = ix2 r e := ⟨x 0, x 1, eq_ix2 x⟩
  obtain rfl : R = row t r := Fin.ext h0
  obtain rfl : j = col h e := Fin.ext h1
  refine Finset.sum_congr rfl fun n _ => congrArg₂ (fun a b : EReal => a * b) (H.ds_at n r e) ?_
  refine (H.k n e).trans (congrArg (fun M => kK m c (ix2 M (col h e))) (mrow_row t r n).symm)

theorem dk_at (x : S256x256.Idx) (y : S256x1024.Idx) (h0 : (y 0).val = (x 0).val) (h1 : (y 1).val = 256 * h.val + (x 1).val) : dkB q k v a x = shareK m c t y := by
  obtain ⟨n, e, rfl⟩ : ∃ (n e : Fin 256), x = ix2 n e := ⟨x 0, x 1, eq_ix2 x⟩
  obtain rfl : y = ix2 n (col h e) := (eq_ix2 y).trans (congrArg₂ ix2 (Fin.ext h0) (Fin.ext h1))
  exact Finset.sum_congr rfl fun r _ => congrArg₂ (fun a b : EReal => a * b) (H.ds_at n r e) (H.q r e)

theorem dv_at (x : S256x256.Idx) (y : S256x1024.Idx) (h0 : (y 0).val = (x 0).val) (h1 : (y 1).val = 256 * h.val + (x 1).val) : dvB q k a x = shareV m c t y := by
  obtain ⟨n, e, rfl⟩ : ∃ (n e : Fin 256), x = ix2 n e := ⟨x 0, x 1, eq_ix2 x⟩
  obtain rfl : y = ix2 n (col h e) := (eq_ix2 y).trans (congrArg₂ ix2 (Fin.ext h0) (Fin.ext h1))
  exact Finset.sum_congr rfl fun r _ => congrArg₂ (fun a b : EReal => a * b) (H.wt_at n r e) (H.a r e)

end Head

/-- The queries' gradient. -/
theorem dq_arr : (dats m 0 c).arrAt 5 (cfgs 0).N = dq (kQ m c) (kK m c) (kV m c) (kD m c) (kW m c) := by
  refine (dats m 0 c).arrAt_eq_of_covers 5 _ (by decide +kernel) fun t hf y => ?_
  blk_simp; rw [after0_5]
  by_cases h : t.val % 16 = 0
  · rw [outsAt0_A m c t h]; frame_out; canon_tiles x hx
    all_goals refine Eq.trans ?_ (congrArg _ (eq_ix2 _)).symm
    · exact (dq_3 _ _ _ _ x).trans ((head_3 m c t).dq_at x _ _ (by blk_simp [idx t] <;> omega) (by blk_simp [idx t] <;> omega))
    · exact (dq_2 _ _ _ _ x).trans ((head_2 m c t).dq_at x _ _ (by blk_simp [idx t] <;> omega) (by blk_simp [idx t] <;> omega))
    · rw [part_1]; exact (dq_1 _ _ _ _ x).trans ((head_1 m c t).dq_at x _ _ (by blk_simp [idx t] <;> omega) (by blk_simp [idx t] <;> omega))
    · rw [part_0]; exact (dq_0 _ _ _ _ x).trans ((head_0 m c t).dq_at x _ _ (by blk_simp [idx t] <;> omega) (by blk_simp [idx t] <;> omega))
  · rw [outsAt0_B m c t h]; frame_out; canon_tiles x hx
    all_goals refine Eq.trans ?_ (congrArg _ (eq_ix2 _)).symm
    · exact (dq_3 _ _ _ _ x).trans ((head_3 m c t).dq_at x _ _ (by blk_simp [idx t] <;> omega) (by blk_simp [idx t] <;> omega))
    · exact (dq_2 _ _ _ _ x).trans ((head_2 m c t).dq_at x _ _ (by blk_simp [idx t] <;> omega) (by blk_simp [idx t] <;> omega))
    · rw [part_1]; exact (dq_1 _ _ _ _ x).trans ((head_1 m c t).dq_at x _ _ (by blk_simp [idx t] <;> omega) (by blk_simp [idx t] <;> omega))
    · rw [part_0]; exact (dq_0 _ _ _ _ x).trans ((head_0 m c t).dq_at x _ _ (by blk_simp [idx t] <;> omega) (by blk_simp [idx t] <;> omega))

theorem dk_reset (t : Fin cfg0.N) (h : t.val % 16 = 0) (j : S256x1024.Idx) : ((outsAt0 m c t.val t.isLt).2.1 j : EReal) = 0 + shareK m c t j := by
  rw [outsAt0_A m c t h]; frame_open
  simp (disch := decide) only [↓ View.readCov_skip, ↓ View.readCov_cons_toLoadRect, ↓ View.readCov_fill]
  frame_out
  refine View.canon_append_of_piecesOf (Val := Elt Ideal) (e := .f32) (s := S256x1024) (fun j => (0 + shareK m c t j : EReal)) [_] [_, _, _, _] ⟨?_, ?_, ?_, ?_, trivial⟩ j ?_
  · intro x; exact (dk_3 _ _ _ _ _ x).trans (congrArg₂ (fun a b : EReal => a + b) (zeroK _) ((head_3 m c t).dk_at x _ (by show 0 + 1 * (x 0).val = (x 0).val; omega) (by show 768 + 1 * (x 1).val = 768 + (x 1).val; omega)))
  · intro x; exact (dk_2 _ _ _ _ _ x).trans (congrArg₂ (fun a b : EReal => a + b) (zeroK _) ((head_2 m c t).dk_at x _ (by show 0 + 1 * (x 0).val = (x 0).val; omega) (by show 512 + 1 * (x 1).val = 512 + (x 1).val; omega)))
  · intro x; rw [part_1]; exact (dk_1 _ _ _ _ _ x).trans (congrArg₂ (fun a b : EReal => a + b) (zeroK _) ((head_1 m c t).dk_at x _ (by show 0 + 1 * (x 0).val = (x 0).val; omega) (by show 256 + 1 * (x 1).val = 256 + (x 1).val; omega)))
  · intro x; rw [part_0]; exact (dk_0 _ _ _ _ _ x).trans (congrArg₂ (fun a b : EReal => a + b) (zeroK _) ((head_0 m c t).dk_at x _ (by show 0 + 1 * (x 0).val = (x 0).val; omega) (by show 0 + 1 * (x 1).val = 0 + (x 1).val; omega)))
  · exact View.cover_of_tiledL _ ![256, 256] rfl j

theorem dk_step (t : Fin cfg0.N) (h : ¬t.val % 16 = 0) (j : S256x1024.Idx) : ((outsAt0 m c t.val t.isLt).2.1 j : EReal)
    = (outsAt0 m c (t.val - 1) (lt_of_le_of_lt (Nat.sub_le _ _) t.isLt)).2.1 j + shareK m c t j := by
  rw [outsAt0_B m c t h]; frame_out
  canon_tiles x hx
  · exact (dk_3 _ _ _ _ _ x).trans (congrArg₂ (fun a b : EReal => a + b) (ld_part 768 _ _ x _ hx0 hx1) ((head_3 m c t).dk_at x _ hx0 hx1))
  · exact (dk_2 _ _ _ _ _ x).trans (congrArg₂ (fun a b : EReal => a + b) (ld_part 512 _ _ x _ hx0 hx1) ((head_2 m c t).dk_at x _ hx0 hx1))
  · rw [part_1]; exact (dk_1 _ _ _ _ _ x).trans (congrArg₂ (fun a b : EReal => a + b) (ld_part 256 _ _ x _ hx0 hx1) ((head_1 m c t).dk_at x _ hx0 hx1))
  · rw [part_0]; exact (dk_0 _ _ _ _ _ x).trans (congrArg₂ (fun a b : EReal => a + b) (ld_part 0 _ _ x _ hx0 (by omega)) ((head_0 m c t).dk_at x _ hx0 (by omega)))

/-- The keys' gradient. -/
theorem dk_arr : (dats m 0 c).arrAt 6 (cfgs 0).N = dk (kQ m c) (kK m c) (kV m c) (kD m c) (kW m c) := by
  refine (dats m 0 c).arrAt_eq_of_covers 6 _ (by decide +kernel) fun t hf y => ?_
  blk_simp; rw [after0_6]
  rw [Pipeline.eq_sum_fin_of_reset_step_apply_of_flush (fun n h => (outsAt0 m c n h).2.1) 16 (fun _ => 0) (fun t y => shareK m c t y)
    (fun t h j => dk_reset m c t h j) (fun t h j => dk_step m c t h j) t ((flush0_6 t).mp hf) _, zero_add]
  have ht := points t
  obtain ⟨n, j, rfl⟩ : ∃ (n : Fin 256) (j : Fin 1024), y = ix2 n j := ⟨y 0, y 1, eq_ix2 y⟩
  have e : (win0_6.blk t).view.emb (ix2 n j) = ix2 (mem t n) j := by
    refine (eq_ix2 _).trans (congrArg₂ ix2 (Fin.ext ?_) (Fin.ext ?_))
    · unfold mem; blk_simp [idx t] <;> omega
    · blk_simp [idx t]
  refine Eq.trans ?_ (congrArg (dk _ _ _ _ _) e).symm
  have e2 : mplace (mem t n) = n := Fin.ext (by unfold mplace mem; simp only; omega)
  show (_ : EReal) = ∑ s : Fin 4096, dscore (kQ m c) (kK m c) (kV m c) (kD m c) (kW m c) (xrow (mem t n) s) j (mplace (mem t n)) * kQ m c (ix2 (xrow (mem t n) s) j)
  rw [e2]
  refine Fin.sum_mul_add_congr fun s r hl => ?_
  have e1 (hp : 16 * (t.val / 16) + s.val < cfg0.N) : row ⟨16 * (t.val / 16) + s.val, hp⟩ r = xrow (mem t n) ⟨s.val * 256 + r.val, hl⟩ := Fin.ext (by unfold row xrow mem; simp only; omega)
  show (dscore (kQ m c) (kK m c) (kV m c) (kD m c) (kW m c) (row ⟨16 * (t.val / 16) + s.val, _⟩ r) j n * kQ m c (ix2 (row ⟨16 * (t.val / 16) + s.val, _⟩ r) j) : EReal) = _
  rw [e1]

theorem dv_reset (t : Fin cfg0.N) (h : t.val % 16 = 0) (j : S256x1024.Idx) : ((outsAt0 m c t.val t.isLt).2.2 j : EReal) = 0 + shareV m c t j := by
  rw [outsAt0_A m c t h]; frame_open
  simp (disch := decide) only [↓ View.readCov_skip, ↓ View.readCov_cons_toLoadRect, ↓ View.readCov_fill]
  frame_out
  refine View.canon_append_of_piecesOf (Val := Elt Ideal) (e := .f32) (s := S256x1024) (fun j => (0 + shareV m c t j : EReal)) [_] [_, _, _, _] ⟨?_, ?_, ?_, ?_, trivial⟩ j ?_
  · intro x; rw [part_3]; exact (dv_3 _ _ _ _ x).trans (congrArg₂ (fun a b : EReal => a + b) (zeroV _) ((head_3 m c t).dv_at x _ (by show 0 + 1 * (x 0).val = (x 0).val; omega) (by show 768 + 1 * (x 1).val = 768 + (x 1).val; omega)))
  · intro x; rw [part_2]; exact (dv_2 _ _ _ _ x).trans (congrArg₂ (fun a b : EReal => a + b) (zeroV _) ((head_2 m c t).dv_at x _ (by show 0 + 1 * (x 0).val = (x 0).val; omega) (by show 512 + 1 * (x 1).val = 512 + (x 1).val; omega)))
  · intro x; rw [part_1]; exact (dv_1 _ _ _ _ x).trans (congrArg₂ (fun a b : EReal => a + b) (zeroV _) ((head_1 m c t).dv_at x _ (by show 0 + 1 * (x 0).val = (x 0).val; omega) (by show 256 + 1 * (x 1).val = 256 + (x 1).val; omega)))
  · intro x; rw [part_0]; exact (dv_0 _ _ _ _ x).trans (congrArg₂ (fun a b : EReal => a + b) (zeroV _) ((head_0 m c t).dv_at x _ (by show 0 + 1 * (x 0).val = (x 0).val; omega) (by show 0 + 1 * (x 1).val = 0 + (x 1).val; omega)))
  · exact View.cover_of_tiledL _ ![256, 256] rfl j

theorem dv_step (t : Fin cfg0.N) (h : ¬t.val % 16 = 0) (j : S256x1024.Idx) : ((outsAt0 m c t.val t.isLt).2.2 j : EReal)
    = (outsAt0 m c (t.val - 1) (lt_of_le_of_lt (Nat.sub_le _ _) t.isLt)).2.2 j + shareV m c t j := by
  rw [outsAt0_B m c t h]; frame_out
  canon_tiles x hx
  · rw [part_3]; exact (dv_3 _ _ _ _ x).trans (congrArg₂ (fun a b : EReal => a + b) (ld_part 768 _ _ x _ hx0 hx1) ((head_3 m c t).dv_at x _ hx0 hx1))
  · rw [part_2]; exact (dv_2 _ _ _ _ x).trans (congrArg₂ (fun a b : EReal => a + b) (ld_part 512 _ _ x _ hx0 hx1) ((head_2 m c t).dv_at x _ hx0 hx1))
  · rw [part_1]; exact (dv_1 _ _ _ _ x).trans (congrArg₂ (fun a b : EReal => a + b) (ld_part 256 _ _ x _ hx0 hx1) ((head_1 m c t).dv_at x _ hx0 hx1))
  · rw [part_0]; exact (dv_0 _ _ _ _ x).trans (congrArg₂ (fun a b : EReal => a + b) (ld_part 0 _ _ x _ hx0 (by omega)) ((head_0 m c t).dv_at x _ hx0 (by omega)))

/-- The values' gradient. -/
theorem dv_arr : (dats m 0 c).arrAt 7 (cfgs 0).N = dv (kQ m c) (kK m c) (kD m c) (kW m c) := by
  refine (dats m 0 c).arrAt_eq_of_covers 7 _ (by decide +kernel) fun t hf y => ?_
  blk_simp; rw [after0_7]
  rw [Pipeline.eq_sum_fin_of_reset_step_apply_of_flush (fun n h => (outsAt0 m c n h).2.2) 16 (fun _ => 0) (fun t y => shareV m c t y)
    (fun t h j => dv_reset m c t h j) (fun t h j => dv_step m c t h j) t ((flush0_7 t).mp hf) _, zero_add]
  have ht := points t
  obtain ⟨n, j, rfl⟩ : ∃ (n : Fin 256) (j : Fin 1024), y = ix2 n j := ⟨y 0, y 1, eq_ix2 y⟩
  have e : (win0_7.blk t).view.emb (ix2 n j) = ix2 (mem t n) j := by
    refine (eq_ix2 _).trans (congrArg₂ ix2 (Fin.ext ?_) (Fin.ext ?_))
    · unfold mem; blk_simp [idx t] <;> omega
    · blk_simp [idx t]
  refine Eq.trans ?_ (congrArg (dv _ _ _ _) e).symm
  have e2 : mplace (mem t n) = n := Fin.ext (by unfold mplace mem; simp only; omega)
  show (_ : EReal) = ∑ s : Fin 4096, wt (score (kQ m c) (kK m c) (xrow (mem t n) s) j) (mplace (mem t n)) * datt (kD m c) (kW m c) (xrow (mem t n) s) j
  rw [e2]
  refine Fin.sum_mul_add_congr fun s r hl => ?_
  have e1 (hp : 16 * (t.val / 16) + s.val < cfg0.N) : row ⟨16 * (t.val / 16) + s.val, hp⟩ r = xrow (mem t n) ⟨s.val * 256 + r.val, hl⟩ := Fin.ext (by unfold row xrow mem; simp only; omega)
  show (wt (score (kQ m c) (kK m c) (row ⟨16 * (t.val / 16) + s.val, _⟩ r) j) n * datt (kD m c) (kW m c) (row ⟨16 * (t.val / 16) + s.val, _⟩ r) j : EReal) = _
  rw [e1]

end Cert.AttnIdeal.Gen

end
-- ==== Proof.AttnRef.lean ====
/- What the attention's reference computes, array by array. -/
module

public import proofs.«01_k».proof.Proof.AttnMath
public import proofs.«01_k».proof.Proof.Gen.AttnRefIdeal.Run

@[expose] public section

set_option maxRecDepth 16384

noncomputable section

open Idealize.ShloMosaic Idealize.ShloMosaic.TcCoe Idealize.SL.Sem
open Cert.Reals Cert.AttnMath

namespace Cert.AttnRefIdeal.Value

open Cert.AttnRefIdeal Cert.AttnRefIdeal.Gen

/-- The row of the flat arrays, -/
def row (b : Fin 2) (s : Fin 4096) : Fin 8192 := ⟨b.val * 4096 + s.val, by omega⟩

/-- … the column, -/
def col (h : Fin 4) (e : Fin 256) : Fin 1024 := ⟨h.val * 256 + e.val, by omega⟩

/-- … and the row of the memory. -/
def mem (b : Fin 2) (n : Fin 256) : Fin 512 := ⟨b.val * 256 + n.val, by omega⟩

theorem hcol_col (h : Fin 4) (x y : Fin 256) : hcol (col h x) y = col h y := Fin.ext (by unfold hcol col; simp only; omega)

theorem mrow_row (b : Fin 2) (s : Fin 4096) (n : Fin 256) : mrow (row b s) n = mem b n := Fin.ext (by unfold mrow row mem; simp only; omega)

section arrays

variable (q : FVec Ideal S8192x1024 .f32) (k v : FVec Ideal S512x1024 .f32) (d : FVec Ideal S8192x1024 .f32) (w : FVec Ideal S1x1024x1024 .f32)

/-- The scores, -/
def rS : FVec Ideal S2x4x4096x256 .f32 :=
  mulf (Host.dotGeneral (φ₁ := .f32) (φ₂ := .f32) dot_S2x4096x4x256_S2x256x4x256_S2x4x4096x256_3_3_1_1_02_02 none (shapeCast _ q shapeCasts_S8192x1024_S2x4096x4x256) (shapeCast _ k shapeCasts_S512x1024_S2x256x4x256)) (broadcastInDim S2x4x4096x256 ![] bcast_S_S2x4x4096x256 (constant S_ .f32 0x3D800000#32))

/-- … their greatest in each row, -/
def rM (s : FVec Ideal S2x4x4096x256 .f32) : FVec Ideal S2x4x4096 .f32 :=
  Host.reduce FloatOps.maximumf s (constant S_ .f32 0xFF800000#32) reducesTo_S2x4x4096x256_S2x4x4096_d3 h_S_

/-- … spread over the row, -/
def rB (t : FVec Ideal S2x4x4096 .f32) : FVec Ideal S2x4x4096x256 .f32 :=
  broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) t))

/-- … their exponentials, -/
def rE (s : FVec Ideal S2x4x4096x256 .f32) : FVec Ideal S2x4x4096x256 .f32 :=
  Host.exp (subf s (rB (rM s)))

/-- … the exponentials' sums, -/
def rN (e : FVec Ideal S2x4x4096x256 .f32) : FVec Ideal S2x4x4096x1 .f32 :=
  broadcastInDim S2x4x4096x1 ![0, 1, 2] bcast_S2x4x4096_S2x4x4096x1_0_1_2 (Host.reduceAdd e (constant S_ .f32 0x00000000#32) reducesTo_S2x4x4096x256_S2x4x4096_d3 h_S_)

/-- … the cotangent of the attended rows, -/
def rA : FVec Ideal S2x4x256x4096 .f32 :=
  transpose S2x4x256x4096 [0, 2, 3, 1] (shapeCast _ (Host.dotGeneral (φ₁ := .f32) (φ₂ := .f32) dot_S2x4096x1024_S1024x1024_S2x4096x1024_2_1_01_0_n_n none (shapeCast _ d shapeCasts_S8192x1024_S2x4096x1024) (shapeCast _ w shapeCasts_S1x1024x1024_S1024x1024)) shapeCasts_S2x4096x1024_S2x4096x4x256) transposes_S2x4096x4x256_S2x4x256x4096_0_2_3_1

/-- … of the weights, -/
def rG : FVec Ideal S2x4x4096x256 .f32 :=
  Host.dotGeneral (φ₁ := .f32) (φ₂ := .f32) dot_S2x4x256x4096_S2x256x4x256_S2x4x4096x256_2_3_3_1_01_02 none (rA d w) (shapeCast _ v shapeCasts_S512x1024_S2x256x4x256)

/-- … of the scores. -/
def rT (e g : FVec Ideal S2x4x4096x256 .f32) (n : FVec Ideal S2x4x4096x1 .f32) : FVec Ideal S2x4x4096x256 .f32 :=
  mulf (mulf (addf (Host.divf g (broadcastInDim S2x4x4096x256 ![0, 1, 2, 3] bcast_S2x4x4096x1_S2x4x4096x256_0_1_2_3 n)) (broadcastInDim S2x4x4096x256 ![0, 1, 2] bcast_S2x4x4096_S2x4x4096x256_0_1_2 (Host.reduceAdd (Host.negf (shapeCast _ (Host.reduceAdd (mulf (mulf g (broadcastInDim S2x4x4096x256 ![0, 1, 2, 3] bcast_S2x4x4096x1_S2x4x4096x256_0_1_2_3 (Host.divf (broadcastInDim S2x4x4096x1 ![] bcast_S_S2x4x4096x1 (constant S_ .f32 0x3F800000#32)) (mulf n n)))) e) (constant S_ .f32 0x00000000#32) reducesTo_S2x4x4096x256_S2x4x4096_d3 h_S_) shapeCasts_S2x4x4096_S2x4x4096x1)) (constant S_ .f32 0x00000000#32) reducesTo_S2x4x4096x1_S2x4x4096_d3 h_S_))) e) (broadcastInDim S2x4x4096x256 ![] bcast_S_S2x4x4096x256 (constant S_ .f32 0x3D800000#32))

theorem rS_apply (b : Fin 2) (h : Fin 4) (s : Fin 4096) (n : Fin 256) : rS q k (ix4 b h s n) = score q k (row b s) (col h 0) n := by
  have e (x : Fin 256) : hcol (col h 0) x = col h x := hcol_col h 0 x
  have e' : mrow (row b s) n = mem b n := mrow_row b s n
  pointwise [rS, score]
  refine congrArg (fun t : EReal => t * scale) (Finset.sum_congr rfl fun x _ => ?_)
  rw [e, e', mul_comm]; rfl

theorem rM_apply (s : FVec Ideal S2x4x4096x256 .f32) (i : S2x4x4096.Idx) : rM s i = top (fun n => s (ix4 (i 0) (i 1) (i 2) n)) := by
  unfold rM top
  rw [Host.reduce_eq_fold, Shape.ReducesTo.fold_fiber_r4_a3]
  rfl

theorem rB_apply (t : FVec Ideal S2x4x4096 .f32) (b : Fin 2) (h : Fin 4) (r : Fin 4096) (n : Fin 256) : rB t (ix4 b h r n) = max low (t (ix3 b h r)) := by
  pointwise [rB]

theorem rE_apply (s : FVec Ideal S2x4x4096x256 .f32) (b : Fin 2) (h : Fin 4) (r : Fin 4096) (n : Fin 256) : rE s (ix4 b h r n) = ex (fun n => s (ix4 b h r n)) n := by
  have key : rE s (ix4 b h r n) = Ideal.exp (s (ix4 b h r n) - rB (rM s) (ix4 b h r n)) := rfl
  rw [key, rB_apply, rM_apply, low_top]; rfl

theorem rN_apply (e : FVec Ideal S2x4x4096x256 .f32) (i : S2x4x4096x1.Idx) : rN e i = ∑ n : Fin 256, e (ix4 (i 0) (i 1) (i 2) n) := by
  pointwise [rN]

theorem rA_apply (b : Fin 2) (h : Fin 4) (e : Fin 256) (s : Fin 4096) : rA d w (ix4 b h e s) = datt d w (row b s) (col h e) := by
  pointwise [rA, datt]
  rfl

theorem rG_apply (b : Fin 2) (h : Fin 4) (s : Fin 4096) (n : Fin 256) : rG v d w (ix4 b h s n) = dwt v d w (row b s) (col h 0) n := by
  have e (x : Fin 256) : hcol (col h 0) x = col h x := hcol_col h 0 x
  have e' : mrow (row b s) n = mem b n := mrow_row b s n
  pointwise [rG, dwt, rA_apply]
  refine Finset.sum_congr rfl fun x _ => ?_
  rw [e, e', mul_comm]; rfl

theorem rT_apply (e g : FVec Ideal S2x4x4096x256 .f32) (n : FVec Ideal S2x4x4096x1 .f32) (b : Fin 2) (h : Fin 4) (s : Fin 4096) (x : Fin 256) :
    rT e g n (ix4 b h s x) = (Ideal.div (g (ix4 b h s x)) (n (ix4 b h s 0)) + -∑ y : Fin 256, g (ix4 b h s y) * Ideal.div 1 (n (ix4 b h s 0) * n (ix4 b h s 0)) * e (ix4 b h s y)) * e (ix4 b h s x) * scale := by
  pointwise [rT]
  rw [Fin.sum_univ_one]

/-- The scores' cotangent. -/
def rD : FVec Ideal S2x4x4096x256 .f32 := rT (rE (rS q k)) (rG v d w) (rN (rE (rS q k)))

/-- The weights. -/
def rP : FVec Ideal S2x4x4096x256 .f32 := Host.divf (rE (rS q k)) (broadcastInDim S2x4x4096x256 ![0, 1, 2, 3] bcast_S2x4x4096x1_S2x4x4096x256_0_1_2_3 (rN (rE (rS q k))))

variable {q k v d w}

theorem rSE_apply (b : Fin 2) (h : Fin 4) (s : Fin 4096) (n : Fin 256) : rE (rS q k) (ix4 b h s n) = ex (score q k (row b s) (col h 0)) n := by
  rw [rE_apply]
  exact congrArg (fun x => ex x n) (funext fun m => rS_apply q k b h s m)

theorem rSN_apply (b : Fin 2) (h : Fin 4) (s : Fin 4096) : rN (rE (rS q k)) (ix4 b h s 0) = den (score q k (row b s) (col h 0)) :=
  (rN_apply _ _).trans (Finset.sum_congr rfl fun n _ => rSE_apply b h s n)

theorem rP_apply (b : Fin 2) (h : Fin 4) (s : Fin 4096) (n : Fin 256) : rP q k (ix4 b h s n) = wt (score q k (row b s) (col h 0)) n := by
  have key : rP q k (ix4 b h s n) = Ideal.div (rE (rS q k) (ix4 b h s n)) (rN (rE (rS q k)) (ix4 b h s 0)) := by
    pointwise [rP]
  rw [key, rSE_apply, rSN_apply]; rfl

theorem rD_apply (hq : IsReal q) (hk : IsReal k) (hv : IsReal v) (hd : IsReal d) (hw : IsReal w) (b : Fin 2) (h : Fin 4) (s : Fin 4096) (n : Fin 256) :
    rD q k v d w (ix4 b h s n) = dscore q k v d w (row b s) (col h 0) n := by
  refine (rT_apply _ _ _ b h s n).trans ?_
  simp only [rSE_apply, rSN_apply, rG_apply]
  exact dsc_eq (fun m => score_num hq hk _ _ m) (fun m => dwt_num hv hd hw _ _ m) n

/-- The scores and their cotangents are the same for every column of a head. -/
theorem hcol_head (j : Fin 1024) : hcol (col ⟨j.val / 256, by omega⟩ 0) = hcol j := by
  funext e; exact Fin.ext (by unfold hcol col; simp only [Fin.val_zero]; omega)

theorem score_head (r : Fin 8192) (j : Fin 1024) : score q k r (col ⟨j.val / 256, by omega⟩ 0) = score q k r j := by
  unfold score; rw [hcol_head]

theorem dscore_head (r : Fin 8192) (j : Fin 1024) : dscore q k v d w r (col ⟨j.val / 256, by omega⟩ 0) = dscore q k v d w r j := by
  unfold dscore dwt; rw [score_head, hcol_head]

theorem col_self (j : Fin 1024) : col ⟨j.val / 256, by omega⟩ ⟨j.val % 256, by omega⟩ = j := Fin.ext (by unfold col; simp only; omega)

theorem row_self (r : Fin 8192) : row ⟨r.val / 4096, by omega⟩ ⟨r.val % 4096, by omega⟩ = r := Fin.ext (by unfold row; simp only; omega)

variable (q k v d w)

/-- The queries' gradient, -/
def outQ (x : FVec Ideal S2x4x4096x256 .f32) (k : FVec Ideal S512x1024 .f32) : FVec Ideal S8192x1024 .bf16 :=
  truncf .bf16 (shapeCast _ (transpose S2x4096x4x256 [0, 2, 1, 3] (Host.dotGeneral (φ₁ := .f32) (φ₂ := .f32) dot_S2x4x4096x256_S2x256x4x256_S2x4x4096x256_3_1_2_3_01_02 none x (shapeCast _ k shapeCasts_S512x1024_S2x256x4x256)) transposes_S2x4x4096x256_S2x4096x4x256_0_2_1_3) shapeCasts_S2x4096x4x256_S8192x1024) bitsLt_bf16_f32

/-- … the keys', -/
def outK (x : FVec Ideal S2x4x4096x256 .f32) (q : FVec Ideal S8192x1024 .f32) : FVec Ideal S512x1024 .f32 :=
  shapeCast _ (transpose S2x256x4x256 [0, 2, 1, 3] (Host.dotGeneral (φ₁ := .f32) (φ₂ := .f32) dot_S2x4x4096x256_S2x4096x4x256_S2x4x256x256_2_1_3_3_01_02 none x (shapeCast _ q shapeCasts_S8192x1024_S2x4096x4x256)) transposes_S2x4x256x256_S2x256x4x256_0_2_1_3) shapeCasts_S2x256x4x256_S512x1024

/-- … and the values'. -/
def outV (a : FVec Ideal S2x4x256x4096 .f32) (p : FVec Ideal S2x4x4096x256 .f32) : FVec Ideal S512x1024 .f32 :=
  shapeCast _ (transpose S2x256x4x256 [0, 3, 1, 2] (Host.dotGeneral (φ₁ := .f32) (φ₂ := .f32) dot_S2x4x256x4096_S2x4x4096x256_S2x4x256x256_3_2_2_3_01_01 none a p) transposes_S2x4x256x256_S2x256x4x256_0_3_1_2) shapeCasts_S2x256x4x256_S512x1024

theorem outQ_apply (x : FVec Ideal S2x4x4096x256 .f32) (r : Fin 8192) (j : Fin 1024) :
    outQ x k (ix2 r j) = ∑ n : Fin 256, x (ix4 ⟨r.val / 4096, by omega⟩ ⟨j.val / 256, by omega⟩ ⟨r.val % 4096, by omega⟩ n) * k (ix2 (mrow r n) j) := by
  pointwise [outQ]
  rfl

theorem outK_apply (x : FVec Ideal S2x4x4096x256 .f32) (M : Fin 512) (j : Fin 1024) :
    outK x q (ix2 M j) = ∑ s : Fin 4096, x (ix4 ⟨M.val / 256, by omega⟩ ⟨j.val / 256, by omega⟩ s (mplace M)) * q (ix2 (xrow M s) j) := by
  pointwise [outK]
  rfl

theorem outV_apply (a : FVec Ideal S2x4x256x4096 .f32) (p : FVec Ideal S2x4x4096x256 .f32) (M : Fin 512) (j : Fin 1024) :
    outV a p (ix2 M j) = ∑ s : Fin 4096, p (ix4 ⟨M.val / 256, by omega⟩ ⟨j.val / 256, by omega⟩ s (mplace M)) * a (ix4 ⟨M.val / 256, by omega⟩ ⟨j.val / 256, by omega⟩ ⟨j.val % 256, by omega⟩ s) := by
  pointwise [outV]
  exact Finset.sum_congr rfl fun s _ => mul_comm _ _

variable {q k v d w}

theorem refQ (hq : IsReal q) (hk : IsReal k) (hv : IsReal v) (hd : IsReal d) (hw : IsReal w) : outQ (rD q k v d w) k = dq q k v d w := by
  funext i
  obtain ⟨r, j, rfl⟩ : ∃ (r : Fin 8192) (j : Fin 1024), i = ix2 r j := ⟨i 0, i 1, eq_ix2 i⟩
  refine (outQ_apply k _ r j).trans (Finset.sum_congr rfl fun n _ => congrArg (fun t : EReal => t * k (ix2 (mrow r n) j)) ?_)
  rw [rD_apply hq hk hv hd hw, dscore_head, row_self]; rfl

theorem refK (hq : IsReal q) (hk : IsReal k) (hv : IsReal v) (hd : IsReal d) (hw : IsReal w) : outK (rD q k v d w) q = dk q k v d w := by
  funext i
  obtain ⟨M, j, rfl⟩ : ∃ (M : Fin 512) (j : Fin 1024), i = ix2 M j := ⟨i 0, i 1, eq_ix2 i⟩
  refine (outK_apply q _ M j).trans (Finset.sum_congr rfl fun s _ => congrArg (fun t : EReal => t * q (ix2 (xrow M s) j)) ?_)
  rw [rD_apply hq hk hv hd hw, dscore_head]; rfl

theorem refV : outV (rA d w) (rP q k) = dv q k d w := by
  funext i
  obtain ⟨M, j, rfl⟩ : ∃ (M : Fin 512) (j : Fin 1024), i = ix2 M j := ⟨i 0, i 1, eq_ix2 i⟩
  refine (outV_apply _ _ M j).trans (Finset.sum_congr rfl fun s _ => ?_)
  rw [rP_apply, rA_apply, score_head, col_self]; rfl

end arrays

variable (m : (ℓ : Loc nD τ sig) → Buf (Elt Ideal) ℓ) (c : Dev nD)

/-- The arguments: queries, keys, values, cotangent and output weights. -/
abbrev aQ : FVec Ideal S8192x1024 .f32 := m ((c.tc : Thread nD τ).loc main_arg0)
abbrev aK : FVec Ideal S512x1024 .f32 := m ((c.tc : Thread nD τ).loc main_arg1)
abbrev aV : FVec Ideal S512x1024 .f32 := m ((c.tc : Thread nD τ).loc main_arg2)
abbrev aD : FVec Ideal S8192x1024 .f32 := m ((c.tc : Thread nD τ).loc main_arg3)
abbrev aW : FVec Ideal S1x1024x1024 .f32 := m ((c.tc : Thread nD τ).loc main_arg4)

theorem resQ : res_main_v67 m c = outQ (rD (aQ m c) (aK m c) (aV m c) (aD m c) (aW m c)) (aK m c) := rfl

theorem resK : res_main_v65 m c = outK (rD (aQ m c) (aK m c) (aV m c) (aD m c) (aW m c)) (aQ m c) := rfl

end Cert.AttnRefIdeal.Value

end
-- ==== Proof.AttnClaim.lean ====
/- The claims about the attention over the memory, backward. -/
module

public import proofs.«01_k».proof.Defs
public import proofs.«01_k».proof.Proof.AttnGrad
public import proofs.«01_k».proof.Proof.AttnRef
public import proofs.«01_k».proof.Proof.Gen.Attn.Frame
public import proofs.«01_k».proof.Proof.Gen.Pre_finite_attn

@[expose] public section

set_option maxRecDepth 16384

noncomputable section

namespace Cert.Proof

open Idealize.ShloMosaic Idealize.SL.Sem
open Cert.Reals Cert.Rows
open Cert.AttnRefIdeal (nD τ sig defs main main_arg0 main_arg1 main_arg2 main_arg3 main_arg4 main_v64 main_v65 main_v67)
open Cert.AttnRefIdeal.Value (rA rP rD outQ outK outV refQ refK refV)

theorem attn_frame : Cert.quiescent_Attn := fun m ρ _ => Cert.Attn.Gen.frame m ρ

theorem attn_frame_ideal : Cert.quiescent_AttnIdeal := fun m ρ _ => Cert.AttnIdeal.Gen.frame m ρ

theorem attn_frame_ideal_pre : Cert.quiescent_AttnIdeal_pre_finite_attn := fun m ρ _ => Cert.AttnIdeal.Gen.frame m ρ

theorem attn_frame_ref : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run m ρ)

theorem attn_frame_ref_pre : Cert.quiescent_AttnRefIdeal_pre_finite_attn := fun m ρ _ => attn_frame_ref m ρ trivial

theorem attn_preserves : Cert.preserves_Attn_AttnIdeal := trivial

set_option maxHeartbeats 4000000 in
/-- The reference's run, its results named. -/
theorem attn_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v67) = outQ (rD (m (c.tc.loc main_arg0)) (m (c.tc.loc main_arg1)) (m (c.tc.loc main_arg2)) (m (c.tc.loc main_arg3)) (m (c.tc.loc main_arg4))) (m (c.tc.loc main_arg1))
        ∧ r.2.mem (c.tc.loc main_v65) = outK (rD (m (c.tc.loc main_arg0)) (m (c.tc.loc main_arg1)) (m (c.tc.loc main_arg2)) (m (c.tc.loc main_arg3)) (m (c.tc.loc main_arg4))) (m (c.tc.loc main_arg0))
        ∧ r.2.mem (c.tc.loc main_v64) = outV (rA (m (c.tc.loc main_arg3)) (m (c.tc.loc main_arg4))) (rP (m (c.tc.loc main_arg0)) (m (c.tc.loc main_arg1)))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4) :=
  Cert.AttnRefIdeal.Value.run m ρ

open Cert.Pre_finite_attn in
/-- What the precondition says: the arguments are arrays of reals. -/
theorem attn_pre (a0 : FVec Ideal S8192x1024 .f32) (a1 a2 : FVec Ideal S512x1024 .f32) (a3 : FVec Ideal S8192x1024 .f32) (a4 : FVec Ideal S1x1024x1024 .f32)
    (h : Cert.Pre_finite_attn.fn (F := Ideal) a0 a1 a2 a3 a4 = fun _ => 1#1) :
    IsReal a0 ∧ IsReal a1 ∧ IsReal a2 ∧ IsReal a3 ∧ IsReal a4 := by
  have h := congrFun h (fun k => k.elim0)
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨isReal_of_all _ _ _ _ _ _ _ h0, isReal_of_all _ _ _ _ _ _ _ h1, isReal_of_all _ _ _ _ _ _ _ h2, isReal_of_all _ _ _ _ _ _ _ h3, isReal_of_all _ _ _ _ _ _ _ h4⟩

set_option maxHeartbeats 1000000 in
theorem attn_value : Cert.algebraic_AttnIdeal_AttnRefIdeal_pre_finite_attn := by
  pair_intro
  · run_from Cert.AttnIdeal.Gen.run_main m g
  · run_from attn_ref_run m' g'
    all_goals obtain ⟨h0, h1, h2, h3, h4⟩ := attn_pre _ _ _ _ _ (hpre c)
    · exact (refQ h0 h1 h2 h3 h4).trans (Cert.AttnIdeal.Gen.dq_arr m c).symm
    · exact (refK h0 h1 h2 h3 h4).trans (Cert.AttnIdeal.Gen.dk_arr m c).symm
    · exact refV.trans (Cert.AttnIdeal.Gen.dv_arr m c).symm

end Cert.Proof

end
-- ==== Proof.GmlpMath.lean ====
/- The gated mixer's gradient as formulas over rows and columns, and the layer norm's derivative in its two forms. -/
module

public import proofs.«01_k».proof.Proof.Norm
public import proofs.«01_k».proof.Proof.Gelu
public import proofs.«01_k».proof.Proof.Gen.GmlpRefIdeal.Run

@[expose] public section

set_option maxRecDepth 16384

noncomputable section

open Idealize.ShloMosaic Idealize.ShloMosaic.TcCoe Idealize.SL.Sem

namespace Cert.Reals

/-- A row less its mean. -/
def centre (v : Fin 1024 → EReal) (j : Fin 1024) : EReal := v j - Ideal.div (∑ k, v k) (Ideal.ofBits .f32 0x44800000#32)

/-- The gradient of the layer norm at a centred row, as the call computes it. -/
def lnd (x t : Fin 1024 → EReal) (j : Fin 1024) : EReal :=
  rs x * (t j - Ideal.div (∑ k, t k) (Ideal.ofBits .f32 0x44800000#32)
    - x j * rs x * Ideal.div (∑ k, t k * (x k * rs x)) (Ideal.ofBits .f32 0x44800000#32))

theorem centre_num {v : Fin 1024 → EReal} (hv : ∀ k, Num (v k)) (j : Fin 1024) : Num (centre v j) := by
  obtain ⟨s, hs⟩ := Num.sum Finset.univ v hv
  rw [centre, hs, bits_width, coe_div _ (by norm_num)]
  exact (hv j).sub (Num.coe _)

/-- A centred row sums to zero. -/
theorem centre_sum {v : Fin 1024 → EReal} (hv : ∀ k, Num (v k)) : ∑ j, centre v j = 0 := by
  choose a ha using hv
  obtain rfl : v = fun k => (a k : EReal) := funext ha
  unfold centre
  rw [coe_sum, bits_width, coe_div _ (by norm_num)]
  simp only [← EReal.coe_sub, coe_sum]
  rw [Finset.sum_sub_distrib, Finset.sum_const, Finset.card_univ, Fintype.card_fin]
  rw [← EReal.coe_zero]; congr 1
  rw [nsmul_eq_mul]; push_cast; ring

theorem lnd_congr {x x' t t' : Fin 1024 → EReal} {j j' : Fin 1024} (hx : ∀ k, x k = x' k) (ht : ∀ k, t k = t' k) (hj : j = j') :
    lnd x t j = lnd x' t' j' := by
  rw [funext hx, funext ht, hj]

/-- The derivative of the forward lines subtracts the mean last. -/
theorem lnd_eq {v t : Fin 1024 → EReal} (hv : ∀ k, Num (v k)) (ht : ∀ k, Num (t k)) (j : Fin 1024) :
    lnd (centre v) t j = rmsd (centre v) t j + Ideal.div (∑ k, -rmsd (centre v) t k) (Ideal.ofBits .f32 0x44800000#32) := by
  have hx := centre_num hv
  have h0 := centre_sum hv
  generalize centre v = x at *
  obtain ⟨r, hr⟩ := rs_num hx
  choose a ha using hx
  choose b hb using ht
  unfold lnd rmsd
  rw [hr]
  obtain rfl : x = fun k => (a k : EReal) := funext ha
  obtain rfl : t = fun k => (b k : EReal) := funext hb
  rw [coe_sum, ← EReal.coe_zero, EReal.coe_eq_coe_iff] at h0
  simp only [← EReal.coe_mul, coe_sum]
  rw [bits_width, coe_div _ (by norm_num), coe_div _ (by norm_num)]
  simp only [← EReal.coe_mul, ← EReal.coe_sub, ← EReal.coe_neg, coe_sum]
  rw [coe_div _ (by norm_num)]
  simp only [← EReal.coe_mul, ← EReal.coe_sub, ← EReal.coe_add]
  congr 1
  have e : ∑ k, -(r * (b k - a k * r * ((∑ k, b k * (a k * r)) / 1024))) = -(r * ∑ k, b k) := by
    generalize (∑ k, b k * (a k * r)) / 1024 = S
    have : ∀ k, -(r * (b k - a k * r * S)) = -r * b k + r * r * S * a k := fun k => by ring
    simp only [this]
    rw [Finset.sum_add_distrib, ← Finset.mul_sum, ← Finset.mul_sum, h0]; ring
  rw [e]; ring

theorem lnd_num {v t : Fin 1024 → EReal} (hv : ∀ k, Num (v k)) (ht : ∀ k, Num (t k)) (j : Fin 1024) : Num (lnd (centre v) t j) := by
  rw [lnd_eq hv ht]
  obtain ⟨s, hs⟩ := Num.sum Finset.univ (fun k => -rmsd (centre v) t k) fun k => (rmsd_num (centre_num hv) ht k).neg
  rw [hs, bits_width, coe_div _ (by norm_num)]
  exact (rmsd_num (centre_num hv) ht j).add (Num.coe _)

end Cert.Reals

namespace Cert.GmlpMath

open Cert.Reals Cert.GmlpRefIdeal

variable (z : FVec Ideal S8192x2048 .f32) (g b : FVec Ideal S1x1024 .f32) (w : FVec Ideal S1x8x128x128 .f32) (bs : FVec Ideal S1x8x128 .f32)
  (wb : FVec Ideal S1x1024x1024 .f32) (dp : FVec Ideal S8192x1024 .f32)

/-- Row `s` of the chunk of row `r`. -/
def chunk (r : Fin 8192) (s : Fin 128) : Fin 8192 := ⟨r.val / 128 * 128 + s.val, by omega⟩

/-- A row's place in its chunk. -/
def place (r : Fin 8192) : Fin 128 := ⟨r.val % 128, by omega⟩

/-- A column's group. -/
def grp (j : Fin 1024) : Fin 8 := ⟨j.val / 128, by omega⟩

/-- Row `t` of chunk `n`. -/
def rowOf (n : Fin 64) (t : Fin 128) : Fin 8192 := ⟨n.val * 128 + t.val, by omega⟩

/-- Column `k` of group `q`. -/
def colOf (q : Fin 8) (k : Fin 128) : Fin 1024 := ⟨q.val * 128 + k.val, by omega⟩

/-- The gate's half. -/
def up (r : Fin 8192) (j : Fin 1024) : EReal := gelu (z (ix2 r ⟨j.val, by omega⟩))

/-- The half that is normalised and mixed. -/
def vin (r : Fin 8192) (j : Fin 1024) : EReal := gelu (z (ix2 r ⟨1024 + j.val, by omega⟩))

/-- … less its mean, -/
def cen (r : Fin 8192) : Fin 1024 → EReal := centre (vin z r)

/-- … normalised, -/
def vh (r : Fin 8192) (j : Fin 1024) : EReal := cen z r j * rs (cen z r)

/-- … scaled and shifted. -/
def vn (r : Fin 8192) (j : Fin 1024) : EReal := vh z r j * g (ix2 0 j) + b (ix2 0 j)

/-- The causal mixing weights. -/
def tri (q : Fin 8) (t s : Fin 128) : EReal := if s.val ≤ t.val then w (ix4 0 q t s) else 0

/-- The host's triangle, by the two places. -/
theorem tri_word : ∀ t s : Fin 128, Scalar.select (IntOp.cmpi .sge (IntOp.addi (BitVec.ofNat 32 t.val) 0#32) (BitVec.ofNat 32 s.val)) (1#1) (0#1)
    = if s.val ≤ t.val then 1#1 else 0#1 := by decide +kernel

/-- Keeping what is in the triangle. -/
theorem tri_select (t s : Fin 128) (x : EReal) : Scalar.select (Scalar.select (IntOp.cmpi .sge (IntOp.addi (BitVec.ofNat 32 t.val) 0#32) (BitVec.ofNat 32 s.val)) (1#1) (0#1)) x 0
    = if s.val ≤ t.val then x else 0 := by
  rw [tri_word]
  by_cases h : s.val ≤ t.val
  · rw [if_pos h, if_pos h]; rfl
  · rw [if_neg h, if_neg h]; rfl

/-- The mixed rows. -/
def sv (r : Fin 8192) (j : Fin 1024) : EReal :=
  (∑ s : Fin 128, tri w (grp j) (place r) s * vn z g b (chunk r s) j) + bs (ix3 0 (grp j) (place r))

/-- The cotangent of the branch. -/
def dy (r : Fin 8192) (j : Fin 1024) : EReal := ∑ k : Fin 1024, dp (ix2 r k) * wb (ix3 0 j k)

/-- The cotangent of the mixed rows. -/
def dsv (r : Fin 8192) (j : Fin 1024) : EReal := dy wb dp r j * up z r j

/-- The cotangent of the scaled rows. -/
def dvn (r : Fin 8192) (j : Fin 1024) : EReal := ∑ t : Fin 128, tri w (grp j) t (place r) * dsv z wb dp (chunk r t) j

/-- The cotangent of the normalised rows. -/
def dvh (r : Fin 8192) (j : Fin 1024) : EReal := dvn z w wb dp r j * g (ix2 0 j)

/-- The gradient's left half. -/
def dzU (r : Fin 8192) (j : Fin 1024) : EReal := dy wb dp r j * sv z g b w bs r j * dgelu (z (ix2 r ⟨j.val, by omega⟩))

/-- The gradient's right half. -/
def dzV (r : Fin 8192) (j : Fin 1024) : EReal := lnd (cen z r) (dvh z g w wb dp r) j * dgelu (z (ix2 r ⟨1024 + j.val, by omega⟩))

/-- The gradient of the branch's input. -/
def dz : FVec Ideal S8192x2048 .bf16 := fun i =>
  if h : (i 1).val < 1024 then dzU z g b w bs wb dp (i 0) ⟨(i 1).val, h⟩
  else dzV z g w wb dp (i 0) ⟨(i 1).val - 1024, Nat.sub_lt_left_of_lt_add (Nat.le_of_not_lt h) (i 1).isLt⟩

theorem dz_left (r : Fin 8192) (j : Fin 2048) (h : j.val < 1024) : (dz z g b w bs wb dp (ix2 r j) : EReal) = dzU z g b w bs wb dp r ⟨j.val, h⟩ := by
  unfold dz
  exact dif_pos h

theorem dz_right (r : Fin 8192) (j : Fin 2048) (h : ¬j.val < 1024) (h') : (dz z g b w bs wb dp (ix2 r j) : EReal) = dzV z g w wb dp r ⟨j.val - 1024, h'⟩ := by
  unfold dz
  exact dif_neg h

/-- The gradient of the scale. -/
def dlng : FVec Ideal S1x1024 .f32 := fun i => ∑ r : Fin 8192, dvn z w wb dp r (i 1) * vh z r (i 1)

/-- The gradient of the shift. -/
def dlnb : FVec Ideal S1x1024 .f32 := fun i => ∑ r : Fin 8192, dvn z w wb dp r (i 1)

/-- The mixing weights' gradient before it is cut to the triangle. -/
def dfull (q : Fin 8) (t s : Fin 128) : EReal :=
  ∑ n : Fin 64, ∑ k : Fin 128, dsv z wb dp (rowOf n t) (colOf q k) * vn z g b (rowOf n s) (colOf q k)

/-- The gradient of the mixing weights. -/
def dws : FVec Ideal S8x128x128 .f32 := fun i => if (i 2).val ≤ (i 1).val then dfull z g b wb dp (i 0) (i 1) (i 2) else 0

/-- The gradient of the mixing bias. -/
def dbs : FVec Ideal S8x128 .f32 := fun i => ∑ n : Fin 64, ∑ k : Fin 128, dsv z wb dp (rowOf n (i 1)) (colOf (i 0) k)

theorem up_num (hz : IsReal z) (r : Fin 8192) (j : Fin 1024) : Num (up z r j) := gelu_num (hz _)
theorem vin_num (hz : IsReal z) (r : Fin 8192) (j : Fin 1024) : Num (vin z r j) := gelu_num (hz _)
theorem cen_num (hz : IsReal z) (r : Fin 8192) (j : Fin 1024) : Num (cen z r j) := centre_num (vin_num z hz r) j
theorem vh_num (hz : IsReal z) (r : Fin 8192) (j : Fin 1024) : Num (vh z r j) := (cen_num z hz r j).mul (rs_num (cen_num z hz r))
theorem vn_num (hz : IsReal z) (hg : IsReal g) (hb : IsReal b) (r : Fin 8192) (j : Fin 1024) : Num (vn z g b r j) :=
  ((vh_num z hz r j).mul (hg _)).add (hb _)
theorem tri_num (hw : IsReal w) (q : Fin 8) (t s : Fin 128) : Num (tri w q t s) := by
  unfold tri; split
  · exact hw _
  · exact Num.zero
theorem sv_num (hz : IsReal z) (hg : IsReal g) (hb : IsReal b) (hw : IsReal w) (hs : IsReal bs) (r : Fin 8192) (j : Fin 1024) : Num (sv z g b w bs r j) :=
  (Num.sum _ _ fun s => (tri_num w hw _ _ _).mul (vn_num z g b hz hg hb _ _)).add (hs _)
theorem dy_num (hwb : IsReal wb) (hd : IsReal dp) (r : Fin 8192) (j : Fin 1024) : Num (dy wb dp r j) :=
  Num.sum _ _ fun k => (hd _).mul (hwb _)
theorem dsv_num (hz : IsReal z) (hwb : IsReal wb) (hd : IsReal dp) (r : Fin 8192) (j : Fin 1024) : Num (dsv z wb dp r j) :=
  (dy_num wb dp hwb hd r j).mul (up_num z hz r j)
theorem dvn_num (hz : IsReal z) (hw : IsReal w) (hwb : IsReal wb) (hd : IsReal dp) (r : Fin 8192) (j : Fin 1024) : Num (dvn z w wb dp r j) :=
  Num.sum _ _ fun t => (tri_num w hw _ _ _).mul (dsv_num z wb dp hz hwb hd _ _)
theorem dvh_num (hz : IsReal z) (hg : IsReal g) (hw : IsReal w) (hwb : IsReal wb) (hd : IsReal dp) (r : Fin 8192) (j : Fin 1024) :
    Num (dvh z g w wb dp r j) := (dvn_num z w wb dp hz hw hwb hd r j).mul (hg _)

end Cert.GmlpMath

end
-- ==== Proof.GmlpRun.lean ====
/- The gated mixer's run, forward call and backward call: every result array at what the second call, or the host lines
   after it, leave. -/
module

public import proofs.«01_k».proof.Proof.Gen.GmlpIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.GmlpIdeal.Gen

open Cert.GmlpIdeal

variable (m : (ℓ : Loc nD τ sig) → Buf (Elt Ideal) ℓ) (ρ : Dev nD → PrngReg)

set_option backward.isDefEq.respectTransparency.types false in
/-- Every buffer that outlives the regions ends at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        dsimp only [Pipeline.Seg.post, hseg, Pipeline.HostSeg.ofOps]
        iintro ⟨Hh, Hp, HO⟩
        isplitl [Hh Hp]
        · isplitl [Hh]
          · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

/-- What the host keeps of a square array: the entries on and below the diagonal. -/
def below : Vec Ideal S8x128x128 .i1 :=
  broadcastInDim S8x128x128 ![0, 1, 2] bcast_S1x128x128_S8x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1))))

theorem W11_v24_0 (c : Dev nD) : W11 m ρ c (Proc.devRef .tc main_v24_0) = (dat1 (V7 m ρ) c).arrAt 11 cfg1.N := by
  rw [W11_of m ρ c _ (by decide), W10_of m ρ c _ (by decide), W9_of m ρ c _ (by decide)]
  exact (hF1 m ρ c 11).symm

theorem W11_v24_3 (c : Dev nD) : W11 m ρ c (Proc.devRef .tc main_v24_3) = (dat1 (V7 m ρ) c).arrAt 14 cfg1.N := by
  rw [W11_of m ρ c _ (by decide), W10_of m ρ c _ (by decide), W9_of m ρ c _ (by decide)]
  exact (hF1 m ρ c 14).symm

theorem W11_v24_4 (c : Dev nD) : W11 m ρ c (Proc.devRef .tc main_v24_4) = (dat1 (V7 m ρ) c).arrAt 15 cfg1.N := by
  rw [W11_of m ρ c _ (by decide), W10_of m ρ c _ (by decide), W9_of m ρ c _ (by decide)]
  exact (hF1 m ρ c 15).symm

/-- The bias's gradient from the accumulated rows. -/
def biasOut (b : FVec Ideal S128x1024 .f32) : FVec Ideal S8x128 .f32 :=
  transpose S8x128 [1, 0] (Host.reduceAdd (shapeCast S128x8x128 b shapeCasts_S128x1024_S128x8x128) (constant S_ .f32 0x00000000#32) reducesTo_S128x8x128_S128x8_d2 h_S_) transposes_S128x8_S8x128_1_0

/-- The mixing weights' gradient from the accumulated squares. -/
def maskOut (w : FVec Ideal S8x128x128 .f32) : FVec Ideal S8x128x128 .f32 :=
  select below w (broadcastInDim S8x128x128 ![] bcast_S_S8x128x128 (constant S_ .f32 0x00000000#32))

theorem W8_12 (c : Dev nD) : W8 m ρ c (Proc.devRef .tc main_v24_1) = (dat1 (V7 m ρ) c).arrAt 12 cfg1.N := (hF1 m ρ c 12).symm
theorem W8_13 (c : Dev nD) : W8 m ρ c (Proc.devRef .tc main_v24_2) = (dat1 (V7 m ρ) c).arrAt 13 cfg1.N := (hF1 m ρ c 13).symm

theorem W11_v29 (c : Dev nD) : W11 m ρ c (Proc.devRef .tc main_v29) = biasOut ((dat1 (V7 m ρ) c).arrAt 13 cfg1.N) := by
  rw [← W8_13]
  show StableHlo.after hostOps2_2 (W10 m ρ c) (Proc.devRef .tc main_v29) = _
  entry_read
  rfl

/-- The triangle the host lines share. -/
theorem W2_v5 (c : Dev nD) : W2 m ρ c (Proc.devRef .tc main_v5) = select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1)) := by
  show StableHlo.after hostOps0_1 (W1 m ρ c) (Proc.devRef .tc main_v5) = _
  entry_read
  rfl

theorem W8_v5 (c : Dev nD) : W8 m ρ c (Proc.devRef .tc main_v5) = W2 m ρ c (Proc.devRef .tc main_v5) := by
  rw [W8_of m ρ c _ (by decide), W7_of m ρ c _ (by decide), W6_of m ρ c _ (by decide), W5_of m ρ c _ (by decide), W4_of m ρ c _ (by decide), W3_of m ρ c _ (by decide)]

theorem W11_v26 (c : Dev nD) : W11 m ρ c (Proc.devRef .tc main_v26) = maskOut ((dat1 (V7 m ρ) c).arrAt 12 cfg1.N) := by
  have e := (W8_v5 m ρ c).trans (W2_v5 m ρ c)
  rw [← W8_12, W11_of m ρ c _ (by decide)]
  show StableHlo.after hostOps2_1 (W9 m ρ c) (Proc.devRef .tc main_v26) = _
  entry_read
  rw [e]
  rfl

/-! What the two calls read. -/

theorem V5_v0 (c : Dev nD) : V5 m ρ c main_v0 = truncf (F := Ideal) .bf16 (m ((c : Thread nD τ).loc main_arg0)) bitsLt_bf16_f32 := by
  show W5 m ρ c (Proc.devRef .tc main_v0) = _
  rw [W5_of m ρ c _ (by decide), W4_of m ρ c _ (by decide), W3_of m ρ c _ (by decide), W2_of m ρ c _ (by decide)]
  show StableHlo.after hostOps0 (W0 m ρ c) (Proc.devRef .tc main_v0) = _
  entry_read
  rfl

theorem V5_v1 (c : Dev nD) : V5 m ρ c main_v1 = truncf (F := Ideal) .bf16 (m ((c : Thread nD τ).loc main_arg6)) bitsLt_bf16_f32 := by
  show W5 m ρ c (Proc.devRef .tc main_v1) = _
  rw [W5_of m ρ c _ (by decide), W4_of m ρ c _ (by decide), W3_of m ρ c _ (by decide), W2_of m ρ c _ (by decide)]
  show StableHlo.after hostOps0 (W0 m ρ c) (Proc.devRef .tc main_v1) = _
  entry_read
  rfl

theorem V5_v3 (c : Dev nD) : V5 m ρ c main_v3 = truncf (F := Ideal) .bf16 (shapeCast S1024x1024 (m ((c : Thread nD τ).loc main_arg5)) shapeCasts_S1x1024x1024_S1024x1024) bitsLt_bf16_f32 := by
  show W5 m ρ c (Proc.devRef .tc main_v3) = _
  rw [W5_of m ρ c _ (by decide), W4_of m ρ c _ (by decide), W3_of m ρ c _ (by decide), W2_of m ρ c _ (by decide)]
  show StableHlo.after hostOps0 (W0 m ρ c) (Proc.devRef .tc main_v3) = _
  entry_read
  rfl

/-- The mixing weights, cut to the triangle. -/
theorem V5_v9 (c : Dev nD) : V5 m ρ c main_v9 = truncf (F := Ideal) .bf16 (maskOut (shapeCast S8x128x128 (m ((c : Thread nD τ).loc main_arg3)) shapeCasts_S1x8x128x128_S8x128x128)) bitsLt_bf16_f32 := by
  have e := W2_v5 m ρ c
  have e3 := W2_args m ρ c main_arg3 (by decide)
  show StableHlo.after hostOps0_4 (W4 m ρ c) (Proc.devRef .tc main_v9) = _
  entry_read
  rfl

theorem V5_v10 (c : Dev nD) : V5 m ρ c main_v10 = transpose S8x128x128 [0, 2, 1] (V5 m ρ c main_v9) transposes_S8x128x128_S8x128x128_0_2_1 := by
  show StableHlo.after hostOps0_4 (W4 m ρ c) (Proc.devRef .tc main_v10) = transpose S8x128x128 [0, 2, 1] (StableHlo.after hostOps0_4 (W4 m ρ c) (Proc.devRef .tc main_v9)) _
  entry_read
  rfl

/-- The bias, once for every column of its group. -/
theorem V5_v14 (c : Dev nD) : V5 m ρ c main_v14 = shapeCast S128x1024 (broadcastInDim S128x8x128 ![0, 1] bcast_S128x8_S128x8x128_0_1
    (transpose S128x8 [1, 0] (shapeCast S8x128 (m ((c : Thread nD τ).loc main_arg4)) shapeCasts_S1x8x128_S8x128) transposes_S8x128_S128x8_1_0)) shapeCasts_S128x8x128_S128x1024 := by
  have e3 := W4_args m ρ c main_arg4 (by decide)
  show StableHlo.after hostOps0_4 (W4 m ρ c) (Proc.devRef .tc main_v14) = _
  entry_read
  rfl

theorem V5_v16 (c : Dev nD) : V5 m ρ c main_v16 = (shapeCast S1x1024 (shapeCast S1024 (m ((c : Thread nD τ).loc main_arg1)) shapeCasts_S1x1024_S1024) shapeCasts_S1024_S1x1024 : FVec Ideal S1x1024 .f32) := by
  show StableHlo.after hostOps0_4 (W4 m ρ c) (Proc.devRef .tc main_v16) = _
  entry_read
  rfl

theorem V5_v18 (c : Dev nD) : V5 m ρ c main_v18 = (shapeCast S1x1024 (shapeCast S1024 (m ((c : Thread nD τ).loc main_arg2)) shapeCasts_S1x1024_S1024) shapeCasts_S1024_S1x1024 : FVec Ideal S1x1024 .f32) := by
  show StableHlo.after hostOps0_4 (W4 m ρ c) (Proc.devRef .tc main_v18) = _
  entry_read
  rfl

theorem V7_v21 (c : Dev nD) : V7 m ρ c main_v21 = (shapeCast S1x1024 (shapeCast S1024 (m ((c : Thread nD τ).loc main_arg1)) shapeCasts_S1x1024_S1024) shapeCasts_S1024_S1x1024 : FVec Ideal S1x1024 .f32) := by
  show StableHlo.after hostOps1 (W6 m ρ c) (Proc.devRef .tc main_v21) = _
  rw [← W6_args m ρ c main_arg1 (by decide)]
  entry_read
  rfl

theorem V7_v23 (c : Dev nD) : V7 m ρ c main_v23 = (shapeCast S1x1024 (shapeCast S1024 (m ((c : Thread nD τ).loc main_arg2)) shapeCasts_S1x1024_S1024) shapeCasts_S1024_S1x1024 : FVec Ideal S1x1024 .f32) := by
  show StableHlo.after hostOps1 (W6 m ρ c) (Proc.devRef .tc main_v23) = _
  rw [← W6_args m ρ c main_arg2 (by decide)]
  entry_read
  rfl

theorem V7_of (c : Dev nD) (r : Ref sig .tc) (h : r ∉ hostOps1_W) (h' : ∀ w : Fin cfg0.W, Pipeline.arrRef spec0 w = r → (cfg0.win w).isOut = false) :
    V7 m ρ c r = V5 m ρ c r := (W7_of m ρ c r h).trans (W6_of m ρ c r h')

theorem V7_v1 (c : Dev nD) : V7 m ρ c main_v1 = V5 m ρ c main_v1 := V7_of m ρ c _ (by decide) (by decide)
theorem V7_v3 (c : Dev nD) : V7 m ρ c main_v3 = V5 m ρ c main_v3 := V7_of m ρ c _ (by decide) (by decide)
theorem V7_v9 (c : Dev nD) : V7 m ρ c main_v9 = V5 m ρ c main_v9 := V7_of m ρ c _ (by decide) (by decide)
theorem V7_v10 (c : Dev nD) : V7 m ρ c main_v10 = V5 m ρ c main_v10 := V7_of m ρ c _ (by decide) (by decide)
theorem V7_v14 (c : Dev nD) : V7 m ρ c main_v14 = V5 m ρ c main_v14 := V7_of m ρ c _ (by decide) (by decide)

theorem V7_v19_1 (c : Dev nD) : V7 m ρ c main_v19_1 = (dat0 (V5 m ρ) c).arrAt 6 cfg0.N :=
  (W7_of m ρ c _ (by decide)).trans (hF0 m ρ c 6).symm
theorem V7_v19_2 (c : Dev nD) : V7 m ρ c main_v19_2 = (dat0 (V5 m ρ) c).arrAt 7 cfg0.N :=
  (W7_of m ρ c _ (by decide)).trans (hF0 m ρ c 7).symm
theorem V7_v19_3 (c : Dev nD) : V7 m ρ c main_v19_3 = (dat0 (V5 m ρ) c).arrAt 8 cfg0.N :=
  (W7_of m ρ c _ (by decide)).trans (hF0 m ρ c 8).symm
theorem V7_v19_4 (c : Dev nD) : V7 m ρ c main_v19_4 = (dat0 (V5 m ρ) c).arrAt 9 cfg0.N :=
  (W7_of m ρ c _ (by decide)).trans (hF0 m ρ c 9).symm

/-- The run, its results named. -/
theorem run : θ_run defs (onTc (τ := τ) (main (F := Ideal))) ⟨m, fun _ => 0, ρ⟩ fun r => ∀ c : Dev nD,
      r.2.mem (c.tc.loc main_v24_0) = (dat1 (V7 m ρ) c).arrAt 11 cfg1.N
        ∧ r.2.mem (c.tc.loc main_v24_3) = (dat1 (V7 m ρ) c).arrAt 14 cfg1.N
        ∧ r.2.mem (c.tc.loc main_v24_4) = (dat1 (V7 m ρ) c).arrAt 15 cfg1.N
        ∧ r.2.mem (c.tc.loc main_v26) = maskOut ((dat1 (V7 m ρ) c).arrAt 12 cfg1.N)
        ∧ r.2.mem (c.tc.loc main_v29) = biasOut ((dat1 (V7 m ρ) c).arrAt 13 cfg1.N)
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6) :=
  (θ_run defs _ _).mono (fun r h c =>
    ⟨(h c _ (mem_uc main_v24_0 (by decide))).trans (W11_v24_0 m ρ c),
     (h c _ (mem_uc main_v24_3 (by decide))).trans (W11_v24_3 m ρ c),
     (h c _ (mem_uc main_v24_4 (by decide))).trans (W11_v24_4 m ρ c),
     (h c _ (mem_uc main_v26 (by decide))).trans (W11_v26 m ρ c),
     (h c _ (mem_uc main_v29 (by decide))).trans (W11_v29 m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c)⟩) (run_all m ρ)

end Cert.GmlpIdeal.Gen

end
-- ==== Proof.GmlpFwd.lean ====
/- The gated mixer's forward call: what its saved arrays hold. -/
module

public import proofs.«01_k».proof.Proof.GmlpMath
public import proofs.«01_k».proof.Proof.GmlpRun

@[expose] public section

set_option maxRecDepth 16384

noncomputable section

open Idealize.ShloMosaic Idealize.ShloMosaic.TcCoe Idealize.SL.Sem
open Idealize.ShloMosaic.Pipeline (Dat)
open Cert.Reals Cert.GmlpMath

namespace Cert.GmlpIdeal.Gen

open Cert.GmlpIdeal

theorem named_c : Named.named (F := Ideal) (φ := .f32) κ "c" 0x3D372713#32 = cubic :=
  (IdealRules.named_const.ideal_named_scalar _ _ _ _ rfl).trans cubic_eq.symm

theorem named_c3 : Named.named (F := Ideal) (φ := .f32) κ "c3" 0x3E095D4F#32 = ((26829 / 200000 : ℝ) : EReal) :=
  IdealRules.named_const.ideal_named_scalar _ _ _ _ rfl

/-- The gate of every element of a block, -/
theorem k0pay4_apply (b : Vec Ideal S128x2048 .bf16) (y : S128x2048.Idx) : k0_pay4 (F := Ideal) b y = gth (b y) := by
  pointwise [k0_pay4, k0_pay3, k0_pay2, named_c, gth]

theorem k0pay6_apply (b : Vec Ideal S128x2048 .bf16) (y : S128x2048.Idx) : k0_pay6 (F := Ideal) b y = gelu (b y) := by
  pointwise [k0_pay6, k0_pay5, k0_pay2, k0pay4_apply, gelu, gcdf]

/-- … its derivative, -/
theorem k0pay7_apply (b : Vec Ideal S128x2048 .bf16) (y : S128x2048.Idx) : k0_pay7 (F := Ideal) b y = dgelu (b y) := by
  pointwise [k0_pay7, k0_pay5, k0_pay3, k0_pay2, k0pay4_apply, named_c3, dgelu, gcdf]

/-- … the gate's half, -/
theorem k0pay8_apply (b : Vec Ideal S128x2048 .bf16) (y : S128x1024.Idx) : k0_pay8 (F := Ideal) b y = gelu (b (ix2 (y 0) ⟨(y 1).val, Nat.lt_trans (y 1).isLt (by decide)⟩)) := by
  pointwise [k0_pay8, k0pay6_apply]

/-- The other half's row. -/
def halfRow (b : Vec Ideal S128x2048 .bf16) (r : Fin 128) (k : Fin 1024) : EReal := gelu (b (ix2 r ⟨1024 + k.val, by omega⟩))

/-- … the other half less its mean, -/
theorem k0pay9_apply (b : Vec Ideal S128x2048 .bf16) (y : S128x1024.Idx) : k0_pay9 (F := Ideal) b y = centre (halfRow b (y 0)) (y 1) := by
  pointwise [k0_pay9, k0pay6_apply, centre, halfRow]

/-- … one over its deviation. -/
theorem k0pay11_apply (b : Vec Ideal S128x2048 .bf16) (y : S128x1.Idx) : k0_pay11 (F := Ideal) (k0_pay10 b) y = rs (centre (halfRow b (y 0))) := by
  pointwise [k0_pay11, k0_pay10, k0pay9_apply, rs, msq]

/-- The normalised half. -/
theorem k0pay12_apply (b : Vec Ideal S128x2048 .bf16) (y : S128x1024.Idx) : k0_pay12 (F := Ideal) (k0_pay9 b) (k0_pay10 b) y = centre (halfRow b (y 0)) (y 1) * rs (centre (halfRow b (y 0))) := by
  pointwise [k0_pay12, k0pay9_apply, k0pay11_apply]

/-- The whole block read back. -/
theorem whole_block (b : Vec Ideal S128x2048 .bf16) : (View.ld b r0_0 : Vec Ideal S128x2048 .bf16) = b :=
  View.ld_unit_zero (by decide) _ _

variable (m : (ℓ : Loc nD τ sig) → Buf (Elt Ideal) ℓ) (ρ : Dev nD → PrngReg) (c : Dev nD)

/-- The arguments by name. -/
abbrev kZ : FVec Ideal S8192x2048 .f32 := m ((c : Thread nD τ).loc main_arg0)
abbrev kG : FVec Ideal S1x1024 .f32 := m ((c : Thread nD τ).loc main_arg1)
abbrev kB : FVec Ideal S1x1024 .f32 := m ((c : Thread nD τ).loc main_arg2)
abbrev kW : FVec Ideal S1x8x128x128 .f32 := m ((c : Thread nD τ).loc main_arg3)
abbrev kS : FVec Ideal S1x8x128 .f32 := m ((c : Thread nD τ).loc main_arg4)
abbrev kP : FVec Ideal S1x1024x1024 .f32 := m ((c : Thread nD τ).loc main_arg5)
abbrev kD : FVec Ideal S8192x1024 .f32 := m ((c : Thread nD τ).loc main_arg6)

/-- Every window's block at every grid point. -/
theorem idx0 : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The rows a grid point reads. -/
theorem z_at (t : Fin cfg0.N) (y : S128x2048.Idx) (i : S8192x2048.Idx) (e0 : (i 0 : ℕ) = 128 * t.val + y 0) (e1 : (i 1 : ℕ) = y 1) :
    (iblk0 (V5 m ρ) c 0 t : Vec Ideal S128x2048 .bf16) y = kZ m c i := by
  blk_simp [iblk0]; rw [V5_v0]; blk_point [idx0 t]

theorem half_at (t : Fin cfg0.N) (y : Fin 128) (r : Fin 8192) (e0 : r.val = 128 * t.val + y.val) :
    halfRow (iblk0 (V5 m ρ) c 0 t : Vec Ideal S128x2048 .bf16) y = vin (kZ m c) r :=
  funext fun k => congrArg gelu (z_at m ρ c t (ix2 y _) (ix2 r _) e0 rfl)

/-- The gate's half. -/
theorem up_arr : (dat0 (V5 m ρ) c).arrAt 6 cfg0.N = fun i => up (kZ m c) (i 0) (i 1) := by
  refine (dat0 (V5 m ρ) c).arrAt_eq_of_covers 6 _ (by decide +kernel) fun t hf y => ?_
  blk_simp; rw [after0_6]; frame_out
  pointwise [k0_pay13, k0_pay20]
  rw [whole_block, k0pay8_apply]
  exact congrArg gelu (z_at m ρ c t _ _ (by blk_simp [idx0 t] <;> omega) (by blk_simp [idx0 t] <;> omega))

/-- The normalised half. -/
theorem vh_arr : (dat0 (V5 m ρ) c).arrAt 7 cfg0.N = fun i => vh (kZ m c) (i 0) (i 1) := by
  refine (dat0 (V5 m ρ) c).arrAt_eq_of_covers 7 _ (by decide +kernel) fun t hf y => ?_
  blk_simp; rw [after0_7]; frame_out
  pointwise [k0_pay14, k0_pay21, k0_pay22]
  rw [whole_block, k0pay12_apply]
  exact congrArg₂ (fun v j => centre v j * rs (centre v)) (half_at m ρ c t _ _ (by blk_simp [idx0 t] <;> omega)) (Fin.ext (by blk_simp [idx0 t] <;> omega))

/-- The gate's derivative. -/
theorem dg_arr : (dat0 (V5 m ρ) c).arrAt 8 cfg0.N = fun i => dgelu (kZ m c i) := by
  refine (dat0 (V5 m ρ) c).arrAt_eq_of_covers 8 _ (by decide +kernel) fun t hf y => ?_
  blk_simp; rw [after0_8]; frame_out
  rw [k0pay7_apply]
  exact congrArg dgelu (z_at m ρ c t _ _ (by blk_simp [idx0 t] <;> omega) (by blk_simp [idx0 t] <;> omega))

/-- One over the deviation, beside 128 columns. -/
theorem rs_arr : (dat0 (V5 m ρ) c).arrAt 9 cfg0.N = fun i => rs (cen (kZ m c) (i 0)) := by
  refine (dat0 (V5 m ρ) c).arrAt_eq_of_covers 9 _ (by decide +kernel) fun t hf y => ?_
  blk_simp; rw [after0_9]; frame_out
  pointwise [k0_pay15, k0_pay22]
  rw [whole_block, k0pay11_apply]
  exact congrArg (fun v => rs (centre v)) (half_at m ρ c t _ _ (by blk_simp [idx0 t] <;> omega))

end Cert.GmlpIdeal.Gen

end
-- ==== Proof.GmlpBwd.lean ====
/- The gated mixer's backward call: what each grid point stores and what the result arrays hold. -/
module

public import proofs.«01_k».proof.Proof.GmlpFwd

@[expose] public section

set_option maxRecDepth 16384

noncomputable section

open Idealize.ShloMosaic Idealize.ShloMosaic.TcCoe Idealize.SL.Sem
open Idealize.ShloMosaic.Pipeline (Dat)
open Cert.Reals Cert.GmlpMath

namespace Cert.GmlpIdeal.Gen

open Cert.GmlpIdeal
/-- Mixing weights against the rows of a block, group by group. -/
def mixed (w : Vec Ideal S8x128x128 .bf16) (v : FVec Ideal S128x1024 .bf16) (y : S128x1024.Idx) : EReal :=
  ∑ s : Fin 128, (w (ix3 ⟨(y 1).val / 128, by have : (y 1).val < 1024 := (y 1).isLt; omega⟩ (y 0) s) : EReal) * v (ix2 s (y 1))

/-- The forward call's mixing, as the call spells it, -/
def mixUp (w : Vec Ideal S8x128x128 .bf16) (v : FVec Ideal S128x1024 .bf16) : FVec Ideal S128x1024 .f32 :=
  k1_pay15 v (k1_pay14 (View.ld w (Rect.unit ![0, 0, 0] ![1, 128, 128] inb_S8x128x128_S1x128x128_0_0_0)))
    (View.ld w (Rect.unit ![1, 0, 0] ![1, 128, 128] inb_S8x128x128_S1x128x128_1_0_0))
    (View.ld w (Rect.unit ![2, 0, 0] ![1, 128, 128] inb_S8x128x128_S1x128x128_2_0_0))
    (View.ld w (Rect.unit ![3, 0, 0] ![1, 128, 128] inb_S8x128x128_S1x128x128_3_0_0))
    (View.ld w (Rect.unit ![4, 0, 0] ![1, 128, 128] inb_S8x128x128_S1x128x128_4_0_0))
    (View.ld w (Rect.unit ![5, 0, 0] ![1, 128, 128] inb_S8x128x128_S1x128x128_5_0_0))
    (View.ld w (Rect.unit ![6, 0, 0] ![1, 128, 128] inb_S8x128x128_S1x128x128_6_0_0))
    (View.ld w (Rect.unit ![7, 0, 0] ![1, 128, 128] inb_S8x128x128_S1x128x128_7_0_0))

/-- … and with the transposed weights. -/
def mixDown (w : Vec Ideal S8x128x128 .bf16) (v : FVec Ideal S128x1024 .bf16) : FVec Ideal S128x1024 .f32 :=
  k1_pay25 v
    (k1_pay17 v (View.ld w (Rect.unit ![0, 0, 0] ![1, 128, 128] inb_S8x128x128_S1x128x128_0_0_0)))
    (k1_pay18 v (View.ld w (Rect.unit ![1, 0, 0] ![1, 128, 128] inb_S8x128x128_S1x128x128_1_0_0)))
    (k1_pay19 v (View.ld w (Rect.unit ![2, 0, 0] ![1, 128, 128] inb_S8x128x128_S1x128x128_2_0_0)))
    (k1_pay20 v (View.ld w (Rect.unit ![3, 0, 0] ![1, 128, 128] inb_S8x128x128_S1x128x128_3_0_0)))
    (k1_pay21 v (View.ld w (Rect.unit ![4, 0, 0] ![1, 128, 128] inb_S8x128x128_S1x128x128_4_0_0)))
    (k1_pay22 v (View.ld w (Rect.unit ![5, 0, 0] ![1, 128, 128] inb_S8x128x128_S1x128x128_5_0_0)))
    (k1_pay23 (View.ld w (Rect.unit ![6, 0, 0] ![1, 128, 128] inb_S8x128x128_S1x128x128_6_0_0))) (k1_pay24 v) (constant S128x128 .f32 0x00000000#32) (View.ld w (Rect.unit ![7, 0, 0] ![1, 128, 128] inb_S8x128x128_S1x128x128_7_0_0))

theorem mixUp_apply (w : Vec Ideal S8x128x128 .bf16) (v : FVec Ideal S128x1024 .bf16) (y : S128x1024.Idx) : mixUp w v y = mixed w v y := by
  obtain ⟨r, j, rfl⟩ : ∃ (r : Fin 128) (j : Fin 1024), y = ix2 r j := ⟨y 0, y 1, eq_ix2 y⟩
  pointwise [mixUp, k1_pay15, k1_pay14, mixed]
  have hj := j.isLt
  split_ifs <;> exact Finset.sum_congr rfl fun s _ => congrArg₂ (fun a b : EReal => a * b)
    (congrArg (fun q => w (ix3 q r s)) (Fin.ext (by dsimp only; simp; omega))) (congrArg (fun q => v (ix2 s q)) (Fin.ext (by dsimp only; try omega)))

theorem mixDown_apply (w : Vec Ideal S8x128x128 .bf16) (v : FVec Ideal S128x1024 .bf16) (y : S128x1024.Idx) : mixDown w v y = mixed w v y := by
  obtain ⟨r, j, rfl⟩ : ∃ (r : Fin 128) (j : Fin 1024), y = ix2 r j := ⟨y 0, y 1, eq_ix2 y⟩
  pointwise [mixDown, k1_pay25, k1_pay24, k1_pay23, k1_pay22, k1_pay21, k1_pay20, k1_pay19, k1_pay18, k1_pay17, mixed]
  have hj := j.isLt
  split_ifs <;> exact Finset.sum_congr rfl fun s _ => congrArg₂ (fun a b : EReal => a * b)
    (congrArg (fun q => w (ix3 q r s)) (Fin.ext (by dsimp only; simp; omega))) (congrArg (fun q => v (ix2 s q)) (Fin.ext (by dsimp only; try omega)))

variable (m : (ℓ : Loc nD τ sig) → Buf (Elt Ideal) ℓ) (ρ : Dev nD → PrngReg) (c : Dev nD)

/-- Every window's block at every grid point. -/
theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![0, 0] ∧ win1_6.index t = ![0, 0]
    ∧ win1_7.index t = ![0, 0] ∧ win1_8.index t = ![0, 0, 0] ∧ win1_9.index t = ![0, 0, 0] ∧ win1_10.index t = ![0, 0]
    ∧ win1_11.index t = ![t.val, 0] ∧ win1_12.index t = ![0, 0, 0] ∧ win1_13.index t = ![0, 0] ∧ win1_14.index t = ![0, 0] ∧ win1_15.index t = ![0, 0] :=
  (by decide +kernel : ∀ t : Fin grid1.N, _)

/-- The host's layouts, read at one place. -/
theorem flat_weight (A : FVec Ideal S1x1024x1024 .f32) (j k : Fin 1024) :
    (truncf (F := Ideal) .bf16 (shapeCast S1024x1024 A shapeCasts_S1x1024x1024_S1024x1024) bitsLt_bf16_f32 (ix2 j k) : EReal) = A (ix3 0 j k) := by
  pointwise []

theorem flat_row (A : FVec Ideal S1x1024 .f32) (j : Fin 1024) :
    (shapeCast S1x1024 (shapeCast S1024 A shapeCasts_S1x1024_S1024) shapeCasts_S1024_S1x1024 (ix2 0 j) : EReal) = A (ix2 0 j) := by
  pointwise []

theorem flat_bias (A : FVec Ideal S1x8x128 .f32) (a : Fin 128) (j : Fin 1024) :
    (shapeCast S128x1024 (broadcastInDim S128x8x128 ![0, 1] bcast_S128x8_S128x8x128_0_1
      (transpose S128x8 [1, 0] (shapeCast S8x128 A shapeCasts_S1x8x128_S8x128) transposes_S8x128_S128x8_1_0)) shapeCasts_S128x8x128_S128x1024 (ix2 a j) : EReal)
      = A (ix3 0 (grp j) a) := by
  pointwise [grp]

/-- The triangle of the mixing weights. -/
theorem maskOut_apply (w : FVec Ideal S8x128x128 .f32) (q : Fin 8) (t s : Fin 128) : (maskOut w (ix3 q t s) : EReal) = if s.val ≤ t.val then w (ix3 q t s) else 0 := by
  refine Eq.trans ?_ (tri_select t s _)
  pointwise [maskOut, below]

theorem tri_at (t : Fin cfg1.N) (q : Fin 8) (a s : Fin 128) : ((iblk1 (V7 m ρ) c 8 t : Vec Ideal S8x128x128 .bf16) (ix3 q a s) : EReal) = tri (kW m c) q a s := by
  blk_simp [iblk1]; rw [V7_v9, V5_v9]
  refine Eq.trans (b := (maskOut (shapeCast S8x128x128 (kW m c) shapeCasts_S1x8x128x128_S8x128x128) (ix3 q a s) : EReal)) ?_ ?_
  · generalize maskOut (shapeCast S8x128x128 (kW m c) shapeCasts_S1x8x128x128_S8x128x128) = A
    blk_point [idx1 t]
  · rw [maskOut_apply]; unfold tri
    pointwise []

theorem triT_at (t : Fin cfg1.N) (q : Fin 8) (a s : Fin 128) : ((iblk1 (V7 m ρ) c 9 t : Vec Ideal S8x128x128 .bf16) (ix3 q a s) : EReal) = tri (kW m c) q s a := by
  blk_simp [iblk1]; rw [V7_v10, V5_v10, V5_v9]
  refine Eq.trans (b := (maskOut (shapeCast S8x128x128 (kW m c) shapeCasts_S1x8x128x128_S8x128x128) (ix3 q s a) : EReal)) ?_ ?_
  · generalize maskOut (shapeCast S8x128x128 (kW m c) shapeCasts_S1x8x128x128_S8x128x128) = A
    have e : (win1_9.blk t).view.emb (ix3 q a s) = ix3 q a s := by
      refine (eq_ix3 _).trans ?_
      congr 1 <;> exact Fin.ext (by blk_simp [idx1 t])
    refine (congrArg _ e).trans ?_
    pointwise []
  · rw [maskOut_apply]; unfold tri
    pointwise []

theorem u_at (t : Fin cfg1.N) (y : S128x1024.Idx) (r : Fin 8192) (j : Fin 1024) (e0 : r.val = 128 * t.val + y 0) (e1 : j.val = y 1) :
    ((iblk1 (V7 m ρ) c 0 t : Vec Ideal S128x1024 .bf16) y : EReal) = up (kZ m c) r j := by
  blk_simp [iblk1]; rw [V7_v19_1, up_arr]
  exact congrArg₂ (up (kZ m c)) (Fin.ext (by blk_simp [idx1 t] <;> omega)) (Fin.ext (by blk_simp [idx1 t] <;> omega))

theorem vh_at (t : Fin cfg1.N) (y : S128x1024.Idx) (r : Fin 8192) (j : Fin 1024) (e0 : r.val = 128 * t.val + y 0) (e1 : j.val = y 1) :
    ((iblk1 (V7 m ρ) c 1 t : Vec Ideal S128x1024 .bf16) y : EReal) = vh (kZ m c) r j := by
  blk_simp [iblk1]; rw [V7_v19_2, vh_arr]
  exact congrArg₂ (vh (kZ m c)) (Fin.ext (by blk_simp [idx1 t] <;> omega)) (Fin.ext (by blk_simp [idx1 t] <;> omega))

theorem dg_at (t : Fin cfg1.N) (y : S128x2048.Idx) (r : Fin 8192) (j : Fin 2048) (e0 : r.val = 128 * t.val + y 0) (e1 : j.val = y 1) :
    ((iblk1 (V7 m ρ) c 2 t : Vec Ideal S128x2048 .bf16) y : EReal) = dgelu (kZ m c (ix2 r j)) := by
  blk_simp [iblk1]; rw [V7_v19_3, dg_arr]
  refine (congrArg (fun i => dgelu (kZ m c i)) (eq_ix2 _)).trans ?_
  exact congrArg₂ (fun r j => dgelu (kZ m c (ix2 r j))) (Fin.ext (by blk_simp [idx1 t] <;> omega)) (Fin.ext (by blk_simp [idx1 t] <;> omega))

theorem rs_at (t : Fin cfg1.N) (y : S128x128.Idx) (r : Fin 8192) (e0 : r.val = 128 * t.val + y 0) :
    ((iblk1 (V7 m ρ) c 3 t : Vec Ideal S128x128 .f32) y : EReal) = rs (cen (kZ m c) r) := by
  blk_simp [iblk1]; rw [V7_v19_4, rs_arr]
  exact congrArg (fun r => rs (cen (kZ m c) r)) (Fin.ext (by blk_simp [idx1 t] <;> omega))

/-- The rows' cotangents through the output product, -/
theorem k1pay10_apply (d : Vec Ideal S128x1024 .bf16) (w : Vec Ideal S1024x1024 .bf16) (y : S128x1024.Idx) :
    k1_pay10 (F := Ideal) d w y = ∑ k : Fin 1024, (d (ix2 (y 0) k) : EReal) * w (ix2 (y 1) k) := by
  pointwise [k1_pay10]

theorem dy_at (t : Fin cfg1.N) (y : S128x1024.Idx) (r : Fin 8192) (j : Fin 1024) (e0 : r.val = 128 * t.val + y 0) (e1 : j.val = y 1) :
    (k1_pay10 (F := Ideal) (iblk1 (V7 m ρ) c 4 t) (iblk1 (V7 m ρ) c 5 t) y : EReal) = dy (kP m c) (kD m c) r j := by
  obtain ⟨a, b, rfl⟩ : ∃ (a : Fin 128) (b : Fin 1024), y = ix2 a b := ⟨y 0, y 1, eq_ix2 y⟩
  obtain rfl : j = b := Fin.ext e1
  have e0 : r.val = 128 * t.val + a.val := e0
  have h4 (k : Fin 1024) : ((iblk1 (V7 m ρ) c 4 t : Vec Ideal S128x1024 .bf16) (ix2 a k) : EReal) = kD m c (ix2 r k) := by
    blk_simp [iblk1]; rw [V7_v1, V5_v1]; blk_point [idx1 t] <;> omega
  have h5 (k : Fin 1024) : ((iblk1 (V7 m ρ) c 5 t : Vec Ideal S1024x1024 .bf16) (ix2 j k) : EReal) = kP m c (ix3 0 j k) := by
    blk_simp [iblk1]; rw [V7_v3, V5_v3]
    have e : (win1_5.blk t).view.emb (ix2 j k) = ix2 j k := by
      refine (eq_ix2 _).trans ?_
      congr 1 <;> exact Fin.ext (by blk_simp [idx1 t])
    exact (congrArg _ e).trans (flat_weight _ j k)
  exact (k1pay10_apply _ _ _).trans (Finset.sum_congr rfl fun k _ => congrArg₂ (fun a b : EReal => a * b) (h4 k) (h5 k))

theorem k1pay12_apply (u d : Vec Ideal S128x1024 .bf16) (w : Vec Ideal S1024x1024 .bf16) (y : S128x1024.Idx) :
    k1_pay12 (F := Ideal) u d w y = (k1_pay10 (F := Ideal) d w y : EReal) * u y := by
  pointwise [k1_pay12, k1_pay11]

theorem k1pay9_apply (v : Vec Ideal S128x1024 .bf16) (g b : Vec Ideal S1x1024 .f32) (y : S128x1024.Idx) :
    k1_pay9 (F := Ideal) v g b y = (v y : EReal) * g (ix2 0 (y 1)) + b (ix2 0 (y 1)) := by
  pointwise [k1_pay9, k1_pay7]

theorem dsv_at (t : Fin cfg1.N) (y : S128x1024.Idx) (r : Fin 8192) (j : Fin 1024) (e0 : r.val = 128 * t.val + y 0) (e1 : j.val = y 1) :
    (k1_pay12 (F := Ideal) (iblk1 (V7 m ρ) c 0 t) (iblk1 (V7 m ρ) c 4 t) (iblk1 (V7 m ρ) c 5 t) y : EReal) = dsv (kZ m c) (kP m c) (kD m c) r j :=
  (k1pay12_apply _ _ _ _).trans (congrArg₂ (fun a b : EReal => a * b) (dy_at m ρ c t y r j e0 e1) (u_at m ρ c t y r j e0 e1))

theorem g_at (t : Fin cfg1.N) (j : Fin 1024) : ((iblk1 (V7 m ρ) c 6 t : Vec Ideal S1x1024 .f32) (ix2 0 j) : EReal) = kG m c (ix2 0 j) := by
  blk_simp [iblk1]; rw [V7_v21]
  have e : (win1_6.blk t).view.emb (ix2 0 j) = ix2 0 j := by
    refine (eq_ix2 _).trans ?_
    congr 1 <;> exact Fin.ext (by blk_simp [idx1 t])
  exact (congrArg _ e).trans (flat_row _ j)

theorem b_at (t : Fin cfg1.N) (j : Fin 1024) : ((iblk1 (V7 m ρ) c 7 t : Vec Ideal S1x1024 .f32) (ix2 0 j) : EReal) = kB m c (ix2 0 j) := by
  blk_simp [iblk1]; rw [V7_v23]
  have e : (win1_7.blk t).view.emb (ix2 0 j) = ix2 0 j := by
    refine (eq_ix2 _).trans ?_
    congr 1 <;> exact Fin.ext (by blk_simp [idx1 t])
  exact (congrArg _ e).trans (flat_row _ j)

theorem vn_at (t : Fin cfg1.N) (y : S128x1024.Idx) (r : Fin 8192) (j : Fin 1024) (e0 : r.val = 128 * t.val + y 0) (e1 : j.val = y 1) :
    (k1_pay9 (F := Ideal) (iblk1 (V7 m ρ) c 1 t) (iblk1 (V7 m ρ) c 6 t) (iblk1 (V7 m ρ) c 7 t) y : EReal) = vn (kZ m c) (kG m c) (kB m c) r j := by
  obtain ⟨a, b, rfl⟩ : ∃ (a : Fin 128) (b : Fin 1024), y = ix2 a b := ⟨y 0, y 1, eq_ix2 y⟩
  obtain rfl : j = b := Fin.ext e1
  exact (k1pay9_apply _ _ _ _).trans (congrArg₂ (fun x y : EReal => x + y)
    (congrArg₂ (fun x y : EReal => x * y) (vh_at m ρ c t _ r j e0 e1) (g_at m ρ c t j)) (b_at m ρ c t j))

theorem bias_at (t : Fin cfg1.N) (a : Fin 128) (j : Fin 1024) :
    ((iblk1 (V7 m ρ) c 10 t : Vec Ideal S128x1024 .f32) (ix2 a j) : EReal) = kS m c (ix3 0 (grp j) a) := by
  blk_simp [iblk1]; rw [V7_v14, V5_v14]
  have e : (win1_10.blk t).view.emb (ix2 a j) = ix2 a j := by
    refine (eq_ix2 _).trans ?_
    congr 1 <;> exact Fin.ext (by blk_simp [idx1 t])
  exact (congrArg _ e).trans (flat_bias _ a j)

/-- The mixed rows and their bias, -/
theorem sv_at (t : Fin cfg1.N) (y : S128x1024.Idx) (r : Fin 8192) (j : Fin 1024) (e0 : r.val = 128 * t.val + y 0) (e1 : j.val = y 1) :
    ((mixUp (iblk1 (V7 m ρ) c 8 t) (k1_pay9 (F := Ideal) (iblk1 (V7 m ρ) c 1 t) (iblk1 (V7 m ρ) c 6 t) (iblk1 (V7 m ρ) c 7 t)) y : EReal)
      + (iblk1 (V7 m ρ) c 10 t : Vec Ideal S128x1024 .f32) y : EReal) = sv (kZ m c) (kG m c) (kB m c) (kW m c) (kS m c) r j := by
  obtain ⟨a, b, rfl⟩ : ∃ (a : Fin 128) (b : Fin 1024), y = ix2 a b := ⟨y 0, y 1, eq_ix2 y⟩
  obtain rfl : j = b := Fin.ext e1
  have e0 : r.val = 128 * t.val + a.val := e0
  obtain rfl : place r = a := Fin.ext (by unfold place; simp only; omega)
  refine congrArg₂ (fun x y : EReal => x + y) ((mixUp_apply _ _ _).trans ?_) (bias_at m ρ c t _ j)
  refine Finset.sum_congr rfl fun s _ => congrArg₂ (fun x y : EReal => x * y) (tri_at m ρ c t (grp j) (place r) s) (vn_at m ρ c t _ _ _ ?_ rfl)
  show r.val / 128 * 128 + s.val = 128 * t.val + s.val
  omega

/-- … and the cotangents carried back through the mixing. -/
theorem dvn_at (t : Fin cfg1.N) (y : S128x1024.Idx) (r : Fin 8192) (j : Fin 1024) (e0 : r.val = 128 * t.val + y 0) (e1 : j.val = y 1) :
    (mixDown (iblk1 (V7 m ρ) c 9 t) (k1_pay12 (F := Ideal) (iblk1 (V7 m ρ) c 0 t) (iblk1 (V7 m ρ) c 4 t) (iblk1 (V7 m ρ) c 5 t)) y : EReal)
      = dvn (kZ m c) (kW m c) (kP m c) (kD m c) r j := by
  obtain ⟨a, b, rfl⟩ : ∃ (a : Fin 128) (b : Fin 1024), y = ix2 a b := ⟨y 0, y 1, eq_ix2 y⟩
  obtain rfl : j = b := Fin.ext e1
  have e0 : r.val = 128 * t.val + a.val := e0
  obtain rfl : place r = a := Fin.ext (by unfold place; simp only; omega)
  refine (mixDown_apply _ _ _).trans ?_
  refine Finset.sum_congr rfl fun s _ => congrArg₂ (fun x y : EReal => x * y) (triT_at m ρ c t (grp j) (place r) s) (dsv_at m ρ c t _ _ _ ?_ rfl)
  show r.val / 128 * 128 + s.val = 128 * t.val + s.val
  omega

end Cert.GmlpIdeal.Gen

end
-- ==== Proof.GmlpGrad.lean ====
/- The gated mixer's backward call: what its result arrays hold. -/
module

public import proofs.«01_k».proof.Proof.GmlpBwd
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Reals Cert.GmlpMath

namespace Cert.GmlpIdeal.Gen

open Cert.GmlpIdeal

theorem k1pay1_apply (a : FVec Ideal S128x1024 .f32) (d : Vec Ideal S128x1024 .bf16) (y : S128x1024.Idx) :
    k1_pay1 (F := Ideal) a d y = (a y : EReal) * d y := by
  pointwise [k1_pay1]

theorem k1pay37_apply (d w : FVec Ideal S128x1024 .f32) (x : Vec Ideal S128x1024 .f32) (y : S128x1024.Idx) :
    k1_pay37 (F := Ideal) d (k1_pay16 (F := Ideal) w x) y = (d y : EReal) * (w y + x y) := by
  pointwise [k1_pay37, k1_pay16]

theorem k1pay40_apply (w : FVec Ideal S128x1024 .f32) (g : Vec Ideal S1x1024 .f32) (y : S128x1024.Idx) :
    k1_pay40 (F := Ideal) w g y = (w y : EReal) * g (ix2 0 (y 1)) := by
  pointwise [k1_pay40]

theorem k1pay2_apply (x : Vec Ideal S128x1024 .bf16) (r : Vec Ideal S128x1 .f32) (w : FVec Ideal S128x1024 .f32) (g : Vec Ideal S1x1024 .f32) (d : Vec Ideal S128x1024 .bf16) (y : S128x1024.Idx) :
    k1_pay2 (F := Ideal) (k1_pay7 x) (k1_pay8 r) (k1_pay40 w g) (k1_pay41 w g) d y
      = (r (ix2 (y 0) 0) : EReal) * ((w y * g (ix2 0 (y 1)) : EReal) - Ideal.div (∑ k : Fin 1024, (w (ix2 (y 0) k) : EReal) * g (ix2 0 k)) (Ideal.ofBits .f32 0x44800000#32)
        - x y * Ideal.div (∑ k : Fin 1024, ((w (ix2 (y 0) k) : EReal) * g (ix2 0 k)) * x (ix2 (y 0) k)) (Ideal.ofBits .f32 0x44800000#32)) * d y := by
  pointwise [k1_pay2, k1_pay7, k1_pay8, k1_pay40, k1_pay41]

theorem k1pay38_apply (x : Vec Ideal S128x1024 .bf16) (w : FVec Ideal S128x1024 .f32) (b : Vec Ideal S1x1024 .f32) (y : S1x1024.Idx) :
    k1_pay38 (F := Ideal) (k1_pay7 x) w b y = (b y : EReal) + ∑ k : Fin 128, (w (ix2 k (y 1)) : EReal) * x (ix2 k (y 1)) := by
  pointwise [k1_pay38, k1_pay7]

theorem k1pay39_apply (w : FVec Ideal S128x1024 .f32) (b : Vec Ideal S1x1024 .f32) (y : S1x1024.Idx) :
    k1_pay39 (F := Ideal) w b y = (b y : EReal) + ∑ k : Fin 128, (w (ix2 k (y 1)) : EReal) := by
  pointwise [k1_pay39]

theorem k1pay13_apply (u d : Vec Ideal S128x1024 .bf16) (w : Vec Ideal S1024x1024 .bf16) (b : Vec Ideal S128x1024 .f32) (y : S128x1024.Idx) :
    k1_pay13 (F := Ideal) u d w b y = (b y : EReal) + k1_pay12 (F := Ideal) u d w y := by
  pointwise [k1_pay13, k1_pay12]

/-- Reading one half of a row, -/
theorem ld_left (b : Vec Ideal S128x2048 .bf16) (y : S128x1024.Idx) :
    (View.ld b (Rect.unit ![0, 0] ![128, 1024] inb_S128x2048_S128x1024_0_0) y : EReal) = b (ix2 (y 0) ⟨(y 1).val, lt_trans (y 1).isLt (by decide)⟩) := by
  refine congrArg b ((eq_ix2 _).trans ?_)
  refine congrArg₂ ix2 (Fin.ext ?_) (Fin.ext ?_)
  · show 0 + 1 * (y 0).val = (y 0).val
    omega
  · show 0 + 1 * (y 1).val = (y 1).val
    omega

theorem ld_right (b : Vec Ideal S128x2048 .bf16) (y : S128x1024.Idx) :
    (View.ld b (Rect.unit ![0, 1024] ![128, 1024] inb_S128x2048_S128x1024_0_1024) y : EReal) = b (ix2 (y 0) ⟨1024 + (y 1).val, Nat.add_lt_add_left (y 1).isLt 1024⟩) := by
  refine congrArg b ((eq_ix2 _).trans ?_)
  refine congrArg₂ ix2 (Fin.ext ?_) (Fin.ext ?_)
  · show 0 + 1 * (y 0).val = (y 0).val
    omega
  · show 1024 + 1 * (y 1).val = 1024 + (y 1).val
    omega

/-- … and the reciprocal kept in the first column. -/
theorem ld_first (b : Vec Ideal S128x128 .f32) (y : Fin 128) :
    (View.ld b (Rect.unit ![0, 0] ![128, 1] inb_S128x128_S128x1_0_0) (ix2 y 0) : EReal) = b (ix2 y 0) := by
  refine congrArg b ((eq_ix2 _).trans ?_)
  refine congrArg₂ ix2 (Fin.ext ?_) (Fin.ext ?_)
  · show 0 + 1 * y.val = y.val
    omega
  · rfl

/-- One slab's accumulation. -/
def slab (q : Fin 8) (v d : FVec Ideal S128x1024 .bf16) (x : S1x128x128.Idx) : EReal :=
  ∑ k : Fin 128, (d (ix2 (x 1) (colOf q k)) : EReal) * v (ix2 (x 2) (colOf q k))

theorem slab0 (v d : FVec Ideal S128x1024 .bf16) (p : Vec Ideal S1x128x128 .f32) (x : S1x128x128.Idx) : k1_pay26 (F := Ideal) v d p x = (p x : EReal) + slab 0 v d x := by
  obtain ⟨o, a, b, rfl⟩ : ∃ (o : Fin 1) (a b : Fin 128), x = ix3 o a b := ⟨x 0, x 1, x 2, eq_ix3 x⟩
  obtain rfl : o = 0 := Subsingleton.elim _ _
  pointwise [k1_pay26, slab, colOf]

theorem slab1 (v d : FVec Ideal S128x1024 .bf16) (p : Vec Ideal S1x128x128 .f32) (x : S1x128x128.Idx) : k1_pay27 (F := Ideal) v d p x = (p x : EReal) + slab 1 v d x := by
  obtain ⟨o, a, b, rfl⟩ : ∃ (o : Fin 1) (a b : Fin 128), x = ix3 o a b := ⟨x 0, x 1, x 2, eq_ix3 x⟩
  obtain rfl : o = 0 := Subsingleton.elim _ _
  pointwise [k1_pay27, slab, colOf]

theorem slab2 (v d : FVec Ideal S128x1024 .bf16) (p : Vec Ideal S1x128x128 .f32) (x : S1x128x128.Idx) : k1_pay28 (F := Ideal) v d p x = (p x : EReal) + slab 2 v d x := by
  obtain ⟨o, a, b, rfl⟩ : ∃ (o : Fin 1) (a b : Fin 128), x = ix3 o a b := ⟨x 0, x 1, x 2, eq_ix3 x⟩
  obtain rfl : o = 0 := Subsingleton.elim _ _
  pointwise [k1_pay28, slab, colOf]

theorem slab3 (v d : FVec Ideal S128x1024 .bf16) (p : Vec Ideal S1x128x128 .f32) (x : S1x128x128.Idx) : k1_pay29 (F := Ideal) v d p x = (p x : EReal) + slab 3 v d x := by
  obtain ⟨o, a, b, rfl⟩ : ∃ (o : Fin 1) (a b : Fin 128), x = ix3 o a b := ⟨x 0, x 1, x 2, eq_ix3 x⟩
  obtain rfl : o = 0 := Subsingleton.elim _ _
  pointwise [k1_pay29, slab, colOf]

theorem slab4 (v d : FVec Ideal S128x1024 .bf16) (p : Vec Ideal S1x128x128 .f32) (x : S1x128x128.Idx) : k1_pay30 (F := Ideal) v d p x = (p x : EReal) + slab 4 v d x := by
  obtain ⟨o, a, b, rfl⟩ : ∃ (o : Fin 1) (a b : Fin 128), x = ix3 o a b := ⟨x 0, x 1, x 2, eq_ix3 x⟩
  obtain rfl : o = 0 := Subsingleton.elim _ _
  pointwise [k1_pay30, slab, colOf]

theorem slab5 (v d : FVec Ideal S128x1024 .bf16) (p : Vec Ideal S1x128x128 .f32) (x : S1x128x128.Idx) : k1_pay31 (F := Ideal) v d p x = (p x : EReal) + slab 5 v d x := by
  obtain ⟨o, a, b, rfl⟩ : ∃ (o : Fin 1) (a b : Fin 128), x = ix3 o a b := ⟨x 0, x 1, x 2, eq_ix3 x⟩
  obtain rfl : o = 0 := Subsingleton.elim _ _
  pointwise [k1_pay31, slab, colOf]

theorem slab7 (v d : FVec Ideal S128x1024 .bf16) (p : Vec Ideal S1x128x128 .f32) (x : S1x128x128.Idx) : k1_pay36 (F := Ideal) v d p x = (p x : EReal) + slab 7 v d x := by
  obtain ⟨o, a, b, rfl⟩ : ∃ (o : Fin 1) (a b : Fin 128), x = ix3 o a b := ⟨x 0, x 1, x 2, eq_ix3 x⟩
  obtain rfl : o = 0 := Subsingleton.elim _ _
  pointwise [k1_pay36, slab, colOf]

theorem slab6 (v d : FVec Ideal S128x1024 .bf16) (p : Vec Ideal S1x128x128 .f32) (x : S1x128x128.Idx) :
    k1_pay35 (F := Ideal) (k1_pay32 p) (k1_pay33 d) (k1_pay34 v) (constant S128x128 .f32 0x00000000#32) x = (p x : EReal) + slab 6 v d x := by
  obtain ⟨o, a, b, rfl⟩ : ∃ (o : Fin 1) (a b : Fin 128), x = ix3 o a b := ⟨x 0, x 1, x 2, eq_ix3 x⟩
  obtain rfl : o = 0 := Subsingleton.elim _ _
  pointwise [k1_pay35, k1_pay32, k1_pay33, k1_pay34, slab, colOf]

theorem ld_slab (q : ℕ) (inb : ∀ a : Fin 3, (![q, 0, 0] : Fin 3 → ℕ) a + (![1, 128, 128] : Fin 3 → ℕ) a ≤ S8x128x128.size a) (Y : Vec Ideal S8x128x128 .f32)
    (x : S1x128x128.Idx) (j : S8x128x128.Idx) (h0 : (j 0).val = q + (x 0).val) (h1 : (j 1).val = (x 1).val) (h2 : (j 2).val = (x 2).val) :
    (View.ld Y (Rect.unit ![q, 0, 0] ![1, 128, 128] inb) x : EReal) = Y j := by
  refine congrArg Y (funext fun a => Fin.ext ?_)
  match a with
  | ⟨0, _⟩ => show q + 1 * (x 0).val = (j 0).val; omega
  | ⟨1, _⟩ => show 0 + 1 * (x 1).val = (j 1).val; omega
  | ⟨2, _⟩ => show 0 + 1 * (x 2).val = (j 2).val; omega

theorem zeroW (y : S8x128x128.Idx) : (k1_pay3 (F := Ideal) y : EReal) = 0 := by
  pointwise [k1_pay3]

variable (m : (ℓ : Loc nD τ sig) → Buf (Elt Ideal) ℓ) (ρ : Dev nD → PrngReg) (c : Dev nD)

/-- The left half a point stores, -/
theorem left_at (t : Fin cfg1.N) (y : S128x1024.Idx) (r : Fin 8192) (j : Fin 2048) (e0 : r.val = 128 * t.val + y 0) (e1 : j.val = y 1) :
    (k1_pay1 (F := Ideal) (k1_pay37 (k1_pay10 (iblk1 (V7 m ρ) c 4 t) (iblk1 (V7 m ρ) c 5 t))
        (k1_pay16 (mixUp (iblk1 (V7 m ρ) c 8 t) (k1_pay9 (iblk1 (V7 m ρ) c 1 t) (iblk1 (V7 m ρ) c 6 t) (iblk1 (V7 m ρ) c 7 t))) (iblk1 (V7 m ρ) c 10 t)))
      (View.ld (iblk1 (V7 m ρ) c 2 t) (Rect.unit ![0, 0] ![128, 1024] inb_S128x2048_S128x1024_0_0)) y : EReal)
      = dz (kZ m c) (kG m c) (kB m c) (kW m c) (kS m c) (kP m c) (kD m c) (ix2 r j) := by
  have hj : j.val < 1024 := e1 ▸ (y 1).isLt
  rw [dz_left _ _ _ _ _ _ _ r j hj]
  refine (k1pay1_apply _ _ _).trans (congrArg₂ (fun x y : EReal => x * y) ((k1pay37_apply _ _ _ _).trans
    (congrArg₂ (fun x y : EReal => x * y) (dy_at m ρ c t y r ⟨j.val, hj⟩ e0 e1) (sv_at m ρ c t y r ⟨j.val, hj⟩ e0 e1))) ?_)
  exact (ld_left _ _).trans (dg_at m ρ c t _ r _ e0 e1)

/-- … and the right half. -/
theorem right_at (t : Fin cfg1.N) (y : S128x1024.Idx) (r : Fin 8192) (j : Fin 2048) (e0 : r.val = 128 * t.val + y 0) (e1 : j.val = 1024 + y 1) :
    (k1_pay2 (F := Ideal) (k1_pay7 (iblk1 (V7 m ρ) c 1 t)) (k1_pay8 (View.ld (iblk1 (V7 m ρ) c 3 t) (Rect.unit ![0, 0] ![128, 1] inb_S128x128_S128x1_0_0)))
        (k1_pay40 (mixDown (iblk1 (V7 m ρ) c 9 t) (k1_pay12 (iblk1 (V7 m ρ) c 0 t) (iblk1 (V7 m ρ) c 4 t) (iblk1 (V7 m ρ) c 5 t))) (iblk1 (V7 m ρ) c 6 t))
        (k1_pay41 (mixDown (iblk1 (V7 m ρ) c 9 t) (k1_pay12 (iblk1 (V7 m ρ) c 0 t) (iblk1 (V7 m ρ) c 4 t) (iblk1 (V7 m ρ) c 5 t))) (iblk1 (V7 m ρ) c 6 t))
        (View.ld (iblk1 (V7 m ρ) c 2 t) (Rect.unit ![0, 1024] ![128, 1024] inb_S128x2048_S128x1024_0_1024)) y : EReal)
      = dz (kZ m c) (kG m c) (kB m c) (kW m c) (kS m c) (kP m c) (kD m c) (ix2 r j) := by
  obtain ⟨a, b, rfl⟩ : ∃ (a : Fin 128) (b : Fin 1024), y = ix2 a b := ⟨y 0, y 1, eq_ix2 y⟩
  have e0 : r.val = 128 * t.val + a.val := e0
  have e1 : j.val = 1024 + b.val := e1
  have hj : ¬j.val < 1024 := by omega
  have hb : b = ⟨j.val - 1024, by omega⟩ := Fin.ext (by simp only; omega)
  rw [dz_right _ _ _ _ _ _ _ r j hj (by omega), ← hb]
  have ht (k : Fin 1024) : ((mixDown (iblk1 (V7 m ρ) c 9 t) (k1_pay12 (F := Ideal) (iblk1 (V7 m ρ) c 0 t) (iblk1 (V7 m ρ) c 4 t) (iblk1 (V7 m ρ) c 5 t)) (ix2 a k) : EReal)
      * (iblk1 (V7 m ρ) c 6 t : Vec Ideal S1x1024 .f32) (ix2 0 k) : EReal) = dvh (kZ m c) (kG m c) (kW m c) (kP m c) (kD m c) r k :=
    congrArg₂ (fun x y : EReal => x * y) (dvn_at m ρ c t (ix2 a k) r k e0 rfl) (g_at m ρ c t k)
  have hx (k : Fin 1024) : ((iblk1 (V7 m ρ) c 1 t : Vec Ideal S128x1024 .bf16) (ix2 a k) : EReal) = vh (kZ m c) r k := vh_at m ρ c t (ix2 a k) r k e0 rfl
  refine (k1pay2_apply _ _ _ _ _ _).trans (congrArg₂ (fun x y : EReal => x * y) (congrArg₂ (fun x y : EReal => x * y) ?_
    (congrArg₂ (fun x y : EReal => x - y) (congrArg₂ (fun x y : EReal => x - y) (ht b)
        (congrArg (fun s => Ideal.div s (Ideal.ofBits .f32 0x44800000#32)) (Finset.sum_congr rfl fun k _ => ht k)))
      (congrArg₂ (fun x y : EReal => x * y) (hx b)
        (congrArg (fun s => Ideal.div s (Ideal.ofBits .f32 0x44800000#32)) (Finset.sum_congr rfl fun k _ => congrArg₂ (fun x y : EReal => x * y) (ht k) (hx k)))))) ?_)
  · exact (ld_first _ a).trans (rs_at m ρ c t _ r e0)
  · exact (ld_right _ _).trans (dg_at m ρ c t _ r _ e0 (rfl))

/-- The gradient of the branch's input. -/
theorem dz_arr : (dat1 (V7 m ρ) c).arrAt 11 cfg1.N = dz (kZ m c) (kG m c) (kB m c) (kW m c) (kS m c) (kP m c) (kD m c) := by
  refine (dat1 (V7 m ρ) c).arrAt_eq_of_covers 11 _ (by decide +kernel) fun t hf y => ?_
  blk_simp; rw [after1_11]
  by_cases h : t.val % 64 = 0
  · rw [outsAt1_A (V7 m ρ) c t h]; frame_out
    canon_tiles x hx
    all_goals refine Eq.trans ?_ (congrArg _ (eq_ix2 _)).symm
    · exact right_at m ρ c t x _ _ (by blk_simp [idx1 t] <;> omega) (by blk_simp [idx1 t] <;> omega)
    · exact left_at m ρ c t x _ _ (by blk_simp [idx1 t] <;> omega) (by blk_simp [idx1 t] <;> omega)
  · rw [outsAt1_B (V7 m ρ) c t h]; frame_out
    canon_tiles x hx
    all_goals refine Eq.trans ?_ (congrArg _ (eq_ix2 _)).symm
    · exact right_at m ρ c t x _ _ (by blk_simp [idx1 t] <;> omega) (by blk_simp [idx1 t] <;> omega)
    · exact left_at m ρ c t x _ _ (by blk_simp [idx1 t] <;> omega) (by blk_simp [idx1 t] <;> omega)

/-- One point's share of the scale's gradient, -/
def shareG (t : Fin cfg1.N) (y : S1x1024.Idx) : EReal :=
  ∑ k : Fin 128, dvn (kZ m c) (kW m c) (kP m c) (kD m c) (rowOf ⟨t.val, lt_of_lt_of_eq t.isLt N_1⟩ k) (y 1) * vh (kZ m c) (rowOf ⟨t.val, lt_of_lt_of_eq t.isLt N_1⟩ k) (y 1)

theorem shareG_at (t : Fin cfg1.N) (b : Vec Ideal S1x1024 .f32) (y : S1x1024.Idx) :
    (k1_pay38 (F := Ideal) (k1_pay7 (iblk1 (V7 m ρ) c 1 t)) (mixDown (iblk1 (V7 m ρ) c 9 t) (k1_pay12 (iblk1 (V7 m ρ) c 0 t) (iblk1 (V7 m ρ) c 4 t) (iblk1 (V7 m ρ) c 5 t))) b y : EReal)
      = (b y : EReal) + shareG m c t y := by
  refine (k1pay38_apply _ _ _ _).trans (congrArg (fun s : EReal => (b y : EReal) + s) ?_)
  refine Finset.sum_congr rfl fun k _ => congrArg₂ (fun x y : EReal => x * y) (dvn_at m ρ c t _ _ _ ?_ rfl) (vh_at m ρ c t _ _ _ ?_ rfl)
  all_goals
    show t.val * 128 + k.val = 128 * t.val + k.val
    omega

theorem zeroG (y : S1x1024.Idx) : (k1_pay5 (F := Ideal) y : EReal) = 0 := by
  pointwise [k1_pay5]

theorem lng_arr : (dat1 (V7 m ρ) c).arrAt 14 cfg1.N = dlng (kZ m c) (kW m c) (kP m c) (kD m c) := by
  refine (dat1 (V7 m ρ) c).arrAt_eq_of_covers 14 _ (by decide +kernel) fun t hf y => ?_
  blk_simp; rw [after1_14]
  rw [Pipeline.eq_sum_fin_of_reset_step_apply_of_flush (fun n h => (outsAt1 (V7 m ρ) c n h).2.2.2.1) 64 (fun _ => 0) (fun t y => shareG m c t y)
    (fun t h j => by rw [outsAt1_A (V7 m ρ) c t h]; frame_out; refine (shareG_at m ρ c t _ j).trans ?_; rw [zeroG])
    (fun t h j => by rw [outsAt1_B (V7 m ρ) c t h]; frame_out; exact shareG_at m ρ c t _ j) t ((flush1_14 t).mp hf) _, zero_add]
  have ht : t.val < 64 := lt_of_lt_of_eq t.isLt N_1
  have e : ((win1_14.blk t).view.emb y) 1 = y 1 := Fin.ext (by blk_simp [idx1 t])
  show (_ : EReal) = ∑ r : Fin 8192, dvn (kZ m c) (kW m c) (kP m c) (kD m c) r (((win1_14.blk t).view.emb y) 1) * vh (kZ m c) r (((win1_14.blk t).view.emb y) 1)
  rw [e]
  refine Fin.sum_mul_add_congr fun s k hl => ?_
  have e : rowOf ⟨64 * (t.val / 64) + s.val, by omega⟩ k = ⟨s.val * 128 + k.val, hl⟩ := Fin.ext (by unfold rowOf; simp only; omega)
  show (dvn (kZ m c) (kW m c) (kP m c) (kD m c) (rowOf ⟨64 * (t.val / 64) + s.val, _⟩ k) _ : EReal) * vh (kZ m c) (rowOf ⟨64 * (t.val / 64) + s.val, _⟩ k) _ = _
  rw [e]

/-- One point's share of the shift's gradient, -/
def shareB (t : Fin cfg1.N) (y : S1x1024.Idx) : EReal :=
  ∑ k : Fin 128, dvn (kZ m c) (kW m c) (kP m c) (kD m c) (rowOf ⟨t.val, lt_of_lt_of_eq t.isLt N_1⟩ k) (y 1)

theorem shareB_at (t : Fin cfg1.N) (b : Vec Ideal S1x1024 .f32) (y : S1x1024.Idx) :
    (k1_pay39 (F := Ideal) (mixDown (iblk1 (V7 m ρ) c 9 t) (k1_pay12 (iblk1 (V7 m ρ) c 0 t) (iblk1 (V7 m ρ) c 4 t) (iblk1 (V7 m ρ) c 5 t))) b y : EReal)
      = (b y : EReal) + shareB m c t y := by
  refine (k1pay39_apply _ _ _).trans (congrArg (fun s : EReal => (b y : EReal) + s) ?_)
  refine Finset.sum_congr rfl fun k _ => dvn_at m ρ c t _ _ _ ?_ rfl
  show t.val * 128 + k.val = 128 * t.val + k.val
  omega

theorem zeroB (y : S1x1024.Idx) : (k1_pay6 (F := Ideal) y : EReal) = 0 := by
  pointwise [k1_pay6]

theorem lnb_arr : (dat1 (V7 m ρ) c).arrAt 15 cfg1.N = dlnb (kZ m c) (kW m c) (kP m c) (kD m c) := by
  refine (dat1 (V7 m ρ) c).arrAt_eq_of_covers 15 _ (by decide +kernel) fun t hf y => ?_
  blk_simp; rw [after1_15]
  rw [Pipeline.eq_sum_fin_of_reset_step_apply_of_flush (fun n h => (outsAt1 (V7 m ρ) c n h).2.2.2.2) 64 (fun _ => 0) (fun t y => shareB m c t y)
    (fun t h j => by rw [outsAt1_A (V7 m ρ) c t h]; frame_out; refine (shareB_at m ρ c t _ j).trans ?_; rw [zeroB])
    (fun t h j => by rw [outsAt1_B (V7 m ρ) c t h]; frame_out; exact shareB_at m ρ c t _ j) t ((flush1_15 t).mp hf) _, zero_add]
  have ht : t.val < 64 := lt_of_lt_of_eq t.isLt N_1
  have e : ((win1_15.blk t).view.emb y) 1 = y 1 := Fin.ext (by blk_simp [idx1 t])
  show (_ : EReal) = ∑ r : Fin 8192, dvn (kZ m c) (kW m c) (kP m c) (kD m c) r (((win1_15.blk t).view.emb y) 1)
  rw [e]
  refine Fin.sum_mul_add_congr fun s k hl => ?_
  have e : rowOf ⟨64 * (t.val / 64) + s.val, by omega⟩ k = ⟨s.val * 128 + k.val, hl⟩ := Fin.ext (by unfold rowOf; simp only; omega)
  show (dvn (kZ m c) (kW m c) (kP m c) (kD m c) (rowOf ⟨64 * (t.val / 64) + s.val, _⟩ k) _ : EReal) = _
  rw [e]

/-- One point's share of the mixing bias' gradient, place by place and column by column, -/
def shareS (t : Fin cfg1.N) (y : S128x1024.Idx) : EReal := dsv (kZ m c) (kP m c) (kD m c) (rowOf ⟨t.val, lt_of_lt_of_eq t.isLt N_1⟩ (y 0)) (y 1)

theorem shareS_at (t : Fin cfg1.N) (b : Vec Ideal S128x1024 .f32) (y : S128x1024.Idx) :
    (k1_pay13 (F := Ideal) (iblk1 (V7 m ρ) c 0 t) (iblk1 (V7 m ρ) c 4 t) (iblk1 (V7 m ρ) c 5 t) b y : EReal) = (b y : EReal) + shareS m c t y := by
  refine (k1pay13_apply _ _ _ _ _).trans (congrArg (fun s : EReal => (b y : EReal) + s) (dsv_at m ρ c t _ _ _ ?_ rfl))
  show t.val * 128 + (y 0).val = 128 * t.val + (y 0).val
  omega

theorem zeroS (y : S128x1024.Idx) : (k1_pay4 (F := Ideal) y : EReal) = 0 := by
  pointwise [k1_pay4]

theorem bias_arr : (dat1 (V7 m ρ) c).arrAt 13 cfg1.N
    = (fun i => ∑ n : Fin 64, dsv (kZ m c) (kP m c) (kD m c) (rowOf n (i 0)) (i 1) : FVec Ideal S128x1024 .f32) := by
  refine (dat1 (V7 m ρ) c).arrAt_eq_of_covers 13 _ (by decide +kernel) fun t hf y => ?_
  blk_simp; rw [after1_13]
  rw [Pipeline.eq_sum_fin_of_reset_step_apply_of_flush (fun n h => (outsAt1 (V7 m ρ) c n h).2.2.1) 64 (fun _ => 0) (fun t y => shareS m c t y)
    (fun t h j => by rw [outsAt1_A (V7 m ρ) c t h]; frame_out; refine (shareS_at m ρ c t _ j).trans ?_; rw [zeroS])
    (fun t h j => by rw [outsAt1_B (V7 m ρ) c t h]; frame_out; exact shareS_at m ρ c t _ j) t ((flush1_13 t).mp hf) _, zero_add]
  have ht : t.val < 64 := lt_of_lt_of_eq t.isLt N_1
  refine Fin.sum_fin_congr fun s => ?_
  have e : rowOf ⟨64 * (t.val / 64) + s.val, by omega⟩ (y 0) = rowOf s (y 0) := Fin.ext (by unfold rowOf; simp only; omega)
  show (dsv (kZ m c) (kP m c) (kD m c) (rowOf ⟨64 * (t.val / 64) + s.val, _⟩ (y 0)) _ : EReal) = _
  rw [e]
  exact congrArg₂ (fun a b => dsv (kZ m c) (kP m c) (kD m c) (rowOf s a) b) (Fin.ext (by blk_simp [idx1 t])) (Fin.ext (by blk_simp [idx1 t]))

theorem biasOut_apply (A : FVec Ideal S128x1024 .f32) (y : S8x128.Idx) : (biasOut A y : EReal) = ∑ k : Fin 128, (A (ix2 (y 1) (colOf (y 0) k)) : EReal) := by
  pointwise [biasOut, colOf]

/-- One point's share of the mixing weights' gradient. -/
def shareW (t : Fin cfg1.N) (y : S8x128x128.Idx) : EReal :=
  ∑ k : Fin 128, dsv (kZ m c) (kP m c) (kD m c) (rowOf ⟨t.val, lt_of_lt_of_eq t.isLt N_1⟩ (y 1)) (colOf (y 0) k)
    * vn (kZ m c) (kG m c) (kB m c) (rowOf ⟨t.val, lt_of_lt_of_eq t.isLt N_1⟩ (y 2)) (colOf (y 0) k)

theorem slab_at (q : Fin 8) (t : Fin cfg1.N) (x : S1x128x128.Idx) (j : S8x128x128.Idx) (h0 : (j 0).val = q.val + (x 0).val) (h1 : (j 1).val = (x 1).val) (h2 : (j 2).val = (x 2).val) :
    slab q (k1_pay9 (F := Ideal) (iblk1 (V7 m ρ) c 1 t) (iblk1 (V7 m ρ) c 6 t) (iblk1 (V7 m ρ) c 7 t))
      (k1_pay12 (F := Ideal) (iblk1 (V7 m ρ) c 0 t) (iblk1 (V7 m ρ) c 4 t) (iblk1 (V7 m ρ) c 5 t)) x = shareW m c t j := by
  have hx0 : (x 0).val < 1 := (x 0).isLt
  have hq : q = j 0 := Fin.ext (by omega)
  refine Finset.sum_congr rfl fun k _ => congrArg₂ (fun a b : EReal => a * b) (dsv_at m ρ c t _ _ _ ?_ ?_) (vn_at m ρ c t _ _ _ ?_ ?_)
  · show t.val * 128 + (j 1).val = 128 * t.val + (x 1).val
    omega
  · rw [hq]; rfl
  · show t.val * 128 + (j 2).val = 128 * t.val + (x 2).val
    omega
  · rw [hq]; rfl

theorem full_reset (t : Fin cfg1.N) (h : t.val % 64 = 0) (j : S8x128x128.Idx) : ((outsAt1 (V7 m ρ) c t.val t.isLt).2.1 j : EReal) = 0 + shareW m c t j := by
  rw [outsAt1_A (V7 m ρ) c t h]; frame_open
  simp (disch := decide) only [↓ View.readCov_skip, ↓ View.readCov_cons_toLoadRect, ↓ View.readCov_fill]
  frame_out
  refine View.canon_append_of_piecesOf (Val := Elt Ideal) (e := .f32) (s := S8x128x128) (fun j => (0 + shareW m c t j : EReal)) [_] [_, _, _, _, _, _, _, _] ⟨?_, ?_, ?_, ?_, ?_, ?_, ?_, ?_, trivial⟩ j ?_
  · exact fun x => (slab7 _ _ _ x).trans (congrArg₂ (fun a b : EReal => a + b) (zeroW _) (slab_at m ρ c 7 t x _ (by show 7 + 1 * (x 0).val = 7 + (x 0).val; omega) (by show 0 + 1 * (x 1).val = (x 1).val; omega) (by show 0 + 1 * (x 2).val = (x 2).val; omega)))
  · exact fun x => (slab6 _ _ _ x).trans (congrArg₂ (fun a b : EReal => a + b) (zeroW _) (slab_at m ρ c 6 t x _ (by show 6 + 1 * (x 0).val = 6 + (x 0).val; omega) (by show 0 + 1 * (x 1).val = (x 1).val; omega) (by show 0 + 1 * (x 2).val = (x 2).val; omega)))
  · exact fun x => (slab5 _ _ _ x).trans (congrArg₂ (fun a b : EReal => a + b) (zeroW _) (slab_at m ρ c 5 t x _ (by show 5 + 1 * (x 0).val = 5 + (x 0).val; omega) (by show 0 + 1 * (x 1).val = (x 1).val; omega) (by show 0 + 1 * (x 2).val = (x 2).val; omega)))
  · exact fun x => (slab4 _ _ _ x).trans (congrArg₂ (fun a b : EReal => a + b) (zeroW _) (slab_at m ρ c 4 t x _ (by show 4 + 1 * (x 0).val = 4 + (x 0).val; omega) (by show 0 + 1 * (x 1).val = (x 1).val; omega) (by show 0 + 1 * (x 2).val = (x 2).val; omega)))
  · exact fun x => (slab3 _ _ _ x).trans (congrArg₂ (fun a b : EReal => a + b) (zeroW _) (slab_at m ρ c 3 t x _ (by show 3 + 1 * (x 0).val = 3 + (x 0).val; omega) (by show 0 + 1 * (x 1).val = (x 1).val; omega) (by show 0 + 1 * (x 2).val = (x 2).val; omega)))
  · exact fun x => (slab2 _ _ _ x).trans (congrArg₂ (fun a b : EReal => a + b) (zeroW _) (slab_at m ρ c 2 t x _ (by show 2 + 1 * (x 0).val = 2 + (x 0).val; omega) (by show 0 + 1 * (x 1).val = (x 1).val; omega) (by show 0 + 1 * (x 2).val = (x 2).val; omega)))
  · exact fun x => (slab1 _ _ _ x).trans (congrArg₂ (fun a b : EReal => a + b) (zeroW _) (slab_at m ρ c 1 t x _ (by show 1 + 1 * (x 0).val = 1 + (x 0).val; omega) (by show 0 + 1 * (x 1).val = (x 1).val; omega) (by show 0 + 1 * (x 2).val = (x 2).val; omega)))
  · exact fun x => (slab0 _ _ _ x).trans (congrArg₂ (fun a b : EReal => a + b) (zeroW _) (slab_at m ρ c 0 t x _ (by show 0 + 1 * (x 0).val = 0 + (x 0).val; omega) (by show 0 + 1 * (x 1).val = (x 1).val; omega) (by show 0 + 1 * (x 2).val = (x 2).val; omega)))
  · exact View.cover_of_tiledL _ ![1, 128, 128] rfl j

theorem full_step (t : Fin cfg1.N) (h : ¬t.val % 64 = 0) (j : S8x128x128.Idx) : ((outsAt1 (V7 m ρ) c t.val t.isLt).2.1 j : EReal)
    = (outsAt1 (V7 m ρ) c (t.val - 1) (lt_of_le_of_lt (Nat.sub_le _ _) t.isLt)).2.1 j + shareW m c t j := by
  rw [outsAt1_B (V7 m ρ) c t h]; frame_out
  canon_tiles x hx
  · exact (slab7 _ _ _ x).trans (congrArg₂ (fun a b : EReal => a + b) (ld_slab 7 _ _ x _ hx0 hx1 hx2) (slab_at m ρ c 7 t x _ hx0 hx1 hx2))
  · exact (slab6 _ _ _ x).trans (congrArg₂ (fun a b : EReal => a + b) (ld_slab 6 _ _ x _ hx0 hx1 hx2) (slab_at m ρ c 6 t x _ hx0 hx1 hx2))
  · exact (slab5 _ _ _ x).trans (congrArg₂ (fun a b : EReal => a + b) (ld_slab 5 _ _ x _ hx0 hx1 hx2) (slab_at m ρ c 5 t x _ hx0 hx1 hx2))
  · exact (slab4 _ _ _ x).trans (congrArg₂ (fun a b : EReal => a + b) (ld_slab 4 _ _ x _ hx0 hx1 hx2) (slab_at m ρ c 4 t x _ hx0 hx1 hx2))
  · exact (slab3 _ _ _ x).trans (congrArg₂ (fun a b : EReal => a + b) (ld_slab 3 _ _ x _ hx0 hx1 hx2) (slab_at m ρ c 3 t x _ hx0 hx1 hx2))
  · exact (slab2 _ _ _ x).trans (congrArg₂ (fun a b : EReal => a + b) (ld_slab 2 _ _ x _ hx0 hx1 hx2) (slab_at m ρ c 2 t x _ hx0 hx1 hx2))
  · exact (slab1 _ _ _ x).trans (congrArg₂ (fun a b : EReal => a + b) (ld_slab 1 _ _ x _ hx0 hx1 hx2) (slab_at m ρ c 1 t x _ hx0 hx1 hx2))
  · exact (slab0 _ _ _ x).trans (congrArg₂ (fun a b : EReal => a + b) (ld_slab 0 _ _ x _ (by omega) hx1 hx2) (slab_at m ρ c 0 t x _ (by omega) hx1 hx2))

theorem full_arr : (dat1 (V7 m ρ) c).arrAt 12 cfg1.N
    = (fun i => dfull (kZ m c) (kG m c) (kB m c) (kP m c) (kD m c) (i 0) (i 1) (i 2) : FVec Ideal S8x128x128 .f32) := by
  refine (dat1 (V7 m ρ) c).arrAt_eq_of_covers 12 _ (by decide +kernel) fun t hf y => ?_
  blk_simp; rw [after1_12]
  rw [Pipeline.eq_sum_fin_of_reset_step_apply_of_flush (fun n h => (outsAt1 (V7 m ρ) c n h).2.1) 64 (fun _ => 0) (fun t y => shareW m c t y)
    (fun t h j => full_reset m ρ c t h j) (fun t h j => full_step m ρ c t h j) t ((flush1_12 t).mp hf) _, zero_add]
  have ht : t.val < 64 := lt_of_lt_of_eq t.isLt N_1
  refine Fin.sum_fin_congr fun s => ?_
  have e (a : Fin 128) : rowOf ⟨64 * (t.val / 64) + s.val, by omega⟩ a = rowOf s a := Fin.ext (by unfold rowOf; simp only; omega)
  show (∑ k : Fin 128, dsv (kZ m c) (kP m c) (kD m c) (rowOf ⟨64 * (t.val / 64) + s.val, _⟩ (y 1)) (colOf (y 0) k)
    * vn (kZ m c) (kG m c) (kB m c) (rowOf ⟨64 * (t.val / 64) + s.val, _⟩ (y 2)) (colOf (y 0) k) : EReal) = _
  have e1 := e (y 1)
  have e2 := e (y 2)
  have c0 : ((win1_12.blk t).view.emb y) 0 = y 0 := Fin.ext (by blk_simp [idx1 t])
  have c1 : ((win1_12.blk t).view.emb y) 1 = y 1 := Fin.ext (by blk_simp [idx1 t])
  have c2 : ((win1_12.blk t).view.emb y) 2 = y 2 := Fin.ext (by blk_simp [idx1 t])
  show _ = (∑ k : Fin 128, dsv (kZ m c) (kP m c) (kD m c) (rowOf s (((win1_12.blk t).view.emb y) 1)) (colOf (((win1_12.blk t).view.emb y) 0) k)
    * vn (kZ m c) (kG m c) (kB m c) (rowOf s (((win1_12.blk t).view.emb y) 2)) (colOf (((win1_12.blk t).view.emb y) 0) k) : EReal)
  rw [c0, c1, c2]
  exact Finset.sum_congr rfl fun k _ => congrArg₂ (fun a b => dsv (kZ m c) (kP m c) (kD m c) a (colOf (y 0) k) * vn (kZ m c) (kG m c) (kB m c) b (colOf (y 0) k)) e1 e2

/-- The gradients of the mixing weights and bias, as the host finishes them. -/
theorem dws_out : maskOut ((dat1 (V7 m ρ) c).arrAt 12 cfg1.N) = dws (kZ m c) (kG m c) (kB m c) (kP m c) (kD m c) := by
  rw [full_arr]
  funext i
  obtain ⟨q, a, b, rfl⟩ : ∃ (q : Fin 8) (a b : Fin 128), i = ix3 q a b := ⟨i 0, i 1, i 2, eq_ix3 i⟩
  exact maskOut_apply _ q a b

theorem dbs_out : biasOut ((dat1 (V7 m ρ) c).arrAt 13 cfg1.N) = dbs (kZ m c) (kP m c) (kD m c) := by
  rw [bias_arr]
  refine funext fun i => (biasOut_apply _ i).trans ?_
  exact Finset.sum_comm

end Cert.GmlpIdeal.Gen

end
-- ==== Proof.GmlpSums.lean ====
module

public import proofs.«01_k».proof.Proof.GmlpMath

@[expose] public section

set_option maxRecDepth 16384

/-! The reference's sums over several axes at once, read coordinate by coordinate. -/

noncomputable section

namespace Cert.GmlpSums

open Idealize.ShloMosaic

/-- A sum over the first two of three axes. -/
theorem sum_rows {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ?_
  rw [Finset.sum_filter, sum_idx3]
  refine Finset.sum_congr rfl fun a _ => Finset.sum_congr rfl fun b _ => ?_
  rw [Finset.sum_eq_single j]
  · refine if_pos (funext fun x => Fin.ext ?_)
    obtain rfl : x = 0 := Subsingleton.elim _ _
    exact (Shape.ReducesTo.drop_apply_val h _ 0 : (h.drop (ix3 a b j) 0 : ℕ) = (j : ℕ))
  · intro c _ hc
    refine if_neg fun e => hc (Fin.ext ?_)
    exact (Shape.ReducesTo.drop_apply_val h (ix3 a b c) 0 : (h.drop (ix3 a b c) 0 : ℕ) = (c : ℕ)).symm.trans (congrArg (fun q => (q 0 : ℕ)) e)
  · intro hc; exact absurd (Finset.mem_univ _) hc

/-- A sum over the first, second and last of five axes. -/
theorem sum_places {n0 n1 n2 n3 n4 : ℕ} (h : (⟨5, ![n0, n1, n2, n3, n4]⟩ : Shape).ReducesTo [0, 1, 4] ⟨2, ![n2, n3]⟩)
    (v : (⟨5, ![n0, n1, n2, n3, n4]⟩ : Shape).Idx → EReal) (init : EReal) (p : Fin n2) (q : Fin n3) :
    Ideal.hostReduceAdd h v init (ix2 p q) = init + ∑ a : Fin n0, ∑ b : Fin n1, ∑ e : Fin n4, v (ix5 a b p q e) := by
  refine congrArg (init + ·) ?_
  rw [Finset.sum_filter, sum_idx5]
  refine Finset.sum_congr rfl fun a _ => Finset.sum_congr rfl fun b _ => ?_
  rw [Finset.sum_eq_single p, Finset.sum_eq_single q]
  · refine Finset.sum_congr rfl fun e _ => if_pos (funext fun x => Fin.ext ?_)
    match x with
    | ⟨0, _⟩ => exact (Shape.ReducesTo.drop_apply_val h _ 0 : (h.drop (ix5 a b p q e) 0 : ℕ) = (p : ℕ))
    | ⟨1, _⟩ => exact (Shape.ReducesTo.drop_apply_val h _ 1 : (h.drop (ix5 a b p q e) 1 : ℕ) = (q : ℕ))
  · intro d _ hd
    refine Finset.sum_eq_zero fun e _ => if_neg fun e' => hd (Fin.ext ?_)
    exact (Shape.ReducesTo.drop_apply_val h (ix5 a b p d e) 1 : (h.drop (ix5 a b p d e) 1 : ℕ) = (d : ℕ)).symm.trans (congrArg (fun f => (f 1 : ℕ)) e')
  · intro hc; exact absurd (Finset.mem_univ _) hc
  · intro c _ hc
    refine Finset.sum_eq_zero fun d _ => Finset.sum_eq_zero fun e _ => if_neg fun e' => hc (Fin.ext ?_)
    exact (Shape.ReducesTo.drop_apply_val h (ix5 a b c d e) 0 : (h.drop (ix5 a b c d e) 0 : ℕ) = (c : ℕ)).symm.trans (congrArg (fun f => (f 0 : ℕ)) e')
  · intro hc; exact absurd (Finset.mem_univ _) hc

/-- A three-axis contraction index is the triple of its coordinates. -/
def triple {sl sr so : Shape} (D : DotDims sl sr so) (n0 n1 n2 : ℕ) (hr : D.contr.rank = 3)
    (h0 : D.contr.size ⟨0, by omega⟩ = n0) (h1 : D.contr.size ⟨1, by omega⟩ = n1) (h2 : D.contr.size ⟨2, by omega⟩ = n2) :
    D.contr.Idx ≃ Fin n0 × Fin n1 × Fin n2 where
  toFun k := ((k ⟨0, by omega⟩).cast h0, (k ⟨1, by omega⟩).cast h1, (k ⟨2, by omega⟩).cast h2)
  invFun p := fun a =>
    if ha : a.val = 0 then p.1.cast (h0.symm.trans (congrArg D.contr.size (Fin.ext ha.symm)))
    else if hb : a.val = 1 then p.2.1.cast (h1.symm.trans (congrArg D.contr.size (Fin.ext hb.symm)))
    else p.2.2.cast (h2.symm.trans (congrArg D.contr.size (Fin.ext (by have := a.isLt; show 2 = a.val; omega))))
  left_inv k := by
    have p0 : 0 < D.contr.rank := by omega
    have p1 : 1 < D.contr.rank := by omega
    have p2 : 2 < D.contr.rank := by omega
    funext a
    by_cases ha : a.val = 0
    · obtain rfl : a = ⟨0, p0⟩ := Fin.ext ha
      simp
    · by_cases hb : a.val = 1
      · obtain rfl : a = ⟨1, p1⟩ := Fin.ext hb
        simp
      · obtain rfl : a = ⟨2, p2⟩ := Fin.ext (by have := a.isLt; show a.val = 2; omega)
        simp
  right_inv p := by
    refine Prod.ext (Fin.ext ?_) (Prod.ext (Fin.ext ?_) (Fin.ext ?_)) <;> simp

open Cert.GmlpRefIdeal

/-- The product that is summed over the two sequences, the chunks and the columns of a group. -/
theorem product_apply (l : S8x2x32x128x128.Idx → EReal) (r : S2x32x128x8x128.Idx → EReal) (q : Fin 8) (t s : Fin 128) :
    Ideal.matmul dot_S8x2x32x128x128_S2x32x128x8x128_S8x128x128_123_014_4_2_0_3 l r (fun _ => 0) (ix3 q t s)
      = ∑ a : Fin 2, ∑ n : Fin 32, ∑ k : Fin 128, l (ix5 q a n k t) * r (ix5 a n s q k) := by
  refine (zero_add _).trans ?_
  rw [← Equiv.sum_comp (triple dot_S8x2x32x128x128_S2x32x128x8x128_S8x128x128_123_014_4_2_0_3 2 32 128 rfl rfl rfl rfl).symm, Fintype.sum_prod_type]
  refine Finset.sum_congr rfl fun a _ => ?_
  rw [Fintype.sum_prod_type]
  refine Finset.sum_congr rfl fun n _ => Finset.sum_congr rfl fun k _ => congrArg₂ (fun x y : EReal => x * y) (congrArg l (funext fun x => Fin.ext ?_)) (congrArg r (funext fun x => Fin.ext ?_))
  · match x with
    | ⟨0, _⟩ => rfl
    | ⟨1, _⟩ => rfl
    | ⟨2, _⟩ => rfl
    | ⟨3, _⟩ => rfl
    | ⟨4, _⟩ => rfl
  · match x with
    | ⟨0, _⟩ => rfl
    | ⟨1, _⟩ => rfl
    | ⟨2, _⟩ => rfl
    | ⟨3, _⟩ => rfl
    | ⟨4, _⟩ => rfl

end Cert.GmlpSums

end
-- ==== Proof.GmlpRef.lean ====
/- What the gated mixer's reference computes, array by array. -/
module

public import proofs.«01_k».proof.Proof.GmlpSums

@[expose] public section

set_option maxRecDepth 16384

noncomputable section

open Idealize.ShloMosaic Idealize.ShloMosaic.TcCoe Idealize.SL.Sem
open Cert.Reals Cert.GmlpMath Cert.GmlpSums

namespace Cert.GmlpRefIdeal.Value

open Cert.GmlpRefIdeal Cert.GmlpRefIdeal.Gen

variable (V : Valuation τ sig (Elt Ideal))

/-- The arguments by name. -/
abbrev aZ : FVec Ideal S8192x2048 .f32 := V (Proc.devRef .tc main_arg0)
abbrev aG : FVec Ideal S1x1024 .f32 := V (Proc.devRef .tc main_arg1)
abbrev aB : FVec Ideal S1x1024 .f32 := V (Proc.devRef .tc main_arg2)
abbrev aW : FVec Ideal S1x8x128x128 .f32 := V (Proc.devRef .tc main_arg3)
abbrev aS : FVec Ideal S1x8x128 .f32 := V (Proc.devRef .tc main_arg4)
abbrev aP : FVec Ideal S1x1024x1024 .f32 := V (Proc.devRef .tc main_arg5)
abbrev aD : FVec Ideal S8192x1024 .f32 := V (Proc.devRef .tc main_arg6)

/-- The row of the flat arrays. -/
def row (a : Fin 2) (s : Fin 4096) : Fin 8192 := ⟨a.val * 4096 + s.val, by omega⟩

theorem row_self (r : Fin 8192) (h h') : row ⟨r.val / 4096, h⟩ ⟨r.val % 4096, h'⟩ = r := by
  refine Fin.ext ?_
  show r.val / 4096 * 4096 + r.val % 4096 = r.val
  omega

theorem v4_apply (i : S2x4096x2048.Idx) : res_main_v4 V i = aZ V (ix2 (row (i 0) (i 1)) (i 2)) := by
  pointwise [res_main_v4, row]

theorem v16_apply (i : S2x4096x2048.Idx) : res_main_v16 V i = gth (aZ V (ix2 (row (i 0) (i 1)) (i 2))) := by
  pointwise [res_main_v16, v4_apply, gth, res_main_v5, cubic]

theorem v25_apply (i : S2x4096x2048.Idx) : res_main_v25 V i = gcdf (aZ V (ix2 (row (i 0) (i 1)) (i 2))) := by
  pointwise [res_main_v25, v16_apply, gcdf]

theorem v26_apply (i : S2x4096x2048.Idx) : res_main_v26 V i = gelu (aZ V (ix2 (row (i 0) (i 1)) (i 2))) := by
  pointwise [res_main_v26, v4_apply, v25_apply, gelu]

theorem v27_apply (i : S2x4096x1024.Idx) : res_main_v27 V i = up (aZ V) (row (i 0) (i 1)) (i 2) := by
  pointwise [res_main_v27, v26_apply, up]

theorem v28_apply (i : S2x4096x1024.Idx) : res_main_v28 V i = vin (aZ V) (row (i 0) (i 1)) (i 2) := by
  pointwise [res_main_v28, v26_apply, vin]

theorem v34_apply (i : S2x4096x1024.Idx) : res_main_v34 V i = cen (aZ V) (row (i 0) (i 1)) (i 2) := by
  pointwise [res_main_v34, v28_apply, cen, centre]

theorem v41_apply (i : S2x4096x1.Idx) : res_main_v41 V i = msq (cen (aZ V) (row (i 0) (i 1))) := by
  pointwise [res_main_v41, v34_apply, msq]

theorem v42_apply (i : S2x4096x1.Idx) : res_main_v42 V i = rs (cen (aZ V) (row (i 0) (i 1))) := by
  pointwise [res_main_v42, v41_apply, rs]

theorem v47_apply (i : S2x4096x1024.Idx) : res_main_v47 V i = vh (aZ V) (row (i 0) (i 1)) (i 2) := by
  pointwise [res_main_v47, v34_apply, v42_apply, vh]

/-- The row of chunk `(a, n)`, place `t`. -/
def crow (a : Fin 2) (n : Fin 32) (t : Fin 128) : Fin 8192 := ⟨a.val * 4096 + (n.val * 128 + t.val), by omega⟩

theorem crow_chunk (a : Fin 2) (s : Fin 4096) (x : Fin 128) (h) : crow a ⟨s.val / 128, h⟩ x = chunk (row a s) x := by
  refine Fin.ext ?_
  show a.val * 4096 + (s.val / 128 * 128 + x.val) = (a.val * 4096 + s.val) / 128 * 128 + x.val
  omega

theorem place_row (a : Fin 2) (s : Fin 4096) (h) : (⟨s.val % 128, h⟩ : Fin 128) = place (row a s) := by
  refine Fin.ext ?_
  show s.val % 128 = (a.val * 4096 + s.val) % 128
  omega

theorem colOf_self (j : Fin 1024) (h h') : colOf ⟨j.val / 128, h⟩ ⟨j.val % 128, h'⟩ = j := by
  refine Fin.ext ?_
  show j.val / 128 * 128 + j.val % 128 = j.val
  omega

theorem v54_apply (i : S2x32x128x8x128.Idx) : res_main_v54 V i = vn (aZ V) (aG V) (aB V) (crow (i 0) (i 1) (i 2)) (colOf (i 3) (i 4)) := by
  pointwise [res_main_v54, v47_apply, res_main_v48, vn, crow, colOf, row]

theorem v58_0_apply (i : S8x128x128.Idx) : res_main_v58_0 V i = tri (aW V) (i 0) (i 1) (i 2) := by
  pointwise [res_main_v58_0, res_main_v58_1, tri]
  exact tri_select _ _ _

theorem v66_apply (i : S2x4096x1024.Idx) : res_main_v66 V i = sv (aZ V) (aG V) (aB V) (aW V) (aS V) (row (i 0) (i 1)) (i 2) := by
  pointwise [res_main_v66, v54_apply, v58_0_apply, sv]
  refine congrArg₂ (fun x y : EReal => x + y) (Finset.sum_congr rfl fun k _ => ?_) (congrArg (fun u => aS V (ix3 0 (grp (i 2)) u)) (place_row (i 0) (i 1) _))
  exact (mul_comm _ _).trans (congrArg₂ (fun x y : EReal => x * y) (congrArg (fun u => tri (aW V) (grp (i 2)) u k) (place_row (i 0) (i 1) _))
    (congrArg₂ (vn (aZ V) (aG V) (aB V)) (crow_chunk (i 0) (i 1) k _) (colOf_self (i 2) _ _)))

theorem v71_apply (i : S2x4096x1024.Idx) : res_main_v71 V i = dy (aP V) (aD V) (row (i 0) (i 1)) (i 2) := by
  pointwise [res_main_v71, res_main_v68, dy, row]

theorem v74_apply (i : S2x32x128x8x128.Idx) : res_main_v74 V i = dsv (aZ V) (aP V) (aD V) (crow (i 0) (i 1) (i 2)) (colOf (i 3) (i 4)) := by
  pointwise [res_main_v74, v27_apply, v71_apply, dsv, crow, colOf, row]
  exact mul_comm (G := EReal) _ _

theorem v86_apply (i : S2x4096x1024.Idx) : res_main_v86 V i = dvn (aZ V) (aW V) (aP V) (aD V) (row (i 0) (i 1)) (i 2) := by
  pointwise [res_main_v86, res_main_v81, v74_apply, v58_0_apply, dvn]
  show (_ : EReal) = _
  refine Finset.sum_congr rfl fun k _ => ?_
  exact (mul_comm _ _).trans (congrArg₂ (fun x y : EReal => x * y) (congrArg (fun u => tri (aW V) (grp (i 2)) k u) (place_row (i 0) (i 1) _))
    (congrArg₂ (dsv (aZ V) (aP V) (aD V)) (crow_chunk (i 0) (i 1) k _) (colOf_self (i 2) _ _)))

theorem v94_apply (i : S2x4096x1024.Idx) : res_main_v94 V i = dvh (aZ V) (aG V) (aW V) (aP V) (aD V) (row (i 0) (i 1)) (i 2) := by
  pointwise [res_main_v94, v86_apply, res_main_v48, dvh]

theorem v105_apply (i : S2x4096x1024.Idx) : res_main_v105 V i = rmsq (cen (aZ V) (row (i 0) (i 1))) (dvh (aZ V) (aG V) (aW V) (aP V) (aD V) (row (i 0) (i 1))) := by
  pointwise [res_main_v105, v34_apply, v94_apply, v41_apply, v42_apply, rmsq]
  exact Fin.sum_univ_one (M := EReal) _

section
variable (hz : IsReal (aZ V)) (hg : IsReal (aG V)) (hb : IsReal (aB V)) (hw : IsReal (aW V)) (hs : IsReal (aS V)) (hp : IsReal (aP V)) (hd : IsReal (aD V))
include hz hg hw hp hd

theorem v109_apply (i : S2x4096x1024.Idx) : res_main_v109 V i = rmsd (cen (aZ V) (row (i 0) (i 1))) (dvh (aZ V) (aG V) (aW V) (aP V) (aD V) (row (i 0) (i 1))) (i 2) := by
  refine Eq.trans ?_ (rmsd_eq (cen_num _ hz (row (i 0) (i 1))) (dvh_num _ _ _ _ _ hz hg hw hp hd (row (i 0) (i 1))) (i 2)).symm
  pointwise [res_main_v109, v94_apply, v42_apply, v34_apply, v105_apply]

theorem v118_left (i : S2x4096x2048.Idx) (h : (i 2).val < 1024) : res_main_v118 V i
    = dy (aP V) (aD V) (row (i 0) (i 1)) ⟨(i 2).val, h⟩ * sv (aZ V) (aG V) (aB V) (aW V) (aS V) (row (i 0) (i 1)) ⟨(i 2).val, h⟩ := by
  pointwise [res_main_v118]
  rw [dif_pos h]
  pointwise [v71_apply, v66_apply]

theorem v118_right (i : S2x4096x2048.Idx) (h : ¬(i 2).val < 1024) (h') : res_main_v118 V i
    = lnd (cen (aZ V) (row (i 0) (i 1))) (dvh (aZ V) (aG V) (aW V) (aP V) (aD V) (row (i 0) (i 1))) ⟨(i 2).val - 1024, h'⟩ := by
  refine Eq.trans ?_ (lnd_eq (vin_num _ hz (row (i 0) (i 1))) (dvh_num _ _ _ _ _ hz hg hw hp hd (row (i 0) (i 1))) ⟨(i 2).val - 1024, h'⟩).symm
  pointwise [res_main_v118]
  rw [dif_neg h]
  pointwise [v109_apply V hz hg hw hp hd]
  exact congrArg₂ (fun x y : EReal => x + y) rfl (Fin.sum_univ_one (M := EReal) _)

/-- The reference's first result. -/
def refZ : FVec Ideal S8192x2048 .bf16 := truncf .bf16 (shapeCast _ (addf (addf (mulf (res_main_v118 V) (res_main_v25 V)) (res_main_v125 V)) (mulf (mulf (broadcastInDim S2x4096x2048 ![] bcast_S_S2x4096x2048 (res_main_v5 V)) (res_main_v125 V)) (mulf (broadcastInDim S2x4096x2048 ![] bcast_S_S2x4096x2048 (constant S_ .f32 0x40400000#32)) (mulf (res_main_v4 V) (res_main_v4 V))))) shapeCasts_S2x4096x2048_S8192x2048) bitsLt_bf16_f32

/-- The reference's first result, element by element. -/
theorem refZ_apply (r : Fin 8192) (j : Fin 2048) (d : EReal) (e : (res_main_v118 V (ix3 ⟨r.val / 4096, by omega⟩ ⟨r.val % 4096, by omega⟩ j) : EReal) = d) (hd' : Num d) :
    (refZ V (ix2 r j) : EReal) = d * dgelu (aZ V (ix2 r j) : EReal) := by
  refine Eq.trans ?_ (gelu_grad hd' (hz (ix2 r j)))
  subst e
  have q : row ⟨r.val / 4096, by omega⟩ ⟨r.val % 4096, by omega⟩ = r := row_self r _ _
  pointwise [refZ, v25_apply, res_main_v125, v16_apply, v4_apply, res_main_v5, gin, cubic]
  rw [q]

theorem refZ_eq (hb : IsReal (aB V)) (hs : IsReal (aS V)) : refZ V = dz (aZ V) (aG V) (aB V) (aW V) (aS V) (aP V) (aD V) := by
  refine funext fun i => ?_
  obtain ⟨r, j, rfl⟩ : ∃ (r : Fin 8192) (j : Fin 2048), i = ix2 r j := ⟨i 0, i 1, eq_ix2 i⟩
  have q : row ⟨r.val / 4096, by omega⟩ ⟨r.val % 4096, by omega⟩ = r := row_self r _ _
  by_cases h : j.val < 1024
  · refine (refZ_apply V hz hg hw hp hd r j _ ((v118_left V hz hg hw hp hd (ix3 _ _ j) h).trans
      (congrArg (fun r => dy (aP V) (aD V) r ⟨j.val, h⟩ * sv (aZ V) (aG V) (aB V) (aW V) (aS V) r ⟨j.val, h⟩) q)) ?_).trans ?_
    · exact (dy_num _ _ hp hd _ _).mul (sv_num _ _ _ _ _ hz hg hb hw hs _ _)
    · exact (dz_left _ _ _ _ _ _ _ r j h).symm
  · have h' : j.val - 1024 < 1024 := by omega
    refine (refZ_apply V hz hg hw hp hd r j _ ((v118_right V hz hg hw hp hd (ix3 _ _ j) h h').trans
      (congrArg (fun r => lnd (cen (aZ V) r) (dvh (aZ V) (aG V) (aW V) (aP V) (aD V) r) ⟨j.val - 1024, h'⟩) q)) ?_).trans ?_
    · exact lnd_num (vin_num _ hz r) (dvh_num _ _ _ _ _ hz hg hw hp hd r) _
    · refine Eq.trans ?_ (dz_right _ _ _ _ _ _ _ r j h h').symm
      have e : (⟨1024 + (j.val - 1024), by omega⟩ : Fin 2048) = j := Fin.ext (by show 1024 + (j.val - 1024) = j.val; omega)
      exact congrArg (fun u => lnd (cen (aZ V) r) (dvh (aZ V) (aG V) (aW V) (aP V) (aD V) r) ⟨j.val - 1024, h'⟩ * dgelu (aZ V (ix2 r u))) e.symm

end

/-- … its second and third, -/
def refG : FVec Ideal S1x1024 .f32 := shapeCast _ (Host.reduceAdd (shapeCast _ (Host.reduceAdd (mulf (res_main_v47 V) (res_main_v86 V)) (constant S_ .f32 0x00000000#32) reducesTo_S2x4096x1024_S1024_d0_1 h_S_) shapeCasts_S1024_S1x1x1024) (constant S_ .f32 0x00000000#32) reducesTo_S1x1x1024_S1024_d0_1 h_S_) shapeCasts_S1024_S1x1024

def refB : FVec Ideal S1x1024 .f32 := shapeCast _ (Host.reduceAdd (shapeCast _ (Host.reduceAdd (res_main_v86 V) (constant S_ .f32 0x00000000#32) reducesTo_S2x4096x1024_S1024_d0_1 h_S_) shapeCasts_S1024_S1x1x1024) (constant S_ .f32 0x00000000#32) reducesTo_S1x1x1024_S1024_d0_1 h_S_) shapeCasts_S1024_S1x1024

/-- A sum over both sequences' rows is the sum over the flat rows. -/
theorem sum_row (f : Fin 8192 → EReal) : ∑ a : Fin 2, ∑ s : Fin 4096, f (row a s) = ∑ r : Fin 8192, f r :=
  Fin.sum_mul_add_congr fun s k hl => rfl

theorem rows_two (v : FVec Ideal S2x4096x1024 .f32) (j : Fin 1024) (f : Fin 8192 → EReal) (e : ∀ a s, (v (ix3 a s j) : EReal) = f (row a s)) :
    Ideal.hostReduceAdd reducesTo_S1x1x1024_S1024_d0_1 (shapeCast S1x1x1024
        (Host.reduceAdd v (constant S_ FTy.f32 0#32) reducesTo_S2x4096x1024_S1024_d0_1 h_S_) shapeCasts_S1024_S1x1x1024) 0 (ix1 j) = ∑ r : Fin 8192, f r := by
  rw [sum_rows, zero_add, Fin.sum_univ_one, Fin.sum_univ_one]
  pointwise []
  rw [sum_rows, zero_add, ← sum_row]
  exact Finset.sum_congr rfl fun a _ => Finset.sum_congr rfl fun s _ => e a s

theorem refG_eq : refG V = dlng (aZ V) (aW V) (aP V) (aD V) := by
  refine funext fun i => ?_
  pointwise [refG, dlng]
  refine rows_two _ (i 1) _ fun a s => ?_
  pointwise [v47_apply, v86_apply]
  exact mul_comm (G := EReal) _ _

theorem refB_eq : refB V = dlnb (aZ V) (aW V) (aP V) (aD V) := by
  refine funext fun i => ?_
  pointwise [refB, dlnb]
  exact rows_two _ (i 1) _ fun a s => v86_apply V _

theorem crow_rowOf (a : Fin 2) (n : Fin 32) (t : Fin 128) : crow a n t = rowOf ⟨a.val * 32 + n.val, by omega⟩ t := by
  refine Fin.ext ?_
  show a.val * 4096 + (n.val * 128 + t.val) = (a.val * 32 + n.val) * 128 + t.val
  omega

theorem sum_chunk (f : Fin 64 → EReal) : ∑ a : Fin 2, ∑ n : Fin 32, f ⟨a.val * 32 + n.val, by omega⟩ = ∑ n : Fin 64, f n :=
  Fin.sum_mul_add_congr fun s k hl => rfl

/-- … its fourth, -/
def refW : FVec Ideal S8x128x128 .f32 := select (res_main_v58_1 V) (Host.dotGeneral (φ₁ := .f32) (φ₂ := .f32) dot_S8x2x32x128x128_S2x32x128x8x128_S8x128x128_123_014_4_2_0_3 none (res_main_v81 V) (res_main_v54 V)) (broadcastInDim S8x128x128 ![] bcast_S_S8x128x128 (constant S_ .f32 0x00000000#32))

theorem refW_eq : refW V = dws (aZ V) (aG V) (aB V) (aP V) (aD V) := by
  refine funext fun i => ?_
  obtain ⟨q, t, s, rfl⟩ : ∃ (q : Fin 8) (t s : Fin 128), i = ix3 q t s := ⟨i 0, i 1, i 2, eq_ix3 i⟩
  pointwise [refW, res_main_v58_1, dws]
  refine (tri_select t s _).trans ?_
  by_cases h : s.val ≤ t.val
  · rw [if_pos h, if_pos h, product_apply]
    refine (Finset.sum_congr rfl fun a _ => Finset.sum_congr rfl fun n _ => Finset.sum_congr rfl fun k _ => ?_).trans
      (sum_chunk fun n => ∑ k : Fin 128, dsv (aZ V) (aP V) (aD V) (rowOf n t) (colOf q k) * vn (aZ V) (aG V) (aB V) (rowOf n s) (colOf q k))
    rw [← crow_rowOf, ← crow_rowOf]
    pointwise [res_main_v81, v74_apply, v54_apply]
  · rw [if_neg h, if_neg h]

/-- … and its fifth. -/
def refS : FVec Ideal S8x128 .f32 := transpose S8x128 [1, 0] (Host.reduceAdd (broadcastInDim S128x8x1 ![0, 1] bcast_S128x8_S128x8x1_0_1 (Host.reduceAdd (shapeCast _ (Host.reduceAdd (res_main_v74 V) (constant S_ .f32 0x00000000#32) reducesTo_S2x32x128x8x128_S128x8_d0_1_4 h_S_) shapeCasts_S128x8_S1x1x128x8x1) (constant S_ .f32 0x00000000#32) reducesTo_S1x1x128x8x1_S128x8_d0_1_4 h_S_)) (constant S_ .f32 0x00000000#32) reducesTo_S128x8x1_S128x8_d2 h_S_) transposes_S128x8_S8x128_1_0

theorem refS_eq : refS V = dbs (aZ V) (aP V) (aD V) := by
  refine funext fun i => ?_
  obtain ⟨q, t, rfl⟩ : ∃ (q : Fin 8) (t : Fin 128), i = ix2 q t := ⟨i 0, i 1, eq_ix2 i⟩
  pointwise [refS, dbs]
  refine (Fin.sum_univ_one (M := EReal) _).trans ?_
  rw [sum_places, zero_add, Fin.sum_univ_one, Fin.sum_univ_one, Fin.sum_univ_one]
  pointwise []
  rw [sum_places, zero_add]
  refine (Finset.sum_congr rfl fun a _ => Finset.sum_congr rfl fun n _ => Finset.sum_congr rfl fun k _ => ?_).trans
    (sum_chunk fun n => ∑ k : Fin 128, dsv (aZ V) (aP V) (aD V) (rowOf n t) (colOf q k))
  rw [← crow_rowOf]
  exact v74_apply V _

end Cert.GmlpRefIdeal.Value

end
-- ==== Proof.GmlpClaim.lean ====
/- The claims about the gated mixer, backward. -/
module

public import proofs.«01_k».proof.Defs
public import proofs.«01_k».proof.Proof.GmlpGrad
public import proofs.«01_k».proof.Proof.GmlpRef
public import proofs.«01_k».proof.Proof.Gen.Gmlp.Frame
public import proofs.«01_k».proof.Proof.Gen.Pre_finite_gmlp
public import proofs.«01_k».proof.Proof.Rows

@[expose] public section

set_option maxRecDepth 16384

noncomputable section

namespace Cert.Proof

open Idealize.ShloMosaic Idealize.SL.Sem
open Cert.Reals Cert.Rows Cert.GmlpMath
open Cert.GmlpRefIdeal (nD τ sig defs main main_arg0 main_arg1 main_arg2 main_arg3 main_arg4 main_arg5 main_arg6 main_v132 main_v133 main_v134 main_v85 main_v80)
open Cert.GmlpRefIdeal.Value (refZ refG refB refW refS refZ_eq refG_eq refB_eq refW_eq refS_eq)

theorem gmlp_frame : Cert.quiescent_Gmlp := fun m ρ _ => Cert.Gmlp.Gen.frame m ρ

theorem gmlp_frame_ideal : Cert.quiescent_GmlpIdeal := fun m ρ _ => Cert.GmlpIdeal.Gen.frame m ρ

theorem gmlp_frame_ideal_pre : Cert.quiescent_GmlpIdeal_pre_finite_gmlp := fun m ρ _ => Cert.GmlpIdeal.Gen.frame m ρ

theorem gmlp_frame_ref : Cert.quiescent_GmlpRefIdeal := fun m ρ _ =>
  (θ_run Cert.GmlpRefIdeal.defs _ _).mono (fun r h => ⟨fun c => (h c).2.2.2.2.2, sem_eq_zero_of_no_sems (by decide) r.2⟩)
    (Cert.GmlpRefIdeal.Value.run m ρ)

theorem gmlp_frame_ref_pre : Cert.quiescent_GmlpRefIdeal_pre_finite_gmlp := fun m ρ _ => gmlp_frame_ref m ρ trivial

theorem gmlp_preserves : Cert.preserves_Gmlp_GmlpIdeal := ⟨IdealRules.named_const.statement Cert.GmlpIdeal.κ "c" .f32 0x3D372713#32 ((8943 / 200000 : ℝ) : EReal) rfl,
  IdealRules.named_const.statement Cert.GmlpIdeal.κ "c3" .f32 0x3E095D4F#32 ((26829 / 200000 : ℝ) : EReal) rfl⟩

set_option maxHeartbeats 4000000 in
/-- The reference's run, its results named. -/
theorem gmlp_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v132) = refZ (StableHlo.launchContents m c)
        ∧ r.2.mem (c.tc.loc main_v133) = refG (StableHlo.launchContents m c)
        ∧ r.2.mem (c.tc.loc main_v134) = refB (StableHlo.launchContents m c)
        ∧ r.2.mem (c.tc.loc main_v85) = refW (StableHlo.launchContents m c)
        ∧ r.2.mem (c.tc.loc main_v80) = refS (StableHlo.launchContents m c)
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6) :=
  Cert.GmlpRefIdeal.Value.run m ρ

open Cert.Pre_finite_gmlp in
/-- What the precondition says: the arguments are arrays of reals. -/
theorem gmlp_pre (a0 : FVec Ideal S8192x2048 .f32) (a1 : FVec Ideal S1x1024 .f32) (a2 : FVec Ideal S1x1024 .f32) (a3 : FVec Ideal S1x8x128x128 .f32) (a4 : FVec Ideal S1x8x128 .f32) (a5 : FVec Ideal S1x1024x1024 .f32) (a6 : FVec Ideal S8192x1024 .f32)
    (h : Cert.Pre_finite_gmlp.fn (F := Ideal) a0 a1 a2 a3 a4 a5 a6 = fun _ => 1#1) :
    IsReal a0 ∧ IsReal a1 ∧ IsReal a2 ∧ IsReal a3 ∧ IsReal a4 ∧ IsReal a5 ∧ IsReal a6 := by
  have h := congrFun h (fun k => k.elim0)
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨isReal_of_all _ _ _ _ _ _ _ h0, isReal_of_all _ _ _ _ _ _ _ h1, isReal_of_all _ _ _ _ _ _ _ h2, isReal_of_all _ _ _ _ _ _ _ h3, isReal_of_all _ _ _ _ _ _ _ h4, isReal_of_all _ _ _ _ _ _ _ h5, isReal_of_all _ _ _ _ _ _ _ h6⟩

set_option maxHeartbeats 4000000 in
theorem gmlp_value : Cert.algebraic_GmlpIdeal_GmlpRefIdeal_pre_finite_gmlp := by
  pair_intro
  · run_from Cert.GmlpIdeal.Gen.run m g
  · run_from gmlp_ref_run m' g'
    all_goals
      obtain ⟨h0, h1, h2, h3, h4, h5, h6⟩ := gmlp_pre _ _ _ _ _ _ _ (hpre c)
      obtain ⟨a0, a1, a2, a3, a4, a5, a6⟩ := hagree c
      replace a0 : Cert.GmlpRefIdeal.Value.aZ (StableHlo.launchContents m' c) = Cert.GmlpIdeal.Gen.kZ m c := a0
      replace a1 : Cert.GmlpRefIdeal.Value.aG (StableHlo.launchContents m' c) = Cert.GmlpIdeal.Gen.kG m c := a1
      replace a2 : Cert.GmlpRefIdeal.Value.aB (StableHlo.launchContents m' c) = Cert.GmlpIdeal.Gen.kB m c := a2
      replace a3 : Cert.GmlpRefIdeal.Value.aW (StableHlo.launchContents m' c) = Cert.GmlpIdeal.Gen.kW m c := a3
      replace a4 : Cert.GmlpRefIdeal.Value.aS (StableHlo.launchContents m' c) = Cert.GmlpIdeal.Gen.kS m c := a4
      replace a5 : Cert.GmlpRefIdeal.Value.aP (StableHlo.launchContents m' c) = Cert.GmlpIdeal.Gen.kP m c := a5
      replace a6 : Cert.GmlpRefIdeal.Value.aD (StableHlo.launchContents m' c) = Cert.GmlpIdeal.Gen.kD m c := a6
    · refine Eq.trans ?_ (Cert.GmlpIdeal.Gen.dz_arr m g c).symm
      refine (refZ_eq (StableHlo.launchContents m' c) (by rw [a0]; exact h0) (by rw [a1]; exact h1) (by rw [a3]; exact h3) (by rw [a5]; exact h5) (by rw [a6]; exact h6) (by rw [a2]; exact h2) (by rw [a4]; exact h4)).trans ?_
      rw [a0, a1, a2, a3, a4, a5, a6]
    · refine (refG_eq (StableHlo.launchContents m' c)).trans (Eq.trans ?_ (Cert.GmlpIdeal.Gen.lng_arr m g c).symm)
      rw [a0, a3, a5, a6]
    · refine (refB_eq (StableHlo.launchContents m' c)).trans (Eq.trans ?_ (Cert.GmlpIdeal.Gen.lnb_arr m g c).symm)
      rw [a0, a3, a5, a6]
    · refine (refW_eq (StableHlo.launchContents m' c)).trans (Eq.trans ?_ (Cert.GmlpIdeal.Gen.dws_out m g c).symm)
      rw [a0, a1, a2, a5, a6]
    · refine (refS_eq (StableHlo.launchContents m' c)).trans (Eq.trans ?_ (Cert.GmlpIdeal.Gen.dbs_out m g c).symm)
      rw [a0, a5, a6]

end Cert.Proof

end
-- ==== Proof.AttnFwd.lean ====
/- The forward attention over the memory: what each grid point stores, what the result array holds after the run, and its
   equality with the reference's result. -/
module

public import proofs.«01_k».proof.Proof.AttnRef
public import proofs.«01_k».proof.Proof.Gen.AttnFwdIdeal.Value
public import proofs.«01_k».proof.Proof.Gen.AttnFwdRefIdeal.Run

@[expose] public section

set_option maxRecDepth 16384

noncomputable section

open Idealize.ShloMosaic Idealize.ShloMosaic.TcCoe Idealize.SL.Sem
open Idealize.ShloMosaic.Pipeline (Dat)
open Cert.Reals Cert.AttnMath

namespace Cert.AttnMath

open Cert.AttnIdeal

/-- The attended rows: the values of the memory, weighted. -/
def att (q : FVec Ideal S8192x1024 .f32) (k v : FVec Ideal S512x1024 .f32) : FVec Ideal S8192x1024 .bf16 := fun i =>
  ∑ n : Fin 256, wt (score q k (i 0) (i 1)) n * v (ix2 (mrow (i 0) n) (i 1))

end Cert.AttnMath

namespace Cert.AttnFwdRefIdeal.Value

open Cert.AttnFwdRefIdeal Cert.AttnFwdRefIdeal.Gen
open Cert.AttnRefIdeal.Value (rP rP_apply score_head row_self)

/-- The values under the weights, heads side by side. -/
def outA (p : FVec Ideal S2x4x4096x256 .f32) (v : FVec Ideal S512x1024 .f32) : FVec Ideal S8192x1024 .bf16 :=
  truncf .bf16 (shapeCast _ (transpose S2x4096x4x256 [0, 3, 1, 2] (Host.dotGeneral (φ₁ := .f32) (φ₂ := .f32) dot_S2x256x4x256_S2x4x4096x256_S2x4x256x4096_1_3_3_2_02_01 none (shapeCast _ v shapeCasts_S512x1024_S2x256x4x256) p) transposes_S2x4x256x4096_S2x4096x4x256_0_3_1_2) shapeCasts_S2x4096x4x256_S8192x1024) bitsLt_bf16_f32

theorem outA_apply (p : FVec Ideal S2x4x4096x256 .f32) (v : FVec Ideal S512x1024 .f32) (r : Fin 8192) (j : Fin 1024) :
    outA p v (ix2 r j) = ∑ n : Fin 256, v (ix2 (mrow r n) j) * p (ix4 ⟨r.val / 4096, by omega⟩ ⟨j.val / 256, by omega⟩ ⟨r.val % 4096, by omega⟩ n) := by
  pointwise [outA]
  rfl

theorem out_eq (q : FVec Ideal S8192x1024 .f32) (k v : FVec Ideal S512x1024 .f32) : outA (rP q k) v = att q k v := by
  funext i
  obtain ⟨r, j, rfl⟩ : ∃ (r : Fin 8192) (j : Fin 1024), i = ix2 r j := ⟨i 0, i 1, eq_ix2 i⟩
  refine (outA_apply _ _ r j).trans (Finset.sum_congr rfl fun n _ => ?_)
  rw [rP_apply, row_self, score_head, mul_comm]; rfl

end Cert.AttnFwdRefIdeal.Value

namespace Cert.AttnFwdIdeal.Gen

open Cert.AttnFwdIdeal

/-- The scores of one row of a head's block of queries against a head's block of keys, -/
def scoreB (q k : Vec Ideal S256x256 .bf16) (r n : Fin 256) : EReal := (∑ e : Fin 256, (q (ix2 r e) : EReal) * k (ix2 n e)) * scale

/-- … and the values under their weights. -/
def attB (q k v : Vec Ideal S256x256 .bf16) (y : S256x256.Idx) : EReal := ∑ n : Fin 256, wt (scoreB q k (y 0)) n * v (ix2 n (y 1))

section blocks

variable (q k v : Vec Ideal S256x256 .bf16) (y : S256x256.Idx)

theorem at_0 : k0_pay2 (F := Ideal) q k v y = attB q k v y := by
  pointwise [k0_pay2, attB, wt, den, ex, top, scoreB]

theorem at_1 : k0_pay5 (F := Ideal) (k0_pay3 q k) (k0_pay4 q k) v y = attB q k v y := by
  pointwise [k0_pay5, k0_pay3, k0_pay4, attB, wt, den, ex, top, scoreB]

theorem at_2 : k0_pay6 (F := Ideal) q k v y = attB q k v y := by
  pointwise [k0_pay6, attB, wt, den, ex, top, scoreB]

theorem at_3 : k0_pay1 (F := Ideal) (k0_pay7 q k) (Scalar.ofBits .f32 0x3D800000#32) v y = attB q k v y := by
  pointwise [k0_pay1, k0_pay7, attB, wt, den, ex, top, scoreB]

end blocks

/-- A head's columns of a block, read. -/
theorem ld_part {e : EltTy} (o : ℕ) (inb : ∀ i : Fin 2, (![0, o] : Fin 2 → ℕ) i + (![256, 256] : Fin 2 → ℕ) i ≤ S256x1024.size i) (Y : Vec Ideal S256x1024 e)
    (x : S256x256.Idx) (j : S256x1024.Idx) (h0 : (j 0).val = (x 0).val) (h1 : (j 1).val = o + (x 1).val) :
    View.ld Y (Rect.unit ![0, o] ![256, 256] inb) x = Y j := by
  refine congrArg Y (funext fun a => Fin.ext ?_)
  match a with
  | ⟨0, _⟩ => show 0 + 1 * (x 0).val = (j 0).val; omega
  | ⟨1, _⟩ => show o + 1 * (x 1).val = (j 1).val; omega

variable (m : (ℓ : Loc nD τ sig) → Buf (Elt Ideal) ℓ) (c : Dev nD)

/-- The arguments: queries, keys and values. -/
abbrev kQ : FVec Ideal S8192x1024 .f32 := m ((c : Thread nD τ).loc main_arg0)
abbrev kK : FVec Ideal S512x1024 .f32 := m ((c : Thread nD τ).loc main_arg1)
abbrev kV : FVec Ideal S512x1024 .f32 := m ((c : Thread nD τ).loc main_arg2)

/-- Every window's block at every grid point. -/
theorem idx : ∀ t : Fin cfg0.N, win0_0.index t = ![t.val, 0] ∧ win0_1.index t = ![t.val / 16, 0] ∧ win0_2.index t = ![t.val / 16, 0]
    ∧ win0_3.index t = ![t.val, 0] := (by decide +kernel : ∀ t : Fin grid0.N, _)

theorem points (t : Fin cfg0.N) : t.val < 32 := lt_of_lt_of_eq t.isLt (by decide +kernel : cfg0.N = 32)

/-- The row of the whole array a block's row is, -/
def row (t : Fin cfg0.N) (r : Fin 256) : Fin 8192 := ⟨256 * t.val + r.val, by have := points t; omega⟩

/-- … the memory row, -/
def mem (t : Fin cfg0.N) (n : Fin 256) : Fin 512 := ⟨t.val / 16 * 256 + n.val, by have := points t; omega⟩

/-- … and the column of a head. -/
def col (h : Fin 4) (e : Fin 256) : Fin 1024 := ⟨256 * h.val + e.val, by omega⟩

theorem mrow_row (t : Fin cfg0.N) (r n : Fin 256) : mrow (row t r) n = mem t n := Fin.ext (by unfold mrow row mem; simp only; omega)

theorem hcol_col (h : Fin 4) (e f : Fin 256) : hcol (col h e) f = col h f := Fin.ext (by unfold hcol col; simp only; omega)

theorem q_at (t : Fin cfg0.N) (r : Fin 256) (j : Fin 1024) : ((iblk m c 0 t : Vec Ideal S256x1024 .bf16) (ix2 r j) : EReal) = kQ m c (ix2 (row t r) j) := by
  unfold row; blk_point [iblk, V, idx t] <;> omega

theorem k_at (t : Fin cfg0.N) (n : Fin 256) (j : Fin 1024) : ((iblk m c 1 t : Vec Ideal S256x1024 .bf16) (ix2 n j) : EReal) = kK m c (ix2 (mem t n) j) := by
  unfold mem; blk_point [iblk, V, idx t] <;> omega

theorem v_at (t : Fin cfg0.N) (n : Fin 256) (j : Fin 1024) : ((iblk m c 2 t : Vec Ideal S256x1024 .bf16) (ix2 n j) : EReal) = kV m c (ix2 (mem t n) j) := by
  unfold mem; blk_point [iblk, V, idx t] <;> omega

/-- One head's block at a point holds that head's columns of the result. -/
theorem att_at (t : Fin cfg0.N) (h : Fin 4) (o : ℕ) (ho : o = 256 * h.val)
    (inb : ∀ i : Fin 2, (![0, o] : Fin 2 → ℕ) i + (![256, 256] : Fin 2 → ℕ) i ≤ S256x1024.size i)
    (x : S256x256.Idx) (R : Fin 8192) (j : Fin 1024) (h0 : R.val = 256 * t.val + (x 0).val) (h1 : j.val = 256 * h.val + (x 1).val) :
    attB (View.ld (iblk m c 0 t) (Rect.unit ![0, o] ![256, 256] inb)) (View.ld (iblk m c 1 t) (Rect.unit ![0, o] ![256, 256] inb))
      (View.ld (iblk m c 2 t) (Rect.unit ![0, o] ![256, 256] inb)) x = att (kQ m c) (kK m c) (kV m c) (ix2 R j) := by
  subst ho
  obtain ⟨r, e, rfl⟩ : ∃ (r e : Fin 256), x = ix2 r e := ⟨x 0, x 1, eq_ix2 x⟩
  obtain rfl : R = row t r := Fin.ext h0
  obtain rfl : j = col h e := Fin.ext h1
  refine Finset.sum_congr rfl fun n _ => congrArg₂ (fun a b : EReal => a * b) ?_ ?_
  · refine congrArg (fun s => wt s n) (funext fun i => congrArg (fun s : EReal => s * scale) (Finset.sum_congr rfl fun f _ => ?_))
    refine (mul_comm _ _).trans (congrArg₂ (fun a b : EReal => a * b) ?_ ?_)
    · refine ((ld_part (256 * h.val) _ _ _ (ix2 i (col h f)) rfl rfl).trans (k_at m c t i _)).trans ?_
      exact congrArg₂ (fun a b => kK m c (ix2 a b)) (mrow_row t r i).symm (hcol_col h e f).symm
    · refine ((ld_part (256 * h.val) _ _ _ (ix2 r (col h f)) rfl rfl).trans (q_at m c t r _)).trans ?_
      exact congrArg (fun b => kQ m c (ix2 (row t r) b)) (hcol_col h e f).symm
  · refine ((ld_part (256 * h.val) _ _ _ (ix2 n (col h e)) rfl rfl).trans (v_at m c t n _)).trans ?_
    exact congrArg (fun M => kV m c (ix2 M (col h e))) (mrow_row t r n).symm

/-- The result array after the run. -/
theorem att_arr : (dats m 0 c).arrAt 3 (cfgs 0).N = att (kQ m c) (kK m c) (kV m c) := by
  refine (dats m 0 c).arrAt_eq_of_covers 3 _ (by decide +kernel) fun t hf y => ?_
  blk_simp; rw [after0_3]; frame_out; canon_tiles x hx
  all_goals refine Eq.trans ?_ (congrArg _ (eq_ix2 _)).symm
  · exact (at_3 _ _ _ x).trans (att_at m c t 3 _ rfl _ x _ _ (by blk_simp [idx t] <;> omega) (by blk_simp [idx t] <;> omega))
  · exact (at_2 _ _ _ x).trans (att_at m c t 2 _ rfl _ x _ _ (by blk_simp [idx t] <;> omega) (by blk_simp [idx t] <;> omega))
  · exact (at_1 _ _ _ x).trans (att_at m c t 1 _ rfl _ x _ _ (by blk_simp [idx t] <;> omega) (by blk_simp [idx t] <;> omega))
  · exact (at_0 _ _ _ x).trans (att_at m c t 0 _ rfl _ x _ _ (by blk_simp [idx t] <;> omega) (by blk_simp [idx t] <;> omega))

end Cert.AttnFwdIdeal.Gen

end
-- ==== Proof.AttnFwdClaim.lean ====
/- The claims about the forward attention. -/
module

public import proofs.«01_k».proof.Defs
public import proofs.«01_k».proof.Proof.AttnFwd
public import proofs.«01_k».proof.Proof.Gen.AttnFwd.Frame

@[expose] public section

set_option maxRecDepth 16384

noncomputable section

namespace Cert.Proof

open Idealize.ShloMosaic Idealize.SL.Sem
open Cert.AttnFwdRefIdeal (nD τ sig defs main main_arg0 main_arg1 main_arg2 main_v20)
open Cert.AttnFwdRefIdeal.Value (outA)
open Cert.AttnRefIdeal.Value (rP)

theorem attnf_frame : Cert.quiescent_AttnFwd := fun m ρ _ => Cert.AttnFwd.Gen.frame m ρ

theorem attnf_frame_ideal : Cert.quiescent_AttnFwdIdeal := fun m ρ _ => Cert.AttnFwdIdeal.Gen.frame m ρ

theorem attnf_frame_ref : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run m ρ)

/-- The reference's run, its result named. -/
theorem attnf_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v20) = outA (rP (m (c.tc.loc main_arg0)) (m (c.tc.loc main_arg1))) (m (c.tc.loc main_arg2))
        ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  Cert.AttnFwdRefIdeal.Value.run m ρ

set_option maxHeartbeats 1000000 in
theorem attnf_value : Cert.algebraic_AttnFwdIdeal_AttnFwdRefIdeal := by
  pair_intro
  · run_from Cert.AttnFwdIdeal.Gen.run_main m g
  · run_from attnf_ref_run m' g'
    · exact (Cert.AttnFwdRefIdeal.Value.out_eq _ _ _).trans (Cert.AttnFwdIdeal.Gen.att_arr m c).symm

end Cert.Proof

end
-- ==== Proof.GmlpForwardRef.lean ====
/- What the gated mixer's forward reference computes, array by array. -/
module

public import proofs.«01_k».proof.Proof.GmlpRef
public import proofs.«01_k».proof.Proof.Gen.GmlpFwdRefIdeal.Run

@[expose] public section

set_option maxRecDepth 16384

noncomputable section

open Idealize.ShloMosaic Idealize.ShloMosaic.TcCoe Idealize.SL.Sem
open Idealize.ShloMosaic.Pipeline (Dat)
open Cert.Reals Cert.GmlpMath
open Cert.GmlpRefIdeal.Value (row crow row_self crow_chunk place_row colOf_self)

namespace Cert.GmlpFwdRefIdeal.Value

open Cert.GmlpFwdRefIdeal Cert.GmlpFwdRefIdeal.Gen

variable (Z : FVec Ideal S8192x2048 .f32) (G B : FVec Ideal S1x1024 .f32) (W : FVec Ideal S1x8x128x128 .f32) (S : FVec Ideal S1x8x128 .f32)

/-- The cubic term's weight, a quotient. -/
def quot : FVec Ideal S_ .f32 := Host.divf (constant S_ .f32 0x472EAB00#32) (constant S_ .f32 0x49742400#32)

/-- The flat rows: the gate's hyperbolic tangent, the gate, its value. -/
def fth : FVec Ideal S8192x2048 .f32 :=
  Host.tanh (mulf (broadcastInDim S8192x2048 ![] bcast_S_S8192x2048 (constant S_ .f32 0x3F4C422A#32)) (addf Z (mulf (broadcastInDim S8192x2048 ![] bcast_S_S8192x2048 quot) (mulf (mulf Z Z) Z))))
def fcdf : FVec Ideal S8192x2048 .f32 :=
  mulf (broadcastInDim S8192x2048 ![] bcast_S_S8192x2048 (constant S_ .f32 0x3F000000#32)) (addf (broadcastInDim S8192x2048 ![] bcast_S_S8192x2048 (constant S_ .f32 0x3F800000#32)) (fth Z))
def fgelu : FVec Ideal S8192x2048 .f32 := mulf Z (fcdf Z)

theorem fth_apply (i : S8192x2048.Idx) : fth Z i = gth (Z i) := by
  pointwise [fth, gth, quot, cubic]

theorem fcdf_apply (i : S8192x2048.Idx) : fcdf Z i = gcdf (Z i) := by
  pointwise [fcdf, fth_apply, gcdf]

theorem fgelu_apply (i : S8192x2048.Idx) : fgelu Z i = gelu (Z i) := by
  pointwise [fgelu, fcdf_apply, gelu]

/-- The part of the derivative that comes through the gate. -/
def finner : FVec Ideal S8192x2048 .f32 :=
  mulf (broadcastInDim S8192x2048 ![] bcast_S_S8192x2048 (constant S_ .f32 0x3F4C422A#32))
    (mulf (mulf (broadcastInDim S8192x2048 ![] bcast_S_S8192x2048 (constant S_ .f32 0x3F000000#32)) (mulf Z (broadcastInDim S8192x2048 ![] bcast_S_S8192x2048 (constant S_ .f32 0x3F800000#32))))
      (mulf (addf (broadcastInDim S8192x2048 ![] bcast_S_S8192x2048 (constant S_ .f32 0x3F800000#32)) (fth Z)) (subf (broadcastInDim S8192x2048 ![] bcast_S_S8192x2048 (constant S_ .f32 0x3F800000#32)) (fth Z))))

/-- The gate's derivative, as the reference's differentiation spells it. -/
def fgrad : FVec Ideal S8192x2048 .f32 :=
  addf (addf (mulf (broadcastInDim S8192x2048 ![] bcast_S_S8192x2048 (constant S_ .f32 0x3F800000#32)) (fcdf Z)) (finner Z))
    (mulf (mulf (broadcastInDim S8192x2048 ![] bcast_S_S8192x2048 quot) (finner Z)) (mulf (broadcastInDim S8192x2048 ![] bcast_S_S8192x2048 (constant S_ .f32 0x40400000#32)) (mulf Z Z)))

theorem finner_apply (i : S8192x2048.Idx) : finner Z i = gin 1 (Z i) := by
  pointwise [finner, fth_apply, gin]

theorem fgrad_apply (hz : IsReal Z) (i : S8192x2048.Idx) : fgrad Z i = dgelu (Z i) := by
  refine Eq.trans ?_ ((gelu_grad Num.one (hz i)).trans (one_mul _))
  pointwise [fgrad, finner_apply, fcdf_apply, quot, cubic]

/-- The two halves; the second less its mean and one over its deviation. -/
def fleft : FVec Ideal S8192x1024 .f32 := extractStridedSlice S8192x1024 ![0, 0] (fgelu Z) slices_S8192x2048_S8192x1024_0_0
def fright : FVec Ideal S8192x1024 .f32 := extractStridedSlice S8192x1024 ![0, 1024] (fgelu Z) slices_S8192x2048_S8192x1024_0_1024
def fcen : FVec Ideal S8192x1024 .f32 :=
  subf (fright Z) (broadcastInDim S8192x1024 ![0, 1] bcast_S8192x1_S8192x1024_0_1 (Host.divf (broadcastInDim S8192x1 ![0] bcast_S8192_S8192x1_0
    (Host.reduceAdd (fright Z) (constant S_ .f32 0x00000000#32) reducesTo_S8192x1024_S8192_d1 h_S_)) (broadcastInDim S8192x1 ![] bcast_S_S8192x1 (constant S_ .f32 0x44800000#32))))
def frs : FVec Ideal S8192x1 .f32 :=
  Host.rsqrt (addf (Host.divf (broadcastInDim S8192x1 ![0] bcast_S8192_S8192x1_0 (Host.reduceAdd (mulf (fcen Z) (fcen Z)) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32)))

theorem fleft_apply (i : S8192x1024.Idx) : fleft Z i = up Z (i 0) (i 1) := by
  pointwise [fleft, fgelu_apply, up]

theorem fright_apply (i : S8192x1024.Idx) : fright Z i = vin Z (i 0) (i 1) := by
  pointwise [fright, fgelu_apply, vin]

theorem fcen_apply (i : S8192x1024.Idx) : fcen Z i = cen Z (i 0) (i 1) := by
  pointwise [fcen, fright_apply, cen, centre]

theorem frs_apply (i : S8192x1.Idx) : frs Z i = rs (cen Z (i 0)) := by
  pointwise [frs, fcen_apply, rs, msq]

/-- The reference's four saved arrays. -/
def outU : FVec Ideal S8192x1024 .bf16 := truncf .bf16 (fleft Z) bitsLt_bf16_f32
def outV : FVec Ideal S8192x1024 .bf16 := truncf .bf16 (mulf (fcen Z) (broadcastInDim S8192x1024 ![0, 1] bcast_S8192x1_S8192x1024_0_1 (frs Z))) bitsLt_bf16_f32
def outD : FVec Ideal S8192x2048 .bf16 := truncf .bf16 (fgrad Z) bitsLt_bf16_f32
def outR : FVec Ideal S8192x128 .f32 := broadcastInDim S8192x128 ![0, 1] bcast_S8192x1_S8192x128_0_1 (frs Z)

theorem outU_apply (i : S8192x1024.Idx) : outU Z i = up Z (i 0) (i 1) := by
  pointwise [outU, fleft_apply]

theorem outV_apply (i : S8192x1024.Idx) : outV Z i = vh Z (i 0) (i 1) := by
  pointwise [outV, fcen_apply, frs_apply, vh]

theorem outD_apply (hz : IsReal Z) (i : S8192x2048.Idx) : outD Z i = dgelu (Z i) := by
  pointwise [outD, fgrad_apply Z hz]

theorem outR_apply (i : S8192x128.Idx) : outR Z i = rs (cen Z (i 0)) := by
  pointwise [outR, frs_apply]

/-- The same of the two sequences' rows. -/
def seqs : FVec Ideal S2x4096x2048 .f32 := shapeCast _ Z shapeCasts_S8192x2048_S2x4096x2048
def sgelu : FVec Ideal S2x4096x2048 .f32 :=
  mulf (seqs Z) (mulf (broadcastInDim S2x4096x2048 ![] bcast_S_S2x4096x2048 (constant S_ .f32 0x3F000000#32)) (addf (broadcastInDim S2x4096x2048 ![] bcast_S_S2x4096x2048 (constant S_ .f32 0x3F800000#32))
    (Host.tanh (mulf (broadcastInDim S2x4096x2048 ![] bcast_S_S2x4096x2048 (constant S_ .f32 0x3F4C422A#32)) (addf (seqs Z) (mulf (broadcastInDim S2x4096x2048 ![] bcast_S_S2x4096x2048 quot) (mulf (mulf (seqs Z) (seqs Z)) (seqs Z))))))))
def sleft : FVec Ideal S2x4096x1024 .f32 := extractStridedSlice S2x4096x1024 ![0, 0, 0] (sgelu Z) slices_S2x4096x2048_S2x4096x1024_0_0_0
def sright : FVec Ideal S2x4096x1024 .f32 := extractStridedSlice S2x4096x1024 ![0, 0, 1024] (sgelu Z) slices_S2x4096x2048_S2x4096x1024_0_0_1024
def scen : FVec Ideal S2x4096x1024 .f32 :=
  subf (sright Z) (broadcastInDim S2x4096x1024 ![0, 1, 2] bcast_S2x4096x1_S2x4096x1024_0_1_2 (Host.divf (broadcastInDim S2x4096x1 ![0, 1] bcast_S2x4096_S2x4096x1_0_1
    (Host.reduceAdd (sright Z) (constant S_ .f32 0x00000000#32) reducesTo_S2x4096x1024_S2x4096_d2 h_S_)) (broadcastInDim S2x4096x1 ![] bcast_S_S2x4096x1 (constant S_ .f32 0x44800000#32))))
def srs : FVec Ideal S2x4096x1 .f32 :=
  Host.rsqrt (addf (Host.divf (broadcastInDim S2x4096x1 ![0, 1] bcast_S2x4096_S2x4096x1_0_1 (Host.reduceAdd (mulf (scen Z) (scen Z)) (constant S_ .f32 0x00000000#32) reducesTo_S2x4096x1024_S2x4096_d2 h_S_))
    (broadcastInDim S2x4096x1 ![] bcast_S_S2x4096x1 (constant S_ .f32 0x44800000#32))) (broadcastInDim S2x4096x1 ![] bcast_S_S2x4096x1 (constant S_ .f32 0x358637BD#32)))

/-- The normalised rows by chunk and group, the triangle of the mixing weights, what the mixing gives, the result. -/
def snorm : FVec Ideal S2x32x128x8x128 .f32 :=
  shapeCast _ (addf (mulf (mulf (scen Z) (broadcastInDim S2x4096x1024 ![0, 1, 2] bcast_S2x4096x1_S2x4096x1024_0_1_2 (srs Z)))
      (broadcastInDim S2x4096x1024 ![0, 1, 2] bcast_S1x1x1024_S2x4096x1024_0_1_2 (broadcastInDim S1x1x1024 ![2] bcast_S1024_S1x1x1024_2 (shapeCast _ G shapeCasts_S1x1024_S1024))))
    (broadcastInDim S2x4096x1024 ![0, 1, 2] bcast_S1x1x1024_S2x4096x1024_0_1_2 (broadcastInDim S1x1x1024 ![2] bcast_S1024_S1x1x1024_2 (shapeCast _ B shapeCasts_S1x1024_S1024)))) shapeCasts_S2x4096x1024_S2x32x128x8x128
def stri : FVec Ideal S8x128x128 .f32 :=
  select (broadcastInDim S8x128x128 ![0, 1, 2] bcast_S1x128x128_S8x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1)))))
    (shapeCast _ W shapeCasts_S1x8x128x128_S8x128x128) (broadcastInDim S8x128x128 ![] bcast_S_S8x128x128 (constant S_ .f32 0x00000000#32))
def smix : FVec Ideal S2x4096x1024 .f32 :=
  shapeCast _ (addf (transpose S2x32x128x8x128 [1, 2, 4, 0, 3] (Host.dotGeneral (φ₁ := .f32) (φ₂ := .f32) dot_S2x32x128x8x128_S8x128x128_S8x2x32x128x128_2_2_014_1_3_0 none (snorm Z G B) (stri W)) transposes_S8x2x32x128x128_S2x32x128x8x128_1_2_4_0_3)
    (broadcastInDim S2x32x128x8x128 ![0, 1, 2, 3, 4] bcast_S1x1x128x8x1_S2x32x128x8x128_0_1_2_3_4 (broadcastInDim S1x1x128x8x1 ![2, 3, 4] bcast_S128x8x1_S1x1x128x8x1_2_3_4
      (broadcastInDim S128x8x1 ![0, 1] bcast_S128x8_S128x8x1_0_1 (transpose S128x8 [1, 0] (shapeCast _ S shapeCasts_S1x8x128_S8x128) transposes_S8x128_S128x8_1_0))))) shapeCasts_S2x32x128x8x128_S2x4096x1024
def outY : FVec Ideal S8192x1024 .bf16 := truncf .bf16 (shapeCast _ (mulf (sleft Z) (smix Z G B W S)) shapeCasts_S2x4096x1024_S8192x1024) bitsLt_bf16_f32

theorem seqs_apply (i : S2x4096x2048.Idx) : seqs Z i = Z (ix2 (row (i 0) (i 1)) (i 2)) := by
  pointwise [seqs, row]

theorem sgelu_apply (i : S2x4096x2048.Idx) : sgelu Z i = gelu (Z (ix2 (row (i 0) (i 1)) (i 2))) := by
  pointwise [sgelu, seqs_apply, gelu, gcdf, gth, quot, cubic]

theorem sleft_apply (i : S2x4096x1024.Idx) : sleft Z i = up Z (row (i 0) (i 1)) (i 2) := by
  pointwise [sleft, sgelu_apply, up]

theorem sright_apply (i : S2x4096x1024.Idx) : sright Z i = vin Z (row (i 0) (i 1)) (i 2) := by
  pointwise [sright, sgelu_apply, vin]

theorem scen_apply (i : S2x4096x1024.Idx) : scen Z i = cen Z (row (i 0) (i 1)) (i 2) := by
  pointwise [scen, sright_apply, cen, centre]

theorem srs_apply (i : S2x4096x1.Idx) : srs Z i = rs (cen Z (row (i 0) (i 1))) := by
  pointwise [srs, scen_apply, rs, msq]

theorem snorm_apply (i : S2x32x128x8x128.Idx) : snorm Z G B i = vn Z G B (crow (i 0) (i 1) (i 2)) (colOf (i 3) (i 4)) := by
  pointwise [snorm, scen_apply, srs_apply, vn, vh, crow, colOf, row]

theorem stri_apply (i : S8x128x128.Idx) : stri W i = tri W (i 0) (i 1) (i 2) := by
  pointwise [stri, tri]
  exact tri_select _ _ _

theorem smix_apply (i : S2x4096x1024.Idx) : smix Z G B W S i = sv Z G B W S (row (i 0) (i 1)) (i 2) := by
  pointwise [smix, snorm_apply, stri_apply, sv]
  refine congrArg₂ (fun x y : EReal => x + y) (Finset.sum_congr rfl fun k _ => ?_) (congrArg (fun u => S (ix3 0 (grp (i 2)) u)) (place_row (i 0) (i 1) _))
  exact (mul_comm _ _).trans (congrArg₂ (fun x y : EReal => x * y) (congrArg (fun u => tri W (grp (i 2)) u k) (place_row (i 0) (i 1) _))
    (congrArg₂ (vn Z G B) (crow_chunk (i 0) (i 1) k _) (colOf_self (i 2) _ _)))

theorem outY_apply (r : Fin 8192) (j : Fin 1024) : (outY Z G B W S (ix2 r j) : EReal) = up Z r j * sv Z G B W S r j := by
  have q : row ⟨r.val / 4096, by omega⟩ ⟨r.val % 4096, by omega⟩ = r := row_self r _ _
  pointwise [outY, sleft_apply, smix_apply]
  rw [q]

end Cert.GmlpFwdRefIdeal.Value

end
-- ==== Proof.GmlpForward.lean ====
/- The gated mixer's forward call by itself: what its five arrays hold. -/
module

public import proofs.«01_k».proof.Proof.GmlpBwd
public import proofs.«01_k».proof.Proof.GmlpForwardRef
public import proofs.«01_k».proof.Proof.Gen.GmlpFwdIdeal.Value

@[expose] public section

set_option maxRecDepth 16384

noncomputable section

open Idealize.ShloMosaic Idealize.ShloMosaic.TcCoe Idealize.SL.Sem
open Idealize.ShloMosaic.Pipeline (Dat)
open Cert.Reals Cert.GmlpMath
open Cert.GmlpIdeal.Gen (halfRow mixed flat_row flat_bias maskOut maskOut_apply)
open Cert.GmlpFwdRefIdeal.Value (outY outU outV outD outR outY_apply outU_apply outV_apply outD_apply outR_apply)

namespace Cert.GmlpFwdIdeal.Value

open Cert.GmlpFwdIdeal Cert.GmlpFwdIdeal.Gen

theorem named_c : Named.named (F := Ideal) (φ := .f32) κ "c" 0x3D372713#32 = cubic :=
  (IdealRules.named_const.ideal_named_scalar _ _ _ _ rfl).trans cubic_eq.symm

theorem named_c3 : Named.named (F := Ideal) (φ := .f32) κ "c3" 0x3E095D4F#32 = ((26829 / 200000 : ℝ) : EReal) :=
  IdealRules.named_const.ideal_named_scalar _ _ _ _ rfl

/-- The gate of every element of a block, -/
theorem k0pay4_apply (b : Vec Ideal S128x2048 .bf16) (y : S128x2048.Idx) : k0_pay4 (F := Ideal) b y = gth (b y) := by
  pointwise [k0_pay4, k0_pay3, k0_pay2, named_c, gth]

theorem k0pay6_apply (b : Vec Ideal S128x2048 .bf16) (y : S128x2048.Idx) : k0_pay6 (F := Ideal) b y = gelu (b y) := by
  pointwise [k0_pay6, k0_pay5, k0_pay2, k0pay4_apply, gelu, gcdf]

/-- … its derivative, -/
theorem k0pay7_apply (b : Vec Ideal S128x2048 .bf16) (y : S128x2048.Idx) : k0_pay7 (F := Ideal) b y = dgelu (b y) := by
  pointwise [k0_pay7, k0_pay5, k0_pay3, k0_pay2, k0pay4_apply, named_c3, dgelu, gcdf]

/-- … the gate's half, -/
theorem k0pay8_apply (b : Vec Ideal S128x2048 .bf16) (y : S128x1024.Idx) : k0_pay8 (F := Ideal) b y = gelu (b (ix2 (y 0) ⟨(y 1).val, Nat.lt_trans (y 1).isLt (by decide)⟩)) := by
  pointwise [k0_pay8, k0pay6_apply]

/-- … the other half less its mean, -/
theorem k0pay9_apply (b : Vec Ideal S128x2048 .bf16) (y : S128x1024.Idx) : k0_pay9 (F := Ideal) b y = centre (halfRow b (y 0)) (y 1) := by
  pointwise [k0_pay9, k0pay6_apply, centre, halfRow]

/-- … one over its deviation. -/
theorem k0pay11_apply (b : Vec Ideal S128x2048 .bf16) (y : S128x1.Idx) : k0_pay11 (F := Ideal) (k0_pay10 b) y = rs (centre (halfRow b (y 0))) := by
  pointwise [k0_pay11, k0_pay10, k0pay9_apply, rs, msq]

/-- The normalised half. -/
theorem k0pay12_apply (b : Vec Ideal S128x2048 .bf16) (y : S128x1024.Idx) : k0_pay12 (F := Ideal) (k0_pay9 b) (k0_pay10 b) y = centre (halfRow b (y 0)) (y 1) * rs (centre (halfRow b (y 0))) := by
  pointwise [k0_pay12, k0pay9_apply, k0pay11_apply]

/-- The whole block read back. -/
theorem whole_block (b : Vec Ideal S128x2048 .bf16) : (View.ld b r0_0 : Vec Ideal S128x2048 .bf16) = b :=
  View.ld_unit_zero (by decide) _ _

/-- The normalised half, scaled and moved. -/
theorem k0pay16_apply (b : Vec Ideal S128x2048 .bf16) (g s : Vec Ideal S1x1024 .f32) (y : S128x1024.Idx) :
    k0_pay16 (F := Ideal) (k0_pay9 b) (k0_pay10 b) g s y = centre (halfRow b (y 0)) (y 1) * rs (centre (halfRow b (y 0))) * g (ix2 0 (y 1)) + s (ix2 0 (y 1)) := by
  pointwise [k0_pay16, k0pay12_apply]

/-- The mixing: the weights against the normalised rows, group by group, their bias, times the gate's half. -/
theorem k0pay1_apply (u v : FVec Ideal S128x1024 .f32) (q : FVec Ideal S128 .f32) (g b : Vec Ideal S1x1024 .f32) (w : Vec Ideal S8x128x128 .bf16) (e : Vec Ideal S128x1024 .f32) (y : S128x1024.Idx) :
    k0_pay1 (F := Ideal) u (k0_pay16 v q g b) (k0_pay17 v q g b (View.ld w r0_4)) (k0_pay18 v q g b (View.ld w r0_5)) (k0_pay19 (View.ld w r0_6))
      (View.ld w r0_7) (View.ld w r0_8) (View.ld w r0_9) (View.ld w r0_10) (View.ld w r0_11) e y = u y * (mixed w (k0_pay16 v q g b) y + e y) := by
  obtain ⟨r, j, rfl⟩ : ∃ (r : Fin 128) (j : Fin 1024), y = ix2 r j := ⟨y 0, y 1, eq_ix2 y⟩
  generalize hp : k0_pay16 v q g b = p
  pointwise [k0_pay1, k0_pay17, k0_pay18, k0_pay19, hp, mixed]
  have hj := j.isLt
  refine congrArg (fun x : EReal => u (ix2 r j) * (x + e (ix2 r j))) ?_
  split_ifs <;> exact Finset.sum_congr rfl fun s _ => congrArg₂ (fun a b : EReal => a * b)
    (congrArg (fun q => w (ix3 q r s)) (Fin.ext (by dsimp only; simp; omega))) (congrArg (fun q => p (ix2 s q)) (Fin.ext (by dsimp only; try omega)))

variable (m : (ℓ : Loc nD τ sig) → Buf (Elt Ideal) ℓ) (c : Dev nD)

/-- The arguments by name. -/
abbrev kZ : FVec Ideal S8192x2048 .f32 := m ((c : Thread nD τ).loc main_arg0)
abbrev kG : FVec Ideal S1x1024 .f32 := m ((c : Thread nD τ).loc main_arg1)
abbrev kB : FVec Ideal S1x1024 .f32 := m ((c : Thread nD τ).loc main_arg2)
abbrev kW : FVec Ideal S1x8x128x128 .f32 := m ((c : Thread nD τ).loc main_arg3)
abbrev kS : FVec Ideal S1x8x128 .f32 := m ((c : Thread nD τ).loc main_arg4)

/-- Every window's block at every grid point. -/
theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- What the host prepares. -/
theorem entry10 : V m c main_v10 = truncf (F := Ideal) .bf16 (kZ m c) bitsLt_bf16_f32 := by entry_read; try rfl
theorem entry12 : V m c main_v12 = shapeCast S1x1024 (shapeCast S1024 (kG m c) shapeCasts_S1x1024_S1024) shapeCasts_S1024_S1x1024 := by entry_read; try rfl
theorem entry14 : V m c main_v14 = shapeCast S1x1024 (shapeCast S1024 (kB m c) shapeCasts_S1x1024_S1024) shapeCasts_S1024_S1x1024 := by entry_read; try rfl
theorem entry5' : V m c main_v5 = truncf (F := Ideal) .bf16 (maskOut (shapeCast S8x128x128 (kW m c) shapeCasts_S1x8x128x128_S8x128x128)) bitsLt_bf16_f32 := by entry_read; try rfl
theorem entry9' : V m c main_v9 = shapeCast S128x1024 (broadcastInDim S128x8x128 ![0, 1] bcast_S128x8_S128x8x128_0_1
    (transpose S128x8 [1, 0] (shapeCast S8x128 (kS m c) shapeCasts_S1x8x128_S8x128) transposes_S8x128_S128x8_1_0)) shapeCasts_S128x8x128_S128x1024 := by entry_read; try rfl

/-- The rows a grid point reads. -/
theorem z_at (t : Fin cfg0.N) (y : S128x2048.Idx) (i : S8192x2048.Idx) (e0 : (i 0 : ℕ) = 128 * t.val + y 0) (e1 : (i 1 : ℕ) = y 1) :
    (iblk m c 0 t : Vec Ideal S128x2048 .bf16) y = kZ m c i := by
  blk_simp [iblk]; rw [entry10]; blk_point [idx t]

theorem half_at (t : Fin cfg0.N) (y : Fin 128) (r : Fin 8192) (e0 : r.val = 128 * t.val + y.val) :
    halfRow (iblk m c 0 t : Vec Ideal S128x2048 .bf16) y = vin (kZ m c) r :=
  funext fun k => congrArg gelu (z_at m c t (ix2 y _) (ix2 r _) e0 rfl)

theorem g_at (t : Fin cfg0.N) (j : Fin 1024) : ((iblk m c 1 t : Vec Ideal S1x1024 .f32) (ix2 0 j) : EReal) = kG m c (ix2 0 j) := by
  blk_simp [iblk]; rw [entry12]
  have e : (win0_1.blk t).view.emb (ix2 0 j) = ix2 0 j := by
    refine (eq_ix2 _).trans ?_
    congr 1 <;> exact Fin.ext (by blk_simp [idx t])
  exact (congrArg _ e).trans (flat_row _ j)

theorem b_at (t : Fin cfg0.N) (j : Fin 1024) : ((iblk m c 2 t : Vec Ideal S1x1024 .f32) (ix2 0 j) : EReal) = kB m c (ix2 0 j) := by
  blk_simp [iblk]; rw [entry14]
  have e : (win0_2.blk t).view.emb (ix2 0 j) = ix2 0 j := by
    refine (eq_ix2 _).trans ?_
    congr 1 <;> exact Fin.ext (by blk_simp [idx t])
  exact (congrArg _ e).trans (flat_row _ j)

theorem tri_at (t : Fin cfg0.N) (q : Fin 8) (a s : Fin 128) : ((iblk m c 3 t : Vec Ideal S8x128x128 .bf16) (ix3 q a s) : EReal) = tri (kW m c) q a s := by
  blk_simp [iblk]; rw [entry5']
  refine Eq.trans (b := (maskOut (shapeCast S8x128x128 (kW m c) shapeCasts_S1x8x128x128_S8x128x128) (ix3 q a s) : EReal)) ?_ ?_
  · generalize maskOut (shapeCast S8x128x128 (kW m c) shapeCasts_S1x8x128x128_S8x128x128) = A
    blk_point [idx t]
  · rw [maskOut_apply]; unfold tri
    pointwise []

theorem bias_at (t : Fin cfg0.N) (a : Fin 128) (j : Fin 1024) :
    ((iblk m c 4 t : Vec Ideal S128x1024 .f32) (ix2 a j) : EReal) = kS m c (ix3 0 (grp j) a) := by
  blk_simp [iblk]; rw [entry9']
  have e : (win0_4.blk t).view.emb (ix2 a j) = ix2 a j := by
    refine (eq_ix2 _).trans ?_
    congr 1 <;> exact Fin.ext (by blk_simp [idx t])
  exact (congrArg _ e).trans (flat_bias _ a j)

theorem vn_at (t : Fin cfg0.N) (a : Fin 128) (j : Fin 1024) (r : Fin 8192) (e0 : r.val = 128 * t.val + a.val) :
    (k0_pay16 (F := Ideal) (k0_pay9 (iblk m c 0 t)) (k0_pay10 (iblk m c 0 t)) (iblk m c 1 t) (iblk m c 2 t) (ix2 a j) : EReal) = vn (kZ m c) (kG m c) (kB m c) r j := by
  refine (k0pay16_apply _ _ _ _).trans (congrArg₂ (fun x y : EReal => x + y) (congrArg₂ (fun x y : EReal => x * y) ?_ (g_at m c t j)) (b_at m c t j))
  exact congrArg (fun v => centre v j * rs (centre v)) (half_at m c t a r e0)

/-- The mixed rows and their bias. -/
theorem sv_at (t : Fin cfg0.N) (a : Fin 128) (j : Fin 1024) (r : Fin 8192) (e0 : r.val = 128 * t.val + a.val) :
    mixed (iblk m c 3 t) (k0_pay16 (F := Ideal) (k0_pay9 (iblk m c 0 t)) (k0_pay10 (iblk m c 0 t)) (iblk m c 1 t) (iblk m c 2 t)) (ix2 a j)
      + ((iblk m c 4 t : Vec Ideal S128x1024 .f32) (ix2 a j) : EReal) = sv (kZ m c) (kG m c) (kB m c) (kW m c) (kS m c) r j := by
  obtain rfl : place r = a := Fin.ext (by unfold place; simp only; omega)
  refine congrArg₂ (fun x y : EReal => x + y) ?_ (bias_at m c t _ j)
  refine Finset.sum_congr rfl fun s _ => congrArg₂ (fun x y : EReal => x * y) (tri_at m c t (grp j) (place r) s) (vn_at m c t _ _ _ ?_)
  show r.val / 128 * 128 + s.val = 128 * t.val + s.val
  omega

/-- The result. -/
theorem final5 : (dats m 0 c).arrAt 5 (cfgs 0).N = outY (kZ m c) (kG m c) (kB m c) (kW m c) (kS m c) := by
  refine (dats m 0 c).arrAt_eq_of_covers 5 _ (by decide +kernel) fun t hf y => ?_
  blk_simp; rw [after0_5]; frame_out
  refine Eq.trans ?_ (congrArg _ (eq_ix2 _)).symm
  refine Eq.trans ?_ (outY_apply _ _ _ _ _ _ _).symm
  unfold k0_pay20 k0_pay21 k0_pay22
  rw [whole_block]
  refine (k0pay1_apply _ _ _ _ _ _ _ y).trans ?_
  obtain ⟨a, j, rfl⟩ : ∃ (a : Fin 128) (j : Fin 1024), y = ix2 a j := ⟨y 0, y 1, eq_ix2 y⟩
  refine congrArg₂ (fun x y : EReal => x * y) ?_ ?_
  · exact (k0pay8_apply _ _).trans (congrArg gelu (z_at m c t _ _ (by blk_simp [idx t] <;> omega) (by blk_simp [idx t] <;> omega)))
  · refine (sv_at m c t a j _ ?_).trans (congrArg (sv (kZ m c) (kG m c) (kB m c) (kW m c) (kS m c) _) (Fin.ext ?_)) <;> blk_simp [idx t] <;> omega

/-- The gate's half. -/
theorem final6 : (dats m 0 c).arrAt 6 (cfgs 0).N = outU (kZ m c) := by
  refine (dats m 0 c).arrAt_eq_of_covers 6 _ (by decide +kernel) fun t hf y => ?_
  blk_simp; rw [after0_6]; frame_out
  refine Eq.trans ?_ (outU_apply _ _).symm
  pointwise [k0_pay13, k0_pay20]
  rw [whole_block, k0pay8_apply]
  exact congrArg gelu (z_at m c t _ _ (by blk_simp [idx t] <;> omega) (by blk_simp [idx t] <;> omega))

/-- The normalised half. -/
theorem final7 : (dats m 0 c).arrAt 7 (cfgs 0).N = outV (kZ m c) := by
  refine (dats m 0 c).arrAt_eq_of_covers 7 _ (by decide +kernel) fun t hf y => ?_
  blk_simp; rw [after0_7]; frame_out
  refine Eq.trans ?_ (outV_apply _ _).symm
  pointwise [k0_pay14, k0_pay21, k0_pay22]
  rw [whole_block, k0pay12_apply]
  exact congrArg₂ (fun v j => centre v j * rs (centre v)) (half_at m c t _ _ (by blk_simp [idx t] <;> omega)) (Fin.ext (by blk_simp [idx t] <;> omega))

/-- The gate's derivative. -/
theorem final8 (hz : IsReal (kZ m c)) : (dats m 0 c).arrAt 8 (cfgs 0).N = outD (kZ m c) := by
  refine (dats m 0 c).arrAt_eq_of_covers 8 _ (by decide +kernel) fun t hf y => ?_
  blk_simp; rw [after0_8]; frame_out
  refine Eq.trans ?_ (outD_apply _ hz _).symm
  rw [k0pay7_apply]
  exact congrArg dgelu (z_at m c t _ _ (by blk_simp [idx t] <;> omega) (by blk_simp [idx t] <;> omega))

/-- One over the deviation, beside 128 columns. -/
theorem final9 : (dats m 0 c).arrAt 9 (cfgs 0).N = outR (kZ m c) := by
  refine (dats m 0 c).arrAt_eq_of_covers 9 _ (by decide +kernel) fun t hf y => ?_
  blk_simp; rw [after0_9]; frame_out
  refine Eq.trans ?_ (outR_apply _ _).symm
  pointwise [k0_pay15, k0_pay22]
  rw [whole_block, k0pay11_apply]
  exact congrArg (fun v => rs (centre v)) (half_at m c t _ _ (by blk_simp [idx t] <;> omega))

end Cert.GmlpFwdIdeal.Value

end
-- ==== Proof.GmlpFwdClaim.lean ====
/- The claims about the gated mixer, forward. -/
module

public import proofs.«01_k».proof.Defs
public import proofs.«01_k».proof.Proof.GmlpForward
public import proofs.«01_k».proof.Proof.Gen.GmlpFwd.Frame
public import proofs.«01_k».proof.Proof.Gen.Pre_finite_gmlpf
public import proofs.«01_k».proof.Proof.Rows

@[expose] public section

set_option maxRecDepth 16384

noncomputable section

namespace Cert.Proof

open Idealize.ShloMosaic Idealize.SL.Sem
open Cert.Reals Cert.Rows
open Cert.GmlpFwdRefIdeal (nD τ sig defs main main_arg0 main_arg1 main_arg2 main_arg3 main_arg4 main_v109 main_v110 main_v113 main_v114 main_v115)
open Cert.GmlpFwdRefIdeal.Value (outY outU outV outD outR)

theorem gmlpf_frame : Cert.quiescent_GmlpFwd := fun m ρ _ => Cert.GmlpFwd.Gen.frame m ρ

theorem gmlpf_frame_ideal : Cert.quiescent_GmlpFwdIdeal := fun m ρ _ => Cert.GmlpFwdIdeal.Gen.frame m ρ

theorem gmlpf_frame_ideal_pre : Cert.quiescent_GmlpFwdIdeal_pre_finite_gmlpf := fun m ρ _ => Cert.GmlpFwdIdeal.Gen.frame m ρ

theorem gmlpf_frame_ref : Cert.quiescent_GmlpFwdRefIdeal := fun m ρ _ =>
  (θ_run Cert.GmlpFwdRefIdeal.defs _ _).mono (fun r h => ⟨fun c => (h c).2.2.2.2.2, sem_eq_zero_of_no_sems (by decide) r.2⟩)
    (Cert.GmlpFwdRefIdeal.Value.run m ρ)

theorem gmlpf_frame_ref_pre : Cert.quiescent_GmlpFwdRefIdeal_pre_finite_gmlpf := fun m ρ _ => gmlpf_frame_ref m ρ trivial

theorem gmlpf_preserves : Cert.preserves_GmlpFwd_GmlpFwdIdeal := ⟨IdealRules.named_const.statement Cert.GmlpFwdIdeal.κ "c" .f32 0x3D372713#32 ((8943 / 200000 : ℝ) : EReal) rfl,
  IdealRules.named_const.statement Cert.GmlpFwdIdeal.κ "c3" .f32 0x3E095D4F#32 ((26829 / 200000 : ℝ) : EReal) rfl⟩

set_option maxHeartbeats 4000000 in
/-- The reference's run, its results named. -/
theorem gmlpf_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v109) = outY (m (c.tc.loc main_arg0)) (m (c.tc.loc main_arg1)) (m (c.tc.loc main_arg2)) (m (c.tc.loc main_arg3)) (m (c.tc.loc main_arg4))
        ∧ r.2.mem (c.tc.loc main_v110) = outU (m (c.tc.loc main_arg0))
        ∧ r.2.mem (c.tc.loc main_v113) = outV (m (c.tc.loc main_arg0))
        ∧ r.2.mem (c.tc.loc main_v114) = outD (m (c.tc.loc main_arg0))
        ∧ r.2.mem (c.tc.loc main_v115) = outR (m (c.tc.loc main_arg0))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4) :=
  Cert.GmlpFwdRefIdeal.Value.run m ρ

open Cert.Pre_finite_gmlpf in
/-- What the precondition says: the rows are reals. -/
theorem gmlpf_pre (a0 : FVec Ideal S8192x2048 .f32) (a1 : FVec Ideal S1x1024 .f32) (a2 : FVec Ideal S1x1024 .f32) (a3 : FVec Ideal S1x8x128x128 .f32) (a4 : FVec Ideal S1x8x128 .f32)
    (h : Cert.Pre_finite_gmlpf.fn (F := Ideal) a0 a1 a2 a3 a4 = fun _ => 1#1) : IsReal a0 := by
  have h := congrFun h (fun k => k.elim0)
  unfold Cert.Pre_finite_gmlpf.fn at h
  exact isReal_of_all a0 _ _ _ _ _ _ h

set_option maxHeartbeats 4000000 in
theorem gmlpf_value : Cert.algebraic_GmlpFwdIdeal_GmlpFwdRefIdeal_pre_finite_gmlpf := by
  pair_intro
  · run_from Cert.GmlpFwdIdeal.Value.run_blocks m g
  · run_from gmlpf_ref_run m' g'
    · exact (Cert.GmlpFwdIdeal.Value.final5 m c).symm
    · exact (Cert.GmlpFwdIdeal.Value.final6 m c).symm
    · exact (Cert.GmlpFwdIdeal.Value.final7 m c).symm
    · exact (Cert.GmlpFwdIdeal.Value.final8 m c (gmlpf_pre _ _ _ _ _ (hpre c))).symm
    · exact (Cert.GmlpFwdIdeal.Value.final9 m c).symm

end Cert.Proof

end
-- ==== Proof.MergeForward.lean ====
/- The gated merge's forward call: what the reference computes, and the kernel's result arrays, which hold the same. -/
module

public import proofs.«01_k».proof.Proof.Reals
public import proofs.«01_k».proof.Proof.Gen.MergeFwdIdeal.Value
public import proofs.«01_k».proof.Proof.Gen.MergeFwdRefIdeal.Run

@[expose] public section

set_option maxRecDepth 16384

noncomputable section

open Idealize.ShloMosaic Idealize.ShloMosaic.TcCoe Idealize.SL.Sem
open Idealize.ShloMosaic.Pipeline (Dat)

namespace Cert.MergeFwdRefIdeal.Value

open Cert.MergeFwdRefIdeal Cert.MergeFwdRefIdeal.Gen

/-- The constant one. -/
def ones : FVec Ideal S8192x1024 .f32 := broadcastInDim S8192x1024 ![] bcast_S_S8192x1024 (constant S_ .f32 0x3F800000#32)

/-- The logistic function of an array. -/
def gate (z : FVec Ideal S8192x1024 .f32) : FVec Ideal S8192x1024 .f32 := Host.divf ones (addf ones (Host.exp (Host.negf z)))

/-- The projection of the branch of 1024 columns. -/
def wide (y : FVec Ideal S8192x1024 .f32) (w : FVec Ideal S1x1024x1024 .f32) : FVec Ideal S8192x1024 .f32 :=
  Host.dotGeneral (φ₁ := .f32) (φ₂ := .f32) dot_S8192x1024_S1024x1024_S8192x1024_1_0_0_1_n_n none y (shapeCast _ w shapeCasts_S1x1024x1024_S1024x1024)

/-- The projection of the branch of 512 columns. -/
def half (y : FVec Ideal S8192x512 .f32) (w : FVec Ideal S1x512x1024 .f32) : FVec Ideal S8192x1024 .f32 :=
  Host.dotGeneral (φ₁ := .f32) (φ₂ := .f32) dot_S8192x512_S512x1024_S8192x1024_1_0_0_1_n_n none y (shapeCast _ w shapeCasts_S1x512x1024_S512x1024)

/-- Two branches under their gates, added. -/
def blend (a b p q : FVec Ideal S8192x1024 .f32) : FVec Ideal S8192x1024 .f32 := addf (mulf (gate a) p) (mulf (gate b) q)

theorem gate_apply (z : FVec Ideal S8192x1024 .f32) (i : S8192x1024.Idx) : gate z i = Ideal.logistic (z i) := by
  have h : ones i = (1 : EReal) := by rw [← Cert.Reals.bits_one]; pointwise [ones]
  show Ideal.div (ones i) (ones i + Ideal.exp (-(z i))) = _
  rw [h]; rfl

end Cert.MergeFwdRefIdeal.Value

namespace Cert.MergeFwdIdeal.Value

open Cert.MergeFwdIdeal Cert.MergeFwdIdeal.Gen
open Cert.MergeFwdRefIdeal.Value (gate wide half blend gate_apply)

variable (m : (ℓ : Loc nD τ sig) → Buf (Elt Ideal) ℓ)

/-- Every window's block at every grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![t.val, 0] ∧ win0_7.index t = ![t.val, 0] ∧ win0_8.index t = ![t.val, 0] :=
  (by decide +kernel : ∀ t : Fin grid0.N, _)

/-- A gate as the body writes it. -/
theorem gate_eq (x : EReal) : Ideal.ofBits .f32 0x3F000000#32 * (1 + Ideal.tanh (Ideal.ofBits .f32 0x3F000000#32 * x)) = Ideal.logistic x := by
  rw [Cert.Reals.bits_half, Cert.Reals.half_tanh]

/-- A block of both branches under their gates. -/
theorem blend_apply (v0 v2 v14 v25 : Vec Ideal S1024x1024 .bf16) (v5 : Vec Ideal S1024x512 .bf16) (v7 : Vec Ideal S512x1024 .bf16) (y : S1024x1024.Idx) :
    k0_pay1 (k0_pay3 v5 v7) (k0_pay6 v0 v2 v14) (k0_pay7 v25) (Scalar.ofBits .f32 0x3F000000#32) y
      = Ideal.logistic (v14 y) * (∑ l : Fin 1024, v0 (ix2 (y 0) l) * v2 (ix2 l (y 1))) + Ideal.logistic (v25 y) * ∑ l : Fin 512, v5 (ix2 (y 0) l) * v7 (ix2 l (y 1)) := by
  rw [← gate_eq, ← gate_eq]; pointwise [k0_pay1, k0_pay3, k0_pay6, k0_pay7, k0_pay2]

/-- The first projection. -/
theorem final6 (c : Dev nD) : (dats m 0 c).arrAt 6 (cfgs 0).N
    = truncf (F := Ideal) .bf16 (wide (m ((c : Thread nD τ).loc main_arg0)) (m ((c : Thread nD τ).loc main_arg4))) Cert.MergeFwdRefIdeal.Gen.bitsLt_bf16_f32 := by
  refine (dats m 0 c).arrAt_eq_of_covers 6 _ (by decide +kernel) fun t hf y => ?_
  blk_simp; rw [after0_6]; frame_out
  pointwise [k0_pay4, k0_pay2, wide]
  blk_point [iblk, V, idx t]

/-- The second projection. -/
theorem final7 (c : Dev nD) : (dats m 0 c).arrAt 7 (cfgs 0).N
    = truncf (F := Ideal) .bf16 (half (m ((c : Thread nD τ).loc main_arg1)) (m ((c : Thread nD τ).loc main_arg5))) Cert.MergeFwdRefIdeal.Gen.bitsLt_bf16_f32 := by
  refine (dats m 0 c).arrAt_eq_of_covers 7 _ (by decide +kernel) fun t hf y => ?_
  blk_simp; rw [after0_7]; frame_out
  pointwise [k0_pay5, k0_pay3, half]
  blk_point [iblk, V, idx t]

/-- The merged branches. -/
theorem final8 (c : Dev nD) : (dats m 0 c).arrAt 8 (cfgs 0).N
    = truncf (F := Ideal) .bf16 (blend (m ((c : Thread nD τ).loc main_arg2)) (m ((c : Thread nD τ).loc main_arg3)) (wide (m ((c : Thread nD τ).loc main_arg0)) (m ((c : Thread nD τ).loc main_arg4))) (half (m ((c : Thread nD τ).loc main_arg1)) (m ((c : Thread nD τ).loc main_arg5)))) Cert.MergeFwdRefIdeal.Gen.bitsLt_bf16_f32 := by
  refine (dats m 0 c).arrAt_eq_of_covers 8 _ (by decide +kernel) fun t hf y => ?_
  blk_simp; rw [after0_8]; frame_out
  refine (blend_apply _ _ _ _ _ _ y).trans ?_
  pointwise [blend, gate_apply, wide, half]
  blk_point [iblk, V, idx t]

end Cert.MergeFwdIdeal.Value

end
-- ==== Proof.MergeFwdClaim.lean ====
/- The claims about the gated merge's forward call. -/
module

public import proofs.«01_k».proof.Defs
public import proofs.«01_k».proof.Proof.MergeForward
public import proofs.«01_k».proof.Proof.Gen.MergeFwd.Frame

@[expose] public section

set_option maxRecDepth 16384

noncomputable section

namespace Cert.Proof

open Idealize.ShloMosaic Idealize.SL.Sem
open Cert.MergeFwdRefIdeal (nD τ sig defs main main_arg0 main_arg1 main_arg2 main_arg3 main_arg4 main_arg5 main_v19 main_v20 main_v21)
open Cert.MergeFwdRefIdeal.Value (wide half blend)

theorem mergef_frame : Cert.quiescent_MergeFwd := fun m ρ _ => Cert.MergeFwd.Gen.frame m ρ

theorem mergef_frame_ideal : Cert.quiescent_MergeFwdIdeal := fun m ρ _ => Cert.MergeFwdIdeal.Gen.frame m ρ

theorem mergef_frame_ref : Cert.quiescent_MergeFwdRefIdeal := fun m ρ _ =>
  (θ_run Cert.MergeFwdRefIdeal.defs _ _).mono (fun r h => ⟨fun c => (h c).2.2.2, sem_eq_zero_of_no_sems (by decide) r.2⟩)
    (Cert.MergeFwdRefIdeal.Value.run m ρ)

/-- The reference's run, its results named. -/
theorem mergef_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v19) = truncf (F := Ideal) .bf16 (wide (m (c.tc.loc main_arg0)) (m (c.tc.loc main_arg4))) Cert.MergeFwdRefIdeal.Gen.bitsLt_bf16_f32
        ∧ r.2.mem (c.tc.loc main_v20) = truncf (F := Ideal) .bf16 (half (m (c.tc.loc main_arg1)) (m (c.tc.loc main_arg5))) Cert.MergeFwdRefIdeal.Gen.bitsLt_bf16_f32
        ∧ r.2.mem (c.tc.loc main_v21) = truncf (F := Ideal) .bf16 (blend (m (c.tc.loc main_arg2)) (m (c.tc.loc main_arg3)) (wide (m (c.tc.loc main_arg0)) (m (c.tc.loc main_arg4))) (half (m (c.tc.loc main_arg1)) (m (c.tc.loc main_arg5)))) Cert.MergeFwdRefIdeal.Gen.bitsLt_bf16_f32
        ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) ∧ r.2.mem (c.tc.loc main_arg3) = (m (c.tc.loc main_arg3)) ∧ r.2.mem (c.tc.loc main_arg4) = (m (c.tc.loc main_arg4)) ∧ r.2.mem (c.tc.loc main_arg5) = (m (c.tc.loc main_arg5)) :=
  Cert.MergeFwdRefIdeal.Value.run m ρ

set_option maxHeartbeats 1000000 in
theorem mergef_value : Cert.algebraic_MergeFwdIdeal_MergeFwdRefIdeal := by
  pair_intro
  · run_from Cert.MergeFwdIdeal.Gen.run_main m g
  · run_from mergef_ref_run m' g'
    · exact (Cert.MergeFwdIdeal.Value.final6 m c).symm
    · exact (Cert.MergeFwdIdeal.Value.final7 m c).symm
    · exact (Cert.MergeFwdIdeal.Value.final8 m c).symm

end Cert.Proof

end
-- ==== Proof.Close.lean ====
/- The end of a sublayer: a projection, its norm added to the residual, and the norm the next sublayer begins with. What
   the references compute, and the same of one block of rows. -/
module

public import proofs.«01_k».proof.Proof.Rows
public import proofs.«01_k».proof.Proof.Gen.MixOutRefIdeal.Run

@[expose] public section

set_option maxRecDepth 16384

noncomputable section

open Idealize.ShloMosaic Idealize.ShloMosaic.TcCoe Idealize.SL.Sem
open Idealize.ShloMosaic.Pipeline (Dat)
open Cert.Reals Cert.Rows

namespace Cert.Close

open Cert.MixOutRefIdeal Cert.MixOutRefIdeal.Gen

/-- The projection. -/
def prj (a : FVec Ideal S8192x1024 .f32) (w : FVec Ideal S1x1024x1024 .f32) : FVec Ideal S8192x1024 .f32 :=
  Host.dotGeneral (φ₁ := .f32) (φ₂ := .f32) dot_S8192x1024_S1024x1024_S8192x1024_1_0_0_1_n_n none a (shapeCast _ w shapeCasts_S1x1024x1024_S1024x1024)

/-- A norm of rows. -/
def opened (x : FVec Ideal S8192x1024 .f32) (g : FVec Ideal S1x1024 .f32) : FVec Ideal S8192x1024 .f32 := mulf (normed x) (gain g)

/-- The residual with the norm of the sublayer's output added. -/
def closed (x o : FVec Ideal S8192x1024 .f32) (g : FVec Ideal S1x1024 .f32) : FVec Ideal S8192x1024 .f32 := addf x (opened o g)

theorem prj_apply (a : FVec Ideal S8192x1024 .f32) (w : FVec Ideal S1x1024x1024 .f32) (i : S8192x1024.Idx) :
    prj a w i = ∑ l : Fin 1024, a (ix2 (i 0) l) * w (ix3 0 l (i 1)) := by pointwise [prj]

theorem opened_apply (x : FVec Ideal S8192x1024 .f32) (g : FVec Ideal S1x1024 .f32) (i : S8192x1024.Idx) :
    opened x g i = line x (i 0) (i 1) * rs (line x (i 0)) * g (ix2 0 (i 1)) :=
  congrArg₂ (fun a b : EReal => a * b) (normed_apply x i) (gain_apply g i)

theorem closed_apply (x o : FVec Ideal S8192x1024 .f32) (g : FVec Ideal S1x1024 .f32) (i : S8192x1024.Idx) :
    closed x o g i = x i + line o (i 0) (i 1) * rs (line o (i 0)) * g (ix2 0 (i 1)) :=
  congrArg (fun a : EReal => x i + a) (opened_apply o g i)

/-! The same of a block, given as functions of a row and a column. -/

variable {n : ℕ}

/-- The product of a block with the weight, -/
def bprj (a : Fin n → Fin 1024 → EReal) (w : Fin 1024 → Fin 1024 → EReal) (r : Fin n) (j : Fin 1024) : EReal := ∑ l : Fin 1024, a r l * w l j

/-- … the norm of its rows, -/
def bopen (a : Fin n → Fin 1024 → EReal) (g : Fin 1024 → EReal) (r : Fin n) (j : Fin 1024) : EReal := a r j * rs (a r) * g j

/-- … and the norm on top of the residual. -/
def bclose (x a : Fin n → Fin 1024 → EReal) (g : Fin 1024 → EReal) (r : Fin n) (j : Fin 1024) : EReal := x r j + bopen a g r j

/-- A block's rows as rows of the array. -/
theorem bprj_eq {a : Fin n → Fin 1024 → EReal} {w : Fin 1024 → Fin 1024 → EReal} {A : FVec Ideal S8192x1024 .f32} {W : FVec Ideal S1x1024x1024 .f32}
    {f : Fin n → Fin 8192} (ha : ∀ r l, a r l = A (ix2 (f r) l)) (hw : ∀ l j, w l j = W (ix3 0 l j)) (r : Fin n) (j : Fin 1024) :
    bprj a w r j = prj A W (ix2 (f r) j) :=
  (Finset.sum_congr rfl fun l _ => congrArg₂ (fun a b : EReal => a * b) (ha r l) (hw l j)).trans (prj_apply A W (ix2 (f r) j)).symm

theorem bopen_eq {a : Fin n → Fin 1024 → EReal} {g : Fin 1024 → EReal} {A : FVec Ideal S8192x1024 .f32} {G : FVec Ideal S1x1024 .f32}
    {f : Fin n → Fin 8192} (ha : ∀ r l, a r l = A (ix2 (f r) l)) (hg : ∀ j, g j = G (ix2 0 j)) (r : Fin n) (j : Fin 1024) :
    bopen a g r j = opened A G (ix2 (f r) j) :=
  (congrArg₂ (fun a b : EReal => a * b) (congrArg₂ (fun a b : EReal => a * b) (ha r j) (congrArg rs (funext fun l => ha r l))) (hg j)).trans
    (opened_apply A G (ix2 (f r) j)).symm

theorem bclose_eq {x a : Fin n → Fin 1024 → EReal} {g : Fin 1024 → EReal} {X A : FVec Ideal S8192x1024 .f32} {G : FVec Ideal S1x1024 .f32}
    {f : Fin n → Fin 8192} (hx : ∀ r l, x r l = X (ix2 (f r) l)) (ha : ∀ r l, a r l = A (ix2 (f r) l)) (hg : ∀ j, g j = G (ix2 0 j)) (r : Fin n) (j : Fin 1024) :
    bclose x a g r j = closed X A G (ix2 (f r) j) :=
  congrArg₂ (fun a b : EReal => a + b) (hx r j) (bopen_eq ha hg r j)

end Cert.Close

end
-- ==== Proof.MixOut.lean ====
/- The mixer's output call: its four result arrays after the run. -/
module

public import proofs.«01_k».proof.Proof.Close
public import proofs.«01_k».proof.Proof.Gen.MixOutIdeal.Value

@[expose] public section

set_option maxRecDepth 16384

noncomputable section

open Idealize.ShloMosaic Idealize.ShloMosaic.TcCoe Idealize.SL.Sem
open Idealize.ShloMosaic.Pipeline (Dat)
open Cert.Reals Cert.Rows

namespace Cert.MixOutIdeal.Value

open Cert.MixOutIdeal Cert.MixOutIdeal.Gen Cert.Close

/-- Every window's block at every grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

/-! What the payloads hold at one index. -/

section payloads

variable (v0 v2 v40 : Vec Ideal S1024x1024 .bf16) (v7 : Vec Ideal S1024x1024 .f32) (v8 v24 : Vec Ideal S1x1024 .f32) (y : S1024x1024.Idx)

/-- The projection of a block, -/
abbrev o_ (v0 v2 : Vec Ideal S1024x1024 .bf16) : Fin 1024 → Fin 1024 → EReal := bprj (fun r l : Fin 1024 => v0 (ix2 r l)) (fun l j : Fin 1024 => v2 (ix2 l j))

/-- … the residual stream after it, -/
abbrev x_ (v0 v2 : Vec Ideal S1024x1024 .bf16) (v7 : Vec Ideal S1024x1024 .f32) (v8 : Vec Ideal S1x1024 .f32) : Fin 1024 → Fin 1024 → EReal :=
  bclose (fun r l : Fin 1024 => v7 (ix2 r l)) (o_ v0 v2) (fun j : Fin 1024 => v8 (ix2 0 j))

/-- … and the next sublayer's normed rows. -/
abbrev h_ (v0 v2 : Vec Ideal S1024x1024 .bf16) (v7 : Vec Ideal S1024x1024 .f32) (v8 v24 : Vec Ideal S1x1024 .f32) : Fin 1024 → Fin 1024 → EReal :=
  bopen (x_ v0 v2 v7 v8) (fun j : Fin 1024 => v24 (ix2 0 j))

theorem pay3_apply : k0_pay3 v0 v2 y = o_ v0 v2 (y 0) (y 1) := by pointwise [k0_pay3, o_, bprj]

theorem pay5_apply : k0_pay5 v0 v2 v7 v8 y = x_ v0 v2 v7 v8 (y 0) (y 1) := by
  pointwise [k0_pay5, pay3_apply, x_, bclose, bopen, rs, msq]

theorem pay1_apply : k0_pay1 (k0_pay6 v24) (k0_pay7 v0 v2 v7 v8) y = h_ v0 v2 v7 v8 v24 (y 0) (y 1) := by
  pointwise [k0_pay1, k0_pay6, k0_pay7, pay5_apply, h_, bopen, rs, msq]

theorem pay2_apply : k0_pay2 (k0_pay6 v24) (k0_pay7 v0 v2 v7 v8) v40 y = bprj (h_ v0 v2 v7 v8 v24) (fun l j : Fin 1024 => v40 (ix2 l j)) (y 0) (y 1) := by
  pointwise [k0_pay2, pay1_apply, bprj]

/-- The two values the body names again, of the blocks. -/
theorem again8 (v5 : Vec Ideal S1024x1024 .bf16) : k0_pay8 v0 v2 v7 v8 v24 v5 = k0_pay6 v24 := by unfold k0_pay8; frame_out

theorem again9 (v5 : Vec Ideal S1024x1024 .bf16) : k0_pay9 v0 v2 v7 v8 v24 v5 = k0_pay7 v0 v2 v7 v8 := by unfold k0_pay9; frame_out

end payloads

variable (m : (ℓ : Loc nD τ sig) → Buf (Elt Ideal) ℓ) (c : Dev nD)

/-- The reference's results, of the arguments. -/
abbrev oR : FVec Ideal S8192x1024 .f32 := prj (m ((c : Thread nD τ).loc main_arg0)) (m ((c : Thread nD τ).loc main_arg1))
abbrev xR : FVec Ideal S8192x1024 .f32 := closed (m ((c : Thread nD τ).loc main_arg2)) (oR m c) (m ((c : Thread nD τ).loc main_arg3))
abbrev hR : FVec Ideal S8192x1024 .f32 := opened (xR m c) (m ((c : Thread nD τ).loc main_arg4))
abbrev qR : FVec Ideal S8192x1024 .f32 := prj (hR m c) (m ((c : Thread nD τ).loc main_arg5))

/-- The row of the whole array a block's row is. -/
def row (t : Fin cfg0.N) (r : Fin 1024) : Fin 8192 := ⟨1024 * t.val + r.val, by have := lt_of_lt_of_eq t.isLt N_0; omega⟩

theorem o_at (t : Fin cfg0.N) (r j : Fin 1024) : o_ (iblk m c 0 t) (iblk m c 1 t) r j = oR m c (ix2 (row t r) j) :=
  bprj_eq (f := row t) (fun r l => by unfold row; blk_point [iblk, V, idx t]) (fun l j => by blk_point [iblk, V, idx t]) r j

theorem x_at (t : Fin cfg0.N) (r j : Fin 1024) : x_ (iblk m c 0 t) (iblk m c 1 t) (iblk m c 2 t) (iblk m c 3 t) r j = xR m c (ix2 (row t r) j) :=
  bclose_eq (f := row t) (fun r l => by unfold row; blk_point [iblk, V, idx t]) (o_at m c t) (fun j => by blk_point [iblk, V, idx t]) r j

theorem h_at (t : Fin cfg0.N) (r j : Fin 1024) :
    h_ (iblk m c 0 t) (iblk m c 1 t) (iblk m c 2 t) (iblk m c 3 t) (iblk m c 4 t) r j = hR m c (ix2 (row t r) j) :=
  bopen_eq (f := row t) (x_at m c t) (fun j => by blk_point [iblk, V, idx t]) r j

theorem q_at (t : Fin cfg0.N) (r j : Fin 1024) :
    bprj (h_ (iblk m c 0 t) (iblk m c 1 t) (iblk m c 2 t) (iblk m c 3 t) (iblk m c 4 t)) (fun l j : Fin 1024 => (iblk m c 5 t : Vec Ideal S1024x1024 .bf16) (ix2 l j)) r j
      = qR m c (ix2 (row t r) j) :=
  bprj_eq (f := row t) (h_at m c t) (fun l j => by blk_point [iblk, V, idx t]) r j

/-- An index of the array from a block's index. -/
theorem at_row {A : FVec Ideal S8192x1024 .f32} (t : Fin cfg0.N) (y : S1024x1024.Idx) (i : S8192x1024.Idx) (e0 : (i 0 : ℕ) = 1024 * t + y 0) (e1 : (i 1 : ℕ) = y 1) :
    A (ix2 (row t (y 0)) (y 1)) = A i :=
  congrArg A ((congrArg₂ ix2 (Fin.ext e0.symm) (Fin.ext e1.symm)).trans (eq_ix2 i).symm)

theorem final6 : (dats m 0 c).arrAt 6 (cfgs 0).N = truncf (F := Ideal) .bf16 (oR m c) Cert.MixOutRefIdeal.Gen.bitsLt_bf16_f32 := by
  refine (dats m 0 c).arrAt_eq_of_covers 6 _ (by decide +kernel) fun t hf y => ?_
  blk_simp; rw [after0_6]; frame_out
  refine (pay3_apply _ _ y).trans ?_
  refine (o_at m c t (y 0) (y 1)).trans ?_
  exact at_row t y _ (by blk_simp [idx t] <;> omega) (by blk_simp [idx t] <;> omega)

theorem final7 : (dats m 0 c).arrAt 7 (cfgs 0).N = xR m c := by
  refine (dats m 0 c).arrAt_eq_of_covers 7 _ (by decide +kernel) fun t hf y => ?_
  blk_simp; rw [after0_7]; frame_out
  refine (pay5_apply _ _ _ _ y).trans ?_
  refine (x_at m c t (y 0) (y 1)).trans ?_
  exact at_row t y _ (by blk_simp [idx t] <;> omega) (by blk_simp [idx t] <;> omega)

theorem final8 : (dats m 0 c).arrAt 8 (cfgs 0).N = truncf (F := Ideal) .bf16 (hR m c) Cert.MixOutRefIdeal.Gen.bitsLt_bf16_f32 := by
  refine (dats m 0 c).arrAt_eq_of_covers 8 _ (by decide +kernel) fun t hf y => ?_
  blk_simp; rw [after0_8]; frame_out
  rw [again8, again9]
  refine (pay1_apply (iblk m c 0 t) (iblk m c 1 t) (iblk m c 2 t) (iblk m c 3 t) (iblk m c 4 t) y).trans ?_
  refine (h_at m c t (y 0) (y 1)).trans ?_
  exact at_row t y _ (by blk_simp [idx t] <;> omega) (by blk_simp [idx t] <;> omega)

theorem final9 : (dats m 0 c).arrAt 9 (cfgs 0).N = truncf (F := Ideal) .bf16 (qR m c) Cert.MixOutRefIdeal.Gen.bitsLt_bf16_f32 := by
  refine (dats m 0 c).arrAt_eq_of_covers 9 _ (by decide +kernel) fun t hf y => ?_
  blk_simp; rw [after0_9]; frame_out
  rw [again8, again9]
  refine (pay2_apply (iblk m c 0 t) (iblk m c 1 t) (iblk m c 5 t) (iblk m c 2 t) (iblk m c 3 t) (iblk m c 4 t) y).trans ?_
  refine (q_at m c t (y 0) (y 1)).trans ?_
  exact at_row t y _ (by blk_simp [idx t] <;> omega) (by blk_simp [idx t] <;> omega)

end Cert.MixOutIdeal.Value

end
-- ==== Proof.MixOutClaim.lean ====
/- The claims about the mixer's output call. -/
module

public import proofs.«01_k».proof.Defs
public import proofs.«01_k».proof.Proof.MixOut
public import proofs.«01_k».proof.Proof.Gen.MixOut.Frame

@[expose] public section

set_option maxRecDepth 16384

noncomputable section

namespace Cert.Proof

open Idealize.ShloMosaic Idealize.SL.Sem
open Cert.MixOutRefIdeal (nD τ sig defs main main_arg0 main_arg1 main_arg2 main_arg3 main_arg4 main_arg5 main_v31 main_v16 main_v32 main_v35)
open Cert.Close (prj closed opened)

theorem mixout_frame : Cert.quiescent_MixOut := fun m ρ _ => Cert.MixOut.Gen.frame m ρ

theorem mixout_frame_ideal : Cert.quiescent_MixOutIdeal := fun m ρ _ => Cert.MixOutIdeal.Gen.frame m ρ

theorem mixout_frame_ref : Cert.quiescent_MixOutRefIdeal := fun m ρ _ =>
  (θ_run Cert.MixOutRefIdeal.defs _ _).mono (fun r h => ⟨fun c => (h c).2.2.2.2, sem_eq_zero_of_no_sems (by decide) r.2⟩)
    (Cert.MixOutRefIdeal.Value.run m ρ)

/-- The reference's run, its results named. -/
theorem mixout_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v31) = truncf (F := Ideal) .bf16 (prj (m (c.tc.loc main_arg0)) (m (c.tc.loc main_arg1))) Cert.MixOutRefIdeal.Gen.bitsLt_bf16_f32
        ∧ r.2.mem (c.tc.loc main_v16) = closed (m (c.tc.loc main_arg2)) (prj (m (c.tc.loc main_arg0)) (m (c.tc.loc main_arg1))) (m (c.tc.loc main_arg3))
        ∧ r.2.mem (c.tc.loc main_v32) = truncf (F := Ideal) .bf16 (opened (closed (m (c.tc.loc main_arg2)) (prj (m (c.tc.loc main_arg0)) (m (c.tc.loc main_arg1))) (m (c.tc.loc main_arg3))) (m (c.tc.loc main_arg4))) Cert.MixOutRefIdeal.Gen.bitsLt_bf16_f32
        ∧ r.2.mem (c.tc.loc main_v35) = truncf (F := Ideal) .bf16 (prj (opened (closed (m (c.tc.loc main_arg2)) (prj (m (c.tc.loc main_arg0)) (m (c.tc.loc main_arg1))) (m (c.tc.loc main_arg3))) (m (c.tc.loc main_arg4))) (m (c.tc.loc main_arg5))) Cert.MixOutRefIdeal.Gen.bitsLt_bf16_f32
        ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) ∧ r.2.mem (c.tc.loc main_arg3) = (m (c.tc.loc main_arg3)) ∧ r.2.mem (c.tc.loc main_arg4) = (m (c.tc.loc main_arg4)) ∧ r.2.mem (c.tc.loc main_arg5) = (m (c.tc.loc main_arg5)) :=
  Cert.MixOutRefIdeal.Value.run m ρ

set_option maxHeartbeats 1000000 in
theorem mixout_value : Cert.algebraic_MixOutIdeal_MixOutRefIdeal := by
  pair_intro
  · run_from Cert.MixOutIdeal.Gen.run_main m g
  · run_from mixout_ref_run m' g'
    · exact (Cert.MixOutIdeal.Value.final6 m c).symm
    · exact (Cert.MixOutIdeal.Value.final7 m c).symm
    · exact (Cert.MixOutIdeal.Value.final8 m c).symm
    · exact (Cert.MixOutIdeal.Value.final9 m c).symm

end Cert.Proof

end
-- ==== Proof.AttnOut.lean ====
/- The attention's output call: its three result arrays after the run. -/
module

public import proofs.«01_k».proof.Proof.Close
public import proofs.«01_k».proof.Proof.Gen.AttnOutIdeal.Value
public import proofs.«01_k».proof.Proof.Gen.AttnOutRefIdeal.Run

@[expose] public section

set_option maxRecDepth 16384

noncomputable section

open Idealize.ShloMosaic Idealize.ShloMosaic.TcCoe Idealize.SL.Sem
open Idealize.ShloMosaic.Pipeline (Dat)
open Cert.Reals Cert.Rows

namespace Cert.AttnOutIdeal.Value

open Cert.AttnOutIdeal Cert.AttnOutIdeal.Gen Cert.Close

/-- Every window's block at every grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-! What the payloads hold at one index. -/

section payloads

variable (v0 v2 : Vec Ideal S1024x1024 .bf16) (v7 : Vec Ideal S1024x1024 .f32) (v8 v24 : Vec Ideal S1x1024 .f32) (y : S1024x1024.Idx)

/-- The projection of a block, -/
abbrev o_ (v0 v2 : Vec Ideal S1024x1024 .bf16) : Fin 1024 → Fin 1024 → EReal := bprj (fun r l : Fin 1024 => v0 (ix2 r l)) (fun l j : Fin 1024 => v2 (ix2 l j))

/-- … the residual stream after it, -/
abbrev x_ (v0 v2 : Vec Ideal S1024x1024 .bf16) (v7 : Vec Ideal S1024x1024 .f32) (v8 : Vec Ideal S1x1024 .f32) : Fin 1024 → Fin 1024 → EReal :=
  bclose (fun r l : Fin 1024 => v7 (ix2 r l)) (o_ v0 v2) (fun j : Fin 1024 => v8 (ix2 0 j))

/-- … and the next sublayer's normed rows. -/
abbrev h_ (v0 v2 : Vec Ideal S1024x1024 .bf16) (v7 : Vec Ideal S1024x1024 .f32) (v8 v24 : Vec Ideal S1x1024 .f32) : Fin 1024 → Fin 1024 → EReal :=
  bopen (x_ v0 v2 v7 v8) (fun j : Fin 1024 => v24 (ix2 0 j))

theorem pay2_apply : k0_pay2 v0 v2 y = o_ v0 v2 (y 0) (y 1) := by pointwise [k0_pay2, o_, bprj]

theorem pay4_apply : k0_pay4 v0 v2 v7 v8 y = x_ v0 v2 v7 v8 (y 0) (y 1) := by
  pointwise [k0_pay4, pay2_apply, x_, bclose, bopen, rs, msq]

theorem pay1_apply : k0_pay1 (k0_pay5 v24) (k0_pay6 v0 v2 v7 v8) y = h_ v0 v2 v7 v8 v24 (y 0) (y 1) := by
  pointwise [k0_pay1, k0_pay5, k0_pay6, pay4_apply, h_, bopen, rs, msq]

end payloads

variable (m : (ℓ : Loc nD τ sig) → Buf (Elt Ideal) ℓ) (c : Dev nD)

/-- The reference's results, of the arguments. -/
abbrev oR : FVec Ideal S8192x1024 .f32 := prj (m ((c : Thread nD τ).loc main_arg0)) (m ((c : Thread nD τ).loc main_arg1))
abbrev xR : FVec Ideal S8192x1024 .f32 := closed (m ((c : Thread nD τ).loc main_arg2)) (oR m c) (m ((c : Thread nD τ).loc main_arg3))
abbrev hR : FVec Ideal S8192x1024 .f32 := opened (xR m c) (m ((c : Thread nD τ).loc main_arg4))

/-- The row of the whole array a block's row is. -/
def row (t : Fin cfg0.N) (r : Fin 1024) : Fin 8192 := ⟨1024 * t.val + r.val, by have := lt_of_lt_of_eq t.isLt N_0; omega⟩

theorem o_at (t : Fin cfg0.N) (r j : Fin 1024) : o_ (iblk m c 0 t) (iblk m c 1 t) r j = oR m c (ix2 (row t r) j) :=
  bprj_eq (f := row t) (fun r l => by unfold row; blk_point [iblk, V, idx t]) (fun l j => by blk_point [iblk, V, idx t]) r j

theorem x_at (t : Fin cfg0.N) (r j : Fin 1024) : x_ (iblk m c 0 t) (iblk m c 1 t) (iblk m c 2 t) (iblk m c 3 t) r j = xR m c (ix2 (row t r) j) :=
  bclose_eq (f := row t) (fun r l => by unfold row; blk_point [iblk, V, idx t]) (o_at m c t) (fun j => by blk_point [iblk, V, idx t]) r j

theorem h_at (t : Fin cfg0.N) (r j : Fin 1024) :
    h_ (iblk m c 0 t) (iblk m c 1 t) (iblk m c 2 t) (iblk m c 3 t) (iblk m c 4 t) r j = hR m c (ix2 (row t r) j) :=
  bopen_eq (f := row t) (x_at m c t) (fun j => by blk_point [iblk, V, idx t]) r j

/-- An index of the array from a block's index. -/
theorem at_row {A : FVec Ideal S8192x1024 .f32} (t : Fin cfg0.N) (y : S1024x1024.Idx) (i : S8192x1024.Idx) (e0 : (i 0 : ℕ) = 1024 * t + y 0) (e1 : (i 1 : ℕ) = y 1) :
    A (ix2 (row t (y 0)) (y 1)) = A i :=
  congrArg A ((congrArg₂ ix2 (Fin.ext e0.symm) (Fin.ext e1.symm)).trans (eq_ix2 i).symm)

theorem final5 : (dats m 0 c).arrAt 5 (cfgs 0).N = truncf (F := Ideal) .bf16 (oR m c) Cert.AttnOutRefIdeal.Gen.bitsLt_bf16_f32 := by
  refine (dats m 0 c).arrAt_eq_of_covers 5 _ (by decide +kernel) fun t hf y => ?_
  blk_simp; rw [after0_5]; frame_out
  refine (pay2_apply _ _ y).trans ?_
  refine (o_at m c t (y 0) (y 1)).trans ?_
  exact at_row t y _ (by blk_simp [idx t] <;> omega) (by blk_simp [idx t] <;> omega)

theorem final6 : (dats m 0 c).arrAt 6 (cfgs 0).N = xR m c := by
  refine (dats m 0 c).arrAt_eq_of_covers 6 _ (by decide +kernel) fun t hf y => ?_
  blk_simp; rw [after0_6]; frame_out
  refine (pay4_apply _ _ _ _ y).trans ?_
  refine (x_at m c t (y 0) (y 1)).trans ?_
  exact at_row t y _ (by blk_simp [idx t] <;> omega) (by blk_simp [idx t] <;> omega)

theorem final7 : (dats m 0 c).arrAt 7 (cfgs 0).N = truncf (F := Ideal) .bf16 (hR m c) Cert.AttnOutRefIdeal.Gen.bitsLt_bf16_f32 := by
  refine (dats m 0 c).arrAt_eq_of_covers 7 _ (by decide +kernel) fun t hf y => ?_
  blk_simp; rw [after0_7]; frame_out
  refine (pay1_apply (iblk m c 0 t) (iblk m c 1 t) (iblk m c 2 t) (iblk m c 3 t) (iblk m c 4 t) y).trans ?_
  refine (h_at m c t (y 0) (y 1)).trans ?_
  exact at_row t y _ (by blk_simp [idx t] <;> omega) (by blk_simp [idx t] <;> omega)

end Cert.AttnOutIdeal.Value

end
-- ==== Proof.AttnOutClaim.lean ====
/- The claims about the attention's output call. -/
module

public import proofs.«01_k».proof.Defs
public import proofs.«01_k».proof.Proof.AttnOut
public import proofs.«01_k».proof.Proof.Gen.AttnOut.Frame

@[expose] public section

set_option maxRecDepth 16384

noncomputable section

namespace Cert.Proof

open Idealize.ShloMosaic Idealize.SL.Sem
open Cert.AttnOutRefIdeal (nD τ sig defs main main_arg0 main_arg1 main_arg2 main_arg3 main_arg4 main_v17 main_v16 main_v32)
open Cert.Close (prj closed opened)

theorem attnout_frame : Cert.quiescent_AttnOut := fun m ρ _ => Cert.AttnOut.Gen.frame m ρ

theorem attnout_frame_ideal : Cert.quiescent_AttnOutIdeal := fun m ρ _ => Cert.AttnOutIdeal.Gen.frame m ρ

theorem attnout_frame_ref : Cert.quiescent_AttnOutRefIdeal := fun m ρ _ =>
  (θ_run Cert.AttnOutRefIdeal.defs _ _).mono (fun r h => ⟨fun c => (h c).2.2.2, sem_eq_zero_of_no_sems (by decide) r.2⟩)
    (Cert.AttnOutRefIdeal.Value.run m ρ)

/-- The reference's run, its results named. -/
theorem attnout_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v17) = truncf (F := Ideal) .bf16 (prj (m (c.tc.loc main_arg0)) (m (c.tc.loc main_arg1))) Cert.AttnOutRefIdeal.Gen.bitsLt_bf16_f32
        ∧ r.2.mem (c.tc.loc main_v16) = closed (m (c.tc.loc main_arg2)) (prj (m (c.tc.loc main_arg0)) (m (c.tc.loc main_arg1))) (m (c.tc.loc main_arg3))
        ∧ r.2.mem (c.tc.loc main_v32) = truncf (F := Ideal) .bf16 (opened (closed (m (c.tc.loc main_arg2)) (prj (m (c.tc.loc main_arg0)) (m (c.tc.loc main_arg1))) (m (c.tc.loc main_arg3))) (m (c.tc.loc main_arg4))) Cert.AttnOutRefIdeal.Gen.bitsLt_bf16_f32
        ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) ∧ r.2.mem (c.tc.loc main_arg3) = (m (c.tc.loc main_arg3)) ∧ r.2.mem (c.tc.loc main_arg4) = (m (c.tc.loc main_arg4)) :=
  Cert.AttnOutRefIdeal.Value.run m ρ

set_option maxHeartbeats 1000000 in
theorem attnout_value : Cert.algebraic_AttnOutIdeal_AttnOutRefIdeal := by
  pair_intro
  · run_from Cert.AttnOutIdeal.Gen.run_main m g
  · run_from attnout_ref_run m' g'
    · exact (Cert.AttnOutIdeal.Value.final5 m c).symm
    · exact (Cert.AttnOutIdeal.Value.final6 m c).symm
    · exact (Cert.AttnOutIdeal.Value.final7 m c).symm

end Cert.Proof

end
-- ==== Proof.MemKvForward.lean ====
/- The memory's norm and its projection to keys and values: what the reference computes, and the three result arrays. -/
module

public import proofs.«01_k».proof.Proof.Close
public import proofs.«01_k».proof.Proof.Gen.MemKvFwdIdeal.Value
public import proofs.«01_k».proof.Proof.Gen.MemKvFwdRefIdeal.Run

@[expose] public section

set_option maxRecDepth 16384

noncomputable section

open Idealize.ShloMosaic Idealize.ShloMosaic.TcCoe Idealize.SL.Sem
open Idealize.ShloMosaic.Pipeline (Dat)
open Cert.Reals

namespace Cert.MemKvFwdRefIdeal.Value

open Cert.MemKvFwdRefIdeal Cert.MemKvFwdRefIdeal.Gen

/-- The memory's rows, one below another. -/
def rows (x : FVec Ideal S2x256x1024 .f32) : FVec Ideal S512x1024 .f32 := shapeCast _ x shapeCasts_S2x256x1024_S512x1024

/-- Their norm with its gain. -/
def hn (x : FVec Ideal S512x1024 .f32) (g : FVec Ideal S1x1024 .f32) : FVec Ideal S512x1024 .f32 :=
  mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32))))))
    (broadcastInDim S512x1024 ![0, 1] bcast_S1x1024_S512x1024_0_1 (broadcastInDim S1x1024 ![1] bcast_S1024_S1x1024_1 (shapeCast _ g shapeCasts_S1x1024_S1024)))

/-- The keys and values, side by side, -/
def both (h : FVec Ideal S512x1024 .f32) (w : FVec Ideal S1x1024x2048 .f32) : FVec Ideal S512x2048 .f32 :=
  Host.dotGeneral (φ₁ := .f32) (φ₂ := .f32) dot_S512x1024_S1024x2048_S512x2048_1_0_0_1_n_n none h (shapeCast _ w shapeCasts_S1x1024x2048_S1024x2048)

/-- … the keys, -/
def keys (h : FVec Ideal S512x1024 .f32) (w : FVec Ideal S1x1024x2048 .f32) : FVec Ideal S512x1024 .f32 :=
  extractStridedSlice S512x1024 ![0, 0] (both h w) slices_S512x2048_S512x1024_0_0

/-- … and the values. -/
def vals (h : FVec Ideal S512x1024 .f32) (w : FVec Ideal S1x1024x2048 .f32) : FVec Ideal S512x1024 .f32 :=
  extractStridedSlice S512x1024 ![0, 1024] (both h w) slices_S512x2048_S512x1024_0_1024

variable (x h : FVec Ideal S512x1024 .f32) (g : FVec Ideal S1x1024 .f32) (w : FVec Ideal S1x1024x2048 .f32) (r : Fin 512) (j : Fin 1024)

theorem hn_apply : hn x g (ix2 r j) = x (ix2 r j) * rs (fun l : Fin 1024 => x (ix2 r l)) * g (ix2 0 j) := by
  pointwise [hn, rs, msq]

theorem keys_apply : keys h w (ix2 r j) = ∑ l : Fin 1024, h (ix2 r l) * w (ix3 0 l ⟨j.val, by omega⟩) := by
  pointwise [keys, both]

theorem vals_apply : vals h w (ix2 r j) = ∑ l : Fin 1024, h (ix2 r l) * w (ix3 0 l ⟨1024 + j.val, by omega⟩) := by
  pointwise [vals, both]

end Cert.MemKvFwdRefIdeal.Value

namespace Cert.MemKvFwdIdeal.Value

open Cert.MemKvFwdIdeal Cert.MemKvFwdIdeal.Gen Cert.Close
open Cert.MemKvFwdRefIdeal.Value (rows hn keys vals hn_apply keys_apply vals_apply)

/-- Every window's block at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

section payloads

variable (v0 : Vec Ideal S256x1024 .f32) (v2 : Vec Ideal S1x1024 .f32) (w : Vec Ideal S1024x1024 .bf16) (y : S256x1024.Idx)

/-- A block's normed rows. -/
abbrev h_ (v0 : Vec Ideal S256x1024 .f32) (v2 : Vec Ideal S1x1024 .f32) : Fin 256 → Fin 1024 → EReal :=
  bopen (fun (r : Fin 256) (l : Fin 1024) => v0 (ix2 r l)) (fun l : Fin 1024 => v2 (ix2 0 l))

theorem pay1_apply : k0_pay1 v0 v2 y = h_ v0 v2 (y 0) (y 1) := by pointwise [k0_pay1, h_, bopen, rs, msq]

theorem pay2_apply : k0_pay2 v0 v2 w y = bprj (h_ v0 v2) (fun l j : Fin 1024 => w (ix2 l j)) (y 0) (y 1) := by
  pointwise [k0_pay2, pay1_apply, bprj]

theorem pay3_apply : k0_pay3 v0 v2 w y = bprj (h_ v0 v2) (fun l j : Fin 1024 => w (ix2 l j)) (y 0) (y 1) := by
  pointwise [k0_pay3, pay1_apply, bprj]

end payloads

variable (m : (ℓ : Loc nD τ sig) → Buf (Elt Ideal) ℓ) (c : Dev nD)

/-- The arguments, and the normed memory. -/
abbrev xA : FVec Ideal S512x1024 .f32 := rows (m ((c : Thread nD τ).loc main_arg0))
abbrev hA : FVec Ideal S512x1024 .f32 := hn (xA m c) (m ((c : Thread nD τ).loc main_arg1))
abbrev wA : FVec Ideal S1x1024x2048 .f32 := m ((c : Thread nD τ).loc main_arg2)

/-- The row of the whole array a block's row is. -/
def row (t : Fin cfg0.N) (r : Fin 256) : Fin 512 := ⟨256 * t.val + r.val, by have := lt_of_lt_of_eq t.isLt N_0; omega⟩

theorem entry0 : V m c main_v0 = xA m c := by entry_read; try rfl

theorem x_at (t : Fin cfg0.N) (r : Fin 256) (l : Fin 1024) : (iblk m c 0 t : Vec Ideal S256x1024 .f32) (ix2 r l) = xA m c (ix2 (row t r) l) := by
  unfold row; blk_simp [iblk]; rw [entry0]; blk_point [iblk, V, idx t]

theorem h_at (t : Fin cfg0.N) (r : Fin 256) (j : Fin 1024) : h_ (iblk m c 0 t) (iblk m c 1 t) r j = hA m c (ix2 (row t r) j) :=
  (congrArg₂ (fun a b : EReal => a * b) (congrArg₂ (fun a b : EReal => a * b) (x_at m c t r j) (congrArg rs (funext fun l => x_at m c t r l)))
    (by blk_point [iblk, V, idx t])).trans (hn_apply (xA m c) (m ((c : Thread nD τ).loc main_arg1)) (row t r) j).symm

/-- A block's keys or values. -/
theorem kv_at (t : Fin cfg0.N) (W : Vec Ideal S1024x1024 .bf16) (o : ℕ) (ho : o ≤ 1024)
    (hW : ∀ l j : Fin 1024, W (ix2 l j) = wA m c (ix3 0 l ⟨o + j.val, by omega⟩)) (r : Fin 256) (j : Fin 1024) :
    bprj (h_ (iblk m c 0 t) (iblk m c 1 t)) (fun l j : Fin 1024 => W (ix2 l j)) r j
      = ∑ l : Fin 1024, hA m c (ix2 (row t r) l) * wA m c (ix3 0 l ⟨o + j.val, by omega⟩) :=
  Finset.sum_congr rfl fun l _ => congrArg₂ (fun a b : EReal => a * b) (h_at m c t r l) (hW l j)

/-- An index of the array from a block's index. -/
theorem at_row {A : FVec Ideal S512x1024 .f32} (t : Fin cfg0.N) (y : S256x1024.Idx) (i : S512x1024.Idx) (e0 : (i 0 : ℕ) = 256 * t + y 0) (e1 : (i 1 : ℕ) = y 1) :
    A (ix2 (row t (y 0)) (y 1)) = A i :=
  congrArg A ((congrArg₂ ix2 (Fin.ext e0.symm) (Fin.ext e1.symm)).trans (eq_ix2 i).symm)

theorem final3 : (dats m 0 c).arrAt 3 (cfgs 0).N = truncf (F := Ideal) .bf16 (hA m c) Cert.MemKvFwdRefIdeal.Gen.bitsLt_bf16_f32 := by
  refine (dats m 0 c).arrAt_eq_of_covers 3 _ (by decide +kernel) fun t hf y => ?_
  blk_simp; rw [after0_3]; frame_out
  refine (pay1_apply _ _ y).trans ?_
  refine (h_at m c t (y 0) (y 1)).trans ?_
  exact at_row t y _ (by blk_simp [idx t] <;> omega) (by blk_simp [idx t] <;> omega)

theorem final4 : (dats m 0 c).arrAt 4 (cfgs 0).N = truncf (F := Ideal) .bf16 (keys (hA m c) (wA m c)) Cert.MemKvFwdRefIdeal.Gen.bitsLt_bf16_f32 := by
  refine (dats m 0 c).arrAt_eq_of_covers 4 _ (by decide +kernel) fun t hf y => ?_
  blk_simp; rw [after0_4]; frame_out
  refine (pay2_apply _ _ _ y).trans ?_
  refine (kv_at m c t _ 0 (by omega) (fun l j => by pointwise; blk_point [iblk, V, idx t]) (y 0) (y 1)).trans ?_
  refine Eq.trans ?_ (at_row (A := keys (hA m c) (wA m c)) t y _ (by blk_simp [idx t] <;> omega) (by blk_simp [idx t] <;> omega))
  refine Eq.trans ?_ (keys_apply (hA m c) (wA m c) (row t (y 0)) (y 1)).symm
  exact Finset.sum_congr rfl fun l _ => congrArg (fun k => hA m c (ix2 (row t (y 0)) l) * wA m c (ix3 0 l k)) (Fin.ext (Nat.zero_add _))

theorem final5 : (dats m 0 c).arrAt 5 (cfgs 0).N = truncf (F := Ideal) .bf16 (vals (hA m c) (wA m c)) Cert.MemKvFwdRefIdeal.Gen.bitsLt_bf16_f32 := by
  refine (dats m 0 c).arrAt_eq_of_covers 5 _ (by decide +kernel) fun t hf y => ?_
  blk_simp; rw [after0_5]; frame_out
  refine (pay3_apply _ _ _ y).trans ?_
  refine (kv_at m c t _ 1024 (by omega) (fun l j => by pointwise; blk_point [iblk, V, idx t]) (y 0) (y 1)).trans ?_
  refine Eq.trans ?_ (at_row (A := vals (hA m c) (wA m c)) t y _ (by blk_simp [idx t] <;> omega) (by blk_simp [idx t] <;> omega))
  exact (vals_apply (hA m c) (wA m c) (row t (y 0)) (y 1)).symm

end Cert.MemKvFwdIdeal.Value

end
-- ==== Proof.MemKvFwdClaim.lean ====
/- The claims about the memory's norm and its projection to keys and values. -/
module

public import proofs.«01_k».proof.Defs
public import proofs.«01_k».proof.Proof.MemKvForward
public import proofs.«01_k».proof.Proof.Gen.MemKvFwd.Frame

@[expose] public section

set_option maxRecDepth 16384

noncomputable section

namespace Cert.Proof

open Idealize.ShloMosaic Idealize.SL.Sem
open Cert.MemKvFwdRefIdeal (nD τ sig defs main main_arg0 main_arg1 main_arg2 main_v19 main_v20 main_v21)
open Cert.MemKvFwdRefIdeal.Value (rows hn keys vals)

theorem memkvf_frame : Cert.quiescent_MemKvFwd := fun m ρ _ => Cert.MemKvFwd.Gen.frame m ρ

theorem memkvf_frame_ideal : Cert.quiescent_MemKvFwdIdeal := fun m ρ _ => Cert.MemKvFwdIdeal.Gen.frame m ρ

theorem memkvf_frame_ref : Cert.quiescent_MemKvFwdRefIdeal := fun m ρ _ =>
  (θ_run Cert.MemKvFwdRefIdeal.defs _ _).mono (fun r h => ⟨fun c => (h c).2.2.2, sem_eq_zero_of_no_sems (by decide) r.2⟩)
    (Cert.MemKvFwdRefIdeal.Value.run m ρ)

/-- The reference's run, its results named. -/
theorem memkvf_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v19) = truncf (F := Ideal) .bf16 (hn (rows (m (c.tc.loc main_arg0))) (m (c.tc.loc main_arg1))) Cert.MemKvFwdRefIdeal.Gen.bitsLt_bf16_f32
        ∧ r.2.mem (c.tc.loc main_v20) = truncf (F := Ideal) .bf16 (keys (hn (rows (m (c.tc.loc main_arg0))) (m (c.tc.loc main_arg1))) (m (c.tc.loc main_arg2))) Cert.MemKvFwdRefIdeal.Gen.bitsLt_bf16_f32
        ∧ r.2.mem (c.tc.loc main_v21) = truncf (F := Ideal) .bf16 (vals (hn (rows (m (c.tc.loc main_arg0))) (m (c.tc.loc main_arg1))) (m (c.tc.loc main_arg2))) Cert.MemKvFwdRefIdeal.Gen.bitsLt_bf16_f32
        ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  Cert.MemKvFwdRefIdeal.Value.run m ρ

set_option maxHeartbeats 1000000 in
theorem memkvf_value : Cert.algebraic_MemKvFwdIdeal_MemKvFwdRefIdeal := by
  pair_intro
  · run_from Cert.MemKvFwdIdeal.Gen.run_main m g
  · run_from memkvf_ref_run m' g'
    · exact (Cert.MemKvFwdIdeal.Value.final3 m c).symm
    · exact (Cert.MemKvFwdIdeal.Value.final4 m c).symm
    · exact (Cert.MemKvFwdIdeal.Value.final5 m c).symm

end Cert.Proof

end
-- ==== Proof.FfnUpForward.lean ====
/- The feed-forward's up call: the gate's and the up half's products, and the gated product. -/
module

public import proofs.«01_k».proof.Proof.Reals
public import proofs.«01_k».proof.Proof.Gen.FfnUpIdeal.Value
public import proofs.«01_k».proof.Proof.Gen.FfnUpRefIdeal.Run

@[expose] public section

set_option maxRecDepth 16384

noncomputable section

open Idealize.ShloMosaic Idealize.ShloMosaic.TcCoe Idealize.SL.Sem
open Idealize.ShloMosaic.Pipeline (Dat)
open Cert.Reals

namespace Cert.FfnUpRefIdeal.Value

open Cert.FfnUpRefIdeal Cert.FfnUpRefIdeal.Gen

/-- Both halves side by side, -/
def wide (h : FVec Ideal S8192x1024 .f32) (w : FVec Ideal S1x1024x5632 .f32) : FVec Ideal S8192x5632 .f32 :=
  Host.dotGeneral (φ₁ := .f32) (φ₂ := .f32) dot_S8192x1024_S1024x5632_S8192x5632_1_0_0_1_n_n none h (shapeCast _ w shapeCasts_S1x1024x5632_S1024x5632)

/-- … the gate's and the up one, -/
def gate (h : FVec Ideal S8192x1024 .f32) (w : FVec Ideal S1x1024x5632 .f32) : FVec Ideal S8192x2816 .f32 :=
  extractStridedSlice S8192x2816 ![0, 0] (wide h w) slices_S8192x5632_S8192x2816_0_0
def upper (h : FVec Ideal S8192x1024 .f32) (w : FVec Ideal S1x1024x5632 .f32) : FVec Ideal S8192x2816 .f32 :=
  extractStridedSlice S8192x2816 ![0, 2816] (wide h w) slices_S8192x5632_S8192x2816_0_2816

/-- … and the gated product. -/
def ones : FVec Ideal S8192x2816 .f32 := broadcastInDim S8192x2816 ![] bcast_S_S8192x2816 (constant S_ .f32 0x3F800000#32)
def sig (z : FVec Ideal S8192x2816 .f32) : FVec Ideal S8192x2816 .f32 := Host.divf ones (addf ones (Host.exp (Host.negf z)))
def gated (h : FVec Ideal S8192x1024 .f32) (w : FVec Ideal S1x1024x5632 .f32) : FVec Ideal S8192x2816 .f32 := mulf (mulf (gate h w) (sig (gate h w))) (upper h w)

theorem sig_apply (z : FVec Ideal S8192x2816 .f32) (i : S8192x2816.Idx) : sig z i = Ideal.logistic (z i) := by
  have h : ones i = (1 : EReal) := by rw [← Cert.Reals.bits_one]; pointwise [ones]
  show Ideal.div (ones i) (ones i + Ideal.exp (-(z i))) = _
  rw [h]; rfl

variable (h : FVec Ideal S8192x1024 .f32) (w : FVec Ideal S1x1024x5632 .f32) (r : Fin 8192)

theorem wide_apply (j : Fin 5632) : wide h w (ix2 r j) = ∑ l : Fin 1024, h (ix2 r l) * w (ix3 0 l j) := by pointwise [wide]

theorem gated_apply (j : Fin 2816) : gated h w (ix2 r j) = wide h w (ix2 r ⟨j.val, by omega⟩) * Ideal.logistic (wide h w (ix2 r ⟨j.val, by omega⟩)) * wide h w (ix2 r ⟨2816 + j.val, by omega⟩) := by
  pointwise [gated, sig_apply, gate, upper]

end Cert.FfnUpRefIdeal.Value

namespace Cert.FfnUpIdeal.Value

open Cert.FfnUpIdeal Cert.FfnUpIdeal.Gen
open Cert.FfnUpRefIdeal.Value (wide gated wide_apply gated_apply)

/-- Every window's block at every grid point. -/
theorem idx : ∀ t : Fin cfg0.N, win0_0.index t = ![t.val, 0] ∧ win0_1.index t = ![0, 0]
    ∧ win0_2.index t = ![t.val, 0] ∧ win0_3.index t = ![t.val, 0] := (by decide +kernel : ∀ t : Fin grid0.N, _)

/-- A block's product with one part of the weight, whose rows are the columns, as the call spells it; -/
def part (h : FVec Ideal S512x1024 .bf16) (W : Vec Ideal S256x1024 .bf16) : FVec Ideal S512x256 .f32 :=
  matmul dot_S512x1024_S256x1024_S512x256_1_1_0_0_n_n none h (shapeCast S256x1024 W shapeCasts_S256x1024_S256x1024 : FVec Ideal S256x1024 .bf16) (constant S512x256 .f32 0x00000000#32)

/-- … rounded; -/
def stored (h : FVec Ideal S512x1024 .bf16) (W : Vec Ideal S256x1024 .bf16) : FVec Ideal S512x256 .bf16 := truncf .bf16 (part h W) bitsLt_bf16_f32

/-- … and the gated product of two. -/
def joined (h : FVec Ideal S512x1024 .bf16) (W U : Vec Ideal S256x1024 .bf16) : FVec Ideal S512x256 .bf16 :=
  truncf .bf16 (mulf (mulf (part h W) (mulf (broadcast S512x256 (Scalar.ofBits .f32 0x3F000000#32)) (addf (broadcast S512x256 (Scalar.ofBits .f32 0x3F800000#32))
    (tanh (mulf (broadcast S512x256 (Scalar.ofBits .f32 0x3F000000#32)) (part h W)))))) (part h U)) bitsLt_bf16_f32

theorem part_apply (h : FVec Ideal S512x1024 .bf16) (W : Vec Ideal S256x1024 .bf16) (y : S512x256.Idx) :
    part h W y = ∑ l : Fin 1024, (h (ix2 (y 0) l) : EReal) * W (ix2 (y 1) l) := by pointwise [part]

theorem stored_apply (h : FVec Ideal S512x1024 .bf16) (W : Vec Ideal S256x1024 .bf16) (y : S512x256.Idx) : stored h W y = part h W y := by pointwise [stored]

theorem joined_apply (h : FVec Ideal S512x1024 .bf16) (W U : Vec Ideal S256x1024 .bf16) (y : S512x256.Idx) :
    joined h W U y = part h W y * Ideal.logistic (part h W y) * part h U y := by
  generalize hp : part h W = p
  generalize hq : part h U = q
  pointwise [joined, hp, hq, sig_bits]

theorem whole (b : Vec Ideal S512x1024 .bf16) : (View.ld b r0_0 : Vec Ideal S512x1024 .bf16) = b := View.ld_unit_zero (by decide) _ _

theorem whole_block (b : Vec Ideal S512x1024 .bf16) (y : S512x1024.Idx) : k0_pay2 (F := Ideal) b y = b y := by pointwise [k0_pay2]

/-- A part of the weight's rows, read. -/
theorem ld_part (o : ℕ) (inb : ∀ i : Fin 2, (![o, 0] : Fin 2 → ℕ) i + (![256, 1024] : Fin 2 → ℕ) i ≤ S5632x1024.size i) (Y : Vec Ideal S5632x1024 .bf16)
    (x : S256x1024.Idx) (j : S5632x1024.Idx) (h0 : (j 0).val = o + (x 0).val) (h1 : (j 1).val = (x 1).val) :
    View.ld Y (Rect.unit ![o, 0] ![256, 1024] inb) x = Y j := by
  refine congrArg Y (funext fun a => Fin.ext ?_)
  match a with
  | ⟨0, _⟩ => show o + 1 * (x 0).val = (j 0).val; omega
  | ⟨1, _⟩ => show 0 + 1 * (x 1).val = (j 1).val; omega

variable (m : (ℓ : Loc nD τ sig) → Buf (Elt Ideal) ℓ) (c : Dev nD)

/-- The rows and the weight. -/
abbrev hA : FVec Ideal S8192x1024 .f32 := m ((c : Thread nD τ).loc main_arg0)
abbrev wA : FVec Ideal S1x1024x5632 .f32 := m ((c : Thread nD τ).loc main_arg1)

theorem h_at (t : Fin cfg0.N) (r : Fin 512) (l : Fin 1024) (R : Fin 8192) (h0 : R.val = 512 * t.val + r.val) :
    ((iblk m c 0 t : Vec Ideal S512x1024 .bf16) (ix2 r l) : EReal) = hA m c (ix2 R l) := by
  blk_point [iblk, V, idx t]

theorem w_at (t : Fin cfg0.N) (K : Fin 5632) (l : Fin 1024) : ((iblk m c 1 t : Vec Ideal S5632x1024 .bf16) (ix2 K l) : EReal) = wA m c (ix3 0 l K) := by
  blk_point [iblk, V, idx t]

/-- One part of the product, for the two blocks the body reads. -/
theorem part_at (H : Vec Ideal S512x1024 .bf16) (Y : Vec Ideal S5632x1024 .bf16) (h : FVec Ideal S8192x1024 .f32) (w : FVec Ideal S1x1024x5632 .f32) (t : ℕ)
    (hH : ∀ (r : Fin 512) (l : Fin 1024) (R : Fin 8192), R.val = 512 * t + r.val → (H (ix2 r l) : EReal) = h (ix2 R l))
    (hY : ∀ (K : Fin 5632) (l : Fin 1024), (Y (ix2 K l) : EReal) = w (ix3 0 l K))
    (o : ℕ) (inb : ∀ i : Fin 2, (![o, 0] : Fin 2 → ℕ) i + (![256, 1024] : Fin 2 → ℕ) i ≤ S5632x1024.size i)
    (x : S512x256.Idx) (R : Fin 8192) (K : Fin 5632) (h0 : R.val = 512 * t + (x 0).val) (h1 : K.val = o + (x 1).val) :
    part (k0_pay2 H) (View.ld Y (Rect.unit ![o, 0] ![256, 1024] inb)) x = wide h w (ix2 R K) := by
  obtain ⟨r, e, rfl⟩ : ∃ (r : Fin 512) (e : Fin 256), x = ix2 r e := ⟨x 0, x 1, eq_ix2 x⟩
  refine (part_apply _ _ _).trans (Eq.trans ?_ (wide_apply _ _ _ _).symm)
  refine Finset.sum_congr rfl fun l _ => congrArg₂ (fun a b : EReal => a * b) ?_ ?_
  · exact (whole_block _ _).trans (hH r l R h0)
  · exact (ld_part o inb _ (ix2 e l) (ix2 K l) h1 rfl).trans (hY K l)

/-- What each tile of the first result holds, -/
theorem stored_at (H : Vec Ideal S512x1024 .bf16) (Y : Vec Ideal S5632x1024 .bf16) (h : FVec Ideal S8192x1024 .f32) (w : FVec Ideal S1x1024x5632 .f32) (t : ℕ)
    (hH : ∀ (r : Fin 512) (l : Fin 1024) (R : Fin 8192), R.val = 512 * t + r.val → (H (ix2 r l) : EReal) = h (ix2 R l))
    (hY : ∀ (K : Fin 5632) (l : Fin 1024), (Y (ix2 K l) : EReal) = w (ix3 0 l K))
    (o : ℕ) (inb : ∀ i : Fin 2, (![o, 0] : Fin 2 → ℕ) i + (![256, 1024] : Fin 2 → ℕ) i ≤ S5632x1024.size i)
    (x : S512x256.Idx) (R : Fin 8192) (K : Fin 5632) (h0 : R.val = 512 * t + (x 0).val) (h1 : K.val = o + (x 1).val) :
    stored (k0_pay2 H) (View.ld Y (Rect.unit ![o, 0] ![256, 1024] inb)) x = wide h w (ix2 R K) :=
  (stored_apply _ _ x).trans (part_at H Y h w t hH hY o inb x R K h0 h1)

/-- … and each tile of the second. -/
theorem joined_at (H : Vec Ideal S512x1024 .bf16) (Y : Vec Ideal S5632x1024 .bf16) (h : FVec Ideal S8192x1024 .f32) (w : FVec Ideal S1x1024x5632 .f32) (t : ℕ)
    (hH : ∀ (r : Fin 512) (l : Fin 1024) (R : Fin 8192), R.val = 512 * t + r.val → (H (ix2 r l) : EReal) = h (ix2 R l))
    (hY : ∀ (K : Fin 5632) (l : Fin 1024), (Y (ix2 K l) : EReal) = w (ix3 0 l K))
    (o p : ℕ) (inb : ∀ i : Fin 2, (![o, 0] : Fin 2 → ℕ) i + (![256, 1024] : Fin 2 → ℕ) i ≤ S5632x1024.size i)
    (inb' : ∀ i : Fin 2, (![p, 0] : Fin 2 → ℕ) i + (![256, 1024] : Fin 2 → ℕ) i ≤ S5632x1024.size i)
    (x : S512x256.Idx) (R : Fin 8192) (K : Fin 2816) (hp : p = 2816 + o) (h0 : R.val = 512 * t + (x 0).val) (h1 : K.val = o + (x 1).val) :
    joined (k0_pay2 H) (View.ld Y (Rect.unit ![o, 0] ![256, 1024] inb)) (View.ld Y (Rect.unit ![p, 0] ![256, 1024] inb')) x = gated h w (ix2 R K) := by
  refine (joined_apply _ _ _ x).trans (Eq.trans ?_ (gated_apply _ _ R K).symm)
  rw [part_at H Y h w t hH hY o inb x R ⟨K.val, by omega⟩ h0 h1, part_at H Y h w t hH hY p inb' x R ⟨2816 + K.val, by omega⟩ h0 (by simp only; omega)]

theorem final2 : (dats m 0 c).arrAt 2 (cfgs 0).N = truncf (F := Ideal) .bf16 (wide (hA m c) (wA m c)) Cert.FfnUpRefIdeal.Gen.bitsLt_bf16_f32 := by
  refine (dats m 0 c).arrAt_eq_of_covers 2 _ (by decide +kernel) fun t hf y => ?_
  have hH := h_at m c t
  have hY := w_at m c t
  blk_simp; rw [after0_2]; frame_out
  unfold k0_pay59 k0_pay60 k0_pay61
  simp only [whole]
  generalize (iblk m c 0 t : Vec Ideal S512x1024 .bf16) = H at *
  generalize (iblk m c 1 t : Vec Ideal S5632x1024 .bf16) = Y at *
  canon_tiles x hx
  all_goals
    refine Eq.trans ?_ (congrArg _ (eq_ix2 _)).symm
    refine stored_at H Y _ _ t hH hY _ _ x _ _ ?_ ?_
    all_goals blk_simp [idx t] <;> omega

theorem final3 : (dats m 0 c).arrAt 3 (cfgs 0).N = truncf (F := Ideal) .bf16 (gated (hA m c) (wA m c)) Cert.FfnUpRefIdeal.Gen.bitsLt_bf16_f32 := by
  refine (dats m 0 c).arrAt_eq_of_covers 3 _ (by decide +kernel) fun t hf y => ?_
  have hH := h_at m c t
  have hY := w_at m c t
  blk_simp; rw [after0_3]; frame_out
  unfold k0_pay59 k0_pay60 k0_pay61
  simp only [whole]
  generalize (iblk m c 0 t : Vec Ideal S512x1024 .bf16) = H at *
  generalize (iblk m c 1 t : Vec Ideal S5632x1024 .bf16) = Y at *
  canon_tiles x hx
  all_goals
    refine Eq.trans ?_ (congrArg _ (eq_ix2 _)).symm
    refine joined_at H Y _ _ t hH hY _ _ _ _ x _ _ rfl ?_ ?_
    all_goals blk_simp [idx t] <;> omega

end Cert.FfnUpIdeal.Value

end
-- ==== Proof.FfnUpClaim.lean ====
/- The claims about the feed-forward's up call. -/
module

public import proofs.«01_k».proof.Defs
public import proofs.«01_k».proof.Proof.FfnUpForward
public import proofs.«01_k».proof.Proof.Gen.FfnUp.Frame

@[expose] public section

set_option maxRecDepth 16384

noncomputable section

namespace Cert.Proof

open Idealize.ShloMosaic Idealize.SL.Sem
open Cert.FfnUpRefIdeal (nD τ sig defs main main_arg0 main_arg1 main_v4 main_v7)

theorem ffnup_frame : Cert.quiescent_FfnUp := fun m ρ _ => Cert.FfnUp.Gen.frame m ρ

theorem ffnup_frame_ideal : Cert.quiescent_FfnUpIdeal := fun m ρ _ => Cert.FfnUpIdeal.Gen.frame m ρ

theorem ffnup_frame_ref : Cert.quiescent_FfnUpRefIdeal := fun m ρ _ =>
  (θ_run Cert.FfnUpRefIdeal.defs _ _).mono (fun r h => ⟨fun c => (h c).2.2, sem_eq_zero_of_no_sems (by decide) r.2⟩)
    (Cert.FfnUpRefIdeal.Value.run m ρ)

/-- The reference's run, its results named. -/
theorem ffnup_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v4) = truncf (F := Ideal) .bf16 (Cert.FfnUpRefIdeal.Value.wide (m (c.tc.loc main_arg0)) (m (c.tc.loc main_arg1))) Cert.FfnUpRefIdeal.Gen.bitsLt_bf16_f32
        ∧ r.2.mem (c.tc.loc main_v7) = truncf (F := Ideal) .bf16 (Cert.FfnUpRefIdeal.Value.gated (m (c.tc.loc main_arg0)) (m (c.tc.loc main_arg1))) Cert.FfnUpRefIdeal.Gen.bitsLt_bf16_f32
        ∧ r.2.mem (c.tc.loc main_arg0) = (m (c.tc.loc main_arg0)) ∧ r.2.mem (c.tc.loc main_arg1) = (m (c.tc.loc main_arg1)) :=
  Cert.FfnUpRefIdeal.Value.run m ρ

set_option maxHeartbeats 1000000 in
theorem ffnup_value : Cert.algebraic_FfnUpIdeal_FfnUpRefIdeal := by
  pair_intro
  · run_from Cert.FfnUpIdeal.Gen.run_main m g
  · run_from ffnup_ref_run m' g'
    · exact (Cert.FfnUpIdeal.Value.final2 m c).symm
    · exact (Cert.FfnUpIdeal.Value.final3 m c).symm

end Cert.Proof

end
-- ==== Proof.S5OutForward.lean ====
/- The recurrence's output gate, forward: what the reference computes, and the three result arrays. -/
module

public import proofs.«01_k».proof.Proof.S5Out
public import proofs.«01_k».proof.Proof.Gen.S5OutFwdIdeal.Value
public import proofs.«01_k».proof.Proof.Gen.S5OutFwdRefIdeal.Run

@[expose] public section

set_option maxRecDepth 16384

noncomputable section

open Idealize.ShloMosaic Idealize.ShloMosaic.TcCoe Idealize.SL.Sem
open Idealize.ShloMosaic.Pipeline (Dat)
open Cert.Reals

namespace Cert.S5OutFwdRefIdeal.Value

open Cert.S5OutFwdRefIdeal Cert.S5OutFwdRefIdeal.Gen
open Cert.S5OutRefIdeal.Value (pre act act_apply fill)

/-- The second gate's argument. -/
def gatearg (x : FVec Ideal S8192x512 .f32) (w : FVec Ideal S1x512x512 .f32) : FVec Ideal S8192x512 .f32 :=
  Host.dotGeneral (φ₁ := .f32) (φ₂ := .f32) dot_S8192x512_S512x512_S8192x512_1_0_0_1_n_n none (act x) (shapeCast _ w shapeCasts_S1x512x512_S512x512)

/-- The gated result. -/
def gated (x : FVec Ideal S8192x512 .f32) (w : FVec Ideal S1x512x512 .f32) : FVec Ideal S8192x512 .f32 :=
  mulf (act x) (Host.divf (fill 0x3F800000#32) (addf (fill 0x3F800000#32) (Host.exp (Host.negf (gatearg x w)))))

theorem gatearg_apply (x : FVec Ideal S8192x512 .f32) (w : FVec Ideal S1x512x512 .f32) (i : S8192x512.Idx) :
    gatearg x w i = ∑ k : Fin 512, gelu (x (ix2 (i 0) k)) * w (ix3 0 k (i 1)) := by pointwise [gatearg, act_apply]

theorem gated_apply (x : FVec Ideal S8192x512 .f32) (w : FVec Ideal S1x512x512 .f32) (i : S8192x512.Idx) :
    gated x w i = gelu (x i) * Ideal.logistic (gatearg x w i) := by
  show act x i * Ideal.div (Ideal.ofBits .f32 0x3F800000#32) (Ideal.ofBits .f32 0x3F800000#32 + Ideal.exp (-(gatearg x w i))) = _
  rw [bits_one, act_apply]; rfl

end Cert.S5OutFwdRefIdeal.Value

namespace Cert.S5OutFwdIdeal.Value

open Cert.S5OutFwdIdeal Cert.S5OutFwdIdeal.Gen
open Cert.S5OutRefIdeal.Value (pre skip)
open Cert.S5OutFwdRefIdeal.Value

/-- Every window's block at every grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

theorem named_c : Named.named (F := Ideal) (φ := .f32) κ "c" 0x3D372713#32 = cubic :=
  (IdealRules.named_const.ideal_named_scalar _ _ _ _ rfl).trans cubic_eq.symm

section payloads

variable (v0 v3 : Vec Ideal S1024x512 .f32) (v1 : Vec Ideal S1x512 .f32) (w : Vec Ideal S512x512 .bf16) (y : S1024x512.Idx)

/-- A block of what the gate reads, -/
def p_ (v0 v3 : Vec Ideal S1024x512 .f32) (v1 : Vec Ideal S1x512 .f32) (r : Fin 1024) (j : Fin 512) : EReal := v0 (ix2 r j) + v1 (ix2 0 j) * v3 (ix2 r j)

/-- … and of the second gate's argument. -/
def a_ (v0 v3 : Vec Ideal S1024x512 .f32) (v1 : Vec Ideal S1x512 .f32) (w : Vec Ideal S512x512 .bf16) (r : Fin 1024) (j : Fin 512) : EReal :=
  ∑ k : Fin 512, gelu (p_ v0 v3 v1 r k) * w (ix2 k j)

theorem pay1_apply : k0_pay1 v0 v1 v3 y = p_ v0 v3 v1 (y 0) (y 1) := by pointwise [k0_pay1, p_]

theorem pay2_apply : k0_pay2 v0 v1 v3 y = gelu (p_ v0 v3 v1 (y 0) (y 1)) := by
  refine Eq.trans (b := Ideal.ofBits .f32 0x3F000000#32 * p_ v0 v3 v1 (y 0) (y 1) * (1 + gth (p_ v0 v3 v1 (y 0) (y 1)))) ?_ ?_
  · pointwise [k0_pay2, pay1_apply, gth, named_c]
  · rw [gelu, gcdf, mul_comm (Ideal.ofBits .f32 0x3F000000#32), mul_assoc]

theorem pay3_apply : k0_pay3 v0 v1 v3 w y = a_ v0 v3 v1 w (y 0) (y 1) := by pointwise [k0_pay3, pay2_apply, a_]

theorem pay4_apply : k0_pay4 v0 v1 v3 w y = gelu (p_ v0 v3 v1 (y 0) (y 1)) * Ideal.logistic (a_ v0 v3 v1 w (y 0) (y 1)) := by
  rw [← half_tanh, ← bits_half, ← bits_one]
  pointwise [k0_pay4, pay2_apply, pay3_apply]

end payloads

variable (m : (ℓ : Loc nD τ sig) → Buf (Elt Ideal) ℓ) (c : Dev nD)

/-- What the gate reads. -/
abbrev pA : FVec Ideal S8192x512 .f32 := pre (m ((c : Thread nD τ).loc main_arg0)) (m ((c : Thread nD τ).loc main_arg1)) (m ((c : Thread nD τ).loc main_arg2))

variable (t : Fin cfg0.N) (y : S1024x512.Idx) (i : S8192x512.Idx) (e0 : (i 0 : ℕ) = 1024 * t + y 0) (e1 : (i 1 : ℕ) = y 1)
include e0 e1

theorem pre_at : p_ (iblk m c 0 t) (iblk m c 1 t) (iblk m c 2 t) (y 0) (y 1) = pA m c i := by
  pointwise [p_, pre, skip]; blk_point [iblk, V, idx t]

theorem arg_at : a_ (iblk m c 0 t) (iblk m c 1 t) (iblk m c 2 t) (iblk m c 3 t) (y 0) (y 1) = gatearg (pA m c) (m ((c : Thread nD τ).loc main_arg3)) i := by
  rw [gatearg_apply]
  refine Finset.sum_congr rfl fun k _ => congrArg₂ (fun a b : EReal => a * b) (congrArg gelu (pre_at m c t (ix2 (y 0) k) (ix2 (i 0) k) e0 rfl)) ?_
  blk_point [iblk, V, idx t]

omit e0 e1

theorem final4 : (dats m 0 c).arrAt 4 (cfgs 0).N = pA m c := by
  refine (dats m 0 c).arrAt_eq_of_covers 4 _ (by decide +kernel) fun t hf y => ?_
  blk_simp; rw [after0_4]; frame_out
  refine (pay1_apply _ _ _ y).trans ?_
  exact pre_at m c t y _ (by blk_simp [idx t] <;> omega) (by blk_simp [idx t] <;> omega)

theorem final5 : (dats m 0 c).arrAt 5 (cfgs 0).N = gatearg (pA m c) (m ((c : Thread nD τ).loc main_arg3)) := by
  refine (dats m 0 c).arrAt_eq_of_covers 5 _ (by decide +kernel) fun t hf y => ?_
  blk_simp; rw [after0_5]; frame_out
  refine (pay3_apply _ _ _ _ y).trans ?_
  exact arg_at m c t y _ (by blk_simp [idx t] <;> omega) (by blk_simp [idx t] <;> omega)

theorem final6 : (dats m 0 c).arrAt 6 (cfgs 0).N = truncf (F := Ideal) .bf16 (gated (pA m c) (m ((c : Thread nD τ).loc main_arg3))) Cert.S5OutFwdRefIdeal.Gen.bitsLt_bf16_f32 := by
  refine (dats m 0 c).arrAt_eq_of_covers 6 _ (by decide +kernel) fun t hf y => ?_
  blk_simp; rw [after0_6]; frame_out
  refine (pay4_apply _ _ _ _ y).trans ?_
  refine Eq.trans ?_ (gated_apply (pA m c) (m ((c : Thread nD τ).loc main_arg3)) _).symm
  refine congrArg₂ (fun a b : EReal => gelu a * Ideal.logistic b) ?_ ?_
  · exact pre_at m c t y _ (by blk_simp [idx t] <;> omega) (by blk_simp [idx t] <;> omega)
  · exact arg_at m c t y _ (by blk_simp [idx t] <;> omega) (by blk_simp [idx t] <;> omega)

end Cert.S5OutFwdIdeal.Value

end
-- ==== Proof.S5OutFwdClaim.lean ====
/- The claims about the recurrence's output gate, forward. -/
module

public import proofs.«01_k».proof.Defs
public import proofs.«01_k».proof.Proof.S5OutForward
public import proofs.«01_k».proof.Proof.Gen.S5OutFwd.Frame

@[expose] public section

set_option maxRecDepth 16384

noncomputable section

namespace Cert.Proof

open Idealize.ShloMosaic Idealize.SL.Sem
open Cert.S5OutFwdRefIdeal (nD τ sig defs main main_arg0 main_arg1 main_arg2 main_arg3 main_v5 main_v21 main_v29)
open Cert.S5OutRefIdeal.Value (pre)
open Cert.S5OutFwdRefIdeal.Value (gatearg gated)

theorem s5outf_preserves : Cert.preserves_S5OutFwd_S5OutFwdIdeal :=
  IdealRules.named_const.statement Cert.S5OutFwdIdeal.κ "c" .f32 0x3D372713#32 ((8943 / 200000 : ℝ) : EReal) rfl

theorem s5outf_frame : Cert.quiescent_S5OutFwd := fun m ρ _ => Cert.S5OutFwd.Gen.frame m ρ

theorem s5outf_frame_ideal : Cert.quiescent_S5OutFwdIdeal := fun m ρ _ => Cert.S5OutFwdIdeal.Gen.frame m ρ

theorem s5outf_frame_ref : Cert.quiescent_S5OutFwdRefIdeal := fun m ρ _ =>
  (θ_run Cert.S5OutFwdRefIdeal.defs _ _).mono (fun r h => ⟨fun c => (h c).2.2.2, sem_eq_zero_of_no_sems (by decide) r.2⟩)
    (Cert.S5OutFwdRefIdeal.Value.run m ρ)

/-- The reference's run, its results named. -/
theorem s5outf_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v5) = pre (m (c.tc.loc main_arg0)) (m (c.tc.loc main_arg1)) (m (c.tc.loc main_arg2))
        ∧ r.2.mem (c.tc.loc main_v21) = gatearg (pre (m (c.tc.loc main_arg0)) (m (c.tc.loc main_arg1)) (m (c.tc.loc main_arg2))) (m (c.tc.loc main_arg3))
        ∧ r.2.mem (c.tc.loc main_v29) = truncf (F := Ideal) .bf16 (gated (pre (m (c.tc.loc main_arg0)) (m (c.tc.loc main_arg1)) (m (c.tc.loc main_arg2))) (m (c.tc.loc main_arg3))) Cert.S5OutFwdRefIdeal.Gen.bitsLt_bf16_f32
        ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) ∧ r.2.mem (c.tc.loc main_arg3) = (m (c.tc.loc main_arg3)) :=
  Cert.S5OutFwdRefIdeal.Value.run m ρ

set_option maxHeartbeats 1000000 in
theorem s5outf_value : Cert.algebraic_S5OutFwdIdeal_S5OutFwdRefIdeal := by
  pair_intro
  · run_from Cert.S5OutFwdIdeal.Gen.run_main m g
  · run_from s5outf_ref_run m' g'
    · exact (Cert.S5OutFwdIdeal.Value.final4 m c).symm
    · exact (Cert.S5OutFwdIdeal.Value.final5 m c).symm
    · exact (Cert.S5OutFwdIdeal.Value.final6 m c).symm

end Cert.Proof

end
-- ==== Proof.InProjForward.lean ====
/- The mixer's input call: the norm of the residual stream and its four projections, and the five result arrays. -/
module

public import proofs.«01_k».proof.Proof.Close
public import proofs.«01_k».proof.Proof.Gen.InProjFwdIdeal.Value
public import proofs.«01_k».proof.Proof.Gen.InProjFwdRefIdeal.Run

@[expose] public section

set_option maxRecDepth 16384

noncomputable section

open Idealize.ShloMosaic Idealize.ShloMosaic.TcCoe Idealize.SL.Sem
open Idealize.ShloMosaic.Pipeline (Dat)
open Cert.Reals

namespace Cert.InProjFwdRefIdeal.Value

open Cert.InProjFwdRefIdeal Cert.InProjFwdRefIdeal.Gen

/-- The four projections side by side, -/
def wide (h : FVec Ideal S8192x1024 .f32) (w : FVec Ideal S1x1024x4608 .f32) : FVec Ideal S8192x4608 .f32 :=
  Host.dotGeneral (φ₁ := .f32) (φ₂ := .f32) dot_S8192x1024_S1024x4608_S8192x4608_1_0_0_1_n_n none h (shapeCast _ w shapeCasts_S1x1024x4608_S1024x4608)

/-- … and one by one. -/
def zgm (h : FVec Ideal S8192x1024 .f32) (w : FVec Ideal S1x1024x4608 .f32) : FVec Ideal S8192x2048 .f32 :=
  extractStridedSlice S8192x2048 ![0, 0] (wide h w) slices_S8192x4608_S8192x2048_0_0
def zs5 (h : FVec Ideal S8192x1024 .f32) (w : FVec Ideal S1x1024x4608 .f32) : FVec Ideal S8192x512 .f32 :=
  extractStridedSlice S8192x512 ![0, 2048] (wide h w) slices_S8192x4608_S8192x512_0_2048
def zga (h : FVec Ideal S8192x1024 .f32) (w : FVec Ideal S1x1024x4608 .f32) : FVec Ideal S8192x1024 .f32 :=
  extractStridedSlice S8192x1024 ![0, 2560] (wide h w) slices_S8192x4608_S8192x1024_0_2560
def zgb (h : FVec Ideal S8192x1024 .f32) (w : FVec Ideal S1x1024x4608 .f32) : FVec Ideal S8192x1024 .f32 :=
  extractStridedSlice S8192x1024 ![0, 3584] (wide h w) slices_S8192x4608_S8192x1024_0_3584

variable (h : FVec Ideal S8192x1024 .f32) (w : FVec Ideal S1x1024x4608 .f32) (r : Fin 8192)

theorem zgm_apply (j : Fin 2048) : zgm h w (ix2 r j) = ∑ l : Fin 1024, h (ix2 r l) * w (ix3 0 l ⟨j.val, by omega⟩) := by pointwise [zgm, wide]
theorem zs5_apply (j : Fin 512) : zs5 h w (ix2 r j) = ∑ l : Fin 1024, h (ix2 r l) * w (ix3 0 l ⟨2048 + j.val, by omega⟩) := by pointwise [zs5, wide]
theorem zga_apply (j : Fin 1024) : zga h w (ix2 r j) = ∑ l : Fin 1024, h (ix2 r l) * w (ix3 0 l ⟨2560 + j.val, by omega⟩) := by pointwise [zga, wide]
theorem zgb_apply (j : Fin 1024) : zgb h w (ix2 r j) = ∑ l : Fin 1024, h (ix2 r l) * w (ix3 0 l ⟨3584 + j.val, by omega⟩) := by pointwise [zgb, wide]

end Cert.InProjFwdRefIdeal.Value

namespace Cert.InProjFwdIdeal.Value

open Cert.InProjFwdIdeal Cert.InProjFwdIdeal.Gen Cert.Close
open Cert.InProjFwdRefIdeal.Value

/-- Every window's block at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

section payloads

variable (v0 : Vec Ideal S512x1024 .f32) (v1 : Vec Ideal S1x1024 .f32) (h W : Vec Ideal S512x1024 .bf16) (y : S512x512.Idx)

/-- A block's normed rows, -/
abbrev h_ (v0 : Vec Ideal S512x1024 .f32) (v1 : Vec Ideal S1x1024 .f32) : Fin 512 → Fin 1024 → EReal :=
  bopen (fun (r : Fin 512) (l : Fin 1024) => v0 (ix2 r l)) (fun l : Fin 1024 => v1 (ix2 0 l))

/-- … and their product with one part of the weight, whose rows are the columns. -/
def hprod (h W : Vec Ideal S512x1024 .bf16) (y : S512x512.Idx) : EReal := ∑ l : Fin 1024, h (ix2 (y 0) l) * W (ix2 (y 1) l)

theorem pay2_apply (y : S512x1024.Idx) : k0_pay2 v0 v1 y = h_ v0 v1 (y 0) (y 1) := by pointwise [k0_pay2, h_, bopen, rs, msq]

theorem again (w : Vec Ideal S4608x1024 .bf16) : k0_pay12 v0 v1 w = k0_pay2 v0 v1 := by unfold k0_pay12; frame_out

theorem pay3_apply : k0_pay3 v0 v1 W y = hprod (k0_pay2 v0 v1) W y := by unfold k0_pay3; generalize k0_pay2 v0 v1 = h; pointwise [hprod]
theorem pay4_apply : k0_pay4 v0 v1 W y = hprod (k0_pay2 v0 v1) W y := pay3_apply v0 v1 W y
theorem pay5_apply : k0_pay5 v0 v1 W y = hprod (k0_pay2 v0 v1) W y := pay3_apply v0 v1 W y
theorem pay6_apply : k0_pay6 h W y = hprod h W y := by pointwise [k0_pay6, hprod]
theorem pay7_apply : k0_pay7 h W y = hprod h W y := by pointwise [k0_pay7, hprod]
theorem pay8_apply : k0_pay8 h W y = hprod h W y := pay6_apply h W y
theorem pay9_apply : k0_pay9 h W y = hprod h W y := pay6_apply h W y
theorem pay10_apply : k0_pay10 h W y = hprod h W y := pay6_apply h W y
theorem pay1_apply : k0_pay1 h (k0_pay11 W) (constant S512x512 .f32 0x00000000#32) y = hprod h W y := pay6_apply h W y

end payloads

/-- A part of the weight's rows, read. -/
theorem ld_part (o : ℕ) (inb : ∀ i : Fin 2, (![o, 0] : Fin 2 → ℕ) i + (![512, 1024] : Fin 2 → ℕ) i ≤ S4608x1024.size i) (Y : Vec Ideal S4608x1024 .bf16)
    (x : S512x1024.Idx) (j : S4608x1024.Idx) (h0 : (j 0).val = o + (x 0).val) (h1 : (j 1).val = (x 1).val) :
    View.ld Y (Rect.unit ![o, 0] ![512, 1024] inb) x = Y j := by
  refine congrArg Y (funext fun a => Fin.ext ?_)
  match a with
  | ⟨0, _⟩ => show o + 1 * (x 0).val = (j 0).val; omega
  | ⟨1, _⟩ => show 0 + 1 * (x 1).val = (j 1).val; omega

variable (m : (ℓ : Loc nD τ sig) → Buf (Elt Ideal) ℓ) (c : Dev nD)

/-- The normed rows and the weight. -/
abbrev hA : FVec Ideal S8192x1024 .f32 := opened (m ((c : Thread nD τ).loc main_arg0)) (m ((c : Thread nD τ).loc main_arg1))
abbrev wA : FVec Ideal S1x1024x4608 .f32 := m ((c : Thread nD τ).loc main_arg2)

/-- The row of the whole array a block's row is. -/
def row (t : Fin cfg0.N) (r : Fin 512) : Fin 8192 := ⟨512 * t.val + r.val, by have := lt_of_lt_of_eq t.isLt N_0; omega⟩

theorem h_at (t : Fin cfg0.N) (r : Fin 512) (j : Fin 1024) : h_ (iblk m c 0 t) (iblk m c 1 t) r j = hA m c (ix2 (row t r) j) :=
  bopen_eq (f := row t) (fun r l => by unfold row; blk_point [iblk, V, idx t]) (fun j => by blk_point [iblk, V, idx t]) r j

theorem w_at (t : Fin cfg0.N) (K : Fin 4608) (l : Fin 1024) : ((iblk m c 2 t : Vec Ideal S4608x1024 .bf16) (ix2 K l) : EReal) = wA m c (ix3 0 l K) := by
  blk_point [iblk, V, idx t]

/-- One tile of a projection. -/
theorem tile (t : Fin cfg0.N) (o : ℕ) (inb : ∀ i : Fin 2, (![o, 0] : Fin 2 → ℕ) i + (![512, 1024] : Fin 2 → ℕ) i ≤ S4608x1024.size i)
    (x : S512x512.Idx) (R : Fin 8192) (K : Fin 4608) (h0 : R.val = 512 * t.val + (x 0).val) (h1 : K.val = o + (x 1).val) :
    hprod (k0_pay2 (iblk m c 0 t) (iblk m c 1 t)) (View.ld (iblk m c 2 t) (Rect.unit ![o, 0] ![512, 1024] inb)) x
      = ∑ l : Fin 1024, hA m c (ix2 R l) * wA m c (ix3 0 l K) := by
  obtain ⟨r, e, rfl⟩ : ∃ (r e : Fin 512), x = ix2 r e := ⟨x 0, x 1, eq_ix2 x⟩
  obtain rfl : R = row t r := Fin.ext h0
  refine Finset.sum_congr rfl fun l _ => congrArg₂ (fun a b : EReal => a * b) ?_ ?_
  · exact (pay2_apply _ _ (ix2 r l)).trans (h_at m c t r l)
  · exact (ld_part o inb _ (ix2 e l) (ix2 K l) h1 rfl).trans (w_at m c t K l)

theorem final3 : (dats m 0 c).arrAt 3 (cfgs 0).N = truncf (F := Ideal) .bf16 (zgm (hA m c) (wA m c)) Cert.InProjFwdRefIdeal.Gen.bitsLt_bf16_f32 := by
  refine (dats m 0 c).arrAt_eq_of_covers 3 _ (by decide +kernel) fun t hf y => ?_
  blk_simp; rw [after0_3]; frame_out; rw [again]; canon_tiles x hx
  all_goals refine Eq.trans ?_ (congrArg _ (eq_ix2 _)).symm
  · exact (pay6_apply _ _ x).trans ((tile m c t 1536 _ x _ _ (by blk_simp [idx t] <;> omega) (by blk_simp [idx t] <;> omega)).trans (zgm_apply (hA m c) (wA m c) _ _).symm)
  · exact (pay5_apply _ _ _ x).trans ((tile m c t 1024 _ x _ _ (by blk_simp [idx t] <;> omega) (by blk_simp [idx t] <;> omega)).trans (zgm_apply (hA m c) (wA m c) _ _).symm)
  · exact (pay4_apply _ _ _ x).trans ((tile m c t 512 _ x _ _ (by blk_simp [idx t] <;> omega) (by blk_simp [idx t] <;> omega)).trans (zgm_apply (hA m c) (wA m c) _ _).symm)
  · exact (pay3_apply _ _ _ x).trans ((tile m c t 0 _ x _ _ (by blk_simp [idx t] <;> omega) (by blk_simp [idx t] <;> omega)).trans (zgm_apply (hA m c) (wA m c) _ _).symm)

theorem final4 : (dats m 0 c).arrAt 4 (cfgs 0).N = zs5 (hA m c) (wA m c) := by
  refine (dats m 0 c).arrAt_eq_of_covers 4 _ (by decide +kernel) fun t hf y => ?_
  blk_simp; rw [after0_4]; frame_out; rw [again]
  refine Eq.trans ?_ (congrArg _ (eq_ix2 _)).symm
  exact (pay7_apply _ _ y).trans ((tile m c t 2048 _ y _ _ (by blk_simp [idx t] <;> omega) (by blk_simp [idx t] <;> omega)).trans (zs5_apply (hA m c) (wA m c) _ _).symm)

theorem final5 : (dats m 0 c).arrAt 5 (cfgs 0).N = truncf (F := Ideal) .bf16 (zga (hA m c) (wA m c)) Cert.InProjFwdRefIdeal.Gen.bitsLt_bf16_f32 := by
  refine (dats m 0 c).arrAt_eq_of_covers 5 _ (by decide +kernel) fun t hf y => ?_
  blk_simp; rw [after0_5]; frame_out; rw [again]; canon_tiles x hx
  all_goals refine Eq.trans ?_ (congrArg _ (eq_ix2 _)).symm
  · exact (pay9_apply _ _ x).trans ((tile m c t 3072 _ x _ _ (by blk_simp [idx t] <;> omega) (by dsimp only; blk_simp [idx t] <;> omega)).trans (zga_apply (hA m c) (wA m c) _ _).symm)
  · exact (pay8_apply _ _ x).trans ((tile m c t 2560 _ x _ _ (by blk_simp [idx t] <;> omega) (by dsimp only; blk_simp [idx t] <;> omega)).trans (zga_apply (hA m c) (wA m c) _ _).symm)

theorem final6 : (dats m 0 c).arrAt 6 (cfgs 0).N = truncf (F := Ideal) .bf16 (zgb (hA m c) (wA m c)) Cert.InProjFwdRefIdeal.Gen.bitsLt_bf16_f32 := by
  refine (dats m 0 c).arrAt_eq_of_covers 6 _ (by decide +kernel) fun t hf y => ?_
  blk_simp; rw [after0_6]; frame_out; rw [again]; canon_tiles x hx
  all_goals refine Eq.trans ?_ (congrArg _ (eq_ix2 _)).symm
  · exact (pay1_apply _ _ x).trans ((tile m c t 4096 _ x _ _ (by blk_simp [idx t] <;> omega) (by dsimp only; blk_simp [idx t] <;> omega)).trans (zgb_apply (hA m c) (wA m c) _ _).symm)
  · exact (pay10_apply _ _ x).trans ((tile m c t 3584 _ x _ _ (by blk_simp [idx t] <;> omega) (by dsimp only; blk_simp [idx t] <;> omega)).trans (zgb_apply (hA m c) (wA m c) _ _).symm)

theorem final7 : (dats m 0 c).arrAt 7 (cfgs 0).N = truncf (F := Ideal) .bf16 (hA m c) Cert.InProjFwdRefIdeal.Gen.bitsLt_bf16_f32 := by
  refine (dats m 0 c).arrAt_eq_of_covers 7 _ (by decide +kernel) fun t hf y => ?_
  blk_simp; rw [after0_7]; frame_out
  refine (pay2_apply _ _ y).trans ?_
  refine (h_at m c t (y 0) (y 1)).trans ?_
  exact congrArg (hA m c) ((congrArg₂ ix2 (Fin.ext (by unfold row; dsimp only; blk_simp [idx t] <;> omega)) (Fin.ext (by blk_simp [idx t] <;> omega))).trans (eq_ix2 _).symm)

end Cert.InProjFwdIdeal.Value

end
-- ==== Proof.InProjFwdClaim.lean ====
/- The claims about the mixer's input call. -/
module

public import proofs.«01_k».proof.Defs
public import proofs.«01_k».proof.Proof.InProjForward
public import proofs.«01_k».proof.Proof.Gen.InProjFwd.Frame

@[expose] public section

set_option maxRecDepth 16384

noncomputable section

namespace Cert.Proof

open Idealize.ShloMosaic Idealize.SL.Sem
open Cert.InProjFwdRefIdeal (nD τ sig defs main main_arg0 main_arg1 main_arg2 main_v20 main_v17 main_v21 main_v22 main_v23)
open Cert.Close (opened)
open Cert.InProjFwdRefIdeal.Value (zgm zs5 zga zgb)

theorem inprojf_frame : Cert.quiescent_InProjFwd := fun m ρ _ => Cert.InProjFwd.Gen.frame m ρ

theorem inprojf_frame_ideal : Cert.quiescent_InProjFwdIdeal := fun m ρ _ => Cert.InProjFwdIdeal.Gen.frame m ρ

theorem inprojf_frame_ref : Cert.quiescent_InProjFwdRefIdeal := fun m ρ _ =>
  (θ_run Cert.InProjFwdRefIdeal.defs _ _).mono (fun r h => ⟨fun c => (h c).2.2.2.2.2, sem_eq_zero_of_no_sems (by decide) r.2⟩)
    (Cert.InProjFwdRefIdeal.Value.run m ρ)

/-- The reference's run, its results named. -/
theorem inprojf_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v20) = truncf (F := Ideal) .bf16 (zgm (opened (m (c.tc.loc main_arg0)) (m (c.tc.loc main_arg1))) (m (c.tc.loc main_arg2))) Cert.InProjFwdRefIdeal.Gen.bitsLt_bf16_f32
        ∧ r.2.mem (c.tc.loc main_v17) = zs5 (opened (m (c.tc.loc main_arg0)) (m (c.tc.loc main_arg1))) (m (c.tc.loc main_arg2))
        ∧ r.2.mem (c.tc.loc main_v21) = truncf (F := Ideal) .bf16 (zga (opened (m (c.tc.loc main_arg0)) (m (c.tc.loc main_arg1))) (m (c.tc.loc main_arg2))) Cert.InProjFwdRefIdeal.Gen.bitsLt_bf16_f32
        ∧ r.2.mem (c.tc.loc main_v22) = truncf (F := Ideal) .bf16 (zgb (opened (m (c.tc.loc main_arg0)) (m (c.tc.loc main_arg1))) (m (c.tc.loc main_arg2))) Cert.InProjFwdRefIdeal.Gen.bitsLt_bf16_f32
        ∧ r.2.mem (c.tc.loc main_v23) = truncf (F := Ideal) .bf16 (opened (m (c.tc.loc main_arg0)) (m (c.tc.loc main_arg1))) Cert.InProjFwdRefIdeal.Gen.bitsLt_bf16_f32
        ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  Cert.InProjFwdRefIdeal.Value.run m ρ

set_option maxHeartbeats 1000000 in
theorem inprojf_value : Cert.algebraic_InProjFwdIdeal_InProjFwdRefIdeal := by
  pair_intro
  · run_from Cert.InProjFwdIdeal.Gen.run_main m g
  · run_from inprojf_ref_run m' g'
    · exact (Cert.InProjFwdIdeal.Value.final3 m c).symm
    · exact (Cert.InProjFwdIdeal.Value.final4 m c).symm
    · exact (Cert.InProjFwdIdeal.Value.final5 m c).symm
    · exact (Cert.InProjFwdIdeal.Value.final6 m c).symm
    · exact (Cert.InProjFwdIdeal.Value.final7 m c).symm

end Cert.Proof

end
-- ==== Proof.DwFfn.lean ====
/- The weight gradient of the feed-forward's first product: eight blocks of rows, each block's product added to a
   carried sum, and the sum's equality with the reference's one product over all the rows. -/
module

public import proofs.«01_k».proof.Proof.Reals
public import proofs.«01_k».proof.Proof.Gen.DwFfnIdeal.Value
public import proofs.«01_k».proof.Proof.Gen.DwFfnRefIdeal.Run

@[expose] public section

set_option maxRecDepth 16384

noncomputable section

open Idealize.ShloMosaic Idealize.ShloMosaic.TcCoe Idealize.SL.Sem
open Idealize.ShloMosaic.Pipeline (Dat)

namespace Cert.DwFfnRefIdeal.Value

open Cert.DwFfnRefIdeal Cert.DwFfnRefIdeal.Gen

/-- The gradient: cotangents against rows, the result's two reshapes and two transposes undoing each other. -/
def grad (d : FVec Ideal S8192x5632 .f32) (x : FVec Ideal S8192x1024 .f32) : FVec Ideal S5632x1024 .f32 :=
  transpose S5632x1024 [1, 0] (shapeCast _ (broadcastInDim S1x1024x5632 ![1, 2] bcast_S1024x5632_S1x1024x5632_1_2 (transpose S1024x5632 [1, 0]
    (Host.dotGeneral (φ₁ := .f32) (φ₂ := .f32) dot_S8192x5632_S8192x1024_S5632x1024_0_0_1_1_n_n none d x) transposes_S5632x1024_S1024x5632_1_0))
    shapeCasts_S1x1024x5632_S1024x5632) transposes_S1024x5632_S5632x1024_1_0

theorem grad_apply (d : FVec Ideal S8192x5632 .f32) (x : FVec Ideal S8192x1024 .f32) (i : Fin 5632) (j : Fin 1024) :
    grad d x (ix2 i j) = (∑ l : Fin 8192, d (ix2 l i) * x (ix2 l j) : EReal) := by
  pointwise [grad]

end Cert.DwFfnRefIdeal.Value

namespace Cert.DwFfnIdeal.Value

open Cert.DwFfnIdeal Cert.DwFfnIdeal.Gen
open Cert.DwFfnRefIdeal.Value (grad grad_apply)

/-- Every window's block at every grid point. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem points (t : Fin cfg0.N) : t.val < 16 := lt_of_lt_of_eq t.isLt N_0

variable (m : (ℓ : Loc nD τ sig) → Buf (Elt Ideal) ℓ) (c : Dev nD)

/-- The arguments: the cotangents and the rows. -/
abbrev dA : FVec Ideal S8192x5632 .f32 := m ((c : Thread nD τ).loc main_arg0)
abbrev xA : FVec Ideal S8192x1024 .f32 := m ((c : Thread nD τ).loc main_arg1)

/-- The product of a point's two blocks. -/
def prod (a : Vec Ideal S1024x2816 .bf16) (b : Vec Ideal S1024x1024 .bf16) (y : S2816x1024.Idx) : EReal :=
  ∑ l : Fin 1024, a (ix2 l (y 0)) * b (ix2 l (y 1))

theorem zero_apply (y : S2816x1024.Idx) : (k0_pay1 (F := Ideal) y : EReal) = 0 := by pointwise! [k0_pay1]

theorem add_apply (s : Vec Ideal S2816x1024 .f32) (a : Vec Ideal S1024x2816 .bf16) (b : Vec Ideal S1024x1024 .bf16) (y : S2816x1024.Idx) :
    (k0_pay2 s a b y : EReal) = s y + prod a b y := by
  pointwise [k0_pay2, prod]

theorem out_apply (s : Vec Ideal S2816x1024 .f32) (y : S2816x1024.Idx) : (k0_pay3 s y : EReal) = s y := by
  pointwise [k0_pay3]

/-- The rows and the columns a point works on. -/
def row (t : Fin cfg0.N) (r : Fin 1024) : Fin 8192 := ⟨1024 * (t.val % 8) + r.val, by omega⟩
def col (t : Fin cfg0.N) (i : Fin 2816) : Fin 5632 := ⟨2816 * (t.val / 8) + i.val, by have := points t; omega⟩

theorem d_at (t : Fin cfg0.N) (r : Fin 1024) (i : Fin 2816) :
    (iblk m c 0 t : Vec Ideal S1024x2816 .bf16) (ix2 r i) = dA m c (ix2 (row t r) (col t i)) := by
  unfold row col; blk_point [iblk, V, idx t]

theorem x_at (t : Fin cfg0.N) (r : Fin 1024) (j : Fin 1024) :
    (iblk m c 1 t : Vec Ideal S1024x1024 .bf16) (ix2 r j) = xA m c (ix2 (row t r) j) := by
  unfold row; blk_point [iblk, V, idx t]

theorem sum_reset (t : Fin cfg0.N) (h : t.val % 8 = 0) (y : S2816x1024.Idx) :
    ((outsAt0 m c t.val t.isLt).2 y : EReal) = 0 + prod (iblk m c 0 t) (iblk m c 1 t) y := by
  rw [outsAt0_A m c t h (by omega)]; frame_out
  rw [add_apply, zero_apply]

theorem sum_step (t : Fin cfg0.N) (h : ¬t.val % 8 = 0) (y : S2816x1024.Idx) :
    ((outsAt0 m c t.val t.isLt).2 y : EReal)
      = (outsAt0 m c (t.val - 1) (lt_of_le_of_lt (Nat.sub_le _ _) t.isLt)).2 y + prod (iblk m c 0 t) (iblk m c 1 t) y := by
  by_cases h' : t.val % 8 = 7
  · rw [outsAt0_C m c t h h']; frame_out; rw [add_apply, (Memref.isWhole_whole _).read_unread]
  · rw [outsAt0_B m c t h h']; frame_out; rw [add_apply, (Memref.isWhole_whole _).read_unread]

/-- The last point of a run writes the sum out. -/
theorem out_last (t : Fin cfg0.N) (h : t.val % 8 = 7) (y : S2816x1024.Idx) :
    ((outsAt0 m c t.val t.isLt).1 y : EReal) = (outsAt0 m c t.val t.isLt).2 y := by
  rw [outsAt0_C m c t (by omega) h]; frame_out; rw [out_apply]

/-- The sum a run of points leaves. -/
theorem sum_at (t : Fin cfg0.N) (h : t.val % 8 = 7) (i : Fin 2816) (j : Fin 1024) :
    ((outsAt0 m c t.val t.isLt).2 (ix2 i j) : EReal) = grad (dA m c) (xA m c) (ix2 (col t i) j) := by
  rw [Pipeline.eq_sum_fin_of_reset_step_apply_of_flush (M := EReal) (fun n h => (outsAt0 m c n h).2) 8 (fun _ => 0)
    (fun t y => prod (iblk m c 0 t) (iblk m c 1 t) y) (fun t h y => sum_reset m c t h y) (fun t h y => sum_step m c t h y) t h _, zero_add, grad_apply]
  refine Fin.sum_mul_add_congr fun s r hl => ?_
  have ht := points t
  have hp : 8 * (t.val / 8) + s.val < cfg0.N := lt_of_lt_of_eq (show _ < 16 by omega) N_0.symm
  have er : row ⟨8 * (t.val / 8) + s.val, hp⟩ r = ⟨s.val * 1024 + r.val, hl⟩ := Fin.ext (by unfold row; simp only; omega)
  have ec : col ⟨8 * (t.val / 8) + s.val, hp⟩ i = col t i := Fin.ext (by unfold col; simp only; omega)
  refine congrArg₂ (fun a b : EReal => a * b) ((d_at m c _ r i).trans ?_) ((x_at m c _ r j).trans ?_)
  · rw [er, ec]
  · rw [er]

/-- The array after the run. -/
theorem grad_final : (dats m 0 c).arrAt 2 (cfgs 0).N = truncf (F := Ideal) .bf16 (grad (dA m c) (xA m c)) Cert.DwFfnRefIdeal.Gen.bitsLt_bf16_f32 := by
  refine (dats m 0 c).arrAt_eq_of_covers 2 _ (by decide +kernel) fun t hf y => ?_
  blk_simp; rw [after0_2]
  have h := (flush0_2 t).mp hf
  obtain ⟨i, j, rfl⟩ : ∃ (i : Fin 2816) (j : Fin 1024), y = ix2 i j := ⟨y 0, y 1, eq_ix2 y⟩
  have e : (win0_2.blk t).view.emb (ix2 i j) = ix2 (col t i) j := by
    refine (eq_ix2 _).trans (congrArg₂ ix2 (Fin.ext ?_) (Fin.ext ?_))
    · refine Eq.trans ?_ (rfl : 2816 * (t.val / 8) + i.val = (col t i).val); blk_simp [idx t] <;> omega
    · blk_simp [idx t]
  exact ((out_last m c t h _).trans (sum_at m c t h i j)).trans (congrArg (grad (dA m c) (xA m c)) e).symm

end Cert.DwFfnIdeal.Value

end
-- ==== Proof.DwFfnClaim.lean ====
/- The claims about the weight gradient of the feed-forward's first product. -/
module

public import proofs.«01_k».proof.Defs
public import proofs.«01_k».proof.Proof.DwFfn
public import proofs.«01_k».proof.Proof.Gen.DwFfn.Frame

@[expose] public section

set_option maxRecDepth 16384

noncomputable section

namespace Cert.Proof

open Idealize.ShloMosaic Idealize.SL.Sem
open Cert.DwFfnRefIdeal (nD τ sig defs main main_arg0 main_arg1 main_v8)

theorem dw_frame : Cert.quiescent_DwFfn := fun m ρ _ => Cert.DwFfn.Gen.frame m ρ

theorem dw_frame_ideal : Cert.quiescent_DwFfnIdeal := fun m ρ _ => Cert.DwFfnIdeal.Gen.frame m ρ

theorem dw_frame_ref : Cert.quiescent_DwFfnRefIdeal := fun m ρ _ =>
  (θ_run Cert.DwFfnRefIdeal.defs _ _).mono (fun r h => ⟨fun c => (h c).2, sem_eq_zero_of_no_sems (by decide) r.2⟩)
    (Cert.DwFfnRefIdeal.Value.run m ρ)

/-- The reference's run, its result named. -/
theorem dw_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v8) = truncf (F := Ideal) .bf16 (Cert.DwFfnRefIdeal.Value.grad (m (c.tc.loc main_arg0)) (m (c.tc.loc main_arg1))) Cert.DwFfnRefIdeal.Gen.bitsLt_bf16_f32
        ∧ r.2.mem (c.tc.loc main_arg0) = (m (c.tc.loc main_arg0)) ∧ r.2.mem (c.tc.loc main_arg1) = (m (c.tc.loc main_arg1)) :=
  Cert.DwFfnRefIdeal.Value.run m ρ

set_option maxHeartbeats 1000000 in
theorem dw_value : Cert.algebraic_DwFfnIdeal_DwFfnRefIdeal := by
  pair_intro
  · run_from Cert.DwFfnIdeal.Gen.run_main m g
  · run_from dw_ref_run m' g'
    · exact (Cert.DwFfnIdeal.Value.grad_final m c).symm

end Cert.Proof

end
-- ==== Proof.SumAdamw.lean ====
/- The sum of the devices' parts of a gradient and the optimiser's step: what the reference computes, and the four result
   arrays. -/
module

public import proofs.«01_k».proof.Proof.Reals
public import proofs.«01_k».proof.Proof.Gen.SumAdamwIdeal.Value
public import proofs.«01_k».proof.Proof.Gen.SumAdamwRefIdeal.Run

@[expose] public section

set_option maxRecDepth 16384

noncomputable section

open Idealize.ShloMosaic Idealize.ShloMosaic.TcCoe Idealize.SL.Sem
open Idealize.ShloMosaic.Pipeline (Dat)

namespace Cert.SumAdamwRefIdeal.Value

open Cert.SumAdamwRefIdeal Cert.SumAdamwRefIdeal.Gen

/-- A constant array. -/
abbrev const (b : BitVec 32) : FVec Ideal S704x1024 .f32 := broadcastInDim S704x1024 ![] bcast_S_S704x1024 (constant S_ .f32 b)

/-- The gradient: the sum of the parts. -/
def total (p : FVec Ideal S8x704x1024 .f32) : FVec Ideal S704x1024 .f32 :=
  Host.reduceAdd p (constant S_ .f32 0x00000000#32) reducesTo_S8x704x1024_S704x1024_d0 h_S_

/-- The first moment, -/
def first (g m : FVec Ideal S704x1024 .f32) : FVec Ideal S704x1024 .f32 := addf (mulf (const 0x3F666666#32) m) (mulf (const 0x3DCCCCCD#32) g)

/-- … the second, -/
def second (g v : FVec Ideal S704x1024 .f32) : FVec Ideal S704x1024 .f32 := addf (mulf (const 0x3F7FBE77#32) v) (mulf (const 0x3A83126F#32) (mulf g g))

/-- … and the weight's change, from both. -/
def change (m v w : FVec Ideal S704x1024 .f32) : FVec Ideal S704x1024 .f32 :=
  mulf (const 0xBA83126F#32) (addf (Host.divf (Host.divf m (const 0x3F26BD02#32))
    (addf (Host.sqrt (Host.divf v (const 0x3C231ACC#32))) (const 0x322BCC77#32))) (mulf (const 0x3C23D70A#32) w))

theorem total_apply (p : FVec Ideal S8x704x1024 .f32) (r : Fin 704) (j : Fin 1024) :
    total p (ix2 r j) = p (ix3 0 r j) + p (ix3 1 r j) + p (ix3 2 r j) + p (ix3 3 r j) + p (ix3 4 r j) + p (ix3 5 r j) + p (ix3 6 r j) + p (ix3 7 r j) :=
  (show total p (ix2 r j) = ∑ k : Fin 8, p (ix3 k r j) by pointwise [total]).trans (Fin.sum_univ_eight _)

end Cert.SumAdamwRefIdeal.Value

namespace Cert.SumAdamwIdeal.Value

open Cert.SumAdamwIdeal Cert.SumAdamwIdeal.Gen
open Cert.SumAdamwRefIdeal.Value (total first second change total_apply)

/-- Every window's block at every grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The arguments: the parts, the weight, the moments. -/
abbrev pA : FVec Ideal S8x704x1024 .f32 := m ((c : Thread nD τ).loc main_arg0)
abbrev wA : FVec Ideal S704x1024 .f32 := m ((c : Thread nD τ).loc main_arg1)
abbrev mA : FVec Ideal S704x1024 .f32 := m ((c : Thread nD τ).loc main_arg2)
abbrev vA : FVec Ideal S704x1024 .f32 := m ((c : Thread nD τ).loc main_arg3)

/-- The sum over a block of parts. -/
theorem sum_apply (x0 : Vec Ideal S8x176x1024 .bf16) (x1 x2 x3 : Vec Ideal S176x1024 .f32) (r : Fin 176) (j : Fin 1024) :
    k0_pay5 x0 x1 x2 x3 (ix2 r j) = (x0 (ix3 0 r j) + x0 (ix3 1 r j) + x0 (ix3 2 r j) + x0 (ix3 3 r j) + x0 (ix3 4 r j) + x0 (ix3 5 r j) + x0 (ix3 6 r j) + x0 (ix3 7 r j) : EReal) := by
  pointwise [k0_pay5, k0_pay4]

/-- The row of the whole array a block's row is. -/
def row (t : Fin cfg0.N) (r : Fin 176) : Fin 704 := ⟨176 * t.val + r.val, by have := lt_of_lt_of_eq t.isLt N_0; omega⟩

theorem part_at (t : Fin cfg0.N) (k : Fin 8) (r : Fin 176) (j : Fin 1024) :
    (iblk m c 0 t : Vec Ideal S8x176x1024 .bf16) (ix3 k r j) = pA m c (ix3 k (row t r) j) := by
  unfold row; blk_point [iblk, V, idx t]

/-- The sum over a block, as a block of the sum. -/
theorem total_at (t : Fin cfg0.N) (x1 x2 x3 : Vec Ideal S176x1024 .f32) (y : S176x1024.Idx) (i : S704x1024.Idx)
    (e0 : (i 0 : ℕ) = 176 * t + y 0) (e1 : (i 1 : ℕ) = y 1) :
    k0_pay5 (iblk m c 0 t) x1 x2 x3 y = total (pA m c) i := by
  obtain ⟨r, j, rfl⟩ : ∃ (r : Fin 176) (j : Fin 1024), y = ix2 r j := ⟨y 0, y 1, eq_ix2 y⟩
  obtain rfl : i = ix2 (row t r) j := (eq_ix2 i).trans (congrArg₂ ix2 (Fin.ext e0) (Fin.ext e1))
  rw [sum_apply, total_apply]
  simp only [part_at]

theorem w_at (t : Fin cfg0.N) (y : S176x1024.Idx) (i : S704x1024.Idx) (e0 : (i 0 : ℕ) = 176 * t + y 0) (e1 : (i 1 : ℕ) = y 1) :
    (iblk m c 1 t : Vec Ideal S176x1024 .f32) y = wA m c i := by
  obtain ⟨r, j, rfl⟩ : ∃ (r : Fin 176) (j : Fin 1024), y = ix2 r j := ⟨y 0, y 1, eq_ix2 y⟩
  obtain rfl : i = ix2 (row t r) j := (eq_ix2 i).trans (congrArg₂ ix2 (Fin.ext e0) (Fin.ext e1))
  unfold row; blk_point [iblk, V, idx t]

theorem m_at (t : Fin cfg0.N) (y : S176x1024.Idx) (i : S704x1024.Idx) (e0 : (i 0 : ℕ) = 176 * t + y 0) (e1 : (i 1 : ℕ) = y 1) :
    (iblk m c 2 t : Vec Ideal S176x1024 .f32) y = mA m c i := by
  obtain ⟨r, j, rfl⟩ : ∃ (r : Fin 176) (j : Fin 1024), y = ix2 r j := ⟨y 0, y 1, eq_ix2 y⟩
  obtain rfl : i = ix2 (row t r) j := (eq_ix2 i).trans (congrArg₂ ix2 (Fin.ext e0) (Fin.ext e1))
  unfold row; blk_point [iblk, V, idx t]

theorem v_at (t : Fin cfg0.N) (y : S176x1024.Idx) (i : S704x1024.Idx) (e0 : (i 0 : ℕ) = 176 * t + y 0) (e1 : (i 1 : ℕ) = y 1) :
    (iblk m c 3 t : Vec Ideal S176x1024 .f32) y = vA m c i := by
  obtain ⟨r, j, rfl⟩ : ∃ (r : Fin 176) (j : Fin 1024), y = ix2 r j := ⟨y 0, y 1, eq_ix2 y⟩
  obtain rfl : i = ix2 (row t r) j := (eq_ix2 i).trans (congrArg₂ ix2 (Fin.ext e0) (Fin.ext e1))
  unfold row; blk_point [iblk, V, idx t]

theorem final4 : (dats m 0 c).arrAt 4 (cfgs 0).N = total (pA m c) := by
  refine (dats m 0 c).arrAt_eq_of_covers 4 _ (by decide +kernel) fun t hf y => ?_
  blk_simp; rw [after0_4]; frame_out
  exact total_at m c t _ _ _ y _ (by blk_simp [idx t] <;> omega) (by blk_simp [idx t] <;> omega)

theorem final6 : (dats m 0 c).arrAt 6 (cfgs 0).N = first (total (pA m c)) (mA m c) := by
  refine (dats m 0 c).arrAt_eq_of_covers 6 _ (by decide +kernel) fun t hf y => ?_
  blk_simp; rw [after0_6]; frame_out
  have e0 : ((((View.whole main_v1_2).slice (win0_6.rect t)).emb y 0 : Fin 704) : ℕ) = 176 * t.val + (y 0).val := by blk_simp [idx t] <;> omega
  have e1 : ((((View.whole main_v1_2).slice (win0_6.rect t)).emb y 1 : Fin 1024) : ℕ) = (y 1).val := by blk_simp [idx t] <;> omega
  pointwise [k0_pay1, first]
  rw [total_at m c t _ _ _ y _ e0 e1, m_at m c t y _ e0 e1]

theorem final7 : (dats m 0 c).arrAt 7 (cfgs 0).N = second (total (pA m c)) (vA m c) := by
  refine (dats m 0 c).arrAt_eq_of_covers 7 _ (by decide +kernel) fun t hf y => ?_
  blk_simp; rw [after0_7]; frame_out
  have e0 : ((((View.whole main_v1_3).slice (win0_7.rect t)).emb y 0 : Fin 704) : ℕ) = 176 * t.val + (y 0).val := by blk_simp [idx t] <;> omega
  have e1 : ((((View.whole main_v1_3).slice (win0_7.rect t)).emb y 1 : Fin 1024) : ℕ) = (y 1).val := by blk_simp [idx t] <;> omega
  pointwise [k0_pay2, second]
  rw [total_at m c t _ _ _ y _ e0 e1, v_at m c t y _ e0 e1]

theorem final5 : (dats m 0 c).arrAt 5 (cfgs 0).N = change (first (total (pA m c)) (mA m c))
    (second (total (pA m c)) (vA m c)) (wA m c) := by
  refine (dats m 0 c).arrAt_eq_of_covers 5 _ (by decide +kernel) fun t hf y => ?_
  blk_simp; rw [after0_5]; frame_out
  have e0 : ((((View.whole main_v1_1).slice (win0_5.rect t)).emb y 0 : Fin 704) : ℕ) = 176 * t.val + (y 0).val := by blk_simp [idx t] <;> omega
  have e1 : ((((View.whole main_v1_1).slice (win0_5.rect t)).emb y 1 : Fin 1024) : ℕ) = (y 1).val := by blk_simp [idx t] <;> omega
  pointwise [k0_pay3, k0_pay1, k0_pay2, change, first, second]
  rw [total_at m c t _ _ _ y _ e0 e1, m_at m c t y _ e0 e1, v_at m c t y _ e0 e1, w_at m c t y _ e0 e1]

end Cert.SumAdamwIdeal.Value

end
-- ==== Proof.SumAdamwClaim.lean ====
/- The claims about the sum of a gradient's parts and the optimiser's step. -/
module

public import proofs.«01_k».proof.Defs
public import proofs.«01_k».proof.Proof.SumAdamw
public import proofs.«01_k».proof.Proof.Gen.SumAdamw.Frame

@[expose] public section

set_option maxRecDepth 16384

noncomputable section

namespace Cert.Proof

open Idealize.ShloMosaic Idealize.SL.Sem
open Cert.SumAdamwRefIdeal (nD τ sig defs main main_arg0 main_arg1 main_arg2 main_arg3 main_v0 main_v24 main_v5 main_v11)
open Cert.SumAdamwRefIdeal.Value (total first second change)

theorem adam_frame : Cert.quiescent_SumAdamw := fun m ρ _ => Cert.SumAdamw.Gen.frame m ρ

theorem adam_frame_ideal : Cert.quiescent_SumAdamwIdeal := fun m ρ _ => Cert.SumAdamwIdeal.Gen.frame m ρ

theorem adam_frame_ref : Cert.quiescent_SumAdamwRefIdeal := fun m ρ _ =>
  (θ_run Cert.SumAdamwRefIdeal.defs _ _).mono (fun r h => ⟨fun c => (h c).2.2.2.2, sem_eq_zero_of_no_sems (by decide) r.2⟩)
    (Cert.SumAdamwRefIdeal.Value.run m ρ)

/-- The reference's run, its results named. -/
theorem adam_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v0) = total (m (c.tc.loc main_arg0))
        ∧ r.2.mem (c.tc.loc main_v24) = change (first (total (m (c.tc.loc main_arg0))) (m (c.tc.loc main_arg2))) (second (total (m (c.tc.loc main_arg0))) (m (c.tc.loc main_arg3))) (m (c.tc.loc main_arg1))
        ∧ r.2.mem (c.tc.loc main_v5) = first (total (m (c.tc.loc main_arg0))) (m (c.tc.loc main_arg2))
        ∧ r.2.mem (c.tc.loc main_v11) = second (total (m (c.tc.loc main_arg0))) (m (c.tc.loc main_arg3))
        ∧ r.2.mem (c.tc.loc main_arg0) = (m (c.tc.loc main_arg0)) ∧ r.2.mem (c.tc.loc main_arg1) = (m (c.tc.loc main_arg1))
        ∧ r.2.mem (c.tc.loc main_arg2) = (m (c.tc.loc main_arg2)) ∧ r.2.mem (c.tc.loc main_arg3) = (m (c.tc.loc main_arg3)) :=
  Cert.SumAdamwRefIdeal.Value.run m ρ

set_option maxHeartbeats 1000000 in
theorem adam_value : Cert.algebraic_SumAdamwIdeal_SumAdamwRefIdeal := by
  pair_intro
  · run_from Cert.SumAdamwIdeal.Gen.run_main m g
  · run_from adam_ref_run m' g'
    · exact (Cert.SumAdamwIdeal.Value.final4 m c).symm
    · exact (Cert.SumAdamwIdeal.Value.final5 m c).symm
    · exact (Cert.SumAdamwIdeal.Value.final6 m c).symm
    · exact (Cert.SumAdamwIdeal.Value.final7 m c).symm

end Cert.Proof

end
-- ==== Proof.SmallSums.lean ====
/- The packed step of the small parameters: what the reference computes, and the sums and payloads of the kernel. -/
module

public import proofs.«01_k».proof.Proof.Reals
public import proofs.«01_k».proof.Proof.Gen.SmallIdeal.Value
public import proofs.«01_k».proof.Proof.Gen.SmallRefIdeal.Run

@[expose] public section

set_option maxRecDepth 16384

noncomputable section

open Idealize.ShloMosaic Idealize.ShloMosaic.TcCoe Idealize.SL.Sem
open Idealize.ShloMosaic.Pipeline (Dat)

namespace Cert.SmallRefIdeal.Value

open Cert.SmallRefIdeal Cert.SmallRefIdeal.Gen

variable {s : Shape} (hb : S_.BroadcastsInDim s ![])

/-- A constant array. -/
abbrev const (b : BitVec 32) : FVec Ideal s .f32 := broadcastInDim s ![] hb (constant S_ .f32 b)

/-- The first moment, -/
def first (g m : FVec Ideal s .f32) : FVec Ideal s .f32 := addf (mulf (const hb 0x3F666666#32) m) (mulf (const hb 0x3DCCCCCD#32) g)

/-- … the second, -/
def second (g v : FVec Ideal s .f32) : FVec Ideal s .f32 := addf (mulf (const hb 0x3F7FBE77#32) v) (mulf (const hb 0x3A83126F#32) (mulf g g))

/-- … and the weight's change, from both. -/
def change (m v w : FVec Ideal s .f32) : FVec Ideal s .f32 :=
  mulf (const hb 0xBA83126F#32) (addf (Host.divf (Host.divf m (const hb 0x3F26BD02#32))
    (addf (Host.sqrt (Host.divf v (const hb 0x3C231ACC#32))) (const hb 0x322BCC77#32))) (mulf (const hb 0x3C23D70A#32) w))

/-- The gradients: the sums of the parts of a row, of an array, and of the loss. -/
def rowTotal (p : FVec Ideal S8x1x1024 .f32) : FVec Ideal S1x1024 .f32 :=
  Host.reduceAdd p (constant S_ .f32 0x00000000#32) reducesTo_S8x1x1024_S1x1024_d0 h_S_
def arrTotal (p : FVec Ideal S8x8x128x128 .f32) : FVec Ideal S1x8x128x128 .f32 :=
  shapeCast _ (Host.reduceAdd p (constant S_ .f32 0x00000000#32) reducesTo_S8x8x128x128_S8x128x128_d0 h_S_) shapeCasts_S8x128x128_S1x8x128x128
def lossTotal (p : FVec Ideal S8x1x128 .f32) : FVec Ideal S1x128 .f32 :=
  Host.reduceAdd p (constant S_ .f32 0x00000000#32) reducesTo_S8x1x128_S1x128_d0 h_S_

theorem rowTotal_apply (p : FVec Ideal S8x1x1024 .f32) (r : Fin 1) (j : Fin 1024) :
    rowTotal p (ix2 r j) = p (ix3 0 r j) + p (ix3 1 r j) + p (ix3 2 r j) + p (ix3 3 r j) + p (ix3 4 r j) + p (ix3 5 r j) + p (ix3 6 r j) + p (ix3 7 r j) :=
  (show rowTotal p (ix2 r j) = ∑ k : Fin 8, p (ix3 k r j) by obtain rfl : r = 0 := Subsingleton.elim _ _; pointwise [rowTotal]).trans (Fin.sum_univ_eight _)

theorem lossTotal_apply (p : FVec Ideal S8x1x128 .f32) (r : Fin 1) (j : Fin 128) :
    lossTotal p (ix2 r j) = p (ix3 0 r j) + p (ix3 1 r j) + p (ix3 2 r j) + p (ix3 3 r j) + p (ix3 4 r j) + p (ix3 5 r j) + p (ix3 6 r j) + p (ix3 7 r j) :=
  (show lossTotal p (ix2 r j) = ∑ k : Fin 8, p (ix3 k r j) by obtain rfl : r = 0 := Subsingleton.elim _ _; pointwise [lossTotal]).trans (Fin.sum_univ_eight _)

theorem arrTotal_apply (p : FVec Ideal S8x8x128x128 .f32) (z : Fin 1) (a : Fin 8) (r j : Fin 128) :
    arrTotal p (ix4 z a r j) = p (ix4 0 a r j) + p (ix4 1 a r j) + p (ix4 2 a r j) + p (ix4 3 a r j) + p (ix4 4 a r j) + p (ix4 5 a r j) + p (ix4 6 a r j) + p (ix4 7 a r j) :=
  (show arrTotal p (ix4 z a r j) = ∑ k : Fin 8, p (ix4 k a r j) by pointwise [arrTotal]).trans (Fin.sum_univ_eight _)

end Cert.SmallRefIdeal.Value

namespace Cert.SmallIdeal.Value

open Cert.SmallIdeal Cert.SmallIdeal.Gen
open Cert.SmallRefIdeal.Value (first second change rowTotal arrTotal lossTotal rowTotal_apply arrTotal_apply lossTotal_apply)

/-- Every window's block is its whole array. -/
theorem idx : ∀ t : Fin cfg0.N, win0_0.index t = ![0, 0, 0] ∧ win0_1.index t = ![0, 0, 0] ∧ win0_2.index t = ![0, 0, 0, 0]
    ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![0, 0, 0, 0] ∧ win0_10.index t = ![0, 0, 0, 0] ∧ win0_11.index t = ![0, 0, 0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0]
    ∧ win0_20.index t = ![0, 0, 0, 0] ∧ win0_21.index t = ![0, 0, 0, 0] ∧ win0_22.index t = ![0, 0, 0, 0] ∧ win0_23.index t = ![0, 0, 0, 0]
    ∧ win0_24.index t = ![0, 0] :=
  (by decide +kernel : ∀ t : Fin grid0.N, _)

section Sums

variable (x0 : Vec Ideal S8x7x1024 .f32) (x1 : Vec Ideal S8x2x1024 .f32) (x2 : Vec Ideal S8x8x128x128 .f32) (x3 x4 x5 x6 x7 x8 : Vec Ideal S1x1024 .f32)
    (x9 x10 x11 : Vec Ideal S1x8x128x128 .f32)

/-- The sums over the parts: of the first row, -/
theorem sum21 (r : Fin 1) (j : Fin 1024) : k0_pay21 x0 x1 x2 x3 x4 x5 x6 x7 x8 x9 x10 x11 (ix2 r j)
    = (x0 (ix3 0 0 j) + x0 (ix3 1 0 j) + x0 (ix3 2 0 j) + x0 (ix3 3 0 j) + x0 (ix3 4 0 j) + x0 (ix3 5 0 j) + x0 (ix3 6 0 j) + x0 (ix3 7 0 j) : EReal) := by
  pointwise [k0_pay21, k0_pay2]

/-- … of the second row, -/
theorem sum8 (r : Fin 1) (j : Fin 1024) : k0_pay8 (k0_pay23 x0 x1 x2 x3 x4 x5 x6 x7 x8 x9 x10 x11) (View.ld x1 r0_11) (View.ld x1 r0_12) (View.ld x1 r0_13) (View.ld x1 r0_14) (View.ld x1 r0_15) (View.ld x1 r0_16) (ix2 r j)
    = (x1 (ix3 0 1 j) + x1 (ix3 1 1 j) + x1 (ix3 2 1 j) + x1 (ix3 3 1 j) + x1 (ix3 4 1 j) + x1 (ix3 5 1 j) + x1 (ix3 6 1 j) + x1 (ix3 7 1 j) : EReal) := by
  pointwise [k0_pay8, k0_pay23, k0_pay7]

/-- … of a whole array, -/
theorem sum14 (z : Fin 1) (a : Fin 8) (r j : Fin 128) : k0_pay14 (k0_pay25 x0 x1 x2 x3 x4 x5 x6 x7 x8 x9 x10 x11) (View.ld x2 r0_21) (View.ld x2 r0_22) (View.ld x2 r0_23) (View.ld x2 r0_24) (ix4 z a r j)
    = (x2 (ix4 0 a r j) + x2 (ix4 1 a r j) + x2 (ix4 2 a r j) + x2 (ix4 3 a r j) + x2 (ix4 4 a r j) + x2 (ix4 5 a r j) + x2 (ix4 6 a r j) + x2 (ix4 7 a r j) : EReal) := by
  pointwise [k0_pay14, k0_pay25, k0_pay13]

/-- … and of the loss. -/
theorem sum1 (r : Fin 1) (j : Fin 128) : k0_pay1 (k0_pay19 (View.ld x0 r0_26) (View.ld x0 r0_27) (View.ld x0 r0_28)) (k0_pay20 (View.ld x0 r0_29)) (View.ld x0 r0_30) (View.ld x0 r0_31) (View.ld x0 r0_32) (View.ld x0 r0_33) (ix2 r j)
    = (x0 (ix3 0 6 ⟨j, by omega⟩) + x0 (ix3 1 6 ⟨j, by omega⟩) + x0 (ix3 2 6 ⟨j, by omega⟩) + x0 (ix3 3 6 ⟨j, by omega⟩) + x0 (ix3 4 6 ⟨j, by omega⟩) + x0 (ix3 5 6 ⟨j, by omega⟩) + x0 (ix3 6 6 ⟨j, by omega⟩) + x0 (ix3 7 6 ⟨j, by omega⟩) : EReal) := by
  pointwise [k0_pay1, k0_pay19, k0_pay20]

end Sums

/-- The constants' broadcasts. -/
abbrev hb1 := Cert.SmallRefIdeal.Gen.bcast_S_S1x1024
abbrev hbW := Cert.SmallRefIdeal.Gen.bcast_S_S1x8x128x128

/-- A block read whole. -/
theorem ld8 (x : Vec Ideal S1x1024 .f32) : View.ld x r0_8 = x := by
  funext y
  obtain ⟨r, j, rfl⟩ : ∃ (r : Fin 1) (j : Fin 1024), y = ix2 r j := ⟨y 0, y 1, eq_ix2 y⟩
  obtain rfl : r = 0 := Subsingleton.elim _ _
  pointwise

theorem ld25 (x : Vec Ideal S1x8x128x128 .f32) : View.ld x r0_25 = x := by
  funext y
  obtain ⟨z, a, r, j, rfl⟩ : ∃ (z : Fin 1) (a : Fin 8) (r j : Fin 128), y = ix4 z a r j := ⟨y 0, y 1, y 2, y 3, eq_ix4 y⟩
  obtain rfl : z = 0 := Subsingleton.elim _ _
  pointwise

/-- The first row's moments and change, from its sum, -/
theorem first4 (g m : Vec Ideal S1x1024 .f32) : k0_pay4 (F := Ideal) g (k0_pay3 m) (Scalar.ofBits .f32 0x3DCCCCCD#32) = first hb1 g m := by
  funext y; pointwise [k0_pay4, k0_pay3, first]

theorem second5 (g v : Vec Ideal S1x1024 .f32) : k0_pay5 (F := Ideal) g v = second hb1 g v := by
  funext y; pointwise [k0_pay5, second]

theorem change6 (g w m v : Vec Ideal S1x1024 .f32) : k0_pay6 (F := Ideal) g w v (k0_pay3 m) (Scalar.ofBits .f32 0x3DCCCCCD#32)
    = change hb1 (first hb1 g m) (second hb1 g v) w := by
  rw [← first4, ← second5]; funext y; pointwise [k0_pay6, change]

section
variable (s : FVec Ideal S1x1024 .f32) (a b d e f g : Vec Ideal S1x1x1024 .f32) (w m v : Vec Ideal S1x1024 .f32)
/-- … the second row's, -/
theorem first9 : k0_pay9 s a b d e f g m = first hb1 (k0_pay8 s a b d e f g) m := by
  funext y; pointwise [k0_pay9, first]

theorem second10 : k0_pay10 s a b d e f g v = second hb1 (k0_pay8 s a b d e f g) v := by
  funext y; pointwise [k0_pay10, second]

theorem change12 : k0_pay12 (F := Ideal) w (k0_pay10 s a b d e f g v) (k0_pay11 s a b d e f g m) (Scalar.ofBits .f32 0x3C231ACC#32)
    = change hb1 (first hb1 (k0_pay8 s a b d e f g) m) (second hb1 (k0_pay8 s a b d e f g) v) w := by
  rw [← first9, ← second10]; funext y; pointwise [k0_pay12, k0_pay11, change]
end

section
variable (s : FVec Ideal S8x128x128 .f32) (a b d e w m v : Vec Ideal S1x8x128x128 .f32)
/-- … and the array's. -/
theorem first15 : k0_pay15 s a b d e m = first hbW (k0_pay14 s a b d e) m := by
  funext y; pointwise [k0_pay15, first]

theorem second16 : k0_pay16 s a b d e v = second hbW (k0_pay14 s a b d e) v := by
  funext y; pointwise [k0_pay16, second]

theorem change18 : k0_pay18 (F := Ideal) w (k0_pay16 s a b d e v) (k0_pay17 s a b d e m) (Scalar.ofBits .f32 0x3C231ACC#32)
    = change hbW (first hbW (k0_pay14 s a b d e) m) (second hbW (k0_pay14 s a b d e) v) w := by
  rw [← first15, ← second16]; funext y; pointwise [k0_pay18, k0_pay17, change]
end

variable (m : (ℓ : Loc nD τ sig) → Buf (Elt Ideal) ℓ) (c : Dev nD)

/-- The arguments that the results take: the parts of the two rows, of the array and of the loss, -/
abbrev pR : FVec Ideal S8x1x1024 .f32 := m ((c : Thread nD τ).loc main_arg0)
abbrev pL : FVec Ideal S8x1x128 .f32 := m ((c : Thread nD τ).loc main_arg6)
abbrev pB : FVec Ideal S8x1x1024 .f32 := m ((c : Thread nD τ).loc main_arg8)
abbrev pW : FVec Ideal S8x8x128x128 .f32 := m ((c : Thread nD τ).loc main_arg9)
/-- … and each one's weight and moments. -/
abbrev wR : FVec Ideal S1x1024 .f32 := m ((c : Thread nD τ).loc main_arg10)
abbrev mR : FVec Ideal S1x1024 .f32 := m ((c : Thread nD τ).loc main_arg11)
abbrev vR : FVec Ideal S1x1024 .f32 := m ((c : Thread nD τ).loc main_arg12)
abbrev wB : FVec Ideal S1x1024 .f32 := m ((c : Thread nD τ).loc main_arg13)
abbrev mB : FVec Ideal S1x1024 .f32 := m ((c : Thread nD τ).loc main_arg14)
abbrev vB : FVec Ideal S1x1024 .f32 := m ((c : Thread nD τ).loc main_arg15)
abbrev wW : FVec Ideal S1x8x128x128 .f32 := m ((c : Thread nD τ).loc main_arg16)
abbrev mW : FVec Ideal S1x8x128x128 .f32 := m ((c : Thread nD τ).loc main_arg17)
abbrev vW : FVec Ideal S1x8x128x128 .f32 := m ((c : Thread nD τ).loc main_arg18)

/-- The rows packed on the host. -/
theorem V_rows : V m c main_v3 = concatenate S8x7x1024 1 [⟨S8x1x1024, m ((c : Thread nD τ).loc main_arg0)⟩, ⟨S8x1x1024, m ((c : Thread nD τ).loc main_arg1)⟩,
    ⟨S8x1x1024, m ((c : Thread nD τ).loc main_arg2)⟩, ⟨S8x1x1024, m ((c : Thread nD τ).loc main_arg3)⟩, ⟨S8x1x1024, m ((c : Thread nD τ).loc main_arg4)⟩,
    ⟨S8x1x1024, m ((c : Thread nD τ).loc main_arg5)⟩, ⟨S8x1x1024, V m c main_v2⟩]
    concatenates_S8x1x1024_S8x1x1024_S8x1x1024_S8x1x1024_S8x1x1024_S8x1x1024_S8x1x1024_S8x7x1024_d1 := by
  unfold V; after_results_simp <;> rfl

theorem V_tile (k : Fin 8) (j : Fin 128) : V m c main_v2 (ix3 k 0 ⟨j, by omega⟩) = pL m c (ix3 k 0 j) := by
  have h : V m c main_v2 = shapeCast S8x1x1024 (broadcastInDim S1x8x1x1x8x128 ![0, 1, 2, 3, 4, 5] bcast_S1x8x1x1x1x128_S1x8x1x1x8x128_0_1_2_3_4_5
      (shapeCast S1x8x1x1x1x128 (pL m c) shapeCasts_S8x1x128_S1x8x1x1x1x128)) shapeCasts_S1x8x1x1x8x128_S8x1x1024 := by
    unfold V; after_results_simp <;> rfl
  rw [h]
  generalize pL m c = X
  pointwise
  exact congrArg (fun z => X (ix3 k 0 z)) (Fin.ext (Nat.mod_eq_of_lt j.isLt))

theorem V_pair : V m c main_v4 = concatenate S8x2x1024 1 [⟨S8x1x1024, m ((c : Thread nD τ).loc main_arg7)⟩, ⟨S8x1x1024, pB m c⟩]
    concatenates_S8x1x1024_S8x1x1024_S8x2x1024_d1 := by
  unfold V; after_results_simp <;> rfl

theorem rows_blk (t : Fin cfg0.N) (X : FVec Ideal S8x7x1024 .f32) (k : Fin 8) (i : Fin 7) (j : Fin 1024) :
    (((cfg0.win 0).blk t).view.read (Elt Ideal) X : Vec Ideal S8x7x1024 .f32) (ix3 k i j) = X (ix3 k i j) := by
  blk_point [idx t]

theorem pair_blk (t : Fin cfg0.N) (X : FVec Ideal S8x2x1024 .f32) (k : Fin 8) (i : Fin 2) (j : Fin 1024) :
    (((cfg0.win 1).blk t).view.read (Elt Ideal) X : Vec Ideal S8x2x1024 .f32) (ix3 k i j) = X (ix3 k i j) := by
  blk_point [idx t]

theorem row_at (t : Fin cfg0.N) (k : Fin 8) (j : Fin 1024) : (iblk m c 0 t : Vec Ideal S8x7x1024 .f32) (ix3 k 0 j) = pR m c (ix3 k 0 j) := by
  refine (rows_blk t (V m c main_v3) k 0 j).trans ?_
  rw [V_rows]
  pointwise

theorem loss_at (t : Fin cfg0.N) (k : Fin 8) (j : Fin 128) :
    (iblk m c 0 t : Vec Ideal S8x7x1024 .f32) (ix3 k 6 ⟨j, by omega⟩) = pL m c (ix3 k 0 j) := by
  refine (rows_blk t (V m c main_v3) k 6 ⟨j, by omega⟩).trans ?_
  rw [V_rows, ← V_tile]
  generalize V m c main_v2 = X
  pointwise

theorem bias_at (t : Fin cfg0.N) (k : Fin 8) (j : Fin 1024) : (iblk m c 1 t : Vec Ideal S8x2x1024 .f32) (ix3 k 1 j) = pB m c (ix3 k 0 j) := by
  refine (pair_blk t (V m c main_v4) k 1 j).trans ?_
  rw [V_pair]
  pointwise

theorem arr_at (t : Fin cfg0.N) : (iblk m c 2 t : Vec Ideal S8x8x128x128 .f32) = pW m c := by
  funext y
  obtain ⟨k, a, r, j, rfl⟩ : ∃ (k a : Fin 8) (r j : Fin 128), y = ix4 k a r j := ⟨y 0, y 1, y 2, y 3, eq_ix4 y⟩
  blk_point [iblk, V, idx t]

theorem w3_at (t : Fin cfg0.N) : (iblk m c 3 t : Vec Ideal S1x1024 .f32) = wR m c := by
  funext y
  obtain ⟨r, j, rfl⟩ : ∃ (r : Fin 1) (j : Fin 1024), y = ix2 r j := ⟨y 0, y 1, eq_ix2 y⟩
  blk_point [iblk, V, idx t]

theorem w4_at (t : Fin cfg0.N) : (iblk m c 4 t : Vec Ideal S1x1024 .f32) = mR m c := by
  funext y
  obtain ⟨r, j, rfl⟩ : ∃ (r : Fin 1) (j : Fin 1024), y = ix2 r j := ⟨y 0, y 1, eq_ix2 y⟩
  blk_point [iblk, V, idx t]

theorem w5_at (t : Fin cfg0.N) : (iblk m c 5 t : Vec Ideal S1x1024 .f32) = vR m c := by
  funext y
  obtain ⟨r, j, rfl⟩ : ∃ (r : Fin 1) (j : Fin 1024), y = ix2 r j := ⟨y 0, y 1, eq_ix2 y⟩
  blk_point [iblk, V, idx t]

theorem w6_at (t : Fin cfg0.N) : (iblk m c 6 t : Vec Ideal S1x1024 .f32) = wB m c := by
  funext y
  obtain ⟨r, j, rfl⟩ : ∃ (r : Fin 1) (j : Fin 1024), y = ix2 r j := ⟨y 0, y 1, eq_ix2 y⟩
  blk_point [iblk, V, idx t]

theorem w7_at (t : Fin cfg0.N) : (iblk m c 7 t : Vec Ideal S1x1024 .f32) = mB m c := by
  funext y
  obtain ⟨r, j, rfl⟩ : ∃ (r : Fin 1) (j : Fin 1024), y = ix2 r j := ⟨y 0, y 1, eq_ix2 y⟩
  blk_point [iblk, V, idx t]

theorem w8_at (t : Fin cfg0.N) : (iblk m c 8 t : Vec Ideal S1x1024 .f32) = vB m c := by
  funext y
  obtain ⟨r, j, rfl⟩ : ∃ (r : Fin 1) (j : Fin 1024), y = ix2 r j := ⟨y 0, y 1, eq_ix2 y⟩
  blk_point [iblk, V, idx t]

theorem w9_at (t : Fin cfg0.N) : (iblk m c 9 t : Vec Ideal S1x8x128x128 .f32) = wW m c := by
  funext y
  obtain ⟨z, a, r, j, rfl⟩ : ∃ (z : Fin 1) (a : Fin 8) (r j : Fin 128), y = ix4 z a r j := ⟨y 0, y 1, y 2, y 3, eq_ix4 y⟩
  blk_point [iblk, V, idx t]

theorem w10_at (t : Fin cfg0.N) : (iblk m c 10 t : Vec Ideal S1x8x128x128 .f32) = mW m c := by
  funext y
  obtain ⟨z, a, r, j, rfl⟩ : ∃ (z : Fin 1) (a : Fin 8) (r j : Fin 128), y = ix4 z a r j := ⟨y 0, y 1, y 2, y 3, eq_ix4 y⟩
  blk_point [iblk, V, idx t]

theorem w11_at (t : Fin cfg0.N) : (iblk m c 11 t : Vec Ideal S1x8x128x128 .f32) = vW m c := by
  funext y
  obtain ⟨z, a, r, j, rfl⟩ : ∃ (z : Fin 1) (a : Fin 8) (r j : Fin 128), y = ix4 z a r j := ⟨y 0, y 1, y 2, y 3, eq_ix4 y⟩
  blk_point [iblk, V, idx t]

/-- The four sums, of the blocks. -/
theorem gR (t : Fin cfg0.N) (x3 x4 x5 x6 x7 x8 : Vec Ideal S1x1024 .f32) (x9 x10 x11 : Vec Ideal S1x8x128x128 .f32) :
    k0_pay21 (iblk m c 0 t) (iblk m c 1 t) (iblk m c 2 t) x3 x4 x5 x6 x7 x8 x9 x10 x11 = rowTotal (pR m c) := by
  funext y
  obtain ⟨r, j, rfl⟩ : ∃ (r : Fin 1) (j : Fin 1024), y = ix2 r j := ⟨y 0, y 1, eq_ix2 y⟩
  obtain rfl : r = 0 := Subsingleton.elim _ _
  rw [sum21, rowTotal_apply]
  simp only [row_at]

theorem gB (t : Fin cfg0.N) (x3 x4 x5 x6 x7 x8 : Vec Ideal S1x1024 .f32) (x9 x10 x11 : Vec Ideal S1x8x128x128 .f32) :
    k0_pay8 (k0_pay23 (iblk m c 0 t) (iblk m c 1 t) (iblk m c 2 t) x3 x4 x5 x6 x7 x8 x9 x10 x11) (View.ld (iblk m c 1 t) r0_11) (View.ld (iblk m c 1 t) r0_12)
      (View.ld (iblk m c 1 t) r0_13) (View.ld (iblk m c 1 t) r0_14) (View.ld (iblk m c 1 t) r0_15) (View.ld (iblk m c 1 t) r0_16) = rowTotal (pB m c) := by
  funext y
  obtain ⟨r, j, rfl⟩ : ∃ (r : Fin 1) (j : Fin 1024), y = ix2 r j := ⟨y 0, y 1, eq_ix2 y⟩
  obtain rfl : r = 0 := Subsingleton.elim _ _
  refine (sum8 (iblk m c 0 t) (iblk m c 1 t) (iblk m c 2 t) x3 x4 x5 x6 x7 x8 x9 x10 x11 0 j).trans ?_
  rw [rowTotal_apply]
  simp only [bias_at]

theorem gW (t : Fin cfg0.N) (x3 x4 x5 x6 x7 x8 : Vec Ideal S1x1024 .f32) (x9 x10 x11 : Vec Ideal S1x8x128x128 .f32) :
    k0_pay14 (k0_pay25 (iblk m c 0 t) (iblk m c 1 t) (pW m c) x3 x4 x5 x6 x7 x8 x9 x10 x11) (View.ld (pW m c) r0_21) (View.ld (pW m c) r0_22)
      (View.ld (pW m c) r0_23) (View.ld (pW m c) r0_24) = arrTotal (pW m c) := by
  funext y
  obtain ⟨z, a, r, j, rfl⟩ : ∃ (z : Fin 1) (a : Fin 8) (r j : Fin 128), y = ix4 z a r j := ⟨y 0, y 1, y 2, y 3, eq_ix4 y⟩
  rw [sum14, arrTotal_apply]

theorem gL (t : Fin cfg0.N) :
    k0_pay1 (k0_pay19 (View.ld (iblk m c 0 t) r0_26) (View.ld (iblk m c 0 t) r0_27) (View.ld (iblk m c 0 t) r0_28)) (k0_pay20 (View.ld (iblk m c 0 t) r0_29))
      (View.ld (iblk m c 0 t) r0_30) (View.ld (iblk m c 0 t) r0_31) (View.ld (iblk m c 0 t) r0_32) (View.ld (iblk m c 0 t) r0_33) = lossTotal (pL m c) := by
  funext y
  obtain ⟨r, j, rfl⟩ : ∃ (r : Fin 1) (j : Fin 128), y = ix2 r j := ⟨y 0, y 1, eq_ix2 y⟩
  obtain rfl : r = 0 := Subsingleton.elim _ _
  refine (sum1 (iblk m c 0 t) 0 j).trans ?_
  rw [lossTotal_apply]
  simp only [loss_at]

end Cert.SmallIdeal.Value

end
-- ==== Proof.Small.lean ====
/- The packed step of the small parameters: the thirteen result arrays. -/
module

public import proofs.«01_k».proof.Proof.SmallSums

@[expose] public section

set_option maxRecDepth 16384
set_option maxHeartbeats 800000

noncomputable section

open Idealize.ShloMosaic Idealize.ShloMosaic.TcCoe Idealize.SL.Sem
open Idealize.ShloMosaic.Pipeline (Dat)

namespace Cert.SmallIdeal.Value

open Cert.SmallIdeal Cert.SmallIdeal.Gen
open Cert.SmallRefIdeal.Value (first second change rowTotal arrTotal lossTotal)

variable (m : (ℓ : Loc nD τ sig) → Buf (Elt Ideal) ℓ) (c : Dev nD)

/-- A row's index, and an array's, by its entries. -/
theorem same2 {n : ℕ} {i y : (⟨2, ![1, n]⟩ : Shape).Idx} (e0 : (i 0 : ℕ) = y 0) (e1 : (i 1 : ℕ) = y 1) : i = y :=
  (eq_ix2 i).trans ((congrArg₂ ix2 (Fin.ext e0) (Fin.ext e1)).trans (eq_ix2 y).symm)

theorem same4 {i y : S1x8x128x128.Idx} (e0 : (i 0 : ℕ) = y 0) (e1 : (i 1 : ℕ) = y 1) (e2 : (i 2 : ℕ) = y 2) (e3 : (i 3 : ℕ) = y 3) : i = y := by
  funext k; apply Fin.ext; fin_cases k
  exacts [e0, e1, e2, e3]

theorem final12 : (dats m 0 c).arrAt 12 (cfgs 0).N = rowTotal (pR m c) := by
  refine (dats m 0 c).arrAt_eq_of_covers 12 _ (by decide +kernel) fun t hf y => ?_
  blk_simp; rw [after0_12]; frame_out
  rw [show ((View.whole main_v5_0).slice (win0_12.rect t)).emb y = y from same2 (by blk_simp [idx t] <;> omega) (by blk_simp [idx t] <;> omega)]
  exact congrFun (gR m c t _ _ _ _ _ _ _ _ _) y

theorem final14 : (dats m 0 c).arrAt 14 (cfgs 0).N = first hb1 (rowTotal (pR m c)) (mR m c) := by
  refine (dats m 0 c).arrAt_eq_of_covers 14 _ (by decide +kernel) fun t hf y => ?_
  blk_simp; rw [after0_14]; frame_out
  rw [show ((View.whole main_v5_2).slice (win0_14.rect t)).emb y = y from same2 (by blk_simp [idx t] <;> omega) (by blk_simp [idx t] <;> omega)]
  exact congrFun ((first4 _ _).trans (congrArg₂ (first hb1) (gR m c t _ _ _ _ _ _ _ _ _) ((ld8 _).trans (w4_at m c t)))) y

theorem final15 : (dats m 0 c).arrAt 15 (cfgs 0).N = second hb1 (rowTotal (pR m c)) (vR m c) := by
  refine (dats m 0 c).arrAt_eq_of_covers 15 _ (by decide +kernel) fun t hf y => ?_
  blk_simp; rw [after0_15]; frame_out
  rw [show ((View.whole main_v5_3).slice (win0_15.rect t)).emb y = y from same2 (by blk_simp [idx t] <;> omega) (by blk_simp [idx t] <;> omega)]
  exact congrFun ((second5 _ _).trans (congrArg₂ (second hb1) (gR m c t _ _ _ _ _ _ _ _ _) (w5_at m c t))) y

theorem final13 : (dats m 0 c).arrAt 13 (cfgs 0).N = change hb1 (first hb1 (rowTotal (pR m c)) (mR m c)) (second hb1 (rowTotal (pR m c)) (vR m c)) (wR m c) := by
  refine (dats m 0 c).arrAt_eq_of_covers 13 _ (by decide +kernel) fun t hf y => ?_
  blk_simp; rw [after0_13]; frame_out
  rw [show ((View.whole main_v5_1).slice (win0_13.rect t)).emb y = y from same2 (by blk_simp [idx t] <;> omega) (by blk_simp [idx t] <;> omega)]
  exact congrFun ((change6 _ _ _ _).trans (congr (congrArg₂ (change hb1) (congrArg₂ (first hb1) (gR m c t _ _ _ _ _ _ _ _ _) ((ld8 _).trans (w4_at m c t))) (congrArg₂ (second hb1) (gR m c t _ _ _ _ _ _ _ _ _) (w5_at m c t))) (w3_at m c t))) y

theorem final16 : (dats m 0 c).arrAt 16 (cfgs 0).N = rowTotal (pB m c) := by
  refine (dats m 0 c).arrAt_eq_of_covers 16 _ (by decide +kernel) fun t hf y => ?_
  blk_simp; rw [after0_16]; frame_out
  rw [show ((View.whole main_v5_4).slice (win0_16.rect t)).emb y = y from same2 (by blk_simp [idx t] <;> omega) (by blk_simp [idx t] <;> omega)]
  exact congrFun (gB m c t _ _ _ _ _ _ _ _ _) y

theorem final18 : (dats m 0 c).arrAt 18 (cfgs 0).N = first hb1 (rowTotal (pB m c)) (mB m c) := by
  refine (dats m 0 c).arrAt_eq_of_covers 18 _ (by decide +kernel) fun t hf y => ?_
  blk_simp; rw [after0_18]; frame_out
  rw [show ((View.whole main_v5_6).slice (win0_18.rect t)).emb y = y from same2 (by blk_simp [idx t] <;> omega) (by blk_simp [idx t] <;> omega)]
  exact congrFun ((first9 _ _ _ _ _ _ _ _).trans (congrArg₂ (first hb1) (gB m c t _ _ _ _ _ _ _ _ _) (w7_at m c t))) y

theorem final19 : (dats m 0 c).arrAt 19 (cfgs 0).N = second hb1 (rowTotal (pB m c)) (vB m c) := by
  refine (dats m 0 c).arrAt_eq_of_covers 19 _ (by decide +kernel) fun t hf y => ?_
  blk_simp; rw [after0_19]; frame_out
  rw [show ((View.whole main_v5_7).slice (win0_19.rect t)).emb y = y from same2 (by blk_simp [idx t] <;> omega) (by blk_simp [idx t] <;> omega)]
  exact congrFun ((second10 _ _ _ _ _ _ _ _).trans (congrArg₂ (second hb1) (gB m c t _ _ _ _ _ _ _ _ _) ((ld8 _).trans (w8_at m c t)))) y

theorem final17 : (dats m 0 c).arrAt 17 (cfgs 0).N = change hb1 (first hb1 (rowTotal (pB m c)) (mB m c)) (second hb1 (rowTotal (pB m c)) (vB m c)) (wB m c) := by
  refine (dats m 0 c).arrAt_eq_of_covers 17 _ (by decide +kernel) fun t hf y => ?_
  blk_simp; rw [after0_17]; frame_out
  rw [show ((View.whole main_v5_5).slice (win0_17.rect t)).emb y = y from same2 (by blk_simp [idx t] <;> omega) (by blk_simp [idx t] <;> omega)]
  exact congrFun ((change12 _ _ _ _ _ _ _ _ _ _).trans (congr (congrArg₂ (change hb1) (congrArg₂ (first hb1) (gB m c t _ _ _ _ _ _ _ _ _) (w7_at m c t)) (congrArg₂ (second hb1) (gB m c t _ _ _ _ _ _ _ _ _) ((ld8 _).trans (w8_at m c t)))) (w6_at m c t))) y

theorem final20 : (dats m 0 c).arrAt 20 (cfgs 0).N = arrTotal (pW m c) := by
  refine (dats m 0 c).arrAt_eq_of_covers 20 _ (by decide +kernel) fun t hf y => ?_
  blk_simp; rw [after0_20]; frame_out
  rw [show ((View.whole main_v5_8).slice (win0_20.rect t)).emb y = y from same4 (by blk_simp [idx t] <;> omega) (by blk_simp [idx t] <;> omega) (by blk_simp [idx t] <;> omega) (by blk_simp [idx t] <;> omega)]
  rw [arr_at]
  exact congrFun ((gW m c t _ _ _ _ _ _ _ _ _)) y

theorem final22 : (dats m 0 c).arrAt 22 (cfgs 0).N = first hbW (arrTotal (pW m c)) (mW m c) := by
  refine (dats m 0 c).arrAt_eq_of_covers 22 _ (by decide +kernel) fun t hf y => ?_
  blk_simp; rw [after0_22]; frame_out
  rw [show ((View.whole main_v5_10).slice (win0_22.rect t)).emb y = y from same4 (by blk_simp [idx t] <;> omega) (by blk_simp [idx t] <;> omega) (by blk_simp [idx t] <;> omega) (by blk_simp [idx t] <;> omega)]
  rw [arr_at]
  exact congrFun ((first15 _ _ _ _ _ _).trans (congrArg₂ (first hbW) ((gW m c t _ _ _ _ _ _ _ _ _)) (w10_at m c t))) y

theorem final23 : (dats m 0 c).arrAt 23 (cfgs 0).N = second hbW (arrTotal (pW m c)) (vW m c) := by
  refine (dats m 0 c).arrAt_eq_of_covers 23 _ (by decide +kernel) fun t hf y => ?_
  blk_simp; rw [after0_23]; frame_out
  rw [show ((View.whole main_v5_11).slice (win0_23.rect t)).emb y = y from same4 (by blk_simp [idx t] <;> omega) (by blk_simp [idx t] <;> omega) (by blk_simp [idx t] <;> omega) (by blk_simp [idx t] <;> omega)]
  rw [arr_at]
  exact congrFun ((second16 _ _ _ _ _ _).trans (congrArg₂ (second hbW) ((gW m c t _ _ _ _ _ _ _ _ _)) ((ld25 _).trans (w11_at m c t)))) y

theorem final21 : (dats m 0 c).arrAt 21 (cfgs 0).N = change hbW (first hbW (arrTotal (pW m c)) (mW m c)) (second hbW (arrTotal (pW m c)) (vW m c)) (wW m c) := by
  refine (dats m 0 c).arrAt_eq_of_covers 21 _ (by decide +kernel) fun t hf y => ?_
  blk_simp; rw [after0_21]; frame_out
  rw [show ((View.whole main_v5_9).slice (win0_21.rect t)).emb y = y from same4 (by blk_simp [idx t] <;> omega) (by blk_simp [idx t] <;> omega) (by blk_simp [idx t] <;> omega) (by blk_simp [idx t] <;> omega)]
  rw [arr_at]
  exact congrFun ((change18 _ _ _ _ _ _ _ _).trans (congr (congrArg₂ (change hbW) (congrArg₂ (first hbW) ((gW m c t _ _ _ _ _ _ _ _ _)) (w10_at m c t)) (congrArg₂ (second hbW) ((gW m c t _ _ _ _ _ _ _ _ _)) ((ld25 _).trans (w11_at m c t)))) (w9_at m c t))) y

theorem final24 : (dats m 0 c).arrAt 24 (cfgs 0).N = lossTotal (pL m c) := by
  refine (dats m 0 c).arrAt_eq_of_covers 24 _ (by decide +kernel) fun t hf y => ?_
  blk_simp; rw [after0_24]; frame_out
  rw [show ((View.whole main_v5_12).slice (win0_24.rect t)).emb y = y from same2 (by blk_simp [idx t] <;> omega) (by blk_simp [idx t] <;> omega)]
  exact congrFun (gL m c t) y

end Cert.SmallIdeal.Value

end
-- ==== Proof.SmallClaim.lean ====
/- The claims about the packed step of the small parameters. -/
module

public import proofs.«01_k».proof.Defs
public import proofs.«01_k».proof.Proof.Small
public import proofs.«01_k».proof.Proof.Gen.Small.Frame

@[expose] public section

set_option maxRecDepth 16384

noncomputable section

namespace Cert.Proof

open Idealize.ShloMosaic Idealize.SL.Sem
open Cert.SmallRefIdeal (nD τ sig defs main)
open Cert.SmallRefIdeal.Value (first second change rowTotal arrTotal lossTotal)
open Cert.SmallIdeal.Value (hb1 hbW)

theorem small_frame : Cert.quiescent_Small := fun m ρ _ => Cert.Small.Gen.frame m ρ

theorem small_frame_ideal : Cert.quiescent_SmallIdeal := fun m ρ _ => Cert.SmallIdeal.Gen.frame m ρ

theorem small_frame_ref : Cert.quiescent_SmallRefIdeal := fun m ρ _ =>
  (θ_run Cert.SmallRefIdeal.defs _ _).mono (fun r h => ⟨fun c => (h c).2.2.2.2.2.2.2.2.2.2.2.2.2, sem_eq_zero_of_no_sems (by decide) r.2⟩)
    (Cert.SmallRefIdeal.Value.run m ρ)

/-- The reference's run, its results named. -/
theorem small_ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc Cert.SmallRefIdeal.main_v0) = rowTotal (m (c.tc.loc Cert.SmallRefIdeal.main_arg0))
        ∧ r.2.mem (c.tc.loc Cert.SmallRefIdeal.main_v24) = change hb1 (first hb1 (rowTotal (m (c.tc.loc Cert.SmallRefIdeal.main_arg0))) (m (c.tc.loc Cert.SmallRefIdeal.main_arg11))) (second hb1 (rowTotal (m (c.tc.loc Cert.SmallRefIdeal.main_arg0))) (m (c.tc.loc Cert.SmallRefIdeal.main_arg12))) (m (c.tc.loc Cert.SmallRefIdeal.main_arg10))
        ∧ r.2.mem (c.tc.loc Cert.SmallRefIdeal.main_v5) = first hb1 (rowTotal (m (c.tc.loc Cert.SmallRefIdeal.main_arg0))) (m (c.tc.loc Cert.SmallRefIdeal.main_arg11))
        ∧ r.2.mem (c.tc.loc Cert.SmallRefIdeal.main_v11) = second hb1 (rowTotal (m (c.tc.loc Cert.SmallRefIdeal.main_arg0))) (m (c.tc.loc Cert.SmallRefIdeal.main_arg12))
        ∧ r.2.mem (c.tc.loc Cert.SmallRefIdeal.main_v25) = rowTotal (m (c.tc.loc Cert.SmallRefIdeal.main_arg8))
        ∧ r.2.mem (c.tc.loc Cert.SmallRefIdeal.main_v49) = change hb1 (first hb1 (rowTotal (m (c.tc.loc Cert.SmallRefIdeal.main_arg8))) (m (c.tc.loc Cert.SmallRefIdeal.main_arg14))) (second hb1 (rowTotal (m (c.tc.loc Cert.SmallRefIdeal.main_arg8))) (m (c.tc.loc Cert.SmallRefIdeal.main_arg15))) (m (c.tc.loc Cert.SmallRefIdeal.main_arg13))
        ∧ r.2.mem (c.tc.loc Cert.SmallRefIdeal.main_v30) = first hb1 (rowTotal (m (c.tc.loc Cert.SmallRefIdeal.main_arg8))) (m (c.tc.loc Cert.SmallRefIdeal.main_arg14))
        ∧ r.2.mem (c.tc.loc Cert.SmallRefIdeal.main_v36) = second hb1 (rowTotal (m (c.tc.loc Cert.SmallRefIdeal.main_arg8))) (m (c.tc.loc Cert.SmallRefIdeal.main_arg15))
        ∧ r.2.mem (c.tc.loc Cert.SmallRefIdeal.main_v51) = arrTotal (m (c.tc.loc Cert.SmallRefIdeal.main_arg9))
        ∧ r.2.mem (c.tc.loc Cert.SmallRefIdeal.main_v75) = change hbW (first hbW (arrTotal (m (c.tc.loc Cert.SmallRefIdeal.main_arg9))) (m (c.tc.loc Cert.SmallRefIdeal.main_arg17))) (second hbW (arrTotal (m (c.tc.loc Cert.SmallRefIdeal.main_arg9))) (m (c.tc.loc Cert.SmallRefIdeal.main_arg18))) (m (c.tc.loc Cert.SmallRefIdeal.main_arg16))
        ∧ r.2.mem (c.tc.loc Cert.SmallRefIdeal.main_v56) = first hbW (arrTotal (m (c.tc.loc Cert.SmallRefIdeal.main_arg9))) (m (c.tc.loc Cert.SmallRefIdeal.main_arg17))
        ∧ r.2.mem (c.tc.loc Cert.SmallRefIdeal.main_v62) = second hbW (arrTotal (m (c.tc.loc Cert.SmallRefIdeal.main_arg9))) (m (c.tc.loc Cert.SmallRefIdeal.main_arg18))
        ∧ r.2.mem (c.tc.loc Cert.SmallRefIdeal.main_v76) = lossTotal (m (c.tc.loc Cert.SmallRefIdeal.main_arg6))
        ∧ r.2.mem (c.tc.loc Cert.SmallRefIdeal.main_arg0) = (m (c.tc.loc Cert.SmallRefIdeal.main_arg0))
        ∧ r.2.mem (c.tc.loc Cert.SmallRefIdeal.main_arg1) = (m (c.tc.loc Cert.SmallRefIdeal.main_arg1))
        ∧ r.2.mem (c.tc.loc Cert.SmallRefIdeal.main_arg2) = (m (c.tc.loc Cert.SmallRefIdeal.main_arg2))
        ∧ r.2.mem (c.tc.loc Cert.SmallRefIdeal.main_arg3) = (m (c.tc.loc Cert.SmallRefIdeal.main_arg3))
        ∧ r.2.mem (c.tc.loc Cert.SmallRefIdeal.main_arg4) = (m (c.tc.loc Cert.SmallRefIdeal.main_arg4))
        ∧ r.2.mem (c.tc.loc Cert.SmallRefIdeal.main_arg5) = (m (c.tc.loc Cert.SmallRefIdeal.main_arg5))
        ∧ r.2.mem (c.tc.loc Cert.SmallRefIdeal.main_arg6) = (m (c.tc.loc Cert.SmallRefIdeal.main_arg6))
        ∧ r.2.mem (c.tc.loc Cert.SmallRefIdeal.main_arg7) = (m (c.tc.loc Cert.SmallRefIdeal.main_arg7))
        ∧ r.2.mem (c.tc.loc Cert.SmallRefIdeal.main_arg8) = (m (c.tc.loc Cert.SmallRefIdeal.main_arg8))
        ∧ r.2.mem (c.tc.loc Cert.SmallRefIdeal.main_arg9) = (m (c.tc.loc Cert.SmallRefIdeal.main_arg9))
        ∧ r.2.mem (c.tc.loc Cert.SmallRefIdeal.main_arg10) = (m (c.tc.loc Cert.SmallRefIdeal.main_arg10))
        ∧ r.2.mem (c.tc.loc Cert.SmallRefIdeal.main_arg11) = (m (c.tc.loc Cert.SmallRefIdeal.main_arg11))
        ∧ r.2.mem (c.tc.loc Cert.SmallRefIdeal.main_arg12) = (m (c.tc.loc Cert.SmallRefIdeal.main_arg12))
        ∧ r.2.mem (c.tc.loc Cert.SmallRefIdeal.main_arg13) = (m (c.tc.loc Cert.SmallRefIdeal.main_arg13))
        ∧ r.2.mem (c.tc.loc Cert.SmallRefIdeal.main_arg14) = (m (c.tc.loc Cert.SmallRefIdeal.main_arg14))
        ∧ r.2.mem (c.tc.loc Cert.SmallRefIdeal.main_arg15) = (m (c.tc.loc Cert.SmallRefIdeal.main_arg15))
        ∧ r.2.mem (c.tc.loc Cert.SmallRefIdeal.main_arg16) = (m (c.tc.loc Cert.SmallRefIdeal.main_arg16))
        ∧ r.2.mem (c.tc.loc Cert.SmallRefIdeal.main_arg17) = (m (c.tc.loc Cert.SmallRefIdeal.main_arg17))
        ∧ r.2.mem (c.tc.loc Cert.SmallRefIdeal.main_arg18) = (m (c.tc.loc Cert.SmallRefIdeal.main_arg18)) :=
  Cert.SmallRefIdeal.Value.run m ρ

set_option maxHeartbeats 2000000 in
theorem small_value : Cert.algebraic_SmallIdeal_SmallRefIdeal := by
  pair_intro
  · run_from Cert.SmallIdeal.Value.run_blocks m g
  · run_from small_ref_run m' g'
    · exact (Cert.SmallIdeal.Value.final12 m c).symm
    · exact (Cert.SmallIdeal.Value.final13 m c).symm
    · exact (Cert.SmallIdeal.Value.final14 m c).symm
    · exact (Cert.SmallIdeal.Value.final15 m c).symm
    · exact (Cert.SmallIdeal.Value.final16 m c).symm
    · exact (Cert.SmallIdeal.Value.final17 m c).symm
    · exact (Cert.SmallIdeal.Value.final18 m c).symm
    · exact (Cert.SmallIdeal.Value.final19 m c).symm
    · exact (Cert.SmallIdeal.Value.final20 m c).symm
    · exact (Cert.SmallIdeal.Value.final21 m c).symm
    · exact (Cert.SmallIdeal.Value.final22 m c).symm
    · exact (Cert.SmallIdeal.Value.final23 m c).symm
    · exact (Cert.SmallIdeal.Value.final24 m c).symm

end Cert.Proof

end
-- ==== Proof.lean ====
module

public import proofs.«01_k».proof.Defs
public import proofs.«01_k».proof.Proof.MemKvClaim
public import proofs.«01_k».proof.Proof.MergeClaim
public import proofs.«01_k».proof.Proof.ActClaim
public import proofs.«01_k».proof.Proof.S5OutClaim
public import proofs.«01_k».proof.Proof.LossClaim
public import proofs.«01_k».proof.Proof.FfnInClaim
public import proofs.«01_k».proof.Proof.AttnInClaim
public import proofs.«01_k».proof.Proof.InProjClaim
public import proofs.«01_k».proof.Proof.AttnClaim
public import proofs.«01_k».proof.Proof.GmlpClaim
public import proofs.«01_k».proof.Proof.AttnFwdClaim
public import proofs.«01_k».proof.Proof.GmlpFwdClaim
public import proofs.«01_k».proof.Proof.MergeFwdClaim
public import proofs.«01_k».proof.Proof.MixOutClaim
public import proofs.«01_k».proof.Proof.AttnOutClaim
public import proofs.«01_k».proof.Proof.MemKvFwdClaim
public import proofs.«01_k».proof.Proof.FfnUpClaim
public import proofs.«01_k».proof.Proof.S5OutFwdClaim
public import proofs.«01_k».proof.Proof.InProjFwdClaim
public import proofs.«01_k».proof.Proof.DwFfnClaim
public import proofs.«01_k».proof.Proof.SumAdamwClaim
public import proofs.«01_k».proof.Proof.SmallClaim

@[expose] public section

noncomputable section

namespace Cert.Proof

open Idealize.ShloMosaic Idealize.SL.Sem

theorem claim : Cert.Claim :=
  ⟨Cert.MemKv.Gen.facts, Cert.MemKvIdeal.Gen.facts, Cert.MemKvRefIdeal.Gen.facts, Cert.Merge.Gen.facts, Cert.MergeIdeal.Gen.facts, Cert.MergeRefIdeal.Gen.facts, Cert.Act.Gen.facts, Cert.ActIdeal.Gen.facts, Cert.ActRefIdeal.Gen.facts, Cert.S5Out.Gen.facts, Cert.S5OutIdeal.Gen.facts, Cert.S5OutRefIdeal.Gen.facts, Cert.Loss.Gen.facts, Cert.LossIdeal.Gen.facts, Cert.LossRefIdeal.Gen.facts, Cert.FfnIn.Gen.facts, Cert.FfnInIdeal.Gen.facts, Cert.FfnInRefIdeal.Gen.facts, Cert.AttnIn.Gen.facts, Cert.AttnInIdeal.Gen.facts, Cert.AttnInRefIdeal.Gen.facts, Cert.InProj.Gen.facts, Cert.InProjIdeal.Gen.facts, Cert.InProjRefIdeal.Gen.facts, Cert.Attn.Gen.facts, Cert.AttnIdeal.Gen.facts, Cert.AttnRefIdeal.Gen.facts, Cert.Gmlp.Gen.facts, Cert.GmlpIdeal.Gen.facts, Cert.GmlpRefIdeal.Gen.facts, Cert.AttnFwd.Gen.facts, Cert.AttnFwdIdeal.Gen.facts, Cert.AttnFwdRefIdeal.Gen.facts, Cert.GmlpFwd.Gen.facts, Cert.GmlpFwdIdeal.Gen.facts, Cert.GmlpFwdRefIdeal.Gen.facts, Cert.MergeFwd.Gen.facts, Cert.MergeFwdIdeal.Gen.facts, Cert.MergeFwdRefIdeal.Gen.facts, Cert.MixOut.Gen.facts, Cert.MixOutIdeal.Gen.facts, Cert.MixOutRefIdeal.Gen.facts, Cert.AttnOut.Gen.facts, Cert.AttnOutIdeal.Gen.facts, Cert.AttnOutRefIdeal.Gen.facts, Cert.MemKvFwd.Gen.facts, Cert.MemKvFwdIdeal.Gen.facts, Cert.MemKvFwdRefIdeal.Gen.facts, Cert.FfnUp.Gen.facts, Cert.FfnUpIdeal.Gen.facts, Cert.FfnUpRefIdeal.Gen.facts, Cert.S5OutFwd.Gen.facts, Cert.S5OutFwdIdeal.Gen.facts, Cert.S5OutFwdRefIdeal.Gen.facts, Cert.InProjFwd.Gen.facts, Cert.InProjFwdIdeal.Gen.facts, Cert.InProjFwdRefIdeal.Gen.facts, Cert.DwFfn.Gen.facts, Cert.DwFfnIdeal.Gen.facts, Cert.DwFfnRefIdeal.Gen.facts, Cert.SumAdamw.Gen.facts, Cert.SumAdamwIdeal.Gen.facts, Cert.SumAdamwRefIdeal.Gen.facts, Cert.Small.Gen.facts, Cert.SmallIdeal.Gen.facts, Cert.SmallRefIdeal.Gen.facts,
    Cert.Pre_finite_act.Gen.facts, Cert.Pre_finite_s5out.Gen.facts, Cert.Pre_finite_loss.Gen.facts, Cert.Pre_finite_ffnin.Gen.facts, Cert.Pre_finite_attnin.Gen.facts, Cert.Pre_finite_inproj.Gen.facts, Cert.Pre_finite_attn.Gen.facts, Cert.Pre_finite_gmlp.Gen.facts, Cert.Pre_finite_gmlpf.Gen.facts,
    memkv_frame, memkv_frame_ideal, memkv_frame_ref, merge_frame, merge_frame_ideal, merge_frame_ref, act_frame, act_frame_ideal, act_frame_ideal_pre, act_frame_ref, act_frame_ref_pre, s5out_frame, s5out_frame_ideal, s5out_frame_ideal_pre, s5out_frame_ref, s5out_frame_ref_pre, loss_frame, loss_frame_ideal, loss_frame_ideal_pre, loss_frame_ref, loss_frame_ref_pre, ffnin_frame, ffnin_frame_ideal, ffnin_frame_ideal_pre, ffnin_frame_ref, ffnin_frame_ref_pre, attnin_frame, attnin_frame_ideal, attnin_frame_ideal_pre, attnin_frame_ref, attnin_frame_ref_pre, inproj_frame, inproj_frame_ideal, inproj_frame_ideal_pre, inproj_frame_ref, inproj_frame_ref_pre, attn_frame, attn_frame_ideal, attn_frame_ideal_pre, attn_frame_ref, attn_frame_ref_pre, gmlp_frame, gmlp_frame_ideal, gmlp_frame_ideal_pre, gmlp_frame_ref, gmlp_frame_ref_pre, attnf_frame, attnf_frame_ideal, attnf_frame_ref, gmlpf_frame, gmlpf_frame_ideal, gmlpf_frame_ideal_pre, gmlpf_frame_ref, gmlpf_frame_ref_pre, mergef_frame, mergef_frame_ideal, mergef_frame_ref, mixout_frame, mixout_frame_ideal, mixout_frame_ref, attnout_frame, attnout_frame_ideal, attnout_frame_ref, memkvf_frame, memkvf_frame_ideal, memkvf_frame_ref, ffnup_frame, ffnup_frame_ideal, ffnup_frame_ref, s5outf_frame, s5outf_frame_ideal, s5outf_frame_ref, inprojf_frame, inprojf_frame_ideal, inprojf_frame_ref, dw_frame, dw_frame_ideal, dw_frame_ref, adam_frame, adam_frame_ideal, adam_frame_ref, small_frame, small_frame_ideal, small_frame_ref,
    trivial, memkv_value, trivial, merge_value, trivial, act_value, s5out_preserves, s5out_value, trivial, loss_value, trivial, ffnin_value, trivial, attnin_value, trivial, inproj_value, trivial, attn_value, gmlp_preserves, gmlp_value, trivial, attnf_value, gmlpf_preserves, gmlpf_value, trivial, mergef_value, trivial, mixout_value, trivial, attnout_value, trivial, memkvf_value, trivial, ffnup_value, s5outf_preserves, s5outf_value, trivial, inprojf_value, trivial, dw_value, trivial, adam_value, trivial, small_value⟩

end Cert.Proof

end
